-- ==== Defs.lean ====
def Pre_Kernel [hPre_well_formed : Cert.Pre_well_formed.Facts] (m : (ℓ : Loc Cert.Kernel.nD Cert.Kernel.τ Cert.Kernel.sig) → Buf (Elt Bits) ℓ) : Prop :=
  ∀ c : Dev Cert.Kernel.nD,
    (Cert.Pre_well_formed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_well_formed : Cert.Pre_well_formed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "masked" .f32 0xF149F2CA#32 ⊥
  ∧ IdealRules.named_const.Statement Cert.KernelIdeal.κ "scale_log2e" .f32 0x3E0293EE#32 (((Real.log 2)⁻¹ * (Real.sqrt 128)⁻¹ : ℝ) : EReal)

def algebraic_KernelIdeal_ReferenceIdeal [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_arg5)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v0_0) = v1 c
          ∧ r.2.mem ((c.tc : Thread Cert.ReferenceIdeal.nD Cert.ReferenceIdeal.τ).loc Cert.ReferenceIdeal.main_arg5) = v2 c
          ∧ r.2.mem ((c.tc : Thread Cert.ReferenceIdeal.nD Cert.ReferenceIdeal.τ).loc Cert.ReferenceIdeal.main_v0_1) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_well_formed : Cert.Pre_well_formed.Facts),
    quiescent_Kernel (hKernel := hKernel) (hPre_well_formed := hPre_well_formed)
    ∧ quiescent_KernelIdeal (hKernelIdeal := hKernelIdeal) (hPre_well_formed := hPre_well_formed)
    ∧ quiescent_ReferenceIdeal (hReferenceIdeal := hReferenceIdeal) (hPre_well_formed := hPre_well_formed)
    ∧ preserves_Kernel_KernelIdeal
    ∧ algebraic_KernelIdeal_ReferenceIdeal (hKernelIdeal := hKernelIdeal) (hReferenceIdeal := hReferenceIdeal) (hPre_well_formed := hPre_well_formed)
-- ==== Pre_well_formed.lean ====
abbrev S32x128x2048 : Shape := ⟨3, ![32, 128, 2048]⟩
abbrev S32x128x2x128 : Shape := ⟨4, ![32, 128, 2, 128]⟩
abbrev S2048x128x2x128 : Shape := ⟨4, ![2048, 128, 2, 128]⟩
abbrev S2 : Shape := ⟨1, ![2]⟩
abbrev S32x64 : Shape := ⟨2, ![32, 64]⟩
abbrev S32 : Shape := ⟨1, ![32]⟩
abbrev S_ : Shape := ⟨0, ![]⟩

class Facts : Prop where
  bcast_S_S32x64 : S_.BroadcastsInDim S32x64 (![] : Fin 0 → Fin S32x64.rank)
  reducesTo_S32x64_S_d0_1 : S32x64.ReducesTo [0, 1] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S32x128x2048 .bf16) (main_arg1 : FVec F S32x128x2x128 .bf16) (main_arg2 : FVec F S32x128x2x128 .bf16) (main_arg3 : FVec F S2048x128x2x128 .fp8e4m3) (main_arg4 : FVec F S2048x128x2x128 .fp8e4m3) (main_arg5 : FVec F S2 .f32) (main_arg6 : FVec F S2 .f32) (main_arg7 : IVec S32x64 32) (main_arg8 : IVec S32 32) : IVec S_ 1 :=
  let main_c : IVec S_ 32 := constantI S_ 32 0#32
  let main_v0 : IVec S32x64 32 := broadcastInDim S32x64 ![] bcast_S_S32x64 main_c
  let main_v1 : IVec S32x64 1 := cmpi .sge main_arg7 main_v0
  let main_c_0 : IVec S_ 32 := constantI S_ 32 2048#32
  let main_v2 : IVec S32x64 32 := broadcastInDim S32x64 ![] bcast_S_S32x64 main_c_0
  let main_v3 : IVec S32x64 1 := cmpi .slt main_arg7 main_v2
  let main_v4 : IVec S32x64 1 := andi main_v1 main_v3
  let main_c_1 : IVec S_ 1 := constantI S_ 1 1#1
  let main_v5 : IVec S_ 1 := (fun x v => Host.reduce IntOp.andi x v reducesTo_S32x64_S_d0_1 h_S_) main_v4 main_c_1
  let main_c_2 : IVec S_ 32 := constantI S_ 32 0#32
  let main_v6 : IVec S32 32 := broadcastInDim S32 ![] bcast_S_S32 main_c_2
  let main_v7 : IVec S32 1 := cmpi .sge main_arg8 main_v6
  let main_c_3 : IVec S_ 32 := constantI S_ 32 8192#32
  let main_v8 : IVec S32 32 := broadcastInDim S32 ![] bcast_S_S32 main_c_3
  let main_v9 : IVec S32 1 := cmpi .sle main_arg8 main_v8
  let main_v10 : IVec S32 1 := andi main_v7 main_v9
  let main_c_4 : IVec S_ 1 := constantI S_ 1 1#1
  let main_v11 : IVec S_ 1 := (fun x v => Host.reduce IntOp.andi x v reducesTo_S32_S_d0 h_S_) main_v10 main_c_4
  let main_v12 : IVec S_ 1 := andi main_v5 main_v11
  main_v12
-- ==== Kernel.lean ====
abbrev S32x128x2048 : Shape := ⟨3, ![32, 128, 2048]⟩
abbrev S32x128x2x128 : Shape := ⟨4, ![32, 128, 2, 128]⟩
abbrev S2048x128x2x128 : Shape := ⟨4, ![2048, 128, 2, 128]⟩
abbrev S2 : Shape := ⟨1, ![2]⟩
abbrev S32x64 : Shape := ⟨2, ![32, 64]⟩
abbrev S32 : Shape := ⟨1, ![32]⟩
abbrev S32x2x128x128 : Shape := ⟨4, ![32, 2, 128, 128]⟩
abbrev S2048x2x128x128 : Shape := ⟨4, ![2048, 2, 128, 128]⟩
abbrev S1x128x2048 : Shape := ⟨3, ![1, 128, 2048]⟩
abbrev S1x2x128x128 : Shape := ⟨4, ![1, 2, 128, 128]⟩
abbrev S2x64x2x128x128 : Shape := ⟨5, ![2, 64, 2, 128, 128]⟩
abbrev S128x1024 : Shape := ⟨2, ![128, 1024]⟩
abbrev S2x16 : Shape := ⟨2, ![2, 16]⟩
abbrev S1 : Shape := ⟨1, ![1]⟩
abbrev S1x1 : Shape := ⟨2, ![1, 1]⟩
abbrev S_ : Shape := ⟨0, ![]⟩
abbrev S1x1x2x128x128 : Shape := ⟨5, ![1, 1, 2, 128, 128]⟩
abbrev S2x128x128 : Shape := ⟨3, ![2, 128, 128]⟩
abbrev S1x128x128 : Shape := ⟨3, ![1, 128, 128]⟩
abbrev S128x128 : Shape := ⟨2, ![128, 128]⟩
abbrev S1024x128 : Shape := ⟨2, ![1024, 128]⟩
abbrev S1x1x128x128 : Shape := ⟨4, ![1, 1, 128, 128]⟩
abbrev S1x1024 : Shape := ⟨2, ![1, 1024]⟩
abbrev S1x128 : Shape := ⟨2, ![1, 128]⟩
abbrev S1024 : Shape := ⟨1, ![1024]⟩
abbrev S1x4x1x128x128 : Shape := ⟨5, ![1, 4, 1, 128, 128]⟩
abbrev S4x128x128 : Shape := ⟨3, ![4, 128, 128]⟩
abbrev S512x128 : Shape := ⟨2, ![512, 128]⟩
abbrev S512x1024 : Shape := ⟨2, ![512, 1024]⟩

abbrev nBuf : Space → Nat
  | .hbm => 16
  | .vmem => 15
  | .smem => 4
  | _ => 0

abbrev bufTy : (tb : Table) → Fin (tcTables nBuf tb) → BufTy
  | .hbm, ⟨0, _⟩ => ⟨S32x128x2048, .bf16⟩
  | .hbm, ⟨1, _⟩ => ⟨S32x128x2x128, .bf16⟩
  | .hbm, ⟨2, _⟩ => ⟨S32x128x2x128, .bf16⟩
  | .hbm, ⟨3, _⟩ => ⟨S2048x128x2x128, .fp8e4m3⟩
  | .hbm, ⟨4, _⟩ => ⟨S2048x128x2x128, .fp8e4m3⟩
  | .hbm, ⟨5, _⟩ => ⟨S2, .f32⟩
  | .hbm, ⟨6, _⟩ => ⟨S2, .f32⟩
  | .hbm, ⟨7, _⟩ => ⟨S32x2x128x128, .bf16⟩
  | .hbm, ⟨8, _⟩ => ⟨S32x2x128x128, .bf16⟩
  | .hbm, ⟨9, _⟩ => ⟨S2048x2x128x128, .fp8e4m3⟩
  | .hbm, ⟨10, _⟩ => ⟨S2048x2x128x128, .fp8e4m3⟩
  | .hbm, ⟨11, _⟩ => ⟨S32x128x2048, .bf16⟩
  | .hbm, ⟨12, _⟩ => ⟨S32x2x128x128, .fp8e4m3⟩
  | .hbm, ⟨13, _⟩ => ⟨S32x2x128x128, .fp8e4m3⟩
  | .hbm, ⟨14, _⟩ => ⟨S32x128x2x128, .fp8e4m3⟩
  | .hbm, ⟨15, _⟩ => ⟨S32x128x2x128, .fp8e4m3⟩
  | .local _ .vmem, ⟨0, _⟩ => ⟨S1x128x2048, .bf16⟩
  | .local _ .vmem, ⟨1, _⟩ => ⟨S1x128x2048, .bf16⟩
  | .local _ .vmem, ⟨2, _⟩ => ⟨S1x2x128x128, .bf16⟩
  | .local _ .vmem, ⟨3, _⟩ => ⟨S1x2x128x128, .bf16⟩
  | .local _ .vmem, ⟨4, _⟩ => ⟨S1x2x128x128, .bf16⟩
  | .local _ .vmem, ⟨5, _⟩ => ⟨S1x2x128x128, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x2x128x128, .fp8e4m3⟩
  | .local _ .vmem, ⟨9, _⟩ => ⟨S1x2x128x128, .fp8e4m3⟩
  | .local _ .vmem, ⟨10, _⟩ => ⟨S1x2x128x128, .fp8e4m3⟩
  | .local _ .vmem, ⟨11, _⟩ => ⟨S1x2x128x128, .fp8e4m3⟩
  | .local _ .vmem, ⟨12, _⟩ => ⟨S2x64x2x128x128, .fp8e4m3⟩
  | .local _ .vmem, ⟨13, _⟩ => ⟨S2x64x2x128x128, .fp8e4m3⟩
  | .local _ .vmem, ⟨14, _⟩ => ⟨S128x1024, .f32⟩
  | .local _ .smem, ⟨0, _⟩ => ⟨S32x64, .i32⟩
  | .local _ .smem, ⟨1, _⟩ => ⟨S32, .i32⟩
  | .local _ .smem, ⟨2, _⟩ => ⟨S2, .f32⟩
  | .local _ .smem, ⟨3, _⟩ => ⟨S2, .f32⟩
  | _, _ => ⟨S32x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev main_v6 : Ref sig .tc := ⟨.hbm, 15, rfl⟩
abbrev main_arg7 : Ref sig .tc := ⟨.smem, 0, rfl⟩
abbrev main_arg8 : Ref sig .tc := ⟨.smem, 1, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 2, rfl⟩
abbrev cc0_stg1_0 : Ref sig .tc := ⟨.smem, 3, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_arg7.idx, main_arg8.idx], fun | 0 => main_arg7.names | 1 => main_arg8.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop (v335 : BitVec 32) : Scf.Loop 32 :=
  let c0_i32_182 : BitVec 32 := 0#32
  let c511_i32_179 : BitVec 32 := 511#32
  let v336 : BitVec 32 := Scalar.addi v335 c511_i32_179
  let c9_i32_180 : BitVec 32 := 9#32
  let v337 : BitVec 32 := Scalar.shrui v336 c9_i32_180
  let v338 : BitVec 32 := Scalar.subi v337 c0_i32_182
  let c1_i32_183 : BitVec 32 := 1#32
  let v340 : BitVec 32 := Scalar.divsi v338 c1_i32_183
  let v341 : BitVec 32 := Scalar.muli v340 c1_i32_183
  let v342 : BitVec 32 := Scalar.addi c0_i32_182 v341
  let c1_i32_184 : BitVec 32 := 1#32
  ⟨c0_i32_182, v342, c1_i32_184⟩

def k0_off1 (v335 : BitVec 32) (k0_t1 : Fin (k0_t1_loop v335).trips) (c0_i32_186 : BitVec 32) : Fin 2 → Nat :=
  let c0_187 : Index := 0#32
  let c0_i32_182 : BitVec 32 := 0#32
  let c1_i32_184 : BitVec 32 := 1#32
  let arg17 : BitVec 32 := Scf.iv c0_i32_182 c1_i32_184 k0_t1
  let c4_i32 : BitVec 32 := 4#32
  let v343 : BitVec 32 := Scalar.muli arg17 c4_i32
  let v344 : BitVec 32 := Scalar.addi v343 c0_i32_186
  let v345 : Index := Scalar.indexCast v344
  ![0, v345.toNat]
def k0_off2 (v335 : BitVec 32) (k0_t1 : Fin (k0_t1_loop v335).trips) : Fin 2 → Nat :=
  let c0_i32_197 : BitVec 32 := 0#32
  let c0_i32_182 : BitVec 32 := 0#32
  let c1_i32_184 : BitVec 32 := 1#32
  let arg17 : BitVec 32 := Scf.iv c0_i32_182 c1_i32_184 k0_t1
  ![0, arg17.toNat]
def k0_off3 (v335 : BitVec 32) (k0_t1 : Fin (k0_t1_loop v335).trips) : Fin 5 → Nat :=
  let c0_i32_196 : BitVec 32 := 0#32
  let c0_i32_182 : BitVec 32 := 0#32
  let c1_i32_184 : BitVec 32 := 1#32
  let arg17 : BitVec 32 := Scf.iv c0_i32_182 c1_i32_184 k0_t1
  let c4_i32 : BitVec 32 := 4#32
  let v343 : BitVec 32 := Scalar.muli arg17 c4_i32
  let c0_i32_186 : BitVec 32 := 0#32
  let v344 : BitVec 32 := Scalar.addi v343 c0_i32_186
  let c0_i32_198 : BitVec 32 := 0#32
  let c0_i32_199 : BitVec 32 := 0#32
  let c0_i32_200 : BitVec 32 := 0#32
  ![0, v344.toNat, 0, 0, 0]
def k0_off4 (v346 : BitVec 32) : Fin 4 → Nat :=
  let c0_i32_201 : BitVec 32 := 0#32
  let c0_i32_202 : BitVec 32 := 0#32
  let c0_i32_203 : BitVec 32 := 0#32
  ![v346.toNat, 0, 0, 0]

def k0_chk2 (i : grid0.Coords) (v346 : BitVec 32) : Prop :=
  (∀ (k0_h1 : k0_cond1 i = 1#1), ∀ a, (k0_off4 v346) a + S1x2x128x128.size a ≤ S2048x2x128x128.size a) ∧
  (∀ (k0_h1 : k0_cond1 i = 1#1), ∀ (hinb : ∀ a, (k0_off4 v346) a + S1x2x128x128.size a ≤ S2048x2x128x128.size a), (Rect.unit (s := S2048x2x128x128) (k0_off4 v346) S1x2x128x128.size hinb).WholeWords (EltTy.packing .fp8e4m3))
theorem k0_off4_inb : ∀ (i : grid0.Coords) (v346 : BitVec 32) (k0_hw2 : k0_chk2 i v346), ∀ (k0_h1 : k0_cond1 i = 1#1), ∀ a, (k0_off4 v346) a + S1x2x128x128.size a ≤ S2048x2x128x128.size a := fun i v346 k0_hw2 k0_h1 => k0_hw2.1 k0_h1
theorem k0_off4_wordsfp8e4m3 : ∀ (i : grid0.Coords) (v346 : BitVec 32) (k0_hw2 : k0_chk2 i v346), ∀ (k0_h1 : k0_cond1 i = 1#1), (Rect.unit (s := S2048x2x128x128) (k0_off4 v346) S1x2x128x128.size (k0_off4_inb i v346 k0_hw2 k0_h1)).WholeWords (EltTy.packing .fp8e4m3) := fun i v346 k0_hw2 k0_h1 => k0_hw2.2 k0_h1 (k0_off4_inb i v346 k0_hw2 k0_h1)

def k0_off5 (v335 : BitVec 32) (k0_t1 : Fin (k0_t1_loop v335).trips) : Fin 2 → Nat :=
  let c0_i32_205 : BitVec 32 := 0#32
  let c0_i32_182 : BitVec 32 := 0#32
  let c1_i32_184 : BitVec 32 := 1#32
  let arg17 : BitVec 32 := Scf.iv c0_i32_182 c1_i32_184 k0_t1
  ![0, arg17.toNat]
def k0_off6 (v335 : BitVec 32) (k0_t1 : Fin (k0_t1_loop v335).trips) (c0_i32_186 : BitVec 32) : Fin 5 → Nat :=
  let c0_i32_204 : BitVec 32 := 0#32
  let c0_i32_182 : BitVec 32 := 0#32
  let c1_i32_184 : BitVec 32 := 1#32
  let arg17 : BitVec 32 := Scf.iv c0_i32_182 c1_i32_184 k0_t1
  let c4_i32 : BitVec 32 := 4#32
  let v343 : BitVec 32 := Scalar.muli arg17 c4_i32
  let v344 : BitVec 32 := Scalar.addi v343 c0_i32_186
  let c0_i32_206 : BitVec 32 := 0#32
  let c0_i32_207 : BitVec 32 := 0#32
  let c0_i32_208 : BitVec 32 := 0#32
  ![0, v344.toNat, 0, 0, 0]
def k0_off7 (v350 : BitVec 32) : Fin 4 → Nat :=
  let c0_i32_217 : BitVec 32 := 0#32
  let c0_i32_218 : BitVec 32 := 0#32
  let c0_i32_219 : BitVec 32 := 0#32
  ![v350.toNat, 0, 0, 0]

def k0_chk3 (i : grid0.Coords) (v350 : BitVec 32) : Prop :=
  (∀ (k0_h1 : k0_cond1 i = 1#1), ∀ a, (k0_off7 v350) a + S1x2x128x128.size a ≤ S2048x2x128x128.size a) ∧
  (∀ (k0_h1 : k0_cond1 i = 1#1), ∀ (hinb : ∀ a, (k0_off7 v350) a + S1x2x128x128.size a ≤ S2048x2x128x128.size a), (Rect.unit (s := S2048x2x128x128) (k0_off7 v350) S1x2x128x128.size hinb).WholeWords (EltTy.packing .fp8e4m3))
theorem k0_off7_inb : ∀ (i : grid0.Coords) (v350 : BitVec 32) (k0_hw3 : k0_chk3 i v350), ∀ (k0_h1 : k0_cond1 i = 1#1), ∀ a, (k0_off7 v350) a + S1x2x128x128.size a ≤ S2048x2x128x128.size a := fun i v350 k0_hw3 k0_h1 => k0_hw3.1 k0_h1
theorem k0_off7_wordsfp8e4m3 : ∀ (i : grid0.Coords) (v350 : BitVec 32) (k0_hw3 : k0_chk3 i v350), ∀ (k0_h1 : k0_cond1 i = 1#1), (Rect.unit (s := S2048x2x128x128) (k0_off7 v350) S1x2x128x128.size (k0_off7_inb i v350 k0_hw3 k0_h1)).WholeWords (EltTy.packing .fp8e4m3) := fun i v350 k0_hw3 k0_h1 => k0_hw3.2 k0_h1 (k0_off7_inb i v350 k0_hw3 k0_h1)

def k0_off8 (v335 : BitVec 32) (k0_t1 : Fin (k0_t1_loop v335).trips) : Fin 2 → Nat :=
  let c0_i32_221 : BitVec 32 := 0#32
  let c0_i32_182 : BitVec 32 := 0#32
  let c1_i32_184 : BitVec 32 := 1#32
  let arg17 : BitVec 32 := Scf.iv c0_i32_182 c1_i32_184 k0_t1
  ![0, arg17.toNat]
def k0_off9 (v335 : BitVec 32) (k0_t1 : Fin (k0_t1_loop v335).trips) (c1_i32_189 : BitVec 32) : Fin 5 → Nat :=
  let c0_i32_220 : BitVec 32 := 0#32
  let c0_i32_182 : BitVec 32 := 0#32
  let c1_i32_184 : BitVec 32 := 1#32
  let arg17 : BitVec 32 := Scf.iv c0_i32_182 c1_i32_184 k0_t1
  let c4_i32_188 : BitVec 32 := 4#32
  let v347 : BitVec 32 := Scalar.muli arg17 c4_i32_188
  let v348 : BitVec 32 := Scalar.addi v347 c1_i32_189
  let c0_i32_222 : BitVec 32 := 0#32
  let c0_i32_223 : BitVec 32 := 0#32
  let c0_i32_224 : BitVec 32 := 0#32
  ![0, v348.toNat, 0, 0, 0]
def k0_off10 (v354 : BitVec 32) : Fin 4 → Nat :=
  let c0_i32_233 : BitVec 32 := 0#32
  let c0_i32_234 : BitVec 32 := 0#32
  let c0_i32_235 : BitVec 32 := 0#32
  ![v354.toNat, 0, 0, 0]

def k0_chk4 (i : grid0.Coords) (v354 : BitVec 32) : Prop :=
  (∀ (k0_h1 : k0_cond1 i = 1#1), ∀ a, (k0_off10 v354) a + S1x2x128x128.size a ≤ S2048x2x128x128.size a) ∧
  (∀ (k0_h1 : k0_cond1 i = 1#1), ∀ (hinb : ∀ a, (k0_off10 v354) a + S1x2x128x128.size a ≤ S2048x2x128x128.size a), (Rect.unit (s := S2048x2x128x128) (k0_off10 v354) S1x2x128x128.size hinb).WholeWords (EltTy.packing .fp8e4m3))
theorem k0_off10_inb : ∀ (i : grid0.Coords) (v354 : BitVec 32) (k0_hw4 : k0_chk4 i v354), ∀ (k0_h1 : k0_cond1 i = 1#1), ∀ a, (k0_off10 v354) a + S1x2x128x128.size a ≤ S2048x2x128x128.size a := fun i v354 k0_hw4 k0_h1 => k0_hw4.1 k0_h1
theorem k0_off10_wordsfp8e4m3 : ∀ (i : grid0.Coords) (v354 : BitVec 32) (k0_hw4 : k0_chk4 i v354), ∀ (k0_h1 : k0_cond1 i = 1#1), (Rect.unit (s := S2048x2x128x128) (k0_off10 v354) S1x2x128x128.size (k0_off10_inb i v354 k0_hw4 k0_h1)).WholeWords (EltTy.packing .fp8e4m3) := fun i v354 k0_hw4 k0_h1 => k0_hw4.2 k0_h1 (k0_off10_inb i v354 k0_hw4 k0_h1)

def k0_off11 (v335 : BitVec 32) (k0_t1 : Fin (k0_t1_loop v335).trips) : Fin 2 → Nat :=
  let c0_i32_237 : BitVec 32 := 0#32
  let c0_i32_182 : BitVec 32 := 0#32
  let c1_i32_184 : BitVec 32 := 1#32
  let arg17 : BitVec 32 := Scf.iv c0_i32_182 c1_i32_184 k0_t1
  ![0, arg17.toNat]
def k0_off12 (v335 : BitVec 32) (k0_t1 : Fin (k0_t1_loop v335).trips) (c2_i32_192 : BitVec 32) : Fin 5 → Nat :=
  let c0_i32_236 : BitVec 32 := 0#32
  let c0_i32_182 : BitVec 32 := 0#32
  let c1_i32_184 : BitVec 32 := 1#32
  let arg17 : BitVec 32 := Scf.iv c0_i32_182 c1_i32_184 k0_t1
  let c4_i32_191 : BitVec 32 := 4#32
  let v351 : BitVec 32 := Scalar.muli arg17 c4_i32_191
  let v352 : BitVec 32 := Scalar.addi v351 c2_i32_192
  let c0_i32_238 : BitVec 32 := 0#32
  let c0_i32_239 : BitVec 32 := 0#32
  let c0_i32_240 : BitVec 32 := 0#32
  ![0, v352.toNat, 0, 0, 0]
def k0_off13 (v358 : BitVec 32) : Fin 4 → Nat :=
  let c0_i32_249 : BitVec 32 := 0#32
  let c0_i32_250 : BitVec 32 := 0#32
  let c0_i32_251 : BitVec 32 := 0#32
  ![v358.toNat, 0, 0, 0]

def k0_chk5 (i : grid0.Coords) (v358 : BitVec 32) : Prop :=
  (∀ (k0_h1 : k0_cond1 i = 1#1), ∀ a, (k0_off13 v358) a + S1x2x128x128.size a ≤ S2048x2x128x128.size a) ∧
  (∀ (k0_h1 : k0_cond1 i = 1#1), ∀ (hinb : ∀ a, (k0_off13 v358) a + S1x2x128x128.size a ≤ S2048x2x128x128.size a), (Rect.unit (s := S2048x2x128x128) (k0_off13 v358) S1x2x128x128.size hinb).WholeWords (EltTy.packing .fp8e4m3))
theorem k0_off13_inb : ∀ (i : grid0.Coords) (v358 : BitVec 32) (k0_hw5 : k0_chk5 i v358), ∀ (k0_h1 : k0_cond1 i = 1#1), ∀ a, (k0_off13 v358) a + S1x2x128x128.size a ≤ S2048x2x128x128.size a := fun i v358 k0_hw5 k0_h1 => k0_hw5.1 k0_h1
theorem k0_off13_wordsfp8e4m3 : ∀ (i : grid0.Coords) (v358 : BitVec 32) (k0_hw5 : k0_chk5 i v358), ∀ (k0_h1 : k0_cond1 i = 1#1), (Rect.unit (s := S2048x2x128x128) (k0_off13 v358) S1x2x128x128.size (k0_off13_inb i v358 k0_hw5 k0_h1)).WholeWords (EltTy.packing .fp8e4m3) := fun i v358 k0_hw5 k0_h1 => k0_hw5.2 k0_h1 (k0_off13_inb i v358 k0_hw5 k0_h1)

def k0_off14 (v335 : BitVec 32) (k0_t1 : Fin (k0_t1_loop v335).trips) : Fin 2 → Nat :=
  let c0_i32_253 : BitVec 32 := 0#32
  let c0_i32_182 : BitVec 32 := 0#32
  let c1_i32_184 : BitVec 32 := 1#32
  let arg17 : BitVec 32 := Scf.iv c0_i32_182 c1_i32_184 k0_t1
  ![0, arg17.toNat]
def k0_off15 (v335 : BitVec 32) (k0_t1 : Fin (k0_t1_loop v335).trips) : Fin 5 → Nat :=
  let c0_i32_252 : BitVec 32 := 0#32
  let c0_i32_182 : BitVec 32 := 0#32
  let c1_i32_184 : BitVec 32 := 1#32
  let arg17 : BitVec 32 := Scf.iv c0_i32_182 c1_i32_184 k0_t1
  let c4_i32_194 : BitVec 32 := 4#32
  let v355 : BitVec 32 := Scalar.muli arg17 c4_i32_194
  let c3_i32 : BitVec 32 := 3#32
  let v356 : BitVec 32 := Scalar.addi v355 c3_i32
  let c0_i32_254 : BitVec 32 := 0#32
  let c0_i32_255 : BitVec 32 := 0#32
  let c0_i32_256 : BitVec 32 := 0#32
  ![0, v356.toNat, 0, 0, 0]
@[reducible] def k0_t2_loop (v335 : BitVec 32) : Scf.Loop 32 :=
  let c0_i32_182 : BitVec 32 := 0#32
  let c511_i32_179 : BitVec 32 := 511#32
  let v336 : BitVec 32 := Scalar.addi v335 c511_i32_179
  let c9_i32_180 : BitVec 32 := 9#32
  let v337 : BitVec 32 := Scalar.shrui v336 c9_i32_180
  let v338 : BitVec 32 := Scalar.subi v337 c0_i32_182
  let c1_i32_183 : BitVec 32 := 1#32
  let v340 : BitVec 32 := Scalar.divsi v338 c1_i32_183
  let v341 : BitVec 32 := Scalar.muli v340 c1_i32_183
  let v342 : BitVec 32 := Scalar.addi c0_i32_182 v341
  let v339 : BitVec 32 := Scalar.addi c0_i32_182 v338
  let c1_i32_185 : BitVec 32 := 1#32
  ⟨v342, v339, c1_i32_185⟩
def k0_off16 (v335 : BitVec 32) (k0_t2 : Fin (k0_t2_loop v335).trips) (c0_i32_186 : BitVec 32) : Fin 2 → Nat :=
  let c0_187 : Index := 0#32
  let c0_i32_182 : BitVec 32 := 0#32
  let c511_i32_179 : BitVec 32 := 511#32
  let v336 : BitVec 32 := Scalar.addi v335 c511_i32_179
  let c9_i32_180 : BitVec 32 := 9#32
  let v337 : BitVec 32 := Scalar.shrui v336 c9_i32_180
  let v338 : BitVec 32 := Scalar.subi v337 c0_i32_182
  let c1_i32_183 : BitVec 32 := 1#32
  let v340 : BitVec 32 := Scalar.divsi v338 c1_i32_183
  let v341 : BitVec 32 := Scalar.muli v340 c1_i32_183
  let v342 : BitVec 32 := Scalar.addi c0_i32_182 v341
  let c1_i32_185 : BitVec 32 := 1#32
  let arg17 : BitVec 32 := Scf.iv v342 c1_i32_185 k0_t2
  let c4_i32 : BitVec 32 := 4#32
  let v343 : BitVec 32 := Scalar.muli arg17 c4_i32
  let v344 : BitVec 32 := Scalar.addi v343 c0_i32_186
  let v345 : Index := Scalar.indexCast v344
  ![0, v345.toNat]
def k0_off17 (v335 : BitVec 32) (k0_t2 : Fin (k0_t2_loop v335).trips) : Fin 2 → Nat :=
  let c0_i32_197 : BitVec 32 := 0#32
  let c0_i32_182 : BitVec 32 := 0#32
  let c511_i32_179 : BitVec 32 := 511#32
  let v336 : BitVec 32 := Scalar.addi v335 c511_i32_179
  let c9_i32_180 : BitVec 32 := 9#32
  let v337 : BitVec 32 := Scalar.shrui v336 c9_i32_180
  let v338 : BitVec 32 := Scalar.subi v337 c0_i32_182
  let c1_i32_183 : BitVec 32 := 1#32
  let v340 : BitVec 32 := Scalar.divsi v338 c1_i32_183
  let v341 : BitVec 32 := Scalar.muli v340 c1_i32_183
  let v342 : BitVec 32 := Scalar.addi c0_i32_182 v341
  let c1_i32_185 : BitVec 32 := 1#32
  let arg17 : BitVec 32 := Scf.iv v342 c1_i32_185 k0_t2
  ![0, arg17.toNat]
def k0_off18 (v335 : BitVec 32) (k0_t2 : Fin (k0_t2_loop v335).trips) : Fin 5 → Nat :=
  let c0_i32_196 : BitVec 32 := 0#32
  let c0_i32_182 : BitVec 32 := 0#32
  let c511_i32_179 : BitVec 32 := 511#32
  let v336 : BitVec 32 := Scalar.addi v335 c511_i32_179
  let c9_i32_180 : BitVec 32 := 9#32
  let v337 : BitVec 32 := Scalar.shrui v336 c9_i32_180
  let v338 : BitVec 32 := Scalar.subi v337 c0_i32_182
  let c1_i32_183 : BitVec 32 := 1#32
  let v340 : BitVec 32 := Scalar.divsi v338 c1_i32_183
  let v341 : BitVec 32 := Scalar.muli v340 c1_i32_183
  let v342 : BitVec 32 := Scalar.addi c0_i32_182 v341
  let c1_i32_185 : BitVec 32 := 1#32
  let arg17 : BitVec 32 := Scf.iv v342 c1_i32_185 k0_t2
  let c4_i32 : BitVec 32 := 4#32
  let v343 : BitVec 32 := Scalar.muli arg17 c4_i32
  let c0_i32_186 : BitVec 32 := 0#32
  let v344 : BitVec 32 := Scalar.addi v343 c0_i32_186
  let c0_i32_198 : BitVec 32 := 0#32
  let c0_i32_199 : BitVec 32 := 0#32
  let c0_i32_200 : BitVec 32 := 0#32
  ![0, v344.toNat, 0, 0, 0]
def k0_off19 (v346 : BitVec 32) : Fin 4 → Nat :=
  let c0_i32_201 : BitVec 32 := 0#32
  let c0_i32_202 : BitVec 32 := 0#32
  let c0_i32_203 : BitVec 32 := 0#32
  ![v346.toNat, 0, 0, 0]

def k0_chk6 (i : grid0.Coords) (v346 : BitVec 32) : Prop :=
  (∀ (k0_h1 : k0_cond1 i = 1#1), ∀ a, (k0_off19 v346) a + S1x2x128x128.size a ≤ S2048x2x128x128.size a) ∧
  (∀ (k0_h1 : k0_cond1 i = 1#1), ∀ (hinb : ∀ a, (k0_off19 v346) a + S1x2x128x128.size a ≤ S2048x2x128x128.size a), (Rect.unit (s := S2048x2x128x128) (k0_off19 v346) S1x2x128x128.size hinb).WholeWords (EltTy.packing .fp8e4m3))
theorem k0_off19_inb : ∀ (i : grid0.Coords) (v346 : BitVec 32) (k0_hw6 : k0_chk6 i v346), ∀ (k0_h1 : k0_cond1 i = 1#1), ∀ a, (k0_off19 v346) a + S1x2x128x128.size a ≤ S2048x2x128x128.size a := fun i v346 k0_hw6 k0_h1 => k0_hw6.1 k0_h1
theorem k0_off19_wordsfp8e4m3 : ∀ (i : grid0.Coords) (v346 : BitVec 32) (k0_hw6 : k0_chk6 i v346), ∀ (k0_h1 : k0_cond1 i = 1#1), (Rect.unit (s := S2048x2x128x128) (k0_off19 v346) S1x2x128x128.size (k0_off19_inb i v346 k0_hw6 k0_h1)).WholeWords (EltTy.packing .fp8e4m3) := fun i v346 k0_hw6 k0_h1 => k0_hw6.2 k0_h1 (k0_off19_inb i v346 k0_hw6 k0_h1)

def k0_off20 (v335 : BitVec 32) (k0_t2 : Fin (k0_t2_loop v335).trips) : Fin 2 → Nat :=
  let c0_i32_205 : BitVec 32 := 0#32
  let c0_i32_182 : BitVec 32 := 0#32
  let c511_i32_179 : BitVec 32 := 511#32
  let v336 : BitVec 32 := Scalar.addi v335 c511_i32_179
  let c9_i32_180 : BitVec 32 := 9#32
  let v337 : BitVec 32 := Scalar.shrui v336 c9_i32_180
  let v338 : BitVec 32 := Scalar.subi v337 c0_i32_182
  let c1_i32_183 : BitVec 32 := 1#32
  let v340 : BitVec 32 := Scalar.divsi v338 c1_i32_183
  let v341 : BitVec 32 := Scalar.muli v340 c1_i32_183
  let v342 : BitVec 32 := Scalar.addi c0_i32_182 v341
  let c1_i32_185 : BitVec 32 := 1#32
  let arg17 : BitVec 32 := Scf.iv v342 c1_i32_185 k0_t2
  ![0, arg17.toNat]
def k0_off21 (v335 : BitVec 32) (k0_t2 : Fin (k0_t2_loop v335).trips) (c0_i32_186 : BitVec 32) : Fin 5 → Nat :=
  let c0_i32_204 : BitVec 32 := 0#32
  let c0_i32_182 : BitVec 32 := 0#32
  let c511_i32_179 : BitVec 32 := 511#32
  let v336 : BitVec 32 := Scalar.addi v335 c511_i32_179
  let c9_i32_180 : BitVec 32 := 9#32
  let v337 : BitVec 32 := Scalar.shrui v336 c9_i32_180
  let v338 : BitVec 32 := Scalar.subi v337 c0_i32_182
  let c1_i32_183 : BitVec 32 := 1#32
  let v340 : BitVec 32 := Scalar.divsi v338 c1_i32_183
  let v341 : BitVec 32 := Scalar.muli v340 c1_i32_183
  let v342 : BitVec 32 := Scalar.addi c0_i32_182 v341
  let c1_i32_185 : BitVec 32 := 1#32
  let arg17 : BitVec 32 := Scf.iv v342 c1_i32_185 k0_t2
  let c4_i32 : BitVec 32 := 4#32
  let v343 : BitVec 32 := Scalar.muli arg17 c4_i32
  let v344 : BitVec 32 := Scalar.addi v343 c0_i32_186
  let c0_i32_206 : BitVec 32 := 0#32
  let c0_i32_207 : BitVec 32 := 0#32
  let c0_i32_208 : BitVec 32 := 0#32
  ![0, v344.toNat, 0, 0, 0]
def k0_off22 (v350 : BitVec 32) : Fin 4 → Nat :=
  let c0_i32_217 : BitVec 32 := 0#32
  let c0_i32_218 : BitVec 32 := 0#32
  let c0_i32_219 : BitVec 32 := 0#32
  ![v350.toNat, 0, 0, 0]

def k0_chk7 (i : grid0.Coords) (v350 : BitVec 32) : Prop :=
  (∀ (k0_h1 : k0_cond1 i = 1#1), ∀ a, (k0_off22 v350) a + S1x2x128x128.size a ≤ S2048x2x128x128.size a) ∧
  (∀ (k0_h1 : k0_cond1 i = 1#1), ∀ (hinb : ∀ a, (k0_off22 v350) a + S1x2x128x128.size a ≤ S2048x2x128x128.size a), (Rect.unit (s := S2048x2x128x128) (k0_off22 v350) S1x2x128x128.size hinb).WholeWords (EltTy.packing .fp8e4m3))
theorem k0_off22_inb : ∀ (i : grid0.Coords) (v350 : BitVec 32) (k0_hw7 : k0_chk7 i v350), ∀ (k0_h1 : k0_cond1 i = 1#1), ∀ a, (k0_off22 v350) a + S1x2x128x128.size a ≤ S2048x2x128x128.size a := fun i v350 k0_hw7 k0_h1 => k0_hw7.1 k0_h1
theorem k0_off22_wordsfp8e4m3 : ∀ (i : grid0.Coords) (v350 : BitVec 32) (k0_hw7 : k0_chk7 i v350), ∀ (k0_h1 : k0_cond1 i = 1#1), (Rect.unit (s := S2048x2x128x128) (k0_off22 v350) S1x2x128x128.size (k0_off22_inb i v350 k0_hw7 k0_h1)).WholeWords (EltTy.packing .fp8e4m3) := fun i v350 k0_hw7 k0_h1 => k0_hw7.2 k0_h1 (k0_off22_inb i v350 k0_hw7 k0_h1)

def k0_off23 (v335 : BitVec 32) (k0_t2 : Fin (k0_t2_loop v335).trips) : Fin 2 → Nat :=
  let c0_i32_221 : BitVec 32 := 0#32
  let c0_i32_182 : BitVec 32 := 0#32
  let c511_i32_179 : BitVec 32 := 511#32
  let v336 : BitVec 32 := Scalar.addi v335 c511_i32_179
  let c9_i32_180 : BitVec 32 := 9#32
  let v337 : BitVec 32 := Scalar.shrui v336 c9_i32_180
  let v338 : BitVec 32 := Scalar.subi v337 c0_i32_182
  let c1_i32_183 : BitVec 32 := 1#32
  let v340 : BitVec 32 := Scalar.divsi v338 c1_i32_183
  let v341 : BitVec 32 := Scalar.muli v340 c1_i32_183
  let v342 : BitVec 32 := Scalar.addi c0_i32_182 v341
  let c1_i32_185 : BitVec 32 := 1#32
  let arg17 : BitVec 32 := Scf.iv v342 c1_i32_185 k0_t2
  ![0, arg17.toNat]
def k0_off24 (v335 : BitVec 32) (k0_t2 : Fin (k0_t2_loop v335).trips) (c1_i32_189 : BitVec 32) : Fin 5 → Nat :=
  let c0_i32_220 : BitVec 32 := 0#32
  let c0_i32_182 : BitVec 32 := 0#32
  let c511_i32_179 : BitVec 32 := 511#32
  let v336 : BitVec 32 := Scalar.addi v335 c511_i32_179
  let c9_i32_180 : BitVec 32 := 9#32
  let v337 : BitVec 32 := Scalar.shrui v336 c9_i32_180
  let v338 : BitVec 32 := Scalar.subi v337 c0_i32_182
  let c1_i32_183 : BitVec 32 := 1#32
  let v340 : BitVec 32 := Scalar.divsi v338 c1_i32_183
  let v341 : BitVec 32 := Scalar.muli v340 c1_i32_183
  let v342 : BitVec 32 := Scalar.addi c0_i32_182 v341
  let c1_i32_185 : BitVec 32 := 1#32
  let arg17 : BitVec 32 := Scf.iv v342 c1_i32_185 k0_t2
  let c4_i32_188 : BitVec 32 := 4#32
  let v347 : BitVec 32 := Scalar.muli arg17 c4_i32_188
  let v348 : BitVec 32 := Scalar.addi v347 c1_i32_189
  let c0_i32_222 : BitVec 32 := 0#32
  let c0_i32_223 : BitVec 32 := 0#32
  let c0_i32_224 : BitVec 32 := 0#32
  ![0, v348.toNat, 0, 0, 0]
def k0_off25 (v354 : BitVec 32) : Fin 4 → Nat :=
  let c0_i32_233 : BitVec 32 := 0#32
  let c0_i32_234 : BitVec 32 := 0#32
  let c0_i32_235 : BitVec 32 := 0#32
  ![v354.toNat, 0, 0, 0]

def k0_chk8 (i : grid0.Coords) (v354 : BitVec 32) : Prop :=
  (∀ (k0_h1 : k0_cond1 i = 1#1), ∀ a, (k0_off25 v354) a + S1x2x128x128.size a ≤ S2048x2x128x128.size a) ∧
  (∀ (k0_h1 : k0_cond1 i = 1#1), ∀ (hinb : ∀ a, (k0_off25 v354) a + S1x2x128x128.size a ≤ S2048x2x128x128.size a), (Rect.unit (s := S2048x2x128x128) (k0_off25 v354) S1x2x128x128.size hinb).WholeWords (EltTy.packing .fp8e4m3))
theorem k0_off25_inb : ∀ (i : grid0.Coords) (v354 : BitVec 32) (k0_hw8 : k0_chk8 i v354), ∀ (k0_h1 : k0_cond1 i = 1#1), ∀ a, (k0_off25 v354) a + S1x2x128x128.size a ≤ S2048x2x128x128.size a := fun i v354 k0_hw8 k0_h1 => k0_hw8.1 k0_h1
theorem k0_off25_wordsfp8e4m3 : ∀ (i : grid0.Coords) (v354 : BitVec 32) (k0_hw8 : k0_chk8 i v354), ∀ (k0_h1 : k0_cond1 i = 1#1), (Rect.unit (s := S2048x2x128x128) (k0_off25 v354) S1x2x128x128.size (k0_off25_inb i v354 k0_hw8 k0_h1)).WholeWords (EltTy.packing .fp8e4m3) := fun i v354 k0_hw8 k0_h1 => k0_hw8.2 k0_h1 (k0_off25_inb i v354 k0_hw8 k0_h1)

def k0_off26 (v335 : BitVec 32) (k0_t2 : Fin (k0_t2_loop v335).trips) : Fin 2 → Nat :=
  let c0_i32_237 : BitVec 32 := 0#32
  let c0_i32_182 : BitVec 32 := 0#32
  let c511_i32_179 : BitVec 32 := 511#32
  let v336 : BitVec 32 := Scalar.addi v335 c511_i32_179
  let c9_i32_180 : BitVec 32 := 9#32
  let v337 : BitVec 32 := Scalar.shrui v336 c9_i32_180
  let v338 : BitVec 32 := Scalar.subi v337 c0_i32_182
  let c1_i32_183 : BitVec 32 := 1#32
  let v340 : BitVec 32 := Scalar.divsi v338 c1_i32_183
  let v341 : BitVec 32 := Scalar.muli v340 c1_i32_183
  let v342 : BitVec 32 := Scalar.addi c0_i32_182 v341
  let c1_i32_185 : BitVec 32 := 1#32
  let arg17 : BitVec 32 := Scf.iv v342 c1_i32_185 k0_t2
  ![0, arg17.toNat]
def k0_off27 (v335 : BitVec 32) (k0_t2 : Fin (k0_t2_loop v335).trips) (c2_i32_192 : BitVec 32) : Fin 5 → Nat :=
  let c0_i32_236 : BitVec 32 := 0#32
  let c0_i32_182 : BitVec 32 := 0#32
  let c511_i32_179 : BitVec 32 := 511#32
  let v336 : BitVec 32 := Scalar.addi v335 c511_i32_179
  let c9_i32_180 : BitVec 32 := 9#32
  let v337 : BitVec 32 := Scalar.shrui v336 c9_i32_180
  let v338 : BitVec 32 := Scalar.subi v337 c0_i32_182
  let c1_i32_183 : BitVec 32 := 1#32
  let v340 : BitVec 32 := Scalar.divsi v338 c1_i32_183
  let v341 : BitVec 32 := Scalar.muli v340 c1_i32_183
  let v342 : BitVec 32 := Scalar.addi c0_i32_182 v341
  let c1_i32_185 : BitVec 32 := 1#32
  let arg17 : BitVec 32 := Scf.iv v342 c1_i32_185 k0_t2
  let c4_i32_191 : BitVec 32 := 4#32
  let v351 : BitVec 32 := Scalar.muli arg17 c4_i32_191
  let v352 : BitVec 32 := Scalar.addi v351 c2_i32_192
  let c0_i32_238 : BitVec 32 := 0#32
  let c0_i32_239 : BitVec 32 := 0#32
  let c0_i32_240 : BitVec 32 := 0#32
  ![0, v352.toNat, 0, 0, 0]
def k0_off28 (v358 : BitVec 32) : Fin 4 → Nat :=
  let c0_i32_249 : BitVec 32 := 0#32
  let c0_i32_250 : BitVec 32 := 0#32
  let c0_i32_251 : BitVec 32 := 0#32
  ![v358.toNat, 0, 0, 0]

def k0_chk9 (i : grid0.Coords) (v358 : BitVec 32) : Prop :=
  (∀ (k0_h1 : k0_cond1 i = 1#1), ∀ a, (k0_off28 v358) a + S1x2x128x128.size a ≤ S2048x2x128x128.size a) ∧
  (∀ (k0_h1 : k0_cond1 i = 1#1), ∀ (hinb : ∀ a, (k0_off28 v358) a + S1x2x128x128.size a ≤ S2048x2x128x128.size a), (Rect.unit (s := S2048x2x128x128) (k0_off28 v358) S1x2x128x128.size hinb).WholeWords (EltTy.packing .fp8e4m3))
theorem k0_off28_inb : ∀ (i : grid0.Coords) (v358 : BitVec 32) (k0_hw9 : k0_chk9 i v358), ∀ (k0_h1 : k0_cond1 i = 1#1), ∀ a, (k0_off28 v358) a + S1x2x128x128.size a ≤ S2048x2x128x128.size a := fun i v358 k0_hw9 k0_h1 => k0_hw9.1 k0_h1
theorem k0_off28_wordsfp8e4m3 : ∀ (i : grid0.Coords) (v358 : BitVec 32) (k0_hw9 : k0_chk9 i v358), ∀ (k0_h1 : k0_cond1 i = 1#1), (Rect.unit (s := S2048x2x128x128) (k0_off28 v358) S1x2x128x128.size (k0_off28_inb i v358 k0_hw9 k0_h1)).WholeWords (EltTy.packing .fp8e4m3) := fun i v358 k0_hw9 k0_h1 => k0_hw9.2 k0_h1 (k0_off28_inb i v358 k0_hw9 k0_h1)

def k0_off29 (v335 : BitVec 32) (k0_t2 : Fin (k0_t2_loop v335).trips) : Fin 2 → Nat :=
  let c0_i32_253 : BitVec 32 := 0#32
  let c0_i32_182 : BitVec 32 := 0#32
  let c511_i32_179 : BitVec 32 := 511#32
  let v336 : BitVec 32 := Scalar.addi v335 c511_i32_179
  let c9_i32_180 : BitVec 32 := 9#32
  let v337 : BitVec 32 := Scalar.shrui v336 c9_i32_180
  let v338 : BitVec 32 := Scalar.subi v337 c0_i32_182
  let c1_i32_183 : BitVec 32 := 1#32
  let v340 : BitVec 32 := Scalar.divsi v338 c1_i32_183
  let v341 : BitVec 32 := Scalar.muli v340 c1_i32_183
  let v342 : BitVec 32 := Scalar.addi c0_i32_182 v341
  let c1_i32_185 : BitVec 32 := 1#32
  let arg17 : BitVec 32 := Scf.iv v342 c1_i32_185 k0_t2
  ![0, arg17.toNat]
def k0_off30 (v335 : BitVec 32) (k0_t2 : Fin (k0_t2_loop v335).trips) : Fin 5 → Nat :=
  let c0_i32_252 : BitVec 32 := 0#32
  let c0_i32_182 : BitVec 32 := 0#32
  let c511_i32_179 : BitVec 32 := 511#32
  let v336 : BitVec 32 := Scalar.addi v335 c511_i32_179
  let c9_i32_180 : BitVec 32 := 9#32
  let v337 : BitVec 32 := Scalar.shrui v336 c9_i32_180
  let v338 : BitVec 32 := Scalar.subi v337 c0_i32_182
  let c1_i32_183 : BitVec 32 := 1#32
  let v340 : BitVec 32 := Scalar.divsi v338 c1_i32_183
  let v341 : BitVec 32 := Scalar.muli v340 c1_i32_183
  let v342 : BitVec 32 := Scalar.addi c0_i32_182 v341
  let c1_i32_185 : BitVec 32 := 1#32
  let arg17 : BitVec 32 := Scf.iv v342 c1_i32_185 k0_t2
  let c4_i32_194 : BitVec 32 := 4#32
  let v355 : BitVec 32 := Scalar.muli arg17 c4_i32_194
  let c3_i32 : BitVec 32 := 3#32
  let v356 : BitVec 32 := Scalar.addi v355 c3_i32
  let c0_i32_254 : BitVec 32 := 0#32
  let c0_i32_255 : BitVec 32 := 0#32
  let c0_i32_256 : BitVec 32 := 0#32
  ![0, v356.toNat, 0, 0, 0]

def k0_chk1_0 (i : grid0.Coords) (v335 : BitVec 32) : Prop :=
  (∀ (k0_h1 : k0_cond1 i = 1#1), (k0_t1_loop v335).OK) ∧
  (∀ k0_t1 : Fin (k0_t1_loop v335).trips, ∀ (k0_h1 : k0_cond1 i = 1#1), ∀ (r : Fin 4), ∀ a, (k0_off1 v335 k0_t1 (BitVec.ofNat 32 r.val)) a + S1x1.size a ≤ S32x64.size a) ∧
  (∀ k0_t1 : Fin (k0_t1_loop v335).trips, ∀ (k0_h1 : k0_cond1 i = 1#1), ∀ a, (k0_off2 v335 k0_t1) a + S1x1.size a ≤ S2x16.size a) ∧
  (∀ k0_t1 : Fin (k0_t1_loop v335).trips, ∀ (k0_h1 : k0_cond1 i = 1#1), ∀ a, (k0_off3 v335 k0_t1) a + S1x1x2x128x128.size a ≤ S2x64x2x128x128.size a) ∧
  (∀ k0_t1 : Fin (k0_t1_loop v335).trips, ∀ (k0_h1 : k0_cond1 i = 1#1), ∀ (hinb : ∀ a, (k0_off3 v335 k0_t1) a + S1x1x2x128x128.size a ≤ S2x64x2x128x128.size a), (Rect.unit (s := S2x64x2x128x128) (k0_off3 v335 k0_t1) S1x1x2x128x128.size hinb).WholeWords (EltTy.packing .fp8e4m3)) ∧
  (∀ k0_t1 : Fin (k0_t1_loop v335).trips, ∀ (k0_h1 : k0_cond1 i = 1#1), ∀ a, (k0_off5 v335 k0_t1) a + S1x1.size a ≤ S2x16.size a) ∧
  (∀ k0_t1 : Fin (k0_t1_loop v335).trips, ∀ (k0_h1 : k0_cond1 i = 1#1), ∀ (r : Fin 2), ∀ a, (k0_off6 v335 k0_t1 (BitVec.ofNat 32 r.val)) a + S1x1x2x128x128.size a ≤ S2x64x2x128x128.size a) ∧
  (∀ k0_t1 : Fin (k0_t1_loop v335).trips, ∀ (k0_h1 : k0_cond1 i = 1#1), ∀ (r : Fin 2), ∀ (hinb : ∀ a, (k0_off6 v335 k0_t1 (BitVec.ofNat 32 r.val)) a + S1x1x2x128x128.size a ≤ S2x64x2x128x128.size a), (Rect.unit (s := S2x64x2x128x128) (k0_off6 v335 k0_t1 (BitVec.ofNat 32 r.val)) S1x1x2x128x128.size hinb).WholeWords (EltTy.packing .fp8e4m3)) ∧
  (∀ k0_t1 : Fin (k0_t1_loop v335).trips, ∀ (k0_h1 : k0_cond1 i = 1#1), ∀ a, (k0_off8 v335 k0_t1) a + S1x1.size a ≤ S2x16.size a) ∧
  (∀ k0_t1 : Fin (k0_t1_loop v335).trips, ∀ (k0_h1 : k0_cond1 i = 1#1), ∀ (r : Fin 2), ∀ a, (k0_off9 v335 k0_t1 (BitVec.ofNat 32 (1 + r.val))) a + S1x1x2x128x128.size a ≤ S2x64x2x128x128.size a) ∧
  (∀ k0_t1 : Fin (k0_t1_loop v335).trips, ∀ (k0_h1 : k0_cond1 i = 1#1), ∀ (r : Fin 2), ∀ (hinb : ∀ a, (k0_off9 v335 k0_t1 (BitVec.ofNat 32 (1 + r.val))) a + S1x1x2x128x128.size a ≤ S2x64x2x128x128.size a), (Rect.unit (s := S2x64x2x128x128) (k0_off9 v335 k0_t1 (BitVec.ofNat 32 (1 + r.val))) S1x1x2x128x128.size hinb).WholeWords (EltTy.packing .fp8e4m3)) ∧
  (∀ k0_t1 : Fin (k0_t1_loop v335).trips, ∀ (k0_h1 : k0_cond1 i = 1#1), ∀ a, (k0_off11 v335 k0_t1) a + S1x1.size a ≤ S2x16.size a) ∧
  (∀ k0_t1 : Fin (k0_t1_loop v335).trips, ∀ (k0_h1 : k0_cond1 i = 1#1), ∀ (r : Fin 2), ∀ a, (k0_off12 v335 k0_t1 (BitVec.ofNat 32 (2 + r.val))) a + S1x1x2x128x128.size a ≤ S2x64x2x128x128.size a) ∧
  (∀ k0_t1 : Fin (k0_t1_loop v335).trips, ∀ (k0_h1 : k0_cond1 i = 1#1), ∀ (r : Fin 2), ∀ (hinb : ∀ a, (k0_off12 v335 k0_t1 (BitVec.ofNat 32 (2 + r.val))) a + S1x1x2x128x128.size a ≤ S2x64x2x128x128.size a), (Rect.unit (s := S2x64x2x128x128) (k0_off12 v335 k0_t1 (BitVec.ofNat 32 (2 + r.val))) S1x1x2x128x128.size hinb).WholeWords (EltTy.packing .fp8e4m3)) ∧
  (∀ k0_t1 : Fin (k0_t1_loop v335).trips, ∀ (k0_h1 : k0_cond1 i = 1#1), ∀ a, (k0_off14 v335 k0_t1) a + S1x1.size a ≤ S2x16.size a) ∧
  (∀ k0_t1 : Fin (k0_t1_loop v335).trips, ∀ (k0_h1 : k0_cond1 i = 1#1), ∀ a, (k0_off15 v335 k0_t1) a + S1x1x2x128x128.size a ≤ S2x64x2x128x128.size a) ∧
  (∀ k0_t1 : Fin (k0_t1_loop v335).trips, ∀ (k0_h1 : k0_cond1 i = 1#1), ∀ (hinb : ∀ a, (k0_off15 v335 k0_t1) a + S1x1x2x128x128.size a ≤ S2x64x2x128x128.size a), (Rect.unit (s := S2x64x2x128x128) (k0_off15 v335 k0_t1) S1x1x2x128x128.size hinb).WholeWords (EltTy.packing .fp8e4m3)) ∧
  (∀ (k0_h1 : k0_cond1 i = 1#1), (k0_t2_loop v335).OK) ∧
  (∀ k0_t2 : Fin (k0_t2_loop v335).trips, ∀ (k0_h1 : k0_cond1 i = 1#1), ∀ (r : Fin 4), ∀ a, (k0_off16 v335 k0_t2 (BitVec.ofNat 32 r.val)) a + S1x1.size a ≤ S32x64.size a) ∧
  (∀ k0_t2 : Fin (k0_t2_loop v335).trips, ∀ (k0_h1 : k0_cond1 i = 1#1), ∀ a, (k0_off17 v335 k0_t2) a + S1x1.size a ≤ S2x16.size a) ∧
  (∀ k0_t2 : Fin (k0_t2_loop v335).trips, ∀ (k0_h1 : k0_cond1 i = 1#1), ∀ a, (k0_off18 v335 k0_t2) a + S1x1x2x128x128.size a ≤ S2x64x2x128x128.size a) ∧
  (∀ k0_t2 : Fin (k0_t2_loop v335).trips, ∀ (k0_h1 : k0_cond1 i = 1#1), ∀ (hinb : ∀ a, (k0_off18 v335 k0_t2) a + S1x1x2x128x128.size a ≤ S2x64x2x128x128.size a), (Rect.unit (s := S2x64x2x128x128) (k0_off18 v335 k0_t2) S1x1x2x128x128.size hinb).WholeWords (EltTy.packing .fp8e4m3)) ∧
  (∀ k0_t2 : Fin (k0_t2_loop v335).trips, ∀ (k0_h1 : k0_cond1 i = 1#1), ∀ a, (k0_off20 v335 k0_t2) a + S1x1.size a ≤ S2x16.size a) ∧
  (∀ k0_t2 : Fin (k0_t2_loop v335).trips, ∀ (k0_h1 : k0_cond1 i = 1#1), ∀ (r : Fin 2), ∀ a, (k0_off21 v335 k0_t2 (BitVec.ofNat 32 r.val)) a + S1x1x2x128x128.size a ≤ S2x64x2x128x128.size a) ∧
  (∀ k0_t2 : Fin (k0_t2_loop v335).trips, ∀ (k0_h1 : k0_cond1 i = 1#1), ∀ (r : Fin 2), ∀ (hinb : ∀ a, (k0_off21 v335 k0_t2 (BitVec.ofNat 32 r.val)) a + S1x1x2x128x128.size a ≤ S2x64x2x128x128.size a), (Rect.unit (s := S2x64x2x128x128) (k0_off21 v335 k0_t2 (BitVec.ofNat 32 r.val)) S1x1x2x128x128.size hinb).WholeWords (EltTy.packing .fp8e4m3)) ∧
  (∀ k0_t2 : Fin (k0_t2_loop v335).trips, ∀ (k0_h1 : k0_cond1 i = 1#1), ∀ a, (k0_off23 v335 k0_t2) a + S1x1.size a ≤ S2x16.size a) ∧
  (∀ k0_t2 : Fin (k0_t2_loop v335).trips, ∀ (k0_h1 : k0_cond1 i = 1#1), ∀ (r : Fin 2), ∀ a, (k0_off24 v335 k0_t2 (BitVec.ofNat 32 (1 + r.val))) a + S1x1x2x128x128.size a ≤ S2x64x2x128x128.size a) ∧
  (∀ k0_t2 : Fin (k0_t2_loop v335).trips, ∀ (k0_h1 : k0_cond1 i = 1#1), ∀ (r : Fin 2), ∀ (hinb : ∀ a, (k0_off24 v335 k0_t2 (BitVec.ofNat 32 (1 + r.val))) a + S1x1x2x128x128.size a ≤ S2x64x2x128x128.size a), (Rect.unit (s := S2x64x2x128x128) (k0_off24 v335 k0_t2 (BitVec.ofNat 32 (1 + r.val))) S1x1x2x128x128.size hinb).WholeWords (EltTy.packing .fp8e4m3)) ∧
  (∀ k0_t2 : Fin (k0_t2_loop v335).trips, ∀ (k0_h1 : k0_cond1 i = 1#1), ∀ a, (k0_off26 v335 k0_t2) a + S1x1.size a ≤ S2x16.size a) ∧
  (∀ k0_t2 : Fin (k0_t2_loop v335).trips, ∀ (k0_h1 : k0_cond1 i = 1#1), ∀ (r : Fin 2), ∀ a, (k0_off27 v335 k0_t2 (BitVec.ofNat 32 (2 + r.val))) a + S1x1x2x128x128.size a ≤ S2x64x2x128x128.size a) ∧
  (∀ k0_t2 : Fin (k0_t2_loop v335).trips, ∀ (k0_h1 : k0_cond1 i = 1#1), ∀ (r : Fin 2), ∀ (hinb : ∀ a, (k0_off27 v335 k0_t2 (BitVec.ofNat 32 (2 + r.val))) a + S1x1x2x128x128.size a ≤ S2x64x2x128x128.size a), (Rect.unit (s := S2x64x2x128x128) (k0_off27 v335 k0_t2 (BitVec.ofNat 32 (2 + r.val))) S1x1x2x128x128.size hinb).WholeWords (EltTy.packing .fp8e4m3)) ∧
  (∀ k0_t2 : Fin (k0_t2_loop v335).trips, ∀ (k0_h1 : k0_cond1 i = 1#1), ∀ a, (k0_off29 v335 k0_t2) a + S1x1.size a ≤ S2x16.size a)
def k0_chk1_1 (i : grid0.Coords) (v335 : BitVec 32) : Prop :=
  (∀ k0_t2 : Fin (k0_t2_loop v335).trips, ∀ (k0_h1 : k0_cond1 i = 1#1), ∀ a, (k0_off30 v335 k0_t2) a + S1x1x2x128x128.size a ≤ S2x64x2x128x128.size a) ∧
  (∀ k0_t2 : Fin (k0_t2_loop v335).trips, ∀ (k0_h1 : k0_cond1 i = 1#1), ∀ (hinb : ∀ a, (k0_off30 v335 k0_t2) a + S1x1x2x128x128.size a ≤ S2x64x2x128x128.size a), (Rect.unit (s := S2x64x2x128x128) (k0_off30 v335 k0_t2) S1x1x2x128x128.size hinb).WholeWords (EltTy.packing .fp8e4m3))
def k0_chk1 (i : grid0.Coords) (v335 : BitVec 32) : Prop :=
  k0_chk1_0 i v335 ∧
  k0_chk1_1 i v335
theorem k0_t1_ok : ∀ (i : grid0.Coords) (v335 : BitVec 32) (k0_hw1 : k0_chk1 i v335), ∀ (k0_h1 : k0_cond1 i = 1#1), (k0_t1_loop v335).OK := fun i v335 k0_hw1 k0_h1 => k0_hw1.1.1 k0_h1
theorem k0_off1_inb : ∀ (i : grid0.Coords) (v335 : BitVec 32) (k0_hw1 : k0_chk1 i v335) (k0_t1 : Fin (k0_t1_loop v335).trips), ∀ (k0_h1 : k0_cond1 i = 1#1), ∀ (r : Fin 4), ∀ a, (k0_off1 v335 k0_t1 (BitVec.ofNat 32 r.val)) a + S1x1.size a ≤ S32x64.size a := fun i v335 k0_hw1 k0_t1 k0_h1 r => k0_hw1.1.2.1 k0_t1 k0_h1 r
theorem k0_off2_inb : ∀ (i : grid0.Coords) (v335 : BitVec 32) (k0_hw1 : k0_chk1 i v335) (k0_t1 : Fin (k0_t1_loop v335).trips), ∀ (k0_h1 : k0_cond1 i = 1#1), ∀ a, (k0_off2 v335 k0_t1) a + S1x1.size a ≤ S2x16.size a := fun i v335 k0_hw1 k0_t1 k0_h1 => k0_hw1.1.2.2.1 k0_t1 k0_h1
theorem k0_off3_inb : ∀ (i : grid0.Coords) (v335 : BitVec 32) (k0_hw1 : k0_chk1 i v335) (k0_t1 : Fin (k0_t1_loop v335).trips), ∀ (k0_h1 : k0_cond1 i = 1#1), ∀ a, (k0_off3 v335 k0_t1) a + S1x1x2x128x128.size a ≤ S2x64x2x128x128.size a := fun i v335 k0_hw1 k0_t1 k0_h1 => k0_hw1.1.2.2.2.1 k0_t1 k0_h1
theorem k0_off3_wordsfp8e4m3 : ∀ (i : grid0.Coords) (v335 : BitVec 32) (k0_hw1 : k0_chk1 i v335) (k0_t1 : Fin (k0_t1_loop v335).trips), ∀ (k0_h1 : k0_cond1 i = 1#1), (Rect.unit (s := S2x64x2x128x128) (k0_off3 v335 k0_t1) S1x1x2x128x128.size (k0_off3_inb i v335 k0_hw1 k0_t1 k0_h1)).WholeWords (EltTy.packing .fp8e4m3) := fun i v335 k0_hw1 k0_t1 k0_h1 => k0_hw1.1.2.2.2.2.1 k0_t1 k0_h1 (k0_off3_inb i v335 k0_hw1 k0_t1 k0_h1)
theorem k0_off5_inb : ∀ (i : grid0.Coords) (v335 : BitVec 32) (k0_hw1 : k0_chk1 i v335) (k0_t1 : Fin (k0_t1_loop v335).trips), ∀ (k0_h1 : k0_cond1 i = 1#1), ∀ a, (k0_off5 v335 k0_t1) a + S1x1.size a ≤ S2x16.size a := fun i v335 k0_hw1 k0_t1 k0_h1 => k0_hw1.1.2.2.2.2.2.1 k0_t1 k0_h1
theorem k0_off6_inb : ∀ (i : grid0.Coords) (v335 : BitVec 32) (k0_hw1 : k0_chk1 i v335) (k0_t1 : Fin (k0_t1_loop v335).trips), ∀ (k0_h1 : k0_cond1 i = 1#1), ∀ (r : Fin 2), ∀ a, (k0_off6 v335 k0_t1 (BitVec.ofNat 32 r.val)) a + S1x1x2x128x128.size a ≤ S2x64x2x128x128.size a := fun i v335 k0_hw1 k0_t1 k0_h1 r => k0_hw1.1.2.2.2.2.2.2.1 k0_t1 k0_h1 r
theorem k0_off6_wordsfp8e4m3 : ∀ (i : grid0.Coords) (v335 : BitVec 32) (k0_hw1 : k0_chk1 i v335) (k0_t1 : Fin (k0_t1_loop v335).trips), ∀ (k0_h1 : k0_cond1 i = 1#1), ∀ (r : Fin 2), (Rect.unit (s := S2x64x2x128x128) (k0_off6 v335 k0_t1 (BitVec.ofNat 32 r.val)) S1x1x2x128x128.size (k0_off6_inb i v335 k0_hw1 k0_t1 k0_h1 r)).WholeWords (EltTy.packing .fp8e4m3) := fun i v335 k0_hw1 k0_t1 k0_h1 r => k0_hw1.1.2.2.2.2.2.2.2.1 k0_t1 k0_h1 r (k0_off6_inb i v335 k0_hw1 k0_t1 k0_h1 r)
theorem k0_off8_inb : ∀ (i : grid0.Coords) (v335 : BitVec 32) (k0_hw1 : k0_chk1 i v335) (k0_t1 : Fin (k0_t1_loop v335).trips), ∀ (k0_h1 : k0_cond1 i = 1#1), ∀ a, (k0_off8 v335 k0_t1) a + S1x1.size a ≤ S2x16.size a := fun i v335 k0_hw1 k0_t1 k0_h1 => k0_hw1.1.2.2.2.2.2.2.2.2.1 k0_t1 k0_h1
theorem k0_off9_inb : ∀ (i : grid0.Coords) (v335 : BitVec 32) (k0_hw1 : k0_chk1 i v335) (k0_t1 : Fin (k0_t1_loop v335).trips), ∀ (k0_h1 : k0_cond1 i = 1#1), ∀ (r : Fin 2), ∀ a, (k0_off9 v335 k0_t1 (BitVec.ofNat 32 (1 + r.val))) a + S1x1x2x128x128.size a ≤ S2x64x2x128x128.size a := fun i v335 k0_hw1 k0_t1 k0_h1 r => k0_hw1.1.2.2.2.2.2.2.2.2.2.1 k0_t1 k0_h1 r
theorem k0_off9_wordsfp8e4m3 : ∀ (i : grid0.Coords) (v335 : BitVec 32) (k0_hw1 : k0_chk1 i v335) (k0_t1 : Fin (k0_t1_loop v335).trips), ∀ (k0_h1 : k0_cond1 i = 1#1), ∀ (r : Fin 2), (Rect.unit (s := S2x64x2x128x128) (k0_off9 v335 k0_t1 (BitVec.ofNat 32 (1 + r.val))) S1x1x2x128x128.size (k0_off9_inb i v335 k0_hw1 k0_t1 k0_h1 r)).WholeWords (EltTy.packing .fp8e4m3) := fun i v335 k0_hw1 k0_t1 k0_h1 r => k0_hw1.1.2.2.2.2.2.2.2.2.2.2.1 k0_t1 k0_h1 r (k0_off9_inb i v335 k0_hw1 k0_t1 k0_h1 r)
theorem k0_off11_inb : ∀ (i : grid0.Coords) (v335 : BitVec 32) (k0_hw1 : k0_chk1 i v335) (k0_t1 : Fin (k0_t1_loop v335).trips), ∀ (k0_h1 : k0_cond1 i = 1#1), ∀ a, (k0_off11 v335 k0_t1) a + S1x1.size a ≤ S2x16.size a := fun i v335 k0_hw1 k0_t1 k0_h1 => k0_hw1.1.2.2.2.2.2.2.2.2.2.2.2.1 k0_t1 k0_h1
theorem k0_off12_inb : ∀ (i : grid0.Coords) (v335 : BitVec 32) (k0_hw1 : k0_chk1 i v335) (k0_t1 : Fin (k0_t1_loop v335).trips), ∀ (k0_h1 : k0_cond1 i = 1#1), ∀ (r : Fin 2), ∀ a, (k0_off12 v335 k0_t1 (BitVec.ofNat 32 (2 + r.val))) a + S1x1x2x128x128.size a ≤ S2x64x2x128x128.size a := fun i v335 k0_hw1 k0_t1 k0_h1 r => k0_hw1.1.2.2.2.2.2.2.2.2.2.2.2.2.1 k0_t1 k0_h1 r
theorem k0_off12_wordsfp8e4m3 : ∀ (i : grid0.Coords) (v335 : BitVec 32) (k0_hw1 : k0_chk1 i v335) (k0_t1 : Fin (k0_t1_loop v335).trips), ∀ (k0_h1 : k0_cond1 i = 1#1), ∀ (r : Fin 2), (Rect.unit (s := S2x64x2x128x128) (k0_off12 v335 k0_t1 (BitVec.ofNat 32 (2 + r.val))) S1x1x2x128x128.size (k0_off12_inb i v335 k0_hw1 k0_t1 k0_h1 r)).WholeWords (EltTy.packing .fp8e4m3) := fun i v335 k0_hw1 k0_t1 k0_h1 r => k0_hw1.1.2.2.2.2.2.2.2.2.2.2.2.2.2.1 k0_t1 k0_h1 r (k0_off12_inb i v335 k0_hw1 k0_t1 k0_h1 r)
theorem k0_off14_inb : ∀ (i : grid0.Coords) (v335 : BitVec 32) (k0_hw1 : k0_chk1 i v335) (k0_t1 : Fin (k0_t1_loop v335).trips), ∀ (k0_h1 : k0_cond1 i = 1#1), ∀ a, (k0_off14 v335 k0_t1) a + S1x1.size a ≤ S2x16.size a := fun i v335 k0_hw1 k0_t1 k0_h1 => k0_hw1.1.2.2.2.2.2.2.2.2.2.2.2.2.2.2.1 k0_t1 k0_h1
theorem k0_off15_inb : ∀ (i : grid0.Coords) (v335 : BitVec 32) (k0_hw1 : k0_chk1 i v335) (k0_t1 : Fin (k0_t1_loop v335).trips), ∀ (k0_h1 : k0_cond1 i = 1#1), ∀ a, (k0_off15 v335 k0_t1) a + S1x1x2x128x128.size a ≤ S2x64x2x128x128.size a := fun i v335 k0_hw1 k0_t1 k0_h1 => k0_hw1.1.2.2.2.2.2.2.2.2.2.2.2.2.2.2.2.1 k0_t1 k0_h1
theorem k0_off15_wordsfp8e4m3 : ∀ (i : grid0.Coords) (v335 : BitVec 32) (k0_hw1 : k0_chk1 i v335) (k0_t1 : Fin (k0_t1_loop v335).trips), ∀ (k0_h1 : k0_cond1 i = 1#1), (Rect.unit (s := S2x64x2x128x128) (k0_off15 v335 k0_t1) S1x1x2x128x128.size (k0_off15_inb i v335 k0_hw1 k0_t1 k0_h1)).WholeWords (EltTy.packing .fp8e4m3) := fun i v335 k0_hw1 k0_t1 k0_h1 => k0_hw1.1.2.2.2.2.2.2.2.2.2.2.2.2.2.2.2.2.1 k0_t1 k0_h1 (k0_off15_inb i v335 k0_hw1 k0_t1 k0_h1)
theorem k0_t2_ok : ∀ (i : grid0.Coords) (v335 : BitVec 32) (k0_hw1 : k0_chk1 i v335), ∀ (k0_h1 : k0_cond1 i = 1#1), (k0_t2_loop v335).OK := fun i v335 k0_hw1 k0_h1 => k0_hw1.1.2.2.2.2.2.2.2.2.2.2.2.2.2.2.2.2.2.1 k0_h1
theorem k0_off16_inb : ∀ (i : grid0.Coords) (v335 : BitVec 32) (k0_hw1 : k0_chk1 i v335) (k0_t2 : Fin (k0_t2_loop v335).trips), ∀ (k0_h1 : k0_cond1 i = 1#1), ∀ (r : Fin 4), ∀ a, (k0_off16 v335 k0_t2 (BitVec.ofNat 32 r.val)) a + S1x1.size a ≤ S32x64.size a := fun i v335 k0_hw1 k0_t2 k0_h1 r => k0_hw1.1.2.2.2.2.2.2.2.2.2.2.2.2.2.2.2.2.2.2.1 k0_t2 k0_h1 r
theorem k0_off17_inb : ∀ (i : grid0.Coords) (v335 : BitVec 32) (k0_hw1 : k0_chk1 i v335) (k0_t2 : Fin (k0_t2_loop v335).trips), ∀ (k0_h1 : k0_cond1 i = 1#1), ∀ a, (k0_off17 v335 k0_t2) a + S1x1.size a ≤ S2x16.size a := fun i v335 k0_hw1 k0_t2 k0_h1 => k0_hw1.1.2.2.2.2.2.2.2.2.2.2.2.2.2.2.2.2.2.2.2.1 k0_t2 k0_h1
theorem k0_off18_inb : ∀ (i : grid0.Coords) (v335 : BitVec 32) (k0_hw1 : k0_chk1 i v335) (k0_t2 : Fin (k0_t2_loop v335).trips), ∀ (k0_h1 : k0_cond1 i = 1#1), ∀ a, (k0_off18 v335 k0_t2) a + S1x1x2x128x128.size a ≤ S2x64x2x128x128.size a := fun i v335 k0_hw1 k0_t2 k0_h1 => k0_hw1.1.2.2.2.2.2.2.2.2.2.2.2.2.2.2.2.2.2.2.2.2.1 k0_t2 k0_h1
theorem k0_off18_wordsfp8e4m3 : ∀ (i : grid0.Coords) (v335 : BitVec 32) (k0_hw1 : k0_chk1 i v335) (k0_t2 : Fin (k0_t2_loop v335).trips), ∀ (k0_h1 : k0_cond1 i = 1#1), (Rect.unit (s := S2x64x2x128x128) (k0_off18 v335 k0_t2) S1x1x2x128x128.size (k0_off18_inb i v335 k0_hw1 k0_t2 k0_h1)).WholeWords (EltTy.packing .fp8e4m3) := fun i v335 k0_hw1 k0_t2 k0_h1 => k0_hw1.1.2.2.2.2.2.2.2.2.2.2.2.2.2.2.2.2.2.2.2.2.2.1 k0_t2 k0_h1 (k0_off18_inb i v335 k0_hw1 k0_t2 k0_h1)
theorem k0_off20_inb : ∀ (i : grid0.Coords) (v335 : BitVec 32) (k0_hw1 : k0_chk1 i v335) (k0_t2 : Fin (k0_t2_loop v335).trips), ∀ (k0_h1 : k0_cond1 i = 1#1), ∀ a, (k0_off20 v335 k0_t2) a + S1x1.size a ≤ S2x16.size a := fun i v335 k0_hw1 k0_t2 k0_h1 => k0_hw1.1.2.2.2.2.2.2.2.2.2.2.2.2.2.2.2.2.2.2.2.2.2.2.1 k0_t2 k0_h1
theorem k0_off21_inb : ∀ (i : grid0.Coords) (v335 : BitVec 32) (k0_hw1 : k0_chk1 i v335) (k0_t2 : Fin (k0_t2_loop v335).trips), ∀ (k0_h1 : k0_cond1 i = 1#1), ∀ (r : Fin 2), ∀ a, (k0_off21 v335 k0_t2 (BitVec.ofNat 32 r.val)) a + S1x1x2x128x128.size a ≤ S2x64x2x128x128.size a := fun i v335 k0_hw1 k0_t2 k0_h1 r => k0_hw1.1.2.2.2.2.2.2.2.2.2.2.2.2.2.2.2.2.2.2.2.2.2.2.2.1 k0_t2 k0_h1 r
theorem k0_off21_wordsfp8e4m3 : ∀ (i : grid0.Coords) (v335 : BitVec 32) (k0_hw1 : k0_chk1 i v335) (k0_t2 : Fin (k0_t2_loop v335).trips), ∀ (k0_h1 : k0_cond1 i = 1#1), ∀ (r : Fin 2), (Rect.unit (s := S2x64x2x128x128) (k0_off21 v335 k0_t2 (BitVec.ofNat 32 r.val)) S1x1x2x128x128.size (k0_off21_inb i v335 k0_hw1 k0_t2 k0_h1 r)).WholeWords (EltTy.packing .fp8e4m3) := fun i v335 k0_hw1 k0_t2 k0_h1 r => k0_hw1.1.2.2.2.2.2.2.2.2.2.2.2.2.2.2.2.2.2.2.2.2.2.2.2.2.1 k0_t2 k0_h1 r (k0_off21_inb i v335 k0_hw1 k0_t2 k0_h1 r)
theorem k0_off23_inb : ∀ (i : grid0.Coords) (v335 : BitVec 32) (k0_hw1 : k0_chk1 i v335) (k0_t2 : Fin (k0_t2_loop v335).trips), ∀ (k0_h1 : k0_cond1 i = 1#1), ∀ a, (k0_off23 v335 k0_t2) a + S1x1.size a ≤ S2x16.size a := fun i v335 k0_hw1 k0_t2 k0_h1 => k0_hw1.1.2.2.2.2.2.2.2.2.2.2.2.2.2.2.2.2.2.2.2.2.2.2.2.2.2.1 k0_t2 k0_h1
theorem k0_off24_inb : ∀ (i : grid0.Coords) (v335 : BitVec 32) (k0_hw1 : k0_chk1 i v335) (k0_t2 : Fin (k0_t2_loop v335).trips), ∀ (k0_h1 : k0_cond1 i = 1#1), ∀ (r : Fin 2), ∀ a, (k0_off24 v335 k0_t2 (BitVec.ofNat 32 (1 + r.val))) a + S1x1x2x128x128.size a ≤ S2x64x2x128x128.size a := fun i v335 k0_hw1 k0_t2 k0_h1 r => k0_hw1.1.2.2.2.2.2.2.2.2.2.2.2.2.2.2.2.2.2.2.2.2.2.2.2.2.2.2.1 k0_t2 k0_h1 r
theorem k0_off24_wordsfp8e4m3 : ∀ (i : grid0.Coords) (v335 : BitVec 32) (k0_hw1 : k0_chk1 i v335) (k0_t2 : Fin (k0_t2_loop v335).trips), ∀ (k0_h1 : k0_cond1 i = 1#1), ∀ (r : Fin 2), (Rect.unit (s := S2x64x2x128x128) (k0_off24 v335 k0_t2 (BitVec.ofNat 32 (1 + r.val))) S1x1x2x128x128.size (k0_off24_inb i v335 k0_hw1 k0_t2 k0_h1 r)).WholeWords (EltTy.packing .fp8e4m3) := fun i v335 k0_hw1 k0_t2 k0_h1 r => k0_hw1.1.2.2.2.2.2.2.2.2.2.2.2.2.2.2.2.2.2.2.2.2.2.2.2.2.2.2.2.1 k0_t2 k0_h1 r (k0_off24_inb i v335 k0_hw1 k0_t2 k0_h1 r)
theorem k0_off26_inb : ∀ (i : grid0.Coords) (v335 : BitVec 32) (k0_hw1 : k0_chk1 i v335) (k0_t2 : Fin (k0_t2_loop v335).trips), ∀ (k0_h1 : k0_cond1 i = 1#1), ∀ a, (k0_off26 v335 k0_t2) a + S1x1.size a ≤ S2x16.size a := fun i v335 k0_hw1 k0_t2 k0_h1 => k0_hw1.1.2.2.2.2.2.2.2.2.2.2.2.2.2.2.2.2.2.2.2.2.2.2.2.2.2.2.2.2.1 k0_t2 k0_h1
theorem k0_off27_inb : ∀ (i : grid0.Coords) (v335 : BitVec 32) (k0_hw1 : k0_chk1 i v335) (k0_t2 : Fin (k0_t2_loop v335).trips), ∀ (k0_h1 : k0_cond1 i = 1#1), ∀ (r : Fin 2), ∀ a, (k0_off27 v335 k0_t2 (BitVec.ofNat 32 (2 + r.val))) a + S1x1x2x128x128.size a ≤ S2x64x2x128x128.size a := fun i v335 k0_hw1 k0_t2 k0_h1 r => k0_hw1.1.2.2.2.2.2.2.2.2.2.2.2.2.2.2.2.2.2.2.2.2.2.2.2.2.2.2.2.2.2.1 k0_t2 k0_h1 r
theorem k0_off27_wordsfp8e4m3 : ∀ (i : grid0.Coords) (v335 : BitVec 32) (k0_hw1 : k0_chk1 i v335) (k0_t2 : Fin (k0_t2_loop v335).trips), ∀ (k0_h1 : k0_cond1 i = 1#1), ∀ (r : Fin 2), (Rect.unit (s := S2x64x2x128x128) (k0_off27 v335 k0_t2 (BitVec.ofNat 32 (2 + r.val))) S1x1x2x128x128.size (k0_off27_inb i v335 k0_hw1 k0_t2 k0_h1 r)).WholeWords (EltTy.packing .fp8e4m3) := fun i v335 k0_hw1 k0_t2 k0_h1 r => k0_hw1.1.2.2.2.2.2.2.2.2.2.2.2.2.2.2.2.2.2.2.2.2.2.2.2.2.2.2.2.2.2.2.1 k0_t2 k0_h1 r (k0_off27_inb i v335 k0_hw1 k0_t2 k0_h1 r)
theorem k0_off29_inb : ∀ (i : grid0.Coords) (v335 : BitVec 32) (k0_hw1 : k0_chk1 i v335) (k0_t2 : Fin (k0_t2_loop v335).trips), ∀ (k0_h1 : k0_cond1 i = 1#1), ∀ a, (k0_off29 v335 k0_t2) a + S1x1.size a ≤ S2x16.size a := fun i v335 k0_hw1 k0_t2 k0_h1 => k0_hw1.1.2.2.2.2.2.2.2.2.2.2.2.2.2.2.2.2.2.2.2.2.2.2.2.2.2.2.2.2.2.2.2 k0_t2 k0_h1
theorem k0_off30_inb : ∀ (i : grid0.Coords) (v335 : BitVec 32) (k0_hw1 : k0_chk1 i v335) (k0_t2 : Fin (k0_t2_loop v335).trips), ∀ (k0_h1 : k0_cond1 i = 1#1), ∀ a, (k0_off30 v335 k0_t2) a + S1x1x2x128x128.size a ≤ S2x64x2x128x128.size a := fun i v335 k0_hw1 k0_t2 k0_h1 => k0_hw1.2.1 k0_t2 k0_h1
theorem k0_off30_wordsfp8e4m3 : ∀ (i : grid0.Coords) (v335 : BitVec 32) (k0_hw1 : k0_chk1 i v335) (k0_t2 : Fin (k0_t2_loop v335).trips), ∀ (k0_h1 : k0_cond1 i = 1#1), (Rect.unit (s := S2x64x2x128x128) (k0_off30 v335 k0_t2) S1x1x2x128x128.size (k0_off30_inb i v335 k0_hw1 k0_t2 k0_h1)).WholeWords (EltTy.packing .fp8e4m3) := fun i v335 k0_hw1 k0_t2 k0_h1 => k0_hw1.2.2 k0_t2 k0_h1 (k0_off30_inb i v335 k0_hw1 k0_t2 k0_h1)

def k0_cond2 (i : grid0.Coords) : BitVec 1 :=
  let arg0 : BitVec 32 := BitVec.ofNat 32 (i 0).val
  let c1_i32 : BitVec 32 := 1#32
  let v4 : BitVec 32 := Scalar.addi arg0 c1_i32
  let c32_i32 : BitVec 32 := 32#32
  let v5 : BitVec 1 := Scalar.cmpi .slt v4 c32_i32
  let v6 : BitVec 32 := Scalar.extui v5
  let c0_i32_1 : BitVec 32 := 0#32
  let v7 : BitVec 1 := Scalar.cmpi .ne v6 c0_i32_1
  v7

def k0_off31 (i : grid0.Coords) : Fin 1 → Nat :=
  let arg0 : BitVec 32 := BitVec.ofNat 32 (i 0).val
  let c1_i32_178 : BitVec 32 := 1#32
  let v335 : BitVec 32 := Scalar.addi arg0 c1_i32_178
  let v337 : Index := Scalar.indexCast v335
  ![v337.toNat]
@[reducible] def k0_t3_loop (v338 : BitVec 32) : Scf.Loop 32 :=
  let c0_i32_183 : BitVec 32 := 0#32
  let c511_i32_180 : BitVec 32 := 511#32
  let v339 : BitVec 32 := Scalar.addi v338 c511_i32_180
  let c9_i32_181 : BitVec 32 := 9#32
  let v340 : BitVec 32 := Scalar.shrui v339 c9_i32_181
  let v341 : BitVec 32 := Scalar.subi v340 c0_i32_183
  let c1_i32_184 : BitVec 32 := 1#32
  let v343 : BitVec 32 := Scalar.divsi v341 c1_i32_184
  let v344 : BitVec 32 := Scalar.muli v343 c1_i32_184
  let v345 : BitVec 32 := Scalar.addi c0_i32_183 v344
  let c1_i32_185 : BitVec 32 := 1#32
  ⟨c0_i32_183, v345, c1_i32_185⟩

def k0_off32 (i : grid0.Coords) (v338 : BitVec 32) (k0_t3 : Fin (k0_t3_loop v338).trips) (c0_i32_187 : BitVec 32) : Fin 2 → Nat :=
  let arg0 : BitVec 32 := BitVec.ofNat 32 (i 0).val
  let c1_i32_178 : BitVec 32 := 1#32
  let v335 : BitVec 32 := Scalar.addi arg0 c1_i32_178
  let v348 : Index := Scalar.indexCast v335
  let c0_i32_183 : BitVec 32 := 0#32
  let c1_i32_185 : BitVec 32 := 1#32
  let arg17 : BitVec 32 := Scf.iv c0_i32_183 c1_i32_185 k0_t3
  let c4_i32 : BitVec 32 := 4#32
  let v346 : BitVec 32 := Scalar.muli arg17 c4_i32
  let v347 : BitVec 32 := Scalar.addi v346 c0_i32_187
  let v349 : Index := Scalar.indexCast v347
  ![v348.toNat, v349.toNat]
def k0_off33 (i : grid0.Coords) (v338 : BitVec 32) (k0_t3 : Fin (k0_t3_loop v338).trips) : Fin 2 → Nat :=
  let c1_i32_179 : BitVec 32 := 1#32
  let arg0 : BitVec 32 := BitVec.ofNat 32 (i 0).val
  let c2_i32 : BitVec 32 := 2#32
  let v0 : BitVec 32 := Scalar.remsi arg0 c2_i32
  let v336 : BitVec 32 := Scalar.subi c1_i32_179 v0
  let c0_i32_183 : BitVec 32 := 0#32
  let c1_i32_185 : BitVec 32 := 1#32
  let arg17 : BitVec 32 := Scf.iv c0_i32_183 c1_i32_185 k0_t3
  ![v336.toNat, arg17.toNat]
def k0_off34 (i : grid0.Coords) (v338 : BitVec 32) (k0_t3 : Fin (k0_t3_loop v338).trips) : Fin 5 → Nat :=
  let c1_i32_179 : BitVec 32 := 1#32
  let arg0 : BitVec 32 := BitVec.ofNat 32 (i 0).val
  let c2_i32 : BitVec 32 := 2#32
  let v0 : BitVec 32 := Scalar.remsi arg0 c2_i32
  let v336 : BitVec 32 := Scalar.subi c1_i32_179 v0
  let c0_i32_183 : BitVec 32 := 0#32
  let c1_i32_185 : BitVec 32 := 1#32
  let arg17 : BitVec 32 := Scf.iv c0_i32_183 c1_i32_185 k0_t3
  let c4_i32 : BitVec 32 := 4#32
  let v346 : BitVec 32 := Scalar.muli arg17 c4_i32
  let c0_i32_187 : BitVec 32 := 0#32
  let v347 : BitVec 32 := Scalar.addi v346 c0_i32_187
  let c0_i32_193 : BitVec 32 := 0#32
  let c0_i32_194 : BitVec 32 := 0#32
  let c0_i32_195 : BitVec 32 := 0#32
  ![v336.toNat, v347.toNat, 0, 0, 0]
def k0_off35 (v350 : BitVec 32) : Fin 4 → Nat :=
  let c0_i32_196 : BitVec 32 := 0#32
  let c0_i32_197 : BitVec 32 := 0#32
  let c0_i32_198 : BitVec 32 := 0#32
  ![v350.toNat, 0, 0, 0]

def k0_chk11 (i : grid0.Coords) (v350 : BitVec 32) : Prop :=
  (∀ (k0_h2 : k0_cond2 i = 1#1), ∀ a, (k0_off35 v350) a + S1x2x128x128.size a ≤ S2048x2x128x128.size a) ∧
  (∀ (k0_h2 : k0_cond2 i = 1#1), ∀ (hinb : ∀ a, (k0_off35 v350) a + S1x2x128x128.size a ≤ S2048x2x128x128.size a), (Rect.unit (s := S2048x2x128x128) (k0_off35 v350) S1x2x128x128.size hinb).WholeWords (EltTy.packing .fp8e4m3))
theorem k0_off35_inb : ∀ (i : grid0.Coords) (v350 : BitVec 32) (k0_hw11 : k0_chk11 i v350), ∀ (k0_h2 : k0_cond2 i = 1#1), ∀ a, (k0_off35 v350) a + S1x2x128x128.size a ≤ S2048x2x128x128.size a := fun i v350 k0_hw11 k0_h2 => k0_hw11.1 k0_h2
theorem k0_off35_wordsfp8e4m3 : ∀ (i : grid0.Coords) (v350 : BitVec 32) (k0_hw11 : k0_chk11 i v350), ∀ (k0_h2 : k0_cond2 i = 1#1), (Rect.unit (s := S2048x2x128x128) (k0_off35 v350) S1x2x128x128.size (k0_off35_inb i v350 k0_hw11 k0_h2)).WholeWords (EltTy.packing .fp8e4m3) := fun i v350 k0_hw11 k0_h2 => k0_hw11.2 k0_h2 (k0_off35_inb i v350 k0_hw11 k0_h2)

def k0_off36 (i : grid0.Coords) (v338 : BitVec 32) (k0_t3 : Fin (k0_t3_loop v338).trips) : Fin 2 → Nat :=
  let c1_i32_179 : BitVec 32 := 1#32
  let arg0 : BitVec 32 := BitVec.ofNat 32 (i 0).val
  let c2_i32 : BitVec 32 := 2#32
  let v0 : BitVec 32 := Scalar.remsi arg0 c2_i32
  let v336 : BitVec 32 := Scalar.subi c1_i32_179 v0
  let c0_i32_183 : BitVec 32 := 0#32
  let c1_i32_185 : BitVec 32 := 1#32
  let arg17 : BitVec 32 := Scf.iv c0_i32_183 c1_i32_185 k0_t3
  ![v336.toNat, arg17.toNat]
def k0_off37 (i : grid0.Coords) (v338 : BitVec 32) (k0_t3 : Fin (k0_t3_loop v338).trips) (c0_i32_187 : BitVec 32) : Fin 5 → Nat :=
  let c1_i32_179 : BitVec 32 := 1#32
  let arg0 : BitVec 32 := BitVec.ofNat 32 (i 0).val
  let c2_i32 : BitVec 32 := 2#32
  let v0 : BitVec 32 := Scalar.remsi arg0 c2_i32
  let v336 : BitVec 32 := Scalar.subi c1_i32_179 v0
  let c0_i32_183 : BitVec 32 := 0#32
  let c1_i32_185 : BitVec 32 := 1#32
  let arg17 : BitVec 32 := Scf.iv c0_i32_183 c1_i32_185 k0_t3
  let c4_i32 : BitVec 32 := 4#32
  let v346 : BitVec 32 := Scalar.muli arg17 c4_i32
  let v347 : BitVec 32 := Scalar.addi v346 c0_i32_187
  let c0_i32_199 : BitVec 32 := 0#32
  let c0_i32_200 : BitVec 32 := 0#32
  let c0_i32_201 : BitVec 32 := 0#32
  ![v336.toNat, v347.toNat, 0, 0, 0]
def k0_off38 (v355 : BitVec 32) : Fin 4 → Nat :=
  let c0_i32_208 : BitVec 32 := 0#32
  let c0_i32_209 : BitVec 32 := 0#32
  let c0_i32_210 : BitVec 32 := 0#32
  ![v355.toNat, 0, 0, 0]

def k0_chk12 (i : grid0.Coords) (v355 : BitVec 32) : Prop :=
  (∀ (k0_h2 : k0_cond2 i = 1#1), ∀ a, (k0_off38 v355) a + S1x2x128x128.size a ≤ S2048x2x128x128.size a) ∧
  (∀ (k0_h2 : k0_cond2 i = 1#1), ∀ (hinb : ∀ a, (k0_off38 v355) a + S1x2x128x128.size a ≤ S2048x2x128x128.size a), (Rect.unit (s := S2048x2x128x128) (k0_off38 v355) S1x2x128x128.size hinb).WholeWords (EltTy.packing .fp8e4m3))
theorem k0_off38_inb : ∀ (i : grid0.Coords) (v355 : BitVec 32) (k0_hw12 : k0_chk12 i v355), ∀ (k0_h2 : k0_cond2 i = 1#1), ∀ a, (k0_off38 v355) a + S1x2x128x128.size a ≤ S2048x2x128x128.size a := fun i v355 k0_hw12 k0_h2 => k0_hw12.1 k0_h2
theorem k0_off38_wordsfp8e4m3 : ∀ (i : grid0.Coords) (v355 : BitVec 32) (k0_hw12 : k0_chk12 i v355), ∀ (k0_h2 : k0_cond2 i = 1#1), (Rect.unit (s := S2048x2x128x128) (k0_off38 v355) S1x2x128x128.size (k0_off38_inb i v355 k0_hw12 k0_h2)).WholeWords (EltTy.packing .fp8e4m3) := fun i v355 k0_hw12 k0_h2 => k0_hw12.2 k0_h2 (k0_off38_inb i v355 k0_hw12 k0_h2)

def k0_off39 (i : grid0.Coords) (v338 : BitVec 32) (k0_t3 : Fin (k0_t3_loop v338).trips) : Fin 2 → Nat :=
  let c1_i32_179 : BitVec 32 := 1#32
  let arg0 : BitVec 32 := BitVec.ofNat 32 (i 0).val
  let c2_i32 : BitVec 32 := 2#32
  let v0 : BitVec 32 := Scalar.remsi arg0 c2_i32
  let v336 : BitVec 32 := Scalar.subi c1_i32_179 v0
  let c0_i32_183 : BitVec 32 := 0#32
  let c1_i32_185 : BitVec 32 := 1#32
  let arg17 : BitVec 32 := Scf.iv c0_i32_183 c1_i32_185 k0_t3
  ![v336.toNat, arg17.toNat]
def k0_off40 (i : grid0.Coords) (v338 : BitVec 32) (k0_t3 : Fin (k0_t3_loop v338).trips) (c1_i32_189 : BitVec 32) : Fin 5 → Nat :=
  let c1_i32_179 : BitVec 32 := 1#32
  let arg0 : BitVec 32 := BitVec.ofNat 32 (i 0).val
  let c2_i32 : BitVec 32 := 2#32
  let v0 : BitVec 32 := Scalar.remsi arg0 c2_i32
  let v336 : BitVec 32 := Scalar.subi c1_i32_179 v0
  let c0_i32_183 : BitVec 32 := 0#32
  let c1_i32_185 : BitVec 32 := 1#32
  let arg17 : BitVec 32 := Scf.iv c0_i32_183 c1_i32_185 k0_t3
  let c4_i32_188 : BitVec 32 := 4#32
  let v351 : BitVec 32 := Scalar.muli arg17 c4_i32_188
  let v352 : BitVec 32 := Scalar.addi v351 c1_i32_189
  let c0_i32_211 : BitVec 32 := 0#32
  let c0_i32_212 : BitVec 32 := 0#32
  let c0_i32_213 : BitVec 32 := 0#32
  ![v336.toNat, v352.toNat, 0, 0, 0]
def k0_off41 (v360 : BitVec 32) : Fin 4 → Nat :=
  let c0_i32_220 : BitVec 32 := 0#32
  let c0_i32_221 : BitVec 32 := 0#32
  let c0_i32_222 : BitVec 32 := 0#32
  ![v360.toNat, 0, 0, 0]

def k0_chk13 (i : grid0.Coords) (v360 : BitVec 32) : Prop :=
  (∀ (k0_h2 : k0_cond2 i = 1#1), ∀ a, (k0_off41 v360) a + S1x2x128x128.size a ≤ S2048x2x128x128.size a) ∧
  (∀ (k0_h2 : k0_cond2 i = 1#1), ∀ (hinb : ∀ a, (k0_off41 v360) a + S1x2x128x128.size a ≤ S2048x2x128x128.size a), (Rect.unit (s := S2048x2x128x128) (k0_off41 v360) S1x2x128x128.size hinb).WholeWords (EltTy.packing .fp8e4m3))
theorem k0_off41_inb : ∀ (i : grid0.Coords) (v360 : BitVec 32) (k0_hw13 : k0_chk13 i v360), ∀ (k0_h2 : k0_cond2 i = 1#1), ∀ a, (k0_off41 v360) a + S1x2x128x128.size a ≤ S2048x2x128x128.size a := fun i v360 k0_hw13 k0_h2 => k0_hw13.1 k0_h2
theorem k0_off41_wordsfp8e4m3 : ∀ (i : grid0.Coords) (v360 : BitVec 32) (k0_hw13 : k0_chk13 i v360), ∀ (k0_h2 : k0_cond2 i = 1#1), (Rect.unit (s := S2048x2x128x128) (k0_off41 v360) S1x2x128x128.size (k0_off41_inb i v360 k0_hw13 k0_h2)).WholeWords (EltTy.packing .fp8e4m3) := fun i v360 k0_hw13 k0_h2 => k0_hw13.2 k0_h2 (k0_off41_inb i v360 k0_hw13 k0_h2)

def k0_off42 (i : grid0.Coords) (v338 : BitVec 32) (k0_t3 : Fin (k0_t3_loop v338).trips) : Fin 2 → Nat :=
  let c1_i32_179 : BitVec 32 := 1#32
  let arg0 : BitVec 32 := BitVec.ofNat 32 (i 0).val
  let c2_i32 : BitVec 32 := 2#32
  let v0 : BitVec 32 := Scalar.remsi arg0 c2_i32
  let v336 : BitVec 32 := Scalar.subi c1_i32_179 v0
  let c0_i32_183 : BitVec 32 := 0#32
  let c1_i32_185 : BitVec 32 := 1#32
  let arg17 : BitVec 32 := Scf.iv c0_i32_183 c1_i32_185 k0_t3
  ![v336.toNat, arg17.toNat]
def k0_off43 (i : grid0.Coords) (v338 : BitVec 32) (k0_t3 : Fin (k0_t3_loop v338).trips) (c2_i32_191 : BitVec 32) : Fin 5 → Nat :=
  let c1_i32_179 : BitVec 32 := 1#32
  let arg0 : BitVec 32 := BitVec.ofNat 32 (i 0).val
  let c2_i32 : BitVec 32 := 2#32
  let v0 : BitVec 32 := Scalar.remsi arg0 c2_i32
  let v336 : BitVec 32 := Scalar.subi c1_i32_179 v0
  let c0_i32_183 : BitVec 32 := 0#32
  let c1_i32_185 : BitVec 32 := 1#32
  let arg17 : BitVec 32 := Scf.iv c0_i32_183 c1_i32_185 k0_t3
  let c4_i32_190 : BitVec 32 := 4#32
  let v356 : BitVec 32 := Scalar.muli arg17 c4_i32_190
  let v357 : BitVec 32 := Scalar.addi v356 c2_i32_191
  let c0_i32_223 : BitVec 32 := 0#32
  let c0_i32_224 : BitVec 32 := 0#32
  let c0_i32_225 : BitVec 32 := 0#32
  ![v336.toNat, v357.toNat, 0, 0, 0]
def k0_off44 (v365 : BitVec 32) : Fin 4 → Nat :=
  let c0_i32_232 : BitVec 32 := 0#32
  let c0_i32_233 : BitVec 32 := 0#32
  let c0_i32_234 : BitVec 32 := 0#32
  ![v365.toNat, 0, 0, 0]

def k0_chk14 (i : grid0.Coords) (v365 : BitVec 32) : Prop :=
  (∀ (k0_h2 : k0_cond2 i = 1#1), ∀ a, (k0_off44 v365) a + S1x2x128x128.size a ≤ S2048x2x128x128.size a) ∧
  (∀ (k0_h2 : k0_cond2 i = 1#1), ∀ (hinb : ∀ a, (k0_off44 v365) a + S1x2x128x128.size a ≤ S2048x2x128x128.size a), (Rect.unit (s := S2048x2x128x128) (k0_off44 v365) S1x2x128x128.size hinb).WholeWords (EltTy.packing .fp8e4m3))
theorem k0_off44_inb : ∀ (i : grid0.Coords) (v365 : BitVec 32) (k0_hw14 : k0_chk14 i v365), ∀ (k0_h2 : k0_cond2 i = 1#1), ∀ a, (k0_off44 v365) a + S1x2x128x128.size a ≤ S2048x2x128x128.size a := fun i v365 k0_hw14 k0_h2 => k0_hw14.1 k0_h2
theorem k0_off44_wordsfp8e4m3 : ∀ (i : grid0.Coords) (v365 : BitVec 32) (k0_hw14 : k0_chk14 i v365), ∀ (k0_h2 : k0_cond2 i = 1#1), (Rect.unit (s := S2048x2x128x128) (k0_off44 v365) S1x2x128x128.size (k0_off44_inb i v365 k0_hw14 k0_h2)).WholeWords (EltTy.packing .fp8e4m3) := fun i v365 k0_hw14 k0_h2 => k0_hw14.2 k0_h2 (k0_off44_inb i v365 k0_hw14 k0_h2)

def k0_off45 (i : grid0.Coords) (v338 : BitVec 32) (k0_t3 : Fin (k0_t3_loop v338).trips) : Fin 2 → Nat :=
  let c1_i32_179 : BitVec 32 := 1#32
  let arg0 : BitVec 32 := BitVec.ofNat 32 (i 0).val
  let c2_i32 : BitVec 32 := 2#32
  let v0 : BitVec 32 := Scalar.remsi arg0 c2_i32
  let v336 : BitVec 32 := Scalar.subi c1_i32_179 v0
  let c0_i32_183 : BitVec 32 := 0#32
  let c1_i32_185 : BitVec 32 := 1#32
  let arg17 : BitVec 32 := Scf.iv c0_i32_183 c1_i32_185 k0_t3
  ![v336.toNat, arg17.toNat]
def k0_off46 (i : grid0.Coords) (v338 : BitVec 32) (k0_t3 : Fin (k0_t3_loop v338).trips) : Fin 5 → Nat :=
  let c1_i32_179 : BitVec 32 := 1#32
  let arg0 : BitVec 32 := BitVec.ofNat 32 (i 0).val
  let c2_i32 : BitVec 32 := 2#32
  let v0 : BitVec 32 := Scalar.remsi arg0 c2_i32
  let v336 : BitVec 32 := Scalar.subi c1_i32_179 v0
  let c0_i32_183 : BitVec 32 := 0#32
  let c1_i32_185 : BitVec 32 := 1#32
  let arg17 : BitVec 32 := Scf.iv c0_i32_183 c1_i32_185 k0_t3
  let c4_i32_192 : BitVec 32 := 4#32
  let v361 : BitVec 32 := Scalar.muli arg17 c4_i32_192
  let c3_i32 : BitVec 32 := 3#32
  let v362 : BitVec 32 := Scalar.addi v361 c3_i32
  let c0_i32_235 : BitVec 32 := 0#32
  let c0_i32_236 : BitVec 32 := 0#32
  let c0_i32_237 : BitVec 32 := 0#32
  ![v336.toNat, v362.toNat, 0, 0, 0]
@[reducible] def k0_t4_loop (v338 : BitVec 32) : Scf.Loop 32 :=
  let c0_i32_183 : BitVec 32 := 0#32
  let c511_i32_180 : BitVec 32 := 511#32
  let v339 : BitVec 32 := Scalar.addi v338 c511_i32_180
  let c9_i32_181 : BitVec 32 := 9#32
  let v340 : BitVec 32 := Scalar.shrui v339 c9_i32_181
  let v341 : BitVec 32 := Scalar.subi v340 c0_i32_183
  let c1_i32_184 : BitVec 32 := 1#32
  let v343 : BitVec 32 := Scalar.divsi v341 c1_i32_184
  let v344 : BitVec 32 := Scalar.muli v343 c1_i32_184
  let v345 : BitVec 32 := Scalar.addi c0_i32_183 v344
  let v342 : BitVec 32 := Scalar.addi c0_i32_183 v341
  let c1_i32_186 : BitVec 32 := 1#32
  ⟨v345, v342, c1_i32_186⟩
def k0_off47 (i : grid0.Coords) (v338 : BitVec 32) (k0_t4 : Fin (k0_t4_loop v338).trips) (c0_i32_187 : BitVec 32) : Fin 2 → Nat :=
  let arg0 : BitVec 32 := BitVec.ofNat 32 (i 0).val
  let c1_i32_178 : BitVec 32 := 1#32
  let v335 : BitVec 32 := Scalar.addi arg0 c1_i32_178
  let v348 : Index := Scalar.indexCast v335
  let c0_i32_183 : BitVec 32 := 0#32
  let c511_i32_180 : BitVec 32 := 511#32
  let v339 : BitVec 32 := Scalar.addi v338 c511_i32_180
  let c9_i32_181 : BitVec 32 := 9#32
  let v340 : BitVec 32 := Scalar.shrui v339 c9_i32_181
  let v341 : BitVec 32 := Scalar.subi v340 c0_i32_183
  let c1_i32_184 : BitVec 32 := 1#32
  let v343 : BitVec 32 := Scalar.divsi v341 c1_i32_184
  let v344 : BitVec 32 := Scalar.muli v343 c1_i32_184
  let v345 : BitVec 32 := Scalar.addi c0_i32_183 v344
  let c1_i32_186 : BitVec 32 := 1#32
  let arg17 : BitVec 32 := Scf.iv v345 c1_i32_186 k0_t4
  let c4_i32 : BitVec 32 := 4#32
  let v346 : BitVec 32 := Scalar.muli arg17 c4_i32
  let v347 : BitVec 32 := Scalar.addi v346 c0_i32_187
  let v349 : Index := Scalar.indexCast v347
  ![v348.toNat, v349.toNat]
def k0_off48 (i : grid0.Coords) (v338 : BitVec 32) (k0_t4 : Fin (k0_t4_loop v338).trips) : Fin 2 → Nat :=
  let c1_i32_179 : BitVec 32 := 1#32
  let arg0 : BitVec 32 := BitVec.ofNat 32 (i 0).val
  let c2_i32 : BitVec 32 := 2#32
  let v0 : BitVec 32 := Scalar.remsi arg0 c2_i32
  let v336 : BitVec 32 := Scalar.subi c1_i32_179 v0
  let c0_i32_183 : BitVec 32 := 0#32
  let c511_i32_180 : BitVec 32 := 511#32
  let v339 : BitVec 32 := Scalar.addi v338 c511_i32_180
  let c9_i32_181 : BitVec 32 := 9#32
  let v340 : BitVec 32 := Scalar.shrui v339 c9_i32_181
  let v341 : BitVec 32 := Scalar.subi v340 c0_i32_183
  let c1_i32_184 : BitVec 32 := 1#32
  let v343 : BitVec 32 := Scalar.divsi v341 c1_i32_184
  let v344 : BitVec 32 := Scalar.muli v343 c1_i32_184
  let v345 : BitVec 32 := Scalar.addi c0_i32_183 v344
  let c1_i32_186 : BitVec 32 := 1#32
  let arg17 : BitVec 32 := Scf.iv v345 c1_i32_186 k0_t4
  ![v336.toNat, arg17.toNat]
def k0_off49 (i : grid0.Coords) (v338 : BitVec 32) (k0_t4 : Fin (k0_t4_loop v338).trips) : Fin 5 → Nat :=
  let c1_i32_179 : BitVec 32 := 1#32
  let arg0 : BitVec 32 := BitVec.ofNat 32 (i 0).val
  let c2_i32 : BitVec 32 := 2#32
  let v0 : BitVec 32 := Scalar.remsi arg0 c2_i32
  let v336 : BitVec 32 := Scalar.subi c1_i32_179 v0
  let c0_i32_183 : BitVec 32 := 0#32
  let c511_i32_180 : BitVec 32 := 511#32
  let v339 : BitVec 32 := Scalar.addi v338 c511_i32_180
  let c9_i32_181 : BitVec 32 := 9#32
  let v340 : BitVec 32 := Scalar.shrui v339 c9_i32_181
  let v341 : BitVec 32 := Scalar.subi v340 c0_i32_183
  let c1_i32_184 : BitVec 32 := 1#32
  let v343 : BitVec 32 := Scalar.divsi v341 c1_i32_184
  let v344 : BitVec 32 := Scalar.muli v343 c1_i32_184
  let v345 : BitVec 32 := Scalar.addi c0_i32_183 v344
  let c1_i32_186 : BitVec 32 := 1#32
  let arg17 : BitVec 32 := Scf.iv v345 c1_i32_186 k0_t4
  let c4_i32 : BitVec 32 := 4#32
  let v346 : BitVec 32 := Scalar.muli arg17 c4_i32
  let c0_i32_187 : BitVec 32 := 0#32
  let v347 : BitVec 32 := Scalar.addi v346 c0_i32_187
  let c0_i32_193 : BitVec 32 := 0#32
  let c0_i32_194 : BitVec 32 := 0#32
  let c0_i32_195 : BitVec 32 := 0#32
  ![v336.toNat, v347.toNat, 0, 0, 0]
def k0_off50 (v350 : BitVec 32) : Fin 4 → Nat :=
  let c0_i32_196 : BitVec 32 := 0#32
  let c0_i32_197 : BitVec 32 := 0#32
  let c0_i32_198 : BitVec 32 := 0#32
  ![v350.toNat, 0, 0, 0]

def k0_chk15 (i : grid0.Coords) (v350 : BitVec 32) : Prop :=
  (∀ (k0_h2 : k0_cond2 i = 1#1), ∀ a, (k0_off50 v350) a + S1x2x128x128.size a ≤ S2048x2x128x128.size a) ∧
  (∀ (k0_h2 : k0_cond2 i = 1#1), ∀ (hinb : ∀ a, (k0_off50 v350) a + S1x2x128x128.size a ≤ S2048x2x128x128.size a), (Rect.unit (s := S2048x2x128x128) (k0_off50 v350) S1x2x128x128.size hinb).WholeWords (EltTy.packing .fp8e4m3))
theorem k0_off50_inb : ∀ (i : grid0.Coords) (v350 : BitVec 32) (k0_hw15 : k0_chk15 i v350), ∀ (k0_h2 : k0_cond2 i = 1#1), ∀ a, (k0_off50 v350) a + S1x2x128x128.size a ≤ S2048x2x128x128.size a := fun i v350 k0_hw15 k0_h2 => k0_hw15.1 k0_h2
theorem k0_off50_wordsfp8e4m3 : ∀ (i : grid0.Coords) (v350 : BitVec 32) (k0_hw15 : k0_chk15 i v350), ∀ (k0_h2 : k0_cond2 i = 1#1), (Rect.unit (s := S2048x2x128x128) (k0_off50 v350) S1x2x128x128.size (k0_off50_inb i v350 k0_hw15 k0_h2)).WholeWords (EltTy.packing .fp8e4m3) := fun i v350 k0_hw15 k0_h2 => k0_hw15.2 k0_h2 (k0_off50_inb i v350 k0_hw15 k0_h2)

def k0_off51 (i : grid0.Coords) (v338 : BitVec 32) (k0_t4 : Fin (k0_t4_loop v338).trips) : Fin 2 → Nat :=
  let c1_i32_179 : BitVec 32 := 1#32
  let arg0 : BitVec 32 := BitVec.ofNat 32 (i 0).val
  let c2_i32 : BitVec 32 := 2#32
  let v0 : BitVec 32 := Scalar.remsi arg0 c2_i32
  let v336 : BitVec 32 := Scalar.subi c1_i32_179 v0
  let c0_i32_183 : BitVec 32 := 0#32
  let c511_i32_180 : BitVec 32 := 511#32
  let v339 : BitVec 32 := Scalar.addi v338 c511_i32_180
  let c9_i32_181 : BitVec 32 := 9#32
  let v340 : BitVec 32 := Scalar.shrui v339 c9_i32_181
  let v341 : BitVec 32 := Scalar.subi v340 c0_i32_183
  let c1_i32_184 : BitVec 32 := 1#32
  let v343 : BitVec 32 := Scalar.divsi v341 c1_i32_184
  let v344 : BitVec 32 := Scalar.muli v343 c1_i32_184
  let v345 : BitVec 32 := Scalar.addi c0_i32_183 v344
  let c1_i32_186 : BitVec 32 := 1#32
  let arg17 : BitVec 32 := Scf.iv v345 c1_i32_186 k0_t4
  ![v336.toNat, arg17.toNat]
def k0_off52 (i : grid0.Coords) (v338 : BitVec 32) (k0_t4 : Fin (k0_t4_loop v338).trips) (c0_i32_187 : BitVec 32) : Fin 5 → Nat :=
  let c1_i32_179 : BitVec 32 := 1#32
  let arg0 : BitVec 32 := BitVec.ofNat 32 (i 0).val
  let c2_i32 : BitVec 32 := 2#32
  let v0 : BitVec 32 := Scalar.remsi arg0 c2_i32
  let v336 : BitVec 32 := Scalar.subi c1_i32_179 v0
  let c0_i32_183 : BitVec 32 := 0#32
  let c511_i32_180 : BitVec 32 := 511#32
  let v339 : BitVec 32 := Scalar.addi v338 c511_i32_180
  let c9_i32_181 : BitVec 32 := 9#32
  let v340 : BitVec 32 := Scalar.shrui v339 c9_i32_181
  let v341 : BitVec 32 := Scalar.subi v340 c0_i32_183
  let c1_i32_184 : BitVec 32 := 1#32
  let v343 : BitVec 32 := Scalar.divsi v341 c1_i32_184
  let v344 : BitVec 32 := Scalar.muli v343 c1_i32_184
  let v345 : BitVec 32 := Scalar.addi c0_i32_183 v344
  let c1_i32_186 : BitVec 32 := 1#32
  let arg17 : BitVec 32 := Scf.iv v345 c1_i32_186 k0_t4
  let c4_i32 : BitVec 32 := 4#32
  let v346 : BitVec 32 := Scalar.muli arg17 c4_i32
  let v347 : BitVec 32 := Scalar.addi v346 c0_i32_187
  let c0_i32_199 : BitVec 32 := 0#32
  let c0_i32_200 : BitVec 32 := 0#32
  let c0_i32_201 : BitVec 32 := 0#32
  ![v336.toNat, v347.toNat, 0, 0, 0]
def k0_off53 (v355 : BitVec 32) : Fin 4 → Nat :=
  let c0_i32_208 : BitVec 32 := 0#32
  let c0_i32_209 : BitVec 32 := 0#32
  let c0_i32_210 : BitVec 32 := 0#32
  ![v355.toNat, 0, 0, 0]

def k0_chk16 (i : grid0.Coords) (v355 : BitVec 32) : Prop :=
  (∀ (k0_h2 : k0_cond2 i = 1#1), ∀ a, (k0_off53 v355) a + S1x2x128x128.size a ≤ S2048x2x128x128.size a) ∧
  (∀ (k0_h2 : k0_cond2 i = 1#1), ∀ (hinb : ∀ a, (k0_off53 v355) a + S1x2x128x128.size a ≤ S2048x2x128x128.size a), (Rect.unit (s := S2048x2x128x128) (k0_off53 v355) S1x2x128x128.size hinb).WholeWords (EltTy.packing .fp8e4m3))
theorem k0_off53_inb : ∀ (i : grid0.Coords) (v355 : BitVec 32) (k0_hw16 : k0_chk16 i v355), ∀ (k0_h2 : k0_cond2 i = 1#1), ∀ a, (k0_off53 v355) a + S1x2x128x128.size a ≤ S2048x2x128x128.size a := fun i v355 k0_hw16 k0_h2 => k0_hw16.1 k0_h2
theorem k0_off53_wordsfp8e4m3 : ∀ (i : grid0.Coords) (v355 : BitVec 32) (k0_hw16 : k0_chk16 i v355), ∀ (k0_h2 : k0_cond2 i = 1#1), (Rect.unit (s := S2048x2x128x128) (k0_off53 v355) S1x2x128x128.size (k0_off53_inb i v355 k0_hw16 k0_h2)).WholeWords (EltTy.packing .fp8e4m3) := fun i v355 k0_hw16 k0_h2 => k0_hw16.2 k0_h2 (k0_off53_inb i v355 k0_hw16 k0_h2)

def k0_off54 (i : grid0.Coords) (v338 : BitVec 32) (k0_t4 : Fin (k0_t4_loop v338).trips) : Fin 2 → Nat :=
  let c1_i32_179 : BitVec 32 := 1#32
  let arg0 : BitVec 32 := BitVec.ofNat 32 (i 0).val
  let c2_i32 : BitVec 32 := 2#32
  let v0 : BitVec 32 := Scalar.remsi arg0 c2_i32
  let v336 : BitVec 32 := Scalar.subi c1_i32_179 v0
  let c0_i32_183 : BitVec 32 := 0#32
  let c511_i32_180 : BitVec 32 := 511#32
  let v339 : BitVec 32 := Scalar.addi v338 c511_i32_180
  let c9_i32_181 : BitVec 32 := 9#32
  let v340 : BitVec 32 := Scalar.shrui v339 c9_i32_181
  let v341 : BitVec 32 := Scalar.subi v340 c0_i32_183
  let c1_i32_184 : BitVec 32 := 1#32
  let v343 : BitVec 32 := Scalar.divsi v341 c1_i32_184
  let v344 : BitVec 32 := Scalar.muli v343 c1_i32_184
  let v345 : BitVec 32 := Scalar.addi c0_i32_183 v344
  let c1_i32_186 : BitVec 32 := 1#32
  let arg17 : BitVec 32 := Scf.iv v345 c1_i32_186 k0_t4
  ![v336.toNat, arg17.toNat]
def k0_off55 (i : grid0.Coords) (v338 : BitVec 32) (k0_t4 : Fin (k0_t4_loop v338).trips) (c1_i32_189 : BitVec 32) : Fin 5 → Nat :=
  let c1_i32_179 : BitVec 32 := 1#32
  let arg0 : BitVec 32 := BitVec.ofNat 32 (i 0).val
  let c2_i32 : BitVec 32 := 2#32
  let v0 : BitVec 32 := Scalar.remsi arg0 c2_i32
  let v336 : BitVec 32 := Scalar.subi c1_i32_179 v0
  let c0_i32_183 : BitVec 32 := 0#32
  let c511_i32_180 : BitVec 32 := 511#32
  let v339 : BitVec 32 := Scalar.addi v338 c511_i32_180
  let c9_i32_181 : BitVec 32 := 9#32
  let v340 : BitVec 32 := Scalar.shrui v339 c9_i32_181
  let v341 : BitVec 32 := Scalar.subi v340 c0_i32_183
  let c1_i32_184 : BitVec 32 := 1#32
  let v343 : BitVec 32 := Scalar.divsi v341 c1_i32_184
  let v344 : BitVec 32 := Scalar.muli v343 c1_i32_184
  let v345 : BitVec 32 := Scalar.addi c0_i32_183 v344
  let c1_i32_186 : BitVec 32 := 1#32
  let arg17 : BitVec 32 := Scf.iv v345 c1_i32_186 k0_t4
  let c4_i32_188 : BitVec 32 := 4#32
  let v351 : BitVec 32 := Scalar.muli arg17 c4_i32_188
  let v352 : BitVec 32 := Scalar.addi v351 c1_i32_189
  let c0_i32_211 : BitVec 32 := 0#32
  let c0_i32_212 : BitVec 32 := 0#32
  let c0_i32_213 : BitVec 32 := 0#32
  ![v336.toNat, v352.toNat, 0, 0, 0]
def k0_off56 (v360 : BitVec 32) : Fin 4 → Nat :=
  let c0_i32_220 : BitVec 32 := 0#32
  let c0_i32_221 : BitVec 32 := 0#32
  let c0_i32_222 : BitVec 32 := 0#32
  ![v360.toNat, 0, 0, 0]

def k0_chk17 (i : grid0.Coords) (v360 : BitVec 32) : Prop :=
  (∀ (k0_h2 : k0_cond2 i = 1#1), ∀ a, (k0_off56 v360) a + S1x2x128x128.size a ≤ S2048x2x128x128.size a) ∧
  (∀ (k0_h2 : k0_cond2 i = 1#1), ∀ (hinb : ∀ a, (k0_off56 v360) a + S1x2x128x128.size a ≤ S2048x2x128x128.size a), (Rect.unit (s := S2048x2x128x128) (k0_off56 v360) S1x2x128x128.size hinb).WholeWords (EltTy.packing .fp8e4m3))
theorem k0_off56_inb : ∀ (i : grid0.Coords) (v360 : BitVec 32) (k0_hw17 : k0_chk17 i v360), ∀ (k0_h2 : k0_cond2 i = 1#1), ∀ a, (k0_off56 v360) a + S1x2x128x128.size a ≤ S2048x2x128x128.size a := fun i v360 k0_hw17 k0_h2 => k0_hw17.1 k0_h2
theorem k0_off56_wordsfp8e4m3 : ∀ (i : grid0.Coords) (v360 : BitVec 32) (k0_hw17 : k0_chk17 i v360), ∀ (k0_h2 : k0_cond2 i = 1#1), (Rect.unit (s := S2048x2x128x128) (k0_off56 v360) S1x2x128x128.size (k0_off56_inb i v360 k0_hw17 k0_h2)).WholeWords (EltTy.packing .fp8e4m3) := fun i v360 k0_hw17 k0_h2 => k0_hw17.2 k0_h2 (k0_off56_inb i v360 k0_hw17 k0_h2)

def k0_off57 (i : grid0.Coords) (v338 : BitVec 32) (k0_t4 : Fin (k0_t4_loop v338).trips) : Fin 2 → Nat :=
  let c1_i32_179 : BitVec 32 := 1#32
  let arg0 : BitVec 32 := BitVec.ofNat 32 (i 0).val
  let c2_i32 : BitVec 32 := 2#32
  let v0 : BitVec 32 := Scalar.remsi arg0 c2_i32
  let v336 : BitVec 32 := Scalar.subi c1_i32_179 v0
  let c0_i32_183 : BitVec 32 := 0#32
  let c511_i32_180 : BitVec 32 := 511#32
  let v339 : BitVec 32 := Scalar.addi v338 c511_i32_180
  let c9_i32_181 : BitVec 32 := 9#32
  let v340 : BitVec 32 := Scalar.shrui v339 c9_i32_181
  let v341 : BitVec 32 := Scalar.subi v340 c0_i32_183
  let c1_i32_184 : BitVec 32 := 1#32
  let v343 : BitVec 32 := Scalar.divsi v341 c1_i32_184
  let v344 : BitVec 32 := Scalar.muli v343 c1_i32_184
  let v345 : BitVec 32 := Scalar.addi c0_i32_183 v344
  let c1_i32_186 : BitVec 32 := 1#32
  let arg17 : BitVec 32 := Scf.iv v345 c1_i32_186 k0_t4
  ![v336.toNat, arg17.toNat]
def k0_off58 (i : grid0.Coords) (v338 : BitVec 32) (k0_t4 : Fin (k0_t4_loop v338).trips) (c2_i32_191 : BitVec 32) : Fin 5 → Nat :=
  let c1_i32_179 : BitVec 32 := 1#32
  let arg0 : BitVec 32 := BitVec.ofNat 32 (i 0).val
  let c2_i32 : BitVec 32 := 2#32
  let v0 : BitVec 32 := Scalar.remsi arg0 c2_i32
  let v336 : BitVec 32 := Scalar.subi c1_i32_179 v0
  let c0_i32_183 : BitVec 32 := 0#32
  let c511_i32_180 : BitVec 32 := 511#32
  let v339 : BitVec 32 := Scalar.addi v338 c511_i32_180
  let c9_i32_181 : BitVec 32 := 9#32
  let v340 : BitVec 32 := Scalar.shrui v339 c9_i32_181
  let v341 : BitVec 32 := Scalar.subi v340 c0_i32_183
  let c1_i32_184 : BitVec 32 := 1#32
  let v343 : BitVec 32 := Scalar.divsi v341 c1_i32_184
  let v344 : BitVec 32 := Scalar.muli v343 c1_i32_184
  let v345 : BitVec 32 := Scalar.addi c0_i32_183 v344
  let c1_i32_186 : BitVec 32 := 1#32
  let arg17 : BitVec 32 := Scf.iv v345 c1_i32_186 k0_t4
  let c4_i32_190 : BitVec 32 := 4#32
  let v356 : BitVec 32 := Scalar.muli arg17 c4_i32_190
  let v357 : BitVec 32 := Scalar.addi v356 c2_i32_191
  let c0_i32_223 : BitVec 32 := 0#32
  let c0_i32_224 : BitVec 32 := 0#32
  let c0_i32_225 : BitVec 32 := 0#32
  ![v336.toNat, v357.toNat, 0, 0, 0]
def k0_off59 (v365 : BitVec 32) : Fin 4 → Nat :=
  let c0_i32_232 : BitVec 32 := 0#32
  let c0_i32_233 : BitVec 32 := 0#32
  let c0_i32_234 : BitVec 32 := 0#32
  ![v365.toNat, 0, 0, 0]

def k0_chk18 (i : grid0.Coords) (v365 : BitVec 32) : Prop :=
  (∀ (k0_h2 : k0_cond2 i = 1#1), ∀ a, (k0_off59 v365) a + S1x2x128x128.size a ≤ S2048x2x128x128.size a) ∧
  (∀ (k0_h2 : k0_cond2 i = 1#1), ∀ (hinb : ∀ a, (k0_off59 v365) a + S1x2x128x128.size a ≤ S2048x2x128x128.size a), (Rect.unit (s := S2048x2x128x128) (k0_off59 v365) S1x2x128x128.size hinb).WholeWords (EltTy.packing .fp8e4m3))
theorem k0_off59_inb : ∀ (i : grid0.Coords) (v365 : BitVec 32) (k0_hw18 : k0_chk18 i v365), ∀ (k0_h2 : k0_cond2 i = 1#1), ∀ a, (k0_off59 v365) a + S1x2x128x128.size a ≤ S2048x2x128x128.size a := fun i v365 k0_hw18 k0_h2 => k0_hw18.1 k0_h2
theorem k0_off59_wordsfp8e4m3 : ∀ (i : grid0.Coords) (v365 : BitVec 32) (k0_hw18 : k0_chk18 i v365), ∀ (k0_h2 : k0_cond2 i = 1#1), (Rect.unit (s := S2048x2x128x128) (k0_off59 v365) S1x2x128x128.size (k0_off59_inb i v365 k0_hw18 k0_h2)).WholeWords (EltTy.packing .fp8e4m3) := fun i v365 k0_hw18 k0_h2 => k0_hw18.2 k0_h2 (k0_off59_inb i v365 k0_hw18 k0_h2)

def k0_off60 (i : grid0.Coords) (v338 : BitVec 32) (k0_t4 : Fin (k0_t4_loop v338).trips) : Fin 2 → Nat :=
  let c1_i32_179 : BitVec 32 := 1#32
  let arg0 : BitVec 32 := BitVec.ofNat 32 (i 0).val
  let c2_i32 : BitVec 32 := 2#32
  let v0 : BitVec 32 := Scalar.remsi arg0 c2_i32
  let v336 : BitVec 32 := Scalar.subi c1_i32_179 v0
  let c0_i32_183 : BitVec 32 := 0#32
  let c511_i32_180 : BitVec 32 := 511#32
  let v339 : BitVec 32 := Scalar.addi v338 c511_i32_180
  let c9_i32_181 : BitVec 32 := 9#32
  let v340 : BitVec 32 := Scalar.shrui v339 c9_i32_181
  let v341 : BitVec 32 := Scalar.subi v340 c0_i32_183
  let c1_i32_184 : BitVec 32 := 1#32
  let v343 : BitVec 32 := Scalar.divsi v341 c1_i32_184
  let v344 : BitVec 32 := Scalar.muli v343 c1_i32_184
  let v345 : BitVec 32 := Scalar.addi c0_i32_183 v344
  let c1_i32_186 : BitVec 32 := 1#32
  let arg17 : BitVec 32 := Scf.iv v345 c1_i32_186 k0_t4
  ![v336.toNat, arg17.toNat]
def k0_off61 (i : grid0.Coords) (v338 : BitVec 32) (k0_t4 : Fin (k0_t4_loop v338).trips) : Fin 5 → Nat :=
  let c1_i32_179 : BitVec 32 := 1#32
  let arg0 : BitVec 32 := BitVec.ofNat 32 (i 0).val
  let c2_i32 : BitVec 32 := 2#32
  let v0 : BitVec 32 := Scalar.remsi arg0 c2_i32
  let v336 : BitVec 32 := Scalar.subi c1_i32_179 v0
  let c0_i32_183 : BitVec 32 := 0#32
  let c511_i32_180 : BitVec 32 := 511#32
  let v339 : BitVec 32 := Scalar.addi v338 c511_i32_180
  let c9_i32_181 : BitVec 32 := 9#32
  let v340 : BitVec 32 := Scalar.shrui v339 c9_i32_181
  let v341 : BitVec 32 := Scalar.subi v340 c0_i32_183
  let c1_i32_184 : BitVec 32 := 1#32
  let v343 : BitVec 32 := Scalar.divsi v341 c1_i32_184
  let v344 : BitVec 32 := Scalar.muli v343 c1_i32_184
  let v345 : BitVec 32 := Scalar.addi c0_i32_183 v344
  let c1_i32_186 : BitVec 32 := 1#32
  let arg17 : BitVec 32 := Scf.iv v345 c1_i32_186 k0_t4
  let c4_i32_192 : BitVec 32 := 4#32
  let v361 : BitVec 32 := Scalar.muli arg17 c4_i32_192
  let c3_i32 : BitVec 32 := 3#32
  let v362 : BitVec 32 := Scalar.addi v361 c3_i32
  let c0_i32_235 : BitVec 32 := 0#32
  let c0_i32_236 : BitVec 32 := 0#32
  let c0_i32_237 : BitVec 32 := 0#32
  ![v336.toNat, v362.toNat, 0, 0, 0]

def k0_chk10_0 (i : grid0.Coords) (v338 : BitVec 32) : Prop :=
  (∀ (k0_h2 : k0_cond2 i = 1#1), (k0_t3_loop v338).OK) ∧
  (∀ k0_t3 : Fin (k0_t3_loop v338).trips, ∀ (k0_h2 : k0_cond2 i = 1#1), ∀ (r : Fin 4), ∀ a, (k0_off32 i v338 k0_t3 (BitVec.ofNat 32 r.val)) a + S1x1.size a ≤ S32x64.size a) ∧
  (∀ k0_t3 : Fin (k0_t3_loop v338).trips, ∀ (k0_h2 : k0_cond2 i = 1#1), ∀ a, (k0_off33 i v338 k0_t3) a + S1x1.size a ≤ S2x16.size a) ∧
  (∀ k0_t3 : Fin (k0_t3_loop v338).trips, ∀ (k0_h2 : k0_cond2 i = 1#1), ∀ a, (k0_off34 i v338 k0_t3) a + S1x1x2x128x128.size a ≤ S2x64x2x128x128.size a) ∧
  (∀ k0_t3 : Fin (k0_t3_loop v338).trips, ∀ (k0_h2 : k0_cond2 i = 1#1), ∀ (hinb : ∀ a, (k0_off34 i v338 k0_t3) a + S1x1x2x128x128.size a ≤ S2x64x2x128x128.size a), (Rect.unit (s := S2x64x2x128x128) (k0_off34 i v338 k0_t3) S1x1x2x128x128.size hinb).WholeWords (EltTy.packing .fp8e4m3)) ∧
  (∀ k0_t3 : Fin (k0_t3_loop v338).trips, ∀ (k0_h2 : k0_cond2 i = 1#1), ∀ a, (k0_off36 i v338 k0_t3) a + S1x1.size a ≤ S2x16.size a) ∧
  (∀ k0_t3 : Fin (k0_t3_loop v338).trips, ∀ (k0_h2 : k0_cond2 i = 1#1), ∀ (r : Fin 2), ∀ a, (k0_off37 i v338 k0_t3 (BitVec.ofNat 32 r.val)) a + S1x1x2x128x128.size a ≤ S2x64x2x128x128.size a) ∧
  (∀ k0_t3 : Fin (k0_t3_loop v338).trips, ∀ (k0_h2 : k0_cond2 i = 1#1), ∀ (r : Fin 2), ∀ (hinb : ∀ a, (k0_off37 i v338 k0_t3 (BitVec.ofNat 32 r.val)) a + S1x1x2x128x128.size a ≤ S2x64x2x128x128.size a), (Rect.unit (s := S2x64x2x128x128) (k0_off37 i v338 k0_t3 (BitVec.ofNat 32 r.val)) S1x1x2x128x128.size hinb).WholeWords (EltTy.packing .fp8e4m3)) ∧
  (∀ k0_t3 : Fin (k0_t3_loop v338).trips, ∀ (k0_h2 : k0_cond2 i = 1#1), ∀ a, (k0_off39 i v338 k0_t3) a + S1x1.size a ≤ S2x16.size a) ∧
  (∀ k0_t3 : Fin (k0_t3_loop v338).trips, ∀ (k0_h2 : k0_cond2 i = 1#1), ∀ (r : Fin 2), ∀ a, (k0_off40 i v338 k0_t3 (BitVec.ofNat 32 (1 + r.val))) a + S1x1x2x128x128.size a ≤ S2x64x2x128x128.size a) ∧
  (∀ k0_t3 : Fin (k0_t3_loop v338).trips, ∀ (k0_h2 : k0_cond2 i = 1#1), ∀ (r : Fin 2), ∀ (hinb : ∀ a, (k0_off40 i v338 k0_t3 (BitVec.ofNat 32 (1 + r.val))) a + S1x1x2x128x128.size a ≤ S2x64x2x128x128.size a), (Rect.unit (s := S2x64x2x128x128) (k0_off40 i v338 k0_t3 (BitVec.ofNat 32 (1 + r.val))) S1x1x2x128x128.size hinb).WholeWords (EltTy.packing .fp8e4m3)) ∧
  (∀ k0_t3 : Fin (k0_t3_loop v338).trips, ∀ (k0_h2 : k0_cond2 i = 1#1), ∀ a, (k0_off42 i v338 k0_t3) a + S1x1.size a ≤ S2x16.size a) ∧
  (∀ k0_t3 : Fin (k0_t3_loop v338).trips, ∀ (k0_h2 : k0_cond2 i = 1#1), ∀ (r : Fin 2), ∀ a, (k0_off43 i v338 k0_t3 (BitVec.ofNat 32 (2 + r.val))) a + S1x1x2x128x128.size a ≤ S2x64x2x128x128.size a) ∧
  (∀ k0_t3 : Fin (k0_t3_loop v338).trips, ∀ (k0_h2 : k0_cond2 i = 1#1), ∀ (r : Fin 2), ∀ (hinb : ∀ a, (k0_off43 i v338 k0_t3 (BitVec.ofNat 32 (2 + r.val))) a + S1x1x2x128x128.size a ≤ S2x64x2x128x128.size a), (Rect.unit (s := S2x64x2x128x128) (k0_off43 i v338 k0_t3 (BitVec.ofNat 32 (2 + r.val))) S1x1x2x128x128.size hinb).WholeWords (EltTy.packing .fp8e4m3)) ∧
  (∀ k0_t3 : Fin (k0_t3_loop v338).trips, ∀ (k0_h2 : k0_cond2 i = 1#1), ∀ a, (k0_off45 i v338 k0_t3) a + S1x1.size a ≤ S2x16.size a) ∧
  (∀ k0_t3 : Fin (k0_t3_loop v338).trips, ∀ (k0_h2 : k0_cond2 i = 1#1), ∀ a, (k0_off46 i v338 k0_t3) a + S1x1x2x128x128.size a ≤ S2x64x2x128x128.size a) ∧
  (∀ k0_t3 : Fin (k0_t3_loop v338).trips, ∀ (k0_h2 : k0_cond2 i = 1#1), ∀ (hinb : ∀ a, (k0_off46 i v338 k0_t3) a + S1x1x2x128x128.size a ≤ S2x64x2x128x128.size a), (Rect.unit (s := S2x64x2x128x128) (k0_off46 i v338 k0_t3) S1x1x2x128x128.size hinb).WholeWords (EltTy.packing .fp8e4m3)) ∧
  (∀ (k0_h2 : k0_cond2 i = 1#1), (k0_t4_loop v338).OK) ∧
  (∀ k0_t4 : Fin (k0_t4_loop v338).trips, ∀ (k0_h2 : k0_cond2 i = 1#1), ∀ (r : Fin 4), ∀ a, (k0_off47 i v338 k0_t4 (BitVec.ofNat 32 r.val)) a + S1x1.size a ≤ S32x64.size a) ∧
  (∀ k0_t4 : Fin (k0_t4_loop v338).trips, ∀ (k0_h2 : k0_cond2 i = 1#1), ∀ a, (k0_off48 i v338 k0_t4) a + S1x1.size a ≤ S2x16.size a) ∧
  (∀ k0_t4 : Fin (k0_t4_loop v338).trips, ∀ (k0_h2 : k0_cond2 i = 1#1), ∀ a, (k0_off49 i v338 k0_t4) a + S1x1x2x128x128.size a ≤ S2x64x2x128x128.size a) ∧
  (∀ k0_t4 : Fin (k0_t4_loop v338).trips, ∀ (k0_h2 : k0_cond2 i = 1#1), ∀ (hinb : ∀ a, (k0_off49 i v338 k0_t4) a + S1x1x2x128x128.size a ≤ S2x64x2x128x128.size a), (Rect.unit (s := S2x64x2x128x128) (k0_off49 i v338 k0_t4) S1x1x2x128x128.size hinb).WholeWords (EltTy.packing .fp8e4m3)) ∧
  (∀ k0_t4 : Fin (k0_t4_loop v338).trips, ∀ (k0_h2 : k0_cond2 i = 1#1), ∀ a, (k0_off51 i v338 k0_t4) a + S1x1.size a ≤ S2x16.size a) ∧
  (∀ k0_t4 : Fin (k0_t4_loop v338).trips, ∀ (k0_h2 : k0_cond2 i = 1#1), ∀ (r : Fin 2), ∀ a, (k0_off52 i v338 k0_t4 (BitVec.ofNat 32 r.val)) a + S1x1x2x128x128.size a ≤ S2x64x2x128x128.size a) ∧
  (∀ k0_t4 : Fin (k0_t4_loop v338).trips, ∀ (k0_h2 : k0_cond2 i = 1#1), ∀ (r : Fin 2), ∀ (hinb : ∀ a, (k0_off52 i v338 k0_t4 (BitVec.ofNat 32 r.val)) a + S1x1x2x128x128.size a ≤ S2x64x2x128x128.size a), (Rect.unit (s := S2x64x2x128x128) (k0_off52 i v338 k0_t4 (BitVec.ofNat 32 r.val)) S1x1x2x128x128.size hinb).WholeWords (EltTy.packing .fp8e4m3)) ∧
  (∀ k0_t4 : Fin (k0_t4_loop v338).trips, ∀ (k0_h2 : k0_cond2 i = 1#1), ∀ a, (k0_off54 i v338 k0_t4) a + S1x1.size a ≤ S2x16.size a) ∧
  (∀ k0_t4 : Fin (k0_t4_loop v338).trips, ∀ (k0_h2 : k0_cond2 i = 1#1), ∀ (r : Fin 2), ∀ a, (k0_off55 i v338 k0_t4 (BitVec.ofNat 32 (1 + r.val))) a + S1x1x2x128x128.size a ≤ S2x64x2x128x128.size a) ∧
  (∀ k0_t4 : Fin (k0_t4_loop v338).trips, ∀ (k0_h2 : k0_cond2 i = 1#1), ∀ (r : Fin 2), ∀ (hinb : ∀ a, (k0_off55 i v338 k0_t4 (BitVec.ofNat 32 (1 + r.val))) a + S1x1x2x128x128.size a ≤ S2x64x2x128x128.size a), (Rect.unit (s := S2x64x2x128x128) (k0_off55 i v338 k0_t4 (BitVec.ofNat 32 (1 + r.val))) S1x1x2x128x128.size hinb).WholeWords (EltTy.packing .fp8e4m3)) ∧
  (∀ k0_t4 : Fin (k0_t4_loop v338).trips, ∀ (k0_h2 : k0_cond2 i = 1#1), ∀ a, (k0_off57 i v338 k0_t4) a + S1x1.size a ≤ S2x16.size a) ∧
  (∀ k0_t4 : Fin (k0_t4_loop v338).trips, ∀ (k0_h2 : k0_cond2 i = 1#1), ∀ (r : Fin 2), ∀ a, (k0_off58 i v338 k0_t4 (BitVec.ofNat 32 (2 + r.val))) a + S1x1x2x128x128.size a ≤ S2x64x2x128x128.size a) ∧
  (∀ k0_t4 : Fin (k0_t4_loop v338).trips, ∀ (k0_h2 : k0_cond2 i = 1#1), ∀ (r : Fin 2), ∀ (hinb : ∀ a, (k0_off58 i v338 k0_t4 (BitVec.ofNat 32 (2 + r.val))) a + S1x1x2x128x128.size a ≤ S2x64x2x128x128.size a), (Rect.unit (s := S2x64x2x128x128) (k0_off58 i v338 k0_t4 (BitVec.ofNat 32 (2 + r.val))) S1x1x2x128x128.size hinb).WholeWords (EltTy.packing .fp8e4m3)) ∧
  (∀ k0_t4 : Fin (k0_t4_loop v338).trips, ∀ (k0_h2 : k0_cond2 i = 1#1), ∀ a, (k0_off60 i v338 k0_t4) a + S1x1.size a ≤ S2x16.size a)
def k0_chk10_1 (i : grid0.Coords) (v338 : BitVec 32) : Prop :=
  (∀ k0_t4 : Fin (k0_t4_loop v338).trips, ∀ (k0_h2 : k0_cond2 i = 1#1), ∀ a, (k0_off61 i v338 k0_t4) a + S1x1x2x128x128.size a ≤ S2x64x2x128x128.size a) ∧
  (∀ k0_t4 : Fin (k0_t4_loop v338).trips, ∀ (k0_h2 : k0_cond2 i = 1#1), ∀ (hinb : ∀ a, (k0_off61 i v338 k0_t4) a + S1x1x2x128x128.size a ≤ S2x64x2x128x128.size a), (Rect.unit (s := S2x64x2x128x128) (k0_off61 i v338 k0_t4) S1x1x2x128x128.size hinb).WholeWords (EltTy.packing .fp8e4m3))
def k0_chk10 (i : grid0.Coords) (v338 : BitVec 32) : Prop :=
  k0_chk10_0 i v338 ∧
  k0_chk10_1 i v338
theorem k0_t3_ok : ∀ (i : grid0.Coords) (v338 : BitVec 32) (k0_hw10 : k0_chk10 i v338), ∀ (k0_h2 : k0_cond2 i = 1#1), (k0_t3_loop v338).OK := fun i v338 k0_hw10 k0_h2 => k0_hw10.1.1 k0_h2
theorem k0_off32_inb : ∀ (i : grid0.Coords) (v338 : BitVec 32) (k0_hw10 : k0_chk10 i v338) (k0_t3 : Fin (k0_t3_loop v338).trips), ∀ (k0_h2 : k0_cond2 i = 1#1), ∀ (r : Fin 4), ∀ a, (k0_off32 i v338 k0_t3 (BitVec.ofNat 32 r.val)) a + S1x1.size a ≤ S32x64.size a := fun i v338 k0_hw10 k0_t3 k0_h2 r => k0_hw10.1.2.1 k0_t3 k0_h2 r
theorem k0_off33_inb : ∀ (i : grid0.Coords) (v338 : BitVec 32) (k0_hw10 : k0_chk10 i v338) (k0_t3 : Fin (k0_t3_loop v338).trips), ∀ (k0_h2 : k0_cond2 i = 1#1), ∀ a, (k0_off33 i v338 k0_t3) a + S1x1.size a ≤ S2x16.size a := fun i v338 k0_hw10 k0_t3 k0_h2 => k0_hw10.1.2.2.1 k0_t3 k0_h2
theorem k0_off34_inb : ∀ (i : grid0.Coords) (v338 : BitVec 32) (k0_hw10 : k0_chk10 i v338) (k0_t3 : Fin (k0_t3_loop v338).trips), ∀ (k0_h2 : k0_cond2 i = 1#1), ∀ a, (k0_off34 i v338 k0_t3) a + S1x1x2x128x128.size a ≤ S2x64x2x128x128.size a := fun i v338 k0_hw10 k0_t3 k0_h2 => k0_hw10.1.2.2.2.1 k0_t3 k0_h2
theorem k0_off34_wordsfp8e4m3 : ∀ (i : grid0.Coords) (v338 : BitVec 32) (k0_hw10 : k0_chk10 i v338) (k0_t3 : Fin (k0_t3_loop v338).trips), ∀ (k0_h2 : k0_cond2 i = 1#1), (Rect.unit (s := S2x64x2x128x128) (k0_off34 i v338 k0_t3) S1x1x2x128x128.size (k0_off34_inb i v338 k0_hw10 k0_t3 k0_h2)).WholeWords (EltTy.packing .fp8e4m3) := fun i v338 k0_hw10 k0_t3 k0_h2 => k0_hw10.1.2.2.2.2.1 k0_t3 k0_h2 (k0_off34_inb i v338 k0_hw10 k0_t3 k0_h2)
theorem k0_off36_inb : ∀ (i : grid0.Coords) (v338 : BitVec 32) (k0_hw10 : k0_chk10 i v338) (k0_t3 : Fin (k0_t3_loop v338).trips), ∀ (k0_h2 : k0_cond2 i = 1#1), ∀ a, (k0_off36 i v338 k0_t3) a + S1x1.size a ≤ S2x16.size a := fun i v338 k0_hw10 k0_t3 k0_h2 => k0_hw10.1.2.2.2.2.2.1 k0_t3 k0_h2
theorem k0_off37_inb : ∀ (i : grid0.Coords) (v338 : BitVec 32) (k0_hw10 : k0_chk10 i v338) (k0_t3 : Fin (k0_t3_loop v338).trips), ∀ (k0_h2 : k0_cond2 i = 1#1), ∀ (r : Fin 2), ∀ a, (k0_off37 i v338 k0_t3 (BitVec.ofNat 32 r.val)) a + S1x1x2x128x128.size a ≤ S2x64x2x128x128.size a := fun i v338 k0_hw10 k0_t3 k0_h2 r => k0_hw10.1.2.2.2.2.2.2.1 k0_t3 k0_h2 r
theorem k0_off37_wordsfp8e4m3 : ∀ (i : grid0.Coords) (v338 : BitVec 32) (k0_hw10 : k0_chk10 i v338) (k0_t3 : Fin (k0_t3_loop v338).trips), ∀ (k0_h2 : k0_cond2 i = 1#1), ∀ (r : Fin 2), (Rect.unit (s := S2x64x2x128x128) (k0_off37 i v338 k0_t3 (BitVec.ofNat 32 r.val)) S1x1x2x128x128.size (k0_off37_inb i v338 k0_hw10 k0_t3 k0_h2 r)).WholeWords (EltTy.packing .fp8e4m3) := fun i v338 k0_hw10 k0_t3 k0_h2 r => k0_hw10.1.2.2.2.2.2.2.2.1 k0_t3 k0_h2 r (k0_off37_inb i v338 k0_hw10 k0_t3 k0_h2 r)
theorem k0_off39_inb : ∀ (i : grid0.Coords) (v338 : BitVec 32) (k0_hw10 : k0_chk10 i v338) (k0_t3 : Fin (k0_t3_loop v338).trips), ∀ (k0_h2 : k0_cond2 i = 1#1), ∀ a, (k0_off39 i v338 k0_t3) a + S1x1.size a ≤ S2x16.size a := fun i v338 k0_hw10 k0_t3 k0_h2 => k0_hw10.1.2.2.2.2.2.2.2.2.1 k0_t3 k0_h2
theorem k0_off40_inb : ∀ (i : grid0.Coords) (v338 : BitVec 32) (k0_hw10 : k0_chk10 i v338) (k0_t3 : Fin (k0_t3_loop v338).trips), ∀ (k0_h2 : k0_cond2 i = 1#1), ∀ (r : Fin 2), ∀ a, (k0_off40 i v338 k0_t3 (BitVec.ofNat 32 (1 + r.val))) a + S1x1x2x128x128.size a ≤ S2x64x2x128x128.size a := fun i v338 k0_hw10 k0_t3 k0_h2 r => k0_hw10.1.2.2.2.2.2.2.2.2.2.1 k0_t3 k0_h2 r
theorem k0_off40_wordsfp8e4m3 : ∀ (i : grid0.Coords) (v338 : BitVec 32) (k0_hw10 : k0_chk10 i v338) (k0_t3 : Fin (k0_t3_loop v338).trips), ∀ (k0_h2 : k0_cond2 i = 1#1), ∀ (r : Fin 2), (Rect.unit (s := S2x64x2x128x128) (k0_off40 i v338 k0_t3 (BitVec.ofNat 32 (1 + r.val))) S1x1x2x128x128.size (k0_off40_inb i v338 k0_hw10 k0_t3 k0_h2 r)).WholeWords (EltTy.packing .fp8e4m3) := fun i v338 k0_hw10 k0_t3 k0_h2 r => k0_hw10.1.2.2.2.2.2.2.2.2.2.2.1 k0_t3 k0_h2 r (k0_off40_inb i v338 k0_hw10 k0_t3 k0_h2 r)
theorem k0_off42_inb : ∀ (i : grid0.Coords) (v338 : BitVec 32) (k0_hw10 : k0_chk10 i v338) (k0_t3 : Fin (k0_t3_loop v338).trips), ∀ (k0_h2 : k0_cond2 i = 1#1), ∀ a, (k0_off42 i v338 k0_t3) a + S1x1.size a ≤ S2x16.size a := fun i v338 k0_hw10 k0_t3 k0_h2 => k0_hw10.1.2.2.2.2.2.2.2.2.2.2.2.1 k0_t3 k0_h2
theorem k0_off43_inb : ∀ (i : grid0.Coords) (v338 : BitVec 32) (k0_hw10 : k0_chk10 i v338) (k0_t3 : Fin (k0_t3_loop v338).trips), ∀ (k0_h2 : k0_cond2 i = 1#1), ∀ (r : Fin 2), ∀ a, (k0_off43 i v338 k0_t3 (BitVec.ofNat 32 (2 + r.val))) a + S1x1x2x128x128.size a ≤ S2x64x2x128x128.size a := fun i v338 k0_hw10 k0_t3 k0_h2 r => k0_hw10.1.2.2.2.2.2.2.2.2.2.2.2.2.1 k0_t3 k0_h2 r
theorem k0_off43_wordsfp8e4m3 : ∀ (i : grid0.Coords) (v338 : BitVec 32) (k0_hw10 : k0_chk10 i v338) (k0_t3 : Fin (k0_t3_loop v338).trips), ∀ (k0_h2 : k0_cond2 i = 1#1), ∀ (r : Fin 2), (Rect.unit (s := S2x64x2x128x128) (k0_off43 i v338 k0_t3 (BitVec.ofNat 32 (2 + r.val))) S1x1x2x128x128.size (k0_off43_inb i v338 k0_hw10 k0_t3 k0_h2 r)).WholeWords (EltTy.packing .fp8e4m3) := fun i v338 k0_hw10 k0_t3 k0_h2 r => k0_hw10.1.2.2.2.2.2.2.2.2.2.2.2.2.2.1 k0_t3 k0_h2 r (k0_off43_inb i v338 k0_hw10 k0_t3 k0_h2 r)
theorem k0_off45_inb : ∀ (i : grid0.Coords) (v338 : BitVec 32) (k0_hw10 : k0_chk10 i v338) (k0_t3 : Fin (k0_t3_loop v338).trips), ∀ (k0_h2 : k0_cond2 i = 1#1), ∀ a, (k0_off45 i v338 k0_t3) a + S1x1.size a ≤ S2x16.size a := fun i v338 k0_hw10 k0_t3 k0_h2 => k0_hw10.1.2.2.2.2.2.2.2.2.2.2.2.2.2.2.1 k0_t3 k0_h2
theorem k0_off46_inb : ∀ (i : grid0.Coords) (v338 : BitVec 32) (k0_hw10 : k0_chk10 i v338) (k0_t3 : Fin (k0_t3_loop v338).trips), ∀ (k0_h2 : k0_cond2 i = 1#1), ∀ a, (k0_off46 i v338 k0_t3) a + S1x1x2x128x128.size a ≤ S2x64x2x128x128.size a := fun i v338 k0_hw10 k0_t3 k0_h2 => k0_hw10.1.2.2.2.2.2.2.2.2.2.2.2.2.2.2.2.1 k0_t3 k0_h2
theorem k0_off46_wordsfp8e4m3 : ∀ (i : grid0.Coords) (v338 : BitVec 32) (k0_hw10 : k0_chk10 i v338) (k0_t3 : Fin (k0_t3_loop v338).trips), ∀ (k0_h2 : k0_cond2 i = 1#1), (Rect.unit (s := S2x64x2x128x128) (k0_off46 i v338 k0_t3) S1x1x2x128x128.size (k0_off46_inb i v338 k0_hw10 k0_t3 k0_h2)).WholeWords (EltTy.packing .fp8e4m3) := fun i v338 k0_hw10 k0_t3 k0_h2 => k0_hw10.1.2.2.2.2.2.2.2.2.2.2.2.2.2.2.2.2.1 k0_t3 k0_h2 (k0_off46_inb i v338 k0_hw10 k0_t3 k0_h2)
theorem k0_t4_ok : ∀ (i : grid0.Coords) (v338 : BitVec 32) (k0_hw10 : k0_chk10 i v338), ∀ (k0_h2 : k0_cond2 i = 1#1), (k0_t4_loop v338).OK := fun i v338 k0_hw10 k0_h2 => k0_hw10.1.2.2.2.2.2.2.2.2.2.2.2.2.2.2.2.2.2.1 k0_h2
theorem k0_off47_inb : ∀ (i : grid0.Coords) (v338 : BitVec 32) (k0_hw10 : k0_chk10 i v338) (k0_t4 : Fin (k0_t4_loop v338).trips), ∀ (k0_h2 : k0_cond2 i = 1#1), ∀ (r : Fin 4), ∀ a, (k0_off47 i v338 k0_t4 (BitVec.ofNat 32 r.val)) a + S1x1.size a ≤ S32x64.size a := fun i v338 k0_hw10 k0_t4 k0_h2 r => k0_hw10.1.2.2.2.2.2.2.2.2.2.2.2.2.2.2.2.2.2.2.1 k0_t4 k0_h2 r
theorem k0_off48_inb : ∀ (i : grid0.Coords) (v338 : BitVec 32) (k0_hw10 : k0_chk10 i v338) (k0_t4 : Fin (k0_t4_loop v338).trips), ∀ (k0_h2 : k0_cond2 i = 1#1), ∀ a, (k0_off48 i v338 k0_t4) a + S1x1.size a ≤ S2x16.size a := fun i v338 k0_hw10 k0_t4 k0_h2 => k0_hw10.1.2.2.2.2.2.2.2.2.2.2.2.2.2.2.2.2.2.2.2.1 k0_t4 k0_h2
theorem k0_off49_inb : ∀ (i : grid0.Coords) (v338 : BitVec 32) (k0_hw10 : k0_chk10 i v338) (k0_t4 : Fin (k0_t4_loop v338).trips), ∀ (k0_h2 : k0_cond2 i = 1#1), ∀ a, (k0_off49 i v338 k0_t4) a + S1x1x2x128x128.size a ≤ S2x64x2x128x128.size a := fun i v338 k0_hw10 k0_t4 k0_h2 => k0_hw10.1.2.2.2.2.2.2.2.2.2.2.2.2.2.2.2.2.2.2.2.2.1 k0_t4 k0_h2
theorem k0_off49_wordsfp8e4m3 : ∀ (i : grid0.Coords) (v338 : BitVec 32) (k0_hw10 : k0_chk10 i v338) (k0_t4 : Fin (k0_t4_loop v338).trips), ∀ (k0_h2 : k0_cond2 i = 1#1), (Rect.unit (s := S2x64x2x128x128) (k0_off49 i v338 k0_t4) S1x1x2x128x128.size (k0_off49_inb i v338 k0_hw10 k0_t4 k0_h2)).WholeWords (EltTy.packing .fp8e4m3) := fun i v338 k0_hw10 k0_t4 k0_h2 => k0_hw10.1.2.2.2.2.2.2.2.2.2.2.2.2.2.2.2.2.2.2.2.2.2.1 k0_t4 k0_h2 (k0_off49_inb i v338 k0_hw10 k0_t4 k0_h2)
theorem k0_off51_inb : ∀ (i : grid0.Coords) (v338 : BitVec 32) (k0_hw10 : k0_chk10 i v338) (k0_t4 : Fin (k0_t4_loop v338).trips), ∀ (k0_h2 : k0_cond2 i = 1#1), ∀ a, (k0_off51 i v338 k0_t4) a + S1x1.size a ≤ S2x16.size a := fun i v338 k0_hw10 k0_t4 k0_h2 => k0_hw10.1.2.2.2.2.2.2.2.2.2.2.2.2.2.2.2.2.2.2.2.2.2.2.1 k0_t4 k0_h2
theorem k0_off52_inb : ∀ (i : grid0.Coords) (v338 : BitVec 32) (k0_hw10 : k0_chk10 i v338) (k0_t4 : Fin (k0_t4_loop v338).trips), ∀ (k0_h2 : k0_cond2 i = 1#1), ∀ (r : Fin 2), ∀ a, (k0_off52 i v338 k0_t4 (BitVec.ofNat 32 r.val)) a + S1x1x2x128x128.size a ≤ S2x64x2x128x128.size a := fun i v338 k0_hw10 k0_t4 k0_h2 r => k0_hw10.1.2.2.2.2.2.2.2.2.2.2.2.2.2.2.2.2.2.2.2.2.2.2.2.1 k0_t4 k0_h2 r
theorem k0_off52_wordsfp8e4m3 : ∀ (i : grid0.Coords) (v338 : BitVec 32) (k0_hw10 : k0_chk10 i v338) (k0_t4 : Fin (k0_t4_loop v338).trips), ∀ (k0_h2 : k0_cond2 i = 1#1), ∀ (r : Fin 2), (Rect.unit (s := S2x64x2x128x128) (k0_off52 i v338 k0_t4 (BitVec.ofNat 32 r.val)) S1x1x2x128x128.size (k0_off52_inb i v338 k0_hw10 k0_t4 k0_h2 r)).WholeWords (EltTy.packing .fp8e4m3) := fun i v338 k0_hw10 k0_t4 k0_h2 r => k0_hw10.1.2.2.2.2.2.2.2.2.2.2.2.2.2.2.2.2.2.2.2.2.2.2.2.2.1 k0_t4 k0_h2 r (k0_off52_inb i v338 k0_hw10 k0_t4 k0_h2 r)
theorem k0_off54_inb : ∀ (i : grid0.Coords) (v338 : BitVec 32) (k0_hw10 : k0_chk10 i v338) (k0_t4 : Fin (k0_t4_loop v338).trips), ∀ (k0_h2 : k0_cond2 i = 1#1), ∀ a, (k0_off54 i v338 k0_t4) a + S1x1.size a ≤ S2x16.size a := fun i v338 k0_hw10 k0_t4 k0_h2 => k0_hw10.1.2.2.2.2.2.2.2.2.2.2.2.2.2.2.2.2.2.2.2.2.2.2.2.2.2.1 k0_t4 k0_h2
theorem k0_off55_inb : ∀ (i : grid0.Coords) (v338 : BitVec 32) (k0_hw10 : k0_chk10 i v338) (k0_t4 : Fin (k0_t4_loop v338).trips), ∀ (k0_h2 : k0_cond2 i = 1#1), ∀ (r : Fin 2), ∀ a, (k0_off55 i v338 k0_t4 (BitVec.ofNat 32 (1 + r.val))) a + S1x1x2x128x128.size a ≤ S2x64x2x128x128.size a := fun i v338 k0_hw10 k0_t4 k0_h2 r => k0_hw10.1.2.2.2.2.2.2.2.2.2.2.2.2.2.2.2.2.2.2.2.2.2.2.2.2.2.2.1 k0_t4 k0_h2 r
theorem k0_off55_wordsfp8e4m3 : ∀ (i : grid0.Coords) (v338 : BitVec 32) (k0_hw10 : k0_chk10 i v338) (k0_t4 : Fin (k0_t4_loop v338).trips), ∀ (k0_h2 : k0_cond2 i = 1#1), ∀ (r : Fin 2), (Rect.unit (s := S2x64x2x128x128) (k0_off55 i v338 k0_t4 (BitVec.ofNat 32 (1 + r.val))) S1x1x2x128x128.size (k0_off55_inb i v338 k0_hw10 k0_t4 k0_h2 r)).WholeWords (EltTy.packing .fp8e4m3) := fun i v338 k0_hw10 k0_t4 k0_h2 r => k0_hw10.1.2.2.2.2.2.2.2.2.2.2.2.2.2.2.2.2.2.2.2.2.2.2.2.2.2.2.2.1 k0_t4 k0_h2 r (k0_off55_inb i v338 k0_hw10 k0_t4 k0_h2 r)
theorem k0_off57_inb : ∀ (i : grid0.Coords) (v338 : BitVec 32) (k0_hw10 : k0_chk10 i v338) (k0_t4 : Fin (k0_t4_loop v338).trips), ∀ (k0_h2 : k0_cond2 i = 1#1), ∀ a, (k0_off57 i v338 k0_t4) a + S1x1.size a ≤ S2x16.size a := fun i v338 k0_hw10 k0_t4 k0_h2 => k0_hw10.1.2.2.2.2.2.2.2.2.2.2.2.2.2.2.2.2.2.2.2.2.2.2.2.2.2.2.2.2.1 k0_t4 k0_h2
theorem k0_off58_inb : ∀ (i : grid0.Coords) (v338 : BitVec 32) (k0_hw10 : k0_chk10 i v338) (k0_t4 : Fin (k0_t4_loop v338).trips), ∀ (k0_h2 : k0_cond2 i = 1#1), ∀ (r : Fin 2), ∀ a, (k0_off58 i v338 k0_t4 (BitVec.ofNat 32 (2 + r.val))) a + S1x1x2x128x128.size a ≤ S2x64x2x128x128.size a := fun i v338 k0_hw10 k0_t4 k0_h2 r => k0_hw10.1.2.2.2.2.2.2.2.2.2.2.2.2.2.2.2.2.2.2.2.2.2.2.2.2.2.2.2.2.2.1 k0_t4 k0_h2 r
theorem k0_off58_wordsfp8e4m3 : ∀ (i : grid0.Coords) (v338 : BitVec 32) (k0_hw10 : k0_chk10 i v338) (k0_t4 : Fin (k0_t4_loop v338).trips), ∀ (k0_h2 : k0_cond2 i = 1#1), ∀ (r : Fin 2), (Rect.unit (s := S2x64x2x128x128) (k0_off58 i v338 k0_t4 (BitVec.ofNat 32 (2 + r.val))) S1x1x2x128x128.size (k0_off58_inb i v338 k0_hw10 k0_t4 k0_h2 r)).WholeWords (EltTy.packing .fp8e4m3) := fun i v338 k0_hw10 k0_t4 k0_h2 r => k0_hw10.1.2.2.2.2.2.2.2.2.2.2.2.2.2.2.2.2.2.2.2.2.2.2.2.2.2.2.2.2.2.2.1 k0_t4 k0_h2 r (k0_off58_inb i v338 k0_hw10 k0_t4 k0_h2 r)
theorem k0_off60_inb : ∀ (i : grid0.Coords) (v338 : BitVec 32) (k0_hw10 : k0_chk10 i v338) (k0_t4 : Fin (k0_t4_loop v338).trips), ∀ (k0_h2 : k0_cond2 i = 1#1), ∀ a, (k0_off60 i v338 k0_t4) a + S1x1.size a ≤ S2x16.size a := fun i v338 k0_hw10 k0_t4 k0_h2 => k0_hw10.1.2.2.2.2.2.2.2.2.2.2.2.2.2.2.2.2.2.2.2.2.2.2.2.2.2.2.2.2.2.2.2 k0_t4 k0_h2
theorem k0_off61_inb : ∀ (i : grid0.Coords) (v338 : BitVec 32) (k0_hw10 : k0_chk10 i v338) (k0_t4 : Fin (k0_t4_loop v338).trips), ∀ (k0_h2 : k0_cond2 i = 1#1), ∀ a, (k0_off61 i v338 k0_t4) a + S1x1x2x128x128.size a ≤ S2x64x2x128x128.size a := fun i v338 k0_hw10 k0_t4 k0_h2 => k0_hw10.2.1 k0_t4 k0_h2
theorem k0_off61_wordsfp8e4m3 : ∀ (i : grid0.Coords) (v338 : BitVec 32) (k0_hw10 : k0_chk10 i v338) (k0_t4 : Fin (k0_t4_loop v338).trips), ∀ (k0_h2 : k0_cond2 i = 1#1), (Rect.unit (s := S2x64x2x128x128) (k0_off61 i v338 k0_t4) S1x1x2x128x128.size (k0_off61_inb i v338 k0_hw10 k0_t4 k0_h2)).WholeWords (EltTy.packing .fp8e4m3) := fun i v338 k0_hw10 k0_t4 k0_h2 => k0_hw10.2.2 k0_t4 k0_h2 (k0_off61_inb i v338 k0_hw10 k0_t4 k0_h2)

def k0_off62 (i : grid0.Coords) : Fin 1 → Nat :=
  let arg0 : BitVec 32 := BitVec.ofNat 32 (i 0).val
  let v8 : Index := Scalar.indexCast arg0
  ![v8.toNat]
@[reducible] def k0_t5_loop (v9 : BitVec 32) : Scf.Loop 32 :=
  let c0_i32_57 : BitVec 32 := 0#32
  let c9_i32 : BitVec 32 := 9#32
  let v10 : BitVec 32 := Scalar.shrui v9 c9_i32
  let v109 : BitVec 32 := Scalar.subi v10 c0_i32_57
  let c1_i32_58 : BitVec 32 := 1#32
  let v111 : BitVec 32 := Scalar.divsi v109 c1_i32_58
  let v112 : BitVec 32 := Scalar.muli v111 c1_i32_58
  let v113 : BitVec 32 := Scalar.addi c0_i32_57 v112
  let c1_i32_59 : BitVec 32 := 1#32
  ⟨c0_i32_57, v113, c1_i32_59⟩

def k0_off63 (i : grid0.Coords) (v9 : BitVec 32) (k0_t5 : Fin (k0_t5_loop v9).trips) (c0_i32_178 : BitVec 32) : Fin 2 → Nat :=
  let arg0 : BitVec 32 := BitVec.ofNat 32 (i 0).val
  let v337 : Index := Scalar.indexCast arg0
  let c0_i32_57 : BitVec 32 := 0#32
  let c1_i32_59 : BitVec 32 := 1#32
  let arg17 : BitVec 32 := Scf.iv c0_i32_57 c1_i32_59 k0_t5
  let c4_i32 : BitVec 32 := 4#32
  let v335 : BitVec 32 := Scalar.muli arg17 c4_i32
  let v336 : BitVec 32 := Scalar.addi v335 c0_i32_178
  let v338 : Index := Scalar.indexCast v336
  ![v337.toNat, v338.toNat]
def k0_off64 (i : grid0.Coords) (v9 : BitVec 32) (k0_t5 : Fin (k0_t5_loop v9).trips) : Fin 2 → Nat :=
  let arg0 : BitVec 32 := BitVec.ofNat 32 (i 0).val
  let c2_i32 : BitVec 32 := 2#32
  let v0 : BitVec 32 := Scalar.remsi arg0 c2_i32
  let c0_i32_57 : BitVec 32 := 0#32
  let c1_i32_59 : BitVec 32 := 1#32
  let arg17 : BitVec 32 := Scf.iv c0_i32_57 c1_i32_59 k0_t5
  ![v0.toNat, arg17.toNat]
def k0_off65 (i : grid0.Coords) (v9 : BitVec 32) (k0_t5 : Fin (k0_t5_loop v9).trips) : Fin 5 → Nat :=
  let arg0 : BitVec 32 := BitVec.ofNat 32 (i 0).val
  let c2_i32 : BitVec 32 := 2#32
  let v0 : BitVec 32 := Scalar.remsi arg0 c2_i32
  let c0_i32_57 : BitVec 32 := 0#32
  let c1_i32_59 : BitVec 32 := 1#32
  let arg17 : BitVec 32 := Scf.iv c0_i32_57 c1_i32_59 k0_t5
  let c4_i32 : BitVec 32 := 4#32
  let v335 : BitVec 32 := Scalar.muli arg17 c4_i32
  let c0_i32_178 : BitVec 32 := 0#32
  let v336 : BitVec 32 := Scalar.addi v335 c0_i32_178
  let c0_i32_184 : BitVec 32 := 0#32
  let c0_i32_185 : BitVec 32 := 0#32
  let c0_i32_186 : BitVec 32 := 0#32
  ![v0.toNat, v336.toNat, 0, 0, 0]
def k0_off66 (v339 : BitVec 32) : Fin 4 → Nat :=
  let c0_i32_187 : BitVec 32 := 0#32
  let c0_i32_188 : BitVec 32 := 0#32
  let c0_i32_189 : BitVec 32 := 0#32
  ![v339.toNat, 0, 0, 0]

def k0_chk20 (v339 : BitVec 32) : Prop :=
  (∀ a, (k0_off66 v339) a + S1x2x128x128.size a ≤ S2048x2x128x128.size a) ∧
  (∀ (hinb : ∀ a, (k0_off66 v339) a + S1x2x128x128.size a ≤ S2048x2x128x128.size a), (Rect.unit (s := S2048x2x128x128) (k0_off66 v339) S1x2x128x128.size hinb).WholeWords (EltTy.packing .fp8e4m3))
theorem k0_off66_inb : ∀ (v339 : BitVec 32) (k0_hw20 : k0_chk20 v339), ∀ a, (k0_off66 v339) a + S1x2x128x128.size a ≤ S2048x2x128x128.size a := fun v339 k0_hw20 => k0_hw20.1
theorem k0_off66_wordsfp8e4m3 : ∀ (v339 : BitVec 32) (k0_hw20 : k0_chk20 v339), (Rect.unit (s := S2048x2x128x128) (k0_off66 v339) S1x2x128x128.size (k0_off66_inb v339 k0_hw20)).WholeWords (EltTy.packing .fp8e4m3) := fun v339 k0_hw20 => k0_hw20.2 (k0_off66_inb v339 k0_hw20)

def k0_off67 (i : grid0.Coords) (v9 : BitVec 32) (k0_t5 : Fin (k0_t5_loop v9).trips) : Fin 2 → Nat :=
  let arg0 : BitVec 32 := BitVec.ofNat 32 (i 0).val
  let c2_i32 : BitVec 32 := 2#32
  let v0 : BitVec 32 := Scalar.remsi arg0 c2_i32
  let c0_i32_57 : BitVec 32 := 0#32
  let c1_i32_59 : BitVec 32 := 1#32
  let arg17 : BitVec 32 := Scf.iv c0_i32_57 c1_i32_59 k0_t5
  ![v0.toNat, arg17.toNat]
def k0_off68 (i : grid0.Coords) (v9 : BitVec 32) (k0_t5 : Fin (k0_t5_loop v9).trips) (c0_i32_178 : BitVec 32) : Fin 5 → Nat :=
  let arg0 : BitVec 32 := BitVec.ofNat 32 (i 0).val
  let c2_i32 : BitVec 32 := 2#32
  let v0 : BitVec 32 := Scalar.remsi arg0 c2_i32
  let c0_i32_57 : BitVec 32 := 0#32
  let c1_i32_59 : BitVec 32 := 1#32
  let arg17 : BitVec 32 := Scf.iv c0_i32_57 c1_i32_59 k0_t5
  let c4_i32 : BitVec 32 := 4#32
  let v335 : BitVec 32 := Scalar.muli arg17 c4_i32
  let v336 : BitVec 32 := Scalar.addi v335 c0_i32_178
  let c0_i32_190 : BitVec 32 := 0#32
  let c0_i32_191 : BitVec 32 := 0#32
  let c0_i32_192 : BitVec 32 := 0#32
  ![v0.toNat, v336.toNat, 0, 0, 0]
def k0_off69 (v344 : BitVec 32) : Fin 4 → Nat :=
  let c0_i32_199 : BitVec 32 := 0#32
  let c0_i32_200 : BitVec 32 := 0#32
  let c0_i32_201 : BitVec 32 := 0#32
  ![v344.toNat, 0, 0, 0]

def k0_chk21 (v344 : BitVec 32) : Prop :=
  (∀ a, (k0_off69 v344) a + S1x2x128x128.size a ≤ S2048x2x128x128.size a) ∧
  (∀ (hinb : ∀ a, (k0_off69 v344) a + S1x2x128x128.size a ≤ S2048x2x128x128.size a), (Rect.unit (s := S2048x2x128x128) (k0_off69 v344) S1x2x128x128.size hinb).WholeWords (EltTy.packing .fp8e4m3))
theorem k0_off69_inb : ∀ (v344 : BitVec 32) (k0_hw21 : k0_chk21 v344), ∀ a, (k0_off69 v344) a + S1x2x128x128.size a ≤ S2048x2x128x128.size a := fun v344 k0_hw21 => k0_hw21.1
theorem k0_off69_wordsfp8e4m3 : ∀ (v344 : BitVec 32) (k0_hw21 : k0_chk21 v344), (Rect.unit (s := S2048x2x128x128) (k0_off69 v344) S1x2x128x128.size (k0_off69_inb v344 k0_hw21)).WholeWords (EltTy.packing .fp8e4m3) := fun v344 k0_hw21 => k0_hw21.2 (k0_off69_inb v344 k0_hw21)

def k0_off70 (i : grid0.Coords) (v9 : BitVec 32) (k0_t5 : Fin (k0_t5_loop v9).trips) : Fin 2 → Nat :=
  let arg0 : BitVec 32 := BitVec.ofNat 32 (i 0).val
  let c2_i32 : BitVec 32 := 2#32
  let v0 : BitVec 32 := Scalar.remsi arg0 c2_i32
  let c0_i32_57 : BitVec 32 := 0#32
  let c1_i32_59 : BitVec 32 := 1#32
  let arg17 : BitVec 32 := Scf.iv c0_i32_57 c1_i32_59 k0_t5
  ![v0.toNat, arg17.toNat]
def k0_off71 (i : grid0.Coords) (v9 : BitVec 32) (k0_t5 : Fin (k0_t5_loop v9).trips) (c1_i32_180 : BitVec 32) : Fin 5 → Nat :=
  let arg0 : BitVec 32 := BitVec.ofNat 32 (i 0).val
  let c2_i32 : BitVec 32 := 2#32
  let v0 : BitVec 32 := Scalar.remsi arg0 c2_i32
  let c0_i32_57 : BitVec 32 := 0#32
  let c1_i32_59 : BitVec 32 := 1#32
  let arg17 : BitVec 32 := Scf.iv c0_i32_57 c1_i32_59 k0_t5
  let c4_i32_179 : BitVec 32 := 4#32
  let v340 : BitVec 32 := Scalar.muli arg17 c4_i32_179
  let v341 : BitVec 32 := Scalar.addi v340 c1_i32_180
  let c0_i32_202 : BitVec 32 := 0#32
  let c0_i32_203 : BitVec 32 := 0#32
  let c0_i32_204 : BitVec 32 := 0#32
  ![v0.toNat, v341.toNat, 0, 0, 0]
def k0_off72 (v349 : BitVec 32) : Fin 4 → Nat :=
  let c0_i32_211 : BitVec 32 := 0#32
  let c0_i32_212 : BitVec 32 := 0#32
  let c0_i32_213 : BitVec 32 := 0#32
  ![v349.toNat, 0, 0, 0]

def k0_chk22 (v349 : BitVec 32) : Prop :=
  (∀ a, (k0_off72 v349) a + S1x2x128x128.size a ≤ S2048x2x128x128.size a) ∧
  (∀ (hinb : ∀ a, (k0_off72 v349) a + S1x2x128x128.size a ≤ S2048x2x128x128.size a), (Rect.unit (s := S2048x2x128x128) (k0_off72 v349) S1x2x128x128.size hinb).WholeWords (EltTy.packing .fp8e4m3))
theorem k0_off72_inb : ∀ (v349 : BitVec 32) (k0_hw22 : k0_chk22 v349), ∀ a, (k0_off72 v349) a + S1x2x128x128.size a ≤ S2048x2x128x128.size a := fun v349 k0_hw22 => k0_hw22.1
theorem k0_off72_wordsfp8e4m3 : ∀ (v349 : BitVec 32) (k0_hw22 : k0_chk22 v349), (Rect.unit (s := S2048x2x128x128) (k0_off72 v349) S1x2x128x128.size (k0_off72_inb v349 k0_hw22)).WholeWords (EltTy.packing .fp8e4m3) := fun v349 k0_hw22 => k0_hw22.2 (k0_off72_inb v349 k0_hw22)

def k0_off73 (i : grid0.Coords) (v9 : BitVec 32) (k0_t5 : Fin (k0_t5_loop v9).trips) : Fin 2 → Nat :=
  let arg0 : BitVec 32 := BitVec.ofNat 32 (i 0).val
  let c2_i32 : BitVec 32 := 2#32
  let v0 : BitVec 32 := Scalar.remsi arg0 c2_i32
  let c0_i32_57 : BitVec 32 := 0#32
  let c1_i32_59 : BitVec 32 := 1#32
  let arg17 : BitVec 32 := Scf.iv c0_i32_57 c1_i32_59 k0_t5
  ![v0.toNat, arg17.toNat]
def k0_off74 (i : grid0.Coords) (v9 : BitVec 32) (k0_t5 : Fin (k0_t5_loop v9).trips) (c2_i32_182 : BitVec 32) : Fin 5 → Nat :=
  let arg0 : BitVec 32 := BitVec.ofNat 32 (i 0).val
  let c2_i32 : BitVec 32 := 2#32
  let v0 : BitVec 32 := Scalar.remsi arg0 c2_i32
  let c0_i32_57 : BitVec 32 := 0#32
  let c1_i32_59 : BitVec 32 := 1#32
  let arg17 : BitVec 32 := Scf.iv c0_i32_57 c1_i32_59 k0_t5
  let c4_i32_181 : BitVec 32 := 4#32
  let v345 : BitVec 32 := Scalar.muli arg17 c4_i32_181
  let v346 : BitVec 32 := Scalar.addi v345 c2_i32_182
  let c0_i32_214 : BitVec 32 := 0#32
  let c0_i32_215 : BitVec 32 := 0#32
  let c0_i32_216 : BitVec 32 := 0#32
  ![v0.toNat, v346.toNat, 0, 0, 0]
def k0_off75 (v354 : BitVec 32) : Fin 4 → Nat :=
  let c0_i32_223 : BitVec 32 := 0#32
  let c0_i32_224 : BitVec 32 := 0#32
  let c0_i32_225 : BitVec 32 := 0#32
  ![v354.toNat, 0, 0, 0]

def k0_chk23 (v354 : BitVec 32) : Prop :=
  (∀ a, (k0_off75 v354) a + S1x2x128x128.size a ≤ S2048x2x128x128.size a) ∧
  (∀ (hinb : ∀ a, (k0_off75 v354) a + S1x2x128x128.size a ≤ S2048x2x128x128.size a), (Rect.unit (s := S2048x2x128x128) (k0_off75 v354) S1x2x128x128.size hinb).WholeWords (EltTy.packing .fp8e4m3))
theorem k0_off75_inb : ∀ (v354 : BitVec 32) (k0_hw23 : k0_chk23 v354), ∀ a, (k0_off75 v354) a + S1x2x128x128.size a ≤ S2048x2x128x128.size a := fun v354 k0_hw23 => k0_hw23.1
theorem k0_off75_wordsfp8e4m3 : ∀ (v354 : BitVec 32) (k0_hw23 : k0_chk23 v354), (Rect.unit (s := S2048x2x128x128) (k0_off75 v354) S1x2x128x128.size (k0_off75_inb v354 k0_hw23)).WholeWords (EltTy.packing .fp8e4m3) := fun v354 k0_hw23 => k0_hw23.2 (k0_off75_inb v354 k0_hw23)

def k0_off76 (i : grid0.Coords) (v9 : BitVec 32) (k0_t5 : Fin (k0_t5_loop v9).trips) : Fin 2 → Nat :=
  let arg0 : BitVec 32 := BitVec.ofNat 32 (i 0).val
  let c2_i32 : BitVec 32 := 2#32
  let v0 : BitVec 32 := Scalar.remsi arg0 c2_i32
  let c0_i32_57 : BitVec 32 := 0#32
  let c1_i32_59 : BitVec 32 := 1#32
  let arg17 : BitVec 32 := Scf.iv c0_i32_57 c1_i32_59 k0_t5
  ![v0.toNat, arg17.toNat]
def k0_off77 (i : grid0.Coords) (v9 : BitVec 32) (k0_t5 : Fin (k0_t5_loop v9).trips) : Fin 5 → Nat :=
  let arg0 : BitVec 32 := BitVec.ofNat 32 (i 0).val
  let c2_i32 : BitVec 32 := 2#32
  let v0 : BitVec 32 := Scalar.remsi arg0 c2_i32
  let c0_i32_57 : BitVec 32 := 0#32
  let c1_i32_59 : BitVec 32 := 1#32
  let arg17 : BitVec 32 := Scf.iv c0_i32_57 c1_i32_59 k0_t5
  let c4_i32_183 : BitVec 32 := 4#32
  let v350 : BitVec 32 := Scalar.muli arg17 c4_i32_183
  let c3_i32 : BitVec 32 := 3#32
  let v351 : BitVec 32 := Scalar.addi v350 c3_i32
  let c0_i32_226 : BitVec 32 := 0#32
  let c0_i32_227 : BitVec 32 := 0#32
  let c0_i32_228 : BitVec 32 := 0#32
  ![v0.toNat, v351.toNat, 0, 0, 0]
def k0_off78 (i : grid0.Coords) (v9 : BitVec 32) (k0_t5 : Fin (k0_t5_loop v9).trips) : Fin 5 → Nat :=
  let arg0 : BitVec 32 := BitVec.ofNat 32 (i 0).val
  let c2_i32 : BitVec 32 := 2#32
  let v0 : BitVec 32 := Scalar.remsi arg0 c2_i32
  let v404 : Index := Scalar.indexCast v0
  let c0_i32_57 : BitVec 32 := 0#32
  let c1_i32_59 : BitVec 32 := 1#32
  let arg17 : BitVec 32 := Scf.iv c0_i32_57 c1_i32_59 k0_t5
  let c4_i32_232 : BitVec 32 := 4#32
  let v403 : BitVec 32 := Scalar.muli arg17 c4_i32_232
  let v405 : Index := Scalar.indexCast v403
  let c0_233 : Index := 0#32
  let c0_234 : Index := 0#32
  let c0_235 : Index := 0#32
  ![v404.toNat, v405.toNat, 0, 0, 0]
@[reducible] def k0_t6_loop (v9 : BitVec 32) : Scf.Loop 32 :=
  let c0_i32_57 : BitVec 32 := 0#32
  let c9_i32 : BitVec 32 := 9#32
  let v10 : BitVec 32 := Scalar.shrui v9 c9_i32
  let v109 : BitVec 32 := Scalar.subi v10 c0_i32_57
  let c1_i32_58 : BitVec 32 := 1#32
  let v111 : BitVec 32 := Scalar.divsi v109 c1_i32_58
  let v112 : BitVec 32 := Scalar.muli v111 c1_i32_58
  let v113 : BitVec 32 := Scalar.addi c0_i32_57 v112
  let v110 : BitVec 32 := Scalar.addi c0_i32_57 v109
  let c1_i32_60 : BitVec 32 := 1#32
  ⟨v113, v110, c1_i32_60⟩
def k0_off79 (i : grid0.Coords) (v9 : BitVec 32) (k0_t6 : Fin (k0_t6_loop v9).trips) (c0_i32_178 : BitVec 32) : Fin 2 → Nat :=
  let arg0 : BitVec 32 := BitVec.ofNat 32 (i 0).val
  let v337 : Index := Scalar.indexCast arg0
  let c0_i32_57 : BitVec 32 := 0#32
  let c9_i32 : BitVec 32 := 9#32
  let v10 : BitVec 32 := Scalar.shrui v9 c9_i32
  let v109 : BitVec 32 := Scalar.subi v10 c0_i32_57
  let c1_i32_58 : BitVec 32 := 1#32
  let v111 : BitVec 32 := Scalar.divsi v109 c1_i32_58
  let v112 : BitVec 32 := Scalar.muli v111 c1_i32_58
  let v113 : BitVec 32 := Scalar.addi c0_i32_57 v112
  let c1_i32_60 : BitVec 32 := 1#32
  let arg17 : BitVec 32 := Scf.iv v113 c1_i32_60 k0_t6
  let c4_i32 : BitVec 32 := 4#32
  let v335 : BitVec 32 := Scalar.muli arg17 c4_i32
  let v336 : BitVec 32 := Scalar.addi v335 c0_i32_178
  let v338 : Index := Scalar.indexCast v336
  ![v337.toNat, v338.toNat]
def k0_off80 (i : grid0.Coords) (v9 : BitVec 32) (k0_t6 : Fin (k0_t6_loop v9).trips) : Fin 2 → Nat :=
  let arg0 : BitVec 32 := BitVec.ofNat 32 (i 0).val
  let c2_i32 : BitVec 32 := 2#32
  let v0 : BitVec 32 := Scalar.remsi arg0 c2_i32
  let c0_i32_57 : BitVec 32 := 0#32
  let c9_i32 : BitVec 32 := 9#32
  let v10 : BitVec 32 := Scalar.shrui v9 c9_i32
  let v109 : BitVec 32 := Scalar.subi v10 c0_i32_57
  let c1_i32_58 : BitVec 32 := 1#32
  let v111 : BitVec 32 := Scalar.divsi v109 c1_i32_58
  let v112 : BitVec 32 := Scalar.muli v111 c1_i32_58
  let v113 : BitVec 32 := Scalar.addi c0_i32_57 v112
  let c1_i32_60 : BitVec 32 := 1#32
  let arg17 : BitVec 32 := Scf.iv v113 c1_i32_60 k0_t6
  ![v0.toNat, arg17.toNat]
def k0_off81 (i : grid0.Coords) (v9 : BitVec 32) (k0_t6 : Fin (k0_t6_loop v9).trips) : Fin 5 → Nat :=
  let arg0 : BitVec 32 := BitVec.ofNat 32 (i 0).val
  let c2_i32 : BitVec 32 := 2#32
  let v0 : BitVec 32 := Scalar.remsi arg0 c2_i32
  let c0_i32_57 : BitVec 32 := 0#32
  let c9_i32 : BitVec 32 := 9#32
  let v10 : BitVec 32 := Scalar.shrui v9 c9_i32
  let v109 : BitVec 32 := Scalar.subi v10 c0_i32_57
  let c1_i32_58 : BitVec 32 := 1#32
  let v111 : BitVec 32 := Scalar.divsi v109 c1_i32_58
  let v112 : BitVec 32 := Scalar.muli v111 c1_i32_58
  let v113 : BitVec 32 := Scalar.addi c0_i32_57 v112
  let c1_i32_60 : BitVec 32 := 1#32
  let arg17 : BitVec 32 := Scf.iv v113 c1_i32_60 k0_t6
  let c4_i32 : BitVec 32 := 4#32
  let v335 : BitVec 32 := Scalar.muli arg17 c4_i32
  let c0_i32_178 : BitVec 32 := 0#32
  let v336 : BitVec 32 := Scalar.addi v335 c0_i32_178
  let c0_i32_184 : BitVec 32 := 0#32
  let c0_i32_185 : BitVec 32 := 0#32
  let c0_i32_186 : BitVec 32 := 0#32
  ![v0.toNat, v336.toNat, 0, 0, 0]
def k0_off82 (v339 : BitVec 32) : Fin 4 → Nat :=
  let c0_i32_187 : BitVec 32 := 0#32
  let c0_i32_188 : BitVec 32 := 0#32
  let c0_i32_189 : BitVec 32 := 0#32
  ![v339.toNat, 0, 0, 0]

def k0_chk24 (v339 : BitVec 32) : Prop :=
  (∀ a, (k0_off82 v339) a + S1x2x128x128.size a ≤ S2048x2x128x128.size a) ∧
  (∀ (hinb : ∀ a, (k0_off82 v339) a + S1x2x128x128.size a ≤ S2048x2x128x128.size a), (Rect.unit (s := S2048x2x128x128) (k0_off82 v339) S1x2x128x128.size hinb).WholeWords (EltTy.packing .fp8e4m3))
theorem k0_off82_inb : ∀ (v339 : BitVec 32) (k0_hw24 : k0_chk24 v339), ∀ a, (k0_off82 v339) a + S1x2x128x128.size a ≤ S2048x2x128x128.size a := fun v339 k0_hw24 => k0_hw24.1
theorem k0_off82_wordsfp8e4m3 : ∀ (v339 : BitVec 32) (k0_hw24 : k0_chk24 v339), (Rect.unit (s := S2048x2x128x128) (k0_off82 v339) S1x2x128x128.size (k0_off82_inb v339 k0_hw24)).WholeWords (EltTy.packing .fp8e4m3) := fun v339 k0_hw24 => k0_hw24.2 (k0_off82_inb v339 k0_hw24)

def k0_off83 (i : grid0.Coords) (v9 : BitVec 32) (k0_t6 : Fin (k0_t6_loop v9).trips) : Fin 2 → Nat :=
  let arg0 : BitVec 32 := BitVec.ofNat 32 (i 0).val
  let c2_i32 : BitVec 32 := 2#32
  let v0 : BitVec 32 := Scalar.remsi arg0 c2_i32
  let c0_i32_57 : BitVec 32 := 0#32
  let c9_i32 : BitVec 32 := 9#32
  let v10 : BitVec 32 := Scalar.shrui v9 c9_i32
  let v109 : BitVec 32 := Scalar.subi v10 c0_i32_57
  let c1_i32_58 : BitVec 32 := 1#32
  let v111 : BitVec 32 := Scalar.divsi v109 c1_i32_58
  let v112 : BitVec 32 := Scalar.muli v111 c1_i32_58
  let v113 : BitVec 32 := Scalar.addi c0_i32_57 v112
  let c1_i32_60 : BitVec 32 := 1#32
  let arg17 : BitVec 32 := Scf.iv v113 c1_i32_60 k0_t6
  ![v0.toNat, arg17.toNat]
def k0_off84 (i : grid0.Coords) (v9 : BitVec 32) (k0_t6 : Fin (k0_t6_loop v9).trips) (c0_i32_178 : BitVec 32) : Fin 5 → Nat :=
  let arg0 : BitVec 32 := BitVec.ofNat 32 (i 0).val
  let c2_i32 : BitVec 32 := 2#32
  let v0 : BitVec 32 := Scalar.remsi arg0 c2_i32
  let c0_i32_57 : BitVec 32 := 0#32
  let c9_i32 : BitVec 32 := 9#32
  let v10 : BitVec 32 := Scalar.shrui v9 c9_i32
  let v109 : BitVec 32 := Scalar.subi v10 c0_i32_57
  let c1_i32_58 : BitVec 32 := 1#32
  let v111 : BitVec 32 := Scalar.divsi v109 c1_i32_58
  let v112 : BitVec 32 := Scalar.muli v111 c1_i32_58
  let v113 : BitVec 32 := Scalar.addi c0_i32_57 v112
  let c1_i32_60 : BitVec 32 := 1#32
  let arg17 : BitVec 32 := Scf.iv v113 c1_i32_60 k0_t6
  let c4_i32 : BitVec 32 := 4#32
  let v335 : BitVec 32 := Scalar.muli arg17 c4_i32
  let v336 : BitVec 32 := Scalar.addi v335 c0_i32_178
  let c0_i32_190 : BitVec 32 := 0#32
  let c0_i32_191 : BitVec 32 := 0#32
  let c0_i32_192 : BitVec 32 := 0#32
  ![v0.toNat, v336.toNat, 0, 0, 0]
def k0_off85 (v344 : BitVec 32) : Fin 4 → Nat :=
  let c0_i32_199 : BitVec 32 := 0#32
  let c0_i32_200 : BitVec 32 := 0#32
  let c0_i32_201 : BitVec 32 := 0#32
  ![v344.toNat, 0, 0, 0]

def k0_chk25 (v344 : BitVec 32) : Prop :=
  (∀ a, (k0_off85 v344) a + S1x2x128x128.size a ≤ S2048x2x128x128.size a) ∧
  (∀ (hinb : ∀ a, (k0_off85 v344) a + S1x2x128x128.size a ≤ S2048x2x128x128.size a), (Rect.unit (s := S2048x2x128x128) (k0_off85 v344) S1x2x128x128.size hinb).WholeWords (EltTy.packing .fp8e4m3))
theorem k0_off85_inb : ∀ (v344 : BitVec 32) (k0_hw25 : k0_chk25 v344), ∀ a, (k0_off85 v344) a + S1x2x128x128.size a ≤ S2048x2x128x128.size a := fun v344 k0_hw25 => k0_hw25.1
theorem k0_off85_wordsfp8e4m3 : ∀ (v344 : BitVec 32) (k0_hw25 : k0_chk25 v344), (Rect.unit (s := S2048x2x128x128) (k0_off85 v344) S1x2x128x128.size (k0_off85_inb v344 k0_hw25)).WholeWords (EltTy.packing .fp8e4m3) := fun v344 k0_hw25 => k0_hw25.2 (k0_off85_inb v344 k0_hw25)

def k0_off86 (i : grid0.Coords) (v9 : BitVec 32) (k0_t6 : Fin (k0_t6_loop v9).trips) : Fin 2 → Nat :=
  let arg0 : BitVec 32 := BitVec.ofNat 32 (i 0).val
  let c2_i32 : BitVec 32 := 2#32
  let v0 : BitVec 32 := Scalar.remsi arg0 c2_i32
  let c0_i32_57 : BitVec 32 := 0#32
  let c9_i32 : BitVec 32 := 9#32
  let v10 : BitVec 32 := Scalar.shrui v9 c9_i32
  let v109 : BitVec 32 := Scalar.subi v10 c0_i32_57
  let c1_i32_58 : BitVec 32 := 1#32
  let v111 : BitVec 32 := Scalar.divsi v109 c1_i32_58
  let v112 : BitVec 32 := Scalar.muli v111 c1_i32_58
  let v113 : BitVec 32 := Scalar.addi c0_i32_57 v112
  let c1_i32_60 : BitVec 32 := 1#32
  let arg17 : BitVec 32 := Scf.iv v113 c1_i32_60 k0_t6
  ![v0.toNat, arg17.toNat]
def k0_off87 (i : grid0.Coords) (v9 : BitVec 32) (k0_t6 : Fin (k0_t6_loop v9).trips) (c1_i32_180 : BitVec 32) : Fin 5 → Nat :=
  let arg0 : BitVec 32 := BitVec.ofNat 32 (i 0).val
  let c2_i32 : BitVec 32 := 2#32
  let v0 : BitVec 32 := Scalar.remsi arg0 c2_i32
  let c0_i32_57 : BitVec 32 := 0#32
  let c9_i32 : BitVec 32 := 9#32
  let v10 : BitVec 32 := Scalar.shrui v9 c9_i32
  let v109 : BitVec 32 := Scalar.subi v10 c0_i32_57
  let c1_i32_58 : BitVec 32 := 1#32
  let v111 : BitVec 32 := Scalar.divsi v109 c1_i32_58
  let v112 : BitVec 32 := Scalar.muli v111 c1_i32_58
  let v113 : BitVec 32 := Scalar.addi c0_i32_57 v112
  let c1_i32_60 : BitVec 32 := 1#32
  let arg17 : BitVec 32 := Scf.iv v113 c1_i32_60 k0_t6
  let c4_i32_179 : BitVec 32 := 4#32
  let v340 : BitVec 32 := Scalar.muli arg17 c4_i32_179
  let v341 : BitVec 32 := Scalar.addi v340 c1_i32_180
  let c0_i32_202 : BitVec 32 := 0#32
  let c0_i32_203 : BitVec 32 := 0#32
  let c0_i32_204 : BitVec 32 := 0#32
  ![v0.toNat, v341.toNat, 0, 0, 0]
def k0_off88 (v349 : BitVec 32) : Fin 4 → Nat :=
  let c0_i32_211 : BitVec 32 := 0#32
  let c0_i32_212 : BitVec 32 := 0#32
  let c0_i32_213 : BitVec 32 := 0#32
  ![v349.toNat, 0, 0, 0]

def k0_chk26 (v349 : BitVec 32) : Prop :=
  (∀ a, (k0_off88 v349) a + S1x2x128x128.size a ≤ S2048x2x128x128.size a) ∧
  (∀ (hinb : ∀ a, (k0_off88 v349) a + S1x2x128x128.size a ≤ S2048x2x128x128.size a), (Rect.unit (s := S2048x2x128x128) (k0_off88 v349) S1x2x128x128.size hinb).WholeWords (EltTy.packing .fp8e4m3))
theorem k0_off88_inb : ∀ (v349 : BitVec 32) (k0_hw26 : k0_chk26 v349), ∀ a, (k0_off88 v349) a + S1x2x128x128.size a ≤ S2048x2x128x128.size a := fun v349 k0_hw26 => k0_hw26.1
theorem k0_off88_wordsfp8e4m3 : ∀ (v349 : BitVec 32) (k0_hw26 : k0_chk26 v349), (Rect.unit (s := S2048x2x128x128) (k0_off88 v349) S1x2x128x128.size (k0_off88_inb v349 k0_hw26)).WholeWords (EltTy.packing .fp8e4m3) := fun v349 k0_hw26 => k0_hw26.2 (k0_off88_inb v349 k0_hw26)

def k0_off89 (i : grid0.Coords) (v9 : BitVec 32) (k0_t6 : Fin (k0_t6_loop v9).trips) : Fin 2 → Nat :=
  let arg0 : BitVec 32 := BitVec.ofNat 32 (i 0).val
  let c2_i32 : BitVec 32 := 2#32
  let v0 : BitVec 32 := Scalar.remsi arg0 c2_i32
  let c0_i32_57 : BitVec 32 := 0#32
  let c9_i32 : BitVec 32 := 9#32
  let v10 : BitVec 32 := Scalar.shrui v9 c9_i32
  let v109 : BitVec 32 := Scalar.subi v10 c0_i32_57
  let c1_i32_58 : BitVec 32 := 1#32
  let v111 : BitVec 32 := Scalar.divsi v109 c1_i32_58
  let v112 : BitVec 32 := Scalar.muli v111 c1_i32_58
  let v113 : BitVec 32 := Scalar.addi c0_i32_57 v112
  let c1_i32_60 : BitVec 32 := 1#32
  let arg17 : BitVec 32 := Scf.iv v113 c1_i32_60 k0_t6
  ![v0.toNat, arg17.toNat]
def k0_off90 (i : grid0.Coords) (v9 : BitVec 32) (k0_t6 : Fin (k0_t6_loop v9).trips) (c2_i32_182 : BitVec 32) : Fin 5 → Nat :=
  let arg0 : BitVec 32 := BitVec.ofNat 32 (i 0).val
  let c2_i32 : BitVec 32 := 2#32
  let v0 : BitVec 32 := Scalar.remsi arg0 c2_i32
  let c0_i32_57 : BitVec 32 := 0#32
  let c9_i32 : BitVec 32 := 9#32
  let v10 : BitVec 32 := Scalar.shrui v9 c9_i32
  let v109 : BitVec 32 := Scalar.subi v10 c0_i32_57
  let c1_i32_58 : BitVec 32 := 1#32
  let v111 : BitVec 32 := Scalar.divsi v109 c1_i32_58
  let v112 : BitVec 32 := Scalar.muli v111 c1_i32_58
  let v113 : BitVec 32 := Scalar.addi c0_i32_57 v112
  let c1_i32_60 : BitVec 32 := 1#32
  let arg17 : BitVec 32 := Scf.iv v113 c1_i32_60 k0_t6
  let c4_i32_181 : BitVec 32 := 4#32
  let v345 : BitVec 32 := Scalar.muli arg17 c4_i32_181
  let v346 : BitVec 32 := Scalar.addi v345 c2_i32_182
  let c0_i32_214 : BitVec 32 := 0#32
  let c0_i32_215 : BitVec 32 := 0#32
  let c0_i32_216 : BitVec 32 := 0#32
  ![v0.toNat, v346.toNat, 0, 0, 0]
def k0_off91 (v354 : BitVec 32) : Fin 4 → Nat :=
  let c0_i32_223 : BitVec 32 := 0#32
  let c0_i32_224 : BitVec 32 := 0#32
  let c0_i32_225 : BitVec 32 := 0#32
  ![v354.toNat, 0, 0, 0]

def k0_chk27 (v354 : BitVec 32) : Prop :=
  (∀ a, (k0_off91 v354) a + S1x2x128x128.size a ≤ S2048x2x128x128.size a) ∧
  (∀ (hinb : ∀ a, (k0_off91 v354) a + S1x2x128x128.size a ≤ S2048x2x128x128.size a), (Rect.unit (s := S2048x2x128x128) (k0_off91 v354) S1x2x128x128.size hinb).WholeWords (EltTy.packing .fp8e4m3))
theorem k0_off91_inb : ∀ (v354 : BitVec 32) (k0_hw27 : k0_chk27 v354), ∀ a, (k0_off91 v354) a + S1x2x128x128.size a ≤ S2048x2x128x128.size a := fun v354 k0_hw27 => k0_hw27.1
theorem k0_off91_wordsfp8e4m3 : ∀ (v354 : BitVec 32) (k0_hw27 : k0_chk27 v354), (Rect.unit (s := S2048x2x128x128) (k0_off91 v354) S1x2x128x128.size (k0_off91_inb v354 k0_hw27)).WholeWords (EltTy.packing .fp8e4m3) := fun v354 k0_hw27 => k0_hw27.2 (k0_off91_inb v354 k0_hw27)

def k0_off92 (i : grid0.Coords) (v9 : BitVec 32) (k0_t6 : Fin (k0_t6_loop v9).trips) : Fin 2 → Nat :=
  let arg0 : BitVec 32 := BitVec.ofNat 32 (i 0).val
  let c2_i32 : BitVec 32 := 2#32
  let v0 : BitVec 32 := Scalar.remsi arg0 c2_i32
  let c0_i32_57 : BitVec 32 := 0#32
  let c9_i32 : BitVec 32 := 9#32
  let v10 : BitVec 32 := Scalar.shrui v9 c9_i32
  let v109 : BitVec 32 := Scalar.subi v10 c0_i32_57
  let c1_i32_58 : BitVec 32 := 1#32
  let v111 : BitVec 32 := Scalar.divsi v109 c1_i32_58
  let v112 : BitVec 32 := Scalar.muli v111 c1_i32_58
  let v113 : BitVec 32 := Scalar.addi c0_i32_57 v112
  let c1_i32_60 : BitVec 32 := 1#32
  let arg17 : BitVec 32 := Scf.iv v113 c1_i32_60 k0_t6
  ![v0.toNat, arg17.toNat]
def k0_off93 (i : grid0.Coords) (v9 : BitVec 32) (k0_t6 : Fin (k0_t6_loop v9).trips) : Fin 5 → Nat :=
  let arg0 : BitVec 32 := BitVec.ofNat 32 (i 0).val
  let c2_i32 : BitVec 32 := 2#32
  let v0 : BitVec 32 := Scalar.remsi arg0 c2_i32
  let c0_i32_57 : BitVec 32 := 0#32
  let c9_i32 : BitVec 32 := 9#32
  let v10 : BitVec 32 := Scalar.shrui v9 c9_i32
  let v109 : BitVec 32 := Scalar.subi v10 c0_i32_57
  let c1_i32_58 : BitVec 32 := 1#32
  let v111 : BitVec 32 := Scalar.divsi v109 c1_i32_58
  let v112 : BitVec 32 := Scalar.muli v111 c1_i32_58
  let v113 : BitVec 32 := Scalar.addi c0_i32_57 v112
  let c1_i32_60 : BitVec 32 := 1#32
  let arg17 : BitVec 32 := Scf.iv v113 c1_i32_60 k0_t6
  let c4_i32_183 : BitVec 32 := 4#32
  let v350 : BitVec 32 := Scalar.muli arg17 c4_i32_183
  let c3_i32 : BitVec 32 := 3#32
  let v351 : BitVec 32 := Scalar.addi v350 c3_i32
  let c0_i32_226 : BitVec 32 := 0#32
  let c0_i32_227 : BitVec 32 := 0#32
  let c0_i32_228 : BitVec 32 := 0#32
  ![v0.toNat, v351.toNat, 0, 0, 0]
def k0_off94 (i : grid0.Coords) (v9 : BitVec 32) (k0_t6 : Fin (k0_t6_loop v9).trips) : Fin 5 → Nat :=
  let arg0 : BitVec 32 := BitVec.ofNat 32 (i 0).val
  let c2_i32 : BitVec 32 := 2#32
  let v0 : BitVec 32 := Scalar.remsi arg0 c2_i32
  let v404 : Index := Scalar.indexCast v0
  let c0_i32_57 : BitVec 32 := 0#32
  let c9_i32 : BitVec 32 := 9#32
  let v10 : BitVec 32 := Scalar.shrui v9 c9_i32
  let v109 : BitVec 32 := Scalar.subi v10 c0_i32_57
  let c1_i32_58 : BitVec 32 := 1#32
  let v111 : BitVec 32 := Scalar.divsi v109 c1_i32_58
  let v112 : BitVec 32 := Scalar.muli v111 c1_i32_58
  let v113 : BitVec 32 := Scalar.addi c0_i32_57 v112
  let c1_i32_60 : BitVec 32 := 1#32
  let arg17 : BitVec 32 := Scf.iv v113 c1_i32_60 k0_t6
  let c4_i32_232 : BitVec 32 := 4#32
  let v403 : BitVec 32 := Scalar.muli arg17 c4_i32_232
  let v405 : Index := Scalar.indexCast v403
  let c0_233 : Index := 0#32
  let c0_234 : Index := 0#32
  let c0_235 : Index := 0#32
  ![v404.toNat, v405.toNat, 0, 0, 0]
@[reducible] def k0_t7_loop (v9 : BitVec 32) : Scf.Loop 32 :=
  let c9_i32 : BitVec 32 := 9#32
  let v10 : BitVec 32 := Scalar.shrui v9 c9_i32
  let c511_i32 : BitVec 32 := 511#32
  let v11 : BitVec 32 := Scalar.addi v9 c511_i32
  let c9_i32_2 : BitVec 32 := 9#32
  let v12 : BitVec 32 := Scalar.shrui v11 c9_i32_2
  let v116 : BitVec 32 := Scalar.subi v12 v10
  let c1_i32_61 : BitVec 32 := 1#32
  let v118 : BitVec 32 := Scalar.divsi v116 c1_i32_61
  let v119 : BitVec 32 := Scalar.muli v118 c1_i32_61
  let v120 : BitVec 32 := Scalar.addi v10 v119
  let c1_i32_62 : BitVec 32 := 1#32
  ⟨v10, v120, c1_i32_62⟩
def k0_off95 (i : grid0.Coords) (v9 : BitVec 32) (k0_t7 : Fin (k0_t7_loop v9).trips) (c0_i32_178 : BitVec 32) : Fin 2 → Nat :=
  let arg0 : BitVec 32 := BitVec.ofNat 32 (i 0).val
  let v337 : Index := Scalar.indexCast arg0
  let c9_i32 : BitVec 32 := 9#32
  let v10 : BitVec 32 := Scalar.shrui v9 c9_i32
  let c1_i32_62 : BitVec 32 := 1#32
  let arg17 : BitVec 32 := Scf.iv v10 c1_i32_62 k0_t7
  let c4_i32 : BitVec 32 := 4#32
  let v335 : BitVec 32 := Scalar.muli arg17 c4_i32
  let v336 : BitVec 32 := Scalar.addi v335 c0_i32_178
  let v338 : Index := Scalar.indexCast v336
  ![v337.toNat, v338.toNat]
def k0_off96 (i : grid0.Coords) (v9 : BitVec 32) (k0_t7 : Fin (k0_t7_loop v9).trips) : Fin 2 → Nat :=
  let arg0 : BitVec 32 := BitVec.ofNat 32 (i 0).val
  let c2_i32 : BitVec 32 := 2#32
  let v0 : BitVec 32 := Scalar.remsi arg0 c2_i32
  let c9_i32 : BitVec 32 := 9#32
  let v10 : BitVec 32 := Scalar.shrui v9 c9_i32
  let c1_i32_62 : BitVec 32 := 1#32
  let arg17 : BitVec 32 := Scf.iv v10 c1_i32_62 k0_t7
  ![v0.toNat, arg17.toNat]
def k0_off97 (i : grid0.Coords) (v9 : BitVec 32) (k0_t7 : Fin (k0_t7_loop v9).trips) : Fin 5 → Nat :=
  let arg0 : BitVec 32 := BitVec.ofNat 32 (i 0).val
  let c2_i32 : BitVec 32 := 2#32
  let v0 : BitVec 32 := Scalar.remsi arg0 c2_i32
  let c9_i32 : BitVec 32 := 9#32
  let v10 : BitVec 32 := Scalar.shrui v9 c9_i32
  let c1_i32_62 : BitVec 32 := 1#32
  let arg17 : BitVec 32 := Scf.iv v10 c1_i32_62 k0_t7
  let c4_i32 : BitVec 32 := 4#32
  let v335 : BitVec 32 := Scalar.muli arg17 c4_i32
  let c0_i32_178 : BitVec 32 := 0#32
  let v336 : BitVec 32 := Scalar.addi v335 c0_i32_178
  let c0_i32_184 : BitVec 32 := 0#32
  let c0_i32_185 : BitVec 32 := 0#32
  let c0_i32_186 : BitVec 32 := 0#32
  ![v0.toNat, v336.toNat, 0, 0, 0]
def k0_off98 (v339 : BitVec 32) : Fin 4 → Nat :=
  let c0_i32_187 : BitVec 32 := 0#32
  let c0_i32_188 : BitVec 32 := 0#32
  let c0_i32_189 : BitVec 32 := 0#32
  ![v339.toNat, 0, 0, 0]

def k0_chk28 (v339 : BitVec 32) : Prop :=
  (∀ a, (k0_off98 v339) a + S1x2x128x128.size a ≤ S2048x2x128x128.size a) ∧
  (∀ (hinb : ∀ a, (k0_off98 v339) a + S1x2x128x128.size a ≤ S2048x2x128x128.size a), (Rect.unit (s := S2048x2x128x128) (k0_off98 v339) S1x2x128x128.size hinb).WholeWords (EltTy.packing .fp8e4m3))
theorem k0_off98_inb : ∀ (v339 : BitVec 32) (k0_hw28 : k0_chk28 v339), ∀ a, (k0_off98 v339) a + S1x2x128x128.size a ≤ S2048x2x128x128.size a := fun v339 k0_hw28 => k0_hw28.1
theorem k0_off98_wordsfp8e4m3 : ∀ (v339 : BitVec 32) (k0_hw28 : k0_chk28 v339), (Rect.unit (s := S2048x2x128x128) (k0_off98 v339) S1x2x128x128.size (k0_off98_inb v339 k0_hw28)).WholeWords (EltTy.packing .fp8e4m3) := fun v339 k0_hw28 => k0_hw28.2 (k0_off98_inb v339 k0_hw28)

def k0_off99 (i : grid0.Coords) (v9 : BitVec 32) (k0_t7 : Fin (k0_t7_loop v9).trips) : Fin 2 → Nat :=
  let arg0 : BitVec 32 := BitVec.ofNat 32 (i 0).val
  let c2_i32 : BitVec 32 := 2#32
  let v0 : BitVec 32 := Scalar.remsi arg0 c2_i32
  let c9_i32 : BitVec 32 := 9#32
  let v10 : BitVec 32 := Scalar.shrui v9 c9_i32
  let c1_i32_62 : BitVec 32 := 1#32
  let arg17 : BitVec 32 := Scf.iv v10 c1_i32_62 k0_t7
  ![v0.toNat, arg17.toNat]
def k0_off100 (i : grid0.Coords) (v9 : BitVec 32) (k0_t7 : Fin (k0_t7_loop v9).trips) (c0_i32_178 : BitVec 32) : Fin 5 → Nat :=
  let arg0 : BitVec 32 := BitVec.ofNat 32 (i 0).val
  let c2_i32 : BitVec 32 := 2#32
  let v0 : BitVec 32 := Scalar.remsi arg0 c2_i32
  let c9_i32 : BitVec 32 := 9#32
  let v10 : BitVec 32 := Scalar.shrui v9 c9_i32
  let c1_i32_62 : BitVec 32 := 1#32
  let arg17 : BitVec 32 := Scf.iv v10 c1_i32_62 k0_t7
  let c4_i32 : BitVec 32 := 4#32
  let v335 : BitVec 32 := Scalar.muli arg17 c4_i32
  let v336 : BitVec 32 := Scalar.addi v335 c0_i32_178
  let c0_i32_190 : BitVec 32 := 0#32
  let c0_i32_191 : BitVec 32 := 0#32
  let c0_i32_192 : BitVec 32 := 0#32
  ![v0.toNat, v336.toNat, 0, 0, 0]
def k0_off101 (v344 : BitVec 32) : Fin 4 → Nat :=
  let c0_i32_199 : BitVec 32 := 0#32
  let c0_i32_200 : BitVec 32 := 0#32
  let c0_i32_201 : BitVec 32 := 0#32
  ![v344.toNat, 0, 0, 0]

def k0_chk29 (v344 : BitVec 32) : Prop :=
  (∀ a, (k0_off101 v344) a + S1x2x128x128.size a ≤ S2048x2x128x128.size a) ∧
  (∀ (hinb : ∀ a, (k0_off101 v344) a + S1x2x128x128.size a ≤ S2048x2x128x128.size a), (Rect.unit (s := S2048x2x128x128) (k0_off101 v344) S1x2x128x128.size hinb).WholeWords (EltTy.packing .fp8e4m3))
theorem k0_off101_inb : ∀ (v344 : BitVec 32) (k0_hw29 : k0_chk29 v344), ∀ a, (k0_off101 v344) a + S1x2x128x128.size a ≤ S2048x2x128x128.size a := fun v344 k0_hw29 => k0_hw29.1
theorem k0_off101_wordsfp8e4m3 : ∀ (v344 : BitVec 32) (k0_hw29 : k0_chk29 v344), (Rect.unit (s := S2048x2x128x128) (k0_off101 v344) S1x2x128x128.size (k0_off101_inb v344 k0_hw29)).WholeWords (EltTy.packing .fp8e4m3) := fun v344 k0_hw29 => k0_hw29.2 (k0_off101_inb v344 k0_hw29)

def k0_off102 (i : grid0.Coords) (v9 : BitVec 32) (k0_t7 : Fin (k0_t7_loop v9).trips) : Fin 2 → Nat :=
  let arg0 : BitVec 32 := BitVec.ofNat 32 (i 0).val
  let c2_i32 : BitVec 32 := 2#32
  let v0 : BitVec 32 := Scalar.remsi arg0 c2_i32
  let c9_i32 : BitVec 32 := 9#32
  let v10 : BitVec 32 := Scalar.shrui v9 c9_i32
  let c1_i32_62 : BitVec 32 := 1#32
  let arg17 : BitVec 32 := Scf.iv v10 c1_i32_62 k0_t7
  ![v0.toNat, arg17.toNat]
def k0_off103 (i : grid0.Coords) (v9 : BitVec 32) (k0_t7 : Fin (k0_t7_loop v9).trips) (c1_i32_180 : BitVec 32) : Fin 5 → Nat :=
  let arg0 : BitVec 32 := BitVec.ofNat 32 (i 0).val
  let c2_i32 : BitVec 32 := 2#32
  let v0 : BitVec 32 := Scalar.remsi arg0 c2_i32
  let c9_i32 : BitVec 32 := 9#32
  let v10 : BitVec 32 := Scalar.shrui v9 c9_i32
  let c1_i32_62 : BitVec 32 := 1#32
  let arg17 : BitVec 32 := Scf.iv v10 c1_i32_62 k0_t7
  let c4_i32_179 : BitVec 32 := 4#32
  let v340 : BitVec 32 := Scalar.muli arg17 c4_i32_179
  let v341 : BitVec 32 := Scalar.addi v340 c1_i32_180
  let c0_i32_202 : BitVec 32 := 0#32
  let c0_i32_203 : BitVec 32 := 0#32
  let c0_i32_204 : BitVec 32 := 0#32
  ![v0.toNat, v341.toNat, 0, 0, 0]
def k0_off104 (v349 : BitVec 32) : Fin 4 → Nat :=
  let c0_i32_211 : BitVec 32 := 0#32
  let c0_i32_212 : BitVec 32 := 0#32
  let c0_i32_213 : BitVec 32 := 0#32
  ![v349.toNat, 0, 0, 0]

def k0_chk30 (v349 : BitVec 32) : Prop :=
  (∀ a, (k0_off104 v349) a + S1x2x128x128.size a ≤ S2048x2x128x128.size a) ∧
  (∀ (hinb : ∀ a, (k0_off104 v349) a + S1x2x128x128.size a ≤ S2048x2x128x128.size a), (Rect.unit (s := S2048x2x128x128) (k0_off104 v349) S1x2x128x128.size hinb).WholeWords (EltTy.packing .fp8e4m3))
theorem k0_off104_inb : ∀ (v349 : BitVec 32) (k0_hw30 : k0_chk30 v349), ∀ a, (k0_off104 v349) a + S1x2x128x128.size a ≤ S2048x2x128x128.size a := fun v349 k0_hw30 => k0_hw30.1
theorem k0_off104_wordsfp8e4m3 : ∀ (v349 : BitVec 32) (k0_hw30 : k0_chk30 v349), (Rect.unit (s := S2048x2x128x128) (k0_off104 v349) S1x2x128x128.size (k0_off104_inb v349 k0_hw30)).WholeWords (EltTy.packing .fp8e4m3) := fun v349 k0_hw30 => k0_hw30.2 (k0_off104_inb v349 k0_hw30)

def k0_off105 (i : grid0.Coords) (v9 : BitVec 32) (k0_t7 : Fin (k0_t7_loop v9).trips) : Fin 2 → Nat :=
  let arg0 : BitVec 32 := BitVec.ofNat 32 (i 0).val
  let c2_i32 : BitVec 32 := 2#32
  let v0 : BitVec 32 := Scalar.remsi arg0 c2_i32
  let c9_i32 : BitVec 32 := 9#32
  let v10 : BitVec 32 := Scalar.shrui v9 c9_i32
  let c1_i32_62 : BitVec 32 := 1#32
  let arg17 : BitVec 32 := Scf.iv v10 c1_i32_62 k0_t7
  ![v0.toNat, arg17.toNat]
def k0_off106 (i : grid0.Coords) (v9 : BitVec 32) (k0_t7 : Fin (k0_t7_loop v9).trips) (c2_i32_182 : BitVec 32) : Fin 5 → Nat :=
  let arg0 : BitVec 32 := BitVec.ofNat 32 (i 0).val
  let c2_i32 : BitVec 32 := 2#32
  let v0 : BitVec 32 := Scalar.remsi arg0 c2_i32
  let c9_i32 : BitVec 32 := 9#32
  let v10 : BitVec 32 := Scalar.shrui v9 c9_i32
  let c1_i32_62 : BitVec 32 := 1#32
  let arg17 : BitVec 32 := Scf.iv v10 c1_i32_62 k0_t7
  let c4_i32_181 : BitVec 32 := 4#32
  let v345 : BitVec 32 := Scalar.muli arg17 c4_i32_181
  let v346 : BitVec 32 := Scalar.addi v345 c2_i32_182
  let c0_i32_214 : BitVec 32 := 0#32
  let c0_i32_215 : BitVec 32 := 0#32
  let c0_i32_216 : BitVec 32 := 0#32
  ![v0.toNat, v346.toNat, 0, 0, 0]
def k0_off107 (v354 : BitVec 32) : Fin 4 → Nat :=
  let c0_i32_223 : BitVec 32 := 0#32
  let c0_i32_224 : BitVec 32 := 0#32
  let c0_i32_225 : BitVec 32 := 0#32
  ![v354.toNat, 0, 0, 0]

def k0_chk31 (v354 : BitVec 32) : Prop :=
  (∀ a, (k0_off107 v354) a + S1x2x128x128.size a ≤ S2048x2x128x128.size a) ∧
  (∀ (hinb : ∀ a, (k0_off107 v354) a + S1x2x128x128.size a ≤ S2048x2x128x128.size a), (Rect.unit (s := S2048x2x128x128) (k0_off107 v354) S1x2x128x128.size hinb).WholeWords (EltTy.packing .fp8e4m3))
theorem k0_off107_inb : ∀ (v354 : BitVec 32) (k0_hw31 : k0_chk31 v354), ∀ a, (k0_off107 v354) a + S1x2x128x128.size a ≤ S2048x2x128x128.size a := fun v354 k0_hw31 => k0_hw31.1
theorem k0_off107_wordsfp8e4m3 : ∀ (v354 : BitVec 32) (k0_hw31 : k0_chk31 v354), (Rect.unit (s := S2048x2x128x128) (k0_off107 v354) S1x2x128x128.size (k0_off107_inb v354 k0_hw31)).WholeWords (EltTy.packing .fp8e4m3) := fun v354 k0_hw31 => k0_hw31.2 (k0_off107_inb v354 k0_hw31)

def k0_off108 (i : grid0.Coords) (v9 : BitVec 32) (k0_t7 : Fin (k0_t7_loop v9).trips) : Fin 2 → Nat :=
  let arg0 : BitVec 32 := BitVec.ofNat 32 (i 0).val
  let c2_i32 : BitVec 32 := 2#32
  let v0 : BitVec 32 := Scalar.remsi arg0 c2_i32
  let c9_i32 : BitVec 32 := 9#32
  let v10 : BitVec 32 := Scalar.shrui v9 c9_i32
  let c1_i32_62 : BitVec 32 := 1#32
  let arg17 : BitVec 32 := Scf.iv v10 c1_i32_62 k0_t7
  ![v0.toNat, arg17.toNat]
def k0_off109 (i : grid0.Coords) (v9 : BitVec 32) (k0_t7 : Fin (k0_t7_loop v9).trips) : Fin 5 → Nat :=
  let arg0 : BitVec 32 := BitVec.ofNat 32 (i 0).val
  let c2_i32 : BitVec 32 := 2#32
  let v0 : BitVec 32 := Scalar.remsi arg0 c2_i32
  let c9_i32 : BitVec 32 := 9#32
  let v10 : BitVec 32 := Scalar.shrui v9 c9_i32
  let c1_i32_62 : BitVec 32 := 1#32
  let arg17 : BitVec 32 := Scf.iv v10 c1_i32_62 k0_t7
  let c4_i32_183 : BitVec 32 := 4#32
  let v350 : BitVec 32 := Scalar.muli arg17 c4_i32_183
  let c3_i32 : BitVec 32 := 3#32
  let v351 : BitVec 32 := Scalar.addi v350 c3_i32
  let c0_i32_226 : BitVec 32 := 0#32
  let c0_i32_227 : BitVec 32 := 0#32
  let c0_i32_228 : BitVec 32 := 0#32
  ![v0.toNat, v351.toNat, 0, 0, 0]
def k0_off110 (i : grid0.Coords) (v9 : BitVec 32) (k0_t7 : Fin (k0_t7_loop v9).trips) : Fin 5 → Nat :=
  let arg0 : BitVec 32 := BitVec.ofNat 32 (i 0).val
  let c2_i32 : BitVec 32 := 2#32
  let v0 : BitVec 32 := Scalar.remsi arg0 c2_i32
  let v404 : Index := Scalar.indexCast v0
  let c9_i32 : BitVec 32 := 9#32
  let v10 : BitVec 32 := Scalar.shrui v9 c9_i32
  let c1_i32_62 : BitVec 32 := 1#32
  let arg17 : BitVec 32 := Scf.iv v10 c1_i32_62 k0_t7
  let c4_i32_232 : BitVec 32 := 4#32
  let v403 : BitVec 32 := Scalar.muli arg17 c4_i32_232
  let v405 : Index := Scalar.indexCast v403
  let c0_233 : Index := 0#32
  let c0_234 : Index := 0#32
  let c0_235 : Index := 0#32
  ![v404.toNat, v405.toNat, 0, 0, 0]
@[reducible] def k0_t8_loop (v9 : BitVec 32) : Scf.Loop 32 :=
  let c9_i32 : BitVec 32 := 9#32
  let v10 : BitVec 32 := Scalar.shrui v9 c9_i32
  let c511_i32 : BitVec 32 := 511#32
  let v11 : BitVec 32 := Scalar.addi v9 c511_i32
  let c9_i32_2 : BitVec 32 := 9#32
  let v12 : BitVec 32 := Scalar.shrui v11 c9_i32_2
  let v116 : BitVec 32 := Scalar.subi v12 v10
  let c1_i32_61 : BitVec 32 := 1#32
  let v118 : BitVec 32 := Scalar.divsi v116 c1_i32_61
  let v119 : BitVec 32 := Scalar.muli v118 c1_i32_61
  let v120 : BitVec 32 := Scalar.addi v10 v119
  let v117 : BitVec 32 := Scalar.addi v10 v116
  let c1_i32_63 : BitVec 32 := 1#32
  ⟨v120, v117, c1_i32_63⟩
def k0_off111 (i : grid0.Coords) (v9 : BitVec 32) (k0_t8 : Fin (k0_t8_loop v9).trips) (c0_i32_178 : BitVec 32) : Fin 2 → Nat :=
  let arg0 : BitVec 32 := BitVec.ofNat 32 (i 0).val
  let v337 : Index := Scalar.indexCast arg0
  let c9_i32 : BitVec 32 := 9#32
  let v10 : BitVec 32 := Scalar.shrui v9 c9_i32
  let c511_i32 : BitVec 32 := 511#32
  let v11 : BitVec 32 := Scalar.addi v9 c511_i32
  let c9_i32_2 : BitVec 32 := 9#32
  let v12 : BitVec 32 := Scalar.shrui v11 c9_i32_2
  let v116 : BitVec 32 := Scalar.subi v12 v10
  let c1_i32_61 : BitVec 32 := 1#32
  let v118 : BitVec 32 := Scalar.divsi v116 c1_i32_61
  let v119 : BitVec 32 := Scalar.muli v118 c1_i32_61
  let v120 : BitVec 32 := Scalar.addi v10 v119
  let c1_i32_63 : BitVec 32 := 1#32
  let arg17 : BitVec 32 := Scf.iv v120 c1_i32_63 k0_t8
  let c4_i32 : BitVec 32 := 4#32
  let v335 : BitVec 32 := Scalar.muli arg17 c4_i32
  let v336 : BitVec 32 := Scalar.addi v335 c0_i32_178
  let v338 : Index := Scalar.indexCast v336
  ![v337.toNat, v338.toNat]
def k0_off112 (i : grid0.Coords) (v9 : BitVec 32) (k0_t8 : Fin (k0_t8_loop v9).trips) : Fin 2 → Nat :=
  let arg0 : BitVec 32 := BitVec.ofNat 32 (i 0).val
  let c2_i32 : BitVec 32 := 2#32
  let v0 : BitVec 32 := Scalar.remsi arg0 c2_i32
  let c9_i32 : BitVec 32 := 9#32
  let v10 : BitVec 32 := Scalar.shrui v9 c9_i32
  let c511_i32 : BitVec 32 := 511#32
  let v11 : BitVec 32 := Scalar.addi v9 c511_i32
  let c9_i32_2 : BitVec 32 := 9#32
  let v12 : BitVec 32 := Scalar.shrui v11 c9_i32_2
  let v116 : BitVec 32 := Scalar.subi v12 v10
  let c1_i32_61 : BitVec 32 := 1#32
  let v118 : BitVec 32 := Scalar.divsi v116 c1_i32_61
  let v119 : BitVec 32 := Scalar.muli v118 c1_i32_61
  let v120 : BitVec 32 := Scalar.addi v10 v119
  let c1_i32_63 : BitVec 32 := 1#32
  let arg17 : BitVec 32 := Scf.iv v120 c1_i32_63 k0_t8
  ![v0.toNat, arg17.toNat]
def k0_off113 (i : grid0.Coords) (v9 : BitVec 32) (k0_t8 : Fin (k0_t8_loop v9).trips) : Fin 5 → Nat :=
  let arg0 : BitVec 32 := BitVec.ofNat 32 (i 0).val
  let c2_i32 : BitVec 32 := 2#32
  let v0 : BitVec 32 := Scalar.remsi arg0 c2_i32
  let c9_i32 : BitVec 32 := 9#32
  let v10 : BitVec 32 := Scalar.shrui v9 c9_i32
  let c511_i32 : BitVec 32 := 511#32
  let v11 : BitVec 32 := Scalar.addi v9 c511_i32
  let c9_i32_2 : BitVec 32 := 9#32
  let v12 : BitVec 32 := Scalar.shrui v11 c9_i32_2
  let v116 : BitVec 32 := Scalar.subi v12 v10
  let c1_i32_61 : BitVec 32 := 1#32
  let v118 : BitVec 32 := Scalar.divsi v116 c1_i32_61
  let v119 : BitVec 32 := Scalar.muli v118 c1_i32_61
  let v120 : BitVec 32 := Scalar.addi v10 v119
  let c1_i32_63 : BitVec 32 := 1#32
  let arg17 : BitVec 32 := Scf.iv v120 c1_i32_63 k0_t8
  let c4_i32 : BitVec 32 := 4#32
  let v335 : BitVec 32 := Scalar.muli arg17 c4_i32
  let c0_i32_178 : BitVec 32 := 0#32
  let v336 : BitVec 32 := Scalar.addi v335 c0_i32_178
  let c0_i32_184 : BitVec 32 := 0#32
  let c0_i32_185 : BitVec 32 := 0#32
  let c0_i32_186 : BitVec 32 := 0#32
  ![v0.toNat, v336.toNat, 0, 0, 0]
def k0_off114 (v339 : BitVec 32) : Fin 4 → Nat :=
  let c0_i32_187 : BitVec 32 := 0#32
  let c0_i32_188 : BitVec 32 := 0#32
  let c0_i32_189 : BitVec 32 := 0#32
  ![v339.toNat, 0, 0, 0]

def k0_chk32 (v339 : BitVec 32) : Prop :=
  (∀ a, (k0_off114 v339) a + S1x2x128x128.size a ≤ S2048x2x128x128.size a) ∧
  (∀ (hinb : ∀ a, (k0_off114 v339) a + S1x2x128x128.size a ≤ S2048x2x128x128.size a), (Rect.unit (s := S2048x2x128x128) (k0_off114 v339) S1x2x128x128.size hinb).WholeWords (EltTy.packing .fp8e4m3))
theorem k0_off114_inb : ∀ (v339 : BitVec 32) (k0_hw32 : k0_chk32 v339), ∀ a, (k0_off114 v339) a + S1x2x128x128.size a ≤ S2048x2x128x128.size a := fun v339 k0_hw32 => k0_hw32.1
theorem k0_off114_wordsfp8e4m3 : ∀ (v339 : BitVec 32) (k0_hw32 : k0_chk32 v339), (Rect.unit (s := S2048x2x128x128) (k0_off114 v339) S1x2x128x128.size (k0_off114_inb v339 k0_hw32)).WholeWords (EltTy.packing .fp8e4m3) := fun v339 k0_hw32 => k0_hw32.2 (k0_off114_inb v339 k0_hw32)

def k0_off115 (i : grid0.Coords) (v9 : BitVec 32) (k0_t8 : Fin (k0_t8_loop v9).trips) : Fin 2 → Nat :=
  let arg0 : BitVec 32 := BitVec.ofNat 32 (i 0).val
  let c2_i32 : BitVec 32 := 2#32
  let v0 : BitVec 32 := Scalar.remsi arg0 c2_i32
  let c9_i32 : BitVec 32 := 9#32
  let v10 : BitVec 32 := Scalar.shrui v9 c9_i32
  let c511_i32 : BitVec 32 := 511#32
  let v11 : BitVec 32 := Scalar.addi v9 c511_i32
  let c9_i32_2 : BitVec 32 := 9#32
  let v12 : BitVec 32 := Scalar.shrui v11 c9_i32_2
  let v116 : BitVec 32 := Scalar.subi v12 v10
  let c1_i32_61 : BitVec 32 := 1#32
  let v118 : BitVec 32 := Scalar.divsi v116 c1_i32_61
  let v119 : BitVec 32 := Scalar.muli v118 c1_i32_61
  let v120 : BitVec 32 := Scalar.addi v10 v119
  let c1_i32_63 : BitVec 32 := 1#32
  let arg17 : BitVec 32 := Scf.iv v120 c1_i32_63 k0_t8
  ![v0.toNat, arg17.toNat]
def k0_off116 (i : grid0.Coords) (v9 : BitVec 32) (k0_t8 : Fin (k0_t8_loop v9).trips) (c0_i32_178 : BitVec 32) : Fin 5 → Nat :=
  let arg0 : BitVec 32 := BitVec.ofNat 32 (i 0).val
  let c2_i32 : BitVec 32 := 2#32
  let v0 : BitVec 32 := Scalar.remsi arg0 c2_i32
  let c9_i32 : BitVec 32 := 9#32
  let v10 : BitVec 32 := Scalar.shrui v9 c9_i32
  let c511_i32 : BitVec 32 := 511#32
  let v11 : BitVec 32 := Scalar.addi v9 c511_i32
  let c9_i32_2 : BitVec 32 := 9#32
  let v12 : BitVec 32 := Scalar.shrui v11 c9_i32_2
  let v116 : BitVec 32 := Scalar.subi v12 v10
  let c1_i32_61 : BitVec 32 := 1#32
  let v118 : BitVec 32 := Scalar.divsi v116 c1_i32_61
  let v119 : BitVec 32 := Scalar.muli v118 c1_i32_61
  let v120 : BitVec 32 := Scalar.addi v10 v119
  let c1_i32_63 : BitVec 32 := 1#32
  let arg17 : BitVec 32 := Scf.iv v120 c1_i32_63 k0_t8
  let c4_i32 : BitVec 32 := 4#32
  let v335 : BitVec 32 := Scalar.muli arg17 c4_i32
  let v336 : BitVec 32 := Scalar.addi v335 c0_i32_178
  let c0_i32_190 : BitVec 32 := 0#32
  let c0_i32_191 : BitVec 32 := 0#32
  let c0_i32_192 : BitVec 32 := 0#32
  ![v0.toNat, v336.toNat, 0, 0, 0]
def k0_off117 (v344 : BitVec 32) : Fin 4 → Nat :=
  let c0_i32_199 : BitVec 32 := 0#32
  let c0_i32_200 : BitVec 32 := 0#32
  let c0_i32_201 : BitVec 32 := 0#32
  ![v344.toNat, 0, 0, 0]

def k0_chk33 (v344 : BitVec 32) : Prop :=
  (∀ a, (k0_off117 v344) a + S1x2x128x128.size a ≤ S2048x2x128x128.size a) ∧
  (∀ (hinb : ∀ a, (k0_off117 v344) a + S1x2x128x128.size a ≤ S2048x2x128x128.size a), (Rect.unit (s := S2048x2x128x128) (k0_off117 v344) S1x2x128x128.size hinb).WholeWords (EltTy.packing .fp8e4m3))
theorem k0_off117_inb : ∀ (v344 : BitVec 32) (k0_hw33 : k0_chk33 v344), ∀ a, (k0_off117 v344) a + S1x2x128x128.size a ≤ S2048x2x128x128.size a := fun v344 k0_hw33 => k0_hw33.1
theorem k0_off117_wordsfp8e4m3 : ∀ (v344 : BitVec 32) (k0_hw33 : k0_chk33 v344), (Rect.unit (s := S2048x2x128x128) (k0_off117 v344) S1x2x128x128.size (k0_off117_inb v344 k0_hw33)).WholeWords (EltTy.packing .fp8e4m3) := fun v344 k0_hw33 => k0_hw33.2 (k0_off117_inb v344 k0_hw33)

def k0_off118 (i : grid0.Coords) (v9 : BitVec 32) (k0_t8 : Fin (k0_t8_loop v9).trips) : Fin 2 → Nat :=
  let arg0 : BitVec 32 := BitVec.ofNat 32 (i 0).val
  let c2_i32 : BitVec 32 := 2#32
  let v0 : BitVec 32 := Scalar.remsi arg0 c2_i32
  let c9_i32 : BitVec 32 := 9#32
  let v10 : BitVec 32 := Scalar.shrui v9 c9_i32
  let c511_i32 : BitVec 32 := 511#32
  let v11 : BitVec 32 := Scalar.addi v9 c511_i32
  let c9_i32_2 : BitVec 32 := 9#32
  let v12 : BitVec 32 := Scalar.shrui v11 c9_i32_2
  let v116 : BitVec 32 := Scalar.subi v12 v10
  let c1_i32_61 : BitVec 32 := 1#32
  let v118 : BitVec 32 := Scalar.divsi v116 c1_i32_61
  let v119 : BitVec 32 := Scalar.muli v118 c1_i32_61
  let v120 : BitVec 32 := Scalar.addi v10 v119
  let c1_i32_63 : BitVec 32 := 1#32
  let arg17 : BitVec 32 := Scf.iv v120 c1_i32_63 k0_t8
  ![v0.toNat, arg17.toNat]
def k0_off119 (i : grid0.Coords) (v9 : BitVec 32) (k0_t8 : Fin (k0_t8_loop v9).trips) (c1_i32_180 : BitVec 32) : Fin 5 → Nat :=
  let arg0 : BitVec 32 := BitVec.ofNat 32 (i 0).val
  let c2_i32 : BitVec 32 := 2#32
  let v0 : BitVec 32 := Scalar.remsi arg0 c2_i32
  let c9_i32 : BitVec 32 := 9#32
  let v10 : BitVec 32 := Scalar.shrui v9 c9_i32
  let c511_i32 : BitVec 32 := 511#32
  let v11 : BitVec 32 := Scalar.addi v9 c511_i32
  let c9_i32_2 : BitVec 32 := 9#32
  let v12 : BitVec 32 := Scalar.shrui v11 c9_i32_2
  let v116 : BitVec 32 := Scalar.subi v12 v10
  let c1_i32_61 : BitVec 32 := 1#32
  let v118 : BitVec 32 := Scalar.divsi v116 c1_i32_61
  let v119 : BitVec 32 := Scalar.muli v118 c1_i32_61
  let v120 : BitVec 32 := Scalar.addi v10 v119
  let c1_i32_63 : BitVec 32 := 1#32
  let arg17 : BitVec 32 := Scf.iv v120 c1_i32_63 k0_t8
  let c4_i32_179 : BitVec 32 := 4#32
  let v340 : BitVec 32 := Scalar.muli arg17 c4_i32_179
  let v341 : BitVec 32 := Scalar.addi v340 c1_i32_180
  let c0_i32_202 : BitVec 32 := 0#32
  let c0_i32_203 : BitVec 32 := 0#32
  let c0_i32_204 : BitVec 32 := 0#32
  ![v0.toNat, v341.toNat, 0, 0, 0]
def k0_off120 (v349 : BitVec 32) : Fin 4 → Nat :=
  let c0_i32_211 : BitVec 32 := 0#32
  let c0_i32_212 : BitVec 32 := 0#32
  let c0_i32_213 : BitVec 32 := 0#32
  ![v349.toNat, 0, 0, 0]

def k0_chk34 (v349 : BitVec 32) : Prop :=
  (∀ a, (k0_off120 v349) a + S1x2x128x128.size a ≤ S2048x2x128x128.size a) ∧
  (∀ (hinb : ∀ a, (k0_off120 v349) a + S1x2x128x128.size a ≤ S2048x2x128x128.size a), (Rect.unit (s := S2048x2x128x128) (k0_off120 v349) S1x2x128x128.size hinb).WholeWords (EltTy.packing .fp8e4m3))
theorem k0_off120_inb : ∀ (v349 : BitVec 32) (k0_hw34 : k0_chk34 v349), ∀ a, (k0_off120 v349) a + S1x2x128x128.size a ≤ S2048x2x128x128.size a := fun v349 k0_hw34 => k0_hw34.1
theorem k0_off120_wordsfp8e4m3 : ∀ (v349 : BitVec 32) (k0_hw34 : k0_chk34 v349), (Rect.unit (s := S2048x2x128x128) (k0_off120 v349) S1x2x128x128.size (k0_off120_inb v349 k0_hw34)).WholeWords (EltTy.packing .fp8e4m3) := fun v349 k0_hw34 => k0_hw34.2 (k0_off120_inb v349 k0_hw34)

def k0_off121 (i : grid0.Coords) (v9 : BitVec 32) (k0_t8 : Fin (k0_t8_loop v9).trips) : Fin 2 → Nat :=
  let arg0 : BitVec 32 := BitVec.ofNat 32 (i 0).val
  let c2_i32 : BitVec 32 := 2#32
  let v0 : BitVec 32 := Scalar.remsi arg0 c2_i32
  let c9_i32 : BitVec 32 := 9#32
  let v10 : BitVec 32 := Scalar.shrui v9 c9_i32
  let c511_i32 : BitVec 32 := 511#32
  let v11 : BitVec 32 := Scalar.addi v9 c511_i32
  let c9_i32_2 : BitVec 32 := 9#32
  let v12 : BitVec 32 := Scalar.shrui v11 c9_i32_2
  let v116 : BitVec 32 := Scalar.subi v12 v10
  let c1_i32_61 : BitVec 32 := 1#32
  let v118 : BitVec 32 := Scalar.divsi v116 c1_i32_61
  let v119 : BitVec 32 := Scalar.muli v118 c1_i32_61
  let v120 : BitVec 32 := Scalar.addi v10 v119
  let c1_i32_63 : BitVec 32 := 1#32
  let arg17 : BitVec 32 := Scf.iv v120 c1_i32_63 k0_t8
  ![v0.toNat, arg17.toNat]
def k0_off122 (i : grid0.Coords) (v9 : BitVec 32) (k0_t8 : Fin (k0_t8_loop v9).trips) (c2_i32_182 : BitVec 32) : Fin 5 → Nat :=
  let arg0 : BitVec 32 := BitVec.ofNat 32 (i 0).val
  let c2_i32 : BitVec 32 := 2#32
  let v0 : BitVec 32 := Scalar.remsi arg0 c2_i32
  let c9_i32 : BitVec 32 := 9#32
  let v10 : BitVec 32 := Scalar.shrui v9 c9_i32
  let c511_i32 : BitVec 32 := 511#32
  let v11 : BitVec 32 := Scalar.addi v9 c511_i32
  let c9_i32_2 : BitVec 32 := 9#32
  let v12 : BitVec 32 := Scalar.shrui v11 c9_i32_2
  let v116 : BitVec 32 := Scalar.subi v12 v10
  let c1_i32_61 : BitVec 32 := 1#32
  let v118 : BitVec 32 := Scalar.divsi v116 c1_i32_61
  let v119 : BitVec 32 := Scalar.muli v118 c1_i32_61
  let v120 : BitVec 32 := Scalar.addi v10 v119
  let c1_i32_63 : BitVec 32 := 1#32
  let arg17 : BitVec 32 := Scf.iv v120 c1_i32_63 k0_t8
  let c4_i32_181 : BitVec 32 := 4#32
  let v345 : BitVec 32 := Scalar.muli arg17 c4_i32_181
  let v346 : BitVec 32 := Scalar.addi v345 c2_i32_182
  let c0_i32_214 : BitVec 32 := 0#32
  let c0_i32_215 : BitVec 32 := 0#32
  let c0_i32_216 : BitVec 32 := 0#32
  ![v0.toNat, v346.toNat, 0, 0, 0]
def k0_off123 (v354 : BitVec 32) : Fin 4 → Nat :=
  let c0_i32_223 : BitVec 32 := 0#32
  let c0_i32_224 : BitVec 32 := 0#32
  let c0_i32_225 : BitVec 32 := 0#32
  ![v354.toNat, 0, 0, 0]

def k0_chk35 (v354 : BitVec 32) : Prop :=
  (∀ a, (k0_off123 v354) a + S1x2x128x128.size a ≤ S2048x2x128x128.size a) ∧
  (∀ (hinb : ∀ a, (k0_off123 v354) a + S1x2x128x128.size a ≤ S2048x2x128x128.size a), (Rect.unit (s := S2048x2x128x128) (k0_off123 v354) S1x2x128x128.size hinb).WholeWords (EltTy.packing .fp8e4m3))
theorem k0_off123_inb : ∀ (v354 : BitVec 32) (k0_hw35 : k0_chk35 v354), ∀ a, (k0_off123 v354) a + S1x2x128x128.size a ≤ S2048x2x128x128.size a := fun v354 k0_hw35 => k0_hw35.1
theorem k0_off123_wordsfp8e4m3 : ∀ (v354 : BitVec 32) (k0_hw35 : k0_chk35 v354), (Rect.unit (s := S2048x2x128x128) (k0_off123 v354) S1x2x128x128.size (k0_off123_inb v354 k0_hw35)).WholeWords (EltTy.packing .fp8e4m3) := fun v354 k0_hw35 => k0_hw35.2 (k0_off123_inb v354 k0_hw35)

def k0_off124 (i : grid0.Coords) (v9 : BitVec 32) (k0_t8 : Fin (k0_t8_loop v9).trips) : Fin 2 → Nat :=
  let arg0 : BitVec 32 := BitVec.ofNat 32 (i 0).val
  let c2_i32 : BitVec 32 := 2#32
  let v0 : BitVec 32 := Scalar.remsi arg0 c2_i32
  let c9_i32 : BitVec 32 := 9#32
  let v10 : BitVec 32 := Scalar.shrui v9 c9_i32
  let c511_i32 : BitVec 32 := 511#32
  let v11 : BitVec 32 := Scalar.addi v9 c511_i32
  let c9_i32_2 : BitVec 32 := 9#32
  let v12 : BitVec 32 := Scalar.shrui v11 c9_i32_2
  let v116 : BitVec 32 := Scalar.subi v12 v10
  let c1_i32_61 : BitVec 32 := 1#32
  let v118 : BitVec 32 := Scalar.divsi v116 c1_i32_61
  let v119 : BitVec 32 := Scalar.muli v118 c1_i32_61
  let v120 : BitVec 32 := Scalar.addi v10 v119
  let c1_i32_63 : BitVec 32 := 1#32
  let arg17 : BitVec 32 := Scf.iv v120 c1_i32_63 k0_t8
  ![v0.toNat, arg17.toNat]
def k0_off125 (i : grid0.Coords) (v9 : BitVec 32) (k0_t8 : Fin (k0_t8_loop v9).trips) : Fin 5 → Nat :=
  let arg0 : BitVec 32 := BitVec.ofNat 32 (i 0).val
  let c2_i32 : BitVec 32 := 2#32
  let v0 : BitVec 32 := Scalar.remsi arg0 c2_i32
  let c9_i32 : BitVec 32 := 9#32
  let v10 : BitVec 32 := Scalar.shrui v9 c9_i32
  let c511_i32 : BitVec 32 := 511#32
  let v11 : BitVec 32 := Scalar.addi v9 c511_i32
  let c9_i32_2 : BitVec 32 := 9#32
  let v12 : BitVec 32 := Scalar.shrui v11 c9_i32_2
  let v116 : BitVec 32 := Scalar.subi v12 v10
  let c1_i32_61 : BitVec 32 := 1#32
  let v118 : BitVec 32 := Scalar.divsi v116 c1_i32_61
  let v119 : BitVec 32 := Scalar.muli v118 c1_i32_61
  let v120 : BitVec 32 := Scalar.addi v10 v119
  let c1_i32_63 : BitVec 32 := 1#32
  let arg17 : BitVec 32 := Scf.iv v120 c1_i32_63 k0_t8
  let c4_i32_183 : BitVec 32 := 4#32
  let v350 : BitVec 32 := Scalar.muli arg17 c4_i32_183
  let c3_i32 : BitVec 32 := 3#32
  let v351 : BitVec 32 := Scalar.addi v350 c3_i32
  let c0_i32_226 : BitVec 32 := 0#32
  let c0_i32_227 : BitVec 32 := 0#32
  let c0_i32_228 : BitVec 32 := 0#32
  ![v0.toNat, v351.toNat, 0, 0, 0]
def k0_off126 (i : grid0.Coords) (v9 : BitVec 32) (k0_t8 : Fin (k0_t8_loop v9).trips) : Fin 5 → Nat :=
  let arg0 : BitVec 32 := BitVec.ofNat 32 (i 0).val
  let c2_i32 : BitVec 32 := 2#32
  let v0 : BitVec 32 := Scalar.remsi arg0 c2_i32
  let v404 : Index := Scalar.indexCast v0
  let c9_i32 : BitVec 32 := 9#32
  let v10 : BitVec 32 := Scalar.shrui v9 c9_i32
  let c511_i32 : BitVec 32 := 511#32
  let v11 : BitVec 32 := Scalar.addi v9 c511_i32
  let c9_i32_2 : BitVec 32 := 9#32
  let v12 : BitVec 32 := Scalar.shrui v11 c9_i32_2
  let v116 : BitVec 32 := Scalar.subi v12 v10
  let c1_i32_61 : BitVec 32 := 1#32
  let v118 : BitVec 32 := Scalar.divsi v116 c1_i32_61
  let v119 : BitVec 32 := Scalar.muli v118 c1_i32_61
  let v120 : BitVec 32 := Scalar.addi v10 v119
  let c1_i32_63 : BitVec 32 := 1#32
  let arg17 : BitVec 32 := Scf.iv v120 c1_i32_63 k0_t8
  let c4_i32_232 : BitVec 32 := 4#32
  let v403 : BitVec 32 := Scalar.muli arg17 c4_i32_232
  let v405 : Index := Scalar.indexCast v403
  let c0_233 : Index := 0#32
  let c0_234 : Index := 0#32
  let c0_235 : Index := 0#32
  ![v404.toNat, v405.toNat, 0, 0, 0]
@[reducible] def k0_t9_loop (v9 : BitVec 32) : Scf.Loop 32 :=
  let c0_i32_145 : BitVec 32 := 0#32
  let c9_i32 : BitVec 32 := 9#32
  let v10 : BitVec 32 := Scalar.shrui v9 c9_i32
  let v270 : BitVec 32 := Scalar.subi v10 c0_i32_145
  let c1_i32_146 : BitVec 32 := 1#32
  let v272 : BitVec 32 := Scalar.divsi v270 c1_i32_146
  let v273 : BitVec 32 := Scalar.muli v272 c1_i32_146
  let v274 : BitVec 32 := Scalar.addi c0_i32_145 v273
  let c1_i32_147 : BitVec 32 := 1#32
  ⟨c0_i32_145, v274, c1_i32_147⟩
def k0_off127 (i : grid0.Coords) (v9 : BitVec 32) (k0_t9 : Fin (k0_t9_loop v9).trips) : Fin 5 → Nat :=
  let arg0 : BitVec 32 := BitVec.ofNat 32 (i 0).val
  let c2_i32 : BitVec 32 := 2#32
  let v0 : BitVec 32 := Scalar.remsi arg0 c2_i32
  let v336 : Index := Scalar.indexCast v0
  let c0_i32_145 : BitVec 32 := 0#32
  let c1_i32_147 : BitVec 32 := 1#32
  let arg17 : BitVec 32 := Scf.iv c0_i32_145 c1_i32_147 k0_t9
  let c4_i32 : BitVec 32 := 4#32
  let v335 : BitVec 32 := Scalar.muli arg17 c4_i32
  let v337 : Index := Scalar.indexCast v335
  let c1_178 : Index := 1#32
  let c0_179 : Index := 0#32
  let c0_180 : Index := 0#32
  ![v336.toNat, v337.toNat, 1, 0, 0]
@[reducible] def k0_t10_loop (v9 : BitVec 32) : Scf.Loop 32 :=
  let c0_i32_145 : BitVec 32 := 0#32
  let c9_i32 : BitVec 32 := 9#32
  let v10 : BitVec 32 := Scalar.shrui v9 c9_i32
  let v270 : BitVec 32 := Scalar.subi v10 c0_i32_145
  let c1_i32_146 : BitVec 32 := 1#32
  let v272 : BitVec 32 := Scalar.divsi v270 c1_i32_146
  let v273 : BitVec 32 := Scalar.muli v272 c1_i32_146
  let v274 : BitVec 32 := Scalar.addi c0_i32_145 v273
  let v271 : BitVec 32 := Scalar.addi c0_i32_145 v270
  let c1_i32_148 : BitVec 32 := 1#32
  ⟨v274, v271, c1_i32_148⟩
def k0_off128 (i : grid0.Coords) (v9 : BitVec 32) (k0_t10 : Fin (k0_t10_loop v9).trips) : Fin 5 → Nat :=
  let arg0 : BitVec 32 := BitVec.ofNat 32 (i 0).val
  let c2_i32 : BitVec 32 := 2#32
  let v0 : BitVec 32 := Scalar.remsi arg0 c2_i32
  let v336 : Index := Scalar.indexCast v0
  let c0_i32_145 : BitVec 32 := 0#32
  let c9_i32 : BitVec 32 := 9#32
  let v10 : BitVec 32 := Scalar.shrui v9 c9_i32
  let v270 : BitVec 32 := Scalar.subi v10 c0_i32_145
  let c1_i32_146 : BitVec 32 := 1#32
  let v272 : BitVec 32 := Scalar.divsi v270 c1_i32_146
  let v273 : BitVec 32 := Scalar.muli v272 c1_i32_146
  let v274 : BitVec 32 := Scalar.addi c0_i32_145 v273
  let c1_i32_148 : BitVec 32 := 1#32
  let arg17 : BitVec 32 := Scf.iv v274 c1_i32_148 k0_t10
  let c4_i32 : BitVec 32 := 4#32
  let v335 : BitVec 32 := Scalar.muli arg17 c4_i32
  let v337 : Index := Scalar.indexCast v335
  let c1_178 : Index := 1#32
  let c0_179 : Index := 0#32
  let c0_180 : Index := 0#32
  ![v336.toNat, v337.toNat, 1, 0, 0]
@[reducible] def k0_t11_loop (v9 : BitVec 32) : Scf.Loop 32 :=
  let c9_i32 : BitVec 32 := 9#32
  let v10 : BitVec 32 := Scalar.shrui v9 c9_i32
  let c511_i32 : BitVec 32 := 511#32
  let v11 : BitVec 32 := Scalar.addi v9 c511_i32
  let c9_i32_2 : BitVec 32 := 9#32
  let v12 : BitVec 32 := Scalar.shrui v11 c9_i32_2
  let v277 : BitVec 32 := Scalar.subi v12 v10
  let c1_i32_149 : BitVec 32 := 1#32
  let v279 : BitVec 32 := Scalar.divsi v277 c1_i32_149
  let v280 : BitVec 32 := Scalar.muli v279 c1_i32_149
  let v281 : BitVec 32 := Scalar.addi v10 v280
  let c1_i32_150 : BitVec 32 := 1#32
  ⟨v10, v281, c1_i32_150⟩
def k0_off129 (i : grid0.Coords) (v9 : BitVec 32) (k0_t11 : Fin (k0_t11_loop v9).trips) : Fin 5 → Nat :=
  let arg0 : BitVec 32 := BitVec.ofNat 32 (i 0).val
  let c2_i32 : BitVec 32 := 2#32
  let v0 : BitVec 32 := Scalar.remsi arg0 c2_i32
  let v336 : Index := Scalar.indexCast v0
  let c9_i32 : BitVec 32 := 9#32
  let v10 : BitVec 32 := Scalar.shrui v9 c9_i32
  let c1_i32_150 : BitVec 32 := 1#32
  let arg17 : BitVec 32 := Scf.iv v10 c1_i32_150 k0_t11
  let c4_i32 : BitVec 32 := 4#32
  let v335 : BitVec 32 := Scalar.muli arg17 c4_i32
  let v337 : Index := Scalar.indexCast v335
  let c1_178 : Index := 1#32
  let c0_179 : Index := 0#32
  let c0_180 : Index := 0#32
  ![v336.toNat, v337.toNat, 1, 0, 0]
@[reducible] def k0_t12_loop (v9 : BitVec 32) : Scf.Loop 32 :=
  let c9_i32 : BitVec 32 := 9#32
  let v10 : BitVec 32 := Scalar.shrui v9 c9_i32
  let c511_i32 : BitVec 32 := 511#32
  let v11 : BitVec 32 := Scalar.addi v9 c511_i32
  let c9_i32_2 : BitVec 32 := 9#32
  let v12 : BitVec 32 := Scalar.shrui v11 c9_i32_2
  let v277 : BitVec 32 := Scalar.subi v12 v10
  let c1_i32_149 : BitVec 32 := 1#32
  let v279 : BitVec 32 := Scalar.divsi v277 c1_i32_149
  let v280 : BitVec 32 := Scalar.muli v279 c1_i32_149
  let v281 : BitVec 32 := Scalar.addi v10 v280
  let v278 : BitVec 32 := Scalar.addi v10 v277
  let c1_i32_151 : BitVec 32 := 1#32
  ⟨v281, v278, c1_i32_151⟩
def k0_off130 (i : grid0.Coords) (v9 : BitVec 32) (k0_t12 : Fin (k0_t12_loop v9).trips) : Fin 5 → Nat :=
  let arg0 : BitVec 32 := BitVec.ofNat 32 (i 0).val
  let c2_i32 : BitVec 32 := 2#32
  let v0 : BitVec 32 := Scalar.remsi arg0 c2_i32
  let v336 : Index := Scalar.indexCast v0
  let c9_i32 : BitVec 32 := 9#32
  let v10 : BitVec 32 := Scalar.shrui v9 c9_i32
  let c511_i32 : BitVec 32 := 511#32
  let v11 : BitVec 32 := Scalar.addi v9 c511_i32
  let c9_i32_2 : BitVec 32 := 9#32
  let v12 : BitVec 32 := Scalar.shrui v11 c9_i32_2
  let v277 : BitVec 32 := Scalar.subi v12 v10
  let c1_i32_149 : BitVec 32 := 1#32
  let v279 : BitVec 32 := Scalar.divsi v277 c1_i32_149
  let v280 : BitVec 32 := Scalar.muli v279 c1_i32_149
  let v281 : BitVec 32 := Scalar.addi v10 v280
  let c1_i32_151 : BitVec 32 := 1#32
  let arg17 : BitVec 32 := Scf.iv v281 c1_i32_151 k0_t12
  let c4_i32 : BitVec 32 := 4#32
  let v335 : BitVec 32 := Scalar.muli arg17 c4_i32
  let v337 : Index := Scalar.indexCast v335
  let c1_178 : Index := 1#32
  let c0_179 : Index := 0#32
  let c0_180 : Index := 0#32
  ![v336.toNat, v337.toNat, 1, 0, 0]

def k0_chk19_0 (i : grid0.Coords) (v9 : BitVec 32) : Prop :=
  ((k0_t5_loop v9).OK) ∧
  (∀ k0_t5 : Fin (k0_t5_loop v9).trips, ∀ (r : Fin 4), ∀ a, (k0_off63 i v9 k0_t5 (BitVec.ofNat 32 r.val)) a + S1x1.size a ≤ S32x64.size a) ∧
  (∀ k0_t5 : Fin (k0_t5_loop v9).trips, ∀ a, (k0_off64 i v9 k0_t5) a + S1x1.size a ≤ S2x16.size a) ∧
  (∀ k0_t5 : Fin (k0_t5_loop v9).trips, ∀ a, (k0_off65 i v9 k0_t5) a + S1x1x2x128x128.size a ≤ S2x64x2x128x128.size a) ∧
  (∀ k0_t5 : Fin (k0_t5_loop v9).trips, ∀ (hinb : ∀ a, (k0_off65 i v9 k0_t5) a + S1x1x2x128x128.size a ≤ S2x64x2x128x128.size a), (Rect.unit (s := S2x64x2x128x128) (k0_off65 i v9 k0_t5) S1x1x2x128x128.size hinb).WholeWords (EltTy.packing .fp8e4m3)) ∧
  (∀ k0_t5 : Fin (k0_t5_loop v9).trips, ∀ a, (k0_off67 i v9 k0_t5) a + S1x1.size a ≤ S2x16.size a) ∧
  (∀ k0_t5 : Fin (k0_t5_loop v9).trips, ∀ (r : Fin 2), ∀ a, (k0_off68 i v9 k0_t5 (BitVec.ofNat 32 r.val)) a + S1x1x2x128x128.size a ≤ S2x64x2x128x128.size a) ∧
  (∀ k0_t5 : Fin (k0_t5_loop v9).trips, ∀ (r : Fin 2), ∀ (hinb : ∀ a, (k0_off68 i v9 k0_t5 (BitVec.ofNat 32 r.val)) a + S1x1x2x128x128.size a ≤ S2x64x2x128x128.size a), (Rect.unit (s := S2x64x2x128x128) (k0_off68 i v9 k0_t5 (BitVec.ofNat 32 r.val)) S1x1x2x128x128.size hinb).WholeWords (EltTy.packing .fp8e4m3)) ∧
  (∀ k0_t5 : Fin (k0_t5_loop v9).trips, ∀ a, (k0_off70 i v9 k0_t5) a + S1x1.size a ≤ S2x16.size a) ∧
  (∀ k0_t5 : Fin (k0_t5_loop v9).trips, ∀ (r : Fin 2), ∀ a, (k0_off71 i v9 k0_t5 (BitVec.ofNat 32 (1 + r.val))) a + S1x1x2x128x128.size a ≤ S2x64x2x128x128.size a) ∧
  (∀ k0_t5 : Fin (k0_t5_loop v9).trips, ∀ (r : Fin 2), ∀ (hinb : ∀ a, (k0_off71 i v9 k0_t5 (BitVec.ofNat 32 (1 + r.val))) a + S1x1x2x128x128.size a ≤ S2x64x2x128x128.size a), (Rect.unit (s := S2x64x2x128x128) (k0_off71 i v9 k0_t5 (BitVec.ofNat 32 (1 + r.val))) S1x1x2x128x128.size hinb).WholeWords (EltTy.packing .fp8e4m3)) ∧
  (∀ k0_t5 : Fin (k0_t5_loop v9).trips, ∀ a, (k0_off73 i v9 k0_t5) a + S1x1.size a ≤ S2x16.size a) ∧
  (∀ k0_t5 : Fin (k0_t5_loop v9).trips, ∀ (r : Fin 2), ∀ a, (k0_off74 i v9 k0_t5 (BitVec.ofNat 32 (2 + r.val))) a + S1x1x2x128x128.size a ≤ S2x64x2x128x128.size a) ∧
  (∀ k0_t5 : Fin (k0_t5_loop v9).trips, ∀ (r : Fin 2), ∀ (hinb : ∀ a, (k0_off74 i v9 k0_t5 (BitVec.ofNat 32 (2 + r.val))) a + S1x1x2x128x128.size a ≤ S2x64x2x128x128.size a), (Rect.unit (s := S2x64x2x128x128) (k0_off74 i v9 k0_t5 (BitVec.ofNat 32 (2 + r.val))) S1x1x2x128x128.size hinb).WholeWords (EltTy.packing .fp8e4m3)) ∧
  (∀ k0_t5 : Fin (k0_t5_loop v9).trips, ∀ a, (k0_off76 i v9 k0_t5) a + S1x1.size a ≤ S2x16.size a) ∧
  (∀ k0_t5 : Fin (k0_t5_loop v9).trips, ∀ a, (k0_off77 i v9 k0_t5) a + S1x1x2x128x128.size a ≤ S2x64x2x128x128.size a) ∧
  (∀ k0_t5 : Fin (k0_t5_loop v9).trips, ∀ (hinb : ∀ a, (k0_off77 i v9 k0_t5) a + S1x1x2x128x128.size a ≤ S2x64x2x128x128.size a), (Rect.unit (s := S2x64x2x128x128) (k0_off77 i v9 k0_t5) S1x1x2x128x128.size hinb).WholeWords (EltTy.packing .fp8e4m3)) ∧
  (∀ k0_t5 : Fin (k0_t5_loop v9).trips, ∀ a, (k0_off78 i v9 k0_t5) a + S1x4x1x128x128.size a ≤ S2x64x2x128x128.size a) ∧
  ((k0_t6_loop v9).OK) ∧
  (∀ k0_t6 : Fin (k0_t6_loop v9).trips, ∀ (r : Fin 4), ∀ a, (k0_off79 i v9 k0_t6 (BitVec.ofNat 32 r.val)) a + S1x1.size a ≤ S32x64.size a) ∧
  (∀ k0_t6 : Fin (k0_t6_loop v9).trips, ∀ a, (k0_off80 i v9 k0_t6) a + S1x1.size a ≤ S2x16.size a) ∧
  (∀ k0_t6 : Fin (k0_t6_loop v9).trips, ∀ a, (k0_off81 i v9 k0_t6) a + S1x1x2x128x128.size a ≤ S2x64x2x128x128.size a) ∧
  (∀ k0_t6 : Fin (k0_t6_loop v9).trips, ∀ (hinb : ∀ a, (k0_off81 i v9 k0_t6) a + S1x1x2x128x128.size a ≤ S2x64x2x128x128.size a), (Rect.unit (s := S2x64x2x128x128) (k0_off81 i v9 k0_t6) S1x1x2x128x128.size hinb).WholeWords (EltTy.packing .fp8e4m3)) ∧
  (∀ k0_t6 : Fin (k0_t6_loop v9).trips, ∀ a, (k0_off83 i v9 k0_t6) a + S1x1.size a ≤ S2x16.size a) ∧
  (∀ k0_t6 : Fin (k0_t6_loop v9).trips, ∀ (r : Fin 2), ∀ a, (k0_off84 i v9 k0_t6 (BitVec.ofNat 32 r.val)) a + S1x1x2x128x128.size a ≤ S2x64x2x128x128.size a) ∧
  (∀ k0_t6 : Fin (k0_t6_loop v9).trips, ∀ (r : Fin 2), ∀ (hinb : ∀ a, (k0_off84 i v9 k0_t6 (BitVec.ofNat 32 r.val)) a + S1x1x2x128x128.size a ≤ S2x64x2x128x128.size a), (Rect.unit (s := S2x64x2x128x128) (k0_off84 i v9 k0_t6 (BitVec.ofNat 32 r.val)) S1x1x2x128x128.size hinb).WholeWords (EltTy.packing .fp8e4m3)) ∧
  (∀ k0_t6 : Fin (k0_t6_loop v9).trips, ∀ a, (k0_off86 i v9 k0_t6) a + S1x1.size a ≤ S2x16.size a) ∧
  (∀ k0_t6 : Fin (k0_t6_loop v9).trips, ∀ (r : Fin 2), ∀ a, (k0_off87 i v9 k0_t6 (BitVec.ofNat 32 (1 + r.val))) a + S1x1x2x128x128.size a ≤ S2x64x2x128x128.size a) ∧
  (∀ k0_t6 : Fin (k0_t6_loop v9).trips, ∀ (r : Fin 2), ∀ (hinb : ∀ a, (k0_off87 i v9 k0_t6 (BitVec.ofNat 32 (1 + r.val))) a + S1x1x2x128x128.size a ≤ S2x64x2x128x128.size a), (Rect.unit (s := S2x64x2x128x128) (k0_off87 i v9 k0_t6 (BitVec.ofNat 32 (1 + r.val))) S1x1x2x128x128.size hinb).WholeWords (EltTy.packing .fp8e4m3)) ∧
  (∀ k0_t6 : Fin (k0_t6_loop v9).trips, ∀ a, (k0_off89 i v9 k0_t6) a + S1x1.size a ≤ S2x16.size a) ∧
  (∀ k0_t6 : Fin (k0_t6_loop v9).trips, ∀ (r : Fin 2), ∀ a, (k0_off90 i v9 k0_t6 (BitVec.ofNat 32 (2 + r.val))) a + S1x1x2x128x128.size a ≤ S2x64x2x128x128.size a) ∧
  (∀ k0_t6 : Fin (k0_t6_loop v9).trips, ∀ (r : Fin 2), ∀ (hinb : ∀ a, (k0_off90 i v9 k0_t6 (BitVec.ofNat 32 (2 + r.val))) a + S1x1x2x128x128.size a ≤ S2x64x2x128x128.size a), (Rect.unit (s := S2x64x2x128x128) (k0_off90 i v9 k0_t6 (BitVec.ofNat 32 (2 + r.val))) S1x1x2x128x128.size hinb).WholeWords (EltTy.packing .fp8e4m3))
def k0_chk19_1 (i : grid0.Coords) (v9 : BitVec 32) : Prop :=
  (∀ k0_t6 : Fin (k0_t6_loop v9).trips, ∀ a, (k0_off92 i v9 k0_t6) a + S1x1.size a ≤ S2x16.size a) ∧
  (∀ k0_t6 : Fin (k0_t6_loop v9).trips, ∀ a, (k0_off93 i v9 k0_t6) a + S1x1x2x128x128.size a ≤ S2x64x2x128x128.size a) ∧
  (∀ k0_t6 : Fin (k0_t6_loop v9).trips, ∀ (hinb : ∀ a, (k0_off93 i v9 k0_t6) a + S1x1x2x128x128.size a ≤ S2x64x2x128x128.size a), (Rect.unit (s := S2x64x2x128x128) (k0_off93 i v9 k0_t6) S1x1x2x128x128.size hinb).WholeWords (EltTy.packing .fp8e4m3)) ∧
  (∀ k0_t6 : Fin (k0_t6_loop v9).trips, ∀ a, (k0_off94 i v9 k0_t6) a + S1x4x1x128x128.size a ≤ S2x64x2x128x128.size a) ∧
  ((k0_t7_loop v9).OK) ∧
  (∀ k0_t7 : Fin (k0_t7_loop v9).trips, ∀ (r : Fin 4), ∀ a, (k0_off95 i v9 k0_t7 (BitVec.ofNat 32 r.val)) a + S1x1.size a ≤ S32x64.size a) ∧
  (∀ k0_t7 : Fin (k0_t7_loop v9).trips, ∀ a, (k0_off96 i v9 k0_t7) a + S1x1.size a ≤ S2x16.size a) ∧
  (∀ k0_t7 : Fin (k0_t7_loop v9).trips, ∀ a, (k0_off97 i v9 k0_t7) a + S1x1x2x128x128.size a ≤ S2x64x2x128x128.size a) ∧
  (∀ k0_t7 : Fin (k0_t7_loop v9).trips, ∀ (hinb : ∀ a, (k0_off97 i v9 k0_t7) a + S1x1x2x128x128.size a ≤ S2x64x2x128x128.size a), (Rect.unit (s := S2x64x2x128x128) (k0_off97 i v9 k0_t7) S1x1x2x128x128.size hinb).WholeWords (EltTy.packing .fp8e4m3)) ∧
  (∀ k0_t7 : Fin (k0_t7_loop v9).trips, ∀ a, (k0_off99 i v9 k0_t7) a + S1x1.size a ≤ S2x16.size a) ∧
  (∀ k0_t7 : Fin (k0_t7_loop v9).trips, ∀ (r : Fin 2), ∀ a, (k0_off100 i v9 k0_t7 (BitVec.ofNat 32 r.val)) a + S1x1x2x128x128.size a ≤ S2x64x2x128x128.size a) ∧
  (∀ k0_t7 : Fin (k0_t7_loop v9).trips, ∀ (r : Fin 2), ∀ (hinb : ∀ a, (k0_off100 i v9 k0_t7 (BitVec.ofNat 32 r.val)) a + S1x1x2x128x128.size a ≤ S2x64x2x128x128.size a), (Rect.unit (s := S2x64x2x128x128) (k0_off100 i v9 k0_t7 (BitVec.ofNat 32 r.val)) S1x1x2x128x128.size hinb).WholeWords (EltTy.packing .fp8e4m3)) ∧
  (∀ k0_t7 : Fin (k0_t7_loop v9).trips, ∀ a, (k0_off102 i v9 k0_t7) a + S1x1.size a ≤ S2x16.size a) ∧
  (∀ k0_t7 : Fin (k0_t7_loop v9).trips, ∀ (r : Fin 2), ∀ a, (k0_off103 i v9 k0_t7 (BitVec.ofNat 32 (1 + r.val))) a + S1x1x2x128x128.size a ≤ S2x64x2x128x128.size a) ∧
  (∀ k0_t7 : Fin (k0_t7_loop v9).trips, ∀ (r : Fin 2), ∀ (hinb : ∀ a, (k0_off103 i v9 k0_t7 (BitVec.ofNat 32 (1 + r.val))) a + S1x1x2x128x128.size a ≤ S2x64x2x128x128.size a), (Rect.unit (s := S2x64x2x128x128) (k0_off103 i v9 k0_t7 (BitVec.ofNat 32 (1 + r.val))) S1x1x2x128x128.size hinb).WholeWords (EltTy.packing .fp8e4m3)) ∧
  (∀ k0_t7 : Fin (k0_t7_loop v9).trips, ∀ a, (k0_off105 i v9 k0_t7) a + S1x1.size a ≤ S2x16.size a) ∧
  (∀ k0_t7 : Fin (k0_t7_loop v9).trips, ∀ (r : Fin 2), ∀ a, (k0_off106 i v9 k0_t7 (BitVec.ofNat 32 (2 + r.val))) a + S1x1x2x128x128.size a ≤ S2x64x2x128x128.size a) ∧
  (∀ k0_t7 : Fin (k0_t7_loop v9).trips, ∀ (r : Fin 2), ∀ (hinb : ∀ a, (k0_off106 i v9 k0_t7 (BitVec.ofNat 32 (2 + r.val))) a + S1x1x2x128x128.size a ≤ S2x64x2x128x128.size a), (Rect.unit (s := S2x64x2x128x128) (k0_off106 i v9 k0_t7 (BitVec.ofNat 32 (2 + r.val))) S1x1x2x128x128.size hinb).WholeWords (EltTy.packing .fp8e4m3)) ∧
  (∀ k0_t7 : Fin (k0_t7_loop v9).trips, ∀ a, (k0_off108 i v9 k0_t7) a + S1x1.size a ≤ S2x16.size a) ∧
  (∀ k0_t7 : Fin (k0_t7_loop v9).trips, ∀ a, (k0_off109 i v9 k0_t7) a + S1x1x2x128x128.size a ≤ S2x64x2x128x128.size a) ∧
  (∀ k0_t7 : Fin (k0_t7_loop v9).trips, ∀ (hinb : ∀ a, (k0_off109 i v9 k0_t7) a + S1x1x2x128x128.size a ≤ S2x64x2x128x128.size a), (Rect.unit (s := S2x64x2x128x128) (k0_off109 i v9 k0_t7) S1x1x2x128x128.size hinb).WholeWords (EltTy.packing .fp8e4m3)) ∧
  (∀ k0_t7 : Fin (k0_t7_loop v9).trips, ∀ a, (k0_off110 i v9 k0_t7) a + S1x4x1x128x128.size a ≤ S2x64x2x128x128.size a) ∧
  ((k0_t8_loop v9).OK) ∧
  (∀ k0_t8 : Fin (k0_t8_loop v9).trips, ∀ (r : Fin 4), ∀ a, (k0_off111 i v9 k0_t8 (BitVec.ofNat 32 r.val)) a + S1x1.size a ≤ S32x64.size a) ∧
  (∀ k0_t8 : Fin (k0_t8_loop v9).trips, ∀ a, (k0_off112 i v9 k0_t8) a + S1x1.size a ≤ S2x16.size a) ∧
  (∀ k0_t8 : Fin (k0_t8_loop v9).trips, ∀ a, (k0_off113 i v9 k0_t8) a + S1x1x2x128x128.size a ≤ S2x64x2x128x128.size a) ∧
  (∀ k0_t8 : Fin (k0_t8_loop v9).trips, ∀ (hinb : ∀ a, (k0_off113 i v9 k0_t8) a + S1x1x2x128x128.size a ≤ S2x64x2x128x128.size a), (Rect.unit (s := S2x64x2x128x128) (k0_off113 i v9 k0_t8) S1x1x2x128x128.size hinb).WholeWords (EltTy.packing .fp8e4m3)) ∧
  (∀ k0_t8 : Fin (k0_t8_loop v9).trips, ∀ a, (k0_off115 i v9 k0_t8) a + S1x1.size a ≤ S2x16.size a) ∧
  (∀ k0_t8 : Fin (k0_t8_loop v9).trips, ∀ (r : Fin 2), ∀ a, (k0_off116 i v9 k0_t8 (BitVec.ofNat 32 r.val)) a + S1x1x2x128x128.size a ≤ S2x64x2x128x128.size a) ∧
  (∀ k0_t8 : Fin (k0_t8_loop v9).trips, ∀ (r : Fin 2), ∀ (hinb : ∀ a, (k0_off116 i v9 k0_t8 (BitVec.ofNat 32 r.val)) a + S1x1x2x128x128.size a ≤ S2x64x2x128x128.size a), (Rect.unit (s := S2x64x2x128x128) (k0_off116 i v9 k0_t8 (BitVec.ofNat 32 r.val)) S1x1x2x128x128.size hinb).WholeWords (EltTy.packing .fp8e4m3)) ∧
  (∀ k0_t8 : Fin (k0_t8_loop v9).trips, ∀ a, (k0_off118 i v9 k0_t8) a + S1x1.size a ≤ S2x16.size a) ∧
  (∀ k0_t8 : Fin (k0_t8_loop v9).trips, ∀ (r : Fin 2), ∀ a, (k0_off119 i v9 k0_t8 (BitVec.ofNat 32 (1 + r.val))) a + S1x1x2x128x128.size a ≤ S2x64x2x128x128.size a)
def k0_chk19_2 (i : grid0.Coords) (v9 : BitVec 32) : Prop :=
  (∀ k0_t8 : Fin (k0_t8_loop v9).trips, ∀ (r : Fin 2), ∀ (hinb : ∀ a, (k0_off119 i v9 k0_t8 (BitVec.ofNat 32 (1 + r.val))) a + S1x1x2x128x128.size a ≤ S2x64x2x128x128.size a), (Rect.unit (s := S2x64x2x128x128) (k0_off119 i v9 k0_t8 (BitVec.ofNat 32 (1 + r.val))) S1x1x2x128x128.size hinb).WholeWords (EltTy.packing .fp8e4m3)) ∧
  (∀ k0_t8 : Fin (k0_t8_loop v9).trips, ∀ a, (k0_off121 i v9 k0_t8) a + S1x1.size a ≤ S2x16.size a) ∧
  (∀ k0_t8 : Fin (k0_t8_loop v9).trips, ∀ (r : Fin 2), ∀ a, (k0_off122 i v9 k0_t8 (BitVec.ofNat 32 (2 + r.val))) a + S1x1x2x128x128.size a ≤ S2x64x2x128x128.size a) ∧
  (∀ k0_t8 : Fin (k0_t8_loop v9).trips, ∀ (r : Fin 2), ∀ (hinb : ∀ a, (k0_off122 i v9 k0_t8 (BitVec.ofNat 32 (2 + r.val))) a + S1x1x2x128x128.size a ≤ S2x64x2x128x128.size a), (Rect.unit (s := S2x64x2x128x128) (k0_off122 i v9 k0_t8 (BitVec.ofNat 32 (2 + r.val))) S1x1x2x128x128.size hinb).WholeWords (EltTy.packing .fp8e4m3)) ∧
  (∀ k0_t8 : Fin (k0_t8_loop v9).trips, ∀ a, (k0_off124 i v9 k0_t8) a + S1x1.size a ≤ S2x16.size a) ∧
  (∀ k0_t8 : Fin (k0_t8_loop v9).trips, ∀ a, (k0_off125 i v9 k0_t8) a + S1x1x2x128x128.size a ≤ S2x64x2x128x128.size a) ∧
  (∀ k0_t8 : Fin (k0_t8_loop v9).trips, ∀ (hinb : ∀ a, (k0_off125 i v9 k0_t8) a + S1x1x2x128x128.size a ≤ S2x64x2x128x128.size a), (Rect.unit (s := S2x64x2x128x128) (k0_off125 i v9 k0_t8) S1x1x2x128x128.size hinb).WholeWords (EltTy.packing .fp8e4m3)) ∧
  (∀ k0_t8 : Fin (k0_t8_loop v9).trips, ∀ a, (k0_off126 i v9 k0_t8) a + S1x4x1x128x128.size a ≤ S2x64x2x128x128.size a) ∧
  ((k0_t9_loop v9).OK) ∧
  (∀ k0_t9 : Fin (k0_t9_loop v9).trips, ∀ a, (k0_off127 i v9 k0_t9) a + S1x4x1x128x128.size a ≤ S2x64x2x128x128.size a) ∧
  ((k0_t10_loop v9).OK) ∧
  (∀ k0_t10 : Fin (k0_t10_loop v9).trips, ∀ a, (k0_off128 i v9 k0_t10) a + S1x4x1x128x128.size a ≤ S2x64x2x128x128.size a) ∧
  ((k0_t11_loop v9).OK) ∧
  (∀ k0_t11 : Fin (k0_t11_loop v9).trips, ∀ a, (k0_off129 i v9 k0_t11) a + S1x4x1x128x128.size a ≤ S2x64x2x128x128.size a) ∧
  ((k0_t12_loop v9).OK) ∧
  (∀ k0_t12 : Fin (k0_t12_loop v9).trips, ∀ a, (k0_off130 i v9 k0_t12) a + S1x4x1x128x128.size a ≤ S2x64x2x128x128.size a)
def k0_chk19 (i : grid0.Coords) (v9 : BitVec 32) : Prop :=
  k0_chk19_0 i v9 ∧
  k0_chk19_1 i v9 ∧
  k0_chk19_2 i v9
theorem k0_t5_ok : ∀ (i : grid0.Coords) (v9 : BitVec 32) (k0_hw19 : k0_chk19 i v9), (k0_t5_loop v9).OK := fun i v9 k0_hw19 => k0_hw19.1.1
theorem k0_off63_inb : ∀ (i : grid0.Coords) (v9 : BitVec 32) (k0_hw19 : k0_chk19 i v9) (k0_t5 : Fin (k0_t5_loop v9).trips), ∀ (r : Fin 4), ∀ a, (k0_off63 i v9 k0_t5 (BitVec.ofNat 32 r.val)) a + S1x1.size a ≤ S32x64.size a := fun i v9 k0_hw19 k0_t5 r => k0_hw19.1.2.1 k0_t5 r
theorem k0_off64_inb : ∀ (i : grid0.Coords) (v9 : BitVec 32) (k0_hw19 : k0_chk19 i v9) (k0_t5 : Fin (k0_t5_loop v9).trips), ∀ a, (k0_off64 i v9 k0_t5) a + S1x1.size a ≤ S2x16.size a := fun i v9 k0_hw19 k0_t5 => k0_hw19.1.2.2.1 k0_t5
theorem k0_off65_inb : ∀ (i : grid0.Coords) (v9 : BitVec 32) (k0_hw19 : k0_chk19 i v9) (k0_t5 : Fin (k0_t5_loop v9).trips), ∀ a, (k0_off65 i v9 k0_t5) a + S1x1x2x128x128.size a ≤ S2x64x2x128x128.size a := fun i v9 k0_hw19 k0_t5 => k0_hw19.1.2.2.2.1 k0_t5
theorem k0_off65_wordsfp8e4m3 : ∀ (i : grid0.Coords) (v9 : BitVec 32) (k0_hw19 : k0_chk19 i v9) (k0_t5 : Fin (k0_t5_loop v9).trips), (Rect.unit (s := S2x64x2x128x128) (k0_off65 i v9 k0_t5) S1x1x2x128x128.size (k0_off65_inb i v9 k0_hw19 k0_t5)).WholeWords (EltTy.packing .fp8e4m3) := fun i v9 k0_hw19 k0_t5 => k0_hw19.1.2.2.2.2.1 k0_t5 (k0_off65_inb i v9 k0_hw19 k0_t5)
theorem k0_off67_inb : ∀ (i : grid0.Coords) (v9 : BitVec 32) (k0_hw19 : k0_chk19 i v9) (k0_t5 : Fin (k0_t5_loop v9).trips), ∀ a, (k0_off67 i v9 k0_t5) a + S1x1.size a ≤ S2x16.size a := fun i v9 k0_hw19 k0_t5 => k0_hw19.1.2.2.2.2.2.1 k0_t5
theorem k0_off68_inb : ∀ (i : grid0.Coords) (v9 : BitVec 32) (k0_hw19 : k0_chk19 i v9) (k0_t5 : Fin (k0_t5_loop v9).trips), ∀ (r : Fin 2), ∀ a, (k0_off68 i v9 k0_t5 (BitVec.ofNat 32 r.val)) a + S1x1x2x128x128.size a ≤ S2x64x2x128x128.size a := fun i v9 k0_hw19 k0_t5 r => k0_hw19.1.2.2.2.2.2.2.1 k0_t5 r
theorem k0_off68_wordsfp8e4m3 : ∀ (i : grid0.Coords) (v9 : BitVec 32) (k0_hw19 : k0_chk19 i v9) (k0_t5 : Fin (k0_t5_loop v9).trips), ∀ (r : Fin 2), (Rect.unit (s := S2x64x2x128x128) (k0_off68 i v9 k0_t5 (BitVec.ofNat 32 r.val)) S1x1x2x128x128.size (k0_off68_inb i v9 k0_hw19 k0_t5 r)).WholeWords (EltTy.packing .fp8e4m3) := fun i v9 k0_hw19 k0_t5 r => k0_hw19.1.2.2.2.2.2.2.2.1 k0_t5 r (k0_off68_inb i v9 k0_hw19 k0_t5 r)
theorem k0_off70_inb : ∀ (i : grid0.Coords) (v9 : BitVec 32) (k0_hw19 : k0_chk19 i v9) (k0_t5 : Fin (k0_t5_loop v9).trips), ∀ a, (k0_off70 i v9 k0_t5) a + S1x1.size a ≤ S2x16.size a := fun i v9 k0_hw19 k0_t5 => k0_hw19.1.2.2.2.2.2.2.2.2.1 k0_t5
theorem k0_off71_inb : ∀ (i : grid0.Coords) (v9 : BitVec 32) (k0_hw19 : k0_chk19 i v9) (k0_t5 : Fin (k0_t5_loop v9).trips), ∀ (r : Fin 2), ∀ a, (k0_off71 i v9 k0_t5 (BitVec.ofNat 32 (1 + r.val))) a + S1x1x2x128x128.size a ≤ S2x64x2x128x128.size a := fun i v9 k0_hw19 k0_t5 r => k0_hw19.1.2.2.2.2.2.2.2.2.2.1 k0_t5 r
theorem k0_off71_wordsfp8e4m3 : ∀ (i : grid0.Coords) (v9 : BitVec 32) (k0_hw19 : k0_chk19 i v9) (k0_t5 : Fin (k0_t5_loop v9).trips), ∀ (r : Fin 2), (Rect.unit (s := S2x64x2x128x128) (k0_off71 i v9 k0_t5 (BitVec.ofNat 32 (1 + r.val))) S1x1x2x128x128.size (k0_off71_inb i v9 k0_hw19 k0_t5 r)).WholeWords (EltTy.packing .fp8e4m3) := fun i v9 k0_hw19 k0_t5 r => k0_hw19.1.2.2.2.2.2.2.2.2.2.2.1 k0_t5 r (k0_off71_inb i v9 k0_hw19 k0_t5 r)
theorem k0_off73_inb : ∀ (i : grid0.Coords) (v9 : BitVec 32) (k0_hw19 : k0_chk19 i v9) (k0_t5 : Fin (k0_t5_loop v9).trips), ∀ a, (k0_off73 i v9 k0_t5) a + S1x1.size a ≤ S2x16.size a := fun i v9 k0_hw19 k0_t5 => k0_hw19.1.2.2.2.2.2.2.2.2.2.2.2.1 k0_t5
theorem k0_off74_inb : ∀ (i : grid0.Coords) (v9 : BitVec 32) (k0_hw19 : k0_chk19 i v9) (k0_t5 : Fin (k0_t5_loop v9).trips), ∀ (r : Fin 2), ∀ a, (k0_off74 i v9 k0_t5 (BitVec.ofNat 32 (2 + r.val))) a + S1x1x2x128x128.size a ≤ S2x64x2x128x128.size a := fun i v9 k0_hw19 k0_t5 r => k0_hw19.1.2.2.2.2.2.2.2.2.2.2.2.2.1 k0_t5 r
theorem k0_off74_wordsfp8e4m3 : ∀ (i : grid0.Coords) (v9 : BitVec 32) (k0_hw19 : k0_chk19 i v9) (k0_t5 : Fin (k0_t5_loop v9).trips), ∀ (r : Fin 2), (Rect.unit (s := S2x64x2x128x128) (k0_off74 i v9 k0_t5 (BitVec.ofNat 32 (2 + r.val))) S1x1x2x128x128.size (k0_off74_inb i v9 k0_hw19 k0_t5 r)).WholeWords (EltTy.packing .fp8e4m3) := fun i v9 k0_hw19 k0_t5 r => k0_hw19.1.2.2.2.2.2.2.2.2.2.2.2.2.2.1 k0_t5 r (k0_off74_inb i v9 k0_hw19 k0_t5 r)
theorem k0_off76_inb : ∀ (i : grid0.Coords) (v9 : BitVec 32) (k0_hw19 : k0_chk19 i v9) (k0_t5 : Fin (k0_t5_loop v9).trips), ∀ a, (k0_off76 i v9 k0_t5) a + S1x1.size a ≤ S2x16.size a := fun i v9 k0_hw19 k0_t5 => k0_hw19.1.2.2.2.2.2.2.2.2.2.2.2.2.2.2.1 k0_t5
theorem k0_off77_inb : ∀ (i : grid0.Coords) (v9 : BitVec 32) (k0_hw19 : k0_chk19 i v9) (k0_t5 : Fin (k0_t5_loop v9).trips), ∀ a, (k0_off77 i v9 k0_t5) a + S1x1x2x128x128.size a ≤ S2x64x2x128x128.size a := fun i v9 k0_hw19 k0_t5 => k0_hw19.1.2.2.2.2.2.2.2.2.2.2.2.2.2.2.2.1 k0_t5
theorem k0_off77_wordsfp8e4m3 : ∀ (i : grid0.Coords) (v9 : BitVec 32) (k0_hw19 : k0_chk19 i v9) (k0_t5 : Fin (k0_t5_loop v9).trips), (Rect.unit (s := S2x64x2x128x128) (k0_off77 i v9 k0_t5) S1x1x2x128x128.size (k0_off77_inb i v9 k0_hw19 k0_t5)).WholeWords (EltTy.packing .fp8e4m3) := fun i v9 k0_hw19 k0_t5 => k0_hw19.1.2.2.2.2.2.2.2.2.2.2.2.2.2.2.2.2.1 k0_t5 (k0_off77_inb i v9 k0_hw19 k0_t5)
theorem k0_off78_inb : ∀ (i : grid0.Coords) (v9 : BitVec 32) (k0_hw19 : k0_chk19 i v9) (k0_t5 : Fin (k0_t5_loop v9).trips), ∀ a, (k0_off78 i v9 k0_t5) a + S1x4x1x128x128.size a ≤ S2x64x2x128x128.size a := fun i v9 k0_hw19 k0_t5 => k0_hw19.1.2.2.2.2.2.2.2.2.2.2.2.2.2.2.2.2.2.1 k0_t5
theorem k0_t6_ok : ∀ (i : grid0.Coords) (v9 : BitVec 32) (k0_hw19 : k0_chk19 i v9), (k0_t6_loop v9).OK := fun i v9 k0_hw19 => k0_hw19.1.2.2.2.2.2.2.2.2.2.2.2.2.2.2.2.2.2.2.1
theorem k0_off79_inb : ∀ (i : grid0.Coords) (v9 : BitVec 32) (k0_hw19 : k0_chk19 i v9) (k0_t6 : Fin (k0_t6_loop v9).trips), ∀ (r : Fin 4), ∀ a, (k0_off79 i v9 k0_t6 (BitVec.ofNat 32 r.val)) a + S1x1.size a ≤ S32x64.size a := fun i v9 k0_hw19 k0_t6 r => k0_hw19.1.2.2.2.2.2.2.2.2.2.2.2.2.2.2.2.2.2.2.2.1 k0_t6 r
theorem k0_off80_inb : ∀ (i : grid0.Coords) (v9 : BitVec 32) (k0_hw19 : k0_chk19 i v9) (k0_t6 : Fin (k0_t6_loop v9).trips), ∀ a, (k0_off80 i v9 k0_t6) a + S1x1.size a ≤ S2x16.size a := fun i v9 k0_hw19 k0_t6 => k0_hw19.1.2.2.2.2.2.2.2.2.2.2.2.2.2.2.2.2.2.2.2.2.1 k0_t6
theorem k0_off81_inb : ∀ (i : grid0.Coords) (v9 : BitVec 32) (k0_hw19 : k0_chk19 i v9) (k0_t6 : Fin (k0_t6_loop v9).trips), ∀ a, (k0_off81 i v9 k0_t6) a + S1x1x2x128x128.size a ≤ S2x64x2x128x128.size a := fun i v9 k0_hw19 k0_t6 => k0_hw19.1.2.2.2.2.2.2.2.2.2.2.2.2.2.2.2.2.2.2.2.2.2.1 k0_t6
theorem k0_off81_wordsfp8e4m3 : ∀ (i : grid0.Coords) (v9 : BitVec 32) (k0_hw19 : k0_chk19 i v9) (k0_t6 : Fin (k0_t6_loop v9).trips), (Rect.unit (s := S2x64x2x128x128) (k0_off81 i v9 k0_t6) S1x1x2x128x128.size (k0_off81_inb i v9 k0_hw19 k0_t6)).WholeWords (EltTy.packing .fp8e4m3) := fun i v9 k0_hw19 k0_t6 => k0_hw19.1.2.2.2.2.2.2.2.2.2.2.2.2.2.2.2.2.2.2.2.2.2.2.1 k0_t6 (k0_off81_inb i v9 k0_hw19 k0_t6)
theorem k0_off83_inb : ∀ (i : grid0.Coords) (v9 : BitVec 32) (k0_hw19 : k0_chk19 i v9) (k0_t6 : Fin (k0_t6_loop v9).trips), ∀ a, (k0_off83 i v9 k0_t6) a + S1x1.size a ≤ S2x16.size a := fun i v9 k0_hw19 k0_t6 => k0_hw19.1.2.2.2.2.2.2.2.2.2.2.2.2.2.2.2.2.2.2.2.2.2.2.2.1 k0_t6
theorem k0_off84_inb : ∀ (i : grid0.Coords) (v9 : BitVec 32) (k0_hw19 : k0_chk19 i v9) (k0_t6 : Fin (k0_t6_loop v9).trips), ∀ (r : Fin 2), ∀ a, (k0_off84 i v9 k0_t6 (BitVec.ofNat 32 r.val)) a + S1x1x2x128x128.size a ≤ S2x64x2x128x128.size a := fun i v9 k0_hw19 k0_t6 r => k0_hw19.1.2.2.2.2.2.2.2.2.2.2.2.2.2.2.2.2.2.2.2.2.2.2.2.2.1 k0_t6 r
theorem k0_off84_wordsfp8e4m3 : ∀ (i : grid0.Coords) (v9 : BitVec 32) (k0_hw19 : k0_chk19 i v9) (k0_t6 : Fin (k0_t6_loop v9).trips), ∀ (r : Fin 2), (Rect.unit (s := S2x64x2x128x128) (k0_off84 i v9 k0_t6 (BitVec.ofNat 32 r.val)) S1x1x2x128x128.size (k0_off84_inb i v9 k0_hw19 k0_t6 r)).WholeWords (EltTy.packing .fp8e4m3) := fun i v9 k0_hw19 k0_t6 r => k0_hw19.1.2.2.2.2.2.2.2.2.2.2.2.2.2.2.2.2.2.2.2.2.2.2.2.2.2.1 k0_t6 r (k0_off84_inb i v9 k0_hw19 k0_t6 r)
theorem k0_off86_inb : ∀ (i : grid0.Coords) (v9 : BitVec 32) (k0_hw19 : k0_chk19 i v9) (k0_t6 : Fin (k0_t6_loop v9).trips), ∀ a, (k0_off86 i v9 k0_t6) a + S1x1.size a ≤ S2x16.size a := fun i v9 k0_hw19 k0_t6 => k0_hw19.1.2.2.2.2.2.2.2.2.2.2.2.2.2.2.2.2.2.2.2.2.2.2.2.2.2.2.1 k0_t6
theorem k0_off87_inb : ∀ (i : grid0.Coords) (v9 : BitVec 32) (k0_hw19 : k0_chk19 i v9) (k0_t6 : Fin (k0_t6_loop v9).trips), ∀ (r : Fin 2), ∀ a, (k0_off87 i v9 k0_t6 (BitVec.ofNat 32 (1 + r.val))) a + S1x1x2x128x128.size a ≤ S2x64x2x128x128.size a := fun i v9 k0_hw19 k0_t6 r => k0_hw19.1.2.2.2.2.2.2.2.2.2.2.2.2.2.2.2.2.2.2.2.2.2.2.2.2.2.2.2.1 k0_t6 r
theorem k0_off87_wordsfp8e4m3 : ∀ (i : grid0.Coords) (v9 : BitVec 32) (k0_hw19 : k0_chk19 i v9) (k0_t6 : Fin (k0_t6_loop v9).trips), ∀ (r : Fin 2), (Rect.unit (s := S2x64x2x128x128) (k0_off87 i v9 k0_t6 (BitVec.ofNat 32 (1 + r.val))) S1x1x2x128x128.size (k0_off87_inb i v9 k0_hw19 k0_t6 r)).WholeWords (EltTy.packing .fp8e4m3) := fun i v9 k0_hw19 k0_t6 r => k0_hw19.1.2.2.2.2.2.2.2.2.2.2.2.2.2.2.2.2.2.2.2.2.2.2.2.2.2.2.2.2.1 k0_t6 r (k0_off87_inb i v9 k0_hw19 k0_t6 r)
theorem k0_off89_inb : ∀ (i : grid0.Coords) (v9 : BitVec 32) (k0_hw19 : k0_chk19 i v9) (k0_t6 : Fin (k0_t6_loop v9).trips), ∀ a, (k0_off89 i v9 k0_t6) a + S1x1.size a ≤ S2x16.size a := fun i v9 k0_hw19 k0_t6 => k0_hw19.1.2.2.2.2.2.2.2.2.2.2.2.2.2.2.2.2.2.2.2.2.2.2.2.2.2.2.2.2.2.1 k0_t6
theorem k0_off90_inb : ∀ (i : grid0.Coords) (v9 : BitVec 32) (k0_hw19 : k0_chk19 i v9) (k0_t6 : Fin (k0_t6_loop v9).trips), ∀ (r : Fin 2), ∀ a, (k0_off90 i v9 k0_t6 (BitVec.ofNat 32 (2 + r.val))) a + S1x1x2x128x128.size a ≤ S2x64x2x128x128.size a := fun i v9 k0_hw19 k0_t6 r => k0_hw19.1.2.2.2.2.2.2.2.2.2.2.2.2.2.2.2.2.2.2.2.2.2.2.2.2.2.2.2.2.2.2.1 k0_t6 r
theorem k0_off90_wordsfp8e4m3 : ∀ (i : grid0.Coords) (v9 : BitVec 32) (k0_hw19 : k0_chk19 i v9) (k0_t6 : Fin (k0_t6_loop v9).trips), ∀ (r : Fin 2), (Rect.unit (s := S2x64x2x128x128) (k0_off90 i v9 k0_t6 (BitVec.ofNat 32 (2 + r.val))) S1x1x2x128x128.size (k0_off90_inb i v9 k0_hw19 k0_t6 r)).WholeWords (EltTy.packing .fp8e4m3) := fun i v9 k0_hw19 k0_t6 r => k0_hw19.1.2.2.2.2.2.2.2.2.2.2.2.2.2.2.2.2.2.2.2.2.2.2.2.2.2.2.2.2.2.2.2 k0_t6 r (k0_off90_inb i v9 k0_hw19 k0_t6 r)
theorem k0_off92_inb : ∀ (i : grid0.Coords) (v9 : BitVec 32) (k0_hw19 : k0_chk19 i v9) (k0_t6 : Fin (k0_t6_loop v9).trips), ∀ a, (k0_off92 i v9 k0_t6) a + S1x1.size a ≤ S2x16.size a := fun i v9 k0_hw19 k0_t6 => k0_hw19.2.1.1 k0_t6
theorem k0_off93_inb : ∀ (i : grid0.Coords) (v9 : BitVec 32) (k0_hw19 : k0_chk19 i v9) (k0_t6 : Fin (k0_t6_loop v9).trips), ∀ a, (k0_off93 i v9 k0_t6) a + S1x1x2x128x128.size a ≤ S2x64x2x128x128.size a := fun i v9 k0_hw19 k0_t6 => k0_hw19.2.1.2.1 k0_t6
theorem k0_off93_wordsfp8e4m3 : ∀ (i : grid0.Coords) (v9 : BitVec 32) (k0_hw19 : k0_chk19 i v9) (k0_t6 : Fin (k0_t6_loop v9).trips), (Rect.unit (s := S2x64x2x128x128) (k0_off93 i v9 k0_t6) S1x1x2x128x128.size (k0_off93_inb i v9 k0_hw19 k0_t6)).WholeWords (EltTy.packing .fp8e4m3) := fun i v9 k0_hw19 k0_t6 => k0_hw19.2.1.2.2.1 k0_t6 (k0_off93_inb i v9 k0_hw19 k0_t6)
theorem k0_off94_inb : ∀ (i : grid0.Coords) (v9 : BitVec 32) (k0_hw19 : k0_chk19 i v9) (k0_t6 : Fin (k0_t6_loop v9).trips), ∀ a, (k0_off94 i v9 k0_t6) a + S1x4x1x128x128.size a ≤ S2x64x2x128x128.size a := fun i v9 k0_hw19 k0_t6 => k0_hw19.2.1.2.2.2.1 k0_t6
theorem k0_t7_ok : ∀ (i : grid0.Coords) (v9 : BitVec 32) (k0_hw19 : k0_chk19 i v9), (k0_t7_loop v9).OK := fun i v9 k0_hw19 => k0_hw19.2.1.2.2.2.2.1
theorem k0_off95_inb : ∀ (i : grid0.Coords) (v9 : BitVec 32) (k0_hw19 : k0_chk19 i v9) (k0_t7 : Fin (k0_t7_loop v9).trips), ∀ (r : Fin 4), ∀ a, (k0_off95 i v9 k0_t7 (BitVec.ofNat 32 r.val)) a + S1x1.size a ≤ S32x64.size a := fun i v9 k0_hw19 k0_t7 r => k0_hw19.2.1.2.2.2.2.2.1 k0_t7 r
theorem k0_off96_inb : ∀ (i : grid0.Coords) (v9 : BitVec 32) (k0_hw19 : k0_chk19 i v9) (k0_t7 : Fin (k0_t7_loop v9).trips), ∀ a, (k0_off96 i v9 k0_t7) a + S1x1.size a ≤ S2x16.size a := fun i v9 k0_hw19 k0_t7 => k0_hw19.2.1.2.2.2.2.2.2.1 k0_t7
theorem k0_off97_inb : ∀ (i : grid0.Coords) (v9 : BitVec 32) (k0_hw19 : k0_chk19 i v9) (k0_t7 : Fin (k0_t7_loop v9).trips), ∀ a, (k0_off97 i v9 k0_t7) a + S1x1x2x128x128.size a ≤ S2x64x2x128x128.size a := fun i v9 k0_hw19 k0_t7 => k0_hw19.2.1.2.2.2.2.2.2.2.1 k0_t7
theorem k0_off97_wordsfp8e4m3 : ∀ (i : grid0.Coords) (v9 : BitVec 32) (k0_hw19 : k0_chk19 i v9) (k0_t7 : Fin (k0_t7_loop v9).trips), (Rect.unit (s := S2x64x2x128x128) (k0_off97 i v9 k0_t7) S1x1x2x128x128.size (k0_off97_inb i v9 k0_hw19 k0_t7)).WholeWords (EltTy.packing .fp8e4m3) := fun i v9 k0_hw19 k0_t7 => k0_hw19.2.1.2.2.2.2.2.2.2.2.1 k0_t7 (k0_off97_inb i v9 k0_hw19 k0_t7)
theorem k0_off99_inb : ∀ (i : grid0.Coords) (v9 : BitVec 32) (k0_hw19 : k0_chk19 i v9) (k0_t7 : Fin (k0_t7_loop v9).trips), ∀ a, (k0_off99 i v9 k0_t7) a + S1x1.size a ≤ S2x16.size a := fun i v9 k0_hw19 k0_t7 => k0_hw19.2.1.2.2.2.2.2.2.2.2.2.1 k0_t7
theorem k0_off100_inb : ∀ (i : grid0.Coords) (v9 : BitVec 32) (k0_hw19 : k0_chk19 i v9) (k0_t7 : Fin (k0_t7_loop v9).trips), ∀ (r : Fin 2), ∀ a, (k0_off100 i v9 k0_t7 (BitVec.ofNat 32 r.val)) a + S1x1x2x128x128.size a ≤ S2x64x2x128x128.size a := fun i v9 k0_hw19 k0_t7 r => k0_hw19.2.1.2.2.2.2.2.2.2.2.2.2.1 k0_t7 r
theorem k0_off100_wordsfp8e4m3 : ∀ (i : grid0.Coords) (v9 : BitVec 32) (k0_hw19 : k0_chk19 i v9) (k0_t7 : Fin (k0_t7_loop v9).trips), ∀ (r : Fin 2), (Rect.unit (s := S2x64x2x128x128) (k0_off100 i v9 k0_t7 (BitVec.ofNat 32 r.val)) S1x1x2x128x128.size (k0_off100_inb i v9 k0_hw19 k0_t7 r)).WholeWords (EltTy.packing .fp8e4m3) := fun i v9 k0_hw19 k0_t7 r => k0_hw19.2.1.2.2.2.2.2.2.2.2.2.2.2.1 k0_t7 r (k0_off100_inb i v9 k0_hw19 k0_t7 r)
theorem k0_off102_inb : ∀ (i : grid0.Coords) (v9 : BitVec 32) (k0_hw19 : k0_chk19 i v9) (k0_t7 : Fin (k0_t7_loop v9).trips), ∀ a, (k0_off102 i v9 k0_t7) a + S1x1.size a ≤ S2x16.size a := fun i v9 k0_hw19 k0_t7 => k0_hw19.2.1.2.2.2.2.2.2.2.2.2.2.2.2.1 k0_t7
theorem k0_off103_inb : ∀ (i : grid0.Coords) (v9 : BitVec 32) (k0_hw19 : k0_chk19 i v9) (k0_t7 : Fin (k0_t7_loop v9).trips), ∀ (r : Fin 2), ∀ a, (k0_off103 i v9 k0_t7 (BitVec.ofNat 32 (1 + r.val))) a + S1x1x2x128x128.size a ≤ S2x64x2x128x128.size a := fun i v9 k0_hw19 k0_t7 r => k0_hw19.2.1.2.2.2.2.2.2.2.2.2.2.2.2.2.1 k0_t7 r
theorem k0_off103_wordsfp8e4m3 : ∀ (i : grid0.Coords) (v9 : BitVec 32) (k0_hw19 : k0_chk19 i v9) (k0_t7 : Fin (k0_t7_loop v9).trips), ∀ (r : Fin 2), (Rect.unit (s := S2x64x2x128x128) (k0_off103 i v9 k0_t7 (BitVec.ofNat 32 (1 + r.val))) S1x1x2x128x128.size (k0_off103_inb i v9 k0_hw19 k0_t7 r)).WholeWords (EltTy.packing .fp8e4m3) := fun i v9 k0_hw19 k0_t7 r => k0_hw19.2.1.2.2.2.2.2.2.2.2.2.2.2.2.2.2.1 k0_t7 r (k0_off103_inb i v9 k0_hw19 k0_t7 r)
theorem k0_off105_inb : ∀ (i : grid0.Coords) (v9 : BitVec 32) (k0_hw19 : k0_chk19 i v9) (k0_t7 : Fin (k0_t7_loop v9).trips), ∀ a, (k0_off105 i v9 k0_t7) a + S1x1.size a ≤ S2x16.size a := fun i v9 k0_hw19 k0_t7 => k0_hw19.2.1.2.2.2.2.2.2.2.2.2.2.2.2.2.2.2.1 k0_t7
theorem k0_off106_inb : ∀ (i : grid0.Coords) (v9 : BitVec 32) (k0_hw19 : k0_chk19 i v9) (k0_t7 : Fin (k0_t7_loop v9).trips), ∀ (r : Fin 2), ∀ a, (k0_off106 i v9 k0_t7 (BitVec.ofNat 32 (2 + r.val))) a + S1x1x2x128x128.size a ≤ S2x64x2x128x128.size a := fun i v9 k0_hw19 k0_t7 r => k0_hw19.2.1.2.2.2.2.2.2.2.2.2.2.2.2.2.2.2.2.1 k0_t7 r
theorem k0_off106_wordsfp8e4m3 : ∀ (i : grid0.Coords) (v9 : BitVec 32) (k0_hw19 : k0_chk19 i v9) (k0_t7 : Fin (k0_t7_loop v9).trips), ∀ (r : Fin 2), (Rect.unit (s := S2x64x2x128x128) (k0_off106 i v9 k0_t7 (BitVec.ofNat 32 (2 + r.val))) S1x1x2x128x128.size (k0_off106_inb i v9 k0_hw19 k0_t7 r)).WholeWords (EltTy.packing .fp8e4m3) := fun i v9 k0_hw19 k0_t7 r => k0_hw19.2.1.2.2.2.2.2.2.2.2.2.2.2.2.2.2.2.2.2.1 k0_t7 r (k0_off106_inb i v9 k0_hw19 k0_t7 r)
theorem k0_off108_inb : ∀ (i : grid0.Coords) (v9 : BitVec 32) (k0_hw19 : k0_chk19 i v9) (k0_t7 : Fin (k0_t7_loop v9).trips), ∀ a, (k0_off108 i v9 k0_t7) a + S1x1.size a ≤ S2x16.size a := fun i v9 k0_hw19 k0_t7 => k0_hw19.2.1.2.2.2.2.2.2.2.2.2.2.2.2.2.2.2.2.2.2.1 k0_t7
theorem k0_off109_inb : ∀ (i : grid0.Coords) (v9 : BitVec 32) (k0_hw19 : k0_chk19 i v9) (k0_t7 : Fin (k0_t7_loop v9).trips), ∀ a, (k0_off109 i v9 k0_t7) a + S1x1x2x128x128.size a ≤ S2x64x2x128x128.size a := fun i v9 k0_hw19 k0_t7 => k0_hw19.2.1.2.2.2.2.2.2.2.2.2.2.2.2.2.2.2.2.2.2.2.1 k0_t7
theorem k0_off109_wordsfp8e4m3 : ∀ (i : grid0.Coords) (v9 : BitVec 32) (k0_hw19 : k0_chk19 i v9) (k0_t7 : Fin (k0_t7_loop v9).trips), (Rect.unit (s := S2x64x2x128x128) (k0_off109 i v9 k0_t7) S1x1x2x128x128.size (k0_off109_inb i v9 k0_hw19 k0_t7)).WholeWords (EltTy.packing .fp8e4m3) := fun i v9 k0_hw19 k0_t7 => k0_hw19.2.1.2.2.2.2.2.2.2.2.2.2.2.2.2.2.2.2.2.2.2.2.1 k0_t7 (k0_off109_inb i v9 k0_hw19 k0_t7)
theorem k0_off110_inb : ∀ (i : grid0.Coords) (v9 : BitVec 32) (k0_hw19 : k0_chk19 i v9) (k0_t7 : Fin (k0_t7_loop v9).trips), ∀ a, (k0_off110 i v9 k0_t7) a + S1x4x1x128x128.size a ≤ S2x64x2x128x128.size a := fun i v9 k0_hw19 k0_t7 => k0_hw19.2.1.2.2.2.2.2.2.2.2.2.2.2.2.2.2.2.2.2.2.2.2.2.1 k0_t7
theorem k0_t8_ok : ∀ (i : grid0.Coords) (v9 : BitVec 32) (k0_hw19 : k0_chk19 i v9), (k0_t8_loop v9).OK := fun i v9 k0_hw19 => k0_hw19.2.1.2.2.2.2.2.2.2.2.2.2.2.2.2.2.2.2.2.2.2.2.2.2.1
theorem k0_off111_inb : ∀ (i : grid0.Coords) (v9 : BitVec 32) (k0_hw19 : k0_chk19 i v9) (k0_t8 : Fin (k0_t8_loop v9).trips), ∀ (r : Fin 4), ∀ a, (k0_off111 i v9 k0_t8 (BitVec.ofNat 32 r.val)) a + S1x1.size a ≤ S32x64.size a := fun i v9 k0_hw19 k0_t8 r => k0_hw19.2.1.2.2.2.2.2.2.2.2.2.2.2.2.2.2.2.2.2.2.2.2.2.2.2.1 k0_t8 r
theorem k0_off112_inb : ∀ (i : grid0.Coords) (v9 : BitVec 32) (k0_hw19 : k0_chk19 i v9) (k0_t8 : Fin (k0_t8_loop v9).trips), ∀ a, (k0_off112 i v9 k0_t8) a + S1x1.size a ≤ S2x16.size a := fun i v9 k0_hw19 k0_t8 => k0_hw19.2.1.2.2.2.2.2.2.2.2.2.2.2.2.2.2.2.2.2.2.2.2.2.2.2.2.1 k0_t8
theorem k0_off113_inb : ∀ (i : grid0.Coords) (v9 : BitVec 32) (k0_hw19 : k0_chk19 i v9) (k0_t8 : Fin (k0_t8_loop v9).trips), ∀ a, (k0_off113 i v9 k0_t8) a + S1x1x2x128x128.size a ≤ S2x64x2x128x128.size a := fun i v9 k0_hw19 k0_t8 => k0_hw19.2.1.2.2.2.2.2.2.2.2.2.2.2.2.2.2.2.2.2.2.2.2.2.2.2.2.2.1 k0_t8
theorem k0_off113_wordsfp8e4m3 : ∀ (i : grid0.Coords) (v9 : BitVec 32) (k0_hw19 : k0_chk19 i v9) (k0_t8 : Fin (k0_t8_loop v9).trips), (Rect.unit (s := S2x64x2x128x128) (k0_off113 i v9 k0_t8) S1x1x2x128x128.size (k0_off113_inb i v9 k0_hw19 k0_t8)).WholeWords (EltTy.packing .fp8e4m3) := fun i v9 k0_hw19 k0_t8 => k0_hw19.2.1.2.2.2.2.2.2.2.2.2.2.2.2.2.2.2.2.2.2.2.2.2.2.2.2.2.2.1 k0_t8 (k0_off113_inb i v9 k0_hw19 k0_t8)
theorem k0_off115_inb : ∀ (i : grid0.Coords) (v9 : BitVec 32) (k0_hw19 : k0_chk19 i v9) (k0_t8 : Fin (k0_t8_loop v9).trips), ∀ a, (k0_off115 i v9 k0_t8) a + S1x1.size a ≤ S2x16.size a := fun i v9 k0_hw19 k0_t8 => k0_hw19.2.1.2.2.2.2.2.2.2.2.2.2.2.2.2.2.2.2.2.2.2.2.2.2.2.2.2.2.2.1 k0_t8
theorem k0_off116_inb : ∀ (i : grid0.Coords) (v9 : BitVec 32) (k0_hw19 : k0_chk19 i v9) (k0_t8 : Fin (k0_t8_loop v9).trips), ∀ (r : Fin 2), ∀ a, (k0_off116 i v9 k0_t8 (BitVec.ofNat 32 r.val)) a + S1x1x2x128x128.size a ≤ S2x64x2x128x128.size a := fun i v9 k0_hw19 k0_t8 r => k0_hw19.2.1.2.2.2.2.2.2.2.2.2.2.2.2.2.2.2.2.2.2.2.2.2.2.2.2.2.2.2.2.1 k0_t8 r
theorem k0_off116_wordsfp8e4m3 : ∀ (i : grid0.Coords) (v9 : BitVec 32) (k0_hw19 : k0_chk19 i v9) (k0_t8 : Fin (k0_t8_loop v9).trips), ∀ (r : Fin 2), (Rect.unit (s := S2x64x2x128x128) (k0_off116 i v9 k0_t8 (BitVec.ofNat 32 r.val)) S1x1x2x128x128.size (k0_off116_inb i v9 k0_hw19 k0_t8 r)).WholeWords (EltTy.packing .fp8e4m3) := fun i v9 k0_hw19 k0_t8 r => k0_hw19.2.1.2.2.2.2.2.2.2.2.2.2.2.2.2.2.2.2.2.2.2.2.2.2.2.2.2.2.2.2.2.1 k0_t8 r (k0_off116_inb i v9 k0_hw19 k0_t8 r)
theorem k0_off118_inb : ∀ (i : grid0.Coords) (v9 : BitVec 32) (k0_hw19 : k0_chk19 i v9) (k0_t8 : Fin (k0_t8_loop v9).trips), ∀ a, (k0_off118 i v9 k0_t8) a + S1x1.size a ≤ S2x16.size a := fun i v9 k0_hw19 k0_t8 => k0_hw19.2.1.2.2.2.2.2.2.2.2.2.2.2.2.2.2.2.2.2.2.2.2.2.2.2.2.2.2.2.2.2.2.1 k0_t8
theorem k0_off119_inb : ∀ (i : grid0.Coords) (v9 : BitVec 32) (k0_hw19 : k0_chk19 i v9) (k0_t8 : Fin (k0_t8_loop v9).trips), ∀ (r : Fin 2), ∀ a, (k0_off119 i v9 k0_t8 (BitVec.ofNat 32 (1 + r.val))) a + S1x1x2x128x128.size a ≤ S2x64x2x128x128.size a := fun i v9 k0_hw19 k0_t8 r => k0_hw19.2.1.2.2.2.2.2.2.2.2.2.2.2.2.2.2.2.2.2.2.2.2.2.2.2.2.2.2.2.2.2.2.2 k0_t8 r
theorem k0_off119_wordsfp8e4m3 : ∀ (i : grid0.Coords) (v9 : BitVec 32) (k0_hw19 : k0_chk19 i v9) (k0_t8 : Fin (k0_t8_loop v9).trips), ∀ (r : Fin 2), (Rect.unit (s := S2x64x2x128x128) (k0_off119 i v9 k0_t8 (BitVec.ofNat 32 (1 + r.val))) S1x1x2x128x128.size (k0_off119_inb i v9 k0_hw19 k0_t8 r)).WholeWords (EltTy.packing .fp8e4m3) := fun i v9 k0_hw19 k0_t8 r => k0_hw19.2.2.1 k0_t8 r (k0_off119_inb i v9 k0_hw19 k0_t8 r)
theorem k0_off121_inb : ∀ (i : grid0.Coords) (v9 : BitVec 32) (k0_hw19 : k0_chk19 i v9) (k0_t8 : Fin (k0_t8_loop v9).trips), ∀ a, (k0_off121 i v9 k0_t8) a + S1x1.size a ≤ S2x16.size a := fun i v9 k0_hw19 k0_t8 => k0_hw19.2.2.2.1 k0_t8
theorem k0_off122_inb : ∀ (i : grid0.Coords) (v9 : BitVec 32) (k0_hw19 : k0_chk19 i v9) (k0_t8 : Fin (k0_t8_loop v9).trips), ∀ (r : Fin 2), ∀ a, (k0_off122 i v9 k0_t8 (BitVec.ofNat 32 (2 + r.val))) a + S1x1x2x128x128.size a ≤ S2x64x2x128x128.size a := fun i v9 k0_hw19 k0_t8 r => k0_hw19.2.2.2.2.1 k0_t8 r
theorem k0_off122_wordsfp8e4m3 : ∀ (i : grid0.Coords) (v9 : BitVec 32) (k0_hw19 : k0_chk19 i v9) (k0_t8 : Fin (k0_t8_loop v9).trips), ∀ (r : Fin 2), (Rect.unit (s := S2x64x2x128x128) (k0_off122 i v9 k0_t8 (BitVec.ofNat 32 (2 + r.val))) S1x1x2x128x128.size (k0_off122_inb i v9 k0_hw19 k0_t8 r)).WholeWords (EltTy.packing .fp8e4m3) := fun i v9 k0_hw19 k0_t8 r => k0_hw19.2.2.2.2.2.1 k0_t8 r (k0_off122_inb i v9 k0_hw19 k0_t8 r)
theorem k0_off124_inb : ∀ (i : grid0.Coords) (v9 : BitVec 32) (k0_hw19 : k0_chk19 i v9) (k0_t8 : Fin (k0_t8_loop v9).trips), ∀ a, (k0_off124 i v9 k0_t8) a + S1x1.size a ≤ S2x16.size a := fun i v9 k0_hw19 k0_t8 => k0_hw19.2.2.2.2.2.2.1 k0_t8
theorem k0_off125_inb : ∀ (i : grid0.Coords) (v9 : BitVec 32) (k0_hw19 : k0_chk19 i v9) (k0_t8 : Fin (k0_t8_loop v9).trips), ∀ a, (k0_off125 i v9 k0_t8) a + S1x1x2x128x128.size a ≤ S2x64x2x128x128.size a := fun i v9 k0_hw19 k0_t8 => k0_hw19.2.2.2.2.2.2.2.1 k0_t8
theorem k0_off125_wordsfp8e4m3 : ∀ (i : grid0.Coords) (v9 : BitVec 32) (k0_hw19 : k0_chk19 i v9) (k0_t8 : Fin (k0_t8_loop v9).trips), (Rect.unit (s := S2x64x2x128x128) (k0_off125 i v9 k0_t8) S1x1x2x128x128.size (k0_off125_inb i v9 k0_hw19 k0_t8)).WholeWords (EltTy.packing .fp8e4m3) := fun i v9 k0_hw19 k0_t8 => k0_hw19.2.2.2.2.2.2.2.2.1 k0_t8 (k0_off125_inb i v9 k0_hw19 k0_t8)
theorem k0_off126_inb : ∀ (i : grid0.Coords) (v9 : BitVec 32) (k0_hw19 : k0_chk19 i v9) (k0_t8 : Fin (k0_t8_loop v9).trips), ∀ a, (k0_off126 i v9 k0_t8) a + S1x4x1x128x128.size a ≤ S2x64x2x128x128.size a := fun i v9 k0_hw19 k0_t8 => k0_hw19.2.2.2.2.2.2.2.2.2.1 k0_t8
theorem k0_t9_ok : ∀ (i : grid0.Coords) (v9 : BitVec 32) (k0_hw19 : k0_chk19 i v9), (k0_t9_loop v9).OK := fun i v9 k0_hw19 => k0_hw19.2.2.2.2.2.2.2.2.2.2.1
theorem k0_off127_inb : ∀ (i : grid0.Coords) (v9 : BitVec 32) (k0_hw19 : k0_chk19 i v9) (k0_t9 : Fin (k0_t9_loop v9).trips), ∀ a, (k0_off127 i v9 k0_t9) a + S1x4x1x128x128.size a ≤ S2x64x2x128x128.size a := fun i v9 k0_hw19 k0_t9 => k0_hw19.2.2.2.2.2.2.2.2.2.2.2.1 k0_t9
theorem k0_t10_ok : ∀ (i : grid0.Coords) (v9 : BitVec 32) (k0_hw19 : k0_chk19 i v9), (k0_t10_loop v9).OK := fun i v9 k0_hw19 => k0_hw19.2.2.2.2.2.2.2.2.2.2.2.2.1
theorem k0_off128_inb : ∀ (i : grid0.Coords) (v9 : BitVec 32) (k0_hw19 : k0_chk19 i v9) (k0_t10 : Fin (k0_t10_loop v9).trips), ∀ a, (k0_off128 i v9 k0_t10) a + S1x4x1x128x128.size a ≤ S2x64x2x128x128.size a := fun i v9 k0_hw19 k0_t10 => k0_hw19.2.2.2.2.2.2.2.2.2.2.2.2.2.1 k0_t10
theorem k0_t11_ok : ∀ (i : grid0.Coords) (v9 : BitVec 32) (k0_hw19 : k0_chk19 i v9), (k0_t11_loop v9).OK := fun i v9 k0_hw19 => k0_hw19.2.2.2.2.2.2.2.2.2.2.2.2.2.2.1
theorem k0_off129_inb : ∀ (i : grid0.Coords) (v9 : BitVec 32) (k0_hw19 : k0_chk19 i v9) (k0_t11 : Fin (k0_t11_loop v9).trips), ∀ a, (k0_off129 i v9 k0_t11) a + S1x4x1x128x128.size a ≤ S2x64x2x128x128.size a := fun i v9 k0_hw19 k0_t11 => k0_hw19.2.2.2.2.2.2.2.2.2.2.2.2.2.2.2.1 k0_t11
theorem k0_t12_ok : ∀ (i : grid0.Coords) (v9 : BitVec 32) (k0_hw19 : k0_chk19 i v9), (k0_t12_loop v9).OK := fun i v9 k0_hw19 => k0_hw19.2.2.2.2.2.2.2.2.2.2.2.2.2.2.2.2.1
theorem k0_off130_inb : ∀ (i : grid0.Coords) (v9 : BitVec 32) (k0_hw19 : k0_chk19 i v9) (k0_t12 : Fin (k0_t12_loop v9).trips), ∀ a, (k0_off130 i v9 k0_t12) a + S1x4x1x128x128.size a ≤ S2x64x2x128x128.size a := fun i v9 k0_hw19 k0_t12 => k0_hw19.2.2.2.2.2.2.2.2.2.2.2.2.2.2.2.2.2 k0_t12

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x128x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x128x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "masked" => some ⊥
  | "scale_log2e" => some (((Real.log 2)⁻¹ * (Real.sqrt 128)⁻¹ : ℝ) : EReal)
  | _ => none
-- ==== ReferenceIdeal.lean ====
abbrev S32x128x2048 : Shape := ⟨3, ![32, 128, 2048]⟩
abbrev S32x128x2x128 : Shape := ⟨4, ![32, 128, 2, 128]⟩
abbrev S2048x128x2x128 : Shape := ⟨4, ![2048, 128, 2, 128]⟩
abbrev S2 : Shape := ⟨1, ![2]⟩
abbrev S32x64 : Shape := ⟨2, ![32, 64]⟩
abbrev S32 : Shape := ⟨1, ![32]⟩
abbrev S2x1 : Shape := ⟨2, ![2, 1]⟩
abbrev S1x1x2x1 : Shape := ⟨4, ![1, 1, 2, 1]⟩
abbrev S32x64x1 : Shape := ⟨3, ![32, 64, 1]⟩
abbrev S32x64x128x2x128 : Shape := ⟨5, ![32, 64, 128, 2, 128]⟩
abbrev S32x8192x2x128 : Shape := ⟨4, ![32, 8192, 2, 128]⟩
abbrev S32x128x2x8x128 : Shape := ⟨5, ![32, 128, 2, 8, 128]⟩
abbrev S128 : Shape := ⟨1, ![128]⟩
abbrev S8192 : Shape := ⟨1, ![8192]⟩
abbrev S1x8192 : Shape := ⟨2, ![1, 8192]⟩
abbrev S32x1 : Shape := ⟨2, ![32, 1]⟩
abbrev S32x8192 : Shape := ⟨2, ![32, 8192]⟩
abbrev S32x1x1x1x8192 : Shape := ⟨5, ![32, 1, 1, 1, 8192]⟩
abbrev S1x128 : Shape := ⟨2, ![1, 128]⟩
abbrev S128x1 : Shape := ⟨2, ![128, 1]⟩
abbrev S128x128 : Shape := ⟨2, ![128, 128]⟩
abbrev S1x1x1x128x128 : Shape := ⟨5, ![1, 1, 1, 128, 128]⟩
abbrev S32x2x8192x128x8 : Shape := ⟨5, ![32, 2, 8192, 128, 8]⟩
abbrev S32x2x8x128x8192 : Shape := ⟨5, ![32, 2, 8, 128, 8192]⟩
abbrev S_ : Shape := ⟨0, ![]⟩
abbrev S32x2x128x128x8 : Shape := ⟨5, ![32, 2, 128, 128, 8]⟩
abbrev S32x2x8x128x128 : Shape := ⟨5, ![32, 2, 8, 128, 128]⟩
abbrev S32x2x8x128 : Shape := ⟨4, ![32, 2, 8, 128]⟩
abbrev S32x2x8x128x1 : Shape := ⟨5, ![32, 2, 8, 128, 1]⟩

abbrev nBuf : Space → Nat
  | .hbm => 86
  | .vmem => 12
  | .smem => 0
  | _ => 0

abbrev bufTy : (tb : Table) → Fin (tcTables nBuf tb) → BufTy
  | .hbm, ⟨0, _⟩ => ⟨S32x128x2048, .bf16⟩
  | .hbm, ⟨1, _⟩ => ⟨S32x128x2x128, .bf16⟩
  | .hbm, ⟨2, _⟩ => ⟨S32x128x2x128, .bf16⟩
  | .hbm, ⟨3, _⟩ => ⟨S2048x128x2x128, .fp8e4m3⟩
  | .hbm, ⟨4, _⟩ => ⟨S2048x128x2x128, .fp8e4m3⟩
  | .hbm, ⟨5, _⟩ => ⟨S2, .f32⟩
  | .hbm, ⟨6, _⟩ => ⟨S2, .f32⟩
  | .hbm, ⟨7, _⟩ => ⟨S32x64, .i32⟩
  | .hbm, ⟨8, _⟩ => ⟨S32, .i32⟩
  | .hbm, ⟨9, _⟩ => ⟨S32x128x2x128, .fp8e4m3⟩
  | .hbm, ⟨10, _⟩ => ⟨S32x128x2x128, .fp8e4m3⟩
  | .hbm, ⟨11, _⟩ => ⟨S32x128x2x128, .bf16⟩
  | .hbm, ⟨12, _⟩ => ⟨S32x128x2x128, .bf16⟩
  | .hbm, ⟨13, _⟩ => ⟨S2048x128x2x128, .bf16⟩
  | .hbm, ⟨14, _⟩ => ⟨S2048x128x2x128, .bf16⟩
  | .hbm, ⟨15, _⟩ => ⟨S32x64x1, .i32⟩
  | .hbm, ⟨16, _⟩ => ⟨S32x64x128x2x128, .bf16⟩
  | .hbm, ⟨17, _⟩ => ⟨S32x8192x2x128, .bf16⟩
  | .hbm, ⟨18, _⟩ => ⟨S32x64x1, .i32⟩
  | .hbm, ⟨19, _⟩ => ⟨S32x64x128x2x128, .bf16⟩
  | .hbm, ⟨20, _⟩ => ⟨S32x8192x2x128, .bf16⟩
  | .hbm, ⟨21, _⟩ => ⟨S32x128x2x8x128, .bf16⟩
  | .hbm, ⟨22, _⟩ => ⟨S128, .i32⟩
  | .hbm, ⟨23, _⟩ => ⟨S8192, .i32⟩
  | .hbm, ⟨24, _⟩ => ⟨S1x8192, .i32⟩
  | .hbm, ⟨25, _⟩ => ⟨S32x1, .i32⟩
  | .hbm, ⟨26, _⟩ => ⟨S32x8192, .i32⟩
  | .hbm, ⟨27, _⟩ => ⟨S32x8192, .i32⟩
  | .hbm, ⟨28, _⟩ => ⟨S32x8192, .i1⟩
  | .hbm, ⟨29, _⟩ => ⟨S32x1x1x1x8192, .i1⟩
  | .hbm, ⟨30, _⟩ => ⟨S1x128, .i32⟩
  | .hbm, ⟨31, _⟩ => ⟨S128x1, .i32⟩
  | .hbm, ⟨32, _⟩ => ⟨S128x128, .i32⟩
  | .hbm, ⟨33, _⟩ => ⟨S128x128, .i32⟩
  | .hbm, ⟨34, _⟩ => ⟨S128x128, .i1⟩
  | .hbm, ⟨35, _⟩ => ⟨S1x1x1x128x128, .i1⟩
  | .hbm, ⟨36, _⟩ => ⟨S32x2x8192x128x8, .f32⟩
  | .hbm, ⟨37, _⟩ => ⟨S32x2x8x128x8192, .f32⟩
  | .hbm, ⟨38, _⟩ => ⟨S_, .f32⟩
  | .hbm, ⟨39, _⟩ => ⟨S_, .f32⟩
  | .hbm, ⟨40, _⟩ => ⟨S32x2x8x128x8192, .f32⟩
  | .hbm, ⟨41, _⟩ => ⟨S32x2x8x128x8192, .f32⟩
  | .hbm, ⟨42, _⟩ => ⟨S_, .f32⟩
  | .hbm, ⟨43, _⟩ => ⟨S_, .f32⟩
  | .hbm, ⟨44, _⟩ => ⟨S32x2x8x128x8192, .i1⟩
  | .hbm, ⟨45, _⟩ => ⟨S32x2x8x128x8192, .f32⟩
  | .hbm, ⟨46, _⟩ => ⟨S32x2x8x128x8192, .f32⟩
  | .hbm, ⟨47, _⟩ => ⟨S32x2x128x128x8, .f32⟩
  | .hbm, ⟨48, _⟩ => ⟨S32x2x8x128x128, .f32⟩
  | .hbm, ⟨49, _⟩ => ⟨S_, .f32⟩
  | .hbm, ⟨50, _⟩ => ⟨S_, .f32⟩
  | .hbm, ⟨51, _⟩ => ⟨S32x2x8x128x128, .f32⟩
  | .hbm, ⟨52, _⟩ => ⟨S32x2x8x128x128, .f32⟩
  | .hbm, ⟨53, _⟩ => ⟨S_, .f32⟩
  | .hbm, ⟨54, _⟩ => ⟨S_, .f32⟩
  | .hbm, ⟨55, _⟩ => ⟨S32x2x8x128x128, .i1⟩
  | .hbm, ⟨56, _⟩ => ⟨S32x2x8x128x128, .f32⟩
  | .hbm, ⟨57, _⟩ => ⟨S32x2x8x128x128, .f32⟩
  | .hbm, ⟨58, _⟩ => ⟨S_, .f32⟩
  | .hbm, ⟨59, _⟩ => ⟨S32x2x8x128, .f32⟩
  | .hbm, ⟨60, _⟩ => ⟨S_, .f32⟩
  | .hbm, ⟨61, _⟩ => ⟨S32x2x8x128, .f32⟩
  | .hbm, ⟨62, _⟩ => ⟨S32x2x8x128, .f32⟩
  | .hbm, ⟨63, _⟩ => ⟨S32x2x8x128x1, .f32⟩
  | .hbm, ⟨64, _⟩ => ⟨S32x2x8x128x8192, .f32⟩
  | .hbm, ⟨65, _⟩ => ⟨S32x2x8x128x8192, .f32⟩
  | .hbm, ⟨66, _⟩ => ⟨S32x2x8x128x8192, .f32⟩
  | .hbm, ⟨67, _⟩ => ⟨S32x2x8x128x128, .f32⟩
  | .hbm, ⟨68, _⟩ => ⟨S32x2x8x128x128, .f32⟩
  | .hbm, ⟨69, _⟩ => ⟨S32x2x8x128x128, .f32⟩
  | .hbm, ⟨70, _⟩ => ⟨S_, .f32⟩
  | .hbm, ⟨71, _⟩ => ⟨S32x2x8x128, .f32⟩
  | .hbm, ⟨72, _⟩ => ⟨S_, .f32⟩
  | .hbm, ⟨73, _⟩ => ⟨S32x2x8x128, .f32⟩
  | .hbm, ⟨74, _⟩ => ⟨S32x2x8x128, .f32⟩
  | .hbm, ⟨75, _⟩ => ⟨S32x2x8x128x8192, .bf16⟩
  | .hbm, ⟨76, _⟩ => ⟨S32x2x8x128x128, .f32⟩
  | .hbm, ⟨77, _⟩ => ⟨S32x2x8x128x128, .bf16⟩
  | .hbm, ⟨78, _⟩ => ⟨S32x2x8x128x128, .f32⟩
  | .hbm, ⟨79, _⟩ => ⟨S32x2x8x128x128, .f32⟩
  | .hbm, ⟨80, _⟩ => ⟨S32x2x8x128x1, .f32⟩
  | .hbm, ⟨81, _⟩ => ⟨S32x2x8x128x128, .f32⟩
  | .hbm, ⟨82, _⟩ => ⟨S32x2x8x128x128, .f32⟩
  | .hbm, ⟨83, _⟩ => ⟨S32x128x2x8x128, .f32⟩
  | .hbm, ⟨84, _⟩ => ⟨S32x128x2048, .f32⟩
  | .hbm, ⟨85, _⟩ => ⟨S32x128x2048, .bf16⟩
  | .local _ .vmem, ⟨0, _⟩ => ⟨S32x128x2x128, .bf16⟩
  | .local _ .vmem, ⟨1, _⟩ => ⟨S32x128x2x128, .bf16⟩
  | .local _ .vmem, ⟨2, _⟩ => ⟨S2048x128x2x128, .fp8e4m3⟩
  | .local _ .vmem, ⟨3, _⟩ => ⟨S2048x128x2x128, .fp8e4m3⟩
  | .local _ .vmem, ⟨4, _⟩ => ⟨S2, .f32⟩
  | .local _ .vmem, ⟨5, _⟩ => ⟨S2, .f32⟩
  | .local _ .vmem, ⟨6, _⟩ => ⟨S32x128x2x128, .fp8e4m3⟩
  | .local _ .vmem, ⟨7, _⟩ => ⟨S32x128x2x128, .fp8e4m3⟩
  | .local _ .vmem, ⟨8, _⟩ => ⟨S32x128x2x128, .bf16⟩
  | .local _ .vmem, ⟨9, _⟩ => ⟨S32x128x2x128, .bf16⟩
  | .local _ .vmem, ⟨10, _⟩ => ⟨S2048x128x2x128, .bf16⟩
  | .local _ .vmem, ⟨11, _⟩ => ⟨S2048x128x2x128, .bf16⟩
  | _, _ => ⟨S32x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_0 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_1 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_2 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_5 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S32x128x2x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x128x2x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128x2x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x128x2x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x128x2x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x128x2x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x128x2x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x128x2x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x128x2x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x128x2x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Pages.lean ====
module

public import proofs.«01_k».proof.Pre_well_formed
public import Idealize.ShloMosaic.Lib.ReduceAll

/-!
# What the precondition says

The condition on the tables, read as numbers: every page number is below 2048, and every length is at most
8192.
-/

@[expose] public section

namespace Cert.Pages

open Idealize.ShloMosaic Cert.Pre_well_formed

/-- The shape relations of the condition hold. -/
theorem facts : Cert.Pre_well_formed.Facts := by
  constructor <;> decide

/-- The condition, as numbers. -/
structure Good (pt : IVec S32x64 32) (sl : IVec S32 32) : Prop where
  page : ∀ x, (pt x).toNat < 2048
  len : ∀ x, (sl x).toNat ≤ 8192

theorem ult_of_signed {w : BitVec 32} (h0 : IntOp.cmpi .sge w 0#32 = 1#1) (h1 : IntOp.cmpi .slt w 2048#32 = 1#1) : w.toNat < 2048 := by
  have a := IntOp.cmpi_sge.1 h0
  have b := IntOp.cmpi_slt.1 h1
  have c : (2048#32).toInt = 2048 := by decide
  have d : (0#32).toInt = 0 := by decide
  rw [c] at b; rw [d] at a
  rw [BitVec.toInt_eq_toNat_cond] at a b
  split at a <;> omega

theorem ule_of_signed {w : BitVec 32} (h0 : IntOp.cmpi .sge w 0#32 = 1#1) (h1 : IntOp.cmpi .sle w 8192#32 = 1#1) : w.toNat ≤ 8192 := by
  have a := IntOp.cmpi_sge.1 h0
  have b := IntOp.cmpi_sle.1 h1
  have c : (8192#32).toInt = 8192 := by decide
  have d : (0#32).toInt = 0 := by decide
  rw [c] at b; rw [d] at a
  rw [BitVec.toInt_eq_toNat_cond] at a b
  split at a <;> omega

instance : Subsingleton S_.Idx := ⟨fun a b => funext fun i => i.elim0⟩

/-- The printed condition gives the numbers. -/
theorem decode {F : FTy → Type} [FloatOps F] [Cert.Pre_well_formed.Facts]
    (a0 : FVec F S32x128x2048 .bf16) (a1 a2 : FVec F S32x128x2x128 .bf16) (a3 a4 : FVec F S2048x128x2x128 .fp8e4m3)
    (a5 a6 : FVec F S2 .f32) (pt : IVec S32x64 32) (sl : IVec S32 32)
    (h : fn (F := F) a0 a1 a2 a3 a4 a5 a6 pt sl = fun _ => 1#1) : Good pt sl := by
  have e := congrFun h (fun i => i.elim0)
  obtain ⟨h20, h26⟩ := IntOp.andi_eq_one.1 e
  refine ⟨fun x => ?_, fun x => ?_⟩
  · obtain ⟨p, q⟩ := IntOp.andi_eq_one.1 (Host.reduce_andi_all _ _ _ _ _ h20 x)
    exact ult_of_signed p q
  · obtain ⟨p, q⟩ := IntOp.andi_eq_one.1 (Host.reduce_andi_all _ _ _ _ _ h26 x)
    exact ule_of_signed p q

end Cert.Pages

end
-- ==== Proof.Kn.Rules.lean ====
/-
  Hand-written. The rules the kernel's own transfers are read by: a page of the two pools is copied into
  one of the 64 page slots of a cache buffer, eight copies (four pages, keys and values) on one counter.
  Each rule takes the offsets as equations, so that it applies at every place the body issues or awaits a copy.
-/
module

public import proofs.«01_k».proof.Proof.Gen.Kernel.Launch
public import proofs.«01_k».proof.Proof.Gen.Kernel.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Memref (whole isWhole_whole)
open Idealize.ShloMosaic.ValueIdx
open Idealize.ShloMosaic.RefSig (tileCredit)
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## Names -/

variable (c : Dev nD)

theorem inb16 (s : Fin 2) (j : Fin 16) : ∀ a, (![s.val, j.val] : Fin 2 → Nat) a + S1x1.size a ≤ S2x16.size a := by
  have := s.isLt; have := j.isLt; intro a; fin_cases a
  · show s.val + 1 ≤ 2; omega
  · show j.val + 1 ≤ 16; omega

/-- The counter of slot `s`, block `j`. -/
def semAt (s : Fin 2) (j : Fin 16) : DmaSem sig :=
  ((cc0_scratch3.slice (Rect.unit (s := S2x16) ![s.val, j.val] S1x1.size (inb16 s j))).squeeze S_ squeezes_S1x1_S_).sem

theorem sem_eq {off : Fin 2 → ℕ} (s : Fin 2) (j : Fin 16) (h : off = ![s.val, j.val])
    (inb : ∀ a, off a + S1x1.size a ≤ S2x16.size a) :
    ((cc0_scratch3.slice (Rect.unit (s := S2x16) off S1x1.size inb)).squeeze S_ squeezes_S1x1_S_).sem = semAt s j := by
  subst h; rfl

theorem inbP (s : Fin 2) (p : Fin 64) : ∀ a, (![s.val, p.val, 0, 0, 0] : Fin 5 → Nat) a + S1x1x2x128x128.size a ≤ S2x64x2x128x128.size a := by
  have := s.isLt; have := p.isLt; intro a; fin_cases a
  · show s.val + 1 ≤ 2; omega
  · show p.val + 1 ≤ 64; omega
  · show 0 + 2 ≤ 2; omega
  · show 0 + 128 ≤ 128; omega
  · show 0 + 128 ≤ 128; omega

theorem inbG (g : Fin 2048) : ∀ a, (![g.val, 0, 0, 0] : Fin 4 → Nat) a + S1x2x128x128.size a ≤ S2048x2x128x128.size a := by
  have := g.isLt; intro a; fin_cases a
  · show g.val + 1 ≤ 2048; omega
  · show 0 + 2 ≤ 2; omega
  · show 0 + 128 ≤ 128; omega
  · show 0 + 128 ≤ 128; omega

/-- What one page's copy credits its counter. -/
def NP : ℕ := tileCredit S2x128x128 .fp8e4m3

/-! ## Keys -/

/-- Page slot `p` of cache slot `s`. -/
def kSl (s : Fin 2) (p : Fin 64) : Memref sig .tc .vmem S2x128x128 .fp8e4m3 :=
  ((whole cc0_scratch0).slice (Rect.unit (s := S2x64x2x128x128) ![s.val, p.val, 0, 0, 0] S1x1x2x128x128.size (inbP s p)) (fun _ => rfl)).squeeze S2x128x128 squeezes_S1x1x2x128x128_S2x128x128
/-- Page `g` of the pool. -/
def kPg (g : Fin 2048) : Memref sig .tc .hbm S2x128x128 .fp8e4m3 :=
  ((whole main_v2).slice (Rect.unit (s := S2048x2x128x128) ![g.val, 0, 0, 0] S1x2x128x128.size (inbG g)) (fun _ => rfl)).squeeze S2x128x128 squeezes_S1x2x128x128_S2x128x128

theorem kSl_emb (s : Fin 2) (p : Fin 64) (x : Fin 2) (y z : Fin 128) : (kSl s p).view.emb (ix3 x y z) = ix5 s p x y z := by
  refine (show (kSl s p).view.emb (ix3 x y z) = (Rect.unit (s := S2x64x2x128x128) ![s.val, p.val, 0, 0, 0] S1x1x2x128x128.size (inbP s p)).emb (Shape.reshapeEquiv _ (ix3 x y z)) from rfl).trans ?_
  rw [reshapeEquiv_ix3_11abc]
  funext a
  apply Fin.ext
  fin_cases a
  · show s.val + 1 * 0 = s.val; omega
  · show p.val + 1 * 0 = p.val; omega
  · show 0 + 1 * x.val = x.val; omega
  · show 0 + 1 * y.val = y.val; omega
  · show 0 + 1 * z.val = z.val; omega

theorem kPg_emb (g : Fin 2048) (x : Fin 2) (y z : Fin 128) : (kPg g).view.emb (ix3 x y z) = ix4 g x y z := by
  refine (show (kPg g).view.emb (ix3 x y z) = (Rect.unit (s := S2048x2x128x128) ![g.val, 0, 0, 0] S1x2x128x128.size (inbG g)).emb (Shape.reshapeEquiv _ (ix3 x y z)) from rfl).trans ?_
  rw [reshapeEquiv_ix3_1abc]
  funext a
  apply Fin.ext
  fin_cases a
  · show g.val + 1 * 0 = g.val; omega
  · show 0 + 1 * x.val = x.val; omega
  · show 0 + 1 * y.val = y.val; omega
  · show 0 + 1 * z.val = z.val; omega

theorem mem_kSl (s : Fin 2) (p : Fin 64) (x : S2x64x2x128x128.Idx) : Membership.mem (γ := Finset S2x64x2x128x128.Idx) (kSl s p).view.set x ↔ (x 0 = s ∧ x 1 = p) := by
  constructor
  · intro h
    obtain ⟨y, -, rfl⟩ := Finset.mem_map.mp h
    obtain ⟨a, b, d, rfl⟩ : ∃ a b d, y = ix3 a b d := ⟨_, _, _, eq_ix3 y⟩
    have h := kSl_emb s p a b d
    exact ⟨congrFun (f := (kSl s p).view.emb (ix3 a b d)) h (0 : Fin 5), congrFun (f := (kSl s p).view.emb (ix3 a b d)) h (1 : Fin 5)⟩
  · rintro ⟨h0, h1⟩
    refine Finset.mem_map.mpr ⟨ix3 (x 2) (x 3) (x 4), Finset.mem_univ _, ?_⟩
    refine (kSl_emb s p (x 2) (x 3) (x 4)).trans ?_
    subst h0 h1
    exact (eq_ix5 x).symm

/-- What a cache slot holds once the pages a row names have landed. -/
def kTgt (pool : S2048x2x128x128.Idx → Elt F .fp8e4m3) (row : Fin 64 → Fin 2048) : S2x64x2x128x128.Idx → Elt F .fp8e4m3 :=
  fun x => pool (ix4 (row (x 1)) (x 2) (x 3) (x 4))

/-- The read share transfer `(s, p)` uses. -/
abbrev tokAt (s : Fin 2) (p : Fin 64) : PosShare TreeShare := Transfers.shareTokN fullShare (s.val * 64 + p.val)

/-- The page slot, held at some contents. -/
abbrev kFree (s : Fin 2) (p : Fin 64) : sProp 𝕄 :=
  iprop(∃ f, (kSl s p).view.loc (c : Thread nD τ) ↦[(kSl s p).view.set]{fullShare} f)
/-- The page slot, landed. -/
abbrev kGot (pool : S2048x2x128x128.Idx → Elt F .fp8e4m3) (row : Fin 64 → Fin 2048) (s : Fin 2) (p : Fin 64) : sProp 𝕄 :=
  (kSl s p).view.loc (c : Thread nD τ) ↦[(kSl s p).view.set]{fullShare} (kTgt pool row : Buf (Elt F) ((kSl s p).view.loc (c : Thread nD τ)))
/-- The read share of the whole pool, of one page, of the rest. -/
abbrev kTok (pool : S2048x2x128x128.Idx → Elt F .fp8e4m3) (s : Fin 2) (p : Fin 64) : sProp 𝕄 :=
  (whole main_v2).view.loc (c : Thread nD τ) ↦[Finset.univ]{tokAt s p} pool
abbrev kTokPg (pool : S2048x2x128x128.Idx → Elt F .fp8e4m3) (s : Fin 2) (p : Fin 64) (g : Fin 2048) : sProp 𝕄 :=
  (kPg g).view.loc (c : Thread nD τ) ↦[(kPg g).view.set]{tokAt s p} (pool : Buf (Elt F) ((kPg g).view.loc (c : Thread nD τ)))
abbrev kTokRest (pool : S2048x2x128x128.Idx → Elt F .fp8e4m3) (s : Fin 2) (p : Fin 64) (g : Fin 2048) : sProp 𝕄 :=
  (whole main_v2).view.loc (c : Thread nD τ) ↦[Finset.univ \ (kPg g).view.set]{tokAt s p} pool

theorem kTok_split (pool : S2048x2x128x128.Idx → Elt F .fp8e4m3) (s : Fin 2) (p : Fin 64) (g : Fin 2048) :
    (kTok c pool s p : sProp 𝕄) ⊣⊢ iprop(kTokPg c pool s p g ∗ kTokRest c pool s p g) :=
  pointsTo_split_subset (Finset.subset_univ _)

theorem kLand (pool : S2048x2x128x128.Idx → Elt F .fp8e4m3) (row : Fin 64 → Fin 2048) (s : Fin 2) (p : Fin 64)
    (fd : S2x64x2x128x128.Idx → Elt F .fp8e4m3) :
    iprop(((kSl s p).view.loc (c : Thread nD τ) ↦[(kSl s p).view.set]{fullShare} ((kSl s p).view.write (Elt F) fd ((ReadAs.same (Val := Elt F)).apply ((kPg (row p)).view.read (Elt F) pool)) Finset.univ))
       ∗ ((kPg (row p)).view.loc (c : Thread nD τ) ↦[(kPg (row p)).view.set]{tokAt s p} pool))
      ⊢ (iprop(kGot c pool row s p ∗ kTokPg c pool s p (row p)) : sProp 𝕄) := by
  refine sep_mono_left (Entails.of_eq (pointsTo_congr ?_))
  intro x hx
  obtain ⟨y, -, rfl⟩ := Finset.mem_map.mp hx
  obtain ⟨a, b, d, rfl⟩ : ∃ a b d, y = ix3 a b d := ⟨_, _, _, eq_ix3 y⟩
  refine (View.write_emb_of_mem _ _ (Finset.mem_univ _)).trans ?_
  show pool ((kPg (row p)).view.emb (ix3 a b d)) = kTgt pool row ((kSl s p).view.emb (ix3 a b d))
  rw [kSl_emb, kPg_emb]
  rfl

section
variable {n : ℕ}
/-- Issuing the copy of page `row p` into slot `(s, p)`, transfer `k` of the batch on counter `(s, j)`. -/
theorem wp_issueK (pool : S2048x2x128x128.Idx → Elt F .fp8e4m3) (row : Fin 64 → Fin 2048) (s : Fin 2) (p : Fin 64) (j : Fin 16)
    {D : Fin n → sProp 𝕄} {k : ℕ} (hk : k < n)
    (hD : iprop(kGot c pool row s p ∗ kTokPg c pool s p (row p)) ⊢ D ⟨k, hk⟩)
    {Q : PUnit → sProp 𝕄}
    {o13 : Fin 5 → ℕ} {o8 : Fin 4 → ℕ} {o16 : Fin 2 → ℕ}
    (h13 : o13 = ![s.val, p.val, 0, 0, 0]) (h8 : o8 = ![(row p).val, 0, 0, 0]) (h16 : o16 = ![s.val, j.val])
    {i13 : ∀ a, o13 a + S1x1x2x128x128.size a ≤ S2x64x2x128x128.size a} {i8 : ∀ a, o8 a + S1x2x128x128.size a ≤ S2048x2x128x128.size a}
    {i16 : ∀ a, o16 a + S1x1.size a ≤ S2x16.size a} {w1 w2 w3} :
    iprop(kFree (F := F) c s p ∗ kTok c pool s p ∗ Transfers.Batch (countersEmb (U := Pipeline.UD sig nD τ)) (c : Thread nD τ) (.dma (semAt s j)) () NP D k 0)
      ⊢ iprop(((kTokRest c pool s p (row p) ∗ Transfers.Batch (countersEmb (U := Pipeline.UD sig nD τ)) (c : Thread nD τ) (.dma (semAt s j)) () NP D (k + 1) 0) -∗ Q ⟨⟩) -∗
        wp (M := 𝕄) frame (wpE (defs₀ (F := F)) Variants.none (Dev.tc c : Thread nD τ) none) Set.univ (Prog.lift (TpuEff.enqueueDma
          (((whole main_v2).slice (Rect.unit (s := S2048x2x128x128) o8 S1x2x128x128.size i8) (fun _ => rfl)).squeeze S2x128x128 squeezes_S1x2x128x128_S2x128x128)
          (.here (((whole cc0_scratch0).slice (Rect.unit (s := S2x64x2x128x128) o13 S1x1x2x128x128.size i13) (fun _ => rfl)).squeeze S2x128x128 squeezes_S1x1x2x128x128_S2x128x128))
          (.dma ((cc0_scratch3.slice (Rect.unit (s := S2x16) o16 S1x1.size i16)).squeeze S_ squeezes_S1x1_S_).sem) w1 w2 w3)) Q) := by
  subst h13 h8
  revert w3
  rw [sem_eq s j h16 i16]
  intro w3
  iintro ⟨⟨%fd, Hd⟩, Ht, HB⟩ HQ
  ihave Ht2 := (kTok_split c pool s p (row p)).1 $$ Ht
  icases Ht2 with ⟨Ht, Hr⟩
  iapply (Transfers.wp_dmaBatch (src := kPg (row p)) (dst := kSl s p) (countersEmb (U := Pipeline.UD sig nD τ)) Variants.none (c : Thread nD τ) none () NP rfl (Finset.Subset.refl _) hk (Nat.zero_le _) ((kLand c pool row s p fd).trans hD)) $$ [Ht Hd HB]
  · isplitl [Ht]; · iexact Ht
    isplitl [Hd]; · iexact Hd
    iexact HB
  iintro HB
  rw [wp_ret]
  imodintro
  iapply HQ
  isplitl [Hr] <;> iassumption
end

/-! ## Values -/

/-- Page slot `p` of cache slot `s`. -/
def vSl (s : Fin 2) (p : Fin 64) : Memref sig .tc .vmem S2x128x128 .fp8e4m3 :=
  ((whole cc0_scratch1).slice (Rect.unit (s := S2x64x2x128x128) ![s.val, p.val, 0, 0, 0] S1x1x2x128x128.size (inbP s p)) (fun _ => rfl)).squeeze S2x128x128 squeezes_S1x1x2x128x128_S2x128x128
/-- Page `g` of the pool. -/
def vPg (g : Fin 2048) : Memref sig .tc .hbm S2x128x128 .fp8e4m3 :=
  ((whole main_v3).slice (Rect.unit (s := S2048x2x128x128) ![g.val, 0, 0, 0] S1x2x128x128.size (inbG g)) (fun _ => rfl)).squeeze S2x128x128 squeezes_S1x2x128x128_S2x128x128

theorem vSl_emb (s : Fin 2) (p : Fin 64) (x : Fin 2) (y z : Fin 128) : (vSl s p).view.emb (ix3 x y z) = ix5 s p x y z := by
  refine (show (vSl s p).view.emb (ix3 x y z) = (Rect.unit (s := S2x64x2x128x128) ![s.val, p.val, 0, 0, 0] S1x1x2x128x128.size (inbP s p)).emb (Shape.reshapeEquiv _ (ix3 x y z)) from rfl).trans ?_
  rw [reshapeEquiv_ix3_11abc]
  funext a
  apply Fin.ext
  fin_cases a
  · show s.val + 1 * 0 = s.val; omega
  · show p.val + 1 * 0 = p.val; omega
  · show 0 + 1 * x.val = x.val; omega
  · show 0 + 1 * y.val = y.val; omega
  · show 0 + 1 * z.val = z.val; omega

theorem vPg_emb (g : Fin 2048) (x : Fin 2) (y z : Fin 128) : (vPg g).view.emb (ix3 x y z) = ix4 g x y z := by
  refine (show (vPg g).view.emb (ix3 x y z) = (Rect.unit (s := S2048x2x128x128) ![g.val, 0, 0, 0] S1x2x128x128.size (inbG g)).emb (Shape.reshapeEquiv _ (ix3 x y z)) from rfl).trans ?_
  rw [reshapeEquiv_ix3_1abc]
  funext a
  apply Fin.ext
  fin_cases a
  · show g.val + 1 * 0 = g.val; omega
  · show 0 + 1 * x.val = x.val; omega
  · show 0 + 1 * y.val = y.val; omega
  · show 0 + 1 * z.val = z.val; omega

theorem mem_vSl (s : Fin 2) (p : Fin 64) (x : S2x64x2x128x128.Idx) : Membership.mem (γ := Finset S2x64x2x128x128.Idx) (vSl s p).view.set x ↔ (x 0 = s ∧ x 1 = p) := by
  constructor
  · intro h
    obtain ⟨y, -, rfl⟩ := Finset.mem_map.mp h
    obtain ⟨a, b, d, rfl⟩ : ∃ a b d, y = ix3 a b d := ⟨_, _, _, eq_ix3 y⟩
    have h := vSl_emb s p a b d
    exact ⟨congrFun (f := (vSl s p).view.emb (ix3 a b d)) h (0 : Fin 5), congrFun (f := (vSl s p).view.emb (ix3 a b d)) h (1 : Fin 5)⟩
  · rintro ⟨h0, h1⟩
    refine Finset.mem_map.mpr ⟨ix3 (x 2) (x 3) (x 4), Finset.mem_univ _, ?_⟩
    refine (vSl_emb s p (x 2) (x 3) (x 4)).trans ?_
    subst h0 h1
    exact (eq_ix5 x).symm

/-- The page slot, held at some contents. -/
abbrev vFree (s : Fin 2) (p : Fin 64) : sProp 𝕄 :=
  iprop(∃ f, (vSl s p).view.loc (c : Thread nD τ) ↦[(vSl s p).view.set]{fullShare} f)
/-- The page slot, landed. -/
abbrev vGot (pool : S2048x2x128x128.Idx → Elt F .fp8e4m3) (row : Fin 64 → Fin 2048) (s : Fin 2) (p : Fin 64) : sProp 𝕄 :=
  (vSl s p).view.loc (c : Thread nD τ) ↦[(vSl s p).view.set]{fullShare} (kTgt pool row : Buf (Elt F) ((vSl s p).view.loc (c : Thread nD τ)))
/-- The read share of the whole pool, of one page, of the rest. -/
abbrev vTok (pool : S2048x2x128x128.Idx → Elt F .fp8e4m3) (s : Fin 2) (p : Fin 64) : sProp 𝕄 :=
  (whole main_v3).view.loc (c : Thread nD τ) ↦[Finset.univ]{tokAt s p} pool
abbrev vTokPg (pool : S2048x2x128x128.Idx → Elt F .fp8e4m3) (s : Fin 2) (p : Fin 64) (g : Fin 2048) : sProp 𝕄 :=
  (vPg g).view.loc (c : Thread nD τ) ↦[(vPg g).view.set]{tokAt s p} (pool : Buf (Elt F) ((vPg g).view.loc (c : Thread nD τ)))
abbrev vTokRest (pool : S2048x2x128x128.Idx → Elt F .fp8e4m3) (s : Fin 2) (p : Fin 64) (g : Fin 2048) : sProp 𝕄 :=
  (whole main_v3).view.loc (c : Thread nD τ) ↦[Finset.univ \ (vPg g).view.set]{tokAt s p} pool

theorem vTok_split (pool : S2048x2x128x128.Idx → Elt F .fp8e4m3) (s : Fin 2) (p : Fin 64) (g : Fin 2048) :
    (vTok c pool s p : sProp 𝕄) ⊣⊢ iprop(vTokPg c pool s p g ∗ vTokRest c pool s p g) :=
  pointsTo_split_subset (Finset.subset_univ _)

theorem vLand (pool : S2048x2x128x128.Idx → Elt F .fp8e4m3) (row : Fin 64 → Fin 2048) (s : Fin 2) (p : Fin 64)
    (fd : S2x64x2x128x128.Idx → Elt F .fp8e4m3) :
    iprop(((vSl s p).view.loc (c : Thread nD τ) ↦[(vSl s p).view.set]{fullShare} ((vSl s p).view.write (Elt F) fd ((ReadAs.same (Val := Elt F)).apply ((vPg (row p)).view.read (Elt F) pool)) Finset.univ))
       ∗ ((vPg (row p)).view.loc (c : Thread nD τ) ↦[(vPg (row p)).view.set]{tokAt s p} pool))
      ⊢ (iprop(vGot c pool row s p ∗ vTokPg c pool s p (row p)) : sProp 𝕄) := by
  refine sep_mono_left (Entails.of_eq (pointsTo_congr ?_))
  intro x hx
  obtain ⟨y, -, rfl⟩ := Finset.mem_map.mp hx
  obtain ⟨a, b, d, rfl⟩ : ∃ a b d, y = ix3 a b d := ⟨_, _, _, eq_ix3 y⟩
  refine (View.write_emb_of_mem _ _ (Finset.mem_univ _)).trans ?_
  show pool ((vPg (row p)).view.emb (ix3 a b d)) = kTgt pool row ((vSl s p).view.emb (ix3 a b d))
  rw [vSl_emb, vPg_emb]
  rfl

section
variable {n : ℕ}
/-- Issuing the copy of page `row p` into slot `(s, p)`, transfer `k` of the batch on counter `(s, j)`. -/
theorem wp_issueV (pool : S2048x2x128x128.Idx → Elt F .fp8e4m3) (row : Fin 64 → Fin 2048) (s : Fin 2) (p : Fin 64) (j : Fin 16)
    {D : Fin n → sProp 𝕄} {k : ℕ} (hk : k < n)
    (hD : iprop(vGot c pool row s p ∗ vTokPg c pool s p (row p)) ⊢ D ⟨k, hk⟩)
    {Q : PUnit → sProp 𝕄}
    {o13 : Fin 5 → ℕ} {o8 : Fin 4 → ℕ} {o16 : Fin 2 → ℕ}
    (h13 : o13 = ![s.val, p.val, 0, 0, 0]) (h8 : o8 = ![(row p).val, 0, 0, 0]) (h16 : o16 = ![s.val, j.val])
    {i13 : ∀ a, o13 a + S1x1x2x128x128.size a ≤ S2x64x2x128x128.size a} {i8 : ∀ a, o8 a + S1x2x128x128.size a ≤ S2048x2x128x128.size a}
    {i16 : ∀ a, o16 a + S1x1.size a ≤ S2x16.size a} {w1 w2 w3} :
    iprop(vFree (F := F) c s p ∗ vTok c pool s p ∗ Transfers.Batch (countersEmb (U := Pipeline.UD sig nD τ)) (c : Thread nD τ) (.dma (semAt s j)) () NP D k 0)
      ⊢ iprop(((vTokRest c pool s p (row p) ∗ Transfers.Batch (countersEmb (U := Pipeline.UD sig nD τ)) (c : Thread nD τ) (.dma (semAt s j)) () NP D (k + 1) 0) -∗ Q ⟨⟩) -∗
        wp (M := 𝕄) frame (wpE (defs₀ (F := F)) Variants.none (Dev.tc c : Thread nD τ) none) Set.univ (Prog.lift (TpuEff.enqueueDma
          (((whole main_v3).slice (Rect.unit (s := S2048x2x128x128) o8 S1x2x128x128.size i8) (fun _ => rfl)).squeeze S2x128x128 squeezes_S1x2x128x128_S2x128x128)
          (.here (((whole cc0_scratch1).slice (Rect.unit (s := S2x64x2x128x128) o13 S1x1x2x128x128.size i13) (fun _ => rfl)).squeeze S2x128x128 squeezes_S1x1x2x128x128_S2x128x128))
          (.dma ((cc0_scratch3.slice (Rect.unit (s := S2x16) o16 S1x1.size i16)).squeeze S_ squeezes_S1x1_S_).sem) w1 w2 w3)) Q) := by
  subst h13 h8
  revert w3
  rw [sem_eq s j h16 i16]
  intro w3
  iintro ⟨⟨%fd, Hd⟩, Ht, HB⟩ HQ
  ihave Ht2 := (vTok_split c pool s p (row p)).1 $$ Ht
  icases Ht2 with ⟨Ht, Hr⟩
  iapply (Transfers.wp_dmaBatch (src := vPg (row p)) (dst := vSl s p) (countersEmb (U := Pipeline.UD sig nD τ)) Variants.none (c : Thread nD τ) none () NP rfl (Finset.Subset.refl _) hk (Nat.zero_le _) ((vLand c pool row s p fd).trans hD)) $$ [Ht Hd HB]
  · isplitl [Ht]; · iexact Ht
    isplitl [Hd]; · iexact Hd
    iexact HB
  iintro HB
  rw [wp_ret]
  imodintro
  iapply HQ
  isplitl [Hr] <;> iassumption
end

/-! ## Waits -/

theorem NP_pos : 0 < NP := View.dmaCredit_pos (kSl 0 0).view (by decide)

section
variable {n : ℕ}

/-- A wait for one of a batch's eight copies, not the last. -/
theorem wp_waitPg (s : Fin 2) (j : Fin 16) (k : ℕ) (hk : k + 1 < n) {D : Fin n → sProp 𝕄} {W : Waits sig Unit}
    {Q : PUnit → sProp 𝕄} {o16 : Fin 2 → ℕ} (h16 : o16 = ![s.val, j.val])
    {i16 : ∀ a, o16 a + S1x1.size a ≤ S2x16.size a}
    {srcw : Memref sig .tc .hbm S2x128x128 .fp8e4m3} {dstw : Memref sig .tc .vmem S2x128x128 .fp8e4m3} {w1 w2}
    (hN : dstw.view.dmaCredit = NP := by rfl) :
    iprop(Transfers.Batch (countersEmb (U := Pipeline.UD sig nD τ)) (c : Thread nD τ) (.dma (semAt s j)) () NP D n (k * NP) ∗ owes (c : Thread nD τ) 0 W)
      ⊢ iprop(((Transfers.Batch (countersEmb (U := Pipeline.UD sig nD τ)) (c : Thread nD τ) (.dma (semAt s j)) () NP D n ((k + 1) * NP) ∗ owes (c : Thread nD τ) 0 (insert (SemLoc.dma (semAt s j), ()) W)) -∗ Q ⟨⟩) -∗
        wp (M := 𝕄) frame (wpE (defs₀ (F := F)) Variants.none (Dev.tc c : Thread nD τ) none) Set.univ (Prog.lift (TpuEff.waitDma2 ((cc0_scratch3.slice (Rect.unit (s := S2x16) o16 S1x1.size i16)).squeeze S_ squeezes_S1x1_S_).sem srcw dstw w1 w2)) Q) := by
  rw [sem_eq s j h16 i16, Nat.succ_mul]
  iintro H HQ
  iapply (Transfers.wp_waitBatch (dstw := dstw) (countersEmb (U := Pipeline.UD sig nD τ)) Variants.none (c : Thread nD τ) none () (N := NP) hN
    (by have := NP_pos; rw [← Nat.succ_mul, Nat.mul_comm NP n]; exact (Nat.mul_lt_mul_right this).mpr hk)) $$ H
  iintro H
  rw [wp_ret]
  imodintro
  iapply HQ
  iexact H

/-- The wait for the last of a batch's copies: the deliveries and the counter at zero. -/
theorem wp_waitLast (s : Fin 2) (j : Fin 16) (k : ℕ) (hk : k + 1 = n) {D : Fin n → sProp 𝕄} {W : Waits sig Unit}
    {Q : PUnit → sProp 𝕄} {o16 : Fin 2 → ℕ} (h16 : o16 = ![s.val, j.val])
    {i16 : ∀ a, o16 a + S1x1.size a ≤ S2x16.size a}
    {srcw : Memref sig .tc .hbm S2x128x128 .fp8e4m3} {dstw : Memref sig .tc .vmem S2x128x128 .fp8e4m3} {w1 w2}
    (hN : dstw.view.dmaCredit = NP := by rfl) :
    iprop(Transfers.Batch (countersEmb (U := Pipeline.UD sig nD τ)) (c : Thread nD τ) (.dma (semAt s j)) () NP D n (k * NP) ∗ owes (c : Thread nD τ) 0 W)
      ⊢ iprop(((bigSep Finset.univ D ∗ semVal ((c : Thread nD τ), SemLoc.dma (semAt s j)) 0 ∗ owes (c : Thread nD τ) 0 (insert (SemLoc.dma (semAt s j), ()) W)) -∗ Q ⟨⟩) -∗
        wp (M := 𝕄) frame (wpE (defs₀ (F := F)) Variants.none (Dev.tc c : Thread nD τ) none) Set.univ (Prog.lift (TpuEff.waitDma2 ((cc0_scratch3.slice (Rect.unit (s := S2x16) o16 S1x1.size i16)).squeeze S_ squeezes_S1x1_S_).sem srcw dstw w1 w2)) Q) := by
  rw [sem_eq s j h16 i16]
  iintro H HQ
  iapply (Transfers.wp_waitBatchAll (dstw := dstw) (countersEmb (U := Pipeline.UD sig nD τ)) Variants.none (c : Thread nD τ) none () (N := NP) hN NP_pos
    (by rw [← Nat.succ_mul, Nat.mul_comm NP n]; exact congrArg (· * NP) hk)) $$ H
  iintro H
  rw [wp_ret]
  imodintro
  iapply HQ
  iexact H
end

/-! ## The states of a counter and the four page slots it guards -/

/-- Page slot `i` of block `j`. -/
def pgIx (j : Fin 16) (i : Fin 4) : Fin 64 := ⟨4 * j.val + i.val, by omega⟩

variable (pk pv : S2048x2x128x128.Idx → Elt F .fp8e4m3)

/-- A page slot with nothing in flight. -/
abbrev pgIdle (s : Fin 2) (p : Fin 64) : sProp 𝕄 :=
  iprop(kFree (F := F) c s p ∗ kTok c pk s p ∗ vFree (F := F) c s p ∗ vTok c pv s p)
abbrev pgRest (row : Fin 64 → Fin 2048) (s : Fin 2) (p : Fin 64) : sProp 𝕄 :=
  iprop(kTokRest c pk s p (row p) ∗ vTokRest c pv s p (row p))
/-- A page slot landed. -/
abbrev pgGot (row : Fin 64 → Fin 2048) (s : Fin 2) (p : Fin 64) : sProp 𝕄 :=
  iprop(kGot c pk row s p ∗ kTok c pk s p ∗ vGot c pv row s p ∗ vTok c pv s p)

abbrev kDel (row : Fin 64 → Fin 2048) (s : Fin 2) (p : Fin 64) : sProp 𝕄 :=
  iprop(kGot c pk row s p ∗ kTokPg c pk s p (row p))
abbrev vDel (row : Fin 64 → Fin 2048) (s : Fin 2) (p : Fin 64) : sProp 𝕄 :=
  iprop(vGot c pv row s p ∗ vTokPg c pv s p (row p))

/-- The eight deliveries of a block's copies, in issue order. -/
def delivs (row : Fin 64 → Fin 2048) (s : Fin 2) (j : Fin 16) : Fin 8 → sProp 𝕄 := fun r =>
  match r with
  | 0 => kDel c pk row s (pgIx j 0) | 1 => vDel c pv row s (pgIx j 0)
  | 2 => kDel c pk row s (pgIx j 1) | 3 => vDel c pv row s (pgIx j 1)
  | 4 => kDel c pk row s (pgIx j 2) | 5 => vDel c pv row s (pgIx j 2)
  | 6 => kDel c pk row s (pgIx j 3) | 7 => vDel c pv row s (pgIx j 3)

theorem pt_storable (ℓ : Loc nD τ sig) (I : Finset (Idx ℓ)) (q : PosShare TreeShare) (f : Buf (Elt F) ℓ) :
    BI.Storable (upEmb : UEmb _ 𝕄) (ℓ ↦[I]{q} f : sProp 𝕄) := inferInstance
instance kDel_storable (row : Fin 64 → Fin 2048) (s : Fin 2) (p : Fin 64) : BI.Storable (upEmb : UEmb _ 𝕄) (kDel c pk row s p) := by
  have h1 : BI.Storable (upEmb : UEmb _ 𝕄) (kGot c pk row s p) := pt_storable ..
  have h2 : BI.Storable (upEmb : UEmb _ 𝕄) (kTokPg c pk s p (row p)) := pt_storable ..
  exact (BI.Storable.sep (ι := upEmb) _ _)
instance vDel_storable (row : Fin 64 → Fin 2048) (s : Fin 2) (p : Fin 64) : BI.Storable (upEmb : UEmb _ 𝕄) (vDel c pv row s p) := by
  have h1 : BI.Storable (upEmb : UEmb _ 𝕄) (vGot c pv row s p) := pt_storable ..
  have h2 : BI.Storable (upEmb : UEmb _ 𝕄) (vTokPg c pv s p (row p)) := pt_storable ..
  exact (BI.Storable.sep (ι := upEmb) _ _)
instance delivs_storable (row : Fin 64 → Fin 2048) (s : Fin 2) (j : Fin 16) (t : Fin 8) :
    BI.Storable (upEmb : UEmb _ 𝕄) (delivs c pk pv row s j t) := by
  match t with
  | 0 => exact kDel_storable .. | 1 => exact vDel_storable ..
  | 2 => exact kDel_storable .. | 3 => exact vDel_storable ..
  | 4 => exact kDel_storable .. | 5 => exact vDel_storable ..
  | 6 => exact kDel_storable .. | 7 => exact vDel_storable ..

def CellIdle (s : Fin 2) (j : Fin 16) : sProp 𝕄 :=
  iprop(semVal ((c : Thread nD τ), SemLoc.dma (semAt s j)) 0 ∗ pgIdle c pk pv s (pgIx j 0) ∗ pgIdle c pk pv s (pgIx j 1)
    ∗ pgIdle c pk pv s (pgIx j 2) ∗ pgIdle c pk pv s (pgIx j 3))
def CellPend (row : Fin 64 → Fin 2048) (s : Fin 2) (j : Fin 16) : sProp 𝕄 :=
  iprop(Transfers.Batch (countersEmb (U := Pipeline.UD sig nD τ)) (c : Thread nD τ) (.dma (semAt s j)) () NP (delivs c pk pv row s j) 8 0
    ∗ pgRest c pk pv row s (pgIx j 0) ∗ pgRest c pk pv row s (pgIx j 1) ∗ pgRest c pk pv row s (pgIx j 2) ∗ pgRest c pk pv row s (pgIx j 3))
def CellGot (row : Fin 64 → Fin 2048) (s : Fin 2) (j : Fin 16) : sProp 𝕄 :=
  iprop(semVal ((c : Thread nD τ), SemLoc.dma (semAt s j)) 0 ∗ pgGot c pk pv row s (pgIx j 0) ∗ pgGot c pk pv row s (pgIx j 1)
    ∗ pgGot c pk pv row s (pgIx j 2) ∗ pgGot c pk pv row s (pgIx j 3))

theorem pgGot_idle (row : Fin 64 → Fin 2048) (s : Fin 2) (p : Fin 64) : pgGot c pk pv row s p ⊢ pgIdle c pk pv s p := by
  iintro ⟨H1, H2, H3, H4⟩
  isplitl [H1]; · iexists _; iexact H1
  isplitl [H2]; · iexact H2
  isplitl [H3]; · iexists _; iexact H3
  iexact H4

theorem CellGot_idle (row : Fin 64 → Fin 2048) (s : Fin 2) (j : Fin 16) : CellGot c pk pv row s j ⊢ CellIdle c pk pv s j := by
  unfold CellGot CellIdle
  exact sep_mono_right (BI.sep_mono (pgGot_idle c pk pv row s _) (BI.sep_mono (pgGot_idle c pk pv row s _) (BI.sep_mono (pgGot_idle c pk pv row s _) (pgGot_idle c pk pv row s _))))

theorem pgLand (row : Fin 64 → Fin 2048) (s : Fin 2) (p : Fin 64) :
    iprop(kDel c pk row s p ∗ vDel c pv row s p ∗ pgRest c pk pv row s p) ⊢ pgGot c pk pv row s p := by
  iintro ⟨⟨H1, H2⟩, ⟨H3, H4⟩, H5, H6⟩
  isplitl [H1]; · iexact H1
  isplitl [H2 H5]; · iapply (kTok_split c pk s p (row p)).2; isplitl [H2] <;> iassumption
  isplitl [H3]; · iexact H3
  iapply (vTok_split c pv s p (row p)).2; isplitl [H4] <;> iassumption

theorem cellLand (row : Fin 64 → Fin 2048) (s : Fin 2) (j : Fin 16) :
    iprop(bigSep Finset.univ (delivs c pk pv row s j) ∗ semVal ((c : Thread nD τ), SemLoc.dma (semAt s j)) 0
      ∗ pgRest c pk pv row s (pgIx j 0) ∗ pgRest c pk pv row s (pgIx j 1) ∗ pgRest c pk pv row s (pgIx j 2) ∗ pgRest c pk pv row s (pgIx j 3))
      ⊢ CellGot c pk pv row s j := by
  rw [BI.bigSep_eq_bigSepL_of_eq [0, 1, 2, 3, 4, 5, 6, 7] (by decide) (by decide)]
  unfold CellGot
  refine (show iprop(iprop(kDel c pk row s (pgIx j 0) ∗ vDel c pv row s (pgIx j 0) ∗ kDel c pk row s (pgIx j 1) ∗ vDel c pv row s (pgIx j 1)
    ∗ kDel c pk row s (pgIx j 2) ∗ vDel c pv row s (pgIx j 2) ∗ kDel c pk row s (pgIx j 3) ∗ vDel c pv row s (pgIx j 3)) ∗ _) ⊢ _ from ?_)
  iintro ⟨⟨H0, H1, H2, H3, H4, H5, H6, H7⟩, HS, R0, R1, R2, R3⟩
  isplitl [HS]; · iexact HS
  isplitl [H0 H1 R0]; · iapply (pgLand c pk pv row s (pgIx j 0)); isplitl [H0]; · iexact H0
                        isplitl [H1] <;> iassumption
  isplitl [H2 H3 R1]; · iapply (pgLand c pk pv row s (pgIx j 1)); isplitl [H2]; · iexact H2
                        isplitl [H3] <;> iassumption
  isplitl [H4 H5 R2]; · iapply (pgLand c pk pv row s (pgIx j 2)); isplitl [H4]; · iexact H4
                        isplitl [H5] <;> iassumption
  iapply (pgLand c pk pv row s (pgIx j 3)); isplitl [H6]; · iexact H6
  isplitl [H7] <;> iassumption

end Cert.Kernel.Hand
-- ==== Proof.Counts.lean ====
module

public import Idealize.ShloMosaic.Lib.WordCmp
public import Idealize.ShloMosaic.Lib.PairWhole
public import Idealize.ShloMosaic.Lib.Tactic

/-!
# Words and loop counts

Small index words and the trips of loops by ones, free of any program.
-/

@[expose] public section

noncomputable section

namespace Cert

open Idealize.ShloMosaic Idealize.ShloMosaic.Host

/-- A loop counter from zero by ones. -/
theorem iv_zero {t : Nat} (h : t < 16) : (Scf.iv 0#32 1#32 t).toNat = t := by
  unfold Scf.iv; simp; omega

/-- A quarter of a page-block count, as the kernel takes it. -/
theorem shr9 {v : BitVec 32} (h : v.toNat ≤ 8192) : (Scalar.shrui v 9#32).toNat = v.toNat / 512 := by
  have : Scalar.shrui v 9#32 = v >>> (9 : Nat) := by simp [Scalar.shrui, IntOp.shrui]
  rw [this, BitVec.toNat_ushiftRight, Nat.shiftRight_eq_div_pow]

theorem up9 {v : BitVec 32} (h : v.toNat ≤ 8192) :
    (Scalar.shrui (Scalar.addi v 511#32) 9#32).toNat = (v.toNat + 511) / 512 := by
  have : Scalar.shrui (Scalar.addi v 511#32) 9#32 = (Scalar.addi v 511#32) >>> (9 : Nat) := by
    simp [Scalar.shrui, IntOp.shrui]
  rw [this, BitVec.toNat_ushiftRight, Nat.shiftRight_eq_div_pow]
  simp [Scalar.addi, IntOp.addi]; omega

/-- Division and multiplication by one keep a small word. -/
theorem divOne {x : BitVec 32} (h : x.toNat < 2 ^ 31) : Scalar.muli (Scalar.divsi x 1#32) 1#32 = x := by
  have hc : ¬ IntOp.SDivCorner x 1#32 := by
    unfold IntOp.SDivCorner; simp
  simp [Scalar.muli, IntOp.muli, Scalar.divsi, IntOp.divsi, hc, BitVec.sdiv_one]

/-- The trips of a loop by ones. -/
theorem trips_one {lb ub : BitVec 32} {a b : Nat} (ha : lb.toNat = a) (hb : ub.toNat = b) (h1 : a ≤ b)
    (h2 : b ≤ 16) : Scf.trips lb ub 1#32 = b - a := by
  have e1 : lb.toInt = a := by rw [BitVec.toInt_eq_toNat_of_lt (by omega), ha]
  have e2 : ub.toInt = b := by rw [BitVec.toInt_eq_toNat_of_lt (by omega), hb]
  unfold Scf.trips
  rw [e1, e2]; simp

theorem ok_one {lb ub : BitVec 32} {a b : Nat} (ha : lb.toNat = a) (hb : ub.toNat = b) (h1 : a ≤ b)
    (h2 : b ≤ 16) : (⟨lb, ub, 1#32⟩ : Scf.Loop 32).OK := by
  have e1 : lb.toInt = a := by rw [BitVec.toInt_eq_toNat_of_lt (by omega), ha]
  refine ⟨show 0 < (1#32 : BitVec 32).toInt by decide, ?_⟩
  show lb.toInt + (Scf.trips lb ub 1#32 : Int) * _ < _
  rw [trips_one ha hb h1 h2, e1]; simp; omega

/-- Four pages to a block. -/
theorem pgW {x r : BitVec 32} {j : Nat} (hx : x.toNat = j) (hj : j < 16) (hr : r.toNat < 4) :
    (Scalar.addi (Scalar.muli x 4#32) r).toNat = 4 * j + r.toNat := by
  simp [Scalar.addi, IntOp.addi, Scalar.muli, IntOp.muli, hx]; omega

theorem blkW {x : BitVec 32} {j : Nat} (hx : x.toNat = j) (hj : j < 16) :
    (Scalar.muli x 4#32).toNat = 4 * j := by
  simp [Scalar.muli, IntOp.muli, hx]; omega

theorem vec1 {a a' : Nat} (h : a = a') : ![a] = ![a'] := by rw [h]

theorem vec2 {a a' b b' : Nat} (h : a = a') (h' : b = b') : ![a, b] = ![a', b'] := by rw [h, h']

theorem vec5 {a a' b b' g : Nat} (h : a = a') (h' : b = b') : ![a, b, g, 0, 0] = ![a', b', g, 0, 0] := by
  rw [h, h']

/-- A loop that goes all the way round to its end in steps of one: the end word. -/
theorem endZ {x : BitVec 32} {n : Nat} (h : x.toNat = n) (hn : n ≤ 16) :
    (Scalar.addi 0#32 (Scalar.muli (Scalar.divsi (Scalar.subi x 0#32) 1#32) 1#32)).toNat = n := by
  have e : Scalar.subi x 0#32 = x := by simp [Scalar.subi, IntOp.subi]
  rw [e, divOne (by omega)]; simp [Scalar.addi, IntOp.addi, h]

theorem endN {x y : BitVec 32} {n m : Nat} (h : x.toNat = n) (h' : y.toNat = m) (hm : m ≤ n) (hn : n ≤ 16) :
    (Scalar.addi y (Scalar.muli (Scalar.divsi (Scalar.subi x y) 1#32) 1#32)).toNat = n := by
  have e : (Scalar.subi x y).toNat = n - m := by
    simp [Scalar.subi, IntOp.subi, BitVec.toNat_sub, h, h']; omega
  rw [divOne (by omega)]; simp [Scalar.addi, IntOp.addi, e, h']; omega

theorem endZ' {x : BitVec 32} {n : Nat} (h : x.toNat = n) (hn : n ≤ 16) :
    (Scalar.addi 0#32 (Scalar.subi x 0#32)).toNat = n := by
  simp [Scalar.subi, IntOp.subi, Scalar.addi, IntOp.addi, h]

theorem endN' {x y : BitVec 32} {n m : Nat} (h : x.toNat = n) (h' : y.toNat = m) (hm : m ≤ n) (hn : n ≤ 16) :
    (Scalar.addi y (Scalar.subi x y)).toNat = n := by
  have e : (Scalar.subi x y).toNat = n - m := by
    simp [Scalar.subi, IntOp.subi, BitVec.toNat_sub, h, h']; omega
  simp [Scalar.addi, IntOp.addi, e, h']; omega

theorem loop_trips (l : Scf.Loop 32) {a b : Nat} (h1 : l.st = 1#32) (ha : l.lb.toNat = a) (hb : l.ub.toNat = b)
    (hab : a ≤ b) (hb' : b ≤ 16) : l.trips = b - a := by
  obtain ⟨lb, ub, st⟩ := l
  subst h1
  exact trips_one ha hb hab hb'

theorem loop_ok (l : Scf.Loop 32) {a b : Nat} (h1 : l.st = 1#32) (ha : l.lb.toNat = a) (hb : l.ub.toNat = b)
    (hab : a ≤ b) (hb' : b ≤ 16) : l.OK := by
  obtain ⟨lb, ub, st⟩ := l
  subst h1
  exact ok_one ha hb hab hb'

theorem iv_add {x : BitVec 32} {n t : Nat} (h : x.toNat = n) (ht : n + t < 16) : (Scf.iv x 1#32 t).toNat = n + t := by
  simp [Scf.iv, BitVec.toNat_add, h]; omega

theorem r4 (r : Fin 4) : (BitVec.ofNat 32 r.val).toNat < 4 := by revert r; decide

theorem r2 (r : Fin 2) : (BitVec.ofNat 32 r.val).toNat < 4 := by revert r; decide

theorem r2a (r : Fin 2) : (BitVec.ofNat 32 (1 + r.val)).toNat < 4 := by revert r; decide

theorem r2b (r : Fin 2) : (BitVec.ofNat 32 (2 + r.val)).toNat < 4 := by revert r; decide

theorem mod2 (n : Nat) : n % 2 < 2 := Nat.mod_lt _ (by decide)

theorem omod2 (n : Nat) : 1 - n % 2 < 2 := by omega

end Cert

end
-- ==== Proof.Kn.Words.lean ====
module

public import proofs.«01_k».proof.Proof.Kn.Rules
public import Idealize.ShloMosaic.Lib.PairWhole
public import proofs.«01_k».proof.Proof.Counts

/-!
# Words

The kernel's index words in closed form, for a sequence length of at most 8192: how many trips its loops make, which
page, slot and cell a trip works on, and that every window it cuts lies inside its array.
-/

@[expose] public section

set_option maxRecDepth 8192

noncomputable section

namespace Cert.Kernel.Hand

open Idealize.ShloMosaic Idealize.ShloMosaic.Host

theorem slotW (i : grid0.Coords) : (Scalar.remsi (BitVec.ofNat 32 (i 0).val) 2#32).toNat = (i 0).val % 2 := by
  have : ∀ b : Fin 32, (Scalar.remsi (BitVec.ofNat 32 b.val) 2#32).toNat = b.val % 2 := by decide
  exact this (i 0)

theorem otherW (i : grid0.Coords) :
    (Scalar.subi 1#32 (Scalar.remsi (BitVec.ofNat 32 (i 0).val) 2#32)).toNat = 1 - (i 0).val % 2 := by
  have : ∀ b : Fin 32, (Scalar.subi 1#32 (Scalar.remsi (BitVec.ofNat 32 b.val) 2#32)).toNat = 1 - b.val % 2 := by
    decide
  exact this (i 0)

theorem rowW (i : grid0.Coords) : (BitVec.ofNat 32 (i 0).val).toNat = (i 0).val := by
  have : ∀ b : Fin 32, (BitVec.ofNat 32 b.val).toNat = b.val := by decide
  exact this (i 0)

theorem nextW (i : grid0.Coords) : (Scalar.addi (BitVec.ofNat 32 (i 0).val) 1#32).toNat = (i 0).val + 1 := by
  have : ∀ b : Fin 32, (Scalar.addi (BitVec.ofNat 32 b.val) 1#32).toNat = b.val + 1 := by decide
  exact this (i 0)

theorem iLt (i : grid0.Coords) : (i 0).val < 32 := (i 0).isLt

theorem cond1_iff (i : grid0.Coords) : k0_cond1 i = 1#1 ↔ (i 0).val = 0 := by
  have : ∀ b : Fin 32, Scalar.cmpi .ne (Scalar.extui (Scalar.cmpi .eq (BitVec.ofNat 32 b.val) 0#32)) 0#32 = 1#1
      ↔ b.val = 0 := by decide
  exact this (i 0)

theorem cond2_iff (i : grid0.Coords) : k0_cond2 i = 1#1 ↔ (i 0).val + 1 < 32 := by
  have : ∀ b : Fin 32, Scalar.cmpi .ne (Scalar.extui (Scalar.cmpi .slt (Scalar.addi (BitVec.ofNat 32 b.val) 1#32) 32#32))
      0#32 = 1#1 ↔ b.val + 1 < 32 := by decide
  exact this (i 0)

/-! ## Windows that lie inside their arrays -/

theorem inT {o : Fin 2 → Nat} {p q : Nat} (h : o = ![p, q]) (hp : p < 32) (hq : q < 64) :
    ∀ a, o a + S1x1.size a ≤ S32x64.size a := by
  subst h; intro a; fin_cases a <;> simp <;> omega

theorem inS {o : Fin 2 → Nat} {p q : Nat} (h : o = ![p, q]) (hp : p < 2) (hq : q < 16) :
    ∀ a, o a + S1x1.size a ≤ S2x16.size a := by
  subst h; intro a; fin_cases a <;> simp <;> omega

theorem inL {o : Fin 1 → Nat} {p : Nat} (h : o = ![p]) (hp : p < 32) :
    ∀ a, o a + S1.size a ≤ S32.size a := by
  subst h; intro a; fin_cases a <;> simp <;> omega

theorem inP {o : Fin 5 → Nat} {p q : Nat} (h : o = ![p, q, 0, 0, 0]) (hp : p < 2) (hq : q < 64) :
    ∀ a, o a + S1x1x2x128x128.size a ≤ S2x64x2x128x128.size a := by
  subst h; intro a; fin_cases a <;> simp <;> omega

theorem inB {o : Fin 5 → Nat} {p q g : Nat} (h : o = ![p, q, g, 0, 0]) (hp : p < 2) (hq : q + 4 ≤ 64) (hg : g < 2) :
    ∀ a, o a + S1x4x1x128x128.size a ≤ S2x64x2x128x128.size a := by
  subst h; intro a; fin_cases a <;> simp <;> omega

theorem inG {w : BitVec 32} {o : Fin 4 → Nat} (h : o = ![w.toNat, 0, 0, 0]) (hw : w.toNat < 2048) :
    ∀ a, o a + S1x2x128x128.size a ≤ S2048x2x128x128.size a := by
  subst h; intro a; fin_cases a <;> simp <;> omega

theorem wwP {o : Fin 5 → Nat} {p q : Nat} (h : o = ![p, q, 0, 0, 0])
    (hinb : ∀ a, o a + S1x1x2x128x128.size a ≤ S2x64x2x128x128.size a) :
    (Rect.unit (s := S2x64x2x128x128) o S1x1x2x128x128.size hinb).WholeWords (EltTy.packing .fp8e4m3) := by
  subst h
  exact (Rect.WholeRows.intro (s := S2x64x2x128x128) (by decide) rfl rfl rfl).wholeWords _

theorem wwG {w : BitVec 32} {o : Fin 4 → Nat} (h : o = ![w.toNat, 0, 0, 0])
    (hinb : ∀ a, o a + S1x2x128x128.size a ≤ S2048x2x128x128.size a) :
    (Rect.unit (s := S2048x2x128x128) o S1x2x128x128.size hinb).WholeWords (EltTy.packing .fp8e4m3) := by
  subst h
  exact (Rect.WholeRows.intro (s := S2048x2x128x128) (by decide) rfl rfl rfl).wholeWords _

/-! ## Trips -/

variable (i : grid0.Coords) {v : BitVec 32} (hv : v.toNat ≤ 8192)

include hv

theorem t1_lb : (k0_t1_loop v).lb.toNat = 0 := rfl
theorem t1_ub : (k0_t1_loop v).ub.toNat = (v.toNat + 511) / 512 := endZ (up9 hv) (by omega)
theorem t1_trips : (k0_t1_loop v).trips = (v.toNat + 511) / 512 - 0 :=
  loop_trips (k0_t1_loop v) (a := 0) (b := (v.toNat + 511) / 512) rfl (t1_lb hv) (t1_ub hv) (by omega) (by omega)
theorem t1_ok : (k0_t1_loop v).OK :=
  loop_ok (k0_t1_loop v) (a := 0) (b := (v.toNat + 511) / 512) rfl (t1_lb hv) (t1_ub hv) (by omega) (by omega)

theorem t1_lt (t : Fin (k0_t1_loop v).trips) : t.val < 16 := by
  have h : t.val < (v.toNat + 511) / 512 - 0 := lt_of_lt_of_eq t.isLt (t1_trips hv)
  omega
theorem t1_iv (t : Fin (k0_t1_loop v).trips) :
    (Scf.iv 0#32 1#32 t.val).toNat = t.val := iv_zero (t1_lt hv t)

theorem t2_lb : (k0_t2_loop v).lb.toNat = (v.toNat + 511) / 512 := endZ (up9 hv) (by omega)
theorem t2_ub : (k0_t2_loop v).ub.toNat = (v.toNat + 511) / 512 := endZ' (up9 hv) (by omega)
theorem t2_trips : (k0_t2_loop v).trips = (v.toNat + 511) / 512 - (v.toNat + 511) / 512 :=
  loop_trips (k0_t2_loop v) (a := (v.toNat + 511) / 512) (b := (v.toNat + 511) / 512) rfl (t2_lb hv) (t2_ub hv) (by omega) (by omega)
theorem t2_ok : (k0_t2_loop v).OK :=
  loop_ok (k0_t2_loop v) (a := (v.toNat + 511) / 512) (b := (v.toNat + 511) / 512) rfl (t2_lb hv) (t2_ub hv) (by omega) (by omega)

theorem t2_no (t : Fin (k0_t2_loop v).trips) : False := by
  have h : t.val < (v.toNat + 511) / 512 - (v.toNat + 511) / 512 := lt_of_lt_of_eq t.isLt (t2_trips hv)
  omega

theorem t3_lb : (k0_t3_loop v).lb.toNat = 0 := rfl
theorem t3_ub : (k0_t3_loop v).ub.toNat = (v.toNat + 511) / 512 := endZ (up9 hv) (by omega)
theorem t3_trips : (k0_t3_loop v).trips = (v.toNat + 511) / 512 - 0 :=
  loop_trips (k0_t3_loop v) (a := 0) (b := (v.toNat + 511) / 512) rfl (t3_lb hv) (t3_ub hv) (by omega) (by omega)
theorem t3_ok : (k0_t3_loop v).OK :=
  loop_ok (k0_t3_loop v) (a := 0) (b := (v.toNat + 511) / 512) rfl (t3_lb hv) (t3_ub hv) (by omega) (by omega)

theorem t3_lt (t : Fin (k0_t3_loop v).trips) : t.val < 16 := by
  have h : t.val < (v.toNat + 511) / 512 - 0 := lt_of_lt_of_eq t.isLt (t3_trips hv)
  omega
theorem t3_iv (t : Fin (k0_t3_loop v).trips) :
    (Scf.iv 0#32 1#32 t.val).toNat = t.val := iv_zero (t3_lt hv t)

theorem t4_lb : (k0_t4_loop v).lb.toNat = (v.toNat + 511) / 512 := endZ (up9 hv) (by omega)
theorem t4_ub : (k0_t4_loop v).ub.toNat = (v.toNat + 511) / 512 := endZ' (up9 hv) (by omega)
theorem t4_trips : (k0_t4_loop v).trips = (v.toNat + 511) / 512 - (v.toNat + 511) / 512 :=
  loop_trips (k0_t4_loop v) (a := (v.toNat + 511) / 512) (b := (v.toNat + 511) / 512) rfl (t4_lb hv) (t4_ub hv) (by omega) (by omega)
theorem t4_ok : (k0_t4_loop v).OK :=
  loop_ok (k0_t4_loop v) (a := (v.toNat + 511) / 512) (b := (v.toNat + 511) / 512) rfl (t4_lb hv) (t4_ub hv) (by omega) (by omega)

theorem t4_no (t : Fin (k0_t4_loop v).trips) : False := by
  have h : t.val < (v.toNat + 511) / 512 - (v.toNat + 511) / 512 := lt_of_lt_of_eq t.isLt (t4_trips hv)
  omega

theorem t5_lb : (k0_t5_loop v).lb.toNat = 0 := rfl
theorem t5_ub : (k0_t5_loop v).ub.toNat = v.toNat / 512 := endZ (shr9 hv) (by omega)
theorem t5_trips : (k0_t5_loop v).trips = v.toNat / 512 - 0 :=
  loop_trips (k0_t5_loop v) (a := 0) (b := v.toNat / 512) rfl (t5_lb hv) (t5_ub hv) (by omega) (by omega)
theorem t5_ok : (k0_t5_loop v).OK :=
  loop_ok (k0_t5_loop v) (a := 0) (b := v.toNat / 512) rfl (t5_lb hv) (t5_ub hv) (by omega) (by omega)

theorem t5_lt (t : Fin (k0_t5_loop v).trips) : t.val < 16 := by
  have h : t.val < v.toNat / 512 - 0 := lt_of_lt_of_eq t.isLt (t5_trips hv)
  omega
theorem t5_iv (t : Fin (k0_t5_loop v).trips) :
    (Scf.iv 0#32 1#32 t.val).toNat = t.val := iv_zero (t5_lt hv t)

theorem t6_lb : (k0_t6_loop v).lb.toNat = v.toNat / 512 := endZ (shr9 hv) (by omega)
theorem t6_ub : (k0_t6_loop v).ub.toNat = v.toNat / 512 := endZ' (shr9 hv) (by omega)
theorem t6_trips : (k0_t6_loop v).trips = v.toNat / 512 - v.toNat / 512 :=
  loop_trips (k0_t6_loop v) (a := v.toNat / 512) (b := v.toNat / 512) rfl (t6_lb hv) (t6_ub hv) (by omega) (by omega)
theorem t6_ok : (k0_t6_loop v).OK :=
  loop_ok (k0_t6_loop v) (a := v.toNat / 512) (b := v.toNat / 512) rfl (t6_lb hv) (t6_ub hv) (by omega) (by omega)

theorem t6_no (t : Fin (k0_t6_loop v).trips) : False := by
  have h : t.val < v.toNat / 512 - v.toNat / 512 := lt_of_lt_of_eq t.isLt (t6_trips hv)
  omega

theorem t7_lb : (k0_t7_loop v).lb.toNat = v.toNat / 512 := shr9 hv
theorem t7_ub : (k0_t7_loop v).ub.toNat = (v.toNat + 511) / 512 := endN (up9 hv) (shr9 hv) (by omega) (by omega)
theorem t7_trips : (k0_t7_loop v).trips = (v.toNat + 511) / 512 - v.toNat / 512 :=
  loop_trips (k0_t7_loop v) (a := v.toNat / 512) (b := (v.toNat + 511) / 512) rfl (t7_lb hv) (t7_ub hv) (by omega) (by omega)
theorem t7_ok : (k0_t7_loop v).OK :=
  loop_ok (k0_t7_loop v) (a := v.toNat / 512) (b := (v.toNat + 511) / 512) rfl (t7_lb hv) (t7_ub hv) (by omega) (by omega)

theorem t7_lt (t : Fin (k0_t7_loop v).trips) : v.toNat / 512 + t.val < 16 := by
  have h : t.val < (v.toNat + 511) / 512 - v.toNat / 512 := lt_of_lt_of_eq t.isLt (t7_trips hv)
  omega
theorem t7_iv (t : Fin (k0_t7_loop v).trips) :
    (Scf.iv (Scalar.shrui v 9#32) 1#32 t.val).toNat = v.toNat / 512 + t.val := iv_add (shr9 hv) (t7_lt hv t)

theorem t8_lb : (k0_t8_loop v).lb.toNat = (v.toNat + 511) / 512 := endN (up9 hv) (shr9 hv) (by omega) (by omega)
theorem t8_ub : (k0_t8_loop v).ub.toNat = (v.toNat + 511) / 512 := endN' (up9 hv) (shr9 hv) (by omega) (by omega)
theorem t8_trips : (k0_t8_loop v).trips = (v.toNat + 511) / 512 - (v.toNat + 511) / 512 :=
  loop_trips (k0_t8_loop v) (a := (v.toNat + 511) / 512) (b := (v.toNat + 511) / 512) rfl (t8_lb hv) (t8_ub hv) (by omega) (by omega)
theorem t8_ok : (k0_t8_loop v).OK :=
  loop_ok (k0_t8_loop v) (a := (v.toNat + 511) / 512) (b := (v.toNat + 511) / 512) rfl (t8_lb hv) (t8_ub hv) (by omega) (by omega)

theorem t8_no (t : Fin (k0_t8_loop v).trips) : False := by
  have h : t.val < (v.toNat + 511) / 512 - (v.toNat + 511) / 512 := lt_of_lt_of_eq t.isLt (t8_trips hv)
  omega

theorem t9_lb : (k0_t9_loop v).lb.toNat = 0 := rfl
theorem t9_ub : (k0_t9_loop v).ub.toNat = v.toNat / 512 := endZ (shr9 hv) (by omega)
theorem t9_trips : (k0_t9_loop v).trips = v.toNat / 512 - 0 :=
  loop_trips (k0_t9_loop v) (a := 0) (b := v.toNat / 512) rfl (t9_lb hv) (t9_ub hv) (by omega) (by omega)
theorem t9_ok : (k0_t9_loop v).OK :=
  loop_ok (k0_t9_loop v) (a := 0) (b := v.toNat / 512) rfl (t9_lb hv) (t9_ub hv) (by omega) (by omega)

theorem t9_lt (t : Fin (k0_t9_loop v).trips) : t.val < 16 := by
  have h : t.val < v.toNat / 512 - 0 := lt_of_lt_of_eq t.isLt (t9_trips hv)
  omega
theorem t9_iv (t : Fin (k0_t9_loop v).trips) :
    (Scf.iv 0#32 1#32 t.val).toNat = t.val := iv_zero (t9_lt hv t)

theorem t10_lb : (k0_t10_loop v).lb.toNat = v.toNat / 512 := endZ (shr9 hv) (by omega)
theorem t10_ub : (k0_t10_loop v).ub.toNat = v.toNat / 512 := endZ' (shr9 hv) (by omega)
theorem t10_trips : (k0_t10_loop v).trips = v.toNat / 512 - v.toNat / 512 :=
  loop_trips (k0_t10_loop v) (a := v.toNat / 512) (b := v.toNat / 512) rfl (t10_lb hv) (t10_ub hv) (by omega) (by omega)
theorem t10_ok : (k0_t10_loop v).OK :=
  loop_ok (k0_t10_loop v) (a := v.toNat / 512) (b := v.toNat / 512) rfl (t10_lb hv) (t10_ub hv) (by omega) (by omega)

theorem t10_no (t : Fin (k0_t10_loop v).trips) : False := by
  have h : t.val < v.toNat / 512 - v.toNat / 512 := lt_of_lt_of_eq t.isLt (t10_trips hv)
  omega

theorem t11_lb : (k0_t11_loop v).lb.toNat = v.toNat / 512 := shr9 hv
theorem t11_ub : (k0_t11_loop v).ub.toNat = (v.toNat + 511) / 512 := endN (up9 hv) (shr9 hv) (by omega) (by omega)
theorem t11_trips : (k0_t11_loop v).trips = (v.toNat + 511) / 512 - v.toNat / 512 :=
  loop_trips (k0_t11_loop v) (a := v.toNat / 512) (b := (v.toNat + 511) / 512) rfl (t11_lb hv) (t11_ub hv) (by omega) (by omega)
theorem t11_ok : (k0_t11_loop v).OK :=
  loop_ok (k0_t11_loop v) (a := v.toNat / 512) (b := (v.toNat + 511) / 512) rfl (t11_lb hv) (t11_ub hv) (by omega) (by omega)

theorem t11_lt (t : Fin (k0_t11_loop v).trips) : v.toNat / 512 + t.val < 16 := by
  have h : t.val < (v.toNat + 511) / 512 - v.toNat / 512 := lt_of_lt_of_eq t.isLt (t11_trips hv)
  omega
theorem t11_iv (t : Fin (k0_t11_loop v).trips) :
    (Scf.iv (Scalar.shrui v 9#32) 1#32 t.val).toNat = v.toNat / 512 + t.val := iv_add (shr9 hv) (t11_lt hv t)

theorem t12_lb : (k0_t12_loop v).lb.toNat = (v.toNat + 511) / 512 := endN (up9 hv) (shr9 hv) (by omega) (by omega)
theorem t12_ub : (k0_t12_loop v).ub.toNat = (v.toNat + 511) / 512 := endN' (up9 hv) (shr9 hv) (by omega) (by omega)
theorem t12_trips : (k0_t12_loop v).trips = (v.toNat + 511) / 512 - (v.toNat + 511) / 512 :=
  loop_trips (k0_t12_loop v) (a := (v.toNat + 511) / 512) (b := (v.toNat + 511) / 512) rfl (t12_lb hv) (t12_ub hv) (by omega) (by omega)
theorem t12_ok : (k0_t12_loop v).OK :=
  loop_ok (k0_t12_loop v) (a := (v.toNat + 511) / 512) (b := (v.toNat + 511) / 512) rfl (t12_lb hv) (t12_ub hv) (by omega) (by omega)

theorem t12_no (t : Fin (k0_t12_loop v).trips) : False := by
  have h : t.val < (v.toNat + 511) / 512 - (v.toNat + 511) / 512 := lt_of_lt_of_eq t.isLt (t12_trips hv)
  omega

/-! ## Offsets -/

theorem off1_eq (t : Fin (k0_t1_loop v).trips) {r : BitVec 32} (hr : r.toNat < 4) :
    k0_off1 v t r = ![0, 4 * t.val + r.toNat] := vec2 rfl (pgW (t1_iv hv t) (t1_lt hv t) hr)

theorem off2_eq (t : Fin (k0_t1_loop v).trips) :
    k0_off2 v t = ![0, t.val] := vec2 rfl (t1_iv hv t)

theorem off3_eq (t : Fin (k0_t1_loop v).trips) :
    k0_off3 v t = ![0, 4 * t.val + 0, 0, 0, 0] := vec5 rfl (pgW (r := 0#32) (t1_iv hv t) (t1_lt hv t) (by decide))

theorem off5_eq (t : Fin (k0_t1_loop v).trips) :
    k0_off5 v t = ![0, t.val] := vec2 rfl (t1_iv hv t)

theorem off6_eq (t : Fin (k0_t1_loop v).trips) {r : BitVec 32} (hr : r.toNat < 4) :
    k0_off6 v t r = ![0, 4 * t.val + r.toNat, 0, 0, 0] := vec5 rfl (pgW (t1_iv hv t) (t1_lt hv t) hr)

theorem off8_eq (t : Fin (k0_t1_loop v).trips) :
    k0_off8 v t = ![0, t.val] := vec2 rfl (t1_iv hv t)

theorem off9_eq (t : Fin (k0_t1_loop v).trips) {r : BitVec 32} (hr : r.toNat < 4) :
    k0_off9 v t r = ![0, 4 * t.val + r.toNat, 0, 0, 0] := vec5 rfl (pgW (t1_iv hv t) (t1_lt hv t) hr)

theorem off11_eq (t : Fin (k0_t1_loop v).trips) :
    k0_off11 v t = ![0, t.val] := vec2 rfl (t1_iv hv t)

theorem off12_eq (t : Fin (k0_t1_loop v).trips) {r : BitVec 32} (hr : r.toNat < 4) :
    k0_off12 v t r = ![0, 4 * t.val + r.toNat, 0, 0, 0] := vec5 rfl (pgW (t1_iv hv t) (t1_lt hv t) hr)

theorem off14_eq (t : Fin (k0_t1_loop v).trips) :
    k0_off14 v t = ![0, t.val] := vec2 rfl (t1_iv hv t)

theorem off15_eq (t : Fin (k0_t1_loop v).trips) :
    k0_off15 v t = ![0, 4 * t.val + 3, 0, 0, 0] := vec5 rfl (pgW (r := 3#32) (t1_iv hv t) (t1_lt hv t) (by decide))

omit hv in
theorem off31_eq : k0_off31 i = ![(i 0).val + 1] := vec1 (nextW i)

theorem off32_eq (t : Fin (k0_t3_loop v).trips) {r : BitVec 32} (hr : r.toNat < 4) :
    k0_off32 i v t r = ![(i 0).val + 1, 4 * t.val + r.toNat] := vec2 (nextW i) (pgW (t3_iv hv t) (t3_lt hv t) hr)

theorem off33_eq (t : Fin (k0_t3_loop v).trips) :
    k0_off33 i v t = ![1 - (i 0).val % 2, t.val] := vec2 (otherW i) (t3_iv hv t)

theorem off34_eq (t : Fin (k0_t3_loop v).trips) :
    k0_off34 i v t = ![1 - (i 0).val % 2, 4 * t.val + 0, 0, 0, 0] := vec5 (otherW i) (pgW (r := 0#32) (t3_iv hv t) (t3_lt hv t) (by decide))

theorem off36_eq (t : Fin (k0_t3_loop v).trips) :
    k0_off36 i v t = ![1 - (i 0).val % 2, t.val] := vec2 (otherW i) (t3_iv hv t)

theorem off37_eq (t : Fin (k0_t3_loop v).trips) {r : BitVec 32} (hr : r.toNat < 4) :
    k0_off37 i v t r = ![1 - (i 0).val % 2, 4 * t.val + r.toNat, 0, 0, 0] := vec5 (otherW i) (pgW (t3_iv hv t) (t3_lt hv t) hr)

theorem off39_eq (t : Fin (k0_t3_loop v).trips) :
    k0_off39 i v t = ![1 - (i 0).val % 2, t.val] := vec2 (otherW i) (t3_iv hv t)

theorem off40_eq (t : Fin (k0_t3_loop v).trips) {r : BitVec 32} (hr : r.toNat < 4) :
    k0_off40 i v t r = ![1 - (i 0).val % 2, 4 * t.val + r.toNat, 0, 0, 0] := vec5 (otherW i) (pgW (t3_iv hv t) (t3_lt hv t) hr)

theorem off42_eq (t : Fin (k0_t3_loop v).trips) :
    k0_off42 i v t = ![1 - (i 0).val % 2, t.val] := vec2 (otherW i) (t3_iv hv t)

theorem off43_eq (t : Fin (k0_t3_loop v).trips) {r : BitVec 32} (hr : r.toNat < 4) :
    k0_off43 i v t r = ![1 - (i 0).val % 2, 4 * t.val + r.toNat, 0, 0, 0] := vec5 (otherW i) (pgW (t3_iv hv t) (t3_lt hv t) hr)

theorem off45_eq (t : Fin (k0_t3_loop v).trips) :
    k0_off45 i v t = ![1 - (i 0).val % 2, t.val] := vec2 (otherW i) (t3_iv hv t)

theorem off46_eq (t : Fin (k0_t3_loop v).trips) :
    k0_off46 i v t = ![1 - (i 0).val % 2, 4 * t.val + 3, 0, 0, 0] := vec5 (otherW i) (pgW (r := 3#32) (t3_iv hv t) (t3_lt hv t) (by decide))

omit hv in
theorem off62_eq : k0_off62 i = ![(i 0).val] := vec1 (rowW i)

theorem off63_eq (t : Fin (k0_t5_loop v).trips) {r : BitVec 32} (hr : r.toNat < 4) :
    k0_off63 i v t r = ![(i 0).val, 4 * t.val + r.toNat] := vec2 (rowW i) (pgW (t5_iv hv t) (t5_lt hv t) hr)

theorem off64_eq (t : Fin (k0_t5_loop v).trips) :
    k0_off64 i v t = ![(i 0).val % 2, t.val] := vec2 (slotW i) (t5_iv hv t)

theorem off65_eq (t : Fin (k0_t5_loop v).trips) :
    k0_off65 i v t = ![(i 0).val % 2, 4 * t.val + 0, 0, 0, 0] := vec5 (slotW i) (pgW (r := 0#32) (t5_iv hv t) (t5_lt hv t) (by decide))

theorem off67_eq (t : Fin (k0_t5_loop v).trips) :
    k0_off67 i v t = ![(i 0).val % 2, t.val] := vec2 (slotW i) (t5_iv hv t)

theorem off68_eq (t : Fin (k0_t5_loop v).trips) {r : BitVec 32} (hr : r.toNat < 4) :
    k0_off68 i v t r = ![(i 0).val % 2, 4 * t.val + r.toNat, 0, 0, 0] := vec5 (slotW i) (pgW (t5_iv hv t) (t5_lt hv t) hr)

theorem off70_eq (t : Fin (k0_t5_loop v).trips) :
    k0_off70 i v t = ![(i 0).val % 2, t.val] := vec2 (slotW i) (t5_iv hv t)

theorem off71_eq (t : Fin (k0_t5_loop v).trips) {r : BitVec 32} (hr : r.toNat < 4) :
    k0_off71 i v t r = ![(i 0).val % 2, 4 * t.val + r.toNat, 0, 0, 0] := vec5 (slotW i) (pgW (t5_iv hv t) (t5_lt hv t) hr)

theorem off73_eq (t : Fin (k0_t5_loop v).trips) :
    k0_off73 i v t = ![(i 0).val % 2, t.val] := vec2 (slotW i) (t5_iv hv t)

theorem off74_eq (t : Fin (k0_t5_loop v).trips) {r : BitVec 32} (hr : r.toNat < 4) :
    k0_off74 i v t r = ![(i 0).val % 2, 4 * t.val + r.toNat, 0, 0, 0] := vec5 (slotW i) (pgW (t5_iv hv t) (t5_lt hv t) hr)

theorem off76_eq (t : Fin (k0_t5_loop v).trips) :
    k0_off76 i v t = ![(i 0).val % 2, t.val] := vec2 (slotW i) (t5_iv hv t)

theorem off77_eq (t : Fin (k0_t5_loop v).trips) :
    k0_off77 i v t = ![(i 0).val % 2, 4 * t.val + 3, 0, 0, 0] := vec5 (slotW i) (pgW (r := 3#32) (t5_iv hv t) (t5_lt hv t) (by decide))

theorem off78_eq (t : Fin (k0_t5_loop v).trips) :
    k0_off78 i v t = ![(i 0).val % 2, 4 * t.val, 0, 0, 0] := vec5 (slotW i) (blkW (t5_iv hv t) (t5_lt hv t))

theorem off95_eq (t : Fin (k0_t7_loop v).trips) {r : BitVec 32} (hr : r.toNat < 4) :
    k0_off95 i v t r = ![(i 0).val, 4 * (v.toNat / 512 + t.val) + r.toNat] := vec2 (rowW i) (pgW (t7_iv hv t) (t7_lt hv t) hr)

theorem off96_eq (t : Fin (k0_t7_loop v).trips) :
    k0_off96 i v t = ![(i 0).val % 2, (v.toNat / 512 + t.val)] := vec2 (slotW i) (t7_iv hv t)

theorem off97_eq (t : Fin (k0_t7_loop v).trips) :
    k0_off97 i v t = ![(i 0).val % 2, 4 * (v.toNat / 512 + t.val) + 0, 0, 0, 0] := vec5 (slotW i) (pgW (r := 0#32) (t7_iv hv t) (t7_lt hv t) (by decide))

theorem off99_eq (t : Fin (k0_t7_loop v).trips) :
    k0_off99 i v t = ![(i 0).val % 2, (v.toNat / 512 + t.val)] := vec2 (slotW i) (t7_iv hv t)

theorem off100_eq (t : Fin (k0_t7_loop v).trips) {r : BitVec 32} (hr : r.toNat < 4) :
    k0_off100 i v t r = ![(i 0).val % 2, 4 * (v.toNat / 512 + t.val) + r.toNat, 0, 0, 0] := vec5 (slotW i) (pgW (t7_iv hv t) (t7_lt hv t) hr)

theorem off102_eq (t : Fin (k0_t7_loop v).trips) :
    k0_off102 i v t = ![(i 0).val % 2, (v.toNat / 512 + t.val)] := vec2 (slotW i) (t7_iv hv t)

theorem off103_eq (t : Fin (k0_t7_loop v).trips) {r : BitVec 32} (hr : r.toNat < 4) :
    k0_off103 i v t r = ![(i 0).val % 2, 4 * (v.toNat / 512 + t.val) + r.toNat, 0, 0, 0] := vec5 (slotW i) (pgW (t7_iv hv t) (t7_lt hv t) hr)

theorem off105_eq (t : Fin (k0_t7_loop v).trips) :
    k0_off105 i v t = ![(i 0).val % 2, (v.toNat / 512 + t.val)] := vec2 (slotW i) (t7_iv hv t)

theorem off106_eq (t : Fin (k0_t7_loop v).trips) {r : BitVec 32} (hr : r.toNat < 4) :
    k0_off106 i v t r = ![(i 0).val % 2, 4 * (v.toNat / 512 + t.val) + r.toNat, 0, 0, 0] := vec5 (slotW i) (pgW (t7_iv hv t) (t7_lt hv t) hr)

theorem off108_eq (t : Fin (k0_t7_loop v).trips) :
    k0_off108 i v t = ![(i 0).val % 2, (v.toNat / 512 + t.val)] := vec2 (slotW i) (t7_iv hv t)

theorem off109_eq (t : Fin (k0_t7_loop v).trips) :
    k0_off109 i v t = ![(i 0).val % 2, 4 * (v.toNat / 512 + t.val) + 3, 0, 0, 0] := vec5 (slotW i) (pgW (r := 3#32) (t7_iv hv t) (t7_lt hv t) (by decide))

theorem off110_eq (t : Fin (k0_t7_loop v).trips) :
    k0_off110 i v t = ![(i 0).val % 2, 4 * (v.toNat / 512 + t.val), 0, 0, 0] := vec5 (slotW i) (blkW (t7_iv hv t) (t7_lt hv t))

theorem off127_eq (t : Fin (k0_t9_loop v).trips) :
    k0_off127 i v t = ![(i 0).val % 2, 4 * t.val, 1, 0, 0] := vec5 (slotW i) (blkW (t9_iv hv t) (t9_lt hv t))

theorem off129_eq (t : Fin (k0_t11_loop v).trips) :
    k0_off129 i v t = ![(i 0).val % 2, 4 * (v.toNat / 512 + t.val), 1, 0, 0] := vec5 (slotW i) (blkW (t11_iv hv t) (t11_lt hv t))

/-! ## The checks -/

set_option maxHeartbeats 1000000 in
theorem chk1_0 : k0_chk1_0 i v := by
  unfold k0_chk1_0
  exact ⟨fun _ => t1_ok hv,
    fun t hc r => inT (off1_eq hv t (r4 r)) (by decide) (by have := t1_lt hv t; have := r4 r; omega),
    fun t hc => inS (off2_eq hv t) (by decide) (by have := t1_lt hv t; omega),
    fun t hc => inP (off3_eq hv t) (by decide) (by have := t1_lt hv t; omega),
    fun t hc hinb => wwP (off3_eq hv t) hinb,
    fun t hc => inS (off5_eq hv t) (by decide) (by have := t1_lt hv t; omega),
    fun t hc r => inP (off6_eq hv t (r2 r)) (by decide) (by have := t1_lt hv t; have := r2 r; omega),
    fun t hc r hinb => wwP (off6_eq hv t (r2 r)) hinb,
    fun t hc => inS (off8_eq hv t) (by decide) (by have := t1_lt hv t; omega),
    fun t hc r => inP (off9_eq hv t (r2a r)) (by decide) (by have := t1_lt hv t; have := r2a r; omega),
    fun t hc r hinb => wwP (off9_eq hv t (r2a r)) hinb,
    fun t hc => inS (off11_eq hv t) (by decide) (by have := t1_lt hv t; omega),
    fun t hc r => inP (off12_eq hv t (r2b r)) (by decide) (by have := t1_lt hv t; have := r2b r; omega),
    fun t hc r hinb => wwP (off12_eq hv t (r2b r)) hinb,
    fun t hc => inS (off14_eq hv t) (by decide) (by have := t1_lt hv t; omega),
    fun t hc => inP (off15_eq hv t) (by decide) (by have := t1_lt hv t; omega),
    fun t hc hinb => wwP (off15_eq hv t) hinb,
    fun _ => t2_ok hv,
    fun t => (t2_no hv t).elim,
    fun t => (t2_no hv t).elim,
    fun t => (t2_no hv t).elim,
    fun t => (t2_no hv t).elim,
    fun t => (t2_no hv t).elim,
    fun t => (t2_no hv t).elim,
    fun t => (t2_no hv t).elim,
    fun t => (t2_no hv t).elim,
    fun t => (t2_no hv t).elim,
    fun t => (t2_no hv t).elim,
    fun t => (t2_no hv t).elim,
    fun t => (t2_no hv t).elim,
    fun t => (t2_no hv t).elim,
    fun t => (t2_no hv t).elim⟩

set_option maxHeartbeats 1000000 in
theorem chk1_1 : k0_chk1_1 i v := by
  unfold k0_chk1_1
  exact ⟨fun t => (t2_no hv t).elim,
    fun t => (t2_no hv t).elim⟩

set_option maxHeartbeats 1000000 in
theorem chk1 : k0_chk1 i v := by
  unfold k0_chk1
  exact ⟨chk1_0 i hv,
    chk1_1 i hv⟩

set_option maxHeartbeats 1000000 in
theorem chk10_0 : k0_chk10_0 i v := by
  unfold k0_chk10_0
  exact ⟨fun _ => t3_ok hv,
    fun t hc r => inT (off32_eq i hv t (r4 r)) ((cond2_iff i).1 hc) (by have := t3_lt hv t; have := r4 r; omega),
    fun t hc => inS (off33_eq i hv t) (omod2 _) (by have := t3_lt hv t; omega),
    fun t hc => inP (off34_eq i hv t) (omod2 _) (by have := t3_lt hv t; omega),
    fun t hc hinb => wwP (off34_eq i hv t) hinb,
    fun t hc => inS (off36_eq i hv t) (omod2 _) (by have := t3_lt hv t; omega),
    fun t hc r => inP (off37_eq i hv t (r2 r)) (omod2 _) (by have := t3_lt hv t; have := r2 r; omega),
    fun t hc r hinb => wwP (off37_eq i hv t (r2 r)) hinb,
    fun t hc => inS (off39_eq i hv t) (omod2 _) (by have := t3_lt hv t; omega),
    fun t hc r => inP (off40_eq i hv t (r2a r)) (omod2 _) (by have := t3_lt hv t; have := r2a r; omega),
    fun t hc r hinb => wwP (off40_eq i hv t (r2a r)) hinb,
    fun t hc => inS (off42_eq i hv t) (omod2 _) (by have := t3_lt hv t; omega),
    fun t hc r => inP (off43_eq i hv t (r2b r)) (omod2 _) (by have := t3_lt hv t; have := r2b r; omega),
    fun t hc r hinb => wwP (off43_eq i hv t (r2b r)) hinb,
    fun t hc => inS (off45_eq i hv t) (omod2 _) (by have := t3_lt hv t; omega),
    fun t hc => inP (off46_eq i hv t) (omod2 _) (by have := t3_lt hv t; omega),
    fun t hc hinb => wwP (off46_eq i hv t) hinb,
    fun _ => t4_ok hv,
    fun t => (t4_no hv t).elim,
    fun t => (t4_no hv t).elim,
    fun t => (t4_no hv t).elim,
    fun t => (t4_no hv t).elim,
    fun t => (t4_no hv t).elim,
    fun t => (t4_no hv t).elim,
    fun t => (t4_no hv t).elim,
    fun t => (t4_no hv t).elim,
    fun t => (t4_no hv t).elim,
    fun t => (t4_no hv t).elim,
    fun t => (t4_no hv t).elim,
    fun t => (t4_no hv t).elim,
    fun t => (t4_no hv t).elim,
    fun t => (t4_no hv t).elim⟩

set_option maxHeartbeats 1000000 in
theorem chk10_1 : k0_chk10_1 i v := by
  unfold k0_chk10_1
  exact ⟨fun t => (t4_no hv t).elim,
    fun t => (t4_no hv t).elim⟩

set_option maxHeartbeats 1000000 in
theorem chk10 : k0_chk10 i v := by
  unfold k0_chk10
  exact ⟨chk10_0 i hv,
    chk10_1 i hv⟩

set_option maxHeartbeats 1000000 in
theorem chk19_0 : k0_chk19_0 i v := by
  unfold k0_chk19_0
  exact ⟨t5_ok hv,
    fun t r => inT (off63_eq i hv t (r4 r)) (iLt i) (by have := t5_lt hv t; have := r4 r; omega),
    fun t => inS (off64_eq i hv t) (mod2 _) (by have := t5_lt hv t; omega),
    fun t => inP (off65_eq i hv t) (mod2 _) (by have := t5_lt hv t; omega),
    fun t hinb => wwP (off65_eq i hv t) hinb,
    fun t => inS (off67_eq i hv t) (mod2 _) (by have := t5_lt hv t; omega),
    fun t r => inP (off68_eq i hv t (r2 r)) (mod2 _) (by have := t5_lt hv t; have := r2 r; omega),
    fun t r hinb => wwP (off68_eq i hv t (r2 r)) hinb,
    fun t => inS (off70_eq i hv t) (mod2 _) (by have := t5_lt hv t; omega),
    fun t r => inP (off71_eq i hv t (r2a r)) (mod2 _) (by have := t5_lt hv t; have := r2a r; omega),
    fun t r hinb => wwP (off71_eq i hv t (r2a r)) hinb,
    fun t => inS (off73_eq i hv t) (mod2 _) (by have := t5_lt hv t; omega),
    fun t r => inP (off74_eq i hv t (r2b r)) (mod2 _) (by have := t5_lt hv t; have := r2b r; omega),
    fun t r hinb => wwP (off74_eq i hv t (r2b r)) hinb,
    fun t => inS (off76_eq i hv t) (mod2 _) (by have := t5_lt hv t; omega),
    fun t => inP (off77_eq i hv t) (mod2 _) (by have := t5_lt hv t; omega),
    fun t hinb => wwP (off77_eq i hv t) hinb,
    fun t => inB (off78_eq i hv t) (mod2 _) (by have := t5_lt hv t; omega) (by decide),
    t6_ok hv,
    fun t => (t6_no hv t).elim,
    fun t => (t6_no hv t).elim,
    fun t => (t6_no hv t).elim,
    fun t => (t6_no hv t).elim,
    fun t => (t6_no hv t).elim,
    fun t => (t6_no hv t).elim,
    fun t => (t6_no hv t).elim,
    fun t => (t6_no hv t).elim,
    fun t => (t6_no hv t).elim,
    fun t => (t6_no hv t).elim,
    fun t => (t6_no hv t).elim,
    fun t => (t6_no hv t).elim,
    fun t => (t6_no hv t).elim⟩

set_option maxHeartbeats 1000000 in
theorem chk19_1 : k0_chk19_1 i v := by
  unfold k0_chk19_1
  exact ⟨fun t => (t6_no hv t).elim,
    fun t => (t6_no hv t).elim,
    fun t => (t6_no hv t).elim,
    fun t => (t6_no hv t).elim,
    t7_ok hv,
    fun t r => inT (off95_eq i hv t (r4 r)) (iLt i) (by have := t7_lt hv t; have := r4 r; omega),
    fun t => inS (off96_eq i hv t) (mod2 _) (by have := t7_lt hv t; omega),
    fun t => inP (off97_eq i hv t) (mod2 _) (by have := t7_lt hv t; omega),
    fun t hinb => wwP (off97_eq i hv t) hinb,
    fun t => inS (off99_eq i hv t) (mod2 _) (by have := t7_lt hv t; omega),
    fun t r => inP (off100_eq i hv t (r2 r)) (mod2 _) (by have := t7_lt hv t; have := r2 r; omega),
    fun t r hinb => wwP (off100_eq i hv t (r2 r)) hinb,
    fun t => inS (off102_eq i hv t) (mod2 _) (by have := t7_lt hv t; omega),
    fun t r => inP (off103_eq i hv t (r2a r)) (mod2 _) (by have := t7_lt hv t; have := r2a r; omega),
    fun t r hinb => wwP (off103_eq i hv t (r2a r)) hinb,
    fun t => inS (off105_eq i hv t) (mod2 _) (by have := t7_lt hv t; omega),
    fun t r => inP (off106_eq i hv t (r2b r)) (mod2 _) (by have := t7_lt hv t; have := r2b r; omega),
    fun t r hinb => wwP (off106_eq i hv t (r2b r)) hinb,
    fun t => inS (off108_eq i hv t) (mod2 _) (by have := t7_lt hv t; omega),
    fun t => inP (off109_eq i hv t) (mod2 _) (by have := t7_lt hv t; omega),
    fun t hinb => wwP (off109_eq i hv t) hinb,
    fun t => inB (off110_eq i hv t) (mod2 _) (by have := t7_lt hv t; omega) (by decide),
    t8_ok hv,
    fun t => (t8_no hv t).elim,
    fun t => (t8_no hv t).elim,
    fun t => (t8_no hv t).elim,
    fun t => (t8_no hv t).elim,
    fun t => (t8_no hv t).elim,
    fun t => (t8_no hv t).elim,
    fun t => (t8_no hv t).elim,
    fun t => (t8_no hv t).elim,
    fun t => (t8_no hv t).elim⟩

set_option maxHeartbeats 1000000 in
theorem chk19_2 : k0_chk19_2 i v := by
  unfold k0_chk19_2
  exact ⟨fun t => (t8_no hv t).elim,
    fun t => (t8_no hv t).elim,
    fun t => (t8_no hv t).elim,
    fun t => (t8_no hv t).elim,
    fun t => (t8_no hv t).elim,
    fun t => (t8_no hv t).elim,
    fun t => (t8_no hv t).elim,
    fun t => (t8_no hv t).elim,
    t9_ok hv,
    fun t => inB (off127_eq i hv t) (mod2 _) (by have := t9_lt hv t; omega) (by decide),
    t10_ok hv,
    fun t => (t10_no hv t).elim,
    t11_ok hv,
    fun t => inB (off129_eq i hv t) (mod2 _) (by have := t11_lt hv t; omega) (by decide),
    t12_ok hv,
    fun t => (t12_no hv t).elim⟩

set_option maxHeartbeats 1000000 in
theorem chk19 : k0_chk19 i v := by
  unfold k0_chk19
  exact ⟨chk19_0 i hv,
    chk19_1 i hv,
    chk19_2 i hv⟩

omit hv in
/-- What the kernel asks of a page word, whatever the copy: that it names a page. -/
theorem pageW {w : BitVec 32} {o : Fin 4 → Nat} (h : o = ![w.toNat, 0, 0, 0]) (hw : w.toNat < 2048) :
    (∀ a, o a + S1x2x128x128.size a ≤ S2048x2x128x128.size a) ∧
    (∀ (hinb : ∀ a, o a + S1x2x128x128.size a ≤ S2048x2x128x128.size a), (Rect.unit (s := S2048x2x128x128) o
      S1x2x128x128.size hinb).WholeWords (EltTy.packing .fp8e4m3)) :=
  ⟨inG h hw, fun hinb => wwG h hinb⟩

end Cert.Kernel.Hand
-- ==== Proof.Kn.Fetch.lean ====
module

public import proofs.«01_k».proof.Proof.Kn.Words

/-!
# One trip of a fetch

A trip reads four page words of the table and starts eight copies, the keys and the values of each page, on the
counter of its block: the block's page slots go from idle to pending.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Memref (whole isWhole_whole)
open Idealize.ShloMosaic.ValueIdx
open Idealize.ShloMosaic.RefSig (tileCredit)
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (pk pv : S2048x2x128x128.Idx → Elt F .fp8e4m3) (pt : S32x64.Idx → BitVec 32)
  (sl : S32.Idx → BitVec 32)

/-- The page table, held to be read. -/
abbrev TabP : sProp 𝕄 := iprop(((c : Thread nD τ).loc main_arg7) ↦{fullShare.right} (pt : Buf (Elt F) ((c : Thread nD τ).loc main_arg7)))
/-- The sequence lengths, held to be read. -/
abbrev TabL : sProp 𝕄 := iprop(((c : Thread nD τ).loc main_arg8) ↦{fullShare.right} (sl : Buf (Elt F) ((c : Thread nD τ).loc main_arg8)))

/-- The pages of sequence `b`. -/
def rowOf (b : Fin 32) : Fin 64 → Fin 2048 := fun p => ⟨(pt (ix2 b p)).toNat % 2048, Nat.mod_lt _ (by decide)⟩

theorem rowOf_off {b : Fin 32} {p : Fin 64} (h : ∀ x, (pt x).toNat < 2048) :
    ![(pt (ix2 b p)).toNat, 0, 0, 0] = ![(rowOf pt b p).val, 0, 0, 0] := by
  show _ = ![(pt (ix2 b p)).toNat % 2048, 0, 0, 0]
  rw [Nat.mod_eq_of_lt (h _)]

/-- Reading a page word. -/
theorem wp_page (b : Fin 32) (p : Fin 64) {o : Fin 2 → ℕ} (ho : o = ![b.val, p.val])
    {inb : ∀ a, o a + S1x1.size a ≤ S32x64.size a} {hn h1} {Q : BitVec 32 → sProp 𝕄} :
    (TabP (F := F) c pt : sProp 𝕄) ⊢ iprop((TabP (F := F) c pt -∗ Q (pt (ix2 b p))) -∗
      wp (M := 𝕄) frame (wpE (defs₀ (F := F)) Variants.none (Dev.tc c : Thread nD τ) none) Set.univ (smemLoad (whole main_arg7) (Rect.unit (s := S32x64) o S1x1.size inb) hn h1) Q) := by
  subst ho
  iintro H HQ
  unfold smemLoad
  iapply (wp_smemLoadElt (defs := defs₀ (F := F)) Variants.none (c : Thread nD τ) none Set.univ (m := whole main_arg7)
    (r := Rect.unit (s := S32x64) ![b.val, p.val] S1x1.size inb) (q := fullShare.right) (f := pt) (S := Finset.univ) (Finset.subset_univ _)) $$ H
  iintro H
  rw [wp_ret]
  imodintro
  have e : ∀ hx, View.read (Elt F) ((whole main_arg7).access (Rect.unit (s := S32x64) ![b.val, p.val] S1x1.size inb)) pt
      (Shape.Idx.first hx) = pt (ix2 b p) := by
    intro hx
    refine congrArg pt (funext fun a => Fin.ext ?_)
    fin_cases a
    · show b.val + 1 * 0 = b.val; omega
    · show p.val + 1 * 0 = p.val; omega
  rw [e]
  iapply HQ
  iexact H

/-- Reading a sequence length. -/
theorem wp_len (b : Fin 32) {o : Fin 1 → ℕ} (ho : o = ![b.val])
    {inb : ∀ a, o a + S1.size a ≤ S32.size a} {hn h1} {Q : BitVec 32 → sProp 𝕄} :
    (TabL (F := F) c sl : sProp 𝕄) ⊢ iprop((TabL (F := F) c sl -∗ Q (sl (ix1 b))) -∗
      wp (M := 𝕄) frame (wpE (defs₀ (F := F)) Variants.none (Dev.tc c : Thread nD τ) none) Set.univ (smemLoad (whole main_arg8) (Rect.unit (s := S32) o S1.size inb) hn h1) Q) := by
  subst ho
  iintro H HQ
  unfold smemLoad
  iapply (wp_smemLoadElt (defs := defs₀ (F := F)) Variants.none (c : Thread nD τ) none Set.univ (m := whole main_arg8)
    (r := Rect.unit (s := S32) ![b.val] S1.size inb) (q := fullShare.right) (f := sl) (S := Finset.univ) (Finset.subset_univ _)) $$ H
  iintro H
  rw [wp_ret]
  imodintro
  have e : ∀ hx, View.read (Elt F) ((whole main_arg8).access (Rect.unit (s := S32) ![b.val] S1.size inb)) sl
      (Shape.Idx.first hx) = sl (ix1 b) := by
    intro hx
    refine congrArg sl (funext fun a => Fin.ext ?_)
    fin_cases a
    · show b.val + 1 * 0 = b.val; omega
  rw [e]
  iapply HQ
  iexact H

theorem wp_pureK {α : Type} (x : α) {Q : α → sProp 𝕄} : wp (M := 𝕄) frame (wpE (defs₀ (F := F)) Variants.none (Dev.tc c : Thread nD τ) none) Set.univ (Pure.pure x) Q = iprop(|={Set.univ}=> Q x) := wp_ret ..

/-- A side condition that holds is passed. -/
theorem wp_asm {P : Prop} {d : Decidable P} (h : P) {Q : PLift P → sProp 𝕄} :
    Q ⟨h⟩ ⊢ wp (M := 𝕄) frame (wpE (defs₀ (F := F)) Variants.none (Dev.tc c : Thread nD τ) none) Set.univ (Prog.lift (TpuEff.assume P d)) Q := by
  refine .trans ?_ (wp_assume (defs := defs₀ (F := F)) Variants.none (c : Thread nD τ) none Set.univ h)
  rw [wp_ret]
  iintro H
  imodintro
  iexact H

/-- An idle block: its counter made a batch of eight copies, none of them started. -/
theorem cellOpen (row : Fin 64 → Fin 2048) (s : Fin 2) (j : Fin 16) :
    CellIdle c pk pv s j ⊢ |={Set.univ}=> iprop(Transfers.Batch (countersEmb (U := Pipeline.UD sig nD τ)) (c : Thread nD τ) (.dma (semAt s j)) () NP (delivs c pk pv row s j) 0 0
      ∗ pgIdle c pk pv s (pgIx j 0) ∗ pgIdle c pk pv s (pgIx j 1) ∗ pgIdle c pk pv s (pgIx j 2) ∗ pgIdle c pk pv s (pgIx j 3)) := by
  unfold CellIdle
  iintro ⟨Hs, H0, H1, H2, H3⟩
  imod (Transfers.batch_alloc' (countersEmb (U := Pipeline.UD sig nD τ)) (c : Thread nD τ) () NP (delivs c pk pv row s j) (E := Set.univ)) $$ Hs with HB
  imodintro
  isplitl [HB]; · iexact HB
  isplitl [H0]; · iexact H0
  isplitl [H1]; · iexact H1
  isplitl [H2]; · iexact H2
  iexact H3

variable (i : grid0.Coords)
  (a3 : Memref sig .tc .smem S2 .f32) (h3 : a3.IsWhole) (a4 : Memref sig .tc .smem S2 .f32) (h4 : a4.IsWhole)
  (a5 : Memref sig .tc .vmem S1x128x2048 .bf16) (h5 : a5.IsWhole) (a6 a7 : Memref sig .tc .vmem S1x2x128x128 .bf16)
  (h6 : a6.IsWhole) (h7 : a7.IsWhole) (a10 : Memref sig .tc .vmem S1x128x2048 .bf16) (h10 : a10.IsWhole)
  (a11 a12 : Memref sig .tc .vmem S1x2x128x128 .fp8e4m3) (h11 : a11.IsWhole) (h12 : a12.IsWhole)

set_option maxHeartbeats 4000000 in
/-- A trip of the fetch of the first sequence. -/
theorem fetch1 (hpt : ∀ x, (pt x).toNat < 2048) (v : BitVec 32) (hv : v.toNat ≤ 8192) (hc : k0_cond1 i = 1#1)
     (hw : k0_chk1 i v) (t : Fin (k0_t1_loop v).trips) :
    iprop(CellIdle c pk pv 0 ⟨t.val, t1_lt hv t⟩ ∗ TabP (F := F) c pt)
      ⊢ wp (M := 𝕄) frame (wpE (defs₀ (F := F)) Variants.none (Dev.tc c : Thread nD τ) none) Set.univ (k0_t1_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 hc v hw t ⟨⟩)
        (fun _ => iprop(CellPend c pk pv (rowOf pt 0) 0 ⟨t.val, t1_lt hv t⟩ ∗ TabP (F := F) c pt)) := by
  iintro ⟨HC, HT⟩
  unfold k0_t1_body
  imod (cellOpen c pk pv (rowOf pt 0) 0 ⟨t.val, t1_lt hv t⟩) $$ HC with ⟨HB, ⟨K0, T0, V0, U0⟩, ⟨K1, T1, V1, U1⟩, ⟨K2, T2, V2, U2⟩, ⟨K3, T3, V3, U3⟩⟩
  rw [wp_bind, k0_part1_eq_skeleton]
  unfold k0_part1_skel
  rw [wp_bind]
  iapply (wp_page c pt 0 (pgIx ⟨t.val, t1_lt hv t⟩ 0) (off1_eq  hv t (r := 0#32) (by decide))) $$ HT
  iintro HT
  rw [wp_bind]
  iapply (wp_asm c (P := k0_chk2 i _) ⟨fun _ => (pageW rfl (hpt _)).1, fun _ => (pageW rfl (hpt _)).2⟩)
  rw [wp_bind]
  iapply (wp_page c pt 0 (pgIx ⟨t.val, t1_lt hv t⟩ 1) (off1_eq  hv t (r := 1#32) (by decide))) $$ HT
  iintro HT
  rw [wp_bind]
  iapply (wp_asm c (P := k0_chk3 i _) ⟨fun _ => (pageW rfl (hpt _)).1, fun _ => (pageW rfl (hpt _)).2⟩)
  rw [wp_bind]
  iapply (wp_page c pt 0 (pgIx ⟨t.val, t1_lt hv t⟩ 2) (off1_eq  hv t (r := 2#32) (by decide))) $$ HT
  iintro HT
  rw [wp_bind]
  iapply (wp_asm c (P := k0_chk4 i _) ⟨fun _ => (pageW rfl (hpt _)).1, fun _ => (pageW rfl (hpt _)).2⟩)
  rw [wp_bind]
  iapply (wp_page c pt 0 (pgIx ⟨t.val, t1_lt hv t⟩ 3) (off1_eq  hv t (r := 3#32) (by decide))) $$ HT
  iintro HT
  rw [wp_bind]
  iapply (wp_asm c (P := k0_chk5 i _) ⟨fun _ => (pageW rfl (hpt _)).1, fun _ => (pageW rfl (hpt _)).2⟩)
  rw [wp_bind]
  iapply (wp_issueK c pk (rowOf pt 0) 0 (pgIx ⟨t.val, t1_lt hv t⟩ 0) ⟨t.val, t1_lt hv t⟩
    (D := delivs c pk pv (rowOf pt 0) 0 ⟨t.val, t1_lt hv t⟩) (k := 0) (by decide) .rfl
    (off3_eq  hv t) (rowOf_off pt hpt) (off2_eq  hv t)) $$ [K0 T0 HB]
  · isplitl [K0]; · iexact K0
    isplitl [T0]; · iexact T0
    iexact HB
  iintro ⟨T0, HB⟩
  rw [wp_pureK]
  imodintro
  rw [wp_bind, k0_part2_eq_skeleton]
  unfold k0_part2_skel
  rw [wp_bind]
  iapply (wp_issueV c pv (rowOf pt 0) 0 (pgIx ⟨t.val, t1_lt hv t⟩ 0) ⟨t.val, t1_lt hv t⟩
    (D := delivs c pk pv (rowOf pt 0) 0 ⟨t.val, t1_lt hv t⟩) (k := 1) (by decide) .rfl
    (off6_eq  hv t (r := 0#32) (by decide)) (rowOf_off pt hpt) (off5_eq  hv t)) $$ [V0 U0 HB]
  · isplitl [V0]; · iexact V0
    isplitl [U0]; · iexact U0
    iexact HB
  iintro ⟨U0, HB⟩
  rw [wp_bind]
  iapply (wp_issueK c pk (rowOf pt 0) 0 (pgIx ⟨t.val, t1_lt hv t⟩ 1) ⟨t.val, t1_lt hv t⟩
    (D := delivs c pk pv (rowOf pt 0) 0 ⟨t.val, t1_lt hv t⟩) (k := 2) (by decide) .rfl
    (off6_eq  hv t (r := 1#32) (by decide)) (rowOf_off pt hpt) (off5_eq  hv t)) $$ [K1 T1 HB]
  · isplitl [K1]; · iexact K1
    isplitl [T1]; · iexact T1
    iexact HB
  iintro ⟨T1, HB⟩
  rw [wp_bind]
  iapply (wp_issueV c pv (rowOf pt 0) 0 (pgIx ⟨t.val, t1_lt hv t⟩ 1) ⟨t.val, t1_lt hv t⟩
    (D := delivs c pk pv (rowOf pt 0) 0 ⟨t.val, t1_lt hv t⟩) (k := 3) (by decide) .rfl
    (off9_eq  hv t (r := 1#32) (by decide)) (rowOf_off pt hpt) (off8_eq  hv t)) $$ [V1 U1 HB]
  · isplitl [V1]; · iexact V1
    isplitl [U1]; · iexact U1
    iexact HB
  iintro ⟨U1, HB⟩
  rw [wp_bind]
  iapply (wp_issueK c pk (rowOf pt 0) 0 (pgIx ⟨t.val, t1_lt hv t⟩ 2) ⟨t.val, t1_lt hv t⟩
    (D := delivs c pk pv (rowOf pt 0) 0 ⟨t.val, t1_lt hv t⟩) (k := 4) (by decide) .rfl
    (off9_eq  hv t (r := 2#32) (by decide)) (rowOf_off pt hpt) (off8_eq  hv t)) $$ [K2 T2 HB]
  · isplitl [K2]; · iexact K2
    isplitl [T2]; · iexact T2
    iexact HB
  iintro ⟨T2, HB⟩
  rw [wp_pureK]
  imodintro
  rw [wp_bind]
  iapply (wp_issueV c pv (rowOf pt 0) 0 (pgIx ⟨t.val, t1_lt hv t⟩ 2) ⟨t.val, t1_lt hv t⟩
    (D := delivs c pk pv (rowOf pt 0) 0 ⟨t.val, t1_lt hv t⟩) (k := 5) (by decide) .rfl
    (off12_eq  hv t (r := 2#32) (by decide)) (rowOf_off pt hpt) (off11_eq  hv t)) $$ [V2 U2 HB]
  · isplitl [V2]; · iexact V2
    isplitl [U2]; · iexact U2
    iexact HB
  iintro ⟨U2, HB⟩
  rw [wp_bind]
  iapply (wp_issueK c pk (rowOf pt 0) 0 (pgIx ⟨t.val, t1_lt hv t⟩ 3) ⟨t.val, t1_lt hv t⟩
    (D := delivs c pk pv (rowOf pt 0) 0 ⟨t.val, t1_lt hv t⟩) (k := 6) (by decide) .rfl
    (off12_eq  hv t (r := 3#32) (by decide)) (rowOf_off pt hpt) (off11_eq  hv t)) $$ [K3 T3 HB]
  · isplitl [K3]; · iexact K3
    isplitl [T3]; · iexact T3
    iexact HB
  iintro ⟨T3, HB⟩
  rw [wp_bind]
  iapply (wp_issueV c pv (rowOf pt 0) 0 (pgIx ⟨t.val, t1_lt hv t⟩ 3) ⟨t.val, t1_lt hv t⟩
    (D := delivs c pk pv (rowOf pt 0) 0 ⟨t.val, t1_lt hv t⟩) (k := 7) (by decide) .rfl
    (off15_eq  hv t) (rowOf_off pt hpt) (off14_eq  hv t)) $$ [V3 U3 HB]
  · isplitl [V3]; · iexact V3
    isplitl [U3]; · iexact U3
    iexact HB
  iintro ⟨U3, HB⟩
  rw [wp_pureK]
  imodintro
  isplitr [HT]
  · unfold CellPend
    isplitl [HB]; · iexact HB
    isplitl [T0 U0]; · isplitl [T0] <;> iassumption
    isplitl [T1 U1]; · isplitl [T1] <;> iassumption
    isplitl [T2 U2]; · isplitl [T2] <;> iassumption
    isplitl [T3] <;> iassumption
  · iexact HT

set_option maxHeartbeats 4000000 in
/-- A trip of the fetch of the next sequence. -/
theorem fetch3 (hpt : ∀ x, (pt x).toNat < 2048) (v : BitVec 32) (hv : v.toNat ≤ 8192) (hc : k0_cond2 i = 1#1)
    (w335 : BitVec 32) (hw : k0_chk10 i v) (t : Fin (k0_t3_loop v).trips) :
    iprop(CellIdle c pk pv ⟨1 - (i 0).val % 2, omod2 _⟩ ⟨t.val, t3_lt hv t⟩ ∗ TabP (F := F) c pt)
      ⊢ wp (M := 𝕄) frame (wpE (defs₀ (F := F)) Variants.none (Dev.tc c : Thread nD τ) none) Set.univ (k0_t3_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 hc w335 v hw t ⟨⟩)
        (fun _ => iprop(CellPend c pk pv (rowOf pt ⟨(i 0).val + 1, (cond2_iff i).1 hc⟩) ⟨1 - (i 0).val % 2, omod2 _⟩ ⟨t.val, t3_lt hv t⟩ ∗ TabP (F := F) c pt)) := by
  iintro ⟨HC, HT⟩
  unfold k0_t3_body
  imod (cellOpen c pk pv (rowOf pt ⟨(i 0).val + 1, (cond2_iff i).1 hc⟩) ⟨1 - (i 0).val % 2, omod2 _⟩ ⟨t.val, t3_lt hv t⟩) $$ HC with ⟨HB, ⟨K0, T0, V0, U0⟩, ⟨K1, T1, V1, U1⟩, ⟨K2, T2, V2, U2⟩, ⟨K3, T3, V3, U3⟩⟩
  rw [wp_bind, k0_part5_eq_skeleton]
  unfold k0_part5_skel
  rw [wp_bind]
  iapply (wp_page c pt ⟨(i 0).val + 1, (cond2_iff i).1 hc⟩ (pgIx ⟨t.val, t3_lt hv t⟩ 0) (off32_eq i hv t (r := 0#32) (by decide))) $$ HT
  iintro HT
  rw [wp_bind]
  iapply (wp_asm c (P := k0_chk11 i _) ⟨fun _ => (pageW rfl (hpt _)).1, fun _ => (pageW rfl (hpt _)).2⟩)
  rw [wp_bind]
  iapply (wp_page c pt ⟨(i 0).val + 1, (cond2_iff i).1 hc⟩ (pgIx ⟨t.val, t3_lt hv t⟩ 1) (off32_eq i hv t (r := 1#32) (by decide))) $$ HT
  iintro HT
  rw [wp_bind]
  iapply (wp_asm c (P := k0_chk12 i _) ⟨fun _ => (pageW rfl (hpt _)).1, fun _ => (pageW rfl (hpt _)).2⟩)
  rw [wp_bind]
  iapply (wp_page c pt ⟨(i 0).val + 1, (cond2_iff i).1 hc⟩ (pgIx ⟨t.val, t3_lt hv t⟩ 2) (off32_eq i hv t (r := 2#32) (by decide))) $$ HT
  iintro HT
  rw [wp_bind]
  iapply (wp_asm c (P := k0_chk13 i _) ⟨fun _ => (pageW rfl (hpt _)).1, fun _ => (pageW rfl (hpt _)).2⟩)
  rw [wp_bind]
  iapply (wp_page c pt ⟨(i 0).val + 1, (cond2_iff i).1 hc⟩ (pgIx ⟨t.val, t3_lt hv t⟩ 3) (off32_eq i hv t (r := 3#32) (by decide))) $$ HT
  iintro HT
  rw [wp_bind]
  iapply (wp_asm c (P := k0_chk14 i _) ⟨fun _ => (pageW rfl (hpt _)).1, fun _ => (pageW rfl (hpt _)).2⟩)
  rw [wp_bind]
  iapply (wp_issueK c pk (rowOf pt ⟨(i 0).val + 1, (cond2_iff i).1 hc⟩) ⟨1 - (i 0).val % 2, omod2 _⟩ (pgIx ⟨t.val, t3_lt hv t⟩ 0) ⟨t.val, t3_lt hv t⟩
    (D := delivs c pk pv (rowOf pt ⟨(i 0).val + 1, (cond2_iff i).1 hc⟩) ⟨1 - (i 0).val % 2, omod2 _⟩ ⟨t.val, t3_lt hv t⟩) (k := 0) (by decide) .rfl
    (off34_eq i hv t) (rowOf_off pt hpt) (off33_eq i hv t)) $$ [K0 T0 HB]
  · isplitl [K0]; · iexact K0
    isplitl [T0]; · iexact T0
    iexact HB
  iintro ⟨T0, HB⟩
  rw [wp_bind]
  iapply (wp_issueV c pv (rowOf pt ⟨(i 0).val + 1, (cond2_iff i).1 hc⟩) ⟨1 - (i 0).val % 2, omod2 _⟩ (pgIx ⟨t.val, t3_lt hv t⟩ 0) ⟨t.val, t3_lt hv t⟩
    (D := delivs c pk pv (rowOf pt ⟨(i 0).val + 1, (cond2_iff i).1 hc⟩) ⟨1 - (i 0).val % 2, omod2 _⟩ ⟨t.val, t3_lt hv t⟩) (k := 1) (by decide) .rfl
    (off37_eq i hv t (r := 0#32) (by decide)) (rowOf_off pt hpt) (off36_eq i hv t)) $$ [V0 U0 HB]
  · isplitl [V0]; · iexact V0
    isplitl [U0]; · iexact U0
    iexact HB
  iintro ⟨U0, HB⟩
  rw [wp_pureK]
  imodintro
  rw [wp_bind, k0_part6_eq_skeleton]
  unfold k0_part6_skel
  rw [wp_bind]
  iapply (wp_issueK c pk (rowOf pt ⟨(i 0).val + 1, (cond2_iff i).1 hc⟩) ⟨1 - (i 0).val % 2, omod2 _⟩ (pgIx ⟨t.val, t3_lt hv t⟩ 1) ⟨t.val, t3_lt hv t⟩
    (D := delivs c pk pv (rowOf pt ⟨(i 0).val + 1, (cond2_iff i).1 hc⟩) ⟨1 - (i 0).val % 2, omod2 _⟩ ⟨t.val, t3_lt hv t⟩) (k := 2) (by decide) .rfl
    (off37_eq i hv t (r := 1#32) (by decide)) (rowOf_off pt hpt) (off36_eq i hv t)) $$ [K1 T1 HB]
  · isplitl [K1]; · iexact K1
    isplitl [T1]; · iexact T1
    iexact HB
  iintro ⟨T1, HB⟩
  rw [wp_bind]
  iapply (wp_issueV c pv (rowOf pt ⟨(i 0).val + 1, (cond2_iff i).1 hc⟩) ⟨1 - (i 0).val % 2, omod2 _⟩ (pgIx ⟨t.val, t3_lt hv t⟩ 1) ⟨t.val, t3_lt hv t⟩
    (D := delivs c pk pv (rowOf pt ⟨(i 0).val + 1, (cond2_iff i).1 hc⟩) ⟨1 - (i 0).val % 2, omod2 _⟩ ⟨t.val, t3_lt hv t⟩) (k := 3) (by decide) .rfl
    (off40_eq i hv t (r := 1#32) (by decide)) (rowOf_off pt hpt) (off39_eq i hv t)) $$ [V1 U1 HB]
  · isplitl [V1]; · iexact V1
    isplitl [U1]; · iexact U1
    iexact HB
  iintro ⟨U1, HB⟩
  rw [wp_bind]
  iapply (wp_issueK c pk (rowOf pt ⟨(i 0).val + 1, (cond2_iff i).1 hc⟩) ⟨1 - (i 0).val % 2, omod2 _⟩ (pgIx ⟨t.val, t3_lt hv t⟩ 2) ⟨t.val, t3_lt hv t⟩
    (D := delivs c pk pv (rowOf pt ⟨(i 0).val + 1, (cond2_iff i).1 hc⟩) ⟨1 - (i 0).val % 2, omod2 _⟩ ⟨t.val, t3_lt hv t⟩) (k := 4) (by decide) .rfl
    (off40_eq i hv t (r := 2#32) (by decide)) (rowOf_off pt hpt) (off39_eq i hv t)) $$ [K2 T2 HB]
  · isplitl [K2]; · iexact K2
    isplitl [T2]; · iexact T2
    iexact HB
  iintro ⟨T2, HB⟩
  dsimp only
  iapply (wp_issueV c pv (rowOf pt ⟨(i 0).val + 1, (cond2_iff i).1 hc⟩) ⟨1 - (i 0).val % 2, omod2 _⟩ (pgIx ⟨t.val, t3_lt hv t⟩ 2) ⟨t.val, t3_lt hv t⟩
    (D := delivs c pk pv (rowOf pt ⟨(i 0).val + 1, (cond2_iff i).1 hc⟩) ⟨1 - (i 0).val % 2, omod2 _⟩ ⟨t.val, t3_lt hv t⟩) (k := 5) (by decide) .rfl
    (off43_eq i hv t (r := 2#32) (by decide)) (rowOf_off pt hpt) (off42_eq i hv t)) $$ [V2 U2 HB]
  · isplitl [V2]; · iexact V2
    isplitl [U2]; · iexact U2
    iexact HB
  iintro ⟨U2, HB⟩
  rw [wp_bind]
  iapply (wp_issueK c pk (rowOf pt ⟨(i 0).val + 1, (cond2_iff i).1 hc⟩) ⟨1 - (i 0).val % 2, omod2 _⟩ (pgIx ⟨t.val, t3_lt hv t⟩ 3) ⟨t.val, t3_lt hv t⟩
    (D := delivs c pk pv (rowOf pt ⟨(i 0).val + 1, (cond2_iff i).1 hc⟩) ⟨1 - (i 0).val % 2, omod2 _⟩ ⟨t.val, t3_lt hv t⟩) (k := 6) (by decide) .rfl
    (off43_eq i hv t (r := 3#32) (by decide)) (rowOf_off pt hpt) (off42_eq i hv t)) $$ [K3 T3 HB]
  · isplitl [K3]; · iexact K3
    isplitl [T3]; · iexact T3
    iexact HB
  iintro ⟨T3, HB⟩
  rw [wp_bind]
  iapply (wp_issueV c pv (rowOf pt ⟨(i 0).val + 1, (cond2_iff i).1 hc⟩) ⟨1 - (i 0).val % 2, omod2 _⟩ (pgIx ⟨t.val, t3_lt hv t⟩ 3) ⟨t.val, t3_lt hv t⟩
    (D := delivs c pk pv (rowOf pt ⟨(i 0).val + 1, (cond2_iff i).1 hc⟩) ⟨1 - (i 0).val % 2, omod2 _⟩ ⟨t.val, t3_lt hv t⟩) (k := 7) (by decide) .rfl
    (off46_eq i hv t) (rowOf_off pt hpt) (off45_eq i hv t)) $$ [V3 U3 HB]
  · isplitl [V3]; · iexact V3
    isplitl [U3]; · iexact U3
    iexact HB
  iintro ⟨U3, HB⟩
  rw [wp_pureK]
  imodintro
  isplitr [HT]
  · unfold CellPend
    isplitl [HB]; · iexact HB
    isplitl [T0 U0]; · isplitl [T0] <;> iassumption
    isplitl [T1 U1]; · isplitl [T1] <;> iassumption
    isplitl [T2 U2]; · isplitl [T2] <;> iassumption
    isplitl [T3] <;> iassumption
  · iexact HT

end Cert.Kernel.Hand
-- ==== Proof.Kn.Comp.lean ====
module

public import proofs.«01_k».proof.Proof.Kn.Fetch

/-!
# One trip of the attention loops

A trip waits for the eight copies of its block, reads the block's keys and values, and folds them into the running
maximum, the running sum and the accumulator.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Memref (whole isWhole_whole)
open Idealize.ShloMosaic.ValueIdx
open Idealize.ShloMosaic.RefSig (tileCredit)
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (pk pv : S2048x2x128x128.Idx → Elt F .fp8e4m3) (pt : S32x64.Idx → BitVec 32)
  (sl : S32.Idx → BitVec 32)

/-- A block of four pages, one head of it. -/
def blkOf (pool : S2048x2x128x128.Idx → Elt F .fp8e4m3) (row : Fin 64 → Fin 2048) (j : Fin 16) (g : Fin 2) :
    S1x4x1x128x128.Idx → Elt F .fp8e4m3 := fun x => pool (ix4 (row (pgIx j (x 1))) g (x 3) (x 4))

theorem blkEmb (s : Fin 2) (j : Fin 16) (g : Fin 2) {inb : ∀ a, (![s.val, 4 * j.val, g.val, 0, 0] : Fin 5 → ℕ) a + S1x4x1x128x128.size a ≤ S2x64x2x128x128.size a}
    (x : S1x4x1x128x128.Idx) : (Rect.unit (s := S2x64x2x128x128) ![s.val, 4 * j.val, g.val, 0, 0] S1x4x1x128x128.size inb).emb x
      = ix5 s (pgIx j (x 1)) g (x 3) (x 4) := by
  have h0 : (x 0).val = 0 := by have := (x 0).isLt; change _ < 1 at this; omega
  have h2 : (x 2).val = 0 := by have := (x 2).isLt; change _ < 1 at this; omega
  refine funext fun a => Fin.ext ?_
  fin_cases a
  · show s.val + 1 * (x 0).val = s.val; omega
  · show 4 * j.val + 1 * (x 1).val = 4 * j.val + (x 1).val; omega
  · show g.val + 1 * (x 2).val = g.val; omega
  · show 0 + 1 * (x 3).val = (x 3).val; omega
  · show 0 + 1 * (x 4).val = (x 4).val; omega

theorem kSl_disj (s : Fin 2) {p p' : Fin 64} (h : p ≠ p') :
    Disjoint (α := Finset S2x64x2x128x128.Idx) (kSl s p).view.set (kSl s p').view.set := by
  refine Finset.disjoint_left.mpr fun x hx hy => h ?_
  exact ((mem_kSl s p x).1 hx).2.symm.trans ((mem_kSl s p' x).1 hy).2

/-- Reading a landed block of `k`. -/
theorem wp_kload (pool : S2048x2x128x128.Idx → Elt F .fp8e4m3) (row : Fin 64 → Fin 2048) (s : Fin 2) (j : Fin 16) (g : Fin 2) {o : Fin 5 → ℕ} (ho : o = ![s.val, 4 * j.val, g.val, 0, 0])
    {inb : ∀ a, o a + S1x4x1x128x128.size a ≤ S2x64x2x128x128.size a} {hl} {Q : (S1x4x1x128x128.Idx → Elt F .fp8e4m3) → sProp 𝕄} :
    iprop(kGot c pool row s (pgIx j 0) ∗ kGot c pool row s (pgIx j 1) ∗ kGot c pool row s (pgIx j 2) ∗ kGot c pool row s (pgIx j 3))
      ⊢ iprop((iprop(kGot c pool row s (pgIx j 0) ∗ kGot c pool row s (pgIx j 1) ∗ kGot c pool row s (pgIx j 2) ∗ kGot c pool row s (pgIx j 3)) -∗ Q (blkOf pool row j g)) -∗
        wp (M := 𝕄) frame (wpE (defs₀ (F := F)) Variants.none (Dev.tc c : Thread nD τ) none) Set.univ (Prog.lift (.load (whole cc0_scratch0) (Rect.unit (s := S2x64x2x128x128) o S1x4x1x128x128.size inb).toLoadRect hl)) Q) := by
  subst ho
  have hne : ∀ a b : Fin 4, a ≠ b → pgIx j a ≠ pgIx j b := fun a b h e => h (by
    have := congrArg Fin.val e; unfold pgIx at this; dsimp only at this; exact Fin.ext (by omega))
  have d01 : Disjoint (α := Finset S2x64x2x128x128.Idx) (kSl s (pgIx j 0)).view.set (kSl s (pgIx j 1)).view.set := kSl_disj s (hne 0 1 (by decide))
  have d02 : Disjoint (α := Finset S2x64x2x128x128.Idx) (kSl s (pgIx j 0)).view.set (kSl s (pgIx j 2)).view.set := kSl_disj s (hne 0 2 (by decide))
  have d03 : Disjoint (α := Finset S2x64x2x128x128.Idx) (kSl s (pgIx j 0)).view.set (kSl s (pgIx j 3)).view.set := kSl_disj s (hne 0 3 (by decide))
  have d12 : Disjoint (α := Finset S2x64x2x128x128.Idx) (kSl s (pgIx j 1)).view.set (kSl s (pgIx j 2)).view.set := kSl_disj s (hne 1 2 (by decide))
  have d13 : Disjoint (α := Finset S2x64x2x128x128.Idx) (kSl s (pgIx j 1)).view.set (kSl s (pgIx j 3)).view.set := kSl_disj s (hne 1 3 (by decide))
  have d23 : Disjoint (α := Finset S2x64x2x128x128.Idx) (kSl s (pgIx j 2)).view.set (kSl s (pgIx j 3)).view.set := kSl_disj s (hne 2 3 (by decide))
  have e1 := pointsTo_union (Val := Elt F) (Name := ℕ) (U := Pipeline.UD sig nD τ) (Lvl := ℕ) (Ix := Unit) (ℓ := ((c : Thread nD τ).loc cc0_scratch0)) (q := fullShare) (f := kTgt pool row) d23
  have e2 := pointsTo_union (Val := Elt F) (Name := ℕ) (U := Pipeline.UD sig nD τ) (Lvl := ℕ) (Ix := Unit) (ℓ := ((c : Thread nD τ).loc cc0_scratch0)) (q := fullShare) (f := kTgt pool row) (Finset.disjoint_union_right.mpr ⟨d12, d13⟩)
  have e3 := pointsTo_union (Val := Elt F) (Name := ℕ) (U := Pipeline.UD sig nD τ) (Lvl := ℕ) (Ix := Unit) (ℓ := ((c : Thread nD τ).loc cc0_scratch0)) (q := fullShare) (f := kTgt pool row) (Finset.disjoint_union_right.mpr ⟨d01, Finset.disjoint_union_right.mpr ⟨d02, d03⟩⟩)
  have e : iprop(kGot c pool row s (pgIx j 0) ∗ kGot c pool row s (pgIx j 1) ∗ kGot c pool row s (pgIx j 2) ∗ kGot c pool row s (pgIx j 3)) ⊣⊢ (((c : Thread nD τ).loc cc0_scratch0) ↦[(kSl s (pgIx j 0)).view.set ∪ ((kSl s (pgIx j 1)).view.set ∪ ((kSl s (pgIx j 2)).view.set ∪ (kSl s (pgIx j 3)).view.set))]{fullShare} (kTgt pool row : Buf (Elt F) ((c : Thread nD τ).loc cc0_scratch0)) : sProp 𝕄) := by
    constructor
    · iintro ⟨H0, H1, H2, H3⟩
      iapply e3.2
      isplitl [H0]; · iexact H0
      iapply e2.2
      isplitl [H1]; · iexact H1
      iapply e1.2
      isplitl [H2]; · iexact H2
      iexact H3
    · exact e3.1.trans (sep_mono_right (e2.1.trans (sep_mono_right e1.1)))
  have hS : (whole cc0_scratch0).view.setOn (Rect.unit (s := S2x64x2x128x128) ![s.val, 4 * j.val, g.val, 0, 0] S1x4x1x128x128.size inb).toLoadRect.set
      ⊆ ((kSl s (pgIx j 0)).view.set ∪ ((kSl s (pgIx j 1)).view.set ∪ ((kSl s (pgIx j 2)).view.set ∪ (kSl s (pgIx j 3)).view.set)) : Finset S2x64x2x128x128.Idx) := by
    intro y hy
    obtain ⟨y', hy', rfl⟩ := Finset.mem_map.mp hy
    have hx := (LoadRect.mem_set (r := (Rect.unit (s := S2x64x2x128x128) ![s.val, 4 * j.val, g.val, 0, 0] S1x4x1x128x128.size inb).toLoadRect)).mp hy'
    obtain ⟨k0, hk0, he0⟩ := hx 0
    obtain ⟨k1, hk1, he1⟩ := hx 1
    change k0 < 1 at hk0
    change k1 < 4 at hk1
    change _ = s.val + 1 * k0 at he0
    change _ = 4 * j.val + 1 * k1 at he1
    have hm : ∀ q : Fin 4, k1 = q.val → Membership.mem (γ := Finset S2x64x2x128x128.Idx) (kSl s (pgIx j q)).view.set y' := fun q hq =>
      (mem_kSl s (pgIx j q) y').2 ⟨Fin.ext (by rw [he0]; omega), Fin.ext (by rw [he1, hq]; show _ = 4 * j.val + q.val; omega)⟩
    obtain ⟨q, hq⟩ : ∃ q : Fin 4, k1 = q.val := ⟨⟨k1, hk1⟩, rfl⟩
    have hm := hm q hq
    fin_cases q
    · exact Finset.mem_union_left _ hm
    · exact Finset.mem_union_right _ (Finset.mem_union_left _ hm)
    · exact Finset.mem_union_right _ (Finset.mem_union_right _ (Finset.mem_union_left _ hm))
    · exact Finset.mem_union_right _ (Finset.mem_union_right _ (Finset.mem_union_right _ hm))
  iintro H HQ
  ihave HU := e.1 $$ H
  iapply (wp_load (defs := defs₀ (F := F)) Variants.none (c : Thread nD τ) none Set.univ (m := whole cc0_scratch0) (r := (Rect.unit (s := S2x64x2x128x128) ![s.val, 4 * j.val, g.val, 0, 0] S1x4x1x128x128.size inb).toLoadRect) (q := fullShare) (f := kTgt pool row) hS) $$ HU
  iintro HU
  rw [wp_ret]
  imodintro
  have er : (whole cc0_scratch0).view.readAt (Elt F) (Rect.unit (s := S2x64x2x128x128) ![s.val, 4 * j.val, g.val, 0, 0] S1x4x1x128x128.size inb).toLoadRect (kTgt pool row) = blkOf pool row j g := by
    funext x
    have := congrArg (kTgt pool row) (blkEmb s j g (inb := inb) x)
    exact this
  rw [er]
  iapply HQ
  iapply e.2
  iexact HU

theorem vSl_disj (s : Fin 2) {p p' : Fin 64} (h : p ≠ p') :
    Disjoint (α := Finset S2x64x2x128x128.Idx) (vSl s p).view.set (vSl s p').view.set := by
  refine Finset.disjoint_left.mpr fun x hx hy => h ?_
  exact ((mem_vSl s p x).1 hx).2.symm.trans ((mem_vSl s p' x).1 hy).2

/-- Reading a landed block of `v`. -/
theorem wp_vload (pool : S2048x2x128x128.Idx → Elt F .fp8e4m3) (row : Fin 64 → Fin 2048) (s : Fin 2) (j : Fin 16) (g : Fin 2) {o : Fin 5 → ℕ} (ho : o = ![s.val, 4 * j.val, g.val, 0, 0])
    {inb : ∀ a, o a + S1x4x1x128x128.size a ≤ S2x64x2x128x128.size a} {hl} {Q : (S1x4x1x128x128.Idx → Elt F .fp8e4m3) → sProp 𝕄} :
    iprop(vGot c pool row s (pgIx j 0) ∗ vGot c pool row s (pgIx j 1) ∗ vGot c pool row s (pgIx j 2) ∗ vGot c pool row s (pgIx j 3))
      ⊢ iprop((iprop(vGot c pool row s (pgIx j 0) ∗ vGot c pool row s (pgIx j 1) ∗ vGot c pool row s (pgIx j 2) ∗ vGot c pool row s (pgIx j 3)) -∗ Q (blkOf pool row j g)) -∗
        wp (M := 𝕄) frame (wpE (defs₀ (F := F)) Variants.none (Dev.tc c : Thread nD τ) none) Set.univ (Prog.lift (.load (whole cc0_scratch1) (Rect.unit (s := S2x64x2x128x128) o S1x4x1x128x128.size inb).toLoadRect hl)) Q) := by
  subst ho
  have hne : ∀ a b : Fin 4, a ≠ b → pgIx j a ≠ pgIx j b := fun a b h e => h (by
    have := congrArg Fin.val e; unfold pgIx at this; dsimp only at this; exact Fin.ext (by omega))
  have d01 : Disjoint (α := Finset S2x64x2x128x128.Idx) (vSl s (pgIx j 0)).view.set (vSl s (pgIx j 1)).view.set := vSl_disj s (hne 0 1 (by decide))
  have d02 : Disjoint (α := Finset S2x64x2x128x128.Idx) (vSl s (pgIx j 0)).view.set (vSl s (pgIx j 2)).view.set := vSl_disj s (hne 0 2 (by decide))
  have d03 : Disjoint (α := Finset S2x64x2x128x128.Idx) (vSl s (pgIx j 0)).view.set (vSl s (pgIx j 3)).view.set := vSl_disj s (hne 0 3 (by decide))
  have d12 : Disjoint (α := Finset S2x64x2x128x128.Idx) (vSl s (pgIx j 1)).view.set (vSl s (pgIx j 2)).view.set := vSl_disj s (hne 1 2 (by decide))
  have d13 : Disjoint (α := Finset S2x64x2x128x128.Idx) (vSl s (pgIx j 1)).view.set (vSl s (pgIx j 3)).view.set := vSl_disj s (hne 1 3 (by decide))
  have d23 : Disjoint (α := Finset S2x64x2x128x128.Idx) (vSl s (pgIx j 2)).view.set (vSl s (pgIx j 3)).view.set := vSl_disj s (hne 2 3 (by decide))
  have e1 := pointsTo_union (Val := Elt F) (Name := ℕ) (U := Pipeline.UD sig nD τ) (Lvl := ℕ) (Ix := Unit) (ℓ := ((c : Thread nD τ).loc cc0_scratch1)) (q := fullShare) (f := kTgt pool row) d23
  have e2 := pointsTo_union (Val := Elt F) (Name := ℕ) (U := Pipeline.UD sig nD τ) (Lvl := ℕ) (Ix := Unit) (ℓ := ((c : Thread nD τ).loc cc0_scratch1)) (q := fullShare) (f := kTgt pool row) (Finset.disjoint_union_right.mpr ⟨d12, d13⟩)
  have e3 := pointsTo_union (Val := Elt F) (Name := ℕ) (U := Pipeline.UD sig nD τ) (Lvl := ℕ) (Ix := Unit) (ℓ := ((c : Thread nD τ).loc cc0_scratch1)) (q := fullShare) (f := kTgt pool row) (Finset.disjoint_union_right.mpr ⟨d01, Finset.disjoint_union_right.mpr ⟨d02, d03⟩⟩)
  have e : iprop(vGot c pool row s (pgIx j 0) ∗ vGot c pool row s (pgIx j 1) ∗ vGot c pool row s (pgIx j 2) ∗ vGot c pool row s (pgIx j 3)) ⊣⊢ (((c : Thread nD τ).loc cc0_scratch1) ↦[(vSl s (pgIx j 0)).view.set ∪ ((vSl s (pgIx j 1)).view.set ∪ ((vSl s (pgIx j 2)).view.set ∪ (vSl s (pgIx j 3)).view.set))]{fullShare} (kTgt pool row : Buf (Elt F) ((c : Thread nD τ).loc cc0_scratch1)) : sProp 𝕄) := by
    constructor
    · iintro ⟨H0, H1, H2, H3⟩
      iapply e3.2
      isplitl [H0]; · iexact H0
      iapply e2.2
      isplitl [H1]; · iexact H1
      iapply e1.2
      isplitl [H2]; · iexact H2
      iexact H3
    · exact e3.1.trans (sep_mono_right (e2.1.trans (sep_mono_right e1.1)))
  have hS : (whole cc0_scratch1).view.setOn (Rect.unit (s := S2x64x2x128x128) ![s.val, 4 * j.val, g.val, 0, 0] S1x4x1x128x128.size inb).toLoadRect.set
      ⊆ ((vSl s (pgIx j 0)).view.set ∪ ((vSl s (pgIx j 1)).view.set ∪ ((vSl s (pgIx j 2)).view.set ∪ (vSl s (pgIx j 3)).view.set)) : Finset S2x64x2x128x128.Idx) := by
    intro y hy
    obtain ⟨y', hy', rfl⟩ := Finset.mem_map.mp hy
    have hx := (LoadRect.mem_set (r := (Rect.unit (s := S2x64x2x128x128) ![s.val, 4 * j.val, g.val, 0, 0] S1x4x1x128x128.size inb).toLoadRect)).mp hy'
    obtain ⟨k0, hk0, he0⟩ := hx 0
    obtain ⟨k1, hk1, he1⟩ := hx 1
    change k0 < 1 at hk0
    change k1 < 4 at hk1
    change _ = s.val + 1 * k0 at he0
    change _ = 4 * j.val + 1 * k1 at he1
    have hm : ∀ q : Fin 4, k1 = q.val → Membership.mem (γ := Finset S2x64x2x128x128.Idx) (vSl s (pgIx j q)).view.set y' := fun q hq =>
      (mem_vSl s (pgIx j q) y').2 ⟨Fin.ext (by rw [he0]; omega), Fin.ext (by rw [he1, hq]; show _ = 4 * j.val + q.val; omega)⟩
    obtain ⟨q, hq⟩ : ∃ q : Fin 4, k1 = q.val := ⟨⟨k1, hk1⟩, rfl⟩
    have hm := hm q hq
    fin_cases q
    · exact Finset.mem_union_left _ hm
    · exact Finset.mem_union_right _ (Finset.mem_union_left _ hm)
    · exact Finset.mem_union_right _ (Finset.mem_union_right _ (Finset.mem_union_left _ hm))
    · exact Finset.mem_union_right _ (Finset.mem_union_right _ (Finset.mem_union_right _ hm))
  iintro H HQ
  ihave HU := e.1 $$ H
  iapply (wp_load (defs := defs₀ (F := F)) Variants.none (c : Thread nD τ) none Set.univ (m := whole cc0_scratch1) (r := (Rect.unit (s := S2x64x2x128x128) ![s.val, 4 * j.val, g.val, 0, 0] S1x4x1x128x128.size inb).toLoadRect) (q := fullShare) (f := kTgt pool row) hS) $$ HU
  iintro HU
  rw [wp_ret]
  imodintro
  have er : (whole cc0_scratch1).view.readAt (Elt F) (Rect.unit (s := S2x64x2x128x128) ![s.val, 4 * j.val, g.val, 0, 0] S1x4x1x128x128.size inb).toLoadRect (kTgt pool row) = blkOf pool row j g := by
    funext x
    have := congrArg (kTgt pool row) (blkEmb s j g (inb := inb) x)
    exact this
  rw [er]
  iapply HQ
  iapply e.2
  iexact HU

/-- The accumulator, at its contents. -/
abbrev AccAt (a : S128x1024.Idx → Elt F .f32) : sProp 𝕄 := iprop(((c : Thread nD τ).loc cc0_scratch2) ↦{fullShare} (a : Buf (Elt F) ((c : Thread nD τ).loc cc0_scratch2)))
/-- What the core owes: nothing, whatever it waited for. -/
abbrev Owe : sProp 𝕄 := iprop(∃ W, owes (c : Thread nD τ) 0 W)

theorem wp_accLoad (a : S128x1024.Idx → Elt F .f32) {hl} {Q : (S128x1024.Idx → Elt F .f32) → sProp 𝕄} :
    (AccAt c a : sProp 𝕄) ⊢ iprop((AccAt c a -∗ Q a) -∗
      wp (M := 𝕄) frame (wpE (defs₀ (F := F)) Variants.none (Dev.tc c : Thread nD τ) none) Set.univ (Prog.lift (.load (whole cc0_scratch2) (Rect.unit (s := S128x1024) ![0, 0] S128x1024.size inb_S128x1024_S128x1024_0_0).toLoadRect hl)) Q) := by
  iintro H HQ
  iapply (wp_load (defs := defs₀ (F := F)) Variants.none (c : Thread nD τ) none Set.univ (m := whole cc0_scratch2) (r := (Rect.unit (s := S128x1024) ![0, 0] S128x1024.size inb_S128x1024_S128x1024_0_0).toLoadRect) (q := fullShare) (f := a) (Finset.subset_univ _)) $$ H
  iintro H
  rw [wp_ret]
  have er : (whole cc0_scratch2).view.readAt (Elt F) (Rect.unit (s := S128x1024) ![0, 0] S128x1024.size inb_S128x1024_S128x1024_0_0).toLoadRect a = a := by
    funext x
    refine congrArg a (funext fun k => Fin.ext ?_)
    fin_cases k
    · show 0 + 1 * (x 0).val = (x 0).val; omega
    · show 0 + 1 * (x 1).val = (x 1).val; omega
  rw [er]
  imodintro
  iapply HQ
  iexact H

theorem accEmb (x : S128x1024.Idx) : ((whole cc0_scratch2).access (Rect.unit (s := S128x1024) ![0, 0] S128x1024.size inb_S128x1024_S128x1024_0_0)).emb x = x := by
  refine funext fun k => Fin.ext ?_
  fin_cases k
  · show 0 + 1 * (x 0).val = (x 0).val; omega
  · show 0 + 1 * (x 1).val = (x 1).val; omega

theorem wp_accStore (a w : S128x1024.Idx → Elt F .f32) {hx hm} {Q : PUnit → sProp 𝕄} :
    (AccAt c a : sProp 𝕄) ⊢ iprop((AccAt c w -∗ Q ⟨⟩) -∗
      wp (M := 𝕄) frame (wpE (defs₀ (F := F)) Variants.none (Dev.tc c : Thread nD τ) none) Set.univ (Prog.lift (.store (whole cc0_scratch2) (Rect.unit (s := S128x1024) ![0, 0] S128x1024.size inb_S128x1024_S128x1024_0_0) w Finset.univ hx hm)) Q) := by
  iintro H HQ
  iapply (wp_store (defs := defs₀ (F := F)) Variants.none (c : Thread nD τ) none Set.univ (m := whole cc0_scratch2) (r := (Rect.unit (s := S128x1024) ![0, 0] S128x1024.size inb_S128x1024_S128x1024_0_0)) (f := a) (Finset.subset_univ _)) $$ H
  iintro H
  have er : ((whole cc0_scratch2).access (Rect.unit (s := S128x1024) ![0, 0] S128x1024.size inb_S128x1024_S128x1024_0_0)).write (Elt F) a w Finset.univ = w := by
    funext x
    have := View.write_emb_of_mem (v := (whole cc0_scratch2).access (Rect.unit (s := S128x1024) ![0, 0] S128x1024.size inb_S128x1024_S128x1024_0_0)) a w (Finset.mem_univ x)
    rw [accEmb] at this
    exact this
  rw [er, wp_ret]
  imodintro
  iapply HQ
  iexact H

end Cert.Kernel.Hand
-- ==== Proof.Kn.Trip.lean ====
module

public import proofs.«01_k».proof.Proof.Kn.Comp

/-!
# The trips of the attention loops

A trip for the first head waits for the eight copies of its block and reads the block's keys and values; a trip for the
second head reads the other half of the block. Both fold the block into the running maximum, the running sum and the
accumulator.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Memref (whole isWhole_whole)
open Idealize.ShloMosaic.ValueIdx
open Idealize.ShloMosaic.RefSig (tileCredit)
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (pk pv : S2048x2x128x128.Idx → Elt F .fp8e4m3) (pt : S32x64.Idx → BitVec 32)
  (sl : S32.Idx → BitVec 32)

variable (i : grid0.Coords)
  (a3 : Memref sig .tc .smem S2 .f32) (h3 : a3.IsWhole) (a4 : Memref sig .tc .smem S2 .f32) (h4 : a4.IsWhole)
  (a5 : Memref sig .tc .vmem S1x128x2048 .bf16) (h5 : a5.IsWhole) (a6 a7 : Memref sig .tc .vmem S1x2x128x128 .bf16)
  (h6 : a6.IsWhole) (h7 : a7.IsWhole) (a10 : Memref sig .tc .vmem S1x128x2048 .bf16) (h10 : a10.IsWhole)
  (a11 a12 : Memref sig .tc .vmem S1x2x128x128 .fp8e4m3) (h11 : a11.IsWhole) (h12 : a12.IsWhole)

/-- Running maximum, running sum and accumulator. -/
abbrev St (F : FTy → Type) [FloatOps F] := FVec F S1x1024 .f32 × FVec F S1x1024 .f32 × FVec F S128x1024 .f32

/-- Folding in a block every position of which counts. -/
def stepU (v13 v14 : Elt F .f32) (q : FVec F S1024x128 .bf16) (kb vb : Vec F S1x4x1x128x128 .fp8e4m3) (S : St F) : St F :=
  (k0_pay6 v13 q S.1 kb, k0_pay70 S.1 S.2.1 (k0_pay7 v13 q S.1 kb) (k0_pay8 v13 q S.1 kb),
    k0_pay71 S.1 (k0_pay4 v14 vb) (k0_pay7 v13 q S.1 kb) (k0_pay8 v13 q S.1 kb) S.2.2)

/-- Folding in block `b`, the positions below the length `v9` counting. -/
def stepM (v9 : Elt F .i32) (v13 v14 : Elt F .f32) (q : FVec F S1024x128 .bf16) (b : BitVec 32)
    (kb vb : Vec F S1x4x1x128x128 .fp8e4m3) (S : St F) : St F :=
  (k0_pay75 S.1 (k0_pay16 v9 v13 q b kb), k0_pay79 S.1 S.2.1 (k0_pay15 v9 v13 q b kb) (k0_pay16 v9 v13 q b kb),
    k0_pay80 S.1 (k0_pay14 v14 vb) (k0_pay15 v9 v13 q b kb) (k0_pay16 v9 v13 q b kb) S.2.2)

theorem stepU_snd (v13 v14 : Elt F .f32) (q : FVec F S1024x128 .bf16) (kb vb : Vec F S1x4x1x128x128 .fp8e4m3) (S : St F) :
    (k0_pay21 v13 q S.1 kb, k0_pay25 v13 q S.1 S.2.1 kb, k0_pay114 (k0_pay24 v13 q S.1 kb) (k0_pay26 v13 v14 q S.1 kb vb) S.2.2) = stepU v13 v14 q kb vb S := rfl

theorem stepM_snd (v9 : Elt F .i32) (v10 : BitVec 32) (v13 v14 : Elt F .f32) (q : FVec F S1024x128 .bf16) (t : Fin (k0_t11_loop v9).trips)
    (kb vb : Vec F S1x4x1x128x128 .fp8e4m3) (S : St F) :
    (k0_pay36 v9 v10 v13 q 1#32 t S.1 kb, k0_pay116 (k0_pay38 v9 v10 v13 q 1#32 t S.1 kb) (k0_pay40 v9 v10 v13 q 1#32 t S.1 S.2.1 kb),
      k0_pay117 (k0_pay34 v14 vb) (k0_pay38 v9 v10 v13 q 1#32 t S.1 kb) (k0_pay39 v9 v10 v13 q 1#32 t S.1 kb) S.2.2)
      = stepM v9 v13 v14 q (Scf.iv v10 1#32 t) kb vb S := rfl

set_option maxHeartbeats 4000000 in
/-- A trip for the first head, a full block. -/
theorem trip5 (hpt : ∀ x, (pt x).toNat < 2048) (v : BitVec 32) (hv : v.toNat ≤ 8192) (hw : k0_chk19 i v) (arg0 v0 v10 v12 : BitVec 32) (v13 v14 : Elt F .f32) (q : FVec F S1024x128 .bf16) (v84 v95 v99 : FVec F S1x1024 .f32) (v101 : FVec F S128x1024 .f32)
    (t : Fin (k0_t5_loop v).trips) (S : St F) :
    iprop(CellPend c pk pv (rowOf pt ⟨(i 0).val, iLt i⟩) ⟨(i 0).val % 2, mod2 _⟩ ⟨t.val, t5_lt hv t⟩ ∗ TabP (F := F) c pt ∗ AccAt c S.2.2 ∗ Owe (F := F) c)
      ⊢ wp (M := 𝕄) frame (wpE (defs₀ (F := F)) Variants.none (Dev.tc c : Thread nD τ) none) Set.univ (k0_t5_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 arg0 v0 v hw v10 v12 v13 v14 q v84 v95 v99 v101 t (S.1, S.2.1))
        (fun r => iprop(CellGot c pk pv (rowOf pt ⟨(i 0).val, iLt i⟩) ⟨(i 0).val % 2, mod2 _⟩ ⟨t.val, t5_lt hv t⟩ ∗ TabP (F := F) c pt ∗ AccAt c (stepU v13 v14 q (blkOf pk (rowOf pt ⟨(i 0).val, iLt i⟩) ⟨t.val, t5_lt hv t⟩ 0) (blkOf pv (rowOf pt ⟨(i 0).val, iLt i⟩) ⟨t.val, t5_lt hv t⟩ 0) S).2.2 ∗ Owe (F := F) c
          ∗ ⌜r = ((stepU v13 v14 q (blkOf pk (rowOf pt ⟨(i 0).val, iLt i⟩) ⟨t.val, t5_lt hv t⟩ 0) (blkOf pv (rowOf pt ⟨(i 0).val, iLt i⟩) ⟨t.val, t5_lt hv t⟩ 0) S).1, (stepU v13 v14 q (blkOf pk (rowOf pt ⟨(i 0).val, iLt i⟩) ⟨t.val, t5_lt hv t⟩ 0) (blkOf pv (rowOf pt ⟨(i 0).val, iLt i⟩) ⟨t.val, t5_lt hv t⟩ 0) S).2.1)⌝)) := by
  iintro ⟨HC, HT, HA, ⟨%W, HW⟩⟩
  unfold k0_t5_body CellPend
  icases HC with ⟨HB, R0, R1, R2, R3⟩
  rw [wp_bind, k0_part9_eq_skeleton]
  unfold k0_part9_skel
  rw [wp_bind]
  iapply (wp_page c pt ⟨(i 0).val, iLt i⟩ (pgIx ⟨t.val, t5_lt hv t⟩ 0) (off63_eq i hv t (r := 0#32) (by decide))) $$ HT
  iintro HT
  rw [wp_bind]
  iapply (wp_asm c (P := k0_chk20 _) ⟨(pageW rfl (hpt _)).1, (pageW rfl (hpt _)).2⟩)
  rw [wp_bind]
  iapply (wp_page c pt ⟨(i 0).val, iLt i⟩ (pgIx ⟨t.val, t5_lt hv t⟩ 1) (off63_eq i hv t (r := 1#32) (by decide))) $$ HT
  iintro HT
  rw [wp_bind]
  iapply (wp_asm c (P := k0_chk21 _) ⟨(pageW rfl (hpt _)).1, (pageW rfl (hpt _)).2⟩)
  rw [wp_bind]
  iapply (wp_page c pt ⟨(i 0).val, iLt i⟩ (pgIx ⟨t.val, t5_lt hv t⟩ 2) (off63_eq i hv t (r := 2#32) (by decide))) $$ HT
  iintro HT
  rw [wp_bind]
  iapply (wp_asm c (P := k0_chk22 _) ⟨(pageW rfl (hpt _)).1, (pageW rfl (hpt _)).2⟩)
  rw [wp_bind]
  iapply (wp_page c pt ⟨(i 0).val, iLt i⟩ (pgIx ⟨t.val, t5_lt hv t⟩ 3) (off63_eq i hv t (r := 3#32) (by decide))) $$ HT
  iintro HT
  rw [wp_bind]
  iapply (wp_asm c (P := k0_chk23 _) ⟨(pageW rfl (hpt _)).1, (pageW rfl (hpt _)).2⟩)
  rw [wp_bind]
  iapply (wp_waitPg c ⟨(i 0).val % 2, mod2 _⟩ ⟨t.val, t5_lt hv t⟩ 0 (n := 8) (by decide) (off64_eq i hv t)) $$ [HB HW]
  · isplitl [HB]; · rw [Nat.zero_mul]; iexact HB
    iexact HW
  iintro ⟨HB, HW⟩
  rw [wp_bind]
  iapply (wp_waitPg c ⟨(i 0).val % 2, mod2 _⟩ ⟨t.val, t5_lt hv t⟩ 1 (n := 8) (by decide) (off67_eq i hv t)) $$ [HB HW]
  · isplitl [HB]; · iexact HB
    iexact HW
  iintro ⟨HB, HW⟩
  rw [wp_pureK]
  imodintro
  rw [wp_bind, k0_part10_eq_skeleton]
  unfold k0_part10_skel
  rw [wp_bind]
  iapply (wp_waitPg c ⟨(i 0).val % 2, mod2 _⟩ ⟨t.val, t5_lt hv t⟩ 2 (n := 8) (by decide) (off67_eq i hv t)) $$ [HB HW]
  · isplitl [HB]; · iexact HB
    iexact HW
  iintro ⟨HB, HW⟩
  rw [wp_bind]
  iapply (wp_waitPg c ⟨(i 0).val % 2, mod2 _⟩ ⟨t.val, t5_lt hv t⟩ 3 (n := 8) (by decide) (off70_eq i hv t)) $$ [HB HW]
  · isplitl [HB]; · iexact HB
    iexact HW
  iintro ⟨HB, HW⟩
  rw [wp_bind]
  iapply (wp_waitPg c ⟨(i 0).val % 2, mod2 _⟩ ⟨t.val, t5_lt hv t⟩ 4 (n := 8) (by decide) (off70_eq i hv t)) $$ [HB HW]
  · isplitl [HB]; · iexact HB
    iexact HW
  iintro ⟨HB, HW⟩
  rw [wp_bind]
  iapply (wp_waitPg c ⟨(i 0).val % 2, mod2 _⟩ ⟨t.val, t5_lt hv t⟩ 5 (n := 8) (by decide) (off73_eq i hv t)) $$ [HB HW]
  · isplitl [HB]; · iexact HB
    iexact HW
  iintro ⟨HB, HW⟩
  rw [wp_pureK]
  imodintro
  rw [wp_bind, k0_part11_eq_skeleton]
  unfold k0_part11_skel
  rw [wp_bind]
  iapply (wp_waitPg c ⟨(i 0).val % 2, mod2 _⟩ ⟨t.val, t5_lt hv t⟩ 6 (n := 8) (by decide) (off73_eq i hv t)) $$ [HB HW]
  · isplitl [HB]; · iexact HB
    iexact HW
  iintro ⟨HB, HW⟩
  rw [wp_bind]
  iapply (wp_waitLast c ⟨(i 0).val % 2, mod2 _⟩ ⟨t.val, t5_lt hv t⟩ 7 (n := 8) (by decide) (off76_eq i hv t)) $$ [HB HW]
  · isplitl [HB]; · iexact HB
    iexact HW
  iintro ⟨HD, Hs, HW⟩
  ihave HC := (cellLand c pk pv (rowOf pt ⟨(i 0).val, iLt i⟩) ⟨(i 0).val % 2, mod2 _⟩ ⟨t.val, t5_lt hv t⟩) $$ [HD Hs R0 R1 R2 R3]
  · isplitl [HD]; · iexact HD
    isplitl [Hs]; · iexact Hs
    isplitl [R0]; · iexact R0
    isplitl [R1]; · iexact R1
    isplitl [R2]; · iexact R2
    iexact R3
  unfold CellGot
  icases HC with ⟨Hs, ⟨K0, T0, V0, U0⟩, ⟨K1, T1, V1, U1⟩, ⟨K2, T2, V2, U2⟩, ⟨K3, T3, V3, U3⟩⟩
  rw [wp_bind]
  iapply (wp_kload c pk (rowOf pt ⟨(i 0).val, iLt i⟩) ⟨(i 0).val % 2, mod2 _⟩ ⟨t.val, t5_lt hv t⟩ 0 (off78_eq i hv t)) $$ [K0 K1 K2 K3]
  · isplitl [K0]; · iexact K0
    isplitl [K1]; · iexact K1
    isplitl [K2]; · iexact K2
    iexact K3
  iintro ⟨K0, K1, K2, K3⟩
  rw [wp_bind]
  iapply (wp_vload c pv (rowOf pt ⟨(i 0).val, iLt i⟩) ⟨(i 0).val % 2, mod2 _⟩ ⟨t.val, t5_lt hv t⟩ 0 (off78_eq i hv t)) $$ [V0 V1 V2 V3]
  · isplitl [V0]; · iexact V0
    isplitl [V1]; · iexact V1
    isplitl [V2]; · iexact V2
    iexact V3
  iintro ⟨V0, V1, V2, V3⟩
  rw [wp_pureK]
  imodintro
  rw [wp_bind]
  iapply (wp_accLoad c _) $$ HA
  iintro HA
  rw [wp_bind]
  iapply (wp_accLoad c _) $$ HA
  iintro HA
  rw [wp_bind]
  iapply (wp_accStore c _ _) $$ HA
  iintro HA
  rw [wp_pureK]
  imodintro
  isplitr [HT HA HW]
  · isplitl [Hs]; · iexact Hs
    isplitl [K0 T0 V0 U0]
    · isplitl [K0]; · iexact K0
      isplitl [T0]; · iexact T0
      isplitl [V0]; · iexact V0
      iexact U0
    isplitl [K1 T1 V1 U1]
    · isplitl [K1]; · iexact K1
      isplitl [T1]; · iexact T1
      isplitl [V1]; · iexact V1
      iexact U1
    isplitl [K2 T2 V2 U2]
    · isplitl [K2]; · iexact K2
      isplitl [T2]; · iexact T2
      isplitl [V2]; · iexact V2
      iexact U2
    isplitl [K3]; · iexact K3
    isplitl [T3]; · iexact T3
    isplitl [V3]; · iexact V3
    iexact U3
  isplitl [HT]; · iexact HT
  isplitl [HA]; · iexact HA
  isplitl [HW]; · iexists _; iexact HW
  ipureintro; rfl

set_option maxHeartbeats 4000000 in
/-- A trip for the first head, the last block. -/
theorem trip7 (hpt : ∀ x, (pt x).toNat < 2048) (v : BitVec 32) (hv : v.toNat ≤ 8192) (hw : k0_chk19 i v) (arg0 v0 v10 v12 : BitVec 32) (v13 v14 : Elt F .f32) (q : FVec F S1024x128 .bf16) (v84 v95 v99 : FVec F S1x1024 .f32) (v101 : FVec F S128x1024 .f32)
    (t : Fin (k0_t7_loop v).trips) (S : St F) :
    iprop(CellPend c pk pv (rowOf pt ⟨(i 0).val, iLt i⟩) ⟨(i 0).val % 2, mod2 _⟩ ⟨v.toNat / 512 + t.val, t7_lt hv t⟩ ∗ TabP (F := F) c pt ∗ AccAt c S.2.2 ∗ Owe (F := F) c)
      ⊢ wp (M := 𝕄) frame (wpE (defs₀ (F := F)) Variants.none (Dev.tc c : Thread nD τ) none) Set.univ (k0_t7_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 arg0 v0 v hw v10 v12 v13 v14 q v84 v95 v99 v101 t (S.1, S.2.1))
        (fun r => iprop(CellGot c pk pv (rowOf pt ⟨(i 0).val, iLt i⟩) ⟨(i 0).val % 2, mod2 _⟩ ⟨v.toNat / 512 + t.val, t7_lt hv t⟩ ∗ TabP (F := F) c pt ∗ AccAt c (stepM v v13 v14 q (Scf.iv v10 1#32 t) (blkOf pk (rowOf pt ⟨(i 0).val, iLt i⟩) ⟨v.toNat / 512 + t.val, t7_lt hv t⟩ 0) (blkOf pv (rowOf pt ⟨(i 0).val, iLt i⟩) ⟨v.toNat / 512 + t.val, t7_lt hv t⟩ 0) S).2.2 ∗ Owe (F := F) c
          ∗ ⌜r = ((stepM v v13 v14 q (Scf.iv v10 1#32 t) (blkOf pk (rowOf pt ⟨(i 0).val, iLt i⟩) ⟨v.toNat / 512 + t.val, t7_lt hv t⟩ 0) (blkOf pv (rowOf pt ⟨(i 0).val, iLt i⟩) ⟨v.toNat / 512 + t.val, t7_lt hv t⟩ 0) S).1, (stepM v v13 v14 q (Scf.iv v10 1#32 t) (blkOf pk (rowOf pt ⟨(i 0).val, iLt i⟩) ⟨v.toNat / 512 + t.val, t7_lt hv t⟩ 0) (blkOf pv (rowOf pt ⟨(i 0).val, iLt i⟩) ⟨v.toNat / 512 + t.val, t7_lt hv t⟩ 0) S).2.1)⌝)) := by
  iintro ⟨HC, HT, HA, ⟨%W, HW⟩⟩
  unfold k0_t7_body CellPend
  icases HC with ⟨HB, R0, R1, R2, R3⟩
  rw [wp_bind, k0_part15_eq_skeleton]
  unfold k0_part15_skel
  rw [wp_bind]
  iapply (wp_page c pt ⟨(i 0).val, iLt i⟩ (pgIx ⟨v.toNat / 512 + t.val, t7_lt hv t⟩ 0) (off95_eq i hv t (r := 0#32) (by decide))) $$ HT
  iintro HT
  rw [wp_bind]
  iapply (wp_asm c (P := k0_chk28 _) ⟨(pageW rfl (hpt _)).1, (pageW rfl (hpt _)).2⟩)
  rw [wp_bind]
  iapply (wp_page c pt ⟨(i 0).val, iLt i⟩ (pgIx ⟨v.toNat / 512 + t.val, t7_lt hv t⟩ 1) (off95_eq i hv t (r := 1#32) (by decide))) $$ HT
  iintro HT
  rw [wp_bind]
  iapply (wp_asm c (P := k0_chk29 _) ⟨(pageW rfl (hpt _)).1, (pageW rfl (hpt _)).2⟩)
  rw [wp_bind]
  iapply (wp_page c pt ⟨(i 0).val, iLt i⟩ (pgIx ⟨v.toNat / 512 + t.val, t7_lt hv t⟩ 2) (off95_eq i hv t (r := 2#32) (by decide))) $$ HT
  iintro HT
  rw [wp_bind]
  iapply (wp_asm c (P := k0_chk30 _) ⟨(pageW rfl (hpt _)).1, (pageW rfl (hpt _)).2⟩)
  rw [wp_bind]
  iapply (wp_page c pt ⟨(i 0).val, iLt i⟩ (pgIx ⟨v.toNat / 512 + t.val, t7_lt hv t⟩ 3) (off95_eq i hv t (r := 3#32) (by decide))) $$ HT
  iintro HT
  rw [wp_bind]
  iapply (wp_asm c (P := k0_chk31 _) ⟨(pageW rfl (hpt _)).1, (pageW rfl (hpt _)).2⟩)
  rw [wp_bind]
  iapply (wp_waitPg c ⟨(i 0).val % 2, mod2 _⟩ ⟨v.toNat / 512 + t.val, t7_lt hv t⟩ 0 (n := 8) (by decide) (off96_eq i hv t)) $$ [HB HW]
  · isplitl [HB]; · rw [Nat.zero_mul]; iexact HB
    iexact HW
  iintro ⟨HB, HW⟩
  rw [wp_bind]
  iapply (wp_waitPg c ⟨(i 0).val % 2, mod2 _⟩ ⟨v.toNat / 512 + t.val, t7_lt hv t⟩ 1 (n := 8) (by decide) (off99_eq i hv t)) $$ [HB HW]
  · isplitl [HB]; · iexact HB
    iexact HW
  iintro ⟨HB, HW⟩
  rw [wp_pureK]
  imodintro
  rw [wp_bind, k0_part16_eq_skeleton]
  unfold k0_part16_skel
  rw [wp_bind]
  iapply (wp_waitPg c ⟨(i 0).val % 2, mod2 _⟩ ⟨v.toNat / 512 + t.val, t7_lt hv t⟩ 2 (n := 8) (by decide) (off99_eq i hv t)) $$ [HB HW]
  · isplitl [HB]; · iexact HB
    iexact HW
  iintro ⟨HB, HW⟩
  rw [wp_bind]
  iapply (wp_waitPg c ⟨(i 0).val % 2, mod2 _⟩ ⟨v.toNat / 512 + t.val, t7_lt hv t⟩ 3 (n := 8) (by decide) (off102_eq i hv t)) $$ [HB HW]
  · isplitl [HB]; · iexact HB
    iexact HW
  iintro ⟨HB, HW⟩
  rw [wp_bind]
  iapply (wp_waitPg c ⟨(i 0).val % 2, mod2 _⟩ ⟨v.toNat / 512 + t.val, t7_lt hv t⟩ 4 (n := 8) (by decide) (off102_eq i hv t)) $$ [HB HW]
  · isplitl [HB]; · iexact HB
    iexact HW
  iintro ⟨HB, HW⟩
  rw [wp_bind]
  iapply (wp_waitPg c ⟨(i 0).val % 2, mod2 _⟩ ⟨v.toNat / 512 + t.val, t7_lt hv t⟩ 5 (n := 8) (by decide) (off105_eq i hv t)) $$ [HB HW]
  · isplitl [HB]; · iexact HB
    iexact HW
  iintro ⟨HB, HW⟩
  rw [wp_pureK]
  imodintro
  rw [wp_bind, k0_part17_eq_skeleton]
  unfold k0_part17_skel
  rw [wp_bind]
  iapply (wp_waitPg c ⟨(i 0).val % 2, mod2 _⟩ ⟨v.toNat / 512 + t.val, t7_lt hv t⟩ 6 (n := 8) (by decide) (off105_eq i hv t)) $$ [HB HW]
  · isplitl [HB]; · iexact HB
    iexact HW
  iintro ⟨HB, HW⟩
  rw [wp_bind]
  iapply (wp_waitLast c ⟨(i 0).val % 2, mod2 _⟩ ⟨v.toNat / 512 + t.val, t7_lt hv t⟩ 7 (n := 8) (by decide) (off108_eq i hv t)) $$ [HB HW]
  · isplitl [HB]; · iexact HB
    iexact HW
  iintro ⟨HD, Hs, HW⟩
  ihave HC := (cellLand c pk pv (rowOf pt ⟨(i 0).val, iLt i⟩) ⟨(i 0).val % 2, mod2 _⟩ ⟨v.toNat / 512 + t.val, t7_lt hv t⟩) $$ [HD Hs R0 R1 R2 R3]
  · isplitl [HD]; · iexact HD
    isplitl [Hs]; · iexact Hs
    isplitl [R0]; · iexact R0
    isplitl [R1]; · iexact R1
    isplitl [R2]; · iexact R2
    iexact R3
  unfold CellGot
  icases HC with ⟨Hs, ⟨K0, T0, V0, U0⟩, ⟨K1, T1, V1, U1⟩, ⟨K2, T2, V2, U2⟩, ⟨K3, T3, V3, U3⟩⟩
  rw [wp_bind]
  iapply (wp_kload c pk (rowOf pt ⟨(i 0).val, iLt i⟩) ⟨(i 0).val % 2, mod2 _⟩ ⟨v.toNat / 512 + t.val, t7_lt hv t⟩ 0 (off110_eq i hv t)) $$ [K0 K1 K2 K3]
  · isplitl [K0]; · iexact K0
    isplitl [K1]; · iexact K1
    isplitl [K2]; · iexact K2
    iexact K3
  iintro ⟨K0, K1, K2, K3⟩
  rw [wp_bind]
  iapply (wp_vload c pv (rowOf pt ⟨(i 0).val, iLt i⟩) ⟨(i 0).val % 2, mod2 _⟩ ⟨v.toNat / 512 + t.val, t7_lt hv t⟩ 0 (off110_eq i hv t)) $$ [V0 V1 V2 V3]
  · isplitl [V0]; · iexact V0
    isplitl [V1]; · iexact V1
    isplitl [V2]; · iexact V2
    iexact V3
  iintro ⟨V0, V1, V2, V3⟩
  rw [wp_pureK]
  imodintro
  rw [wp_bind]
  iapply (wp_accLoad c _) $$ HA
  iintro HA
  rw [wp_bind]
  iapply (wp_accLoad c _) $$ HA
  iintro HA
  rw [wp_bind]
  iapply (wp_accStore c _ _) $$ HA
  iintro HA
  rw [wp_pureK]
  imodintro
  isplitr [HT HA HW]
  · isplitl [Hs]; · iexact Hs
    isplitl [K0 T0 V0 U0]
    · isplitl [K0]; · iexact K0
      isplitl [T0]; · iexact T0
      isplitl [V0]; · iexact V0
      iexact U0
    isplitl [K1 T1 V1 U1]
    · isplitl [K1]; · iexact K1
      isplitl [T1]; · iexact T1
      isplitl [V1]; · iexact V1
      iexact U1
    isplitl [K2 T2 V2 U2]
    · isplitl [K2]; · iexact K2
      isplitl [T2]; · iexact T2
      isplitl [V2]; · iexact V2
      iexact U2
    isplitl [K3]; · iexact K3
    isplitl [T3]; · iexact T3
    isplitl [V3]; · iexact V3
    iexact U3
  isplitl [HT]; · iexact HT
  isplitl [HA]; · iexact HA
  isplitl [HW]; · iexists _; iexact HW
  ipureintro; rfl

set_option maxHeartbeats 4000000 in
/-- A trip for the second head, a full block. -/
theorem trip9 (v : BitVec 32) (hv : v.toNat ≤ 8192) (hw : k0_chk19 i v) (v0 v10 v12 : BitVec 32) (v13 v14 : Elt F .f32) (q : FVec F S1024x128 .bf16) (v223 v224 : FVec F S1x1024 .f32) (v237 : FVec F S128x1024 .f32) (v239 : FVec F S1x128 .bf16) (v240 : FVec F S128x128 .bf16)
    (t : Fin (k0_t9_loop v).trips) (S : St F) :
    iprop(CellGot c pk pv (rowOf pt ⟨(i 0).val, iLt i⟩) ⟨(i 0).val % 2, mod2 _⟩ ⟨t.val, t9_lt hv t⟩ ∗ TabP (F := F) c pt ∗ AccAt c S.2.2 ∗ Owe (F := F) c)
      ⊢ wp (M := 𝕄) frame (wpE (defs₀ (F := F)) Variants.none (Dev.tc c : Thread nD τ) none) Set.univ (k0_t9_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 v0 v hw v10 v12 v13 v14 q v223 v224 v237 v239 v240 t (S.1, S.2.1))
        (fun r => iprop(CellGot c pk pv (rowOf pt ⟨(i 0).val, iLt i⟩) ⟨(i 0).val % 2, mod2 _⟩ ⟨t.val, t9_lt hv t⟩ ∗ TabP (F := F) c pt ∗ AccAt c (stepU v13 v14 q (blkOf pk (rowOf pt ⟨(i 0).val, iLt i⟩) ⟨t.val, t9_lt hv t⟩ 1) (blkOf pv (rowOf pt ⟨(i 0).val, iLt i⟩) ⟨t.val, t9_lt hv t⟩ 1) S).2.2 ∗ Owe (F := F) c
          ∗ ⌜r = ((stepU v13 v14 q (blkOf pk (rowOf pt ⟨(i 0).val, iLt i⟩) ⟨t.val, t9_lt hv t⟩ 1) (blkOf pv (rowOf pt ⟨(i 0).val, iLt i⟩) ⟨t.val, t9_lt hv t⟩ 1) S).1, (stepU v13 v14 q (blkOf pk (rowOf pt ⟨(i 0).val, iLt i⟩) ⟨t.val, t9_lt hv t⟩ 1) (blkOf pv (rowOf pt ⟨(i 0).val, iLt i⟩) ⟨t.val, t9_lt hv t⟩ 1) S).2.1)⌝)) := by
  iintro ⟨HC, HT, HA, ⟨%W, HW⟩⟩
  unfold k0_t9_body
  rw [wp_bind, k0_part21_eq_skeleton]
  unfold k0_part21_skel
  unfold CellGot
  icases HC with ⟨Hs, ⟨K0, T0, V0, U0⟩, ⟨K1, T1, V1, U1⟩, ⟨K2, T2, V2, U2⟩, ⟨K3, T3, V3, U3⟩⟩
  rw [wp_bind]
  iapply (wp_kload c pk (rowOf pt ⟨(i 0).val, iLt i⟩) ⟨(i 0).val % 2, mod2 _⟩ ⟨t.val, t9_lt hv t⟩ 1 (off127_eq i hv t)) $$ [K0 K1 K2 K3]
  · isplitl [K0]; · iexact K0
    isplitl [K1]; · iexact K1
    isplitl [K2]; · iexact K2
    iexact K3
  iintro ⟨K0, K1, K2, K3⟩
  rw [wp_bind]
  iapply (wp_vload c pv (rowOf pt ⟨(i 0).val, iLt i⟩) ⟨(i 0).val % 2, mod2 _⟩ ⟨t.val, t9_lt hv t⟩ 1 (off127_eq i hv t)) $$ [V0 V1 V2 V3]
  · isplitl [V0]; · iexact V0
    isplitl [V1]; · iexact V1
    isplitl [V2]; · iexact V2
    iexact V3
  iintro ⟨V0, V1, V2, V3⟩
  rw [wp_bind]
  iapply (wp_accLoad c _) $$ HA
  iintro HA
  rw [wp_pureK]
  imodintro
  rw [wp_bind]
  iapply (wp_accLoad c _) $$ HA
  iintro HA
  rw [wp_bind]
  iapply (wp_accStore c _ _) $$ HA
  iintro HA
  rw [wp_pureK]
  imodintro
  isplitr [HT HA HW]
  · isplitl [Hs]; · iexact Hs
    isplitl [K0 T0 V0 U0]
    · isplitl [K0]; · iexact K0
      isplitl [T0]; · iexact T0
      isplitl [V0]; · iexact V0
      iexact U0
    isplitl [K1 T1 V1 U1]
    · isplitl [K1]; · iexact K1
      isplitl [T1]; · iexact T1
      isplitl [V1]; · iexact V1
      iexact U1
    isplitl [K2 T2 V2 U2]
    · isplitl [K2]; · iexact K2
      isplitl [T2]; · iexact T2
      isplitl [V2]; · iexact V2
      iexact U2
    isplitl [K3]; · iexact K3
    isplitl [T3]; · iexact T3
    isplitl [V3]; · iexact V3
    iexact U3
  isplitl [HT]; · iexact HT
  isplitl [HA]; · iexact HA
  isplitl [HW]; · iexists _; iexact HW
  ipureintro; rfl

set_option maxHeartbeats 4000000 in
/-- A trip for the second head, the last block. -/
theorem trip11 (v : BitVec 32) (hv : v.toNat ≤ 8192) (hw : k0_chk19 i v) (v0 v10 v12 : BitVec 32) (v13 v14 : Elt F .f32) (q : FVec F S1024x128 .bf16) (v223 v224 : FVec F S1x1024 .f32) (v237 : FVec F S128x1024 .f32) (v239 : FVec F S1x128 .bf16) (v240 : FVec F S128x128 .bf16)
    (t : Fin (k0_t11_loop v).trips) (S : St F) :
    iprop(CellGot c pk pv (rowOf pt ⟨(i 0).val, iLt i⟩) ⟨(i 0).val % 2, mod2 _⟩ ⟨v.toNat / 512 + t.val, t11_lt hv t⟩ ∗ TabP (F := F) c pt ∗ AccAt c S.2.2 ∗ Owe (F := F) c)
      ⊢ wp (M := 𝕄) frame (wpE (defs₀ (F := F)) Variants.none (Dev.tc c : Thread nD τ) none) Set.univ (k0_t11_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 v0 v hw v10 v12 v13 v14 q v223 v224 v237 v239 v240 t (S.1, S.2.1))
        (fun r => iprop(CellGot c pk pv (rowOf pt ⟨(i 0).val, iLt i⟩) ⟨(i 0).val % 2, mod2 _⟩ ⟨v.toNat / 512 + t.val, t11_lt hv t⟩ ∗ TabP (F := F) c pt ∗ AccAt c (stepM v v13 v14 q (Scf.iv v10 1#32 t) (blkOf pk (rowOf pt ⟨(i 0).val, iLt i⟩) ⟨v.toNat / 512 + t.val, t11_lt hv t⟩ 1) (blkOf pv (rowOf pt ⟨(i 0).val, iLt i⟩) ⟨v.toNat / 512 + t.val, t11_lt hv t⟩ 1) S).2.2 ∗ Owe (F := F) c
          ∗ ⌜r = ((stepM v v13 v14 q (Scf.iv v10 1#32 t) (blkOf pk (rowOf pt ⟨(i 0).val, iLt i⟩) ⟨v.toNat / 512 + t.val, t11_lt hv t⟩ 1) (blkOf pv (rowOf pt ⟨(i 0).val, iLt i⟩) ⟨v.toNat / 512 + t.val, t11_lt hv t⟩ 1) S).1, (stepM v v13 v14 q (Scf.iv v10 1#32 t) (blkOf pk (rowOf pt ⟨(i 0).val, iLt i⟩) ⟨v.toNat / 512 + t.val, t11_lt hv t⟩ 1) (blkOf pv (rowOf pt ⟨(i 0).val, iLt i⟩) ⟨v.toNat / 512 + t.val, t11_lt hv t⟩ 1) S).2.1)⌝)) := by
  iintro ⟨HC, HT, HA, ⟨%W, HW⟩⟩
  unfold k0_t11_body
  rw [wp_bind, k0_part23_eq_skeleton]
  unfold k0_part23_skel
  unfold CellGot
  icases HC with ⟨Hs, ⟨K0, T0, V0, U0⟩, ⟨K1, T1, V1, U1⟩, ⟨K2, T2, V2, U2⟩, ⟨K3, T3, V3, U3⟩⟩
  rw [wp_bind]
  iapply (wp_kload c pk (rowOf pt ⟨(i 0).val, iLt i⟩) ⟨(i 0).val % 2, mod2 _⟩ ⟨v.toNat / 512 + t.val, t11_lt hv t⟩ 1 (off129_eq i hv t)) $$ [K0 K1 K2 K3]
  · isplitl [K0]; · iexact K0
    isplitl [K1]; · iexact K1
    isplitl [K2]; · iexact K2
    iexact K3
  iintro ⟨K0, K1, K2, K3⟩
  rw [wp_bind]
  iapply (wp_vload c pv (rowOf pt ⟨(i 0).val, iLt i⟩) ⟨(i 0).val % 2, mod2 _⟩ ⟨v.toNat / 512 + t.val, t11_lt hv t⟩ 1 (off129_eq i hv t)) $$ [V0 V1 V2 V3]
  · isplitl [V0]; · iexact V0
    isplitl [V1]; · iexact V1
    isplitl [V2]; · iexact V2
    iexact V3
  iintro ⟨V0, V1, V2, V3⟩
  rw [wp_pureK]
  imodintro
  rw [wp_bind]
  iapply (wp_accLoad c _) $$ HA
  iintro HA
  rw [wp_bind]
  iapply (wp_accLoad c _) $$ HA
  iintro HA
  rw [wp_bind]
  iapply (wp_accStore c _ _) $$ HA
  iintro HA
  rw [wp_pureK]
  imodintro
  isplitr [HT HA HW]
  · isplitl [Hs]; · iexact Hs
    isplitl [K0 T0 V0 U0]
    · isplitl [K0]; · iexact K0
      isplitl [T0]; · iexact T0
      isplitl [V0]; · iexact V0
      iexact U0
    isplitl [K1 T1 V1 U1]
    · isplitl [K1]; · iexact K1
      isplitl [T1]; · iexact T1
      isplitl [V1]; · iexact V1
      iexact U1
    isplitl [K2 T2 V2 U2]
    · isplitl [K2]; · iexact K2
      isplitl [T2]; · iexact T2
      isplitl [V2]; · iexact V2
      iexact U2
    isplitl [K3]; · iexact K3
    isplitl [T3]; · iexact T3
    isplitl [V3]; · iexact V3
    iexact U3
  isplitl [HT]; · iexact HT
  isplitl [HA]; · iexact HA
  isplitl [HW]; · iexists _; iexact HW
  ipureintro; rfl

end Cert.Kernel.Hand
-- ==== Proof.Kn.Loop.lean ====
module

public import proofs.«01_k».proof.Proof.Kn.Trip

/-!
# The loops over blocks

The sixteen blocks of a slot: a fetch loop takes the first blocks from idle to pending, the attention loops of the first
head take them from pending to landed while folding them in, the loops of the second head fold them in once more.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Memref (whole isWhole_whole)
open Idealize.ShloMosaic.ValueIdx
open Idealize.ShloMosaic.RefSig (tileCredit)
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (pk pv : S2048x2x128x128.Idx → Elt F .fp8e4m3) (pt : S32x64.Idx → BitVec 32)
  (sl : S32.Idx → BitVec 32)

/-- Block `k`. -/
def jj (k : ℕ) : Fin 16 := ⟨k % 16, Nat.mod_lt _ (by decide)⟩
theorem jj_of {k : ℕ} (h : k < 16) : (⟨k, h⟩ : Fin 16) = jj k := Fin.ext (Nat.mod_eq_of_lt h).symm
theorem jj_val {k : ℕ} (h : k < 16) : (jj k).val = k := Nat.mod_eq_of_lt h

/-- Block `j` of a slot when the first `k` blocks have landed and those up to `n` are pending. -/
def cellSt (row : Fin 64 → Fin 2048) (s : Fin 2) (k n : ℕ) (j : Fin 16) : sProp 𝕄 :=
  if j.val < k then CellGot c pk pv row s j else if j.val < n then CellPend c pk pv row s j else CellIdle c pk pv s j
/-- The blocks of a slot. -/
def Cells (row : Fin 64 → Fin 2048) (s : Fin 2) (k n : ℕ) : sProp 𝕄 := bigSep Finset.univ (cellSt c pk pv row s k n)

theorem cells_take (P P' : Fin 16 → sProp 𝕄) (j : Fin 16) (h : ∀ i, i ≠ j → P' i = P i) :
    bigSep Finset.univ P ⊢ iprop(P j ∗ (P' j -∗ bigSep Finset.univ P')) := by
  have e : bigSep (Finset.univ.erase j) P' = bigSep (Finset.univ.erase j) P :=
    BI.bigSep_congr fun x hx => h x (Finset.ne_of_mem_erase hx)
  rw [show bigSep Finset.univ P = iprop(P j ∗ bigSep (Finset.univ.erase j) P) from BI.bigSep_univ_split j,
    show bigSep Finset.univ P' = iprop(P' j ∗ bigSep (Finset.univ.erase j) P') from BI.bigSep_univ_split j, e]
  iintro ⟨H1, H2⟩
  isplitl [H1]; · iexact H1
  iintro H
  isplitl [H]; · iexact H
  iexact H2

/-- Block `k` starts to be fetched. -/
theorem cells_fetch (row : Fin 64 → Fin 2048) (s : Fin 2) (k : ℕ) (hk : k < 16) :
    Cells c pk pv row s 0 k ⊢ iprop(CellIdle c pk pv s ⟨k, hk⟩ ∗ (CellPend c pk pv row s ⟨k, hk⟩ -∗ Cells c pk pv row s 0 (k + 1))) := by
  refine .trans (cells_take _ (cellSt c pk pv row s 0 (k + 1)) ⟨k, hk⟩ fun i hi => ?_) (Entails.of_eq ?_)
  · have : i.val ≠ k := fun e => hi (Fin.ext e)
    unfold cellSt
    by_cases h : i.val < k
    · rw [if_neg (Nat.not_lt_zero _), if_neg (Nat.not_lt_zero _), if_pos h, if_pos (by omega)]
    · rw [if_neg (Nat.not_lt_zero _), if_neg (Nat.not_lt_zero _), if_neg h, if_neg (by omega)]
  · unfold cellSt
    rw [if_neg (Nat.not_lt_zero _), if_neg (Nat.not_lt_zero _), if_neg (Nat.lt_irrefl k), if_pos (Nat.lt_succ_self k)]
    rfl

/-- Block `k` lands. -/
theorem cells_land (row : Fin 64 → Fin 2048) (s : Fin 2) (k n : ℕ) (hk : k < 16) (hn : k < n) :
    Cells c pk pv row s k n ⊢ iprop(CellPend c pk pv row s ⟨k, hk⟩ ∗ (CellGot c pk pv row s ⟨k, hk⟩ -∗ Cells c pk pv row s (k + 1) n)) := by
  refine .trans (cells_take _ (cellSt c pk pv row s (k + 1) n) ⟨k, hk⟩ fun i hi => ?_) (Entails.of_eq ?_)
  · have : i.val ≠ k := fun e => hi (Fin.ext e)
    unfold cellSt
    by_cases h : i.val < k
    · rw [if_pos h, if_pos (by omega)]
    · rw [if_neg h, if_neg (by omega)]
  · unfold cellSt
    rw [if_neg (Nat.lt_irrefl k), if_pos (show (⟨k, hk⟩ : Fin 16).val < n from hn), if_pos (Nat.lt_succ_self k)]
    rfl

/-- A landed block is read. -/
theorem cells_read (row : Fin 64 → Fin 2048) (s : Fin 2) (k n : ℕ) (j : Fin 16) (hj : j.val < k) :
    Cells c pk pv row s k n ⊢ iprop(CellGot c pk pv row s j ∗ (CellGot c pk pv row s j -∗ Cells c pk pv row s k n)) := by
  refine .trans (cells_take _ (cellSt c pk pv row s k n) j fun i hi => rfl) (Entails.of_eq ?_)
  unfold cellSt
  rw [if_pos hj]
  rfl

/-- Landed blocks are blocks to fetch into again. -/
theorem cells_done (row row' : Fin 64 → Fin 2048) (s : Fin 2) (n : ℕ) : Cells c pk pv row s n n ⊢ Cells c pk pv row' s 0 0 := by
  refine BI.bigSep_mono fun j _ => ?_
  unfold cellSt
  rw [if_neg (Nat.not_lt_zero _), if_neg (Nat.not_lt_zero _)]
  by_cases h : j.val < n
  · rw [if_pos h]; exact CellGot_idle c pk pv row s j
  · rw [if_neg h, if_neg h]; exact BI.Entails.refl _

/-- With no block in flight the pages do not matter. -/
theorem cells_row (row row' : Fin 64 → Fin 2048) (s : Fin 2) : Cells c pk pv row s 0 0 ⊢ Cells c pk pv row' s 0 0 := cells_done c pk pv row row' s 0

/-- A counted loop by an invariant. -/
theorem wp_loop {σ : Type} (l : Scf.Loop 32) (ok : l.OK) (init : σ) (body : Fin l.trips → σ → Prog (TpuEff nD τ sig (Elt F) Λ₀ .tc) σ)
    (I : ℕ → σ → sProp 𝕄) (n : ℕ) (hn : l.trips = n) (hbody : ∀ (k : Fin l.trips) (x : σ), I k.val x ⊢ wp (M := 𝕄) frame (wpE (defs₀ (F := F)) Variants.none (Dev.tc c : Thread nD τ) none) Set.univ (body k x) (I (k.val + 1))) :
    I 0 init ⊢ wp (M := 𝕄) frame (wpE (defs₀ (F := F)) Variants.none (Dev.tc c : Thread nD τ) none) Set.univ (Scf.Loop.for l ok init body) (I n) := by
  subst hn
  iintro H
  iapply (Scf.wp_for (M := 𝕄) frame (wpE (defs₀ (F := F)) Variants.none (Dev.tc c : Thread nD τ) none) Set.univ l.lb l.ub l.st ok init body I hbody)
  isplitl [H]; · iexact H
  iintro %x H
  iexact H

/-- A loop without trips. -/
theorem wp_noLoop {σ : Type} (l : Scf.Loop 32) (ok : l.OK) (init : σ) (body : Fin l.trips → σ → Prog (TpuEff nD τ sig (Elt F) Λ₀ .tc) σ)
    (h : Fin l.trips → False) {Q : σ → sProp 𝕄} : Q init ⊢ wp (M := 𝕄) frame (wpE (defs₀ (F := F)) Variants.none (Dev.tc c : Thread nD τ) none) Set.univ (Scf.Loop.for l ok init body) Q := by
  have hn : l.trips = 0 := by
    rcases Nat.eq_zero_or_pos l.trips with e | e
    · exact e
    · exact (h ⟨0, e⟩).elim
  have hw := wp_loop c l ok init body (fun _ x => iprop(⌜x = init⌝ ∗ Q init)) 0 hn fun k => (h k).elim
  refine .trans ?_ (hw.trans (wp_mono _ _ _ fun x => ?_))
  · iintro H
    isplitr; · ipureintro; rfl
    iexact H
  · iintro ⟨%e, H⟩
    subst e
    iexact H

/-- A recurrence run for `k` rounds. -/
def runSt {α : Type} (f : ℕ → α → α) : ℕ → α → α
  | 0, S => S
  | k + 1, S => f k (runSt f k S)

/-- Folding in full block `k` of head `g`. -/
def foldU (g : Fin 2) (v13 v14 : Elt F .f32) (q : FVec F S1024x128 .bf16) (row : Fin 64 → Fin 2048) (k : ℕ) : St F → St F :=
  stepU v13 v14 q (blkOf pk row (jj k) g) (blkOf pv row (jj k) g)
/-- Folding in block `k` of head `g`, up to the length `v`. -/
def foldM (g : Fin 2) (v : BitVec 32) (v13 v14 : Elt F .f32) (q : FVec F S1024x128 .bf16) (row : Fin 64 → Fin 2048) (k : ℕ) : St F → St F :=
  stepM v v13 v14 q (BitVec.ofNat 32 k) (blkOf pk row (jj k) g) (blkOf pv row (jj k) g)
/-- Folding in all blocks of a sequence of length `v`. -/
def foldAll (g : Fin 2) (v : BitVec 32) (v13 v14 : Elt F .f32) (q : FVec F S1024x128 .bf16) (row : Fin 64 → Fin 2048) (S : St F) : St F :=
  runSt (fun k => foldM pk pv g v v13 v14 q row (v.toNat / 512 + k)) ((v.toNat + 511) / 512 - v.toNat / 512)
    (runSt (foldU pk pv g v13 v14 q row) (v.toNat / 512 - 0) S)

variable (i : grid0.Coords)
  (a3 : Memref sig .tc .smem S2 .f32) (h3 : a3.IsWhole) (a4 : Memref sig .tc .smem S2 .f32) (h4 : a4.IsWhole)
  (a5 : Memref sig .tc .vmem S1x128x2048 .bf16) (h5 : a5.IsWhole) (a6 a7 : Memref sig .tc .vmem S1x2x128x128 .bf16)
  (h6 : a6.IsWhole) (h7 : a7.IsWhole) (a10 : Memref sig .tc .vmem S1x128x2048 .bf16) (h10 : a10.IsWhole)
  (a11 a12 : Memref sig .tc .vmem S1x2x128x128 .fp8e4m3) (h11 : a11.IsWhole) (h12 : a12.IsWhole)

/-- The fetch of the first sequence. -/
theorem fetchLoop1 (hpt : ∀ x, (pt x).toNat < 2048) (v : BitVec 32) (hv : v.toNat ≤ 8192) (hc : k0_cond1 i = 1#1)
    (hw : k0_chk1 i v) (ok : (k0_t1_loop v).OK) :
    iprop(Cells c pk pv (rowOf pt 0) 0 0 0 ∗ TabP (F := F) c pt)
      ⊢ wp (M := 𝕄) frame (wpE (defs₀ (F := F)) Variants.none (Dev.tc c : Thread nD τ) none) Set.univ (Scf.Loop.for (k0_t1_loop v) ok ⟨⟩ (k0_t1_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 hc v hw))
        (fun _ => iprop(Cells c pk pv (rowOf pt 0) 0 0 ((v.toNat + 511) / 512) ∗ TabP (F := F) c pt)) :=
  wp_loop c _ ok (⟨⟩ : PUnit.{1}) _ (fun k _ => iprop(Cells c pk pv (rowOf pt 0) 0 0 k ∗ TabP (F := F) c pt)) _ (t1_trips hv) fun t x => by
    iintro ⟨HC, HT⟩
    ihave ⟨HC, HK⟩ := (cells_fetch c pk pv (rowOf pt 0) 0 t.val (t1_lt hv t)) $$ HC
    iapply (wp_wand frame (wpE (defs₀ (F := F)) Variants.none (Dev.tc c : Thread nD τ) none) Set.univ) $$ [HC HT]
    · iapply (fetch1 c pk pv pt i a3 h3 a4 h4 a5 h5 a6 a7 h6 h7 a10 h10 a11 a12 h11 h12 hpt v hv hc hw t)
      isplitl [HC] <;> iassumption
    iintro %_ ⟨HC, HT⟩
    isplitr [HT]
    · iapply HK; iexact HC
    iexact HT

/-- The fetch of the next sequence. -/
theorem fetchLoop3 (hpt : ∀ x, (pt x).toNat < 2048) (v : BitVec 32) (hv : v.toNat ≤ 8192) (hc : k0_cond2 i = 1#1)
    (hw : k0_chk10 i v) (w335 : BitVec 32) (ok : (k0_t3_loop v).OK) :
    iprop(Cells c pk pv (rowOf pt ⟨(i 0).val + 1, (cond2_iff i).1 hc⟩) ⟨1 - (i 0).val % 2, omod2 _⟩ 0 0 ∗ TabP (F := F) c pt)
      ⊢ wp (M := 𝕄) frame (wpE (defs₀ (F := F)) Variants.none (Dev.tc c : Thread nD τ) none) Set.univ (Scf.Loop.for (k0_t3_loop v) ok ⟨⟩ (k0_t3_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 hc w335 v hw))
        (fun _ => iprop(Cells c pk pv (rowOf pt ⟨(i 0).val + 1, (cond2_iff i).1 hc⟩) ⟨1 - (i 0).val % 2, omod2 _⟩ 0 ((v.toNat + 511) / 512) ∗ TabP (F := F) c pt)) :=
  wp_loop c _ ok (⟨⟩ : PUnit.{1}) _ (fun k _ => iprop(Cells c pk pv (rowOf pt ⟨(i 0).val + 1, (cond2_iff i).1 hc⟩) ⟨1 - (i 0).val % 2, omod2 _⟩ 0 k ∗ TabP (F := F) c pt)) _ (t3_trips hv) fun t x => by
    iintro ⟨HC, HT⟩
    ihave ⟨HC, HK⟩ := (cells_fetch c pk pv (rowOf pt ⟨(i 0).val + 1, (cond2_iff i).1 hc⟩) ⟨1 - (i 0).val % 2, omod2 _⟩ t.val (t3_lt hv t)) $$ HC
    iapply (wp_wand frame (wpE (defs₀ (F := F)) Variants.none (Dev.tc c : Thread nD τ) none) Set.univ) $$ [HC HT]
    · iapply (fetch3 c pk pv pt i a3 h3 a4 h4 a5 h5 a6 a7 h6 h7 a10 h10 a11 a12 h11 h12 hpt v hv hc (w335 := w335) hw t)
      isplitl [HC] <;> iassumption
    iintro %_ ⟨HC, HT⟩
    isplitr [HT]
    · iapply HK; iexact HC
    iexact HT

/-- The attention loop of head 0 over the full blocks. -/
theorem attLoop5 (hpt : ∀ x, (pt x).toNat < 2048) (v : BitVec 32) (hv : v.toNat ≤ 8192) (hw : k0_chk19 i v) (arg0 v0 v10 v12 : BitVec 32) (v13 v14 : Elt F .f32) (q : FVec F S1024x128 .bf16) (v84 v95 v99 : FVec F S1x1024 .f32) (v101 : FVec F S128x1024 .f32)
    (ok : (k0_t5_loop v).OK) (S : St F) :
    iprop(Cells c pk pv (rowOf pt ⟨(i 0).val, iLt i⟩) ⟨(i 0).val % 2, mod2 _⟩ (0) ((v.toNat + 511) / 512) ∗ TabP (F := F) c pt ∗ AccAt c S.2.2 ∗ Owe (F := F) c)
      ⊢ wp (M := 𝕄) frame (wpE (defs₀ (F := F)) Variants.none (Dev.tc c : Thread nD τ) none) Set.univ (Scf.Loop.for (k0_t5_loop v) ok (S.1, S.2.1) (k0_t5_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 arg0 v0 v hw v10 v12 v13 v14 q v84 v95 v99 v101))
        (fun x => iprop(⌜x = ((runSt (foldU pk pv 0 v13 v14 q (rowOf pt ⟨(i 0).val, iLt i⟩)) (v.toNat / 512 - 0) S).1, (runSt (foldU pk pv 0 v13 v14 q (rowOf pt ⟨(i 0).val, iLt i⟩)) (v.toNat / 512 - 0) S).2.1)⌝ ∗ Cells c pk pv (rowOf pt ⟨(i 0).val, iLt i⟩) ⟨(i 0).val % 2, mod2 _⟩ ((v.toNat / 512 - 0)) ((v.toNat + 511) / 512) ∗ TabP (F := F) c pt ∗ AccAt c (runSt (foldU pk pv 0 v13 v14 q (rowOf pt ⟨(i 0).val, iLt i⟩)) (v.toNat / 512 - 0) S).2.2 ∗ Owe (F := F) c)) := by
  refine .trans ?_ (wp_loop c _ ok (S.1, S.2.1) _ (fun k x => iprop(⌜x = ((runSt (foldU pk pv 0 v13 v14 q (rowOf pt ⟨(i 0).val, iLt i⟩)) k S).1, (runSt (foldU pk pv 0 v13 v14 q (rowOf pt ⟨(i 0).val, iLt i⟩)) k S).2.1)⌝ ∗ Cells c pk pv (rowOf pt ⟨(i 0).val, iLt i⟩) ⟨(i 0).val % 2, mod2 _⟩ (k) ((v.toNat + 511) / 512) ∗ TabP (F := F) c pt ∗ AccAt c (runSt (foldU pk pv 0 v13 v14 q (rowOf pt ⟨(i 0).val, iLt i⟩)) k S).2.2 ∗ Owe (F := F) c)) _ (t5_trips hv) fun t x => ?_)
  · iintro H
    isplitr; · ipureintro; rfl
    iexact H
  · have hb : t.val < ((v.toNat + 511) / 512) := by have := lt_of_lt_of_eq t.isLt (t5_trips hv); omega
    iintro ⟨%e, HC, HT, HA, HW⟩
    subst e
    ihave ⟨HC, HK⟩ := (cells_land c pk pv (rowOf pt ⟨(i 0).val, iLt i⟩) ⟨(i 0).val % 2, mod2 _⟩ (t.val) ((v.toNat + 511) / 512) (t5_lt hv t) hb) $$ HC
    iapply (wp_wand frame (wpE (defs₀ (F := F)) Variants.none (Dev.tc c : Thread nD τ) none) Set.univ) $$ [HC HT HA HW]
    · iapply (trip5 c pk pv pt i a3 h3 a4 h4 a5 h5 a6 a7 h6 h7 a10 h10 a11 a12 h11 h12 hpt v hv hw arg0 v0 v10 v12 v13 v14 q v84 v95 v99 v101 t (runSt (foldU pk pv 0 v13 v14 q (rowOf pt ⟨(i 0).val, iLt i⟩)) t.val S))
      isplitl [HC]; · iexact HC
      isplitl [HT]; · iexact HT
      isplitl [HA]; · iexact HA
      iexact HW
    iintro %r ⟨HC, HT, HA, HW, %e⟩
    rw [jj_of (t5_lt hv t)] at e
    rw [jj_of (t5_lt hv t)]
    isplitr; · ipureintro; exact e
    isplitl [HC HK]; · iapply HK; iexact HC
    isplitl [HT]; · iexact HT
    isplitl [HA]; · iexact HA
    iexact HW

/-- The attention loop of head 0 over the last block. -/
theorem attLoop7 (hpt : ∀ x, (pt x).toNat < 2048) (v : BitVec 32) (hv : v.toNat ≤ 8192) (hw : k0_chk19 i v) (arg0 v0 v12 : BitVec 32) (v13 v14 : Elt F .f32) (q : FVec F S1024x128 .bf16) (v84 v95 v99 : FVec F S1x1024 .f32) (v101 : FVec F S128x1024 .f32)
    (ok : (k0_t7_loop v).OK) (S : St F) :
    iprop(Cells c pk pv (rowOf pt ⟨(i 0).val, iLt i⟩) ⟨(i 0).val % 2, mod2 _⟩ (v.toNat / 512 + 0) ((v.toNat + 511) / 512) ∗ TabP (F := F) c pt ∗ AccAt c S.2.2 ∗ Owe (F := F) c)
      ⊢ wp (M := 𝕄) frame (wpE (defs₀ (F := F)) Variants.none (Dev.tc c : Thread nD τ) none) Set.univ (Scf.Loop.for (k0_t7_loop v) ok (S.1, S.2.1) (k0_t7_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 arg0 v0 v hw (Scalar.shrui v 9#32) v12 v13 v14 q v84 v95 v99 v101))
        (fun x => iprop(⌜x = ((runSt (fun k => foldM pk pv 0 v v13 v14 q (rowOf pt ⟨(i 0).val, iLt i⟩) (v.toNat / 512 + k)) (((v.toNat + 511) / 512) - v.toNat / 512) S).1, (runSt (fun k => foldM pk pv 0 v v13 v14 q (rowOf pt ⟨(i 0).val, iLt i⟩) (v.toNat / 512 + k)) (((v.toNat + 511) / 512) - v.toNat / 512) S).2.1)⌝ ∗ Cells c pk pv (rowOf pt ⟨(i 0).val, iLt i⟩) ⟨(i 0).val % 2, mod2 _⟩ (v.toNat / 512 + (((v.toNat + 511) / 512) - v.toNat / 512)) ((v.toNat + 511) / 512) ∗ TabP (F := F) c pt ∗ AccAt c (runSt (fun k => foldM pk pv 0 v v13 v14 q (rowOf pt ⟨(i 0).val, iLt i⟩) (v.toNat / 512 + k)) (((v.toNat + 511) / 512) - v.toNat / 512) S).2.2 ∗ Owe (F := F) c)) := by
  refine .trans ?_ (wp_loop c _ ok (S.1, S.2.1) _ (fun k x => iprop(⌜x = ((runSt (fun k => foldM pk pv 0 v v13 v14 q (rowOf pt ⟨(i 0).val, iLt i⟩) (v.toNat / 512 + k)) k S).1, (runSt (fun k => foldM pk pv 0 v v13 v14 q (rowOf pt ⟨(i 0).val, iLt i⟩) (v.toNat / 512 + k)) k S).2.1)⌝ ∗ Cells c pk pv (rowOf pt ⟨(i 0).val, iLt i⟩) ⟨(i 0).val % 2, mod2 _⟩ (v.toNat / 512 + k) ((v.toNat + 511) / 512) ∗ TabP (F := F) c pt ∗ AccAt c (runSt (fun k => foldM pk pv 0 v v13 v14 q (rowOf pt ⟨(i 0).val, iLt i⟩) (v.toNat / 512 + k)) k S).2.2 ∗ Owe (F := F) c)) _ (t7_trips hv) fun t x => ?_)
  · iintro H
    isplitr; · ipureintro; rfl
    iexact H
  · have hb : v.toNat / 512 + t.val < ((v.toNat + 511) / 512) := by have := lt_of_lt_of_eq t.isLt (t7_trips hv); omega
    have ev : Scf.iv (Scalar.shrui v 9#32) 1#32 t.val = BitVec.ofNat 32 (v.toNat / 512 + t.val) := by
      rw [← t7_iv hv t]; exact BitVec.eq_of_toNat_eq (by rw [BitVec.toNat_ofNat]; exact (Nat.mod_eq_of_lt (BitVec.isLt _)).symm)
    iintro ⟨%e, HC, HT, HA, HW⟩
    subst e
    ihave ⟨HC, HK⟩ := (cells_land c pk pv (rowOf pt ⟨(i 0).val, iLt i⟩) ⟨(i 0).val % 2, mod2 _⟩ (v.toNat / 512 + t.val) ((v.toNat + 511) / 512) (t7_lt hv t) hb) $$ HC
    iapply (wp_wand frame (wpE (defs₀ (F := F)) Variants.none (Dev.tc c : Thread nD τ) none) Set.univ) $$ [HC HT HA HW]
    · iapply (trip7 c pk pv pt i a3 h3 a4 h4 a5 h5 a6 a7 h6 h7 a10 h10 a11 a12 h11 h12 hpt v hv hw arg0 v0 (Scalar.shrui v 9#32) v12 v13 v14 q v84 v95 v99 v101 t (runSt (fun k => foldM pk pv 0 v v13 v14 q (rowOf pt ⟨(i 0).val, iLt i⟩) (v.toNat / 512 + k)) t.val S))
      isplitl [HC]; · iexact HC
      isplitl [HT]; · iexact HT
      isplitl [HA]; · iexact HA
      iexact HW
    iintro %r ⟨HC, HT, HA, HW, %e⟩
    rw [jj_of (t7_lt hv t), ev] at e
    rw [jj_of (t7_lt hv t), ev]
    isplitr; · ipureintro; exact e
    isplitl [HC HK]; · iapply HK; iexact HC
    isplitl [HT]; · iexact HT
    isplitl [HA]; · iexact HA
    iexact HW

/-- The attention loop of head 1 over the full blocks. -/
theorem attLoop9 (hpt : ∀ x, (pt x).toNat < 2048) (v : BitVec 32) (hv : v.toNat ≤ 8192) (hw : k0_chk19 i v) (v0 v10 v12 : BitVec 32) (v13 v14 : Elt F .f32) (q : FVec F S1024x128 .bf16) (v223 v224 : FVec F S1x1024 .f32) (v237 : FVec F S128x1024 .f32) (v239 : FVec F S1x128 .bf16) (v240 : FVec F S128x128 .bf16)
    (ok : (k0_t9_loop v).OK) (S : St F) :
    iprop(Cells c pk pv (rowOf pt ⟨(i 0).val, iLt i⟩) ⟨(i 0).val % 2, mod2 _⟩ ((v.toNat + 511) / 512) ((v.toNat + 511) / 512) ∗ TabP (F := F) c pt ∗ AccAt c S.2.2 ∗ Owe (F := F) c)
      ⊢ wp (M := 𝕄) frame (wpE (defs₀ (F := F)) Variants.none (Dev.tc c : Thread nD τ) none) Set.univ (Scf.Loop.for (k0_t9_loop v) ok (S.1, S.2.1) (k0_t9_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 v0 v hw v10 v12 v13 v14 q v223 v224 v237 v239 v240))
        (fun x => iprop(⌜x = ((runSt (foldU pk pv 1 v13 v14 q (rowOf pt ⟨(i 0).val, iLt i⟩)) (v.toNat / 512 - 0) S).1, (runSt (foldU pk pv 1 v13 v14 q (rowOf pt ⟨(i 0).val, iLt i⟩)) (v.toNat / 512 - 0) S).2.1)⌝ ∗ Cells c pk pv (rowOf pt ⟨(i 0).val, iLt i⟩) ⟨(i 0).val % 2, mod2 _⟩ ((v.toNat + 511) / 512) ((v.toNat + 511) / 512) ∗ TabP (F := F) c pt ∗ AccAt c (runSt (foldU pk pv 1 v13 v14 q (rowOf pt ⟨(i 0).val, iLt i⟩)) (v.toNat / 512 - 0) S).2.2 ∗ Owe (F := F) c)) := by
  refine .trans ?_ (wp_loop c _ ok (S.1, S.2.1) _ (fun k x => iprop(⌜x = ((runSt (foldU pk pv 1 v13 v14 q (rowOf pt ⟨(i 0).val, iLt i⟩)) k S).1, (runSt (foldU pk pv 1 v13 v14 q (rowOf pt ⟨(i 0).val, iLt i⟩)) k S).2.1)⌝ ∗ Cells c pk pv (rowOf pt ⟨(i 0).val, iLt i⟩) ⟨(i 0).val % 2, mod2 _⟩ ((v.toNat + 511) / 512) ((v.toNat + 511) / 512) ∗ TabP (F := F) c pt ∗ AccAt c (runSt (foldU pk pv 1 v13 v14 q (rowOf pt ⟨(i 0).val, iLt i⟩)) k S).2.2 ∗ Owe (F := F) c)) _ (t9_trips hv) fun t x => ?_)
  · iintro H
    isplitr; · ipureintro; rfl
    iexact H
  · have hb : t.val < ((v.toNat + 511) / 512) := by have := lt_of_lt_of_eq t.isLt (t9_trips hv); omega
    iintro ⟨%e, HC, HT, HA, HW⟩
    subst e
    ihave ⟨HC, HK⟩ := (cells_read c pk pv (rowOf pt ⟨(i 0).val, iLt i⟩) ⟨(i 0).val % 2, mod2 _⟩ ((v.toNat + 511) / 512) ((v.toNat + 511) / 512) ⟨t.val, t9_lt hv t⟩ hb) $$ HC
    iapply (wp_wand frame (wpE (defs₀ (F := F)) Variants.none (Dev.tc c : Thread nD τ) none) Set.univ) $$ [HC HT HA HW]
    · iapply (trip9 c pk pv pt i a3 h3 a4 h4 a5 h5 a6 a7 h6 h7 a10 h10 a11 a12 h11 h12 v hv hw v0 v10 v12 v13 v14 q v223 v224 v237 v239 v240 t (runSt (foldU pk pv 1 v13 v14 q (rowOf pt ⟨(i 0).val, iLt i⟩)) t.val S))
      isplitl [HC]; · iexact HC
      isplitl [HT]; · iexact HT
      isplitl [HA]; · iexact HA
      iexact HW
    iintro %r ⟨HC, HT, HA, HW, %e⟩
    rw [jj_of (t9_lt hv t)] at e
    rw [jj_of (t9_lt hv t)]
    isplitr; · ipureintro; exact e
    isplitl [HC HK]; · iapply HK; iexact HC
    isplitl [HT]; · iexact HT
    isplitl [HA]; · iexact HA
    iexact HW

/-- The attention loop of head 1 over the last block. -/
theorem attLoop11 (hpt : ∀ x, (pt x).toNat < 2048) (v : BitVec 32) (hv : v.toNat ≤ 8192) (hw : k0_chk19 i v) (v0 v12 : BitVec 32) (v13 v14 : Elt F .f32) (q : FVec F S1024x128 .bf16) (v223 v224 : FVec F S1x1024 .f32) (v237 : FVec F S128x1024 .f32) (v239 : FVec F S1x128 .bf16) (v240 : FVec F S128x128 .bf16)
    (ok : (k0_t11_loop v).OK) (S : St F) :
    iprop(Cells c pk pv (rowOf pt ⟨(i 0).val, iLt i⟩) ⟨(i 0).val % 2, mod2 _⟩ ((v.toNat + 511) / 512) ((v.toNat + 511) / 512) ∗ TabP (F := F) c pt ∗ AccAt c S.2.2 ∗ Owe (F := F) c)
      ⊢ wp (M := 𝕄) frame (wpE (defs₀ (F := F)) Variants.none (Dev.tc c : Thread nD τ) none) Set.univ (Scf.Loop.for (k0_t11_loop v) ok (S.1, S.2.1) (k0_t11_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 v0 v hw (Scalar.shrui v 9#32) v12 v13 v14 q v223 v224 v237 v239 v240))
        (fun x => iprop(⌜x = ((runSt (fun k => foldM pk pv 1 v v13 v14 q (rowOf pt ⟨(i 0).val, iLt i⟩) (v.toNat / 512 + k)) (((v.toNat + 511) / 512) - v.toNat / 512) S).1, (runSt (fun k => foldM pk pv 1 v v13 v14 q (rowOf pt ⟨(i 0).val, iLt i⟩) (v.toNat / 512 + k)) (((v.toNat + 511) / 512) - v.toNat / 512) S).2.1)⌝ ∗ Cells c pk pv (rowOf pt ⟨(i 0).val, iLt i⟩) ⟨(i 0).val % 2, mod2 _⟩ ((v.toNat + 511) / 512) ((v.toNat + 511) / 512) ∗ TabP (F := F) c pt ∗ AccAt c (runSt (fun k => foldM pk pv 1 v v13 v14 q (rowOf pt ⟨(i 0).val, iLt i⟩) (v.toNat / 512 + k)) (((v.toNat + 511) / 512) - v.toNat / 512) S).2.2 ∗ Owe (F := F) c)) := by
  refine .trans ?_ (wp_loop c _ ok (S.1, S.2.1) _ (fun k x => iprop(⌜x = ((runSt (fun k => foldM pk pv 1 v v13 v14 q (rowOf pt ⟨(i 0).val, iLt i⟩) (v.toNat / 512 + k)) k S).1, (runSt (fun k => foldM pk pv 1 v v13 v14 q (rowOf pt ⟨(i 0).val, iLt i⟩) (v.toNat / 512 + k)) k S).2.1)⌝ ∗ Cells c pk pv (rowOf pt ⟨(i 0).val, iLt i⟩) ⟨(i 0).val % 2, mod2 _⟩ ((v.toNat + 511) / 512) ((v.toNat + 511) / 512) ∗ TabP (F := F) c pt ∗ AccAt c (runSt (fun k => foldM pk pv 1 v v13 v14 q (rowOf pt ⟨(i 0).val, iLt i⟩) (v.toNat / 512 + k)) k S).2.2 ∗ Owe (F := F) c)) _ (t11_trips hv) fun t x => ?_)
  · iintro H
    isplitr; · ipureintro; rfl
    iexact H
  · have hb : v.toNat / 512 + t.val < ((v.toNat + 511) / 512) := by have := lt_of_lt_of_eq t.isLt (t11_trips hv); omega
    have ev : Scf.iv (Scalar.shrui v 9#32) 1#32 t.val = BitVec.ofNat 32 (v.toNat / 512 + t.val) := by
      rw [← t11_iv hv t]; exact BitVec.eq_of_toNat_eq (by rw [BitVec.toNat_ofNat]; exact (Nat.mod_eq_of_lt (BitVec.isLt _)).symm)
    iintro ⟨%e, HC, HT, HA, HW⟩
    subst e
    ihave ⟨HC, HK⟩ := (cells_read c pk pv (rowOf pt ⟨(i 0).val, iLt i⟩) ⟨(i 0).val % 2, mod2 _⟩ ((v.toNat + 511) / 512) ((v.toNat + 511) / 512) ⟨v.toNat / 512 + t.val, t11_lt hv t⟩ hb) $$ HC
    iapply (wp_wand frame (wpE (defs₀ (F := F)) Variants.none (Dev.tc c : Thread nD τ) none) Set.univ) $$ [HC HT HA HW]
    · iapply (trip11 c pk pv pt i a3 h3 a4 h4 a5 h5 a6 a7 h6 h7 a10 h10 a11 a12 h11 h12 v hv hw v0 (Scalar.shrui v 9#32) v12 v13 v14 q v223 v224 v237 v239 v240 t (runSt (fun k => foldM pk pv 1 v v13 v14 q (rowOf pt ⟨(i 0).val, iLt i⟩) (v.toNat / 512 + k)) t.val S))
      isplitl [HC]; · iexact HC
      isplitl [HT]; · iexact HT
      isplitl [HA]; · iexact HA
      iexact HW
    iintro %r ⟨HC, HT, HA, HW, %e⟩
    rw [jj_of (t11_lt hv t), ev] at e
    rw [jj_of (t11_lt hv t), ev]
    isplitr; · ipureintro; exact e
    isplitl [HC HK]; · iapply HK; iexact HC
    isplitl [HT]; · iexact HT
    isplitl [HA]; · iexact HA
    iexact HW

end Cert.Kernel.Hand
-- ==== Proof.Kn.Win.lean ====
module

public import proofs.«01_k».proof.Proof.Kn.Loop
public import Idealize.ShloMosaic.Lib.VecWindow

/-!
# Loads and stores of the staged blocks

The staged blocks are held by the values they read; the query block is read by columns of 128, the new keys and values by
head, and the results are written by columns of 128 and by head.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.RefSig (tileCredit)
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)

theorem setOn_sub {sp : Space} {s : Shape} {e : EltTy} (m : Memref sig .tc sp s e) (r : Rect s) (M : Finset r.shape.Idx) : (m.access r).setOn M ⊆ m.view.set := by
  intro y hy
  obtain ⟨x, -, rfl⟩ := Finset.mem_map.mp hy
  exact m.view.emb_mem_set (r.emb x)

theorem setOn_sub' {sp : Space} {s : Shape} {e : EltTy} (m : Memref sig .tc sp s e) (r : LoadRect s) : m.view.setOn r.set ⊆ m.view.set := by
  intro y hy
  obtain ⟨x, -, rfl⟩ := Finset.mem_map.mp hy
  exact m.view.emb_mem_set x

/-- Reading a window of a staged block. -/
theorem wp_wload {s : Shape} {e : EltTy} (m : Memref sig .tc .vmem s e) {q : PosShare TreeShare} (d : s.Idx → Elt F e)
    {off off' size : Fin s.rank → ℕ} {inb : ∀ a, off a + size a ≤ s.size a} (ho : off = off') (inb' : ∀ a, off' a + size a ≤ s.size a) {hl}
    {Q : (((a : Fin s.rank) → Fin (size a)) → Elt F e) → sProp 𝕄} :
    (owns (c : Thread nD τ) m q d : sProp 𝕄) ⊢ iprop((owns (c : Thread nD τ) m q d -∗ Q (VecWindow.window d off' size inb')) -∗
      wp (M := 𝕄) frame (wpE (defs₀ (F := F)) Variants.none (Dev.tc c : Thread nD τ) none) Set.univ (Prog.lift (.load m (Rect.unit off size inb).toLoadRect hl)) Q) := by
  unfold owns
  iintro ⟨%f, %hf, H⟩ HQ
  iapply (wp_load (defs := defs₀ (F := F)) Variants.none (c : Thread nD τ) none Set.univ (m := m) (r := (Rect.unit off size inb).toLoadRect) (q := q) (f := f) (setOn_sub' m _)) $$ H
  iintro H
  rw [wp_ret, View.readAt_unit m.view f inb ho inb', hf]
  imodintro
  iapply HQ
  iexists f
  isplitr; · ipureintro; exact hf
  iexact H

/-- Writing a window of a staged block. -/
theorem wp_wstore {s : Shape} {e : EltTy} (m : Memref sig .tc .vmem s e) (d : s.Idx → Elt F e)
    {off off' size : Fin s.rank → ℕ} {inb : ∀ a, off a + size a ≤ s.size a} (ho : off = off') (w : (Rect.unit off size inb).shape.Idx → Elt F e) {hx hm}
    {Q : PUnit → sProp 𝕄} :
    (owns (c : Thread nD τ) m fullShare d : sProp 𝕄) ⊢ iprop((owns (c : Thread nD τ) m fullShare (VecWindow.put d off' size w) -∗ Q ⟨⟩) -∗
      wp (M := 𝕄) frame (wpE (defs₀ (F := F)) Variants.none (Dev.tc c : Thread nD τ) none) Set.univ (Prog.lift (.store m (Rect.unit off size inb) w Finset.univ hx hm)) Q) := by
  unfold owns
  iintro ⟨%f, %hf, H⟩ HQ
  iapply (wp_store (defs := defs₀ (F := F)) Variants.none (c : Thread nD τ) none Set.univ (m := m) (r := (Rect.unit off size inb)) (f := f) (setOn_sub m _ _)) $$ H
  iintro H
  rw [wp_ret]
  imodintro
  iapply HQ
  iexists _
  isplitr
  swap; · iexact H
  ipureintro
  have := View.read_writes_cons_put m.view f inb w [] ho
  rw [View.writes_nil, hf] at this
  exact this

/-- Reading a word of a staged pair. -/
theorem wp_wsmem (m : Memref sig .tc .smem S2 .f32) {q : PosShare TreeShare} (d : S2.Idx → Elt F .f32) (k : Fin 2)
    {o : Fin 1 → ℕ} (ho : o = ![k.val]) {inb : ∀ a, o a + S1.size a ≤ S2.size a} {hn h1} {Q : Elt F .f32 → sProp 𝕄} :
    (owns (c : Thread nD τ) m q d : sProp 𝕄) ⊢ iprop((owns (c : Thread nD τ) m q d -∗ Q (d (ix1 k))) -∗
      wp (M := 𝕄) frame (wpE (defs₀ (F := F)) Variants.none (Dev.tc c : Thread nD τ) none) Set.univ (smemLoad m (Rect.unit (s := S2) o S1.size inb) hn h1) Q) := by
  subst ho
  unfold owns smemLoad
  iintro ⟨%f, %hf, H⟩ HQ
  iapply (wp_smemLoadElt (defs := defs₀ (F := F)) Variants.none (c : Thread nD τ) none Set.univ (m := m)
    (r := Rect.unit (s := S2) ![k.val] S1.size inb) (q := q) (f := f) (S := m.view.set) (by intro y hy; obtain ⟨x, -, rfl⟩ := Finset.mem_map.mp hy; exact m.view.emb_mem_set _)) $$ H
  iintro H
  rw [wp_ret]
  imodintro
  have e : ∀ hx, View.read (Elt F) (m.access (Rect.unit (s := S2) ![k.val] S1.size inb)) f (Shape.Idx.first hx) = d (ix1 k) := by
    intro hx
    rw [← hf]
    refine congrArg (m.view.read (Elt F) f) (funext fun a => Fin.ext ?_)
    fin_cases a
    · show k.val + 1 * 0 = k.val; omega
  rw [e]
  iapply HQ
  iexists f
  isplitr; · ipureintro; exact hf
  iexact H

/-- Columns `128 n …` of the query block. -/
def xs (x : S1x128x2048.Idx → Elt F .bf16) (n : Fin 16) : Vec F S1x128x128 .bf16 :=
  fun y => x (ix3 0 (y 1) ⟨128 * n.val + (y 2).val, by have := (y 2).isLt; change _ < 128 at this; omega⟩)
/-- Head `g` of the new keys or values. -/
def kn4 (x : S1x2x128x128.Idx → Elt F .bf16) (g : Fin 2) : Vec F S1x1x128x128 .bf16 := fun y => x (ix4 0 g (y 2) (y 3))

/-- Reading columns of the query block. -/
theorem wp_xload (m : Memref sig .tc .vmem S1x128x2048 .bf16) {q : PosShare TreeShare} (d : S1x128x2048.Idx → Elt F .bf16) (n : Fin 16)
    {o : Fin 3 → ℕ} (ho : o = ![0, 0, 128 * n.val]) {inb : ∀ a, o a + S1x128x128.size a ≤ S1x128x2048.size a} {hl} {Q : Vec F S1x128x128 .bf16 → sProp 𝕄} :
    (owns (c : Thread nD τ) m q d : sProp 𝕄) ⊢ iprop((owns (c : Thread nD τ) m q d -∗ Q (xs d n)) -∗
      wp (M := 𝕄) frame (wpE (defs₀ (F := F)) Variants.none (Dev.tc c : Thread nD τ) none) Set.univ (Prog.lift (.load m (Rect.unit (s := S1x128x2048) o S1x128x128.size inb).toLoadRect hl)) Q) := by
  subst ho
  have e : xs d n = VecWindow.window d ![0, 0, 128 * n.val] S1x128x128.size inb := by
    funext y
    refine congrArg d (funext fun a => Fin.ext ?_)
    have h0 := (y 0).isLt
    change _ < 1 at h0
    fin_cases a
    · show 0 = 0 + 1 * (y 0).val; omega
    · show (y 1).val = 0 + 1 * (y 1).val; omega
    · show 128 * n.val + (y 2).val = 128 * n.val + 1 * (y 2).val; omega
  rw [e]
  exact wp_wload c m d rfl inb

/-- Reading a head of the new keys or values. -/
theorem wp_nload (m : Memref sig .tc .vmem S1x2x128x128 .bf16) {q : PosShare TreeShare} (d : S1x2x128x128.Idx → Elt F .bf16) (g : Fin 2)
    {o : Fin 4 → ℕ} (ho : o = ![0, g.val, 0, 0]) {inb : ∀ a, o a + S1x1x128x128.size a ≤ S1x2x128x128.size a} {hl} {Q : Vec F S1x1x128x128 .bf16 → sProp 𝕄} :
    (owns (c : Thread nD τ) m q d : sProp 𝕄) ⊢ iprop((owns (c : Thread nD τ) m q d -∗ Q (kn4 d g)) -∗
      wp (M := 𝕄) frame (wpE (defs₀ (F := F)) Variants.none (Dev.tc c : Thread nD τ) none) Set.univ (Prog.lift (.load m (Rect.unit (s := S1x2x128x128) o S1x1x128x128.size inb).toLoadRect hl)) Q) := by
  subst ho
  have e : kn4 d g = VecWindow.window d ![0, g.val, 0, 0] S1x1x128x128.size inb := by
    funext y
    refine congrArg d (funext fun a => Fin.ext ?_)
    have h0 := (y 0).isLt
    change _ < 1 at h0
    have h1 := (y 1).isLt
    change _ < 1 at h1
    fin_cases a
    · show 0 = 0 + 1 * (y 0).val; omega
    · show g.val = g.val + 1 * (y 1).val; omega
    · show (y 2).val = 0 + 1 * (y 2).val; omega
    · show (y 3).val = 0 + 1 * (y 3).val; omega
  rw [e]
  exact wp_wload c m d rfl inb

/-- The result block with columns `128 n …` replaced. -/
def yput (d : S1x128x2048.Idx → Elt F .bf16) (n : Fin 16) (w : Vec F S1x128x128 .bf16) : S1x128x2048.Idx → Elt F .bf16 :=
  VecWindow.put d ![0, 0, 128 * n.val] S1x128x128.size w
/-- The code block with a head replaced. -/
def cput (d : S1x2x128x128.Idx → Elt F .fp8e4m3) (g : Fin 2) (w : Vec F S1x1x128x128 .fp8e4m3) : S1x2x128x128.Idx → Elt F .fp8e4m3 :=
  VecWindow.put d ![0, g.val, 0, 0] S1x1x128x128.size w

/-- A dead load of a staged block and the store over it. -/
theorem wp_yput (m : Memref sig .tc .vmem S1x128x2048 .bf16) (d : S1x128x2048.Idx → Elt F .bf16) (n : Fin 16) (w : Vec F S1x128x128 .bf16)
    {o : Fin 3 → ℕ} (ho : o = ![0, 0, 128 * n.val]) {inb : ∀ a, o a + S1x128x128.size a ≤ S1x128x2048.size a} {hx hm} {Q : PUnit → sProp 𝕄} :
    (owns (c : Thread nD τ) m fullShare d : sProp 𝕄) ⊢ iprop((owns (c : Thread nD τ) m fullShare (yput d n w) -∗ Q ⟨⟩) -∗
      wp (M := 𝕄) frame (wpE (defs₀ (F := F)) Variants.none (Dev.tc c : Thread nD τ) none) Set.univ (Prog.lift (.store m (Rect.unit (s := S1x128x2048) o S1x128x128.size inb) w Finset.univ hx hm)) Q) := wp_wstore c m d ho w
theorem wp_cput (m : Memref sig .tc .vmem S1x2x128x128 .fp8e4m3) (d : S1x2x128x128.Idx → Elt F .fp8e4m3) (g : Fin 2) (w : Vec F S1x1x128x128 .fp8e4m3)
    {o : Fin 4 → ℕ} (ho : o = ![0, g.val, 0, 0]) {inb : ∀ a, o a + S1x1x128x128.size a ≤ S1x2x128x128.size a} {hx hm} {Q : PUnit → sProp 𝕄} :
    (owns (c : Thread nD τ) m fullShare d : sProp 𝕄) ⊢ iprop((owns (c : Thread nD τ) m fullShare (cput d g w) -∗ Q ⟨⟩) -∗
      wp (M := 𝕄) frame (wpE (defs₀ (F := F)) Variants.none (Dev.tc c : Thread nD τ) none) Set.univ (Prog.lift (.store m (Rect.unit (s := S1x2x128x128) o S1x1x128x128.size inb) w Finset.univ hx hm)) Q) := wp_wstore c m d ho w

/-- All columns. -/
def yAll (w : Fin 16 → Vec F S1x128x128 .bf16) : S1x128x2048.Idx → Elt F .bf16 := fun x =>
  w ⟨(x 2).val / 128, by have := (x 2).isLt; change _ < 2048 at this; omega⟩ (ix3 0 (x 1) ⟨(x 2).val % 128, Nat.mod_lt _ (by decide)⟩)
/-- Both heads. -/
def cAll (w : Fin 2 → Vec F S1x1x128x128 .fp8e4m3) : S1x2x128x128.Idx → Elt F .fp8e4m3 := fun x => w (x 1) (ix4 0 0 (x 2) (x 3))

theorem yput_apply (d : S1x128x2048.Idx → Elt F .bf16) (n : Fin 16) (w : Vec F S1x128x128 .bf16) (x : S1x128x2048.Idx) :
    yput d n w x = if (x 2).val / 128 = n.val then w (ix3 0 (x 1) ⟨(x 2).val % 128, Nat.mod_lt _ (by decide)⟩) else d x := by
  have h0 := (x 0).isLt
  change _ < 1 at h0
  have h1 := (x 1).isLt
  change _ < 128 at h1
  unfold yput VecWindow.put
  by_cases h : (x 2).val / 128 = n.val
  · rw [if_pos h, dif_pos (show ∀ a, _ from fun a => by
      fin_cases a
      · exact ⟨Nat.zero_le _, by show (x 0).val < 0 + 1; omega⟩
      · exact ⟨Nat.zero_le _, by show (x 1).val < 0 + 128; omega⟩
      · exact ⟨by show 128 * n.val ≤ (x 2).val; omega, by show (x 2).val < 128 * n.val + 128; omega⟩)]
    refine congrArg w (funext fun a => Fin.ext ?_)
    fin_cases a
    · show (x 0).val - 0 = 0; omega
    · show (x 1).val - 0 = (x 1).val; omega
    · show (x 2).val - 128 * n.val = (x 2).val % 128; omega
  · rw [if_neg h, dif_neg (fun hh => h (by
      have h2 := hh (2 : Fin 3)
      change 128 * n.val ≤ (x 2).val ∧ (x 2).val < 128 * n.val + 128 at h2
      omega))]

theorem cput_apply (d : S1x2x128x128.Idx → Elt F .fp8e4m3) (g : Fin 2) (w : Vec F S1x1x128x128 .fp8e4m3) (x : S1x2x128x128.Idx) :
    cput d g w x = if (x 1).val = g.val then w (ix4 0 0 (x 2) (x 3)) else d x := by
  have h0 := (x 0).isLt
  change _ < 1 at h0
  have h2 := (x 2).isLt
  change _ < 128 at h2
  have h3 := (x 3).isLt
  change _ < 128 at h3
  unfold cput VecWindow.put
  by_cases h : (x 1).val = g.val
  · rw [if_pos h, dif_pos (show ∀ a, _ from fun a => by
      fin_cases a
      · exact ⟨Nat.zero_le _, by show (x 0).val < 0 + 1; omega⟩
      · exact ⟨by show g.val ≤ (x 1).val; omega, by show (x 1).val < g.val + 1; omega⟩
      · exact ⟨Nat.zero_le _, by show (x 2).val < 0 + 128; omega⟩
      · exact ⟨Nat.zero_le _, by show (x 3).val < 0 + 128; omega⟩)]
    refine congrArg w (funext fun a => Fin.ext ?_)
    fin_cases a
    · show (x 0).val - 0 = 0; omega
    · show (x 1).val - g.val = 0; omega
    · show (x 2).val - 0 = (x 2).val; omega
    · show (x 3).val - 0 = (x 3).val; omega
  · rw [if_neg h, dif_neg (fun hh => h (by
      have h2 := hh (1 : Fin 4)
      change g.val ≤ (x 1).val ∧ (x 1).val < g.val + 1 at h2
      omega))]

/-- The first `n` columns of 128 replaced, in order. -/
def yputs (d : S1x128x2048.Idx → Elt F .bf16) (w : Fin 16 → Vec F S1x128x128 .bf16) : (n : ℕ) → n ≤ 16 → S1x128x2048.Idx → Elt F .bf16
  | 0, _ => d
  | n + 1, h => yput (yputs d w n (Nat.le_of_succ_le h)) ⟨n, h⟩ (w ⟨n, h⟩)

theorem yputs_apply (d : S1x128x2048.Idx → Elt F .bf16) (w : Fin 16 → Vec F S1x128x128 .bf16) (n : ℕ) (hn : n ≤ 16) (x : S1x128x2048.Idx)
    (hx : (x 2).val / 128 < n) : yputs d w n hn x = yAll w x := by
  induction n with
  | zero => omega
  | succ n ih =>
    rw [yputs, yput_apply]
    by_cases h : (x 2).val / 128 = n
    · rw [if_pos h]
      subst h
      rfl
    · rw [if_neg h]
      exact ih _ (by omega)

theorem yputs_all (d : S1x128x2048.Idx → Elt F .bf16) (w : Fin 16 → Vec F S1x128x128 .bf16) : yputs d w 16 le_rfl = yAll w := by
  funext x
  have := (x 2).isLt
  change _ < 2048 at this
  exact yputs_apply d w 16 le_rfl x (by omega)

theorem cputs_all (d : S1x2x128x128.Idx → Elt F .fp8e4m3) (w : Fin 2 → Vec F S1x1x128x128 .fp8e4m3) : cput (cput d 0 (w 0)) 1 (w 1) = cAll w := by
  funext x
  rw [cput_apply, cput_apply]
  unfold cAll
  obtain ⟨q, hq⟩ : ∃ q : Fin 2, x 1 = q := ⟨_, rfl⟩
  rw [hq]
  fin_cases q
  · rfl
  · rfl

end Cert.Kernel.Hand
-- ==== Proof.Kn.Parts.lean ====
module

public import proofs.«01_k».proof.Proof.Kn.Win

/-!
# One step of the grid

The parts of a step in turn: the fetches, the query block and the new keys and values of a head, their codes, the attention
over the new tokens, the attention over the fetched blocks, and the columns of the result.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Memref (whole isWhole_whole)
open Idealize.ShloMosaic.ValueIdx
open Idealize.ShloMosaic.RefSig (tileCredit)
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (pk pv : S2048x2x128x128.Idx → Elt F .fp8e4m3) (pt : S32x64.Idx → BitVec 32)
  (sl : S32.Idx → BitVec 32)

/-- Reading a window of a staged block. -/
theorem wp_dead {s : Shape} {e : EltTy} (m : Memref sig .tc .vmem s e) {q : PosShare TreeShare} (d : s.Idx → Elt F e)
    {off size : Fin s.rank → ℕ} {inb : ∀ a, off a + size a ≤ s.size a} {hl} {Q : (((a : Fin s.rank) → Fin (size a)) → Elt F e) → sProp 𝕄} :
    (owns (c : Thread nD τ) m q d : sProp 𝕄) ⊢ iprop((owns (c : Thread nD τ) m q d -∗ Q (VecWindow.window d off size inb)) -∗
      wp (M := 𝕄) frame (wpE (defs₀ (F := F)) Variants.none (Dev.tc c : Thread nD τ) none) Set.univ (Prog.lift (.load m (Rect.unit off size inb).toLoadRect hl)) Q) := wp_wload c m d rfl inb

/-- The queries of the first head: eight column blocks stacked. -/
def qry0 (x : S1x128x2048.Idx → Elt F .bf16) : FVec F S1024x128 .bf16 :=
  k0_pay54 (k0_pay48 (xs x 0)) (k0_pay49 (xs x 1)) (k0_pay50 (xs x 2)) (k0_pay51 (xs x 3)) (k0_pay52 (xs x 4)) (k0_pay53 (xs x 5)) (xs x 6) (xs x 7)
/-- The queries of the second head. -/
def qry1 (x : S1x128x2048.Idx → Elt F .bf16) : FVec F S1024x128 .bf16 :=
  k0_pay97 (xs x 8) (xs x 9) (xs x 10) (xs x 11) (xs x 12) (xs x 13) (xs x 14) (xs x 15)
/-- The state after the new tokens, first head. -/
def start0 (v13 v14 : Elt F .f32) (q : FVec F S1024x128 .bf16) (k v : Vec F S1x1x128x128 .bf16) : St F :=
  (k0_pay62 v13 q (k0_pay55 v13 k), k0_pay66 v13 q (k0_pay55 v13 k),
    k0_pay68 (k0_pay65 v13 q (k0_pay55 v13 k)) (k0_pay67 v13 v14 q (k0_pay55 v13 k) (k0_pay56 v14 v)) (k0_pay59 (Scalar.ofBits .f32 0#32)))
/-- The state after the new tokens, second head. -/
def start1 (v13 v14 : Elt F .f32) (q : FVec F S1024x128 .bf16) (k v : Vec F S1x1x128x128 .bf16) : St F :=
  (k0_pay108 k0_pay103 (k0_pay105 v13 q (k0_pay98 v13 k)), k0_pay112 k0_pay103 k0_pay104 (k0_pay105 v13 q (k0_pay98 v13 k)),
    k0_pay113 k0_pay103 (k0_pay105 v13 q (k0_pay98 v13 k)) (k0_pay106 v14) (k0_pay107 v14 v) k0_pay102)
theorem start1_eq (v13 v14 : Elt F .f32) (q : FVec F S1024x128 .bf16) (k v : Vec F S1x1x128x128 .bf16) :
    start1 v13 v14 q k v = start0 v13 v14 q k v := rfl
/-- The columns of the result of the first head. -/
def cols0 (l : FVec F S1x1024 .f32) (a : FVec F S128x1024 .f32) : Fin 8 → Vec F S1x128x128 .bf16 :=
  ![k0_pay88 l a, k0_pay89 l a, k0_pay91 (k0_pay90 l a), k0_pay92 (k0_pay87 l a), k0_pay93 (k0_pay87 l a), k0_pay94 (k0_pay87 l a),
    k0_pay95 (k0_pay87 l a), k0_pay96 (k0_pay87 l a)]
/-- The columns of the result of the second head. -/
def cols1 (l : FVec F S1x1024 .f32) (a : FVec F S128x1024 .f32) : Fin 8 → Vec F S1x128x128 .bf16 :=
  ![k0_pay121 l a, k0_pay122 l a, k0_pay123 l a, k0_pay124 l a, k0_pay125 l a, k0_pay1 (k0_pay126 l a), k0_pay2 (k0_pay120 l a), k0_pay3 (k0_pay120 l a)]
theorem cols1_eq (l : FVec F S1x1024 .f32) (a : FVec F S128x1024 .f32) : cols1 l a = cols0 l a := rfl
/-- All columns of the result from the end states of the two heads. -/
def colsW (A B : St F) (n : Fin 16) : Vec F S1x128x128 .bf16 :=
  if n.val < 8 then cols0 A.2.1 A.2.2 ⟨n.val % 8, Nat.mod_lt _ (by decide)⟩ else cols0 B.2.1 B.2.2 ⟨n.val % 8, Nat.mod_lt _ (by decide)⟩
/-- The codes of the new keys. -/
def kcode (s : S2.Idx → Elt F .f32) (kn : S1x2x128x128.Idx → Elt F .bf16) (g : Fin 2) : Vec F S1x1x128x128 .fp8e4m3 := k0_pay57 (s (ix1 g)) (kn4 kn g)
/-- The codes of the new values. -/
def vcode (s : S2.Idx → Elt F .f32) (vn : S1x2x128x128.Idx → Elt F .bf16) (g : Fin 2) : Vec F S1x1x128x128 .fp8e4m3 := k0_pay58 (s (ix1 g)) (kn4 vn g)

/-- The pages of sequence `b`, for any number. -/
def rowN (b : ℕ) : Fin 64 → Fin 2048 := rowOf pt ⟨b % 32, Nat.mod_lt _ (by decide)⟩
theorem rowN_of {b : ℕ} (h : b < 32) : rowN pt b = rowOf pt ⟨b, h⟩ := congrArg (rowOf pt) (Fin.ext (Nat.mod_eq_of_lt h))
/-- The blocks of sequence `b` fetched before its step. -/
def cntN (b : ℕ) : ℕ := if 0 < b ∧ b < 32 then ((sl (ix1 ⟨b % 32, Nat.mod_lt _ (by decide)⟩)).toNat + 511) / 512 else 0
theorem cntN_of {b : ℕ} (h0 : 0 < b) (h : b < 32) : cntN sl b = ((sl (ix1 ⟨b, h⟩)).toNat + 511) / 512 := by
  unfold cntN
  rw [if_pos ⟨h0, h⟩]
  exact congrArg (fun z : Fin 32 => ((sl (ix1 z)).toNat + 511) / 512) (Fin.ext (Nat.mod_eq_of_lt h))
theorem cntN_no {b : ℕ} (h : ¬ (0 < b ∧ b < 32)) : cntN sl b = 0 := if_neg h

/-- The blocks of the two slots before step `b`. -/
def Slots (b : ℕ) : sProp 𝕄 := iprop(Cells c pk pv (rowN pt b) ⟨b % 2, mod2 _⟩ 0 (cntN sl b) ∗ Cells c pk pv (rowN pt b) ⟨1 - b % 2, omod2 _⟩ 0 0)

/-- After a step: its slot idle, the other slot holding the next sequence. -/
theorem slots_next (b : ℕ) (row : Fin 64 → Fin 2048) (n : ℕ) :
    iprop(Cells c pk pv row ⟨b % 2, mod2 _⟩ n n ∗ Cells c pk pv (rowN pt (b + 1)) ⟨1 - b % 2, omod2 _⟩ 0 (cntN sl (b + 1))) ⊢ Slots c pk pv pt sl (b + 1) := by
  unfold Slots
  have e1 : (⟨(b + 1) % 2, mod2 _⟩ : Fin 2) = ⟨1 - b % 2, omod2 _⟩ := Fin.ext (by show (b + 1) % 2 = 1 - b % 2; omega)
  have e2 : (⟨1 - (b + 1) % 2, omod2 _⟩ : Fin 2) = ⟨b % 2, mod2 _⟩ := Fin.ext (by show 1 - (b + 1) % 2 = b % 2; omega)
  rw [e1, e2]
  iintro ⟨H1, H2⟩
  isplitl [H2]; · iexact H2
  iapply (cells_done c pk pv row (rowN pt (b + 1)) _ n) $$ H1

variable (i : grid0.Coords)
  (a3 : Memref sig .tc .smem S2 .f32) (h3 : a3.IsWhole) (a4 : Memref sig .tc .smem S2 .f32) (h4 : a4.IsWhole)
  (a5 : Memref sig .tc .vmem S1x128x2048 .bf16) (h5 : a5.IsWhole) (a6 a7 : Memref sig .tc .vmem S1x2x128x128 .bf16)
  (h6 : a6.IsWhole) (h7 : a7.IsWhole) (a10 : Memref sig .tc .vmem S1x128x2048 .bf16) (h10 : a10.IsWhole)
  (a11 a12 : Memref sig .tc .vmem S1x2x128x128 .fp8e4m3) (h11 : a11.IsWhole) (h12 : a12.IsWhole)
  (s3 s4 : S2.Idx → Elt F .f32) (x : S1x128x2048.Idx → Elt F .bf16) (kn vn : S1x2x128x128.Idx → Elt F .bf16)

/-- What a step holds, the other slot aside: the blocks of its sequence (the first `k` landed, up to `n` pending), the tables,
the staged blocks and the accumulator. -/
def Res (k n : ℕ) (d10 : S1x128x2048.Idx → Elt F .bf16) (d11 d12 : S1x2x128x128.Idx → Elt F .fp8e4m3) (a : S128x1024.Idx → Elt F .f32) : sProp 𝕄 :=
  iprop(Cells c pk pv (rowOf pt ⟨(i 0).val, iLt i⟩) ⟨(i 0).val % 2, mod2 _⟩ k n ∗ TabP (F := F) c pt ∗ TabL (F := F) c sl ∗
    owns (c : Thread nD τ) a3 fullShare s3 ∗ owns (c : Thread nD τ) a4 fullShare s4 ∗ owns (c : Thread nD τ) a5 fullShare x ∗
    owns (c : Thread nD τ) a6 fullShare kn ∗ owns (c : Thread nD τ) a7 fullShare vn ∗ owns (c : Thread nD τ) a10 fullShare d10 ∗
    owns (c : Thread nD τ) a11 fullShare d11 ∗ owns (c : Thread nD τ) a12 fullShare d12 ∗ AccAt c a ∗ Owe (F := F) c)

set_option maxHeartbeats 400000 in
/-- The queries and the codes of the first head. -/
theorem part26_run (k n : ℕ) (d10 : S1x128x2048.Idx → Elt F .bf16) (d11 d12 : S1x2x128x128.Idx → Elt F .fp8e4m3) (a : S128x1024.Idx → Elt F .f32) (v13 v14 : Elt F .f32) (w0 : FVec F S128x128 .bf16) (w1 : FVec F S128x128 .bf16) (w2 : FVec F S128x128 .bf16) (w3 : FVec F S128x128 .bf16) (w4 : FVec F S128x128 .bf16) (w5 : FVec F S128x128 .bf16) {Q : _ → sProp 𝕄} :
    Res c pk pv pt sl i a3 a4 a5 a6 a7 a10 a11 a12 s3 s4 x kn vn k n d10 d11 d12 a ⊢ iprop((Res c pk pv pt sl i a3 a4 a5 a6 a7 a10 a11 a12 s3 s4 x kn vn k n d10 (cput d11 0 (k0_pay57 v13 (kn4 kn 0))) (cput d12 0 (k0_pay58 v14 (kn4 vn 0))) a -∗ Q ⟨k0_pay54 w0 w1 w2 w3 w4 w5 (xs x 6) (xs x 7), k0_pay55 v13 (kn4 kn 0), k0_pay56 v14 (kn4 vn 0), Scalar.ofBits .f32 0#32⟩) -∗ wp (M := 𝕄) frame (wpE (defs₀ (F := F)) Variants.none (Dev.tc c : Thread nD τ) none) Set.univ (k0_part26 i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 v13 v14 w0 w1 w2 w3 w4 w5) Q) := by
  rw [k0_part26_eq_skeleton]
  unfold k0_part26_skel
  unfold Res
  iintro ⟨HC, HT, HL, H3, H4, H5, H6, H7, H10, H11, H12, HA, HW⟩ HQ
  rw [wp_bind]
  iapply (wp_xload c a5 x 6 rfl) $$ H5
  iintro H5
  rw [wp_bind]
  iapply (wp_xload c a5 x 7 rfl) $$ H5
  iintro H5
  rw [wp_bind]
  iapply (wp_nload c a6 kn 0 rfl) $$ H6
  iintro H6
  rw [wp_bind]
  iapply (wp_nload c a7 vn 0 rfl) $$ H7
  iintro H7
  rw [wp_bind]
  iapply (wp_dead c a11 _) $$ H11
  iintro H11
  rw [wp_bind]
  iapply (wp_cput c a11 _ 0 _ rfl) $$ H11
  iintro H11
  rw [wp_bind]
  iapply (wp_dead c a12 _) $$ H12
  iintro H12
  rw [wp_bind]
  iapply (wp_cput c a12 _ 0 _ rfl) $$ H12
  iintro H12
  rw [wp_pureK]
  imodintro
  iapply HQ
  isplitl [HC]; · iexact HC
  isplitl [HT]; · iexact HT
  isplitl [HL]; · iexact HL
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  isplitl [HA]; · iexact HA
  iexact HW

set_option maxHeartbeats 400000 in
/-- The scores of the new tokens of the first head. -/
theorem part27_run (k n : ℕ) (d10 : S1x128x2048.Idx → Elt F .bf16) (d11 d12 : S1x2x128x128.Idx → Elt F .fp8e4m3) (a : S128x1024.Idx → Elt F .f32) (v13 v14 : Elt F .f32) (q : FVec F S1024x128 .bf16) (v41 v51 : FVec F S128x128 .fp8e4m3) (z : F .f32) {Q : _ → sProp 𝕄} :
    Res c pk pv pt sl i a3 a4 a5 a6 a7 a10 a11 a12 s3 s4 x kn vn k n d10 d11 d12 a ⊢ iprop((Res c pk pv pt sl i a3 a4 a5 a6 a7 a10 a11 a12 s3 s4 x kn vn k n d10 d11 d12 (k0_pay59 z) -∗ Q ⟨k0_pay62 v13 q v41, k0_pay65 v13 q v41, k0_pay66 v13 q v41, k0_pay67 v13 v14 q v41 v51⟩) -∗ wp (M := 𝕄) frame (wpE (defs₀ (F := F)) Variants.none (Dev.tc c : Thread nD τ) none) Set.univ (k0_part27 i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 v13 v14 q v41 v51 z) Q) := by
  rw [k0_part27_eq_skeleton]
  unfold k0_part27_skel
  unfold Res
  iintro ⟨HC, HT, HL, H3, H4, H5, H6, H7, H10, H11, H12, HA, HW⟩ HQ
  rw [wp_bind]
  iapply (wp_accLoad c _) $$ HA
  iintro HA
  rw [wp_bind]
  iapply (wp_accStore c _ _) $$ HA
  iintro HA
  rw [wp_pureK]
  imodintro
  iapply HQ
  isplitl [HC]; · iexact HC
  isplitl [HT]; · iexact HT
  isplitl [HL]; · iexact HL
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  isplitl [HA]; · iexact HA
  iexact HW

set_option maxHeartbeats 400000 in
/-- The attention over the blocks of the first head. -/
theorem part28_run (hpt : ∀ x, (pt x).toNat < 2048) (hsl : ∀ x, (sl x).toNat ≤ 8192) (d10 : S1x128x2048.Idx → Elt F .bf16) (d11 d12 : S1x2x128x128.Idx → Elt F .fp8e4m3) (a : S128x1024.Idx → Elt F .f32) (arg0 v0 v12 : BitVec 32) (v13 v14 : Elt F .f32) (q : FVec F S1024x128 .bf16) (v84 v95 v99 : FVec F S1x1024 .f32) (v101 : FVec F S128x1024 .f32) (hw : k0_chk19 i (sl (ix1 ⟨(i 0).val, iLt i⟩))) {Q : _ → sProp 𝕄} :
    Res c pk pv pt sl i a3 a4 a5 a6 a7 a10 a11 a12 s3 s4 x kn vn 0 (((sl (ix1 ⟨(i 0).val, iLt i⟩)).toNat + 511) / 512) d10 d11 d12 a ⊢ iprop((Res c pk pv pt sl i a3 a4 a5 a6 a7 a10 a11 a12 s3 s4 x kn vn (((sl (ix1 ⟨(i 0).val, iLt i⟩)).toNat + 511) / 512) (((sl (ix1 ⟨(i 0).val, iLt i⟩)).toNat + 511) / 512) (yput (yput d10 0 (k0_pay88 (foldAll pk pv 0 (sl (ix1 ⟨(i 0).val, iLt i⟩)) v13 v14 q (rowOf pt ⟨(i 0).val, iLt i⟩) (v84, v99, k0_pay68 v95 v101 a)).2.1 (foldAll pk pv 0 (sl (ix1 ⟨(i 0).val, iLt i⟩)) v13 v14 q (rowOf pt ⟨(i 0).val, iLt i⟩) (v84, v99, k0_pay68 v95 v101 a)).2.2)) 1 (k0_pay89 (foldAll pk pv 0 (sl (ix1 ⟨(i 0).val, iLt i⟩)) v13 v14 q (rowOf pt ⟨(i 0).val, iLt i⟩) (v84, v99, k0_pay68 v95 v101 a)).2.1 (foldAll pk pv 0 (sl (ix1 ⟨(i 0).val, iLt i⟩)) v13 v14 q (rowOf pt ⟨(i 0).val, iLt i⟩) (v84, v99, k0_pay68 v95 v101 a)).2.2)) d11 d12 (foldAll pk pv 0 (sl (ix1 ⟨(i 0).val, iLt i⟩)) v13 v14 q (rowOf pt ⟨(i 0).val, iLt i⟩) (v84, v99, k0_pay68 v95 v101 a)).2.2 -∗ Q ⟨k0_pay87 (foldAll pk pv 0 (sl (ix1 ⟨(i 0).val, iLt i⟩)) v13 v14 q (rowOf pt ⟨(i 0).val, iLt i⟩) (v84, v99, k0_pay68 v95 v101 a)).2.1 (foldAll pk pv 0 (sl (ix1 ⟨(i 0).val, iLt i⟩)) v13 v14 q (rowOf pt ⟨(i 0).val, iLt i⟩) (v84, v99, k0_pay68 v95 v101 a)).2.2, k0_pay90 (foldAll pk pv 0 (sl (ix1 ⟨(i 0).val, iLt i⟩)) v13 v14 q (rowOf pt ⟨(i 0).val, iLt i⟩) (v84, v99, k0_pay68 v95 v101 a)).2.1 (foldAll pk pv 0 (sl (ix1 ⟨(i 0).val, iLt i⟩)) v13 v14 q (rowOf pt ⟨(i 0).val, iLt i⟩) (v84, v99, k0_pay68 v95 v101 a)).2.2⟩) -∗ wp (M := 𝕄) frame (wpE (defs₀ (F := F)) Variants.none (Dev.tc c : Thread nD τ) none) Set.univ (k0_part28 i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 arg0 v0 (sl (ix1 ⟨(i 0).val, iLt i⟩)) hw (Scalar.shrui (sl (ix1 ⟨(i 0).val, iLt i⟩)) 9#32) v12 v13 v14 q v84 v95 v99 v101) Q) := by
  rw [k0_part28_eq_skeleton]
  unfold k0_part28_skel
  unfold Res foldAll
  iintro ⟨HC, HT, HL, H3, H4, H5, H6, H7, H10, H11, H12, HA, HW⟩ HQ
  rw [wp_bind]
  iapply (wp_accLoad c _) $$ HA
  iintro HA
  rw [wp_bind]
  iapply (wp_accLoad c _) $$ HA
  iintro HA
  rw [wp_bind]
  iapply (wp_accStore c _ _) $$ HA
  iintro HA
  rw [wp_bind]
  iapply (wp_wand frame (wpE (defs₀ (F := F)) Variants.none (Dev.tc c : Thread nD τ) none) Set.univ) $$ [HC HT HA HW]
  · iapply (attLoop5 c pk pv pt i a3 h3 a4 h4 a5 h5 a6 a7 h6 h7 a10 h10 a11 a12 h11 h12 hpt (sl (ix1 ⟨(i 0).val, iLt i⟩)) (hsl _) hw arg0 v0 (Scalar.shrui (sl (ix1 ⟨(i 0).val, iLt i⟩)) 9#32) v12 v13 v14 q v84 v95 v99 v101 _ (v84, v99, k0_pay68 v95 v101 a))
    isplitl [HC]; · iexact HC
    isplitl [HT]; · iexact HT
    isplitl [HA]; · iexact HA
    iexact HW
  iintro %r ⟨%e, HC, HT, HA, HW⟩
  subst e
  dsimp only
  rw [wp_bind]
  iapply (wp_noLoop c _ _ _ _ (t6_no (hsl _)))
  dsimp only
  rw [wp_bind]
  iapply (wp_wand frame (wpE (defs₀ (F := F)) Variants.none (Dev.tc c : Thread nD τ) none) Set.univ) $$ [HC HT HA HW]
  · iapply (attLoop7 c pk pv pt i a3 h3 a4 h4 a5 h5 a6 a7 h6 h7 a10 h10 a11 a12 h11 h12 hpt (sl (ix1 ⟨(i 0).val, iLt i⟩)) (hsl _) hw arg0 v0 v12 v13 v14 q v84 v95 v99 v101 _ (runSt (foldU pk pv 0 v13 v14 q (rowOf pt ⟨(i 0).val, iLt i⟩)) ((sl (ix1 ⟨(i 0).val, iLt i⟩)).toNat / 512 - 0) (v84, v99, k0_pay68 v95 v101 a)))
    isplitl [HC]; · iexact HC
    isplitl [HT]; · iexact HT
    isplitl [HA]; · iexact HA
    iexact HW
  iintro %r ⟨%e, HC, HT, HA, HW⟩
  subst e
  dsimp only
  rw [show (sl (ix1 ⟨(i 0).val, iLt i⟩)).toNat / 512 + ((((sl (ix1 ⟨(i 0).val, iLt i⟩)).toNat + 511) / 512) - (sl (ix1 ⟨(i 0).val, iLt i⟩)).toNat / 512) = (((sl (ix1 ⟨(i 0).val, iLt i⟩)).toNat + 511) / 512) from by omega]
  rw [wp_bind]
  iapply (wp_noLoop c _ _ _ _ (t8_no (hsl _)))
  dsimp only
  rw [wp_bind]
  iapply (wp_accLoad c _) $$ HA
  iintro HA
  rw [wp_bind]
  iapply (wp_dead c a10 _) $$ H10
  iintro H10
  rw [wp_bind]
  iapply (wp_yput c a10 _ 0 _ rfl) $$ H10
  iintro H10
  rw [wp_bind]
  iapply (wp_dead c a10 _) $$ H10
  iintro H10
  rw [wp_bind]
  iapply (wp_yput c a10 _ 1 _ rfl) $$ H10
  iintro H10
  rw [wp_pureK]
  imodintro
  iapply HQ
  isplitl [HC]; · iexact HC
  isplitl [HT]; · iexact HT
  isplitl [HL]; · iexact HL
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  isplitl [HA]; · iexact HA
  iexact HW

set_option maxHeartbeats 400000 in
/-- The remaining columns of the first head, and the scales of the second. -/
theorem part29_run (k n : ℕ) (d10 : S1x128x2048.Idx → Elt F .bf16) (d11 d12 : S1x2x128x128.Idx → Elt F .fp8e4m3) (a : S128x1024.Idx → Elt F .f32) (o : FVec F S128x1024 .f32) (o2 : FVec F S128x128 .bf16) {Q : _ → sProp 𝕄} :
    Res c pk pv pt sl i a3 a4 a5 a6 a7 a10 a11 a12 s3 s4 x kn vn k n d10 d11 d12 a ⊢ iprop((Res c pk pv pt sl i a3 a4 a5 a6 a7 a10 a11 a12 s3 s4 x kn vn k n (yput (yput (yput (yput (yput (yput d10 2 (k0_pay91 o2)) 3 (k0_pay92 o)) 4 (k0_pay93 o)) 5 (k0_pay94 o)) 6 (k0_pay95 o)) 7 (k0_pay96 o)) d11 d12 a -∗ Q ⟨s3 (ix1 1), s4 (ix1 1)⟩) -∗ wp (M := 𝕄) frame (wpE (defs₀ (F := F)) Variants.none (Dev.tc c : Thread nD τ) none) Set.univ (k0_part29 i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 o o2) Q) := by
  rw [k0_part29_eq_skeleton]
  unfold k0_part29_skel
  unfold Res
  iintro ⟨HC, HT, HL, H3, H4, H5, H6, H7, H10, H11, H12, HA, HW⟩ HQ
  rw [wp_bind]
  iapply (wp_dead c a10 _) $$ H10
  iintro H10
  rw [wp_bind]
  iapply (wp_yput c a10 _ 2 _ rfl) $$ H10
  iintro H10
  rw [wp_bind]
  iapply (wp_dead c a10 _) $$ H10
  iintro H10
  rw [wp_bind]
  iapply (wp_yput c a10 _ 3 _ rfl) $$ H10
  iintro H10
  rw [wp_bind]
  iapply (wp_dead c a10 _) $$ H10
  iintro H10
  rw [wp_bind]
  iapply (wp_yput c a10 _ 4 _ rfl) $$ H10
  iintro H10
  rw [wp_bind]
  iapply (wp_dead c a10 _) $$ H10
  iintro H10
  rw [wp_bind]
  iapply (wp_yput c a10 _ 5 _ rfl) $$ H10
  iintro H10
  rw [wp_bind]
  iapply (wp_dead c a10 _) $$ H10
  iintro H10
  rw [wp_bind]
  iapply (wp_yput c a10 _ 6 _ rfl) $$ H10
  iintro H10
  rw [wp_bind]
  iapply (wp_dead c a10 _) $$ H10
  iintro H10
  rw [wp_bind]
  iapply (wp_yput c a10 _ 7 _ rfl) $$ H10
  iintro H10
  rw [wp_bind]
  iapply (wp_wsmem c a3 s3 1 rfl) $$ H3
  iintro H3
  rw [wp_bind]
  iapply (wp_wsmem c a4 s4 1 rfl) $$ H4
  iintro H4
  rw [wp_pureK]
  imodintro
  iapply HQ
  isplitl [HC]; · iexact HC
  isplitl [HT]; · iexact HT
  isplitl [HL]; · iexact HL
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  isplitl [HA]; · iexact HA
  iexact HW

set_option maxHeartbeats 400000 in
/-- The queries and the keys of the second head. -/
theorem part30_run (k n : ℕ) (d10 : S1x128x2048.Idx → Elt F .bf16) (d11 d12 : S1x2x128x128.Idx → Elt F .fp8e4m3) (a : S128x1024.Idx → Elt F .f32) (v174 : Elt F .f32) {Q : _ → sProp 𝕄} :
    Res c pk pv pt sl i a3 a4 a5 a6 a7 a10 a11 a12 s3 s4 x kn vn k n d10 d11 d12 a ⊢ iprop((Res c pk pv pt sl i a3 a4 a5 a6 a7 a10 a11 a12 s3 s4 x kn vn k n d10 d11 d12 a -∗ Q ⟨k0_pay97 (xs x 8) (xs x 9) (xs x 10) (xs x 11) (xs x 12) (xs x 13) (xs x 14) (xs x 15), k0_pay98 v174 (kn4 kn 1)⟩) -∗ wp (M := 𝕄) frame (wpE (defs₀ (F := F)) Variants.none (Dev.tc c : Thread nD τ) none) Set.univ (k0_part30 i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 v174) Q) := by
  rw [k0_part30_eq_skeleton]
  unfold k0_part30_skel
  unfold Res
  iintro ⟨HC, HT, HL, H3, H4, H5, H6, H7, H10, H11, H12, HA, HW⟩ HQ
  rw [wp_bind]
  iapply (wp_xload c a5 x 8 rfl) $$ H5
  iintro H5
  rw [wp_bind]
  iapply (wp_xload c a5 x 9 rfl) $$ H5
  iintro H5
  rw [wp_bind]
  iapply (wp_xload c a5 x 10 rfl) $$ H5
  iintro H5
  rw [wp_bind]
  iapply (wp_xload c a5 x 11 rfl) $$ H5
  iintro H5
  rw [wp_bind]
  iapply (wp_xload c a5 x 12 rfl) $$ H5
  iintro H5
  rw [wp_bind]
  iapply (wp_xload c a5 x 13 rfl) $$ H5
  iintro H5
  rw [wp_bind]
  iapply (wp_xload c a5 x 14 rfl) $$ H5
  iintro H5
  rw [wp_bind]
  iapply (wp_xload c a5 x 15 rfl) $$ H5
  iintro H5
  rw [wp_bind]
  iapply (wp_nload c a6 kn 1 rfl) $$ H6
  iintro H6
  rw [wp_pureK]
  imodintro
  iapply HQ
  isplitl [HC]; · iexact HC
  isplitl [HT]; · iexact HT
  isplitl [HL]; · iexact HL
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  isplitl [HA]; · iexact HA
  iexact HW

set_option maxHeartbeats 400000 in
/-- The codes of the second head and the scores of its new tokens. -/
theorem part31_run (k n : ℕ) (d10 : S1x128x2048.Idx → Elt F .bf16) (d11 d12 : S1x2x128x128.Idx → Elt F .fp8e4m3) (a : S128x1024.Idx → Elt F .f32) (v13 v14 : Elt F .f32) (q : FVec F S1024x128 .bf16) (v202 : FVec F S128x128 .fp8e4m3) {Q : _ → sProp 𝕄} :
    Res c pk pv pt sl i a3 a4 a5 a6 a7 a10 a11 a12 s3 s4 x kn vn k n d10 d11 d12 a ⊢ iprop((Res c pk pv pt sl i a3 a4 a5 a6 a7 a10 a11 a12 s3 s4 x kn vn k n d10 (cput d11 1 (k0_pay100 v202)) (cput d12 1 (k0_pay101 v14 (kn4 vn 1))) k0_pay102 -∗ Q ⟨k0_pay103, k0_pay104, k0_pay105 v13 q v202, k0_pay106 v14, k0_pay107 v14 (kn4 vn 1)⟩) -∗ wp (M := 𝕄) frame (wpE (defs₀ (F := F)) Variants.none (Dev.tc c : Thread nD τ) none) Set.univ (k0_part31 i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 v13 v14 q v202) Q) := by
  rw [k0_part31_eq_skeleton]
  unfold k0_part31_skel
  unfold Res
  iintro ⟨HC, HT, HL, H3, H4, H5, H6, H7, H10, H11, H12, HA, HW⟩ HQ
  rw [wp_bind]
  iapply (wp_nload c a7 vn 1 rfl) $$ H7
  iintro H7
  rw [wp_bind]
  iapply (wp_dead c a11 _) $$ H11
  iintro H11
  rw [wp_bind]
  iapply (wp_cput c a11 _ 1 _ rfl) $$ H11
  iintro H11
  rw [wp_bind]
  iapply (wp_dead c a12 _) $$ H12
  iintro H12
  rw [wp_bind]
  iapply (wp_cput c a12 _ 1 _ rfl) $$ H12
  iintro H12
  rw [wp_bind]
  iapply (wp_accLoad c _) $$ HA
  iintro HA
  rw [wp_bind]
  iapply (wp_accStore c _ _) $$ HA
  iintro HA
  rw [wp_pureK]
  imodintro
  iapply HQ
  isplitl [HC]; · iexact HC
  isplitl [HT]; · iexact HT
  isplitl [HL]; · iexact HL
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  isplitl [HA]; · iexact HA
  iexact HW

set_option maxHeartbeats 400000 in
/-- The attention over the blocks of the second head. -/
theorem part32_run (hpt : ∀ x, (pt x).toNat < 2048) (hsl : ∀ x, (sl x).toNat ≤ 8192) (d10 : S1x128x2048.Idx → Elt F .bf16) (d11 d12 : S1x2x128x128.Idx → Elt F .fp8e4m3) (a : S128x1024.Idx → Elt F .f32) (v0 v12 : BitVec 32) (v13 v14 : Elt F .f32) (q : FVec F S1024x128 .bf16) (v223 v224 : FVec F S1x1024 .f32) (v237 : FVec F S128x1024 .f32) (v239 : FVec F S1x128 .bf16) (v240 : FVec F S128x128 .bf16) (hw : k0_chk19 i (sl (ix1 ⟨(i 0).val, iLt i⟩))) {Q : _ → sProp 𝕄} :
    Res c pk pv pt sl i a3 a4 a5 a6 a7 a10 a11 a12 s3 s4 x kn vn (((sl (ix1 ⟨(i 0).val, iLt i⟩)).toNat + 511) / 512) (((sl (ix1 ⟨(i 0).val, iLt i⟩)).toNat + 511) / 512) d10 d11 d12 a ⊢ iprop((Res c pk pv pt sl i a3 a4 a5 a6 a7 a10 a11 a12 s3 s4 x kn vn (((sl (ix1 ⟨(i 0).val, iLt i⟩)).toNat + 511) / 512) (((sl (ix1 ⟨(i 0).val, iLt i⟩)).toNat + 511) / 512) d10 d11 d12 (foldAll pk pv 1 (sl (ix1 ⟨(i 0).val, iLt i⟩)) v13 v14 q (rowOf pt ⟨(i 0).val, iLt i⟩) (k0_pay108 v223 v237, k0_pay112 v223 v224 v237, k0_pay113 v223 v237 v239 v240 a)).2.2 -∗ Q ⟨(Scalar.addi (Scalar.shrui (sl (ix1 ⟨(i 0).val, iLt i⟩)) 9#32) (Scalar.muli (Scalar.divsi (Scalar.subi v12 (Scalar.shrui (sl (ix1 ⟨(i 0).val, iLt i⟩)) 9#32)) 1#32) 1#32)), (foldAll pk pv 1 (sl (ix1 ⟨(i 0).val, iLt i⟩)) v13 v14 q (rowOf pt ⟨(i 0).val, iLt i⟩) (k0_pay108 v223 v237, k0_pay112 v223 v224 v237, k0_pay113 v223 v237 v239 v240 a)).1, (foldAll pk pv 1 (sl (ix1 ⟨(i 0).val, iLt i⟩)) v13 v14 q (rowOf pt ⟨(i 0).val, iLt i⟩) (k0_pay108 v223 v237, k0_pay112 v223 v224 v237, k0_pay113 v223 v237 v239 v240 a)).2.1, 1#32⟩) -∗ wp (M := 𝕄) frame (wpE (defs₀ (F := F)) Variants.none (Dev.tc c : Thread nD τ) none) Set.univ (k0_part32 i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 v0 (sl (ix1 ⟨(i 0).val, iLt i⟩)) hw (Scalar.shrui (sl (ix1 ⟨(i 0).val, iLt i⟩)) 9#32) v12 v13 v14 q v223 v224 v237 v239 v240) Q) := by
  rw [k0_part32_eq_skeleton]
  unfold k0_part32_skel
  unfold Res foldAll
  iintro ⟨HC, HT, HL, H3, H4, H5, H6, H7, H10, H11, H12, HA, HW⟩ HQ
  rw [wp_bind]
  iapply (wp_accLoad c _) $$ HA
  iintro HA
  rw [wp_bind]
  iapply (wp_accLoad c _) $$ HA
  iintro HA
  rw [wp_bind]
  iapply (wp_accStore c _ _) $$ HA
  iintro HA
  rw [wp_bind]
  iapply (wp_wand frame (wpE (defs₀ (F := F)) Variants.none (Dev.tc c : Thread nD τ) none) Set.univ) $$ [HC HT HA HW]
  · iapply (attLoop9 c pk pv pt i a3 h3 a4 h4 a5 h5 a6 a7 h6 h7 a10 h10 a11 a12 h11 h12 hpt (sl (ix1 ⟨(i 0).val, iLt i⟩)) (hsl _) hw v0 (Scalar.shrui (sl (ix1 ⟨(i 0).val, iLt i⟩)) 9#32) v12 v13 v14 q v223 v224 v237 v239 v240 _ (k0_pay108 v223 v237, k0_pay112 v223 v224 v237, k0_pay113 v223 v237 v239 v240 a))
    isplitl [HC]; · iexact HC
    isplitl [HT]; · iexact HT
    isplitl [HA]; · iexact HA
    iexact HW
  iintro %r ⟨%e, HC, HT, HA, HW⟩
  subst e
  dsimp only
  rw [wp_bind]
  iapply (wp_noLoop c _ _ _ _ (t10_no (hsl _)))
  dsimp only
  rw [wp_bind]
  iapply (wp_wand frame (wpE (defs₀ (F := F)) Variants.none (Dev.tc c : Thread nD τ) none) Set.univ) $$ [HC HT HA HW]
  · iapply (attLoop11 c pk pv pt i a3 h3 a4 h4 a5 h5 a6 a7 h6 h7 a10 h10 a11 a12 h11 h12 hpt (sl (ix1 ⟨(i 0).val, iLt i⟩)) (hsl _) hw v0 v12 v13 v14 q v223 v224 v237 v239 v240 _ (runSt (foldU pk pv 1 v13 v14 q (rowOf pt ⟨(i 0).val, iLt i⟩)) ((sl (ix1 ⟨(i 0).val, iLt i⟩)).toNat / 512 - 0) (k0_pay108 v223 v237, k0_pay112 v223 v224 v237, k0_pay113 v223 v237 v239 v240 a)))
    isplitl [HC]; · iexact HC
    isplitl [HT]; · iexact HT
    isplitl [HA]; · iexact HA
    iexact HW
  iintro %r ⟨%e, HC, HT, HA, HW⟩
  subst e
  dsimp only
  rw [wp_pureK]
  imodintro
  iapply HQ
  isplitl [HC]; · iexact HC
  isplitl [HT]; · iexact HT
  isplitl [HL]; · iexact HL
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  isplitl [HA]; · iexact HA
  iexact HW

set_option maxHeartbeats 400000 in
/-- Columns of the second head. -/
theorem part33_run (k n : ℕ) (hsl : ∀ x, (sl x).toNat ≤ 8192) (d10 : S1x128x2048.Idx → Elt F .bf16) (d11 d12 : S1x2x128x128.Idx → Elt F .fp8e4m3) (a : S128x1024.Idx → Elt F .f32) (v0 : BitVec 32) (v13 v14 : Elt F .f32) (q : FVec F S1024x128 .bf16) (v281 : BitVec 32) (m l : FVec F S1x1024 .f32) (w : BitVec 32) (hw : k0_chk19 i (sl (ix1 ⟨(i 0).val, iLt i⟩))) {Q : _ → sProp 𝕄} :
    Res c pk pv pt sl i a3 a4 a5 a6 a7 a10 a11 a12 s3 s4 x kn vn k n d10 d11 d12 a ⊢ iprop((Res c pk pv pt sl i a3 a4 a5 a6 a7 a10 a11 a12 s3 s4 x kn vn k n (yput (yput (yput (yput (yput d10 8 (k0_pay121 l a)) 9 (k0_pay122 l a)) 10 (k0_pay123 l a)) 11 (k0_pay124 l a)) 12 (k0_pay125 l a)) d11 d12 a -∗ Q ⟨k0_pay120 l a, k0_pay126 l a⟩) -∗ wp (M := 𝕄) frame (wpE (defs₀ (F := F)) Variants.none (Dev.tc c : Thread nD τ) none) Set.univ (k0_part33 i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 v0 (sl (ix1 ⟨(i 0).val, iLt i⟩)) hw v13 v14 q v281 m l w) Q) := by
  rw [k0_part33_eq_skeleton]
  unfold k0_part33_skel
  unfold Res
  iintro ⟨HC, HT, HL, H3, H4, H5, H6, H7, H10, H11, H12, HA, HW⟩ HQ
  rw [wp_bind]
  iapply (wp_noLoop c _ _ _ _ (t12_no (hsl _)))
  dsimp only
  rw [wp_bind]
  iapply (wp_accLoad c _) $$ HA
  iintro HA
  rw [wp_bind]
  iapply (wp_dead c a10 _) $$ H10
  iintro H10
  rw [wp_bind]
  iapply (wp_yput c a10 _ 8 _ rfl) $$ H10
  iintro H10
  rw [wp_bind]
  iapply (wp_dead c a10 _) $$ H10
  iintro H10
  rw [wp_bind]
  iapply (wp_yput c a10 _ 9 _ rfl) $$ H10
  iintro H10
  rw [wp_bind]
  iapply (wp_dead c a10 _) $$ H10
  iintro H10
  rw [wp_bind]
  iapply (wp_yput c a10 _ 10 _ rfl) $$ H10
  iintro H10
  rw [wp_bind]
  iapply (wp_dead c a10 _) $$ H10
  iintro H10
  rw [wp_bind]
  iapply (wp_yput c a10 _ 11 _ rfl) $$ H10
  iintro H10
  rw [wp_bind]
  iapply (wp_dead c a10 _) $$ H10
  iintro H10
  rw [wp_bind]
  iapply (wp_yput c a10 _ 12 _ rfl) $$ H10
  iintro H10
  rw [wp_pureK]
  imodintro
  iapply HQ
  isplitl [HC]; · iexact HC
  isplitl [HT]; · iexact HT
  isplitl [HL]; · iexact HL
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  isplitl [HA]; · iexact HA
  iexact HW

end Cert.Kernel.Hand
-- ==== Proof.Kn.Step.lean ====
module

public import proofs.«01_k».proof.Proof.Kn.Parts

/-!
# The fetches of a step, and the step as a whole

The first step fetches its own sequence; every step but the last fetches the next sequence into the other slot.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Memref (whole isWhole_whole)
open Idealize.ShloMosaic.ValueIdx
open Idealize.ShloMosaic.RefSig (tileCredit)
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (pk pv : S2048x2x128x128.Idx → Elt F .fp8e4m3) (pt : S32x64.Idx → BitVec 32)
  (sl : S32.Idx → BitVec 32)
variable (i : grid0.Coords)
  (a3 : Memref sig .tc .smem S2 .f32) (h3 : a3.IsWhole) (a4 : Memref sig .tc .smem S2 .f32) (h4 : a4.IsWhole)
  (a5 : Memref sig .tc .vmem S1x128x2048 .bf16) (h5 : a5.IsWhole) (a6 a7 : Memref sig .tc .vmem S1x2x128x128 .bf16)
  (h6 : a6.IsWhole) (h7 : a7.IsWhole) (a10 : Memref sig .tc .vmem S1x128x2048 .bf16) (h10 : a10.IsWhole)
  (a11 a12 : Memref sig .tc .vmem S1x2x128x128 .fp8e4m3) (h11 : a11.IsWhole) (h12 : a12.IsWhole)

/-- The reads that follow the fetches. -/
abbrev readQ : Prog (TpuEff nD τ sig (Elt F) Λ₀ .tc) (Σ' (arg0 : BitVec 32) (v0 : BitVec 32) (v9 : Elt F .i32) (k0_hw19 : k0_chk19 i v9) (v10 : BitVec 32) (v12 : BitVec 32) (v13 : Elt F .f32) (v14 : Elt F .f32) (v16 : FVec F S128x128 .bf16) (v18 : FVec F S128x128 .bf16) (v20 : FVec F S128x128 .bf16) (v22 : FVec F S128x128 .bf16) (v24 : FVec F S128x128 .bf16), FVec F S128x128 .bf16) := do
  let v9 : Elt F .i32 ← smemLoad (whole main_arg8) (Rect.unit (s := S32) (k0_off62 i) S1.size (k0_off62_inb i)) numel1_S1 rfl
  have k0_hw19 : k0_chk19 i v9 := (← Prog.lift (TpuEff.assume (k0_chk19 i v9) (k0_chk19.dec i v9))).down
  let v13 : Elt F .f32 ← smemLoad a3 (Rect.unit (s := S2) ![0] S1.size inb_S2_S1_0) numel1_S1 rfl
  let v14 : Elt F .f32 ← smemLoad a4 (Rect.unit (s := S2) ![0] S1.size inb_S2_S1_0) numel1_S1 rfl
  let v15 : Vec F S1x128x128 .bf16 ← Prog.lift (.load a5 (Rect.unit (s := S1x128x2048) ![0, 0, 0] S1x128x128.size inb_S1x128x2048_S1x128x128_0_0_0).toLoadRect (View.loadsAt_vmem h_S1x128x128))
  let v17 : Vec F S1x128x128 .bf16 ← Prog.lift (.load a5 (Rect.unit (s := S1x128x2048) ![0, 0, 128] S1x128x128.size inb_S1x128x2048_S1x128x128_0_0_128).toLoadRect (View.loadsAt_vmem h_S1x128x128))
  let v19 : Vec F S1x128x128 .bf16 ← Prog.lift (.load a5 (Rect.unit (s := S1x128x2048) ![0, 0, 256] S1x128x128.size inb_S1x128x2048_S1x128x128_0_0_256).toLoadRect (View.loadsAt_vmem h_S1x128x128))
  let v21 : Vec F S1x128x128 .bf16 ← Prog.lift (.load a5 (Rect.unit (s := S1x128x2048) ![0, 0, 384] S1x128x128.size inb_S1x128x2048_S1x128x128_0_0_384).toLoadRect (View.loadsAt_vmem h_S1x128x128))
  let v23 : Vec F S1x128x128 .bf16 ← Prog.lift (.load a5 (Rect.unit (s := S1x128x2048) ![0, 0, 512] S1x128x128.size inb_S1x128x2048_S1x128x128_0_0_512).toLoadRect (View.loadsAt_vmem h_S1x128x128))
  let v25 : Vec F S1x128x128 .bf16 ← Prog.lift (.load a5 (Rect.unit (s := S1x128x2048) ![0, 0, 640] S1x128x128.size inb_S1x128x2048_S1x128x128_0_0_640).toLoadRect (View.loadsAt_vmem h_S1x128x128))
  pure ⟨BitVec.ofNat 32 (i 0).val, Scalar.remsi (BitVec.ofNat 32 (i 0).val) 2#32, v9, k0_hw19, Scalar.shrui v9 9#32, Scalar.shrui (Scalar.addi v9 511#32) 9#32, v13, v14, k0_pay48 v15, k0_pay49 v17, k0_pay50 v19, k0_pay51 v21, k0_pay52 v23, k0_pay53 v25⟩

/-- The fetch of the next sequence and the reads after it. -/
abbrev fetchQ : Prog (TpuEff nD τ sig (Elt F) Λ₀ .tc) (Σ' (arg0 : BitVec 32) (v0 : BitVec 32) (v9 : Elt F .i32) (k0_hw19 : k0_chk19 i v9) (v10 : BitVec 32) (v12 : BitVec 32) (v13 : Elt F .f32) (v14 : Elt F .f32) (v16 : FVec F S128x128 .bf16) (v18 : FVec F S128x128 .bf16) (v20 : FVec F S128x128 .bf16) (v22 : FVec F S128x128 .bf16) (v24 : FVec F S128x128 .bf16), FVec F S128x128 .bf16) := do
  if k0_h2 : k0_cond2 i = 1#1 then do
    let v338 : Elt F .i32 ← smemLoad (whole main_arg8) (Rect.unit (s := S32) (k0_off31 i) S1.size (k0_off31_inb i k0_h2)) numel1_S1 rfl
    have k0_hw10 : k0_chk10 i v338 := (← Prog.lift (TpuEff.assume (k0_chk10 i v338) (k0_chk10.dec i v338))).down
    Scf.Loop.for (k0_t3_loop v338) (k0_t3_ok i v338 k0_hw10 k0_h2) ⟨⟩ (k0_t3_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 k0_h2 (Scalar.addi (BitVec.ofNat 32 (i 0).val) 1#32) v338 k0_hw10)
    Scf.Loop.for (k0_t4_loop v338) (k0_t4_ok i v338 k0_hw10 k0_h2) ⟨⟩ (k0_t4_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 k0_h2 (Scalar.addi (BitVec.ofNat 32 (i 0).val) 1#32) v338 k0_hw10 (Scalar.addi 0#32 (Scalar.muli (Scalar.divsi (Scalar.subi (Scalar.shrui (Scalar.addi v338 511#32) 9#32) 0#32) 1#32) 1#32)))
    readQ i a3 a4 a5
  else readQ i a3 a4 a5

theorem readQ_run (hsl : ∀ x, (sl x).toNat ≤ 8192) (s3 s4 : S2.Idx → Elt F .f32) (x : S1x128x2048.Idx → Elt F .bf16) {Q : _ → sProp 𝕄} :
    iprop(TabL (F := F) c sl ∗ owns (c : Thread nD τ) a3 fullShare s3 ∗ owns (c : Thread nD τ) a4 fullShare s4 ∗ owns (c : Thread nD τ) a5 fullShare x) ⊢ iprop(((TabL (F := F) c sl ∗ owns (c : Thread nD τ) a3 fullShare s3 ∗ owns (c : Thread nD τ) a4 fullShare s4 ∗ owns (c : Thread nD τ) a5 fullShare x) -∗ Q ⟨BitVec.ofNat 32 (i 0).val, Scalar.remsi (BitVec.ofNat 32 (i 0).val) 2#32, (sl (ix1 ⟨(i 0).val, iLt i⟩)), chk19 i (hsl _), Scalar.shrui (sl (ix1 ⟨(i 0).val, iLt i⟩)) 9#32,
        Scalar.shrui (Scalar.addi (sl (ix1 ⟨(i 0).val, iLt i⟩)) 511#32) 9#32, s3 (ix1 0), s4 (ix1 0), k0_pay48 (xs x 0), k0_pay49 (xs x 1), k0_pay50 (xs x 2), k0_pay51 (xs x 3), k0_pay52 (xs x 4), k0_pay53 (xs x 5)⟩) -∗ wp (M := 𝕄) frame (wpE (defs₀ (F := F)) Variants.none (Dev.tc c : Thread nD τ) none) Set.univ (readQ i a3 a4 a5) Q) := by
  iintro ⟨HL, H3, H4, H5⟩ HQ
  unfold readQ
  rw [wp_bind]
  iapply (wp_len c sl ⟨(i 0).val, iLt i⟩ (off62_eq i)) $$ HL
  iintro HL
  rw [wp_bind]
  iapply (wp_asm c (chk19 i (hsl _)))
  rw [wp_bind]
  iapply (wp_wsmem c a3 s3 0 rfl) $$ H3
  iintro H3
  rw [wp_bind]
  iapply (wp_wsmem c a4 s4 0 rfl) $$ H4
  iintro H4
  rw [wp_bind]
  iapply (wp_xload c a5 x 0 rfl) $$ H5
  iintro H5
  rw [wp_bind]
  iapply (wp_xload c a5 x 1 rfl) $$ H5
  iintro H5
  rw [wp_bind]
  iapply (wp_xload c a5 x 2 rfl) $$ H5
  iintro H5
  rw [wp_bind]
  iapply (wp_xload c a5 x 3 rfl) $$ H5
  iintro H5
  rw [wp_bind]
  iapply (wp_xload c a5 x 4 rfl) $$ H5
  iintro H5
  rw [wp_bind]
  iapply (wp_xload c a5 x 5 rfl) $$ H5
  iintro H5
  rw [wp_pureK]
  imodintro
  iapply HQ
  isplitl [HL]; · iexact HL
  isplitl [H3]; · iexact H3
  isplitl [H4]; · iexact H4
  iexact H5

set_option maxHeartbeats 1000000 in
theorem fetchQ_run (hpt : ∀ x, (pt x).toNat < 2048) (hsl : ∀ x, (sl x).toNat ≤ 8192) (s3 s4 : S2.Idx → Elt F .f32) (x : S1x128x2048.Idx → Elt F .bf16) {Q : _ → sProp 𝕄} :
    iprop(Cells c pk pv (rowN pt (i 0).val) ⟨1 - (i 0).val % 2, omod2 _⟩ 0 0 ∗ TabP (F := F) c pt ∗ TabL (F := F) c sl ∗ owns (c : Thread nD τ) a3 fullShare s3 ∗ owns (c : Thread nD τ) a4 fullShare s4 ∗ owns (c : Thread nD τ) a5 fullShare x) ⊢ iprop(((Cells c pk pv (rowN pt ((i 0).val + 1)) ⟨1 - (i 0).val % 2, omod2 _⟩ 0 (cntN sl ((i 0).val + 1)) ∗ TabP (F := F) c pt ∗ TabL (F := F) c sl ∗ owns (c : Thread nD τ) a3 fullShare s3 ∗ owns (c : Thread nD τ) a4 fullShare s4 ∗ owns (c : Thread nD τ) a5 fullShare x) -∗ Q ⟨BitVec.ofNat 32 (i 0).val, Scalar.remsi (BitVec.ofNat 32 (i 0).val) 2#32, (sl (ix1 ⟨(i 0).val, iLt i⟩)), chk19 i (hsl _), Scalar.shrui (sl (ix1 ⟨(i 0).val, iLt i⟩)) 9#32,
        Scalar.shrui (Scalar.addi (sl (ix1 ⟨(i 0).val, iLt i⟩)) 511#32) 9#32, s3 (ix1 0), s4 (ix1 0), k0_pay48 (xs x 0), k0_pay49 (xs x 1), k0_pay50 (xs x 2), k0_pay51 (xs x 3), k0_pay52 (xs x 4), k0_pay53 (xs x 5)⟩) -∗
      wp (M := 𝕄) frame (wpE (defs₀ (F := F)) Variants.none (Dev.tc c : Thread nD τ) none) Set.univ (fetchQ i a3 h3 a4 h4 a5 h5 a6 a7 h6 h7 a10 h10 a11 a12 h11 h12) Q) := by
  iintro ⟨HC, HT, HL, H⟩ HQ
  unfold fetchQ
  by_cases h2 : k0_cond2 i = 1#1
  · have hb := (cond2_iff i).1 h2
    rw [dif_pos h2]
    rw [wp_bind]
    iapply (wp_len c sl ⟨(i 0).val + 1, hb⟩ (off31_eq i)) $$ HL
    iintro HL
    rw [wp_bind]
    iapply (wp_asm c (chk10 i (hsl _)))
    rw [wp_bind]
    ihave HC := (cells_row c pk pv (rowN pt (i 0).val) (rowOf pt ⟨(i 0).val + 1, hb⟩) ⟨1 - (i 0).val % 2, omod2 _⟩) $$ HC
    iapply (wp_wand frame (wpE (defs₀ (F := F)) Variants.none (Dev.tc c : Thread nD τ) none) Set.univ) $$ [HC HT]
    · iapply (fetchLoop3 c pk pv pt i a3 h3 a4 h4 a5 h5 a6 a7 h6 h7 a10 h10 a11 a12 h11 h12 hpt (sl (ix1 ⟨(i 0).val + 1, hb⟩)) (hsl _) h2)
      isplitl [HC] <;> iassumption
    iintro %_ ⟨HC, HT⟩
    rw [wp_bind]
    iapply (wp_noLoop c _ _ _ _ (t4_no (hsl _)))
    iapply (readQ_run c sl i a3 a4 a5 hsl s3 s4 x) $$ [HL H]
    · isplitl [HL]; · iexact HL
      iexact H
    iintro ⟨HL, H⟩
    iapply HQ
    rw [rowN_of pt hb, cntN_of sl (Nat.succ_pos _) hb]
    isplitl [HC]; · iexact HC
    isplitl [HT]; · iexact HT
    isplitl [HL]; · iexact HL
    iexact H
  · rw [dif_neg h2]
    iapply (readQ_run c sl i a3 a4 a5 hsl s3 s4 x) $$ [HL H]
    · isplitl [HL]; · iexact HL
      iexact H
    iintro ⟨HL, H⟩
    iapply HQ
    rw [cntN_no sl (b := (i 0).val + 1) (fun h => h2 ((cond2_iff i).2 h.2))]
    isplitl [HC]
    · iapply (cells_row c pk pv (rowN pt (i 0).val) (rowN pt ((i 0).val + 1)) ⟨1 - (i 0).val % 2, omod2 _⟩) $$ HC
    isplitl [HT]; · iexact HT
    isplitl [HL]; · iexact HL
    iexact H

set_option maxHeartbeats 1000000 in
/-- The fetches of a step. -/
theorem part25_run (hpt : ∀ x, (pt x).toNat < 2048) (hsl : ∀ x, (sl x).toNat ≤ 8192) (s3 s4 : S2.Idx → Elt F .f32) (x : S1x128x2048.Idx → Elt F .bf16) {Q : _ → sProp 𝕄} :
    iprop(Slots c pk pv pt sl (i 0).val ∗ TabP (F := F) c pt ∗ TabL (F := F) c sl ∗ owns (c : Thread nD τ) a3 fullShare s3 ∗ owns (c : Thread nD τ) a4 fullShare s4 ∗ owns (c : Thread nD τ) a5 fullShare x) ⊢ iprop(((Cells c pk pv (rowOf pt ⟨(i 0).val, iLt i⟩) ⟨(i 0).val % 2, mod2 _⟩ 0 (((sl (ix1 ⟨(i 0).val, iLt i⟩)).toNat + 511) / 512) ∗ Cells c pk pv (rowN pt ((i 0).val + 1)) ⟨1 - (i 0).val % 2, omod2 _⟩ 0 (cntN sl ((i 0).val + 1)) ∗ TabP (F := F) c pt ∗ TabL (F := F) c sl ∗ owns (c : Thread nD τ) a3 fullShare s3 ∗ owns (c : Thread nD τ) a4 fullShare s4 ∗ owns (c : Thread nD τ) a5 fullShare x) -∗ Q ⟨BitVec.ofNat 32 (i 0).val, Scalar.remsi (BitVec.ofNat 32 (i 0).val) 2#32, (sl (ix1 ⟨(i 0).val, iLt i⟩)), chk19 i (hsl _), Scalar.shrui (sl (ix1 ⟨(i 0).val, iLt i⟩)) 9#32,
        Scalar.shrui (Scalar.addi (sl (ix1 ⟨(i 0).val, iLt i⟩)) 511#32) 9#32, s3 (ix1 0), s4 (ix1 0), k0_pay48 (xs x 0), k0_pay49 (xs x 1), k0_pay50 (xs x 2), k0_pay51 (xs x 3), k0_pay52 (xs x 4), k0_pay53 (xs x 5)⟩) -∗
      wp (M := 𝕄) frame (wpE (defs₀ (F := F)) Variants.none (Dev.tc c : Thread nD τ) none) Set.univ (k0_part25 i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3) Q) := by
  rw [k0_part25_eq_skeleton]
  unfold k0_part25_skel Slots
  iintro ⟨⟨HO, HC⟩, HT, HL, H⟩ HQ
  by_cases h1 : k0_cond1 i = 1#1
  · have hb := (cond1_iff i).1 h1
    dsimp only
    rw [dif_pos h1]
    rw [wp_bind]
    iapply (wp_len c sl 0 rfl) $$ HL
    iintro HL
    rw [wp_bind]
    iapply (wp_asm c (chk1 i (hsl _)))
    rw [wp_bind]
    have er : (⟨(i 0).val, iLt i⟩ : Fin 32) = 0 := Fin.ext hb
    have es : (⟨(i 0).val % 2, mod2 _⟩ : Fin 2) = 0 := Fin.ext (by show (i 0).val % 2 = 0; omega)
    rw [cntN_no sl (b := (i 0).val) (fun h => by omega), es, er]
    ihave HO := (cells_row c pk pv (rowN pt (i 0).val) (rowOf pt 0) 0) $$ HO
    iapply (wp_wand frame (wpE (defs₀ (F := F)) Variants.none (Dev.tc c : Thread nD τ) none) Set.univ) $$ [HO HT]
    · iapply (fetchLoop1 c pk pv pt i a3 h3 a4 h4 a5 h5 a6 a7 h6 h7 a10 h10 a11 a12 h11 h12 hpt (sl (ix1 0)) (hsl _) h1)
      isplitl [HO] <;> iassumption
    iintro %_ ⟨HO, HT⟩
    rw [wp_bind]
    iapply (wp_noLoop c _ _ _ _ (t2_no (hsl _)))
    iapply (fetchQ_run c pk pv pt sl i a3 h3 a4 h4 a5 h5 a6 a7 h6 h7 a10 h10 a11 a12 h11 h12 hpt hsl s3 s4 x) $$ [HC HT HL H]
    · isplitl [HC]; · iexact HC
      isplitl [HT]; · iexact HT
      isplitl [HL]; · iexact HL
      iexact H
    iintro H
    rw [er]
    iapply HQ
    isplitl [HO]; · iexact HO
    iexact H
  · have hb : 0 < (i 0).val := Nat.pos_of_ne_zero fun h => h1 ((cond1_iff i).2 h)
    dsimp only
    rw [dif_neg h1, rowN_of pt (iLt i), cntN_of sl hb (iLt i), ← rowN_of pt (iLt i)]
    iapply (fetchQ_run c pk pv pt sl i a3 h3 a4 h4 a5 h5 a6 a7 h6 h7 a10 h10 a11 a12 h11 h12 hpt hsl s3 s4 x) $$ [HC HT HL H]
    · isplitl [HC]; · iexact HC
      isplitl [HT]; · iexact HT
      isplitl [HL]; · iexact HL
      iexact H
    iintro H
    iapply HQ
    rw [rowN_of pt (iLt i)]
    isplitl [HO]; · iexact HO
    iexact H

end Cert.Kernel.Hand
-- ==== Proof.Kn.Whole.lean ====
module

public import proofs.«01_k».proof.Proof.Kn.Step

/-!
# The step as a whole

From any contents of the output blocks, a step leaves in them the attention columns and the codes.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Memref (whole isWhole_whole)
open Idealize.ShloMosaic.ValueIdx
open Idealize.ShloMosaic.RefSig (tileCredit)
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (pk pv : S2048x2x128x128.Idx → Elt F .fp8e4m3) (pt : S32x64.Idx → BitVec 32)
  (sl : S32.Idx → BitVec 32)

/-- The end state of head `g` of sequence `b`. -/
def endSt (b : Fin 32) (g : Fin 2) (s3 s4 : S2.Idx → Elt F .f32) (q : FVec F S1024x128 .bf16) (kn vn : S1x2x128x128.Idx → Elt F .bf16) : St F :=
  foldAll pk pv g (sl (ix1 b)) (s3 (ix1 g)) (s4 (ix1 g)) q (rowOf pt b) (start0 (s3 (ix1 g)) (s4 (ix1 g)) q (kn4 kn g) (kn4 vn g))
/-- The attention block of sequence `b`. -/
def outY (b : Fin 32) (s3 s4 : S2.Idx → Elt F .f32) (x : S1x128x2048.Idx → Elt F .bf16) (kn vn : S1x2x128x128.Idx → Elt F .bf16) : S1x128x2048.Idx → Elt F .bf16 :=
  yAll (colsW (endSt pk pv pt sl b 0 s3 s4 (qry0 x) kn vn) (endSt pk pv pt sl b 1 s3 s4 (qry1 x) kn vn))

variable (i : grid0.Coords)
  (a3 : Memref sig .tc .smem S2 .f32) (h3 : a3.IsWhole) (a4 : Memref sig .tc .smem S2 .f32) (h4 : a4.IsWhole)
  (a5 : Memref sig .tc .vmem S1x128x2048 .bf16) (h5 : a5.IsWhole) (a6 a7 : Memref sig .tc .vmem S1x2x128x128 .bf16)
  (h6 : a6.IsWhole) (h7 : a7.IsWhole) (a10 : Memref sig .tc .vmem S1x128x2048 .bf16) (h10 : a10.IsWhole)
  (a11 a12 : Memref sig .tc .vmem S1x2x128x128 .fp8e4m3) (h11 : a11.IsWhole) (h12 : a12.IsWhole)
  (s3 s4 : S2.Idx → Elt F .f32) (x : S1x128x2048.Idx → Elt F .bf16) (kn vn : S1x2x128x128.Idx → Elt F .bf16)

set_option maxHeartbeats 4000000 in
/-- A step. -/
theorem body_run (hpt : ∀ x, (pt x).toNat < 2048) (hsl : ∀ x, (sl x).toNat ≤ 8192) (d10 : S1x128x2048.Idx → Elt F .bf16) (d11 d12 : S1x2x128x128.Idx → Elt F .fp8e4m3) (a : S128x1024.Idx → Elt F .f32) :
    iprop(Slots c pk pv pt sl (i 0).val ∗ TabP (F := F) c pt ∗ TabL (F := F) c sl ∗
      owns (c : Thread nD τ) a3 fullShare s3 ∗ owns (c : Thread nD τ) a4 fullShare s4 ∗ owns (c : Thread nD τ) a5 fullShare x ∗
      owns (c : Thread nD τ) a6 fullShare kn ∗ owns (c : Thread nD τ) a7 fullShare vn ∗ owns (c : Thread nD τ) a10 fullShare d10 ∗
      owns (c : Thread nD τ) a11 fullShare d11 ∗ owns (c : Thread nD τ) a12 fullShare d12 ∗ AccAt c a ∗ Owe (F := F) c)
    ⊢ wp (M := 𝕄) frame (wpE (defs₀ (F := F)) Variants.none (Dev.tc c : Thread nD τ) none) Set.univ (cc0_paged_gqa i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3) (fun _ =>
      iprop(Slots c pk pv pt sl ((i 0).val + 1) ∗ TabP (F := F) c pt ∗ TabL (F := F) c sl ∗
      owns (c : Thread nD τ) a3 fullShare s3 ∗ owns (c : Thread nD τ) a4 fullShare s4 ∗ owns (c : Thread nD τ) a5 fullShare x ∗
      owns (c : Thread nD τ) a6 fullShare kn ∗ owns (c : Thread nD τ) a7 fullShare vn ∗
      owns (c : Thread nD τ) a10 fullShare (outY pk pv pt sl ⟨(i 0).val, iLt i⟩ s3 s4 x kn vn) ∗
      owns (c : Thread nD τ) a11 fullShare (cAll (kcode s3 kn)) ∗ owns (c : Thread nD τ) a12 fullShare (cAll (vcode s4 vn)) ∗
      (∃ a', AccAt c a') ∗ Owe (F := F) c)) := by
  rw [cc0_paged_gqa_eq_skeleton]
  unfold cc0_paged_gqa_skel
  iintro ⟨HS, HT, HL, H3, H4, H5, H6, H7, H10, H11, H12, HA, HW⟩
  rw [wp_bind]
  iapply (part25_run c pk pv pt sl i a3 h3 a4 h4 a5 h5 a6 a7 h6 h7 a10 h10 a11 a12 h11 h12 hpt hsl s3 s4 x) $$ [HS HT HL H3 H4 H5]
  · isplitl [HS]; · iexact HS
    isplitl [HT]; · iexact HT
    isplitl [HL]; · iexact HL
    isplitl [H3]; · iexact H3
    isplitl [H4]; · iexact H4
    iexact H5
  iintro ⟨HC, HN, HT, HL, H3, H4, H5⟩
  dsimp only
  ihave HR : (Res c pk pv pt sl i a3 a4 a5 a6 a7 a10 a11 a12 s3 s4 x kn vn 0 (((sl (ix1 ⟨(i 0).val, iLt i⟩)).toNat + 511) / 512) d10 d11 d12 a) $$ [HC HT HL H3 H4 H5 H6 H7 H10 H11 H12 HA HW]
  · unfold Res
    isplitl [HC]; · iexact HC
    isplitl [HT]; · iexact HT
    isplitl [HL]; · iexact HL
    isplitl [H3]; · iexact H3
    isplitl [H4]; · iexact H4
    isplitl [H5]; · iexact H5
    isplitl [H6]; · iexact H6
    isplitl [H7]; · iexact H7
    isplitl [H10]; · iexact H10
    isplitl [H11]; · iexact H11
    isplitl [H12]; · iexact H12
    isplitl [HA]; · iexact HA
    iexact HW
  rw [wp_bind]
  iapply (part26_run c pk pv pt sl i a3 h3 a4 h4 a5 h5 a6 a7 h6 h7 a10 h10 a11 a12 h11 h12 s3 s4 x kn vn 0 (((sl (ix1 ⟨(i 0).val, iLt i⟩)).toNat + 511) / 512) _ _ _ _ _ _ _ _ _ _ _ _) $$ HR
  iintro HR
  dsimp only
  rw [wp_bind]
  iapply (part27_run c pk pv pt sl i a3 h3 a4 h4 a5 h5 a6 a7 h6 h7 a10 h10 a11 a12 h11 h12 s3 s4 x kn vn 0 (((sl (ix1 ⟨(i 0).val, iLt i⟩)).toNat + 511) / 512) _ _ _ _ _ _ _ _ _ _) $$ HR
  iintro HR
  dsimp only
  rw [wp_bind]
  iapply (part28_run c pk pv pt sl i a3 h3 a4 h4 a5 h5 a6 a7 h6 h7 a10 h10 a11 a12 h11 h12 s3 s4 x kn vn hpt hsl _ _ _ _ _ _ _ _ _ _ _ _ _ _ _) $$ HR
  iintro HR
  dsimp only
  rw [wp_bind]
  iapply (part29_run c pk pv pt sl i a3 h3 a4 h4 a5 h5 a6 a7 h6 h7 a10 h10 a11 a12 h11 h12 s3 s4 x kn vn (((sl (ix1 ⟨(i 0).val, iLt i⟩)).toNat + 511) / 512) (((sl (ix1 ⟨(i 0).val, iLt i⟩)).toNat + 511) / 512) _ _ _ _ _ _) $$ HR
  iintro HR
  dsimp only
  rw [wp_bind]
  iapply (part30_run c pk pv pt sl i a3 h3 a4 h4 a5 h5 a6 a7 h6 h7 a10 h10 a11 a12 h11 h12 s3 s4 x kn vn (((sl (ix1 ⟨(i 0).val, iLt i⟩)).toNat + 511) / 512) (((sl (ix1 ⟨(i 0).val, iLt i⟩)).toNat + 511) / 512) _ _ _ _ _) $$ HR
  iintro HR
  dsimp only
  rw [wp_bind]
  iapply (part31_run c pk pv pt sl i a3 h3 a4 h4 a5 h5 a6 a7 h6 h7 a10 h10 a11 a12 h11 h12 s3 s4 x kn vn (((sl (ix1 ⟨(i 0).val, iLt i⟩)).toNat + 511) / 512) (((sl (ix1 ⟨(i 0).val, iLt i⟩)).toNat + 511) / 512) _ _ _ _ _ _ _ _) $$ HR
  iintro HR
  dsimp only
  rw [wp_bind]
  iapply (part32_run c pk pv pt sl i a3 h3 a4 h4 a5 h5 a6 a7 h6 h7 a10 h10 a11 a12 h11 h12 s3 s4 x kn vn hpt hsl _ _ _ _ _ _ _ _ _ _ _ _ _ _ _) $$ HR
  iintro HR
  dsimp only
  rw [wp_bind]
  iapply (part33_run c pk pv pt sl i a3 h3 a4 h4 a5 h5 a6 a7 h6 h7 a10 h10 a11 a12 h11 h12 s3 s4 x kn vn (((sl (ix1 ⟨(i 0).val, iLt i⟩)).toNat + 511) / 512) (((sl (ix1 ⟨(i 0).val, iLt i⟩)).toNat + 511) / 512) hsl _ _ _ _ _ _ _ _ _ _ _ _ _) $$ HR
  iintro HR
  dsimp only
  unfold Res
  icases HR with ⟨HC, HT, HL, H3, H4, H5, H6, H7, H10, H11, H12, HA, HW⟩
  rw [wp_bind]
  iapply (wp_dead c a10 _) $$ H10
  iintro H10
  rw [wp_bind]
  iapply (wp_yput c a10 _ 13 _ rfl) $$ H10
  iintro H10
  rw [wp_bind]
  iapply (wp_dead c a10 _) $$ H10
  iintro H10
  rw [wp_bind]
  iapply (wp_yput c a10 _ 14 _ rfl) $$ H10
  iintro H10
  rw [wp_bind]
  iapply (wp_dead c a10 _) $$ H10
  iintro H10
  rw [wp_bind]
  iapply (wp_yput c a10 _ 15 _ rfl) $$ H10
  iintro H10
  rw [wp_pureK]
  imodintro
  isplitl [HC HN]
  · iapply (slots_next c pk pv pt sl (i 0).val (rowOf pt ⟨(i 0).val, iLt i⟩) (((sl (ix1 ⟨(i 0).val, iLt i⟩)).toNat + 511) / 512))
    isplitl [HC]; · iexact HC
    iexact HN
  isplitl [HT]; · iexact HT
  isplitl [HL]; · iexact HL
  isplitl [H3]; · iexact H3
  isplitl [H4]; · iexact H4
  isplitl [H5]; · iexact H5
  isplitl [H6]; · iexact H6
  isplitl [H7]; · iexact H7
  isplitl [H10]
  · unfold outY
    rw [← yputs_all d10]
    iexact H10
  isplitl [H11]
  · rw [← cputs_all d11]
    iexact H11
  isplitl [H12]
  · rw [← cputs_all d12]
    iexact H12
  isplitl [HA]
  · iexists _
    iexact HA
  iexact HW

end Cert.Kernel.Hand
-- ==== Proof.Kn.Pool.lean ====
module

public import proofs.«01_k».proof.Proof.Kn.Whole

/-!
# The kernel's own buffers and counters, whole and apart

The two cache buffers are their 128 page slots. Each pool is dealt into 128 read shares and a remainder.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.RefSig (tileCredit)
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (pk pv : S2048x2x128x128.Idx → Elt F .fp8e4m3) (pt : S32x64.Idx → BitVec 32)
  (sl : S32.Idx → BitVec 32)

/-- Every block of both slots idle. -/
def AllIdle : sProp 𝕄 := bigSep Finset.univ fun s : Fin 2 => bigSep Finset.univ fun j : Fin 16 => CellIdle c pk pv s j

theorem cells_idle (row : Fin 64 → Fin 2048) (s : Fin 2) :
    (Cells c pk pv row s 0 0 : sProp 𝕄) = bigSep Finset.univ fun j : Fin 16 => CellIdle c pk pv s j := by
  unfold Cells
  exact BI.bigSep_congr fun j _ => by unfold cellSt; rw [if_neg (by omega), if_neg (by omega)]

theorem slots_idle (b : ℕ) (hb : cntN sl b = 0) (h2 : b % 2 = 0) : (Slots c pk pv pt sl b : sProp 𝕄) = AllIdle c pk pv := by
  unfold Slots AllIdle
  rw [hb, cells_idle, cells_idle, BI.bigSep_fin_two]
  rw [show (⟨b % 2, mod2 b⟩ : Fin 2) = 0 from Fin.ext h2, show (⟨1 - b % 2, omod2 b⟩ : Fin 2) = 1 from Fin.ext (by show 1 - b % 2 = 1; omega)]
  rfl

theorem fin4 (Φ : Fin 4 → sProp 𝕄) : bigSep Finset.univ Φ = iprop(Φ 0 ∗ Φ 1 ∗ Φ 2 ∗ Φ 3) := by
  rw [show (Finset.univ : Finset (Fin 4)) = {0, 1, 2, 3} by decide, BI.bigSep_insert (by decide), BI.bigSep_insert (by decide), BI.bigSep_insert (by decide), BI.bigSep_singleton]
  rfl

/-- A page slot of each buffer, named by its pair. -/
abbrev kFr (x : Fin 2 × Fin 64) : sProp 𝕄 := kFree (F := F) c x.1 x.2
abbrev vFr (x : Fin 2 × Fin 64) : sProp 𝕄 := vFree (F := F) c x.1 x.2
abbrev kTk (x : Fin 2 × Fin 64) : sProp 𝕄 := kTok c pk x.1 x.2
abbrev vTk (x : Fin 2 × Fin 64) : sProp 𝕄 := vTok c pv x.1 x.2

theorem pages16 (Φ : Fin 64 → sProp 𝕄) :
    bigSep Finset.univ Φ = bigSep Finset.univ fun j : Fin 16 => iprop(Φ (pgIx j 0) ∗ Φ (pgIx j 1) ∗ Φ (pgIx j 2) ∗ Φ (pgIx j 3)) := by
  rw [BI.bigSep_univ_equiv (finProdFinEquiv (m := 16) (n := 4)) Φ, BI.bigSep_univ_prod]
  refine BI.bigSep_congr fun j _ => ?_
  rw [fin4]
  have e : ∀ r : Fin 4, (finProdFinEquiv (j, r) : Fin (16 * 4)) = pgIx j r := fun r => Fin.ext (by
    show r.val + 4 * j.val = 4 * j.val + r.val; omega)
  rw [e, e, e, e]

/-- The counters at zero, the page slots and the read shares, by buffer. -/
theorem allIdle_eq : (AllIdle c pk pv : sProp 𝕄)
    = iprop((bigSep Finset.univ fun k : Fin 2 × Fin 16 => semVal ((c : Thread nD τ), SemLoc.dma (semAt k.1 k.2)) 0)
      ∗ bigSep Finset.univ (kFr (F := F) c) ∗ bigSep Finset.univ (kTk c pk) ∗ bigSep Finset.univ (vFr (F := F) c) ∗ bigSep Finset.univ (vTk c pv)) := by
  have e : (AllIdle c pk pv : sProp 𝕄) = bigSep Finset.univ fun s : Fin 2 => iprop((bigSep Finset.univ fun j : Fin 16 => semVal ((c : Thread nD τ), SemLoc.dma (semAt s j)) 0)
      ∗ bigSep Finset.univ fun p : Fin 64 => pgIdle c pk pv s p) := by
    unfold AllIdle
    refine BI.bigSep_congr fun s _ => ?_
    rw [pages16]
    refine Eq.trans ?_ (BI.bigSep_sep _ _ _)
    exact BI.bigSep_congr fun j _ => rfl
  rw [e]
  refine (BI.bigSep_sep _ _ _).trans ?_
  rw [BI.bigSep_univ_prod, BI.bigSep_univ_prod (kFr (F := F) c), BI.bigSep_univ_prod (kTk c pk), BI.bigSep_univ_prod (vFr (F := F) c), BI.bigSep_univ_prod (vTk c pv)]
  refine congrArg₂ _ rfl ?_
  refine Eq.trans (b := bigSep Finset.univ fun s : Fin 2 => iprop((bigSep Finset.univ fun p : Fin 64 => kFr (F := F) c (s, p)) ∗ (bigSep Finset.univ fun p : Fin 64 => kTk c pk (s, p)) ∗ (bigSep Finset.univ fun p : Fin 64 => vFr (F := F) c (s, p)) ∗ (bigSep Finset.univ fun p : Fin 64 => vTk c pv (s, p)))) ?_ ?_
  · refine BI.bigSep_congr fun s _ => ?_
    refine (BI.bigSep_sep _ _ _).trans (congrArg₂ _ rfl ?_)
    refine (BI.bigSep_sep _ _ _).trans (congrArg₂ _ rfl ?_)
    exact (BI.bigSep_sep _ _ _)
  · refine (BI.bigSep_sep _ _ _).trans (congrArg₂ _ rfl ?_)
    refine (BI.bigSep_sep _ _ _).trans (congrArg₂ _ rfl ?_)
    exact (BI.bigSep_sep _ _ _)

/-! ## The cache buffers -/

theorem kSl_union : Finset.biUnion (β := S2x64x2x128x128.Idx) (Finset.univ : Finset (Fin 2 × Fin 64)) (fun x => (kSl x.1 x.2).view.set) = Finset.univ := by
  refine Finset.eq_univ_iff_forall.mpr fun i => Finset.mem_biUnion.mpr ⟨(i 0, i 1), Finset.mem_univ _, (mem_kSl _ _ i).mpr ⟨rfl, rfl⟩⟩
theorem kSl_disj2 (x : Fin 2 × Fin 64) (_ : x ∈ Finset.univ) (y : Fin 2 × Fin 64) (_ : y ∈ Finset.univ) (h : x ≠ y) :
    Disjoint (α := Finset S2x64x2x128x128.Idx) (kSl x.1 x.2).view.set (kSl y.1 y.2).view.set :=
  Finset.disjoint_left.mpr fun i h1 h2 => h (Prod.ext (((mem_kSl _ _ i).1 h1).1.symm.trans ((mem_kSl _ _ i).1 h2).1) (((mem_kSl _ _ i).1 h1).2.symm.trans ((mem_kSl _ _ i).1 h2).2))
theorem vSl_union : Finset.biUnion (β := S2x64x2x128x128.Idx) (Finset.univ : Finset (Fin 2 × Fin 64)) (fun x => (vSl x.1 x.2).view.set) = Finset.univ := by
  refine Finset.eq_univ_iff_forall.mpr fun i => Finset.mem_biUnion.mpr ⟨(i 0, i 1), Finset.mem_univ _, (mem_vSl _ _ i).mpr ⟨rfl, rfl⟩⟩
theorem vSl_disj2 (x : Fin 2 × Fin 64) (_ : x ∈ Finset.univ) (y : Fin 2 × Fin 64) (_ : y ∈ Finset.univ) (h : x ≠ y) :
    Disjoint (α := Finset S2x64x2x128x128.Idx) (vSl x.1 x.2).view.set (vSl y.1 y.2).view.set :=
  Finset.disjoint_left.mpr fun i h1 h2 => h (Prod.ext (((mem_vSl _ _ i).1 h1).1.symm.trans ((mem_vSl _ _ i).1 h2).1) (((mem_vSl _ _ i).1 h1).2.symm.trans ((mem_vSl _ _ i).1 h2).2))

/-- A buffer whole at some contents is the pieces of a partition, each at some contents. -/
theorem pieces {T : Type} [Fintype T] [DecidableEq T] {ℓ : Loc nD τ sig} (K : T → Finset (Idx ℓ)) (f₀ : Buf (Elt F) ℓ)
    (hu : Finset.univ.biUnion K = Finset.univ) (hd : ∀ t ∈ Finset.univ, ∀ t' ∈ Finset.univ, t ≠ t' → Disjoint (K t) (K t')) :
    (iprop(∃ f : Buf (Elt F) ℓ, ℓ ↦{fullShare} f) : sProp 𝕄) ⊣⊢ bigSep Finset.univ fun t => iprop(∃ f : Buf (Elt F) ℓ, ℓ ↦[K t]{fullShare} f) := by
  constructor
  · iintro ⟨%f, H⟩
    have e : (ℓ ↦{fullShare} f : sProp 𝕄) ⊢ bigSep Finset.univ fun t => iprop(∃ f : Buf (Elt F) ℓ, ℓ ↦[K t]{fullShare} f) := by
      rw [show (ℓ ↦{fullShare} f : sProp 𝕄) = bigSep Finset.univ fun t => ℓ ↦[K t]{fullShare} f from by
        rw [← pointsTo_biUnion _ K hd, hu]]
      exact BI.bigSep_mono fun t _ => (show (ℓ ↦[K t]{fullShare} f : sProp 𝕄) ⊢ iprop(∃ f : Buf (Elt F) ℓ, ℓ ↦[K t]{fullShare} f) by iintro H; iexists f; iexact H)
    iapply e $$ H
  · refine (BI.bigSep_exists_pi (Y := fun _ => Buf (Elt F) ℓ) Finset.univ _).trans (exists_elim fun fs => ?_)
    refine (pointsTo_biUnion_join Finset.univ K fs f₀ hd).trans ?_
    rw [hu]
    iintro ⟨%g, -, H⟩
    iexists g; iexact H

theorem kBuf : (iprop(∃ f, (c.tc : Thread nD τ).loc cc0_scratch0 ↦{fullShare} f) : sProp 𝕄) ⊣⊢ bigSep Finset.univ (kFr (F := F) c) :=
  pieces (F := F) (ℓ := (c.tc : Thread nD τ).loc cc0_scratch0) (fun x : Fin 2 × Fin 64 => (kSl x.1 x.2).view.set) (fun _ => Classical.arbitrary _) kSl_union kSl_disj2
theorem vBuf : (iprop(∃ f, (c.tc : Thread nD τ).loc cc0_scratch1 ↦{fullShare} f) : sProp 𝕄) ⊣⊢ bigSep Finset.univ (vFr (F := F) c) :=
  pieces (F := F) (ℓ := (c.tc : Thread nD τ).loc cc0_scratch1) (fun x : Fin 2 × Fin 64 => (vSl x.1 x.2).view.set) (fun _ => Classical.arbitrary _) vSl_union vSl_disj2

/-! ## The pools' read shares -/

theorem toks (Φ : ℕ → sProp 𝕄) : (bigSep Finset.univ fun i : Fin 128 => Φ i.val) = bigSep Finset.univ fun x : Fin 2 × Fin 64 => Φ (x.1.val * 64 + x.2.val) := by
  rw [BI.bigSep_univ_equiv (finProdFinEquiv (m := 2) (n := 64)) (fun i : Fin (2 * 64) => Φ i.val)]
  refine BI.bigSep_congr fun x _ => congrArg Φ ?_
  show x.2.val + 64 * x.1.val = x.1.val * 64 + x.2.val
  omega

/-- What is left of a pool after its 128 read shares. -/
abbrev kDrop : sProp 𝕄 := (c.tc : Thread nD τ).loc main_v2 ↦[Finset.univ]{Transfers.shareDrop fullShare 128} (pk : Buf (Elt F) ((c : Thread nD τ).loc main_v2))
abbrev vDrop : sProp 𝕄 := (c.tc : Thread nD τ).loc main_v3 ↦[Finset.univ]{Transfers.shareDrop fullShare 128} (pv : Buf (Elt F) ((c : Thread nD τ).loc main_v3))

theorem kPool : ((c.tc : Thread nD τ).loc main_v2 ↦{fullShare} (pk : Buf (Elt F) ((c : Thread nD τ).loc main_v2)) : sProp 𝕄)
    ⊣⊢ iprop(kDrop c pk ∗ bigSep Finset.univ (kTk c pk)) := by
  have h := Transfers.pointsTo_toks (Ix := Unit) (Name := ℕ) (U := Pipeline.UD sig nD τ) (Lvl := ℕ) (ℓ := (c.tc : Thread nD τ).loc main_v2) (S := Finset.univ) (f := (pk : Buf (Elt F) ((c : Thread nD τ).loc main_v2))) fullShare 128
  rw [show (bigSep Finset.univ fun i : Fin 128 => ((c.tc : Thread nD τ).loc main_v2 ↦[Finset.univ]{Transfers.shareTok fullShare 128 i} (pk : Buf (Elt F) ((c : Thread nD τ).loc main_v2)) : sProp 𝕄)) = bigSep Finset.univ (kTk c pk) from
    toks (fun i => ((c.tc : Thread nD τ).loc main_v2 ↦[Finset.univ]{Transfers.shareTokN fullShare i} (pk : Buf (Elt F) ((c : Thread nD τ).loc main_v2)) : sProp 𝕄))] at h
  exact h
theorem vPool : ((c.tc : Thread nD τ).loc main_v3 ↦{fullShare} (pv : Buf (Elt F) ((c : Thread nD τ).loc main_v3)) : sProp 𝕄)
    ⊣⊢ iprop(vDrop c pv ∗ bigSep Finset.univ (vTk c pv)) := by
  have h := Transfers.pointsTo_toks (Ix := Unit) (Name := ℕ) (U := Pipeline.UD sig nD τ) (Lvl := ℕ) (ℓ := (c.tc : Thread nD τ).loc main_v3) (S := Finset.univ) (f := (pv : Buf (Elt F) ((c : Thread nD τ).loc main_v3))) fullShare 128
  rw [show (bigSep Finset.univ fun i : Fin 128 => ((c.tc : Thread nD τ).loc main_v3 ↦[Finset.univ]{Transfers.shareTok fullShare 128 i} (pv : Buf (Elt F) ((c : Thread nD τ).loc main_v3)) : sProp 𝕄)) = bigSep Finset.univ (vTk c pv) from
    toks (fun i => ((c.tc : Thread nD τ).loc main_v3 ↦[Finset.univ]{Transfers.shareTokN fullShare i} (pv : Buf (Elt F) ((c : Thread nD τ).loc main_v3)) : sProp 𝕄))] at h
  exact h

end Cert.Kernel.Hand

end
-- ==== Proof.Kn.Run.lean ====
module

public import proofs.«01_k».proof.Proof.Kn.Pool
public import Idealize.ShloMosaic.Lib.Pipeline.FrameSuffix0
public import Idealize.ShloMosaic.Lib.Pipeline.FrameSuffixV
public import Idealize.ShloMosaic.Lib.Claim

/-!
# The run

The 32 steps in a row: what the invariant is, what each step leaves in the output blocks, and the program's run.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.RefSig (tileCredit)
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the region finds -/

/-- The buffers after the four transposes. -/
abbrev V₀ (c : Dev nD) : Valuation τ sig (Elt F) := StableHlo.after [hostOps0].flatten (fun b => m (c, b))
/-- The same, by reference. -/
abbrev V (c : Dev nD) (b : Ref sig .tc) : Buf (Elt F) ((c.tc : Thread nD τ).loc b) := V₀ m c (Proc.devRef .tc b)

/-- The tables the pipeline prefetches. -/
def tabs (_ : Fin 1) : (pcfg0 (F := F)).Adm := ⟨fun k => V m 0 (pre0.ref k), trivial⟩
/-- The pipeline at these tables. -/
abbrev cf : Cfg sig Λ₀ := cfg0 (tabs m 0)

theorem hpf (c : Dev nD) (k : Fin pre0.K) : V₀ m c (Proc.devRef .tc (pre0.ref k)) = (tabs m 0).1 k := by
  obtain rfl : c = 0 := Subsingleton.elim _ _; rfl

abbrev Wpre : List (Ref sig .tc) := [main_v0, main_v1, main_v2, main_v3]

theorem pre_writes (b : Ref sig .tc) (h : b ∉ Wpre) : ∀ op ∈ ([hostOps0].flatten : List (HloOp τ sig (Elt F))), Proc.devRef .tc b ∉ op.writes := by
  intro op hop
  simp only [List.flatten_cons, List.flatten_nil, List.append_nil, hostOps0, List.mem_cons, List.mem_nil_iff, or_false] at hop
  have h := h
  simp only [Wpre, List.mem_cons, List.mem_nil_iff, or_false, not_or] at h
  rcases hop with rfl | rfl | rfl | rfl <;> simp only [StableHlo.unary_writes, Finset.mem_singleton]
  · exact StableHlo.devRef_ne_of_ne h.1
  · exact StableHlo.devRef_ne_of_ne h.2.1
  · exact StableHlo.devRef_ne_of_ne h.2.2.1
  · exact StableHlo.devRef_ne_of_ne h.2.2.2

theorem V_keep (c : Dev nD) (b : Ref sig .tc) (h : b ∉ Wpre) : V m c b = m ((c.tc : Thread nD τ).loc b) :=
  StableHlo.after_of_forall_not_mem (b := Proc.devRef .tc b) _ _ (pre_writes b h)

/-! ## The lines after the region -/

theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl
  all_goals intro j; fin_cases j <;> simp only [StableHlo.unary_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  simp only [hostOps1, List.mem_cons, List.mem_nil_iff, or_false] at hop
  rcases hop with rfl | rfl <;> rfl
theorem sfx_keeps : ∀ ops ∈ ([hostOps1] : List (List (HloOp τ sig (Elt F)))), ∀ op ∈ ops, ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, Finset.mem_singleton] <;> exact StableHlo.devRef_ne_of_ne (by decide)
/-- What those lines write. -/
def T0 : Finset (Ref sig .tc) := {main_v5, main_v6}
theorem sfx_writes : ∀ ops ∈ ([hostOps1] : List (List (HloOp τ sig (Elt F)))), ∀ op ∈ ops, ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl | rfl
  all_goals intro b hb; simp only [StableHlo.unary_writes, Finset.mem_singleton] at hb; rw [Proc.devRef_injective _ hb]; decide

theorem pre_fresh : ([hostOps0] : List (List (HloOp τ sig (Elt F)))).Forall fun ops => ops.Forall fun op => op.fresh = ∅ :=
  ⟨rfl, rfl, rfl, rfl⟩

theorem hmain : Pipeline.HMainPK (Ix := Unit) (Name := ℕ) (U := Pipeline.UD sig nD τ) (Lvl := ℕ) (pcfgs (F := F)) 0 defs₀ Variants.none m main
    (fun c b => V₀ m c (Proc.devRef .tc b)) (fun _ => Pipeline.chain ([hostOps1].map StableHlo.seq)) :=
  Pipeline.hmainP_around pcfgs 0 defs₀ Variants.none m main [hostOps0] [hostOps1] hostOps0_sub pre_fresh main_chain

/-! ## The kernel's own counters and pools -/

/-- The 32 counters. -/
def osem (k : Fin 2 × Fin 16) : SemLoc sig := .dma (semAt k.1 k.2)
theorem ownSemFacts : Pipeline.OwnSemFacts spec0 osem := by decide
/-- The pools the transfers read. -/
def H0 : Finset (Ref sig .tc) := {main_v2, main_v3}
theorem H0_sub : H0 ⊆ Pipeline.restRefsP sig pre0 spec0 := by decide

/-! ## The proof data -/

/-- Input window `w`'s block at step `t`. -/
def iblk (c : Dev nD) (w : Fin (cf m).W) (t : Fin (cf m).N) : (((cf m).win w).xblock ((cf m).grid.coords t)).Idx → Elt F ((cf m).win w).elt :=
  (((cf m).win w).blk t).view.read (Elt F) (V m c (Pipeline.arrRef spec0 w))

theorem coords0 : ∀ t : Fin grid0.N, ((grid0.coords t) 0).val = t.val := by decide

/-- The sequence a step serves. -/
abbrev seqOf (t : Fin (cf m).N) : Fin 32 := ⟨((grid0.coords t) 0).val, iLt (grid0.coords t)⟩

def yAt (c : Dev nD) (t : Fin (cf m).N) : Vec F S1x128x2048 .bf16 :=
  outY (V m c main_v2) (V m c main_v3) (V m c main_arg7) (V m c main_arg8) (seqOf m t)
    (iblk m c 0 t) (iblk m c 1 t) (iblk m c 2 t) (iblk m c 3 t) (iblk m c 4 t)
def kAt (c : Dev nD) (t : Fin (cf m).N) := cAll (kcode (F := F) (iblk m c 0 t) (iblk m c 3 t))
def vAt (c : Dev nD) (t : Fin (cf m).N) := cAll (vcode (F := F) (iblk m c 1 t) (iblk m c 4 t))

/-- The invariant before step `n`. -/
def PhiN (c : Dev nD) (n : ℕ) : sProp 𝕄 :=
  iprop(Slots c (V m c main_v2) (V m c main_v3) (V m c main_arg7) (V m c main_arg8) n
    ∗ TabP c (V m c main_arg7) ∗ TabL c (V m c main_arg8) ∗ (∃ a, AccAt c a)
    ∗ kDrop c (V m c main_v2) ∗ vDrop c (V m c main_v3))

def dats (p : Fin 1) (c : Dev nD) : Dat τ (Elt F) Unit ℕ (Pipeline.UD sig nD τ) ℕ (cf m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yAt m c t
    | ⟨6, _⟩ => kAt m c t
    | ⟨7, _⟩ => vAt m c t
  Φ n := PhiN m c n.val
  q _ := fullShare
  owed _ := 0

theorem A_eq (c : Dev nD) (w : Fin (cf m).W) : (dats m 0 c).A w = V m c (Pipeline.arrRef spec0 w) := rfl
theorem after_0 (c : Dev nD) (t : Fin (cf m).N) : (dats m 0 c).after 0 t = iblk m c 0 t := rfl
theorem after_1 (c : Dev nD) (t : Fin (cf m).N) : (dats m 0 c).after 1 t = iblk m c 1 t := rfl
theorem after_2 (c : Dev nD) (t : Fin (cf m).N) : (dats m 0 c).after 2 t = iblk m c 2 t := rfl
theorem after_3 (c : Dev nD) (t : Fin (cf m).N) : (dats m 0 c).after 3 t = iblk m c 3 t := rfl
theorem after_4 (c : Dev nD) (t : Fin (cf m).N) : (dats m 0 c).after 4 t = iblk m c 4 t := rfl
theorem after_5 (c : Dev nD) (t : Fin (cf m).N) : (dats m 0 c).after 5 t = yAt m c t := rfl
theorem after_6 (c : Dev nD) (t : Fin (cf m).N) : (dats m 0 c).after 6 t = kAt m c t := rfl
theorem after_7 (c : Dev nD) (t : Fin (cf m).N) : (dats m 0 c).after 7 t = vAt m c t := rfl
theorem before_0 (c : Dev nD) (t : Fin (cf m).N) (d) : (dats m 0 c).before 0 t d = iblk m c 0 t :=
  ((dats m 0 c).before_in_eq_fetched 0 rfl (fun _ => rfl) (fun _ _ _ => rfl) (fun t => by rw [after_0]; rfl) t d).trans rfl
theorem before_1 (c : Dev nD) (t : Fin (cf m).N) (d) : (dats m 0 c).before 1 t d = iblk m c 1 t :=
  ((dats m 0 c).before_in_eq_fetched 1 rfl (fun _ => rfl) (fun _ _ _ => rfl) (fun t => by rw [after_1]; rfl) t d).trans rfl
theorem before_2 (c : Dev nD) (t : Fin (cf m).N) (d) : (dats m 0 c).before 2 t d = iblk m c 2 t :=
  ((dats m 0 c).before_in_eq_fetched 2 rfl (fun _ => rfl) (fun _ _ _ => rfl) (fun t => by rw [after_2]; rfl) t d).trans rfl
theorem before_3 (c : Dev nD) (t : Fin (cf m).N) (d) : (dats m 0 c).before 3 t d = iblk m c 3 t :=
  ((dats m 0 c).before_in_eq_fetched 3 rfl (fun _ => rfl) (fun _ _ _ => rfl) (fun t => by rw [after_3]; rfl) t d).trans rfl
theorem before_4 (c : Dev nD) (t : Fin (cf m).N) (d) : (dats m 0 c).before 4 t d = iblk m c 4 t :=
  ((dats m 0 c).before_in_eq_fetched 4 rfl (fun _ => rfl) (fun _ _ _ => rfl) (fun t => by rw [after_4]; rfl) t d).trans rfl

/-! ## The two ends of the invariant -/

theorem slots_first (c : Dev nD) : (Slots c (V m c main_v2) (V m c main_v3) (V m c main_arg7) (V m c main_arg8) 0 : sProp 𝕄) = AllIdle c (V m c main_v2) (V m c main_v3) :=
  slots_idle c _ _ _ _ 0 (cntN_no _ (by decide)) (by decide)
theorem slots_last (c : Dev nD) : (Slots c (V m c main_v2) (V m c main_v3) (V m c main_arg7) (V m c main_arg8) 32 : sProp 𝕄) = AllIdle c (V m c main_v2) (V m c main_v3) :=
  slots_idle c _ _ _ _ 32 (cntN_no _ (by decide)) (by decide)

theorem tabs_eq (c : Dev nD) : (Pipeline.ΦT (U := Pipeline.UD sig nD τ) pre0 (tabs m 0).1 c : sProp 𝕄)
    = iprop(TabP c (V m c main_arg7) ∗ TabL c (V m c main_arg8)) := by
  obtain rfl : c = 0 := Subsingleton.elim _ _
  unfold Pipeline.ΦT Pipeline.prefHeld
  exact BI.bigSep_fin_two _

theorem pools_eq (c : Dev nD) : (bigSep H0 (fun b => ((c.tc : Thread nD τ).loc b) ↦{fullShare} V m c b) : sProp 𝕄)
    = iprop(((c.tc : Thread nD τ).loc main_v2 ↦{fullShare} V m c main_v2) ∗ ((c.tc : Thread nD τ).loc main_v3 ↦{fullShare} V m c main_v3)) := by
  rw [BI.bigSep_eq_bigSepL_of_eq [main_v2, main_v3] (by decide) (by decide)]; rfl

theorem sems_eq (c : Dev nD) : (Pipeline.ownSems0 (Ix := Unit) (Name := ℕ) (U := Pipeline.UD sig nD τ) (Lvl := ℕ) (Val := Elt F) (τ := τ) osem c : sProp 𝕄)
    = bigSep Finset.univ fun k : Fin 2 × Fin 16 => semVal ((c : Thread nD τ), SemLoc.dma (semAt k.1 k.2)) 0 := rfl

/-- What the region hands the kernel, beside the tables. -/
def Own (c : Dev nD) : sProp 𝕄 :=
  iprop(Pipeline.scopedRest (Ix := Unit) (Name := ℕ) (U := Pipeline.UD sig nD τ) (Lvl := ℕ) (Val := Elt F) spec0 c
    ∗ Pipeline.ownSems0 (Ix := Unit) (Name := ℕ) (U := Pipeline.UD sig nD τ) (Lvl := ℕ) (Val := Elt F) (τ := τ) osem c
    ∗ bigSep H0 (fun b => ((c.tc : Thread nD τ).loc b) ↦{fullShare} V m c b))

theorem own_in (c : Dev nD) : iprop(Own m c ∗ TabP c (V m c main_arg7) ∗ TabL c (V m c main_arg8)) ⊢ PhiN m c 0 := by
  unfold Own PhiN
  rw [pools_eq, sems_eq, scopedRest0_eq, slots_first, allIdle_eq]
  iintro ⟨⟨⟨Hk, Hv, Ha⟩, Hs, Hpk, Hpv⟩, Ht, Hl⟩
  ihave Hk := (kBuf (F := F) c).1 $$ Hk
  ihave Hv := (vBuf (F := F) c).1 $$ Hv
  ihave Hpk := (kPool c (V m c main_v2)).1 $$ Hpk
  ihave Hpv := (vPool c (V m c main_v3)).1 $$ Hpv
  icases Hpk with ⟨Hdk, Hpk⟩
  icases Hpv with ⟨Hdv, Hpv⟩
  isplitl [Hs Hk Hpk Hv Hpv]
  · isplitl [Hs]; · iexact Hs
    isplitl [Hk]; · iexact Hk
    isplitl [Hpk]; · iexact Hpk
    isplitl [Hv]; · iexact Hv
    iexact Hpv
  isplitl [Ht]; · iexact Ht
  isplitl [Hl]; · iexact Hl
  isplitl [Ha]; · iexact Ha
  isplitl [Hdk]; · iexact Hdk
  iexact Hdv

theorem own_out (c : Dev nD) : PhiN m c 32 ⊢ Own m c := by
  unfold Own PhiN
  rw [pools_eq, sems_eq, scopedRest0_eq, slots_last, allIdle_eq]
  iintro ⟨⟨Hs, Hk, Hpk, Hv, Hpv⟩, -, -, Ha, Hdk, Hdv⟩
  isplitl [Hk Hv Ha]
  · isplitl [Hk]; · iapply (kBuf (F := F) c).2 $$ Hk
    isplitl [Hv]; · iapply (vBuf (F := F) c).2 $$ Hv
    iexact Ha
  isplitl [Hs]; · iexact Hs
  isplitl [Hdk Hpk]
  · iapply (kPool c (V m c main_v2)).2
    isplitl [Hdk]; · iexact Hdk
    iexact Hpk
  · iapply (vPool c (V m c main_v3)).2
    isplitl [Hdv]; · iexact Hdv
    iexact Hpv

/-! ## A step -/

/-- The body as the pipeline calls it at step `t`. -/
def bodyAt (t : Fin (cf m).N) : Prog (TpuEff nD τ sig (Elt F) Λ₀ .tc) PUnit :=
  cc0_paged_gqa (grid0.coords t) (Memref.whole main_arg7) (Memref.isWhole_whole _) (Memref.whole main_arg8) (Memref.isWhole_whole _) ((spec0_0).stage ((cf m).slots t 0)) (hstage0_0 (((cf m).slots t 0).cast nbuf0_0)) ((spec0_1).stage ((cf m).slots t 1)) (hstage0_1 (((cf m).slots t 1).cast nbuf0_1)) ((spec0_2).stage ((cf m).slots t 2)) (hstage0_2 (((cf m).slots t 2).cast nbuf0_2)) ((spec0_3).stage ((cf m).slots t 3)) (hstage0_3 (((cf m).slots t 3).cast nbuf0_3)) ((spec0_4).stage ((cf m).slots t 4)) (hstage0_4 (((cf m).slots t 4).cast nbuf0_4))
    (Memref.whole main_v2) (Memref.isWhole_whole _) (Memref.whole main_v3) (Memref.isWhole_whole _) ((spec0_5).stage ((cf m).slots t 5)) (hstage0_5 (((cf m).slots t 5).cast nbuf0_5)) ((spec0_6).stage ((cf m).slots t 6)) (hstage0_6 (((cf m).slots t 6).cast nbuf0_6)) ((spec0_7).stage ((cf m).slots t 7)) (hstage0_7 (((cf m).slots t 7).cast nbuf0_7))
    (Memref.whole cc0_scratch0) (Memref.isWhole_whole _) (Memref.whole cc0_scratch1) (Memref.isWhole_whole _) (Memref.whole cc0_scratch2) (Memref.isWhole_whole _) cc0_scratch3

theorem defs₀_row (t : Fin (cf m).N) : defs₀ (F := F) .tc (cf m).body ((cf m).bodyArgs t ((cf m).slots t)) = bodyAt m t := by
  unfold defs₀; rw [Defs.onTc_tc]; rfl

def bodyPre (c : Dev nD) (t : Fin (cf m).N) : sProp 𝕄 :=
  iprop((dats m 0 c).Φ t.castSucc ∗ (dats m 0 c).owesAt () t.castSucc
    ∗ (∃ d, owns (c : Thread nD τ) ((spec0_0).stage ((cf m).slots t 0)) fullShare ((dats m 0 c).before 0 t d))
    ∗ (∃ d, owns (c : Thread nD τ) ((spec0_1).stage ((cf m).slots t 1)) fullShare ((dats m 0 c).before 1 t d))
    ∗ (∃ d, owns (c : Thread nD τ) ((spec0_2).stage ((cf m).slots t 2)) fullShare ((dats m 0 c).before 2 t d))
    ∗ (∃ d, owns (c : Thread nD τ) ((spec0_3).stage ((cf m).slots t 3)) fullShare ((dats m 0 c).before 3 t d))
    ∗ (∃ d, owns (c : Thread nD τ) ((spec0_4).stage ((cf m).slots t 4)) fullShare ((dats m 0 c).before 4 t d))
    ∗ (∃ d, owns (c : Thread nD τ) ((spec0_5).stage ((cf m).slots t 5)) fullShare ((dats m 0 c).before 5 t d))
    ∗ (∃ d, owns (c : Thread nD τ) ((spec0_6).stage ((cf m).slots t 6)) fullShare ((dats m 0 c).before 6 t d))
    ∗ (∃ d, owns (c : Thread nD τ) ((spec0_7).stage ((cf m).slots t 7)) fullShare ((dats m 0 c).before 7 t d)))
def bodyPost (c : Dev nD) (t : Fin (cf m).N) : sProp 𝕄 :=
  iprop((dats m 0 c).Φ t.succ ∗ (dats m 0 c).owesAt () t.succ
    ∗ owns (c : Thread nD τ) ((spec0_0).stage ((cf m).slots t 0)) fullShare ((dats m 0 c).after 0 t)
    ∗ owns (c : Thread nD τ) ((spec0_1).stage ((cf m).slots t 1)) fullShare ((dats m 0 c).after 1 t)
    ∗ owns (c : Thread nD τ) ((spec0_2).stage ((cf m).slots t 2)) fullShare ((dats m 0 c).after 2 t)
    ∗ owns (c : Thread nD τ) ((spec0_3).stage ((cf m).slots t 3)) fullShare ((dats m 0 c).after 3 t)
    ∗ owns (c : Thread nD τ) ((spec0_4).stage ((cf m).slots t 4)) fullShare ((dats m 0 c).after 4 t)
    ∗ owns (c : Thread nD τ) ((spec0_5).stage ((cf m).slots t 5)) fullShare ((dats m 0 c).after 5 t)
    ∗ owns (c : Thread nD τ) ((spec0_6).stage ((cf m).slots t 6)) fullShare ((dats m 0 c).after 6 t)
    ∗ owns (c : Thread nD τ) ((spec0_7).stage ((cf m).slots t 7)) fullShare ((dats m 0 c).after 7 t))

variable (hpt : ∀ c x, (V m c main_arg7 x).toNat < 2048) (hsl : ∀ c x, (V m c main_arg8 x).toNat ≤ 8192)

include hpt hsl in
theorem sound_body (c : Dev nD) (t : Fin (cf m).N) :
    bodyPre m c t ⊢ wp frame (wpE (defs₀ (F := F)) Variants.none c none) Set.univ (bodyAt m t) (fun _ => bodyPost m c t) := by
  unfold bodyPre bodyPost bodyAt
  rw [show (dats m 0 c).Φ t.castSucc = PhiN m c t.val from rfl, show (dats m 0 c).Φ t.succ = PhiN m c (t.val + 1) from rfl]
  unfold Dat.owesAt Pipeline.owesWithin PhiN
  rw [show (dats m 0 c).owed t.castSucc = 0 from rfl, show (dats m 0 c).owed t.succ = 0 from rfl]
  simp only [before_0, before_1, before_2, before_3, before_4, after_0, after_1, after_2, after_3, after_4, after_5, after_6, after_7]
  rw [← coords0 t]
  iintro ⟨⟨HS, HP, HL, ⟨%a, HA⟩, Hdk, Hdv⟩, ⟨%W, -, HW⟩, ⟨%e0, H0⟩, ⟨%e1, H1⟩, ⟨%e2, H2⟩, ⟨%e3, H3⟩, ⟨%e4, H4⟩, ⟨%e5, H5⟩, ⟨%e6, H6⟩, ⟨%e7, H7⟩⟩
  iapply (wp_wand frame (wpE (defs₀ (F := F)) Variants.none (Dev.tc c : Thread nD τ) none) Set.univ) $$ [HS HP HL HA HW H0 H1 H2 H3 H4 H5 H6 H7]
  · iapply (body_run c (V m c main_v2) (V m c main_v3) (V m c main_arg7) (V m c main_arg8) (grid0.coords t) _ _ _ _ _ _ _ _ _ _ _ _ _ _ _ _
      (iblk m c 0 t) (iblk m c 1 t) (iblk m c 2 t) (iblk m c 3 t) (iblk m c 4 t) (hpt c) (hsl c) _ _ _ a)
    isplitl [HS]; · iexact HS
    isplitl [HP]; · iexact HP
    isplitl [HL]; · iexact HL
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]; · iexact HA
    iexists W; iexact HW
  iintro %r ⟨HS, HP, HL, H0, H1, H2, H3, H4, H5, H6, H7, ⟨%a', HA⟩, ⟨%W', HW⟩⟩
  isplitl [HS HP HL HA Hdk Hdv]
  · isplitl [HS]; · iexact HS
    isplitl [HP]; · iexact HP
    isplitl [HL]; · iexact HL
    isplitl [HA]; · iexists a'; iexact HA
    isplitl [Hdk]; · iexact Hdk
    iexact Hdv
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

include hpt hsl in
theorem body_obligation (c : Dev nD) : BodyObligation (dats (F := F) m 0 c) (defs₀ (F := F)) Variants.none () Set.univ := fun t => by
  rw [bigSep_W0, bigSep_W0, defs₀_row]
  exact triple_restated (sound_body m hpt hsl c t) rfl .rfl fun _ => .rfl

/-! ## The run -/

set_option backward.isDefEq.respectTransparency.types false in
include hpt hsl in
theorem run_frame : θ_run defs (onTc (τ := τ) (main (F := F))) (s₀ m ρ)
    (Pipeline.FramePostR (Pipeline.pin pcfgs (tabs m)) (dats m) 0 (∅ ∪ T0) (fun c b => V m c b)) :=
  Pipeline.θ_run_frameP_dmaR_around₀ pcfgs (tabs m) (dats m) (0 : Fin 1) launch0 osem defs₀ Variants.none ownSemFacts H0 ∅ T0 H0_sub (Finset.empty_subset _) m ρ main
    (hbody := fun c => (body_obligation m hpt hsl c).loose) (hshare := fun c => (dats m 0 c).share_full fun _ => rfl)
    (howed := fun _ _ => rfl) (V₀ := V₀ m) (opss := [hostOps1]) (hsub := sfx_sub) (hfresh := sfx_fresh) (hkeep := sfx_keeps) (hT := sfx_writes)
    (hmain := hmain m) (hA := A_eq m) (hpf := hpf m)
    (hin := fun c => by
      rw [tabs_eq]
      refine BIBase.Entails.trans ?_ (own_in m c)
      unfold Own Pipeline.ΦDR₀ Pipeline.owned
      iintro ⟨⟨Hr, Hs, Hh, -⟩, HT⟩
      isplitl [Hr Hs Hh]
      · isplitl [Hr]; · iexact Hr
        isplitl [Hs]; · iexact Hs
        iexact Hh
      iexact HT)
    (hout := fun c => by
      refine (own_out m c).trans ?_
      unfold Own Pipeline.ΦDR₀ Pipeline.owned
      iintro ⟨Hr, Hs, Hh⟩
      isplitl [Hr]; · iexact Hr
      isplitl [Hs]; · iexact Hs
      isplitl [Hh]; · iexact Hh
      rw [BI.bigSep_empty]; iempintro)

set_option backward.isDefEq.respectTransparency.types false in
include hpt hsl in
theorem run_vals : θ_run defs (onTc (τ := τ) (main (F := F))) (s₀ m ρ)
    (fun r => (∀ c : Dev nD, (∀ w, r.2.mem (((cf m).spec w).arr.view.loc (c.tc : Thread nD τ)) = (dats m 0 c).arrAt w (cf m).N)
      ∧ ∀ b ∈ Pipeline.restRefsP sig pre0 spec0, r.2.mem ((c.tc : Thread nD τ).loc b) = StableHlo.after [hostOps1].flatten (Pipeline.withArrays spec0 c (Pipeline.withR (V₀ m c) ∅ c (V m c)) fun w => (dats m 0 c).arrAt w (cf m).N) (Proc.devRef .tc b))
      ∧ r.2.sem = fun _ => 0) :=
  Pipeline.θ_run_frameP_dmaR_aroundV (Q' := _) pcfgs (tabs m) (dats m) (0 : Fin 1) launch0 osem defs₀ Variants.none ownSemFacts H0 ∅ H0_sub (Finset.empty_subset _) m ρ main
    (hbody := fun c => (body_obligation m hpt hsl c).loose) (hshare := fun c => (dats m 0 c).share_full fun _ => rfl)
    (howed := fun _ _ => rfl) (V₀ := V₀ m) (opss := [hostOps1]) (hsub := sfx_sub) (hfresh := sfx_fresh) (hkeep := sfx_keeps) (G := V m)
    (hmain := hmain m) (hA := A_eq m) (hpf := hpf m)
    (hin := fun c => by
      rw [tabs_eq]
      refine BIBase.Entails.trans ?_ (own_in m c)
      unfold Own Pipeline.ΦDRV
      iintro ⟨⟨Hr, Hs, Hh, -⟩, HT⟩
      isplitl [Hr Hs Hh]
      · isplitl [Hr]; · iexact Hr
        isplitl [Hs]; · iexact Hs
        iexact Hh
      iexact HT)
    (hout := fun c => by
      refine (own_out m c).trans ?_
      unfold Own Pipeline.ΦDRV
      iintro ⟨Hr, Hs, Hh⟩
      isplitl [Hr]; · iexact Hr
      isplitl [Hs]; · iexact Hs
      isplitl [Hh]; · iexact Hh
      rw [BI.bigSep_empty]; iempintro)

/-- The argument arrays at the end of a run. -/
def Kept (r : PUnit × MemSt nD τ sig (Elt F)) : Prop := ∀ c : Dev nD,
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)

theorem kept_of (r : PUnit × MemSt nD τ sig (Elt F)) (h : Pipeline.FramePostR (Pipeline.pin pcfgs (tabs m)) (dats m) 0 (∅ ∪ T0) (fun c b => V m c b) r) : Kept m r :=
  fun c => ⟨((h c).1 2).trans (((dats m 0 c).arrAt_in 2 rfl _).trans ((A_eq m c 2).trans (V_keep m c main_arg0 (by decide)))),
    ((h c).2 main_arg1 (show main_arg1 ∈ Pipeline.restRefs sig spec0 \ (∅ ∪ T0) by decide)).trans (V_keep m c main_arg1 (by decide)),
    ((h c).2 main_arg2 (show main_arg2 ∈ Pipeline.restRefs sig spec0 \ (∅ ∪ T0) by decide)).trans (V_keep m c main_arg2 (by decide)),
    ((h c).2 main_arg3 (show main_arg3 ∈ Pipeline.restRefs sig spec0 \ (∅ ∪ T0) by decide)).trans (V_keep m c main_arg3 (by decide)),
    ((h c).2 main_arg4 (show main_arg4 ∈ Pipeline.restRefs sig spec0 \ (∅ ∪ T0) by decide)).trans (V_keep m c main_arg4 (by decide)),
    ((h c).1 0).trans (((dats m 0 c).arrAt_in 0 rfl _).trans ((A_eq m c 0).trans (V_keep m c main_arg5 (by decide)))),
    ((h c).1 1).trans (((dats m 0 c).arrAt_in 1 rfl _).trans ((A_eq m c 1).trans (V_keep m c main_arg6 (by decide)))),
    ((h c).2 main_arg7 (show main_arg7 ∈ Pipeline.restRefs sig spec0 \ (∅ ∪ T0) by decide)).trans (V_keep m c main_arg7 (by decide)),
    ((h c).2 main_arg8 (show main_arg8 ∈ Pipeline.restRefs sig spec0 \ (∅ ∪ T0) by decide)).trans (V_keep m c main_arg8 (by decide))⟩

/-- What the result buffers hold at the end of a run. -/
def Vals (r : PUnit × MemSt nD τ sig (Elt F)) : Prop := ∀ c : Dev nD,
  (∀ w, r.2.mem (((cf m).spec w).arr.view.loc (c.tc : Thread nD τ)) = (dats m 0 c).arrAt w (cf m).N)
    ∧ ∀ b ∈ Pipeline.restRefsP sig pre0 spec0, r.2.mem ((c.tc : Thread nD τ).loc b) = StableHlo.after [hostOps1].flatten (Pipeline.withArrays spec0 c (Pipeline.withR (V₀ m c) ∅ c (V m c)) fun w => (dats m 0 c).arrAt w (cf m).N) (Proc.devRef .tc b)

include hpt hsl in
/-- Every run ends, the arguments unchanged, the results at the values named, every counter at zero. -/
theorem run_all : θ_run defs (onTc (τ := τ) (main (F := F))) ⟨m, fun _ => 0, ρ⟩ (fun r => Kept m r ∧ Vals m r ∧ r.2.sem = fun _ => 0) :=
  θ_run_mono (θ_run_and (run_frame m ρ hpt hsl) (run_vals m ρ hpt hsl)) (fun r h => ⟨kept_of m r h.1, h.2.1, h.2.2⟩)

end Cert.Kernel.Hand

end
-- ==== Proof.Ki.Rules.lean ====
/-
  Hand-written. The rules the kernel's own transfers are read by: a page of the two pools is copied into
  one of the 64 page slots of a cache buffer, eight copies (four pages, keys and values) on one counter.
  Each rule takes the offsets as equations, so that it applies at every place the body issues or awaits a copy.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Memref (whole isWhole_whole)
open Idealize.ShloMosaic.ValueIdx
open Idealize.ShloMosaic.RefSig (tileCredit)
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

/-! ## Names -/

variable (c : Dev nD)

theorem inb16 (s : Fin 2) (j : Fin 16) : ∀ a, (![s.val, j.val] : Fin 2 → Nat) a + S1x1.size a ≤ S2x16.size a := by
  have := s.isLt; have := j.isLt; intro a; fin_cases a
  · show s.val + 1 ≤ 2; omega
  · show j.val + 1 ≤ 16; omega

/-- The counter of slot `s`, block `j`. -/
def semAt (s : Fin 2) (j : Fin 16) : DmaSem sig :=
  ((cc0_scratch3.slice (Rect.unit (s := S2x16) ![s.val, j.val] S1x1.size (inb16 s j))).squeeze S_ squeezes_S1x1_S_).sem

theorem sem_eq {off : Fin 2 → ℕ} (s : Fin 2) (j : Fin 16) (h : off = ![s.val, j.val])
    (inb : ∀ a, off a + S1x1.size a ≤ S2x16.size a) :
    ((cc0_scratch3.slice (Rect.unit (s := S2x16) off S1x1.size inb)).squeeze S_ squeezes_S1x1_S_).sem = semAt s j := by
  subst h; rfl

theorem inbP (s : Fin 2) (p : Fin 64) : ∀ a, (![s.val, p.val, 0, 0, 0] : Fin 5 → Nat) a + S1x1x2x128x128.size a ≤ S2x64x2x128x128.size a := by
  have := s.isLt; have := p.isLt; intro a; fin_cases a
  · show s.val + 1 ≤ 2; omega
  · show p.val + 1 ≤ 64; omega
  · show 0 + 2 ≤ 2; omega
  · show 0 + 128 ≤ 128; omega
  · show 0 + 128 ≤ 128; omega

theorem inbG (g : Fin 2048) : ∀ a, (![g.val, 0, 0, 0] : Fin 4 → Nat) a + S1x2x128x128.size a ≤ S2048x2x128x128.size a := by
  have := g.isLt; intro a; fin_cases a
  · show g.val + 1 ≤ 2048; omega
  · show 0 + 2 ≤ 2; omega
  · show 0 + 128 ≤ 128; omega
  · show 0 + 128 ≤ 128; omega

/-- What one page's copy credits its counter. -/
def NP : ℕ := tileCredit S2x128x128 .fp8e4m3

/-! ## Keys -/

/-- Page slot `p` of cache slot `s`. -/
def kSl (s : Fin 2) (p : Fin 64) : Memref sig .tc .vmem S2x128x128 .fp8e4m3 :=
  ((whole cc0_scratch0).slice (Rect.unit (s := S2x64x2x128x128) ![s.val, p.val, 0, 0, 0] S1x1x2x128x128.size (inbP s p)) (fun _ => rfl)).squeeze S2x128x128 squeezes_S1x1x2x128x128_S2x128x128
/-- Page `g` of the pool. -/
def kPg (g : Fin 2048) : Memref sig .tc .hbm S2x128x128 .fp8e4m3 :=
  ((whole main_v2).slice (Rect.unit (s := S2048x2x128x128) ![g.val, 0, 0, 0] S1x2x128x128.size (inbG g)) (fun _ => rfl)).squeeze S2x128x128 squeezes_S1x2x128x128_S2x128x128

theorem kSl_emb (s : Fin 2) (p : Fin 64) (x : Fin 2) (y z : Fin 128) : (kSl s p).view.emb (ix3 x y z) = ix5 s p x y z := by
  refine (show (kSl s p).view.emb (ix3 x y z) = (Rect.unit (s := S2x64x2x128x128) ![s.val, p.val, 0, 0, 0] S1x1x2x128x128.size (inbP s p)).emb (Shape.reshapeEquiv _ (ix3 x y z)) from rfl).trans ?_
  rw [reshapeEquiv_ix3_11abc]
  funext a
  apply Fin.ext
  fin_cases a
  · show s.val + 1 * 0 = s.val; omega
  · show p.val + 1 * 0 = p.val; omega
  · show 0 + 1 * x.val = x.val; omega
  · show 0 + 1 * y.val = y.val; omega
  · show 0 + 1 * z.val = z.val; omega

theorem kPg_emb (g : Fin 2048) (x : Fin 2) (y z : Fin 128) : (kPg g).view.emb (ix3 x y z) = ix4 g x y z := by
  refine (show (kPg g).view.emb (ix3 x y z) = (Rect.unit (s := S2048x2x128x128) ![g.val, 0, 0, 0] S1x2x128x128.size (inbG g)).emb (Shape.reshapeEquiv _ (ix3 x y z)) from rfl).trans ?_
  rw [reshapeEquiv_ix3_1abc]
  funext a
  apply Fin.ext
  fin_cases a
  · show g.val + 1 * 0 = g.val; omega
  · show 0 + 1 * x.val = x.val; omega
  · show 0 + 1 * y.val = y.val; omega
  · show 0 + 1 * z.val = z.val; omega

theorem mem_kSl (s : Fin 2) (p : Fin 64) (x : S2x64x2x128x128.Idx) : Membership.mem (γ := Finset S2x64x2x128x128.Idx) (kSl s p).view.set x ↔ (x 0 = s ∧ x 1 = p) := by
  constructor
  · intro h
    obtain ⟨y, -, rfl⟩ := Finset.mem_map.mp h
    obtain ⟨a, b, d, rfl⟩ : ∃ a b d, y = ix3 a b d := ⟨_, _, _, eq_ix3 y⟩
    have h := kSl_emb s p a b d
    exact ⟨congrFun (f := (kSl s p).view.emb (ix3 a b d)) h (0 : Fin 5), congrFun (f := (kSl s p).view.emb (ix3 a b d)) h (1 : Fin 5)⟩
  · rintro ⟨h0, h1⟩
    refine Finset.mem_map.mpr ⟨ix3 (x 2) (x 3) (x 4), Finset.mem_univ _, ?_⟩
    refine (kSl_emb s p (x 2) (x 3) (x 4)).trans ?_
    subst h0 h1
    exact (eq_ix5 x).symm

/-- What a cache slot holds once the pages a row names have landed. -/
def kTgt (pool : S2048x2x128x128.Idx → Elt F .fp8e4m3) (row : Fin 64 → Fin 2048) : S2x64x2x128x128.Idx → Elt F .fp8e4m3 :=
  fun x => pool (ix4 (row (x 1)) (x 2) (x 3) (x 4))

/-- The read share transfer `(s, p)` uses. -/
abbrev tokAt (s : Fin 2) (p : Fin 64) : PosShare TreeShare := Transfers.shareTokN fullShare (s.val * 64 + p.val)

/-- The page slot, held at some contents. -/
abbrev kFree (s : Fin 2) (p : Fin 64) : sProp 𝕄 :=
  iprop(∃ f, (kSl s p).view.loc (c : Thread nD τ) ↦[(kSl s p).view.set]{fullShare} f)
/-- The page slot, landed. -/
abbrev kGot (pool : S2048x2x128x128.Idx → Elt F .fp8e4m3) (row : Fin 64 → Fin 2048) (s : Fin 2) (p : Fin 64) : sProp 𝕄 :=
  (kSl s p).view.loc (c : Thread nD τ) ↦[(kSl s p).view.set]{fullShare} (kTgt pool row : Buf (Elt F) ((kSl s p).view.loc (c : Thread nD τ)))
/-- The read share of the whole pool, of one page, of the rest. -/
abbrev kTok (pool : S2048x2x128x128.Idx → Elt F .fp8e4m3) (s : Fin 2) (p : Fin 64) : sProp 𝕄 :=
  (whole main_v2).view.loc (c : Thread nD τ) ↦[Finset.univ]{tokAt s p} pool
abbrev kTokPg (pool : S2048x2x128x128.Idx → Elt F .fp8e4m3) (s : Fin 2) (p : Fin 64) (g : Fin 2048) : sProp 𝕄 :=
  (kPg g).view.loc (c : Thread nD τ) ↦[(kPg g).view.set]{tokAt s p} (pool : Buf (Elt F) ((kPg g).view.loc (c : Thread nD τ)))
abbrev kTokRest (pool : S2048x2x128x128.Idx → Elt F .fp8e4m3) (s : Fin 2) (p : Fin 64) (g : Fin 2048) : sProp 𝕄 :=
  (whole main_v2).view.loc (c : Thread nD τ) ↦[Finset.univ \ (kPg g).view.set]{tokAt s p} pool

theorem kTok_split (pool : S2048x2x128x128.Idx → Elt F .fp8e4m3) (s : Fin 2) (p : Fin 64) (g : Fin 2048) :
    (kTok c pool s p : sProp 𝕄) ⊣⊢ iprop(kTokPg c pool s p g ∗ kTokRest c pool s p g) :=
  pointsTo_split_subset (Finset.subset_univ _)

theorem kLand (pool : S2048x2x128x128.Idx → Elt F .fp8e4m3) (row : Fin 64 → Fin 2048) (s : Fin 2) (p : Fin 64)
    (fd : S2x64x2x128x128.Idx → Elt F .fp8e4m3) :
    iprop(((kSl s p).view.loc (c : Thread nD τ) ↦[(kSl s p).view.set]{fullShare} ((kSl s p).view.write (Elt F) fd ((ReadAs.same (Val := Elt F)).apply ((kPg (row p)).view.read (Elt F) pool)) Finset.univ))
       ∗ ((kPg (row p)).view.loc (c : Thread nD τ) ↦[(kPg (row p)).view.set]{tokAt s p} pool))
      ⊢ (iprop(kGot c pool row s p ∗ kTokPg c pool s p (row p)) : sProp 𝕄) := by
  refine sep_mono_left (Entails.of_eq (pointsTo_congr ?_))
  intro x hx
  obtain ⟨y, -, rfl⟩ := Finset.mem_map.mp hx
  obtain ⟨a, b, d, rfl⟩ : ∃ a b d, y = ix3 a b d := ⟨_, _, _, eq_ix3 y⟩
  refine (View.write_emb_of_mem _ _ (Finset.mem_univ _)).trans ?_
  show pool ((kPg (row p)).view.emb (ix3 a b d)) = kTgt pool row ((kSl s p).view.emb (ix3 a b d))
  rw [kSl_emb, kPg_emb]
  rfl

section
variable {n : ℕ}
/-- Issuing the copy of page `row p` into slot `(s, p)`, transfer `k` of the batch on counter `(s, j)`. -/
theorem wp_issueK (pool : S2048x2x128x128.Idx → Elt F .fp8e4m3) (row : Fin 64 → Fin 2048) (s : Fin 2) (p : Fin 64) (j : Fin 16)
    {D : Fin n → sProp 𝕄} {k : ℕ} (hk : k < n)
    (hD : iprop(kGot c pool row s p ∗ kTokPg c pool s p (row p)) ⊢ D ⟨k, hk⟩)
    {Q : PUnit → sProp 𝕄}
    {o13 : Fin 5 → ℕ} {o8 : Fin 4 → ℕ} {o16 : Fin 2 → ℕ}
    (h13 : o13 = ![s.val, p.val, 0, 0, 0]) (h8 : o8 = ![(row p).val, 0, 0, 0]) (h16 : o16 = ![s.val, j.val])
    {i13 : ∀ a, o13 a + S1x1x2x128x128.size a ≤ S2x64x2x128x128.size a} {i8 : ∀ a, o8 a + S1x2x128x128.size a ≤ S2048x2x128x128.size a}
    {i16 : ∀ a, o16 a + S1x1.size a ≤ S2x16.size a} {w1 w2 w3} :
    iprop(kFree (F := F) c s p ∗ kTok c pool s p ∗ Transfers.Batch (countersEmb (U := Pipeline.UD sig nD τ)) (c : Thread nD τ) (.dma (semAt s j)) () NP D k 0)
      ⊢ iprop(((kTokRest c pool s p (row p) ∗ Transfers.Batch (countersEmb (U := Pipeline.UD sig nD τ)) (c : Thread nD τ) (.dma (semAt s j)) () NP D (k + 1) 0) -∗ Q ⟨⟩) -∗
        wp (M := 𝕄) frame (wpE (defs₀ (F := F)) Variants.none (Dev.tc c : Thread nD τ) none) Set.univ (Prog.lift (TpuEff.enqueueDma
          (((whole main_v2).slice (Rect.unit (s := S2048x2x128x128) o8 S1x2x128x128.size i8) (fun _ => rfl)).squeeze S2x128x128 squeezes_S1x2x128x128_S2x128x128)
          (.here (((whole cc0_scratch0).slice (Rect.unit (s := S2x64x2x128x128) o13 S1x1x2x128x128.size i13) (fun _ => rfl)).squeeze S2x128x128 squeezes_S1x1x2x128x128_S2x128x128))
          (.dma ((cc0_scratch3.slice (Rect.unit (s := S2x16) o16 S1x1.size i16)).squeeze S_ squeezes_S1x1_S_).sem) w1 w2 w3)) Q) := by
  subst h13 h8
  revert w3
  rw [sem_eq s j h16 i16]
  intro w3
  iintro ⟨⟨%fd, Hd⟩, Ht, HB⟩ HQ
  ihave Ht2 := (kTok_split c pool s p (row p)).1 $$ Ht
  icases Ht2 with ⟨Ht, Hr⟩
  iapply (Transfers.wp_dmaBatch (src := kPg (row p)) (dst := kSl s p) (countersEmb (U := Pipeline.UD sig nD τ)) Variants.none (c : Thread nD τ) none () NP rfl (Finset.Subset.refl _) hk (Nat.zero_le _) ((kLand c pool row s p fd).trans hD)) $$ [Ht Hd HB]
  · isplitl [Ht]; · iexact Ht
    isplitl [Hd]; · iexact Hd
    iexact HB
  iintro HB
  rw [wp_ret]
  imodintro
  iapply HQ
  isplitl [Hr] <;> iassumption
end

/-! ## Values -/

/-- Page slot `p` of cache slot `s`. -/
def vSl (s : Fin 2) (p : Fin 64) : Memref sig .tc .vmem S2x128x128 .fp8e4m3 :=
  ((whole cc0_scratch1).slice (Rect.unit (s := S2x64x2x128x128) ![s.val, p.val, 0, 0, 0] S1x1x2x128x128.size (inbP s p)) (fun _ => rfl)).squeeze S2x128x128 squeezes_S1x1x2x128x128_S2x128x128
/-- Page `g` of the pool. -/
def vPg (g : Fin 2048) : Memref sig .tc .hbm S2x128x128 .fp8e4m3 :=
  ((whole main_v3).slice (Rect.unit (s := S2048x2x128x128) ![g.val, 0, 0, 0] S1x2x128x128.size (inbG g)) (fun _ => rfl)).squeeze S2x128x128 squeezes_S1x2x128x128_S2x128x128

theorem vSl_emb (s : Fin 2) (p : Fin 64) (x : Fin 2) (y z : Fin 128) : (vSl s p).view.emb (ix3 x y z) = ix5 s p x y z := by
  refine (show (vSl s p).view.emb (ix3 x y z) = (Rect.unit (s := S2x64x2x128x128) ![s.val, p.val, 0, 0, 0] S1x1x2x128x128.size (inbP s p)).emb (Shape.reshapeEquiv _ (ix3 x y z)) from rfl).trans ?_
  rw [reshapeEquiv_ix3_11abc]
  funext a
  apply Fin.ext
  fin_cases a
  · show s.val + 1 * 0 = s.val; omega
  · show p.val + 1 * 0 = p.val; omega
  · show 0 + 1 * x.val = x.val; omega
  · show 0 + 1 * y.val = y.val; omega
  · show 0 + 1 * z.val = z.val; omega

theorem vPg_emb (g : Fin 2048) (x : Fin 2) (y z : Fin 128) : (vPg g).view.emb (ix3 x y z) = ix4 g x y z := by
  refine (show (vPg g).view.emb (ix3 x y z) = (Rect.unit (s := S2048x2x128x128) ![g.val, 0, 0, 0] S1x2x128x128.size (inbG g)).emb (Shape.reshapeEquiv _ (ix3 x y z)) from rfl).trans ?_
  rw [reshapeEquiv_ix3_1abc]
  funext a
  apply Fin.ext
  fin_cases a
  · show g.val + 1 * 0 = g.val; omega
  · show 0 + 1 * x.val = x.val; omega
  · show 0 + 1 * y.val = y.val; omega
  · show 0 + 1 * z.val = z.val; omega

theorem mem_vSl (s : Fin 2) (p : Fin 64) (x : S2x64x2x128x128.Idx) : Membership.mem (γ := Finset S2x64x2x128x128.Idx) (vSl s p).view.set x ↔ (x 0 = s ∧ x 1 = p) := by
  constructor
  · intro h
    obtain ⟨y, -, rfl⟩ := Finset.mem_map.mp h
    obtain ⟨a, b, d, rfl⟩ : ∃ a b d, y = ix3 a b d := ⟨_, _, _, eq_ix3 y⟩
    have h := vSl_emb s p a b d
    exact ⟨congrFun (f := (vSl s p).view.emb (ix3 a b d)) h (0 : Fin 5), congrFun (f := (vSl s p).view.emb (ix3 a b d)) h (1 : Fin 5)⟩
  · rintro ⟨h0, h1⟩
    refine Finset.mem_map.mpr ⟨ix3 (x 2) (x 3) (x 4), Finset.mem_univ _, ?_⟩
    refine (vSl_emb s p (x 2) (x 3) (x 4)).trans ?_
    subst h0 h1
    exact (eq_ix5 x).symm

/-- The page slot, held at some contents. -/
abbrev vFree (s : Fin 2) (p : Fin 64) : sProp 𝕄 :=
  iprop(∃ f, (vSl s p).view.loc (c : Thread nD τ) ↦[(vSl s p).view.set]{fullShare} f)
/-- The page slot, landed. -/
abbrev vGot (pool : S2048x2x128x128.Idx → Elt F .fp8e4m3) (row : Fin 64 → Fin 2048) (s : Fin 2) (p : Fin 64) : sProp 𝕄 :=
  (vSl s p).view.loc (c : Thread nD τ) ↦[(vSl s p).view.set]{fullShare} (kTgt pool row : Buf (Elt F) ((vSl s p).view.loc (c : Thread nD τ)))
/-- The read share of the whole pool, of one page, of the rest. -/
abbrev vTok (pool : S2048x2x128x128.Idx → Elt F .fp8e4m3) (s : Fin 2) (p : Fin 64) : sProp 𝕄 :=
  (whole main_v3).view.loc (c : Thread nD τ) ↦[Finset.univ]{tokAt s p} pool
abbrev vTokPg (pool : S2048x2x128x128.Idx → Elt F .fp8e4m3) (s : Fin 2) (p : Fin 64) (g : Fin 2048) : sProp 𝕄 :=
  (vPg g).view.loc (c : Thread nD τ) ↦[(vPg g).view.set]{tokAt s p} (pool : Buf (Elt F) ((vPg g).view.loc (c : Thread nD τ)))
abbrev vTokRest (pool : S2048x2x128x128.Idx → Elt F .fp8e4m3) (s : Fin 2) (p : Fin 64) (g : Fin 2048) : sProp 𝕄 :=
  (whole main_v3).view.loc (c : Thread nD τ) ↦[Finset.univ \ (vPg g).view.set]{tokAt s p} pool

theorem vTok_split (pool : S2048x2x128x128.Idx → Elt F .fp8e4m3) (s : Fin 2) (p : Fin 64) (g : Fin 2048) :
    (vTok c pool s p : sProp 𝕄) ⊣⊢ iprop(vTokPg c pool s p g ∗ vTokRest c pool s p g) :=
  pointsTo_split_subset (Finset.subset_univ _)

theorem vLand (pool : S2048x2x128x128.Idx → Elt F .fp8e4m3) (row : Fin 64 → Fin 2048) (s : Fin 2) (p : Fin 64)
    (fd : S2x64x2x128x128.Idx → Elt F .fp8e4m3) :
    iprop(((vSl s p).view.loc (c : Thread nD τ) ↦[(vSl s p).view.set]{fullShare} ((vSl s p).view.write (Elt F) fd ((ReadAs.same (Val := Elt F)).apply ((vPg (row p)).view.read (Elt F) pool)) Finset.univ))
       ∗ ((vPg (row p)).view.loc (c : Thread nD τ) ↦[(vPg (row p)).view.set]{tokAt s p} pool))
      ⊢ (iprop(vGot c pool row s p ∗ vTokPg c pool s p (row p)) : sProp 𝕄) := by
  refine sep_mono_left (Entails.of_eq (pointsTo_congr ?_))
  intro x hx
  obtain ⟨y, -, rfl⟩ := Finset.mem_map.mp hx
  obtain ⟨a, b, d, rfl⟩ : ∃ a b d, y = ix3 a b d := ⟨_, _, _, eq_ix3 y⟩
  refine (View.write_emb_of_mem _ _ (Finset.mem_univ _)).trans ?_
  show pool ((vPg (row p)).view.emb (ix3 a b d)) = kTgt pool row ((vSl s p).view.emb (ix3 a b d))
  rw [vSl_emb, vPg_emb]
  rfl

section
variable {n : ℕ}
/-- Issuing the copy of page `row p` into slot `(s, p)`, transfer `k` of the batch on counter `(s, j)`. -/
theorem wp_issueV (pool : S2048x2x128x128.Idx → Elt F .fp8e4m3) (row : Fin 64 → Fin 2048) (s : Fin 2) (p : Fin 64) (j : Fin 16)
    {D : Fin n → sProp 𝕄} {k : ℕ} (hk : k < n)
    (hD : iprop(vGot c pool row s p ∗ vTokPg c pool s p (row p)) ⊢ D ⟨k, hk⟩)
    {Q : PUnit → sProp 𝕄}
    {o13 : Fin 5 → ℕ} {o8 : Fin 4 → ℕ} {o16 : Fin 2 → ℕ}
    (h13 : o13 = ![s.val, p.val, 0, 0, 0]) (h8 : o8 = ![(row p).val, 0, 0, 0]) (h16 : o16 = ![s.val, j.val])
    {i13 : ∀ a, o13 a + S1x1x2x128x128.size a ≤ S2x64x2x128x128.size a} {i8 : ∀ a, o8 a + S1x2x128x128.size a ≤ S2048x2x128x128.size a}
    {i16 : ∀ a, o16 a + S1x1.size a ≤ S2x16.size a} {w1 w2 w3} :
    iprop(vFree (F := F) c s p ∗ vTok c pool s p ∗ Transfers.Batch (countersEmb (U := Pipeline.UD sig nD τ)) (c : Thread nD τ) (.dma (semAt s j)) () NP D k 0)
      ⊢ iprop(((vTokRest c pool s p (row p) ∗ Transfers.Batch (countersEmb (U := Pipeline.UD sig nD τ)) (c : Thread nD τ) (.dma (semAt s j)) () NP D (k + 1) 0) -∗ Q ⟨⟩) -∗
        wp (M := 𝕄) frame (wpE (defs₀ (F := F)) Variants.none (Dev.tc c : Thread nD τ) none) Set.univ (Prog.lift (TpuEff.enqueueDma
          (((whole main_v3).slice (Rect.unit (s := S2048x2x128x128) o8 S1x2x128x128.size i8) (fun _ => rfl)).squeeze S2x128x128 squeezes_S1x2x128x128_S2x128x128)
          (.here (((whole cc0_scratch1).slice (Rect.unit (s := S2x64x2x128x128) o13 S1x1x2x128x128.size i13) (fun _ => rfl)).squeeze S2x128x128 squeezes_S1x1x2x128x128_S2x128x128))
          (.dma ((cc0_scratch3.slice (Rect.unit (s := S2x16) o16 S1x1.size i16)).squeeze S_ squeezes_S1x1_S_).sem) w1 w2 w3)) Q) := by
  subst h13 h8
  revert w3
  rw [sem_eq s j h16 i16]
  intro w3
  iintro ⟨⟨%fd, Hd⟩, Ht, HB⟩ HQ
  ihave Ht2 := (vTok_split c pool s p (row p)).1 $$ Ht
  icases Ht2 with ⟨Ht, Hr⟩
  iapply (Transfers.wp_dmaBatch (src := vPg (row p)) (dst := vSl s p) (countersEmb (U := Pipeline.UD sig nD τ)) Variants.none (c : Thread nD τ) none () NP rfl (Finset.Subset.refl _) hk (Nat.zero_le _) ((vLand c pool row s p fd).trans hD)) $$ [Ht Hd HB]
  · isplitl [Ht]; · iexact Ht
    isplitl [Hd]; · iexact Hd
    iexact HB
  iintro HB
  rw [wp_ret]
  imodintro
  iapply HQ
  isplitl [Hr] <;> iassumption
end

/-! ## Waits -/

theorem NP_pos : 0 < NP := View.dmaCredit_pos (kSl 0 0).view (by decide)

section
variable {n : ℕ}

/-- A wait for one of a batch's eight copies, not the last. -/
theorem wp_waitPg (s : Fin 2) (j : Fin 16) (k : ℕ) (hk : k + 1 < n) {D : Fin n → sProp 𝕄} {W : Waits sig Unit}
    {Q : PUnit → sProp 𝕄} {o16 : Fin 2 → ℕ} (h16 : o16 = ![s.val, j.val])
    {i16 : ∀ a, o16 a + S1x1.size a ≤ S2x16.size a}
    {srcw : Memref sig .tc .hbm S2x128x128 .fp8e4m3} {dstw : Memref sig .tc .vmem S2x128x128 .fp8e4m3} {w1 w2}
    (hN : dstw.view.dmaCredit = NP := by rfl) :
    iprop(Transfers.Batch (countersEmb (U := Pipeline.UD sig nD τ)) (c : Thread nD τ) (.dma (semAt s j)) () NP D n (k * NP) ∗ owes (c : Thread nD τ) 0 W)
      ⊢ iprop(((Transfers.Batch (countersEmb (U := Pipeline.UD sig nD τ)) (c : Thread nD τ) (.dma (semAt s j)) () NP D n ((k + 1) * NP) ∗ owes (c : Thread nD τ) 0 (insert (SemLoc.dma (semAt s j), ()) W)) -∗ Q ⟨⟩) -∗
        wp (M := 𝕄) frame (wpE (defs₀ (F := F)) Variants.none (Dev.tc c : Thread nD τ) none) Set.univ (Prog.lift (TpuEff.waitDma2 ((cc0_scratch3.slice (Rect.unit (s := S2x16) o16 S1x1.size i16)).squeeze S_ squeezes_S1x1_S_).sem srcw dstw w1 w2)) Q) := by
  rw [sem_eq s j h16 i16, Nat.succ_mul]
  iintro H HQ
  iapply (Transfers.wp_waitBatch (dstw := dstw) (countersEmb (U := Pipeline.UD sig nD τ)) Variants.none (c : Thread nD τ) none () (N := NP) hN
    (by have := NP_pos; rw [← Nat.succ_mul, Nat.mul_comm NP n]; exact (Nat.mul_lt_mul_right this).mpr hk)) $$ H
  iintro H
  rw [wp_ret]
  imodintro
  iapply HQ
  iexact H

/-- The wait for the last of a batch's copies: the deliveries and the counter at zero. -/
theorem wp_waitLast (s : Fin 2) (j : Fin 16) (k : ℕ) (hk : k + 1 = n) {D : Fin n → sProp 𝕄} {W : Waits sig Unit}
    {Q : PUnit → sProp 𝕄} {o16 : Fin 2 → ℕ} (h16 : o16 = ![s.val, j.val])
    {i16 : ∀ a, o16 a + S1x1.size a ≤ S2x16.size a}
    {srcw : Memref sig .tc .hbm S2x128x128 .fp8e4m3} {dstw : Memref sig .tc .vmem S2x128x128 .fp8e4m3} {w1 w2}
    (hN : dstw.view.dmaCredit = NP := by rfl) :
    iprop(Transfers.Batch (countersEmb (U := Pipeline.UD sig nD τ)) (c : Thread nD τ) (.dma (semAt s j)) () NP D n (k * NP) ∗ owes (c : Thread nD τ) 0 W)
      ⊢ iprop(((bigSep Finset.univ D ∗ semVal ((c : Thread nD τ), SemLoc.dma (semAt s j)) 0 ∗ owes (c : Thread nD τ) 0 (insert (SemLoc.dma (semAt s j), ()) W)) -∗ Q ⟨⟩) -∗
        wp (M := 𝕄) frame (wpE (defs₀ (F := F)) Variants.none (Dev.tc c : Thread nD τ) none) Set.univ (Prog.lift (TpuEff.waitDma2 ((cc0_scratch3.slice (Rect.unit (s := S2x16) o16 S1x1.size i16)).squeeze S_ squeezes_S1x1_S_).sem srcw dstw w1 w2)) Q) := by
  rw [sem_eq s j h16 i16]
  iintro H HQ
  iapply (Transfers.wp_waitBatchAll (dstw := dstw) (countersEmb (U := Pipeline.UD sig nD τ)) Variants.none (c : Thread nD τ) none () (N := NP) hN NP_pos
    (by rw [← Nat.succ_mul, Nat.mul_comm NP n]; exact congrArg (· * NP) hk)) $$ H
  iintro H
  rw [wp_ret]
  imodintro
  iapply HQ
  iexact H
end

/-! ## The states of a counter and the four page slots it guards -/

/-- Page slot `i` of block `j`. -/
def pgIx (j : Fin 16) (i : Fin 4) : Fin 64 := ⟨4 * j.val + i.val, by omega⟩

variable (pk pv : S2048x2x128x128.Idx → Elt F .fp8e4m3)

/-- A page slot with nothing in flight. -/
abbrev pgIdle (s : Fin 2) (p : Fin 64) : sProp 𝕄 :=
  iprop(kFree (F := F) c s p ∗ kTok c pk s p ∗ vFree (F := F) c s p ∗ vTok c pv s p)
abbrev pgRest (row : Fin 64 → Fin 2048) (s : Fin 2) (p : Fin 64) : sProp 𝕄 :=
  iprop(kTokRest c pk s p (row p) ∗ vTokRest c pv s p (row p))
/-- A page slot landed. -/
abbrev pgGot (row : Fin 64 → Fin 2048) (s : Fin 2) (p : Fin 64) : sProp 𝕄 :=
  iprop(kGot c pk row s p ∗ kTok c pk s p ∗ vGot c pv row s p ∗ vTok c pv s p)

abbrev kDel (row : Fin 64 → Fin 2048) (s : Fin 2) (p : Fin 64) : sProp 𝕄 :=
  iprop(kGot c pk row s p ∗ kTokPg c pk s p (row p))
abbrev vDel (row : Fin 64 → Fin 2048) (s : Fin 2) (p : Fin 64) : sProp 𝕄 :=
  iprop(vGot c pv row s p ∗ vTokPg c pv s p (row p))

/-- The eight deliveries of a block's copies, in issue order. -/
def delivs (row : Fin 64 → Fin 2048) (s : Fin 2) (j : Fin 16) : Fin 8 → sProp 𝕄 := fun r =>
  match r with
  | 0 => kDel c pk row s (pgIx j 0) | 1 => vDel c pv row s (pgIx j 0)
  | 2 => kDel c pk row s (pgIx j 1) | 3 => vDel c pv row s (pgIx j 1)
  | 4 => kDel c pk row s (pgIx j 2) | 5 => vDel c pv row s (pgIx j 2)
  | 6 => kDel c pk row s (pgIx j 3) | 7 => vDel c pv row s (pgIx j 3)

theorem pt_storable (ℓ : Loc nD τ sig) (I : Finset (Idx ℓ)) (q : PosShare TreeShare) (f : Buf (Elt F) ℓ) :
    BI.Storable (upEmb : UEmb _ 𝕄) (ℓ ↦[I]{q} f : sProp 𝕄) := inferInstance
instance kDel_storable (row : Fin 64 → Fin 2048) (s : Fin 2) (p : Fin 64) : BI.Storable (upEmb : UEmb _ 𝕄) (kDel c pk row s p) := by
  have h1 : BI.Storable (upEmb : UEmb _ 𝕄) (kGot c pk row s p) := pt_storable ..
  have h2 : BI.Storable (upEmb : UEmb _ 𝕄) (kTokPg c pk s p (row p)) := pt_storable ..
  exact (BI.Storable.sep (ι := upEmb) _ _)
instance vDel_storable (row : Fin 64 → Fin 2048) (s : Fin 2) (p : Fin 64) : BI.Storable (upEmb : UEmb _ 𝕄) (vDel c pv row s p) := by
  have h1 : BI.Storable (upEmb : UEmb _ 𝕄) (vGot c pv row s p) := pt_storable ..
  have h2 : BI.Storable (upEmb : UEmb _ 𝕄) (vTokPg c pv s p (row p)) := pt_storable ..
  exact (BI.Storable.sep (ι := upEmb) _ _)
instance delivs_storable (row : Fin 64 → Fin 2048) (s : Fin 2) (j : Fin 16) (t : Fin 8) :
    BI.Storable (upEmb : UEmb _ 𝕄) (delivs c pk pv row s j t) := by
  match t with
  | 0 => exact kDel_storable .. | 1 => exact vDel_storable ..
  | 2 => exact kDel_storable .. | 3 => exact vDel_storable ..
  | 4 => exact kDel_storable .. | 5 => exact vDel_storable ..
  | 6 => exact kDel_storable .. | 7 => exact vDel_storable ..

def CellIdle (s : Fin 2) (j : Fin 16) : sProp 𝕄 :=
  iprop(semVal ((c : Thread nD τ), SemLoc.dma (semAt s j)) 0 ∗ pgIdle c pk pv s (pgIx j 0) ∗ pgIdle c pk pv s (pgIx j 1)
    ∗ pgIdle c pk pv s (pgIx j 2) ∗ pgIdle c pk pv s (pgIx j 3))
def CellPend (row : Fin 64 → Fin 2048) (s : Fin 2) (j : Fin 16) : sProp 𝕄 :=
  iprop(Transfers.Batch (countersEmb (U := Pipeline.UD sig nD τ)) (c : Thread nD τ) (.dma (semAt s j)) () NP (delivs c pk pv row s j) 8 0
    ∗ pgRest c pk pv row s (pgIx j 0) ∗ pgRest c pk pv row s (pgIx j 1) ∗ pgRest c pk pv row s (pgIx j 2) ∗ pgRest c pk pv row s (pgIx j 3))
def CellGot (row : Fin 64 → Fin 2048) (s : Fin 2) (j : Fin 16) : sProp 𝕄 :=
  iprop(semVal ((c : Thread nD τ), SemLoc.dma (semAt s j)) 0 ∗ pgGot c pk pv row s (pgIx j 0) ∗ pgGot c pk pv row s (pgIx j 1)
    ∗ pgGot c pk pv row s (pgIx j 2) ∗ pgGot c pk pv row s (pgIx j 3))

theorem pgGot_idle (row : Fin 64 → Fin 2048) (s : Fin 2) (p : Fin 64) : pgGot c pk pv row s p ⊢ pgIdle c pk pv s p := by
  iintro ⟨H1, H2, H3, H4⟩
  isplitl [H1]; · iexists _; iexact H1
  isplitl [H2]; · iexact H2
  isplitl [H3]; · iexists _; iexact H3
  iexact H4

theorem CellGot_idle (row : Fin 64 → Fin 2048) (s : Fin 2) (j : Fin 16) : CellGot c pk pv row s j ⊢ CellIdle c pk pv s j := by
  unfold CellGot CellIdle
  exact sep_mono_right (BI.sep_mono (pgGot_idle c pk pv row s _) (BI.sep_mono (pgGot_idle c pk pv row s _) (BI.sep_mono (pgGot_idle c pk pv row s _) (pgGot_idle c pk pv row s _))))

theorem pgLand (row : Fin 64 → Fin 2048) (s : Fin 2) (p : Fin 64) :
    iprop(kDel c pk row s p ∗ vDel c pv row s p ∗ pgRest c pk pv row s p) ⊢ pgGot c pk pv row s p := by
  iintro ⟨⟨H1, H2⟩, ⟨H3, H4⟩, H5, H6⟩
  isplitl [H1]; · iexact H1
  isplitl [H2 H5]; · iapply (kTok_split c pk s p (row p)).2; isplitl [H2] <;> iassumption
  isplitl [H3]; · iexact H3
  iapply (vTok_split c pv s p (row p)).2; isplitl [H4] <;> iassumption

theorem cellLand (row : Fin 64 → Fin 2048) (s : Fin 2) (j : Fin 16) :
    iprop(bigSep Finset.univ (delivs c pk pv row s j) ∗ semVal ((c : Thread nD τ), SemLoc.dma (semAt s j)) 0
      ∗ pgRest c pk pv row s (pgIx j 0) ∗ pgRest c pk pv row s (pgIx j 1) ∗ pgRest c pk pv row s (pgIx j 2) ∗ pgRest c pk pv row s (pgIx j 3))
      ⊢ CellGot c pk pv row s j := by
  rw [BI.bigSep_eq_bigSepL_of_eq [0, 1, 2, 3, 4, 5, 6, 7] (by decide) (by decide)]
  unfold CellGot
  refine (show iprop(iprop(kDel c pk row s (pgIx j 0) ∗ vDel c pv row s (pgIx j 0) ∗ kDel c pk row s (pgIx j 1) ∗ vDel c pv row s (pgIx j 1)
    ∗ kDel c pk row s (pgIx j 2) ∗ vDel c pv row s (pgIx j 2) ∗ kDel c pk row s (pgIx j 3) ∗ vDel c pv row s (pgIx j 3)) ∗ _) ⊢ _ from ?_)
  iintro ⟨⟨H0, H1, H2, H3, H4, H5, H6, H7⟩, HS, R0, R1, R2, R3⟩
  isplitl [HS]; · iexact HS
  isplitl [H0 H1 R0]; · iapply (pgLand c pk pv row s (pgIx j 0)); isplitl [H0]; · iexact H0
                        isplitl [H1] <;> iassumption
  isplitl [H2 H3 R1]; · iapply (pgLand c pk pv row s (pgIx j 1)); isplitl [H2]; · iexact H2
                        isplitl [H3] <;> iassumption
  isplitl [H4 H5 R2]; · iapply (pgLand c pk pv row s (pgIx j 2)); isplitl [H4]; · iexact H4
                        isplitl [H5] <;> iassumption
  iapply (pgLand c pk pv row s (pgIx j 3)); isplitl [H6]; · iexact H6
  isplitl [H7] <;> iassumption

end Cert.KernelIdeal.Hand
-- ==== Proof.Ki.Words.lean ====
module

public import proofs.«01_k».proof.Proof.Ki.Rules
public import Idealize.ShloMosaic.Lib.PairWhole
public import proofs.«01_k».proof.Proof.Counts

/-!
# Words

The kernel's index words in closed form, for a sequence length of at most 8192: how many trips its loops make, which
page, slot and cell a trip works on, and that every window it cuts lies inside its array.
-/

@[expose] public section

set_option maxRecDepth 8192

noncomputable section

namespace Cert.KernelIdeal.Hand

open Idealize.ShloMosaic Idealize.ShloMosaic.Host

theorem slotW (i : grid0.Coords) : (Scalar.remsi (BitVec.ofNat 32 (i 0).val) 2#32).toNat = (i 0).val % 2 := by
  have : ∀ b : Fin 32, (Scalar.remsi (BitVec.ofNat 32 b.val) 2#32).toNat = b.val % 2 := by decide
  exact this (i 0)

theorem otherW (i : grid0.Coords) :
    (Scalar.subi 1#32 (Scalar.remsi (BitVec.ofNat 32 (i 0).val) 2#32)).toNat = 1 - (i 0).val % 2 := by
  have : ∀ b : Fin 32, (Scalar.subi 1#32 (Scalar.remsi (BitVec.ofNat 32 b.val) 2#32)).toNat = 1 - b.val % 2 := by
    decide
  exact this (i 0)

theorem rowW (i : grid0.Coords) : (BitVec.ofNat 32 (i 0).val).toNat = (i 0).val := by
  have : ∀ b : Fin 32, (BitVec.ofNat 32 b.val).toNat = b.val := by decide
  exact this (i 0)

theorem nextW (i : grid0.Coords) : (Scalar.addi (BitVec.ofNat 32 (i 0).val) 1#32).toNat = (i 0).val + 1 := by
  have : ∀ b : Fin 32, (Scalar.addi (BitVec.ofNat 32 b.val) 1#32).toNat = b.val + 1 := by decide
  exact this (i 0)

theorem iLt (i : grid0.Coords) : (i 0).val < 32 := (i 0).isLt

theorem cond1_iff (i : grid0.Coords) : k0_cond1 i = 1#1 ↔ (i 0).val = 0 := by
  have : ∀ b : Fin 32, Scalar.cmpi .ne (Scalar.extui (Scalar.cmpi .eq (BitVec.ofNat 32 b.val) 0#32)) 0#32 = 1#1
      ↔ b.val = 0 := by decide
  exact this (i 0)

theorem cond2_iff (i : grid0.Coords) : k0_cond2 i = 1#1 ↔ (i 0).val + 1 < 32 := by
  have : ∀ b : Fin 32, Scalar.cmpi .ne (Scalar.extui (Scalar.cmpi .slt (Scalar.addi (BitVec.ofNat 32 b.val) 1#32) 32#32))
      0#32 = 1#1 ↔ b.val + 1 < 32 := by decide
  exact this (i 0)

/-! ## Windows that lie inside their arrays -/

theorem inT {o : Fin 2 → Nat} {p q : Nat} (h : o = ![p, q]) (hp : p < 32) (hq : q < 64) :
    ∀ a, o a + S1x1.size a ≤ S32x64.size a := by
  subst h; intro a; fin_cases a <;> simp <;> omega

theorem inS {o : Fin 2 → Nat} {p q : Nat} (h : o = ![p, q]) (hp : p < 2) (hq : q < 16) :
    ∀ a, o a + S1x1.size a ≤ S2x16.size a := by
  subst h; intro a; fin_cases a <;> simp <;> omega

theorem inL {o : Fin 1 → Nat} {p : Nat} (h : o = ![p]) (hp : p < 32) :
    ∀ a, o a + S1.size a ≤ S32.size a := by
  subst h; intro a; fin_cases a <;> simp <;> omega

theorem inP {o : Fin 5 → Nat} {p q : Nat} (h : o = ![p, q, 0, 0, 0]) (hp : p < 2) (hq : q < 64) :
    ∀ a, o a + S1x1x2x128x128.size a ≤ S2x64x2x128x128.size a := by
  subst h; intro a; fin_cases a <;> simp <;> omega

theorem inB {o : Fin 5 → Nat} {p q g : Nat} (h : o = ![p, q, g, 0, 0]) (hp : p < 2) (hq : q + 4 ≤ 64) (hg : g < 2) :
    ∀ a, o a + S1x4x1x128x128.size a ≤ S2x64x2x128x128.size a := by
  subst h; intro a; fin_cases a <;> simp <;> omega

theorem inG {w : BitVec 32} {o : Fin 4 → Nat} (h : o = ![w.toNat, 0, 0, 0]) (hw : w.toNat < 2048) :
    ∀ a, o a + S1x2x128x128.size a ≤ S2048x2x128x128.size a := by
  subst h; intro a; fin_cases a <;> simp <;> omega

theorem wwP {o : Fin 5 → Nat} {p q : Nat} (h : o = ![p, q, 0, 0, 0])
    (hinb : ∀ a, o a + S1x1x2x128x128.size a ≤ S2x64x2x128x128.size a) :
    (Rect.unit (s := S2x64x2x128x128) o S1x1x2x128x128.size hinb).WholeWords (EltTy.packing .fp8e4m3) := by
  subst h
  exact (Rect.WholeRows.intro (s := S2x64x2x128x128) (by decide) rfl rfl rfl).wholeWords _

theorem wwG {w : BitVec 32} {o : Fin 4 → Nat} (h : o = ![w.toNat, 0, 0, 0])
    (hinb : ∀ a, o a + S1x2x128x128.size a ≤ S2048x2x128x128.size a) :
    (Rect.unit (s := S2048x2x128x128) o S1x2x128x128.size hinb).WholeWords (EltTy.packing .fp8e4m3) := by
  subst h
  exact (Rect.WholeRows.intro (s := S2048x2x128x128) (by decide) rfl rfl rfl).wholeWords _

/-! ## Trips -/

variable (i : grid0.Coords) {v : BitVec 32} (hv : v.toNat ≤ 8192)

include hv

theorem t1_lb : (k0_t1_loop v).lb.toNat = 0 := rfl
theorem t1_ub : (k0_t1_loop v).ub.toNat = (v.toNat + 511) / 512 := endZ (up9 hv) (by omega)
theorem t1_trips : (k0_t1_loop v).trips = (v.toNat + 511) / 512 - 0 :=
  loop_trips (k0_t1_loop v) (a := 0) (b := (v.toNat + 511) / 512) rfl (t1_lb hv) (t1_ub hv) (by omega) (by omega)
theorem t1_ok : (k0_t1_loop v).OK :=
  loop_ok (k0_t1_loop v) (a := 0) (b := (v.toNat + 511) / 512) rfl (t1_lb hv) (t1_ub hv) (by omega) (by omega)

theorem t1_lt (t : Fin (k0_t1_loop v).trips) : t.val < 16 := by
  have h : t.val < (v.toNat + 511) / 512 - 0 := lt_of_lt_of_eq t.isLt (t1_trips hv)
  omega
theorem t1_iv (t : Fin (k0_t1_loop v).trips) :
    (Scf.iv 0#32 1#32 t.val).toNat = t.val := iv_zero (t1_lt hv t)

theorem t2_lb : (k0_t2_loop v).lb.toNat = (v.toNat + 511) / 512 := endZ (up9 hv) (by omega)
theorem t2_ub : (k0_t2_loop v).ub.toNat = (v.toNat + 511) / 512 := endZ' (up9 hv) (by omega)
theorem t2_trips : (k0_t2_loop v).trips = (v.toNat + 511) / 512 - (v.toNat + 511) / 512 :=
  loop_trips (k0_t2_loop v) (a := (v.toNat + 511) / 512) (b := (v.toNat + 511) / 512) rfl (t2_lb hv) (t2_ub hv) (by omega) (by omega)
theorem t2_ok : (k0_t2_loop v).OK :=
  loop_ok (k0_t2_loop v) (a := (v.toNat + 511) / 512) (b := (v.toNat + 511) / 512) rfl (t2_lb hv) (t2_ub hv) (by omega) (by omega)

theorem t2_no (t : Fin (k0_t2_loop v).trips) : False := by
  have h : t.val < (v.toNat + 511) / 512 - (v.toNat + 511) / 512 := lt_of_lt_of_eq t.isLt (t2_trips hv)
  omega

theorem t3_lb : (k0_t3_loop v).lb.toNat = 0 := rfl
theorem t3_ub : (k0_t3_loop v).ub.toNat = (v.toNat + 511) / 512 := endZ (up9 hv) (by omega)
theorem t3_trips : (k0_t3_loop v).trips = (v.toNat + 511) / 512 - 0 :=
  loop_trips (k0_t3_loop v) (a := 0) (b := (v.toNat + 511) / 512) rfl (t3_lb hv) (t3_ub hv) (by omega) (by omega)
theorem t3_ok : (k0_t3_loop v).OK :=
  loop_ok (k0_t3_loop v) (a := 0) (b := (v.toNat + 511) / 512) rfl (t3_lb hv) (t3_ub hv) (by omega) (by omega)

theorem t3_lt (t : Fin (k0_t3_loop v).trips) : t.val < 16 := by
  have h : t.val < (v.toNat + 511) / 512 - 0 := lt_of_lt_of_eq t.isLt (t3_trips hv)
  omega
theorem t3_iv (t : Fin (k0_t3_loop v).trips) :
    (Scf.iv 0#32 1#32 t.val).toNat = t.val := iv_zero (t3_lt hv t)

theorem t4_lb : (k0_t4_loop v).lb.toNat = (v.toNat + 511) / 512 := endZ (up9 hv) (by omega)
theorem t4_ub : (k0_t4_loop v).ub.toNat = (v.toNat + 511) / 512 := endZ' (up9 hv) (by omega)
theorem t4_trips : (k0_t4_loop v).trips = (v.toNat + 511) / 512 - (v.toNat + 511) / 512 :=
  loop_trips (k0_t4_loop v) (a := (v.toNat + 511) / 512) (b := (v.toNat + 511) / 512) rfl (t4_lb hv) (t4_ub hv) (by omega) (by omega)
theorem t4_ok : (k0_t4_loop v).OK :=
  loop_ok (k0_t4_loop v) (a := (v.toNat + 511) / 512) (b := (v.toNat + 511) / 512) rfl (t4_lb hv) (t4_ub hv) (by omega) (by omega)

theorem t4_no (t : Fin (k0_t4_loop v).trips) : False := by
  have h : t.val < (v.toNat + 511) / 512 - (v.toNat + 511) / 512 := lt_of_lt_of_eq t.isLt (t4_trips hv)
  omega

theorem t5_lb : (k0_t5_loop v).lb.toNat = 0 := rfl
theorem t5_ub : (k0_t5_loop v).ub.toNat = v.toNat / 512 := endZ (shr9 hv) (by omega)
theorem t5_trips : (k0_t5_loop v).trips = v.toNat / 512 - 0 :=
  loop_trips (k0_t5_loop v) (a := 0) (b := v.toNat / 512) rfl (t5_lb hv) (t5_ub hv) (by omega) (by omega)
theorem t5_ok : (k0_t5_loop v).OK :=
  loop_ok (k0_t5_loop v) (a := 0) (b := v.toNat / 512) rfl (t5_lb hv) (t5_ub hv) (by omega) (by omega)

theorem t5_lt (t : Fin (k0_t5_loop v).trips) : t.val < 16 := by
  have h : t.val < v.toNat / 512 - 0 := lt_of_lt_of_eq t.isLt (t5_trips hv)
  omega
theorem t5_iv (t : Fin (k0_t5_loop v).trips) :
    (Scf.iv 0#32 1#32 t.val).toNat = t.val := iv_zero (t5_lt hv t)

theorem t6_lb : (k0_t6_loop v).lb.toNat = v.toNat / 512 := endZ (shr9 hv) (by omega)
theorem t6_ub : (k0_t6_loop v).ub.toNat = v.toNat / 512 := endZ' (shr9 hv) (by omega)
theorem t6_trips : (k0_t6_loop v).trips = v.toNat / 512 - v.toNat / 512 :=
  loop_trips (k0_t6_loop v) (a := v.toNat / 512) (b := v.toNat / 512) rfl (t6_lb hv) (t6_ub hv) (by omega) (by omega)
theorem t6_ok : (k0_t6_loop v).OK :=
  loop_ok (k0_t6_loop v) (a := v.toNat / 512) (b := v.toNat / 512) rfl (t6_lb hv) (t6_ub hv) (by omega) (by omega)

theorem t6_no (t : Fin (k0_t6_loop v).trips) : False := by
  have h : t.val < v.toNat / 512 - v.toNat / 512 := lt_of_lt_of_eq t.isLt (t6_trips hv)
  omega

theorem t7_lb : (k0_t7_loop v).lb.toNat = v.toNat / 512 := shr9 hv
theorem t7_ub : (k0_t7_loop v).ub.toNat = (v.toNat + 511) / 512 := endN (up9 hv) (shr9 hv) (by omega) (by omega)
theorem t7_trips : (k0_t7_loop v).trips = (v.toNat + 511) / 512 - v.toNat / 512 :=
  loop_trips (k0_t7_loop v) (a := v.toNat / 512) (b := (v.toNat + 511) / 512) rfl (t7_lb hv) (t7_ub hv) (by omega) (by omega)
theorem t7_ok : (k0_t7_loop v).OK :=
  loop_ok (k0_t7_loop v) (a := v.toNat / 512) (b := (v.toNat + 511) / 512) rfl (t7_lb hv) (t7_ub hv) (by omega) (by omega)

theorem t7_lt (t : Fin (k0_t7_loop v).trips) : v.toNat / 512 + t.val < 16 := by
  have h : t.val < (v.toNat + 511) / 512 - v.toNat / 512 := lt_of_lt_of_eq t.isLt (t7_trips hv)
  omega
theorem t7_iv (t : Fin (k0_t7_loop v).trips) :
    (Scf.iv (Scalar.shrui v 9#32) 1#32 t.val).toNat = v.toNat / 512 + t.val := iv_add (shr9 hv) (t7_lt hv t)

theorem t8_lb : (k0_t8_loop v).lb.toNat = (v.toNat + 511) / 512 := endN (up9 hv) (shr9 hv) (by omega) (by omega)
theorem t8_ub : (k0_t8_loop v).ub.toNat = (v.toNat + 511) / 512 := endN' (up9 hv) (shr9 hv) (by omega) (by omega)
theorem t8_trips : (k0_t8_loop v).trips = (v.toNat + 511) / 512 - (v.toNat + 511) / 512 :=
  loop_trips (k0_t8_loop v) (a := (v.toNat + 511) / 512) (b := (v.toNat + 511) / 512) rfl (t8_lb hv) (t8_ub hv) (by omega) (by omega)
theorem t8_ok : (k0_t8_loop v).OK :=
  loop_ok (k0_t8_loop v) (a := (v.toNat + 511) / 512) (b := (v.toNat + 511) / 512) rfl (t8_lb hv) (t8_ub hv) (by omega) (by omega)

theorem t8_no (t : Fin (k0_t8_loop v).trips) : False := by
  have h : t.val < (v.toNat + 511) / 512 - (v.toNat + 511) / 512 := lt_of_lt_of_eq t.isLt (t8_trips hv)
  omega

theorem t9_lb : (k0_t9_loop v).lb.toNat = 0 := rfl
theorem t9_ub : (k0_t9_loop v).ub.toNat = v.toNat / 512 := endZ (shr9 hv) (by omega)
theorem t9_trips : (k0_t9_loop v).trips = v.toNat / 512 - 0 :=
  loop_trips (k0_t9_loop v) (a := 0) (b := v.toNat / 512) rfl (t9_lb hv) (t9_ub hv) (by omega) (by omega)
theorem t9_ok : (k0_t9_loop v).OK :=
  loop_ok (k0_t9_loop v) (a := 0) (b := v.toNat / 512) rfl (t9_lb hv) (t9_ub hv) (by omega) (by omega)

theorem t9_lt (t : Fin (k0_t9_loop v).trips) : t.val < 16 := by
  have h : t.val < v.toNat / 512 - 0 := lt_of_lt_of_eq t.isLt (t9_trips hv)
  omega
theorem t9_iv (t : Fin (k0_t9_loop v).trips) :
    (Scf.iv 0#32 1#32 t.val).toNat = t.val := iv_zero (t9_lt hv t)

theorem t10_lb : (k0_t10_loop v).lb.toNat = v.toNat / 512 := endZ (shr9 hv) (by omega)
theorem t10_ub : (k0_t10_loop v).ub.toNat = v.toNat / 512 := endZ' (shr9 hv) (by omega)
theorem t10_trips : (k0_t10_loop v).trips = v.toNat / 512 - v.toNat / 512 :=
  loop_trips (k0_t10_loop v) (a := v.toNat / 512) (b := v.toNat / 512) rfl (t10_lb hv) (t10_ub hv) (by omega) (by omega)
theorem t10_ok : (k0_t10_loop v).OK :=
  loop_ok (k0_t10_loop v) (a := v.toNat / 512) (b := v.toNat / 512) rfl (t10_lb hv) (t10_ub hv) (by omega) (by omega)

theorem t10_no (t : Fin (k0_t10_loop v).trips) : False := by
  have h : t.val < v.toNat / 512 - v.toNat / 512 := lt_of_lt_of_eq t.isLt (t10_trips hv)
  omega

theorem t11_lb : (k0_t11_loop v).lb.toNat = v.toNat / 512 := shr9 hv
theorem t11_ub : (k0_t11_loop v).ub.toNat = (v.toNat + 511) / 512 := endN (up9 hv) (shr9 hv) (by omega) (by omega)
theorem t11_trips : (k0_t11_loop v).trips = (v.toNat + 511) / 512 - v.toNat / 512 :=
  loop_trips (k0_t11_loop v) (a := v.toNat / 512) (b := (v.toNat + 511) / 512) rfl (t11_lb hv) (t11_ub hv) (by omega) (by omega)
theorem t11_ok : (k0_t11_loop v).OK :=
  loop_ok (k0_t11_loop v) (a := v.toNat / 512) (b := (v.toNat + 511) / 512) rfl (t11_lb hv) (t11_ub hv) (by omega) (by omega)

theorem t11_lt (t : Fin (k0_t11_loop v).trips) : v.toNat / 512 + t.val < 16 := by
  have h : t.val < (v.toNat + 511) / 512 - v.toNat / 512 := lt_of_lt_of_eq t.isLt (t11_trips hv)
  omega
theorem t11_iv (t : Fin (k0_t11_loop v).trips) :
    (Scf.iv (Scalar.shrui v 9#32) 1#32 t.val).toNat = v.toNat / 512 + t.val := iv_add (shr9 hv) (t11_lt hv t)

theorem t12_lb : (k0_t12_loop v).lb.toNat = (v.toNat + 511) / 512 := endN (up9 hv) (shr9 hv) (by omega) (by omega)
theorem t12_ub : (k0_t12_loop v).ub.toNat = (v.toNat + 511) / 512 := endN' (up9 hv) (shr9 hv) (by omega) (by omega)
theorem t12_trips : (k0_t12_loop v).trips = (v.toNat + 511) / 512 - (v.toNat + 511) / 512 :=
  loop_trips (k0_t12_loop v) (a := (v.toNat + 511) / 512) (b := (v.toNat + 511) / 512) rfl (t12_lb hv) (t12_ub hv) (by omega) (by omega)
theorem t12_ok : (k0_t12_loop v).OK :=
  loop_ok (k0_t12_loop v) (a := (v.toNat + 511) / 512) (b := (v.toNat + 511) / 512) rfl (t12_lb hv) (t12_ub hv) (by omega) (by omega)

theorem t12_no (t : Fin (k0_t12_loop v).trips) : False := by
  have h : t.val < (v.toNat + 511) / 512 - (v.toNat + 511) / 512 := lt_of_lt_of_eq t.isLt (t12_trips hv)
  omega

/-! ## Offsets -/

theorem off1_eq (t : Fin (k0_t1_loop v).trips) {r : BitVec 32} (hr : r.toNat < 4) :
    k0_off1 v t r = ![0, 4 * t.val + r.toNat] := vec2 rfl (pgW (t1_iv hv t) (t1_lt hv t) hr)

theorem off2_eq (t : Fin (k0_t1_loop v).trips) :
    k0_off2 v t = ![0, t.val] := vec2 rfl (t1_iv hv t)

theorem off3_eq (t : Fin (k0_t1_loop v).trips) :
    k0_off3 v t = ![0, 4 * t.val + 0, 0, 0, 0] := vec5 rfl (pgW (r := 0#32) (t1_iv hv t) (t1_lt hv t) (by decide))

theorem off5_eq (t : Fin (k0_t1_loop v).trips) :
    k0_off5 v t = ![0, t.val] := vec2 rfl (t1_iv hv t)

theorem off6_eq (t : Fin (k0_t1_loop v).trips) {r : BitVec 32} (hr : r.toNat < 4) :
    k0_off6 v t r = ![0, 4 * t.val + r.toNat, 0, 0, 0] := vec5 rfl (pgW (t1_iv hv t) (t1_lt hv t) hr)

theorem off8_eq (t : Fin (k0_t1_loop v).trips) :
    k0_off8 v t = ![0, t.val] := vec2 rfl (t1_iv hv t)

theorem off9_eq (t : Fin (k0_t1_loop v).trips) {r : BitVec 32} (hr : r.toNat < 4) :
    k0_off9 v t r = ![0, 4 * t.val + r.toNat, 0, 0, 0] := vec5 rfl (pgW (t1_iv hv t) (t1_lt hv t) hr)

theorem off11_eq (t : Fin (k0_t1_loop v).trips) :
    k0_off11 v t = ![0, t.val] := vec2 rfl (t1_iv hv t)

theorem off12_eq (t : Fin (k0_t1_loop v).trips) {r : BitVec 32} (hr : r.toNat < 4) :
    k0_off12 v t r = ![0, 4 * t.val + r.toNat, 0, 0, 0] := vec5 rfl (pgW (t1_iv hv t) (t1_lt hv t) hr)

theorem off14_eq (t : Fin (k0_t1_loop v).trips) :
    k0_off14 v t = ![0, t.val] := vec2 rfl (t1_iv hv t)

theorem off15_eq (t : Fin (k0_t1_loop v).trips) :
    k0_off15 v t = ![0, 4 * t.val + 3, 0, 0, 0] := vec5 rfl (pgW (r := 3#32) (t1_iv hv t) (t1_lt hv t) (by decide))

omit hv in
theorem off31_eq : k0_off31 i = ![(i 0).val + 1] := vec1 (nextW i)

theorem off32_eq (t : Fin (k0_t3_loop v).trips) {r : BitVec 32} (hr : r.toNat < 4) :
    k0_off32 i v t r = ![(i 0).val + 1, 4 * t.val + r.toNat] := vec2 (nextW i) (pgW (t3_iv hv t) (t3_lt hv t) hr)

theorem off33_eq (t : Fin (k0_t3_loop v).trips) :
    k0_off33 i v t = ![1 - (i 0).val % 2, t.val] := vec2 (otherW i) (t3_iv hv t)

theorem off34_eq (t : Fin (k0_t3_loop v).trips) :
    k0_off34 i v t = ![1 - (i 0).val % 2, 4 * t.val + 0, 0, 0, 0] := vec5 (otherW i) (pgW (r := 0#32) (t3_iv hv t) (t3_lt hv t) (by decide))

theorem off36_eq (t : Fin (k0_t3_loop v).trips) :
    k0_off36 i v t = ![1 - (i 0).val % 2, t.val] := vec2 (otherW i) (t3_iv hv t)

theorem off37_eq (t : Fin (k0_t3_loop v).trips) {r : BitVec 32} (hr : r.toNat < 4) :
    k0_off37 i v t r = ![1 - (i 0).val % 2, 4 * t.val + r.toNat, 0, 0, 0] := vec5 (otherW i) (pgW (t3_iv hv t) (t3_lt hv t) hr)

theorem off39_eq (t : Fin (k0_t3_loop v).trips) :
    k0_off39 i v t = ![1 - (i 0).val % 2, t.val] := vec2 (otherW i) (t3_iv hv t)

theorem off40_eq (t : Fin (k0_t3_loop v).trips) {r : BitVec 32} (hr : r.toNat < 4) :
    k0_off40 i v t r = ![1 - (i 0).val % 2, 4 * t.val + r.toNat, 0, 0, 0] := vec5 (otherW i) (pgW (t3_iv hv t) (t3_lt hv t) hr)

theorem off42_eq (t : Fin (k0_t3_loop v).trips) :
    k0_off42 i v t = ![1 - (i 0).val % 2, t.val] := vec2 (otherW i) (t3_iv hv t)

theorem off43_eq (t : Fin (k0_t3_loop v).trips) {r : BitVec 32} (hr : r.toNat < 4) :
    k0_off43 i v t r = ![1 - (i 0).val % 2, 4 * t.val + r.toNat, 0, 0, 0] := vec5 (otherW i) (pgW (t3_iv hv t) (t3_lt hv t) hr)

theorem off45_eq (t : Fin (k0_t3_loop v).trips) :
    k0_off45 i v t = ![1 - (i 0).val % 2, t.val] := vec2 (otherW i) (t3_iv hv t)

theorem off46_eq (t : Fin (k0_t3_loop v).trips) :
    k0_off46 i v t = ![1 - (i 0).val % 2, 4 * t.val + 3, 0, 0, 0] := vec5 (otherW i) (pgW (r := 3#32) (t3_iv hv t) (t3_lt hv t) (by decide))

omit hv in
theorem off62_eq : k0_off62 i = ![(i 0).val] := vec1 (rowW i)

theorem off63_eq (t : Fin (k0_t5_loop v).trips) {r : BitVec 32} (hr : r.toNat < 4) :
    k0_off63 i v t r = ![(i 0).val, 4 * t.val + r.toNat] := vec2 (rowW i) (pgW (t5_iv hv t) (t5_lt hv t) hr)

theorem off64_eq (t : Fin (k0_t5_loop v).trips) :
    k0_off64 i v t = ![(i 0).val % 2, t.val] := vec2 (slotW i) (t5_iv hv t)

theorem off65_eq (t : Fin (k0_t5_loop v).trips) :
    k0_off65 i v t = ![(i 0).val % 2, 4 * t.val + 0, 0, 0, 0] := vec5 (slotW i) (pgW (r := 0#32) (t5_iv hv t) (t5_lt hv t) (by decide))

theorem off67_eq (t : Fin (k0_t5_loop v).trips) :
    k0_off67 i v t = ![(i 0).val % 2, t.val] := vec2 (slotW i) (t5_iv hv t)

theorem off68_eq (t : Fin (k0_t5_loop v).trips) {r : BitVec 32} (hr : r.toNat < 4) :
    k0_off68 i v t r = ![(i 0).val % 2, 4 * t.val + r.toNat, 0, 0, 0] := vec5 (slotW i) (pgW (t5_iv hv t) (t5_lt hv t) hr)

theorem off70_eq (t : Fin (k0_t5_loop v).trips) :
    k0_off70 i v t = ![(i 0).val % 2, t.val] := vec2 (slotW i) (t5_iv hv t)

theorem off71_eq (t : Fin (k0_t5_loop v).trips) {r : BitVec 32} (hr : r.toNat < 4) :
    k0_off71 i v t r = ![(i 0).val % 2, 4 * t.val + r.toNat, 0, 0, 0] := vec5 (slotW i) (pgW (t5_iv hv t) (t5_lt hv t) hr)

theorem off73_eq (t : Fin (k0_t5_loop v).trips) :
    k0_off73 i v t = ![(i 0).val % 2, t.val] := vec2 (slotW i) (t5_iv hv t)

theorem off74_eq (t : Fin (k0_t5_loop v).trips) {r : BitVec 32} (hr : r.toNat < 4) :
    k0_off74 i v t r = ![(i 0).val % 2, 4 * t.val + r.toNat, 0, 0, 0] := vec5 (slotW i) (pgW (t5_iv hv t) (t5_lt hv t) hr)

theorem off76_eq (t : Fin (k0_t5_loop v).trips) :
    k0_off76 i v t = ![(i 0).val % 2, t.val] := vec2 (slotW i) (t5_iv hv t)

theorem off77_eq (t : Fin (k0_t5_loop v).trips) :
    k0_off77 i v t = ![(i 0).val % 2, 4 * t.val + 3, 0, 0, 0] := vec5 (slotW i) (pgW (r := 3#32) (t5_iv hv t) (t5_lt hv t) (by decide))

theorem off78_eq (t : Fin (k0_t5_loop v).trips) :
    k0_off78 i v t = ![(i 0).val % 2, 4 * t.val, 0, 0, 0] := vec5 (slotW i) (blkW (t5_iv hv t) (t5_lt hv t))

theorem off95_eq (t : Fin (k0_t7_loop v).trips) {r : BitVec 32} (hr : r.toNat < 4) :
    k0_off95 i v t r = ![(i 0).val, 4 * (v.toNat / 512 + t.val) + r.toNat] := vec2 (rowW i) (pgW (t7_iv hv t) (t7_lt hv t) hr)

theorem off96_eq (t : Fin (k0_t7_loop v).trips) :
    k0_off96 i v t = ![(i 0).val % 2, (v.toNat / 512 + t.val)] := vec2 (slotW i) (t7_iv hv t)

theorem off97_eq (t : Fin (k0_t7_loop v).trips) :
    k0_off97 i v t = ![(i 0).val % 2, 4 * (v.toNat / 512 + t.val) + 0, 0, 0, 0] := vec5 (slotW i) (pgW (r := 0#32) (t7_iv hv t) (t7_lt hv t) (by decide))

theorem off99_eq (t : Fin (k0_t7_loop v).trips) :
    k0_off99 i v t = ![(i 0).val % 2, (v.toNat / 512 + t.val)] := vec2 (slotW i) (t7_iv hv t)

theorem off100_eq (t : Fin (k0_t7_loop v).trips) {r : BitVec 32} (hr : r.toNat < 4) :
    k0_off100 i v t r = ![(i 0).val % 2, 4 * (v.toNat / 512 + t.val) + r.toNat, 0, 0, 0] := vec5 (slotW i) (pgW (t7_iv hv t) (t7_lt hv t) hr)

theorem off102_eq (t : Fin (k0_t7_loop v).trips) :
    k0_off102 i v t = ![(i 0).val % 2, (v.toNat / 512 + t.val)] := vec2 (slotW i) (t7_iv hv t)

theorem off103_eq (t : Fin (k0_t7_loop v).trips) {r : BitVec 32} (hr : r.toNat < 4) :
    k0_off103 i v t r = ![(i 0).val % 2, 4 * (v.toNat / 512 + t.val) + r.toNat, 0, 0, 0] := vec5 (slotW i) (pgW (t7_iv hv t) (t7_lt hv t) hr)

theorem off105_eq (t : Fin (k0_t7_loop v).trips) :
    k0_off105 i v t = ![(i 0).val % 2, (v.toNat / 512 + t.val)] := vec2 (slotW i) (t7_iv hv t)

theorem off106_eq (t : Fin (k0_t7_loop v).trips) {r : BitVec 32} (hr : r.toNat < 4) :
    k0_off106 i v t r = ![(i 0).val % 2, 4 * (v.toNat / 512 + t.val) + r.toNat, 0, 0, 0] := vec5 (slotW i) (pgW (t7_iv hv t) (t7_lt hv t) hr)

theorem off108_eq (t : Fin (k0_t7_loop v).trips) :
    k0_off108 i v t = ![(i 0).val % 2, (v.toNat / 512 + t.val)] := vec2 (slotW i) (t7_iv hv t)

theorem off109_eq (t : Fin (k0_t7_loop v).trips) :
    k0_off109 i v t = ![(i 0).val % 2, 4 * (v.toNat / 512 + t.val) + 3, 0, 0, 0] := vec5 (slotW i) (pgW (r := 3#32) (t7_iv hv t) (t7_lt hv t) (by decide))

theorem off110_eq (t : Fin (k0_t7_loop v).trips) :
    k0_off110 i v t = ![(i 0).val % 2, 4 * (v.toNat / 512 + t.val), 0, 0, 0] := vec5 (slotW i) (blkW (t7_iv hv t) (t7_lt hv t))

theorem off127_eq (t : Fin (k0_t9_loop v).trips) :
    k0_off127 i v t = ![(i 0).val % 2, 4 * t.val, 1, 0, 0] := vec5 (slotW i) (blkW (t9_iv hv t) (t9_lt hv t))

theorem off129_eq (t : Fin (k0_t11_loop v).trips) :
    k0_off129 i v t = ![(i 0).val % 2, 4 * (v.toNat / 512 + t.val), 1, 0, 0] := vec5 (slotW i) (blkW (t11_iv hv t) (t11_lt hv t))

/-! ## The checks -/

set_option maxHeartbeats 1000000 in
theorem chk1_0 : k0_chk1_0 i v := by
  unfold k0_chk1_0
  exact ⟨fun _ => t1_ok hv,
    fun t hc r => inT (off1_eq hv t (r4 r)) (by decide) (by have := t1_lt hv t; have := r4 r; omega),
    fun t hc => inS (off2_eq hv t) (by decide) (by have := t1_lt hv t; omega),
    fun t hc => inP (off3_eq hv t) (by decide) (by have := t1_lt hv t; omega),
    fun t hc hinb => wwP (off3_eq hv t) hinb,
    fun t hc => inS (off5_eq hv t) (by decide) (by have := t1_lt hv t; omega),
    fun t hc r => inP (off6_eq hv t (r2 r)) (by decide) (by have := t1_lt hv t; have := r2 r; omega),
    fun t hc r hinb => wwP (off6_eq hv t (r2 r)) hinb,
    fun t hc => inS (off8_eq hv t) (by decide) (by have := t1_lt hv t; omega),
    fun t hc r => inP (off9_eq hv t (r2a r)) (by decide) (by have := t1_lt hv t; have := r2a r; omega),
    fun t hc r hinb => wwP (off9_eq hv t (r2a r)) hinb,
    fun t hc => inS (off11_eq hv t) (by decide) (by have := t1_lt hv t; omega),
    fun t hc r => inP (off12_eq hv t (r2b r)) (by decide) (by have := t1_lt hv t; have := r2b r; omega),
    fun t hc r hinb => wwP (off12_eq hv t (r2b r)) hinb,
    fun t hc => inS (off14_eq hv t) (by decide) (by have := t1_lt hv t; omega),
    fun t hc => inP (off15_eq hv t) (by decide) (by have := t1_lt hv t; omega),
    fun t hc hinb => wwP (off15_eq hv t) hinb,
    fun _ => t2_ok hv,
    fun t => (t2_no hv t).elim,
    fun t => (t2_no hv t).elim,
    fun t => (t2_no hv t).elim,
    fun t => (t2_no hv t).elim,
    fun t => (t2_no hv t).elim,
    fun t => (t2_no hv t).elim,
    fun t => (t2_no hv t).elim,
    fun t => (t2_no hv t).elim,
    fun t => (t2_no hv t).elim,
    fun t => (t2_no hv t).elim,
    fun t => (t2_no hv t).elim,
    fun t => (t2_no hv t).elim,
    fun t => (t2_no hv t).elim,
    fun t => (t2_no hv t).elim⟩

set_option maxHeartbeats 1000000 in
theorem chk1_1 : k0_chk1_1 i v := by
  unfold k0_chk1_1
  exact ⟨fun t => (t2_no hv t).elim,
    fun t => (t2_no hv t).elim⟩

set_option maxHeartbeats 1000000 in
theorem chk1 : k0_chk1 i v := by
  unfold k0_chk1
  exact ⟨chk1_0 i hv,
    chk1_1 i hv⟩

set_option maxHeartbeats 1000000 in
theorem chk10_0 : k0_chk10_0 i v := by
  unfold k0_chk10_0
  exact ⟨fun _ => t3_ok hv,
    fun t hc r => inT (off32_eq i hv t (r4 r)) ((cond2_iff i).1 hc) (by have := t3_lt hv t; have := r4 r; omega),
    fun t hc => inS (off33_eq i hv t) (omod2 _) (by have := t3_lt hv t; omega),
    fun t hc => inP (off34_eq i hv t) (omod2 _) (by have := t3_lt hv t; omega),
    fun t hc hinb => wwP (off34_eq i hv t) hinb,
    fun t hc => inS (off36_eq i hv t) (omod2 _) (by have := t3_lt hv t; omega),
    fun t hc r => inP (off37_eq i hv t (r2 r)) (omod2 _) (by have := t3_lt hv t; have := r2 r; omega),
    fun t hc r hinb => wwP (off37_eq i hv t (r2 r)) hinb,
    fun t hc => inS (off39_eq i hv t) (omod2 _) (by have := t3_lt hv t; omega),
    fun t hc r => inP (off40_eq i hv t (r2a r)) (omod2 _) (by have := t3_lt hv t; have := r2a r; omega),
    fun t hc r hinb => wwP (off40_eq i hv t (r2a r)) hinb,
    fun t hc => inS (off42_eq i hv t) (omod2 _) (by have := t3_lt hv t; omega),
    fun t hc r => inP (off43_eq i hv t (r2b r)) (omod2 _) (by have := t3_lt hv t; have := r2b r; omega),
    fun t hc r hinb => wwP (off43_eq i hv t (r2b r)) hinb,
    fun t hc => inS (off45_eq i hv t) (omod2 _) (by have := t3_lt hv t; omega),
    fun t hc => inP (off46_eq i hv t) (omod2 _) (by have := t3_lt hv t; omega),
    fun t hc hinb => wwP (off46_eq i hv t) hinb,
    fun _ => t4_ok hv,
    fun t => (t4_no hv t).elim,
    fun t => (t4_no hv t).elim,
    fun t => (t4_no hv t).elim,
    fun t => (t4_no hv t).elim,
    fun t => (t4_no hv t).elim,
    fun t => (t4_no hv t).elim,
    fun t => (t4_no hv t).elim,
    fun t => (t4_no hv t).elim,
    fun t => (t4_no hv t).elim,
    fun t => (t4_no hv t).elim,
    fun t => (t4_no hv t).elim,
    fun t => (t4_no hv t).elim,
    fun t => (t4_no hv t).elim,
    fun t => (t4_no hv t).elim⟩

set_option maxHeartbeats 1000000 in
theorem chk10_1 : k0_chk10_1 i v := by
  unfold k0_chk10_1
  exact ⟨fun t => (t4_no hv t).elim,
    fun t => (t4_no hv t).elim⟩

set_option maxHeartbeats 1000000 in
theorem chk10 : k0_chk10 i v := by
  unfold k0_chk10
  exact ⟨chk10_0 i hv,
    chk10_1 i hv⟩

set_option maxHeartbeats 1000000 in
theorem chk19_0 : k0_chk19_0 i v := by
  unfold k0_chk19_0
  exact ⟨t5_ok hv,
    fun t r => inT (off63_eq i hv t (r4 r)) (iLt i) (by have := t5_lt hv t; have := r4 r; omega),
    fun t => inS (off64_eq i hv t) (mod2 _) (by have := t5_lt hv t; omega),
    fun t => inP (off65_eq i hv t) (mod2 _) (by have := t5_lt hv t; omega),
    fun t hinb => wwP (off65_eq i hv t) hinb,
    fun t => inS (off67_eq i hv t) (mod2 _) (by have := t5_lt hv t; omega),
    fun t r => inP (off68_eq i hv t (r2 r)) (mod2 _) (by have := t5_lt hv t; have := r2 r; omega),
    fun t r hinb => wwP (off68_eq i hv t (r2 r)) hinb,
    fun t => inS (off70_eq i hv t) (mod2 _) (by have := t5_lt hv t; omega),
    fun t r => inP (off71_eq i hv t (r2a r)) (mod2 _) (by have := t5_lt hv t; have := r2a r; omega),
    fun t r hinb => wwP (off71_eq i hv t (r2a r)) hinb,
    fun t => inS (off73_eq i hv t) (mod2 _) (by have := t5_lt hv t; omega),
    fun t r => inP (off74_eq i hv t (r2b r)) (mod2 _) (by have := t5_lt hv t; have := r2b r; omega),
    fun t r hinb => wwP (off74_eq i hv t (r2b r)) hinb,
    fun t => inS (off76_eq i hv t) (mod2 _) (by have := t5_lt hv t; omega),
    fun t => inP (off77_eq i hv t) (mod2 _) (by have := t5_lt hv t; omega),
    fun t hinb => wwP (off77_eq i hv t) hinb,
    fun t => inB (off78_eq i hv t) (mod2 _) (by have := t5_lt hv t; omega) (by decide),
    t6_ok hv,
    fun t => (t6_no hv t).elim,
    fun t => (t6_no hv t).elim,
    fun t => (t6_no hv t).elim,
    fun t => (t6_no hv t).elim,
    fun t => (t6_no hv t).elim,
    fun t => (t6_no hv t).elim,
    fun t => (t6_no hv t).elim,
    fun t => (t6_no hv t).elim,
    fun t => (t6_no hv t).elim,
    fun t => (t6_no hv t).elim,
    fun t => (t6_no hv t).elim,
    fun t => (t6_no hv t).elim,
    fun t => (t6_no hv t).elim⟩

set_option maxHeartbeats 1000000 in
theorem chk19_1 : k0_chk19_1 i v := by
  unfold k0_chk19_1
  exact ⟨fun t => (t6_no hv t).elim,
    fun t => (t6_no hv t).elim,
    fun t => (t6_no hv t).elim,
    fun t => (t6_no hv t).elim,
    t7_ok hv,
    fun t r => inT (off95_eq i hv t (r4 r)) (iLt i) (by have := t7_lt hv t; have := r4 r; omega),
    fun t => inS (off96_eq i hv t) (mod2 _) (by have := t7_lt hv t; omega),
    fun t => inP (off97_eq i hv t) (mod2 _) (by have := t7_lt hv t; omega),
    fun t hinb => wwP (off97_eq i hv t) hinb,
    fun t => inS (off99_eq i hv t) (mod2 _) (by have := t7_lt hv t; omega),
    fun t r => inP (off100_eq i hv t (r2 r)) (mod2 _) (by have := t7_lt hv t; have := r2 r; omega),
    fun t r hinb => wwP (off100_eq i hv t (r2 r)) hinb,
    fun t => inS (off102_eq i hv t) (mod2 _) (by have := t7_lt hv t; omega),
    fun t r => inP (off103_eq i hv t (r2a r)) (mod2 _) (by have := t7_lt hv t; have := r2a r; omega),
    fun t r hinb => wwP (off103_eq i hv t (r2a r)) hinb,
    fun t => inS (off105_eq i hv t) (mod2 _) (by have := t7_lt hv t; omega),
    fun t r => inP (off106_eq i hv t (r2b r)) (mod2 _) (by have := t7_lt hv t; have := r2b r; omega),
    fun t r hinb => wwP (off106_eq i hv t (r2b r)) hinb,
    fun t => inS (off108_eq i hv t) (mod2 _) (by have := t7_lt hv t; omega),
    fun t => inP (off109_eq i hv t) (mod2 _) (by have := t7_lt hv t; omega),
    fun t hinb => wwP (off109_eq i hv t) hinb,
    fun t => inB (off110_eq i hv t) (mod2 _) (by have := t7_lt hv t; omega) (by decide),
    t8_ok hv,
    fun t => (t8_no hv t).elim,
    fun t => (t8_no hv t).elim,
    fun t => (t8_no hv t).elim,
    fun t => (t8_no hv t).elim,
    fun t => (t8_no hv t).elim,
    fun t => (t8_no hv t).elim,
    fun t => (t8_no hv t).elim,
    fun t => (t8_no hv t).elim,
    fun t => (t8_no hv t).elim⟩

set_option maxHeartbeats 1000000 in
theorem chk19_2 : k0_chk19_2 i v := by
  unfold k0_chk19_2
  exact ⟨fun t => (t8_no hv t).elim,
    fun t => (t8_no hv t).elim,
    fun t => (t8_no hv t).elim,
    fun t => (t8_no hv t).elim,
    fun t => (t8_no hv t).elim,
    fun t => (t8_no hv t).elim,
    fun t => (t8_no hv t).elim,
    fun t => (t8_no hv t).elim,
    t9_ok hv,
    fun t => inB (off127_eq i hv t) (mod2 _) (by have := t9_lt hv t; omega) (by decide),
    t10_ok hv,
    fun t => (t10_no hv t).elim,
    t11_ok hv,
    fun t => inB (off129_eq i hv t) (mod2 _) (by have := t11_lt hv t; omega) (by decide),
    t12_ok hv,
    fun t => (t12_no hv t).elim⟩

set_option maxHeartbeats 1000000 in
theorem chk19 : k0_chk19 i v := by
  unfold k0_chk19
  exact ⟨chk19_0 i hv,
    chk19_1 i hv,
    chk19_2 i hv⟩

omit hv in
/-- What the kernel asks of a page word, whatever the copy: that it names a page. -/
theorem pageW {w : BitVec 32} {o : Fin 4 → Nat} (h : o = ![w.toNat, 0, 0, 0]) (hw : w.toNat < 2048) :
    (∀ a, o a + S1x2x128x128.size a ≤ S2048x2x128x128.size a) ∧
    (∀ (hinb : ∀ a, o a + S1x2x128x128.size a ≤ S2048x2x128x128.size a), (Rect.unit (s := S2048x2x128x128) o
      S1x2x128x128.size hinb).WholeWords (EltTy.packing .fp8e4m3)) :=
  ⟨inG h hw, fun hinb => wwG h hinb⟩

end Cert.KernelIdeal.Hand
-- ==== Proof.Ki.Fetch.lean ====
module

public import proofs.«01_k».proof.Proof.Ki.Words

/-!
# One trip of a fetch

A trip reads four page words of the table and starts eight copies, the keys and the values of each page, on the
counter of its block: the block's page slots go from idle to pending.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Memref (whole isWhole_whole)
open Idealize.ShloMosaic.ValueIdx
open Idealize.ShloMosaic.RefSig (tileCredit)
open Idealize.ShloMosaic.Pipeline (Dat Cfg Window BodyObligation cellOf)

variable {F : FTy → Type} [FloatOps F] [Named F]

local notation "𝕄" => MT nD τ sig Unit (Elt F) ℕ (Pipeline.UD sig nD τ) ℕ

variable (c : Dev nD) (pk pv : S2048x2x128x128.Idx → Elt F .fp8e4m3) (pt : S32x64.Idx → BitVec 32)
  (sl : S32.Idx → BitVec 32)

/-- The page table, held to be read. -/
abbrev TabP : sProp 𝕄 := iprop(((c : Thread nD τ).loc main_arg7) ↦{fullShare.right} (pt : Buf (Elt F) ((c : Thread nD τ).loc main_arg7)))
/-- The sequence lengths, held to be read. -/
abbrev TabL : sProp 𝕄 := iprop(((c : Thread nD τ).loc main_arg8) ↦{fullShare.right} (sl : Buf (Elt F) ((c : Thread nD τ).loc main_arg8)))

/-- The pages of sequence `b`. -/
def rowOf (b : Fin 32) : Fin 64 → Fin 2048 := fun p => ⟨(pt (ix2 b p)).toNat % 2048, Nat.mod_lt _ (by decide)⟩

theorem rowOf_off {b : Fin 32} {p : Fin 64} (h : ∀ x, (pt x).toNat < 2048) :
    ![(pt (ix2 b p)).toNat, 0, 0, 0] = ![(rowOf pt b p).val, 0, 0, 0] := by
  show _ = ![(pt (ix2 b p)).toNat % 2048, 0, 0, 0]
  rw [Nat.mod_eq_of_lt (h _)]

/-- Reading a page word. -/
theorem wp_page (b : Fin 32) (p : Fin 64) {o : Fin 2 → ℕ} (ho : o = ![b.val, p.val])
    {inb : ∀ a, o a + S1x1.size a ≤ S32x64.size a} {hn h1} {Q : BitVec 32 → sProp 𝕄} :
    (TabP (F := F) c pt : sProp 𝕄) ⊢ iprop((TabP (F := F) c pt -∗ Q (pt (ix2 b p))) -∗
      wp (M := 𝕄) frame (wpE (defs₀ (F := F)) Variants.none (Dev.tc c : Thread nD τ) none) Set.univ (smemLoad (whole main_arg7) (Rect.unit (s := S32x64) o S1x1.size inb) hn h1) Q) := by
  subst ho
  iintro H HQ
  unfold smemLoad
  iapply (wp_smemLoadElt (defs := defs₀ (F := F)) Variants.none (c : Thread nD τ) none Set.univ (m := whole main_arg7)
    (r := Rect.unit (s := S32x64) ![b.val, p.val] S1x1.size inb) (q := fullShare.right) (f := pt) (S := Finset.univ) (Finset.subset_univ _)) $$ H
  iintro H
  rw [wp_ret]
  imodintro
  have e : ∀ hx, View.read (Elt F) ((whole main_arg7).access (Rect.unit (s := S32x64) ![b.val, p.val] S1x1.size inb)) pt
      (Shape.Idx.first hx) = pt (ix2 b p) := by
    intro hx
    refine congrArg pt (funext fun a => Fin.ext ?_)
    fin_cases a
    · show b.val + 1 * 0 = b.val; omega
    · show p.val + 1 * 0 = p.val; omega
  rw [e]
  iapply HQ
  iexact H

/-- Reading a sequence length. -/
theorem wp_len (b : Fin 32) {o : Fin 1 → ℕ} (ho : o = ![b.val])
    {inb : ∀ a, o a + S1.size a ≤ S32.size a} {hn h1} {Q : BitVec 32 → sProp 𝕄} :
    (TabL (F := F) c sl : sProp 𝕄) ⊢ iprop((TabL (F := F) c sl -∗ Q (sl (ix1 b))) -∗
      wp (M := 𝕄) frame (wpE (defs₀ (F := F)) Variants.none (Dev.tc c : Thread nD τ) none) Set.univ (smemLoad (whole main_arg8) (Rect.unit (s := S32) o S1.size inb) hn h1) Q) := by
  subst ho
  iintro H HQ
  unfold smemLoad
  iapply (wp_smemLoadElt (defs := defs₀ (F := F)) Variants.none (c : Thread nD τ) none Set.univ (m := whole main_arg8)
    (r := Rect.unit (s := S32) ![b.val] S1.size inb) (q := fullShare.right) (f := sl) (S := Finset.univ) (Finset.subset_univ _)) $$ H
  iintro H
  rw [wp_ret]
  imodintro
  have e : ∀ hx, View.read (Elt F) ((whole main_arg8).access (Rect.unit (s := S32) ![b.val] S1.size inb)) sl
      (Shape.Idx.first hx) = sl (ix1 b) := by
    intro hx
    refine congrArg sl (funext fun a => Fin.ext ?_)
    fin_cases a
    · show b.val + 1 * 0 = b.val; omega
  rw [e]
  iapply HQ
  iexact H

theorem wp_pureK {α : Type} (x : α) {Q : α → sProp 𝕄} : wp (M := 𝕄) frame (wpE (defs₀ (F := F)) Variants.none (Dev.tc c : Thread nD τ) none) Set.univ (Pure.pure x) Q = iprop(|={Set.univ}=> Q x) := wp_ret ..

/-- A side condition that holds is passed. -/
theorem wp_asm {P : Prop} {d : Decidable P} (h : P) {Q : PLift P → sProp 𝕄} :
    Q ⟨h⟩ ⊢ wp (M := 𝕄) frame (wpE (defs₀ (F := F)) Variants.none (Dev.tc c : Thread nD τ) none) Set.univ (Prog.lift (TpuEff.assume P d)) Q := by
  refine .trans ?_ (wp_assume (defs := defs₀ (F := F)) Variants.none (c : Thread nD τ) none Set.univ h)
  rw [wp_ret]
  iintro H
  imodintro
  iexact H

/-- An idle block: its counter made a batch of eight copies, none of them started. -/
theorem cellOpen (row : Fin 64 → Fin 2048) (s : Fin 2) (j : Fin 16) :
    CellIdle c pk pv s j ⊢ |={Set.univ}=> iprop(Transfers.Batch (countersEmb (U := Pipeline.UD sig nD τ)) (c : Thread nD τ) (.dma (semAt s j)) () NP (delivs c pk pv row s j) 0 0
      ∗ pgIdle c pk pv s (pgIx j 0) ∗ pgIdle c pk pv s (pgIx j 1) ∗ pgIdle c pk pv s (pgIx j 2) ∗ pgIdle c pk pv s (pgIx j 3)) := by
  unfold CellIdle
  iintro ⟨Hs, H0, H1, H2, H3⟩
  imod (Transfers.batch_alloc' (countersEmb (U := Pipeline.UD sig nD τ)) (c : Thread nD τ) () NP (delivs c pk pv row s j) (E := Set.univ)) $$ Hs with HB
  imodintro
  isplitl [HB]; · iexact HB
  isplitl [H0]; · iexact H0
  isplitl [H1]; · iexact H1
  isplitl [H2]; · iexact H2
  iexact H3

variable (i : grid0.Coords)
  (a3 : Memref sig .tc .smem S2 .f32) (h3 : a3.IsWhole) (a4 : Memref sig .tc .smem S2 .f32) (h4 : a4.IsWhole)
  (a5 : Memref sig .tc .vmem S1x128x2048 .bf16) (h5 : a5.IsWhole) (a6 a7 : Memref sig .tc .vmem S1x2x128x128 .bf16)
  (h6 : a6.IsWhole) (h7 : a7.IsWhole) (a10 : Memref sig .tc .vmem S1x128x2048 .bf16) (h10 : a10.IsWhole)
  (a11 a12 : Memref sig .tc .vmem S1x2x128x128 .fp8e4m3) (h11 : a11.IsWhole) (h12 : a12.IsWhole)

set_option maxHeartbeats 4000000 in
/-- A trip of the fetch of the first sequence. -/
theorem fetch1 (hpt : ∀ x, (pt x).toNat < 2048) (v : BitVec 32) (hv : v.toNat ≤ 8192) (hc : k0_cond1 i = 1#1)
     (hw : k0_chk1 i v) (t : Fin (k0_t1_loop v).trips) :
    iprop(CellIdle c pk pv 0 ⟨t.val, t1_lt hv t⟩ ∗ TabP (F := F) c pt)
      ⊢ wp (M := 𝕄) frame (wpE (defs₀ (F := F)) Variants.none (Dev.tc c : Thread nD τ) none) Set.univ (k0_t1_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 hc v hw t ⟨⟩)
        (fun _ => iprop(CellPend c pk pv (rowOf pt 0) 0 ⟨t.val, t1_lt hv t⟩ ∗ TabP (F := F) c pt)) := by
  iintro ⟨HC, HT⟩
  unfold k0_t1_body
  imod (cellOpen c pk pv (rowOf pt 0) 0 ⟨t.val, t1_lt hv t⟩) $$ HC with ⟨HB, ⟨K0, T0, V0, U0⟩, ⟨K1, T1, V1, U1⟩, ⟨K2, T2, V2, U2⟩, ⟨K3, T3, V3, U3⟩⟩
  rw [wp_bind, k0_part1_eq_skeleton]
  unfold k0_part1_skel
  rw [wp_bind]
  iapply (wp_page c pt 0 (pgIx ⟨t.val, t1_lt hv t⟩ 0) (off1_eq  hv t (r := 0#32) (by decide))) $$ HT
  iintro HT
  rw [wp_bind]
  iapply (wp_asm c (P := k0_chk2 i _) ⟨fun _ => (pageW rfl (hpt _)).1, fun _ => (pageW rfl (hpt _)).2⟩)
  rw [wp_bind]
  iapply (wp_page c pt 0 (pgIx ⟨t.val, t1_lt hv t⟩ 1) (off1_eq  hv t (r := 1#32) (by decide))) $$ HT
  iintro HT
  rw [wp_bind]
  iapply (wp_asm c (P := k0_chk3 i _) ⟨fun _ => (pageW rfl (hpt _)).1, fun _ => (pageW rfl (hpt _)).2⟩)
  rw [wp_bind]
  iapply (wp_page c pt 0 (pgIx ⟨t.val, t1_lt hv t⟩ 2) (off1_eq  hv t (r := 2#32) (by decide))) $$ HT
  iintro HT
  rw [wp_bind]
  iapply (wp_asm c (P := k0_chk4 i _) ⟨fun _ => (pageW rfl (hpt _)).1, fun _ => (pageW rfl (hpt _)).2⟩)
  rw [wp_bind]
  iapply (wp_page c pt 0 (pgIx ⟨t.val, t1_lt hv t⟩ 3) (off1_eq  hv t (r := 3#32) (by decide))) $$ HT
  iintro HT
  rw [wp_bind]
  iapply (wp_asm c (P := k0_chk5 i _) ⟨fun _ => (pageW rfl (hpt _)).1, fun _ => (pageW rfl (hpt _)).2⟩)
  rw [wp_bind]
  iapply (wp_issueK c pk (rowOf pt 0) 0 (pgIx ⟨t.val, t1_lt hv t⟩ 0) ⟨t.val, t1_lt hv t⟩
    (D := delivs c pk pv (rowOf pt 0) 0 ⟨t.val, t1_lt hv t⟩) (k := 0) (by decide) .rfl
    (off3_eq  hv t) (rowOf_off pt hpt) (off2_eq  hv t)) $$ [K0 T0 HB]
  · isplitl [K0]; · iexact K0
    isplitl [T0]; · iexact T0
    iexact HB
  iintro ⟨T0, HB⟩
  rw [wp_pureK]
  imodintro
  rw [wp_bind, k0_part2_eq_skeleton]
  unfold k0_part2_skel
  rw [wp_bind]
  iapply (wp_issueV c pv (rowOf pt 0) 0 (pgIx ⟨t.val, t1_lt hv t⟩ 0) ⟨t.val, t1_lt hv t⟩
    (D := delivs c pk pv (rowOf pt 0) 0 ⟨t.val, t1_lt hv t⟩) (k := 1) (by decide) .rfl
    (off6_eq  hv t (r := 0#32) (by decide)) (rowOf_off pt hpt) (off5_eq  hv t)) $$ [V0 U0 HB]
  · isplitl [V0]; · iexact V0
    isplitl [U0]; · iexact U0
    iexact HB
  iintro ⟨U0, HB⟩
  rw [wp_bind]
  iapply (wp_issueK c pk (rowOf pt 0) 0 (pgIx ⟨t.val, t1_lt hv t⟩ 1) ⟨t.val, t1_lt hv t⟩
    (D := delivs c pk pv (rowOf pt 0) 0 ⟨t.val, t1_lt hv t⟩) (k := 2) (by decide) .rfl
    (off6_eq  hv t (r := 1#32) (by decide)) (rowOf_off pt hpt) (off5_eq  hv t)) $$ [K1 T1 HB]
  · isplitl [K1]; · iexact K1
    isplitl [T1]; · iexact T1
    iexact HB
  iintro ⟨T1, HB⟩
  rw [wp_bind]
  iapply (wp_issueV c pv (rowOf pt 0) 0 (pgIx ⟨t.val, t1_lt hv t⟩ 1) ⟨t.val, t1_lt hv t⟩
    (D := delivs c pk pv (rowOf pt 0) 0 ⟨t.val, t1_lt hv t⟩) (k := 3) (by decide) .rfl
    (off9_eq  hv t (r := 1#32) (by decide)) (rowOf_off pt hpt) (off8_eq  hv t)) $$ [V1 U1 HB]
  · isplitl [V1]; · iexact V1
    isplitl [U1]; · iexact U1
    iexact HB
  iintro ⟨U1, HB⟩
  rw [wp_bind]
  iapply (wp_issueK c pk (rowOf pt 0) 0 (pgIx ⟨t.val, t1_lt hv t⟩ 2) ⟨t.val, t1_lt hv t⟩
    (D := delivs c pk pv (rowOf pt 0) 0 ⟨t.val, t1_lt hv t⟩) (k := 4) (by decide) .rfl
    (off9_eq  hv t (r := 2#32) (by decide)) (rowOf_off pt hpt) (off8_eq  hv t)) $$ [K2 T2 HB]
  · isplitl [K2]; · iexact K2
    isplitl [T2]; · iexact T2
    iexact HB
  iintro ⟨T2, HB⟩
  rw [wp_pureK]
  imodintro
  rw [wp_bind]
  iapply (wp_issueV c pv (rowOf pt 0) 0 (pgIx ⟨t.val, t1_lt hv t⟩ 2) ⟨t.val, t1_lt hv t⟩
    (D := delivs c pk pv (rowOf pt 0) 0 ⟨t.val, t1_lt hv t⟩) (k := 5) (by decide) .rfl
    (off12_eq  hv t (r := 2#32) (by decide)) (rowOf_off pt hpt) (off11_eq  hv t)) $$ [V2 U2 HB]
  · isplitl [V2]; · iexact V2
    isplitl [U2]; · iexact U2
    iexact HB
  iintro ⟨U2, HB⟩
  rw [wp_bind]
  iapply (wp_issueK c pk (rowOf pt 0) 0 (pgIx ⟨t.val, t1_lt hv t⟩ 3) ⟨t.val, t1_lt hv t⟩
    (D := delivs c pk pv (rowOf pt 0) 0 ⟨t.val, t1_lt hv t⟩) (k := 6) (by decide) .rfl
    (off12_eq  hv t (r := 3#32) (by decide)) (rowOf_off pt hpt) (off11_eq  hv t)) $$ [K3 T3 HB]
  · isplitl [K3]; · iexact K3
    isplitl [T3]; · iexact T3
    iexact HB
  iintro ⟨T3, HB⟩
  rw [wp_bind]
  iapply (wp_issueV c pv (rowOf pt 0) 0 (pgIx ⟨t.val, t1_lt hv t⟩ 3) ⟨t.val, t1_lt hv t⟩
    (D := delivs c pk pv (rowOf pt 0) 0 ⟨t.val, t1_lt hv t⟩) (k := 7) (by decide) .rfl
    (off15_eq  hv t) (rowOf_off pt hpt) (off14_eq  hv t)) $$ [V3 U3 HB]
  · isplitl [V3]; · iexact V3
    isplitl [U3]; · iexact U3
    iexact HB
  iintro ⟨U3, HB⟩
  rw [wp_pureK]
  imodintro
  isplitr [HT]
  · unfold CellPend
    isplitl [HB]; · iexact HB
    isplitl [T0 U0]; · isplitl [T0] <;> iassumption
    isplitl [T1 U1]; · isplitl [T1] <;> iassumption
    isplitl [T2 U2]; · isplitl [T2] <;> iassumption
    isplitl [T3] <;> iassumption
  · iexact HT

set_option maxHeartbeats 4000000 in
/-- A trip of the fetch of the next sequence. -/
theorem fetch3 (hpt : ∀ x, (pt x).toNat < 2048) (v : BitVec 32) (hv : v.toNat ≤ 8192) (hc : k0_cond2 i = 1#1)
    (w335 : BitVec 32) (hw : k0_chk10 i v) (t : Fin (k0_t3_loop v).trips) :
    iprop(CellIdle c pk pv ⟨1 - (i 0).val % 2, omod2 _⟩ ⟨t.val, t3_lt hv t⟩ ∗ TabP (F := F) c pt)
      ⊢ wp (M := 𝕄) frame (wpE (defs₀ (F := F)) Variants.none (Dev.tc c : Thread nD τ) none) Set.univ (k0_t3_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 hc w335 v hw t ⟨⟩)
        (fun _ => iprop(CellPend c pk pv (rowOf pt ⟨(i 0).val + 1, (cond2_iff i).1 hc⟩) ⟨1 - (i 0).val % 2, omod2 _⟩ ⟨t.val, t3_lt hv t⟩ ∗ TabP (F := F) c pt)) := by
  iintro ⟨HC, HT⟩
  unfold k0_t3_body
  imod (cellOpen c pk pv (rowOf pt ⟨(i 0).val + 1, (cond2_iff i).1 hc⟩) ⟨1 - (i 0).val % 2, omod2 _⟩ ⟨t.val, t3_lt hv t⟩) $$ HC with ⟨HB, ⟨K0, T0, V0, U0⟩, ⟨K1, T1, V1, U1⟩, ⟨K2, T2, V2, U2⟩, ⟨K3, T3, V3, U3⟩⟩
  rw [wp_bind, k0_part5_eq_skeleton]
  unfold k0_part5_skel
  rw [wp_bind]
  iapply (wp_page c pt ⟨(i 0).val + 1, (cond2_iff i).1 hc⟩ (pgIx ⟨t.val, t3_lt hv t⟩ 0) (off32_eq i hv t (r := 0#32) (by decide))) $$ HT
  iintro HT
  rw [wp_bind]
  iapply (wp_asm c (P := k0_chk11 i _) ⟨fun _ => (pageW rfl (hpt _)).1, fun _ => (pageW rfl (hpt _)).2⟩)
  rw [wp_bind]
  iapply (wp_page c pt ⟨(i 0).val + 1, (cond2_iff i).1 hc⟩ (pgIx ⟨t.val, t3_lt hv t⟩ 1) (off32_eq i hv t (r := 1#32) (by decide))) $$ HT
  iintro HT
  rw [wp_bind]
  iapply (wp_asm c (P := k0_chk12 i _) ⟨fun _ => (pageW rfl (hpt _)).1, fun _ => (pageW rfl (hpt _)).2⟩)
  rw [wp_bind]
  iapply (wp_page c pt ⟨(i 0).val + 1, (cond2_iff i).1 hc⟩ (pgIx ⟨t.val, t3_lt hv t⟩ 2) (off32_eq i hv t (r := 2#32) (by decide))) $$ HT
  iintro HT
  rw [wp_bind]
  iapply (wp_asm c (P := k0_chk13 i _) ⟨fun _ => (pageW rfl (hpt _)).1, fun _ => (pageW rfl (hpt _)).2⟩)
  rw [wp_bind]
  iapply (wp_page c pt ⟨(i 0).val + 1, (cond2_iff i).1 hc⟩ (pgIx ⟨t.val, t3_lt hv t⟩ 3) (off32_eq i hv t (r := 3#32) (by decide))) $$ HT
  iintro HT
  rw [wp_bind]
  iapply (wp_asm c (P := k0_chk14 i _) ⟨fun _ => (pageW rfl (hpt _)).1, fun _ => (pageW rfl (hpt _)).2⟩)
  rw [wp_bind]
  iapply (wp_issueK c pk (rowOf pt ⟨(i 0).val + 1, (cond2_iff i).1 hc⟩) ⟨1 - (i 0).val % 2, omod2 _⟩ (pgIx ⟨t.val, t3_lt hv t⟩ 0) ⟨t.val, t3_lt hv t⟩
    (D := delivs c pk pv (rowOf pt ⟨(i 0).val + 1, (cond2_iff i).1 hc⟩) ⟨1 - (i 0).val % 2, omod2 _⟩ ⟨t.val, t3_lt hv t⟩) (k := 0) (by decide) .rfl
    (off34_eq i hv t) (rowOf_off pt hpt) (off33_eq i hv t)) $$ [K0 T0 HB]
  · isplitl [K0]; · iexact K0
    isplitl [T0]; · iexact T0
    iexact HB
  iintro ⟨T0, HB⟩
  rw [wp_bind]
  iapply (wp_issueV c pv (rowOf pt ⟨(i 0).val + 1, (cond2_iff i).1 hc⟩) ⟨1 - (i 0).val % 2, omod2 _⟩ (pgIx ⟨t.val, t3_lt hv t⟩ 0) ⟨t.val, t3_lt hv t⟩
    (D := delivs c pk pv (rowOf pt ⟨(i 0).val + 1, (cond2_iff i).1 hc⟩) ⟨1 - (i 0).val % 2, omod2 _⟩ ⟨t.val, t3_lt hv t⟩) (k := 1) (by decide) .rfl
    (off37_eq i hv t (r := 0#32) (by decide)) (rowOf_off pt hpt) (off36_eq i hv t)) $$ [V0 U0 HB]
  · isplitl [V0]; · iexact V0
    isplitl [U0]; · iexact U0
    iexact HB
  iintro ⟨U0, HB⟩
  rw [wp_pureK]
  imodintro
  rw [wp_bind, k0_part6_eq_skeleton]
  unfold k0_part6_skel
  rw [wp_bind]
  iapply (wp_issueK c pk (rowOf pt ⟨(i 0).val + 1, (cond2_iff i).1 hc⟩) ⟨1 - (i 0).val % 2, omod2 _⟩ (pgIx ⟨t.val, t3_lt hv t⟩ 1) ⟨t.val, t3_lt hv t⟩
    (D := delivs c pk pv (rowOf pt ⟨(i 0).val + 1, (cond2_iff i).1 hc⟩) ⟨1 - (i 0).val % 2, omod2 _⟩ ⟨t.val, t3_lt hv t⟩) (k := 2) (by decide) .rfl
    (off37_eq i hv t (r := 1#32) (by decide)) (rowOf_off pt hpt) (off36_eq i hv t)) $$ [K1 T1 HB]
  · isplitl [K1]; · iexact K1
    isplitl [T1]; · iexact T1
    iexact HB
  iintro ⟨T1, HB⟩
  rw [wp_bind]
  iapply (wp_issueV c pv (rowOf pt ⟨(i 0).val + 1, (cond2_iff i).1 hc⟩) ⟨1 - (i 0).val % 2, omod2 _⟩ (pgIx ⟨t.val, t3_lt hv t⟩ 1) ⟨t.val, t3_lt hv t⟩
    (D := delivs c pk pv (rowOf pt ⟨(i 0).val + 1, (cond2_iff i).1 hc⟩) ⟨1 - (i 0).val % 2, omod2 _⟩ ⟨t.val, t3_lt hv t⟩) (k := 3) (by decide) .rfl
    (off40_eq i hv t (r := 1#32) (by decide)) (rowOf_off pt hpt) (off39_eq i hv t)) $$ [V1 U1 HB]
  · isplitl [V1]; · iexact V1
    isplitl [U1]; · iexact U1
    iexact HB
  iintro ⟨U1, HB⟩
  rw [wp_bind]
  iapply (wp_issueK c pk (rowOf pt ⟨(i 0).val + 1, (cond2_iff i).1 hc⟩) ⟨1 - (i 0).val % 2, omod2 _⟩ (pgIx ⟨t.val, t3_lt hv t⟩ 2) ⟨t.val, t3_lt hv t⟩
    (D := delivs c pk pv (rowOf pt ⟨(i 0).val + 1, (cond2_iff i).1 hc⟩) ⟨1 - (i 0).val % 2, omod2 _⟩ ⟨t.val, t3_lt hv t⟩) (k := 4) (by decide) .rfl
    (off40_eq i hv t (r := 2#32) (by decide)) (rowOf_off pt hpt) (off39_eq i hv t)) $$ [K2 T2 HB]
  · isplitl [K2]; · iexact K2
    isplitl [T2]; · iexact T2
    iexact HB
  iintro ⟨T2, HB⟩
  dsimp only
  iapply (wp_issueV c pv (rowOf pt ⟨(i 0).val + 1, (cond2_iff i).1 hc⟩) ⟨1 - (i 0).val % 2, omod2 _⟩ (pgIx ⟨t.val, t3_lt hv t⟩ 2) ⟨t.val, t3_lt hv t⟩
    (D := delivs c pk pv (rowOf pt ⟨(i 0).val + 1, (cond2_iff i).1 hc⟩) ⟨1 - (i 0).val % 2, omod2 _⟩ ⟨t.val, t3_lt hv t⟩) (k := 5) (by decide) .rfl
    (off43_eq i hv t (r := 2#32) (by decide)) (rowOf_off pt hpt) (off42_eq i hv t)) $$ [V2 U2 HB]
  · isplitl [V2]; · iexact V2
    isplitl [U2]; · iexact U2
    iexact HB
  iintro ⟨U2, HB⟩
  rw [wp_bind]
  iapply (wp_issueK c pk (rowOf pt ⟨(i 0).val + 1, (cond2_iff i).1 hc⟩) ⟨1 - (i 0).val % 2, omod2 _⟩ (pgIx ⟨t.val, t3_lt hv t⟩ 3) ⟨t.val, t3_lt hv t⟩
    (D := delivs c pk pv (rowOf pt ⟨(i 0).val + 1, (cond2_iff i).1 hc⟩) ⟨1 - (i 0).val % 2, omod2 _⟩ ⟨t.val, t3_lt hv t⟩) (k := 6) (by decide) .rfl
    (off43_eq i hv t (r := 3#32) (by decide)) (rowOf_off pt hpt) (off42_eq i hv t)) $$ [K3 T3 HB]
  · isplitl [K3]; · iexact K3
    isplitl [T3]; · iexact T3
    iexact HB
  iintro ⟨T3, HB⟩
  rw [wp_bind]
  iapply (wp_issueV c pv (rowOf pt ⟨(i 0).val + 1, (cond2_iff i).1 hc⟩) ⟨1 - (i 0).val % 2, omod2 _⟩ (pgIx ⟨t.val, t3_lt hv t⟩ 3) ⟨t.val, t3_lt hv t⟩
    (D := delivs c pk pv (rowOf pt ⟨(i 0).val + 1, (cond2_iff i).1 hc⟩) ⟨1 - (i 0).val % 2, omod2 _⟩ ⟨t.val, t3_lt hv t⟩) (k := 7) (by decide) .rfl
    (off46_eq i hv t) (rowOf_off pt hpt) (off45_eq i hv t)) $$ [V3 U3 HB]
  · isplitl [V3]; · iexact V3
    isplitl [U3]; · iexact U3
    iexact HB
  iintro ⟨U3, HB⟩
  rw [wp_pureK]
  imodintro
  isplitr [HT]
  · unfold CellPend
    isplitl [HB]; · iexact HB
    isplitl [T0 U0]; · isplitl [T0] <;> iassumption
    isplitl [T1 U1]; · isplitl [T1] <;> iassumption
    isplitl [T2 U2]; · isplitl [T2] <;> iassumption
    isplitl [T3] <;> iassumption
  · iexact HT

end Cert.KernelIdeal.Hand
-- ==== Proof.Ki.Comp.lean ====
module

public import proofs.«01_k».proof.Proof.Ki.Fetch

/-!
# One trip of the attention loops

A trip waits for the eight copies of its block, reads the block's keys and values, and folds them into the running
maximum, the running sum and the accumulator.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Memref (whole isWhole_whole)
open Idealize.ShloMosaic.ValueIdx
open Idealize.ShloMosaic.RefSig (tileCredit)
open Idealize.ShloMosaic.Pipeline (Dat Cfg Window BodyObligation cellOf)

variable {F : FTy → Type} [FloatOps F] [Named F]

local notation "𝕄" => MT nD τ sig Unit (Elt F) ℕ (Pipeline.UD sig nD τ) ℕ

variable (c : Dev nD) (pk pv : S2048x2x128x128.Idx → Elt F .fp8e4m3) (pt : S32x64.Idx → BitVec 32)
  (sl : S32.Idx → BitVec 32)

/-- A block of four pages, one head of it. -/
def blkOf (pool : S2048x2x128x128.Idx → Elt F .fp8e4m3) (row : Fin 64 → Fin 2048) (j : Fin 16) (g : Fin 2) :
    S1x4x1x128x128.Idx → Elt F .fp8e4m3 := fun x => pool (ix4 (row (pgIx j (x 1))) g (x 3) (x 4))

theorem blkEmb (s : Fin 2) (j : Fin 16) (g : Fin 2) {inb : ∀ a, (![s.val, 4 * j.val, g.val, 0, 0] : Fin 5 → ℕ) a + S1x4x1x128x128.size a ≤ S2x64x2x128x128.size a}
    (x : S1x4x1x128x128.Idx) : (Rect.unit (s := S2x64x2x128x128) ![s.val, 4 * j.val, g.val, 0, 0] S1x4x1x128x128.size inb).emb x
      = ix5 s (pgIx j (x 1)) g (x 3) (x 4) := by
  have h0 : (x 0).val = 0 := by have := (x 0).isLt; change _ < 1 at this; omega
  have h2 : (x 2).val = 0 := by have := (x 2).isLt; change _ < 1 at this; omega
  refine funext fun a => Fin.ext ?_
  fin_cases a
  · show s.val + 1 * (x 0).val = s.val; omega
  · show 4 * j.val + 1 * (x 1).val = 4 * j.val + (x 1).val; omega
  · show g.val + 1 * (x 2).val = g.val; omega
  · show 0 + 1 * (x 3).val = (x 3).val; omega
  · show 0 + 1 * (x 4).val = (x 4).val; omega

theorem kSl_disj (s : Fin 2) {p p' : Fin 64} (h : p ≠ p') :
    Disjoint (α := Finset S2x64x2x128x128.Idx) (kSl s p).view.set (kSl s p').view.set := by
  refine Finset.disjoint_left.mpr fun x hx hy => h ?_
  exact ((mem_kSl s p x).1 hx).2.symm.trans ((mem_kSl s p' x).1 hy).2

/-- Reading a landed block of `k`. -/
theorem wp_kload (pool : S2048x2x128x128.Idx → Elt F .fp8e4m3) (row : Fin 64 → Fin 2048) (s : Fin 2) (j : Fin 16) (g : Fin 2) {o : Fin 5 → ℕ} (ho : o = ![s.val, 4 * j.val, g.val, 0, 0])
    {inb : ∀ a, o a + S1x4x1x128x128.size a ≤ S2x64x2x128x128.size a} {hl} {Q : (S1x4x1x128x128.Idx → Elt F .fp8e4m3) → sProp 𝕄} :
    iprop(kGot c pool row s (pgIx j 0) ∗ kGot c pool row s (pgIx j 1) ∗ kGot c pool row s (pgIx j 2) ∗ kGot c pool row s (pgIx j 3))
      ⊢ iprop((iprop(kGot c pool row s (pgIx j 0) ∗ kGot c pool row s (pgIx j 1) ∗ kGot c pool row s (pgIx j 2) ∗ kGot c pool row s (pgIx j 3)) -∗ Q (blkOf pool row j g)) -∗
        wp (M := 𝕄) frame (wpE (defs₀ (F := F)) Variants.none (Dev.tc c : Thread nD τ) none) Set.univ (Prog.lift (.load (whole cc0_scratch0) (Rect.unit (s := S2x64x2x128x128) o S1x4x1x128x128.size inb).toLoadRect hl)) Q) := by
  subst ho
  have hne : ∀ a b : Fin 4, a ≠ b → pgIx j a ≠ pgIx j b := fun a b h e => h (by
    have := congrArg Fin.val e; unfold pgIx at this; dsimp only at this; exact Fin.ext (by omega))
  have d01 : Disjoint (α := Finset S2x64x2x128x128.Idx) (kSl s (pgIx j 0)).view.set (kSl s (pgIx j 1)).view.set := kSl_disj s (hne 0 1 (by decide))
  have d02 : Disjoint (α := Finset S2x64x2x128x128.Idx) (kSl s (pgIx j 0)).view.set (kSl s (pgIx j 2)).view.set := kSl_disj s (hne 0 2 (by decide))
  have d03 : Disjoint (α := Finset S2x64x2x128x128.Idx) (kSl s (pgIx j 0)).view.set (kSl s (pgIx j 3)).view.set := kSl_disj s (hne 0 3 (by decide))
  have d12 : Disjoint (α := Finset S2x64x2x128x128.Idx) (kSl s (pgIx j 1)).view.set (kSl s (pgIx j 2)).view.set := kSl_disj s (hne 1 2 (by decide))
  have d13 : Disjoint (α := Finset S2x64x2x128x128.Idx) (kSl s (pgIx j 1)).view.set (kSl s (pgIx j 3)).view.set := kSl_disj s (hne 1 3 (by decide))
  have d23 : Disjoint (α := Finset S2x64x2x128x128.Idx) (kSl s (pgIx j 2)).view.set (kSl s (pgIx j 3)).view.set := kSl_disj s (hne 2 3 (by decide))
  have e1 := pointsTo_union (Val := Elt F) (Name := ℕ) (U := Pipeline.UD sig nD τ) (Lvl := ℕ) (Ix := Unit) (ℓ := ((c : Thread nD τ).loc cc0_scratch0)) (q := fullShare) (f := kTgt pool row) d23
  have e2 := pointsTo_union (Val := Elt F) (Name := ℕ) (U := Pipeline.UD sig nD τ) (Lvl := ℕ) (Ix := Unit) (ℓ := ((c : Thread nD τ).loc cc0_scratch0)) (q := fullShare) (f := kTgt pool row) (Finset.disjoint_union_right.mpr ⟨d12, d13⟩)
  have e3 := pointsTo_union (Val := Elt F) (Name := ℕ) (U := Pipeline.UD sig nD τ) (Lvl := ℕ) (Ix := Unit) (ℓ := ((c : Thread nD τ).loc cc0_scratch0)) (q := fullShare) (f := kTgt pool row) (Finset.disjoint_union_right.mpr ⟨d01, Finset.disjoint_union_right.mpr ⟨d02, d03⟩⟩)
  have e : iprop(kGot c pool row s (pgIx j 0) ∗ kGot c pool row s (pgIx j 1) ∗ kGot c pool row s (pgIx j 2) ∗ kGot c pool row s (pgIx j 3)) ⊣⊢ (((c : Thread nD τ).loc cc0_scratch0) ↦[(kSl s (pgIx j 0)).view.set ∪ ((kSl s (pgIx j 1)).view.set ∪ ((kSl s (pgIx j 2)).view.set ∪ (kSl s (pgIx j 3)).view.set))]{fullShare} (kTgt pool row : Buf (Elt F) ((c : Thread nD τ).loc cc0_scratch0)) : sProp 𝕄) := by
    constructor
    · iintro ⟨H0, H1, H2, H3⟩
      iapply e3.2
      isplitl [H0]; · iexact H0
      iapply e2.2
      isplitl [H1]; · iexact H1
      iapply e1.2
      isplitl [H2]; · iexact H2
      iexact H3
    · exact e3.1.trans (sep_mono_right (e2.1.trans (sep_mono_right e1.1)))
  have hS : (whole cc0_scratch0).view.setOn (Rect.unit (s := S2x64x2x128x128) ![s.val, 4 * j.val, g.val, 0, 0] S1x4x1x128x128.size inb).toLoadRect.set
      ⊆ ((kSl s (pgIx j 0)).view.set ∪ ((kSl s (pgIx j 1)).view.set ∪ ((kSl s (pgIx j 2)).view.set ∪ (kSl s (pgIx j 3)).view.set)) : Finset S2x64x2x128x128.Idx) := by
    intro y hy
    obtain ⟨y', hy', rfl⟩ := Finset.mem_map.mp hy
    have hx := (LoadRect.mem_set (r := (Rect.unit (s := S2x64x2x128x128) ![s.val, 4 * j.val, g.val, 0, 0] S1x4x1x128x128.size inb).toLoadRect)).mp hy'
    obtain ⟨k0, hk0, he0⟩ := hx 0
    obtain ⟨k1, hk1, he1⟩ := hx 1
    change k0 < 1 at hk0
    change k1 < 4 at hk1
    change _ = s.val + 1 * k0 at he0
    change _ = 4 * j.val + 1 * k1 at he1
    have hm : ∀ q : Fin 4, k1 = q.val → Membership.mem (γ := Finset S2x64x2x128x128.Idx) (kSl s (pgIx j q)).view.set y' := fun q hq =>
      (mem_kSl s (pgIx j q) y').2 ⟨Fin.ext (by rw [he0]; omega), Fin.ext (by rw [he1, hq]; show _ = 4 * j.val + q.val; omega)⟩
    obtain ⟨q, hq⟩ : ∃ q : Fin 4, k1 = q.val := ⟨⟨k1, hk1⟩, rfl⟩
    have hm := hm q hq
    fin_cases q
    · exact Finset.mem_union_left _ hm
    · exact Finset.mem_union_right _ (Finset.mem_union_left _ hm)
    · exact Finset.mem_union_right _ (Finset.mem_union_right _ (Finset.mem_union_left _ hm))
    · exact Finset.mem_union_right _ (Finset.mem_union_right _ (Finset.mem_union_right _ hm))
  iintro H HQ
  ihave HU := e.1 $$ H
  iapply (wp_load (defs := defs₀ (F := F)) Variants.none (c : Thread nD τ) none Set.univ (m := whole cc0_scratch0) (r := (Rect.unit (s := S2x64x2x128x128) ![s.val, 4 * j.val, g.val, 0, 0] S1x4x1x128x128.size inb).toLoadRect) (q := fullShare) (f := kTgt pool row) hS) $$ HU
  iintro HU
  rw [wp_ret]
  imodintro
  have er : (whole cc0_scratch0).view.readAt (Elt F) (Rect.unit (s := S2x64x2x128x128) ![s.val, 4 * j.val, g.val, 0, 0] S1x4x1x128x128.size inb).toLoadRect (kTgt pool row) = blkOf pool row j g := by
    funext x
    have := congrArg (kTgt pool row) (blkEmb s j g (inb := inb) x)
    exact this
  rw [er]
  iapply HQ
  iapply e.2
  iexact HU

theorem vSl_disj (s : Fin 2) {p p' : Fin 64} (h : p ≠ p') :
    Disjoint (α := Finset S2x64x2x128x128.Idx) (vSl s p).view.set (vSl s p').view.set := by
  refine Finset.disjoint_left.mpr fun x hx hy => h ?_
  exact ((mem_vSl s p x).1 hx).2.symm.trans ((mem_vSl s p' x).1 hy).2

/-- Reading a landed block of `v`. -/
theorem wp_vload (pool : S2048x2x128x128.Idx → Elt F .fp8e4m3) (row : Fin 64 → Fin 2048) (s : Fin 2) (j : Fin 16) (g : Fin 2) {o : Fin 5 → ℕ} (ho : o = ![s.val, 4 * j.val, g.val, 0, 0])
    {inb : ∀ a, o a + S1x4x1x128x128.size a ≤ S2x64x2x128x128.size a} {hl} {Q : (S1x4x1x128x128.Idx → Elt F .fp8e4m3) → sProp 𝕄} :
    iprop(vGot c pool row s (pgIx j 0) ∗ vGot c pool row s (pgIx j 1) ∗ vGot c pool row s (pgIx j 2) ∗ vGot c pool row s (pgIx j 3))
      ⊢ iprop((iprop(vGot c pool row s (pgIx j 0) ∗ vGot c pool row s (pgIx j 1) ∗ vGot c pool row s (pgIx j 2) ∗ vGot c pool row s (pgIx j 3)) -∗ Q (blkOf pool row j g)) -∗
        wp (M := 𝕄) frame (wpE (defs₀ (F := F)) Variants.none (Dev.tc c : Thread nD τ) none) Set.univ (Prog.lift (.load (whole cc0_scratch1) (Rect.unit (s := S2x64x2x128x128) o S1x4x1x128x128.size inb).toLoadRect hl)) Q) := by
  subst ho
  have hne : ∀ a b : Fin 4, a ≠ b → pgIx j a ≠ pgIx j b := fun a b h e => h (by
    have := congrArg Fin.val e; unfold pgIx at this; dsimp only at this; exact Fin.ext (by omega))
  have d01 : Disjoint (α := Finset S2x64x2x128x128.Idx) (vSl s (pgIx j 0)).view.set (vSl s (pgIx j 1)).view.set := vSl_disj s (hne 0 1 (by decide))
  have d02 : Disjoint (α := Finset S2x64x2x128x128.Idx) (vSl s (pgIx j 0)).view.set (vSl s (pgIx j 2)).view.set := vSl_disj s (hne 0 2 (by decide))
  have d03 : Disjoint (α := Finset S2x64x2x128x128.Idx) (vSl s (pgIx j 0)).view.set (vSl s (pgIx j 3)).view.set := vSl_disj s (hne 0 3 (by decide))
  have d12 : Disjoint (α := Finset S2x64x2x128x128.Idx) (vSl s (pgIx j 1)).view.set (vSl s (pgIx j 2)).view.set := vSl_disj s (hne 1 2 (by decide))
  have d13 : Disjoint (α := Finset S2x64x2x128x128.Idx) (vSl s (pgIx j 1)).view.set (vSl s (pgIx j 3)).view.set := vSl_disj s (hne 1 3 (by decide))
  have d23 : Disjoint (α := Finset S2x64x2x128x128.Idx) (vSl s (pgIx j 2)).view.set (vSl s (pgIx j 3)).view.set := vSl_disj s (hne 2 3 (by decide))
  have e1 := pointsTo_union (Val := Elt F) (Name := ℕ) (U := Pipeline.UD sig nD τ) (Lvl := ℕ) (Ix := Unit) (ℓ := ((c : Thread nD τ).loc cc0_scratch1)) (q := fullShare) (f := kTgt pool row) d23
  have e2 := pointsTo_union (Val := Elt F) (Name := ℕ) (U := Pipeline.UD sig nD τ) (Lvl := ℕ) (Ix := Unit) (ℓ := ((c : Thread nD τ).loc cc0_scratch1)) (q := fullShare) (f := kTgt pool row) (Finset.disjoint_union_right.mpr ⟨d12, d13⟩)
  have e3 := pointsTo_union (Val := Elt F) (Name := ℕ) (U := Pipeline.UD sig nD τ) (Lvl := ℕ) (Ix := Unit) (ℓ := ((c : Thread nD τ).loc cc0_scratch1)) (q := fullShare) (f := kTgt pool row) (Finset.disjoint_union_right.mpr ⟨d01, Finset.disjoint_union_right.mpr ⟨d02, d03⟩⟩)
  have e : iprop(vGot c pool row s (pgIx j 0) ∗ vGot c pool row s (pgIx j 1) ∗ vGot c pool row s (pgIx j 2) ∗ vGot c pool row s (pgIx j 3)) ⊣⊢ (((c : Thread nD τ).loc cc0_scratch1) ↦[(vSl s (pgIx j 0)).view.set ∪ ((vSl s (pgIx j 1)).view.set ∪ ((vSl s (pgIx j 2)).view.set ∪ (vSl s (pgIx j 3)).view.set))]{fullShare} (kTgt pool row : Buf (Elt F) ((c : Thread nD τ).loc cc0_scratch1)) : sProp 𝕄) := by
    constructor
    · iintro ⟨H0, H1, H2, H3⟩
      iapply e3.2
      isplitl [H0]; · iexact H0
      iapply e2.2
      isplitl [H1]; · iexact H1
      iapply e1.2
      isplitl [H2]; · iexact H2
      iexact H3
    · exact e3.1.trans (sep_mono_right (e2.1.trans (sep_mono_right e1.1)))
  have hS : (whole cc0_scratch1).view.setOn (Rect.unit (s := S2x64x2x128x128) ![s.val, 4 * j.val, g.val, 0, 0] S1x4x1x128x128.size inb).toLoadRect.set
      ⊆ ((vSl s (pgIx j 0)).view.set ∪ ((vSl s (pgIx j 1)).view.set ∪ ((vSl s (pgIx j 2)).view.set ∪ (vSl s (pgIx j 3)).view.set)) : Finset S2x64x2x128x128.Idx) := by
    intro y hy
    obtain ⟨y', hy', rfl⟩ := Finset.mem_map.mp hy
    have hx := (LoadRect.mem_set (r := (Rect.unit (s := S2x64x2x128x128) ![s.val, 4 * j.val, g.val, 0, 0] S1x4x1x128x128.size inb).toLoadRect)).mp hy'
    obtain ⟨k0, hk0, he0⟩ := hx 0
    obtain ⟨k1, hk1, he1⟩ := hx 1
    change k0 < 1 at hk0
    change k1 < 4 at hk1
    change _ = s.val + 1 * k0 at he0
    change _ = 4 * j.val + 1 * k1 at he1
    have hm : ∀ q : Fin 4, k1 = q.val → Membership.mem (γ := Finset S2x64x2x128x128.Idx) (vSl s (pgIx j q)).view.set y' := fun q hq =>
      (mem_vSl s (pgIx j q) y').2 ⟨Fin.ext (by rw [he0]; omega), Fin.ext (by rw [he1, hq]; show _ = 4 * j.val + q.val; omega)⟩
    obtain ⟨q, hq⟩ : ∃ q : Fin 4, k1 = q.val := ⟨⟨k1, hk1⟩, rfl⟩
    have hm := hm q hq
    fin_cases q
    · exact Finset.mem_union_left _ hm
    · exact Finset.mem_union_right _ (Finset.mem_union_left _ hm)
    · exact Finset.mem_union_right _ (Finset.mem_union_right _ (Finset.mem_union_left _ hm))
    · exact Finset.mem_union_right _ (Finset.mem_union_right _ (Finset.mem_union_right _ hm))
  iintro H HQ
  ihave HU := e.1 $$ H
  iapply (wp_load (defs := defs₀ (F := F)) Variants.none (c : Thread nD τ) none Set.univ (m := whole cc0_scratch1) (r := (Rect.unit (s := S2x64x2x128x128) ![s.val, 4 * j.val, g.val, 0, 0] S1x4x1x128x128.size inb).toLoadRect) (q := fullShare) (f := kTgt pool row) hS) $$ HU
  iintro HU
  rw [wp_ret]
  imodintro
  have er : (whole cc0_scratch1).view.readAt (Elt F) (Rect.unit (s := S2x64x2x128x128) ![s.val, 4 * j.val, g.val, 0, 0] S1x4x1x128x128.size inb).toLoadRect (kTgt pool row) = blkOf pool row j g := by
    funext x
    have := congrArg (kTgt pool row) (blkEmb s j g (inb := inb) x)
    exact this
  rw [er]
  iapply HQ
  iapply e.2
  iexact HU

/-- The accumulator, at its contents. -/
abbrev AccAt (a : S128x1024.Idx → Elt F .f32) : sProp 𝕄 := iprop(((c : Thread nD τ).loc cc0_scratch2) ↦{fullShare} (a : Buf (Elt F) ((c : Thread nD τ).loc cc0_scratch2)))
/-- What the core owes: nothing, whatever it waited for. -/
abbrev Owe : sProp 𝕄 := iprop(∃ W, owes (c : Thread nD τ) 0 W)

theorem wp_accLoad (a : S128x1024.Idx → Elt F .f32) {hl} {Q : (S128x1024.Idx → Elt F .f32) → sProp 𝕄} :
    (AccAt c a : sProp 𝕄) ⊢ iprop((AccAt c a -∗ Q a) -∗
      wp (M := 𝕄) frame (wpE (defs₀ (F := F)) Variants.none (Dev.tc c : Thread nD τ) none) Set.univ (Prog.lift (.load (whole cc0_scratch2) (Rect.unit (s := S128x1024) ![0, 0] S128x1024.size inb_S128x1024_S128x1024_0_0).toLoadRect hl)) Q) := by
  iintro H HQ
  iapply (wp_load (defs := defs₀ (F := F)) Variants.none (c : Thread nD τ) none Set.univ (m := whole cc0_scratch2) (r := (Rect.unit (s := S128x1024) ![0, 0] S128x1024.size inb_S128x1024_S128x1024_0_0).toLoadRect) (q := fullShare) (f := a) (Finset.subset_univ _)) $$ H
  iintro H
  rw [wp_ret]
  have er : (whole cc0_scratch2).view.readAt (Elt F) (Rect.unit (s := S128x1024) ![0, 0] S128x1024.size inb_S128x1024_S128x1024_0_0).toLoadRect a = a := by
    funext x
    refine congrArg a (funext fun k => Fin.ext ?_)
    fin_cases k
    · show 0 + 1 * (x 0).val = (x 0).val; omega
    · show 0 + 1 * (x 1).val = (x 1).val; omega
  rw [er]
  imodintro
  iapply HQ
  iexact H

theorem accEmb (x : S128x1024.Idx) : ((whole cc0_scratch2).access (Rect.unit (s := S128x1024) ![0, 0] S128x1024.size inb_S128x1024_S128x1024_0_0)).emb x = x := by
  refine funext fun k => Fin.ext ?_
  fin_cases k
  · show 0 + 1 * (x 0).val = (x 0).val; omega
  · show 0 + 1 * (x 1).val = (x 1).val; omega

theorem wp_accStore (a w : S128x1024.Idx → Elt F .f32) {hx hm} {Q : PUnit → sProp 𝕄} :
    (AccAt c a : sProp 𝕄) ⊢ iprop((AccAt c w -∗ Q ⟨⟩) -∗
      wp (M := 𝕄) frame (wpE (defs₀ (F := F)) Variants.none (Dev.tc c : Thread nD τ) none) Set.univ (Prog.lift (.store (whole cc0_scratch2) (Rect.unit (s := S128x1024) ![0, 0] S128x1024.size inb_S128x1024_S128x1024_0_0) w Finset.univ hx hm)) Q) := by
  iintro H HQ
  iapply (wp_store (defs := defs₀ (F := F)) Variants.none (c : Thread nD τ) none Set.univ (m := whole cc0_scratch2) (r := (Rect.unit (s := S128x1024) ![0, 0] S128x1024.size inb_S128x1024_S128x1024_0_0)) (f := a) (Finset.subset_univ _)) $$ H
  iintro H
  have er : ((whole cc0_scratch2).access (Rect.unit (s := S128x1024) ![0, 0] S128x1024.size inb_S128x1024_S128x1024_0_0)).write (Elt F) a w Finset.univ = w := by
    funext x
    have := View.write_emb_of_mem (v := (whole cc0_scratch2).access (Rect.unit (s := S128x1024) ![0, 0] S128x1024.size inb_S128x1024_S128x1024_0_0)) a w (Finset.mem_univ x)
    rw [accEmb] at this
    exact this
  rw [er, wp_ret]
  imodintro
  iapply HQ
  iexact H

end Cert.KernelIdeal.Hand
-- ==== Proof.Ki.Trip.lean ====
module

public import proofs.«01_k».proof.Proof.Ki.Comp

/-!
# The trips of the attention loops

A trip for the first head waits for the eight copies of its block and reads the block's keys and values; a trip for the
second head reads the other half of the block. Both fold the block into the running maximum, the running sum and the
accumulator.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Memref (whole isWhole_whole)
open Idealize.ShloMosaic.ValueIdx
open Idealize.ShloMosaic.RefSig (tileCredit)
open Idealize.ShloMosaic.Pipeline (Dat Cfg Window BodyObligation cellOf)

variable {F : FTy → Type} [FloatOps F] [Named F]

local notation "𝕄" => MT nD τ sig Unit (Elt F) ℕ (Pipeline.UD sig nD τ) ℕ

variable (c : Dev nD) (pk pv : S2048x2x128x128.Idx → Elt F .fp8e4m3) (pt : S32x64.Idx → BitVec 32)
  (sl : S32.Idx → BitVec 32)

variable (i : grid0.Coords)
  (a3 : Memref sig .tc .smem S2 .f32) (h3 : a3.IsWhole) (a4 : Memref sig .tc .smem S2 .f32) (h4 : a4.IsWhole)
  (a5 : Memref sig .tc .vmem S1x128x2048 .bf16) (h5 : a5.IsWhole) (a6 a7 : Memref sig .tc .vmem S1x2x128x128 .bf16)
  (h6 : a6.IsWhole) (h7 : a7.IsWhole) (a10 : Memref sig .tc .vmem S1x128x2048 .bf16) (h10 : a10.IsWhole)
  (a11 a12 : Memref sig .tc .vmem S1x2x128x128 .fp8e4m3) (h11 : a11.IsWhole) (h12 : a12.IsWhole)

/-- Running maximum, running sum and accumulator. -/
abbrev St (F : FTy → Type) [FloatOps F] [Named F] := FVec F S1x1024 .f32 × FVec F S1x1024 .f32 × FVec F S128x1024 .f32

/-- Folding in a block every position of which counts. -/
def stepU (v13 v14 : Elt F .f32) (q : FVec F S1024x128 .bf16) (kb vb : Vec F S1x4x1x128x128 .fp8e4m3) (S : St F) : St F :=
  (k0_pay6 v13 q S.1 kb, k0_pay70 S.1 S.2.1 (k0_pay7 v13 q S.1 kb) (k0_pay8 v13 q S.1 kb),
    k0_pay71 S.1 (k0_pay4 v14 vb) (k0_pay7 v13 q S.1 kb) (k0_pay8 v13 q S.1 kb) S.2.2)

/-- Folding in block `b`, the positions below the length `v9` counting. -/
def stepM (v9 : Elt F .i32) (v13 v14 : Elt F .f32) (q : FVec F S1024x128 .bf16) (b : BitVec 32)
    (kb vb : Vec F S1x4x1x128x128 .fp8e4m3) (S : St F) : St F :=
  (k0_pay75 S.1 (k0_pay16 v9 v13 q b kb), k0_pay79 S.1 S.2.1 (k0_pay15 v9 v13 q b kb) (k0_pay16 v9 v13 q b kb),
    k0_pay80 S.1 (k0_pay14 v14 vb) (k0_pay15 v9 v13 q b kb) (k0_pay16 v9 v13 q b kb) S.2.2)

theorem stepU_snd (v13 v14 : Elt F .f32) (q : FVec F S1024x128 .bf16) (kb vb : Vec F S1x4x1x128x128 .fp8e4m3) (S : St F) :
    (k0_pay21 v13 q S.1 kb, k0_pay25 v13 q S.1 S.2.1 kb, k0_pay114 (k0_pay24 v13 q S.1 kb) (k0_pay26 v13 v14 q S.1 kb vb) S.2.2) = stepU v13 v14 q kb vb S := rfl

theorem stepM_snd (v9 : Elt F .i32) (v10 : BitVec 32) (v13 v14 : Elt F .f32) (q : FVec F S1024x128 .bf16) (t : Fin (k0_t11_loop v9).trips)
    (kb vb : Vec F S1x4x1x128x128 .fp8e4m3) (S : St F) :
    (k0_pay36 v9 v10 v13 q 1#32 t S.1 kb, k0_pay116 (k0_pay38 v9 v10 v13 q 1#32 t S.1 kb) (k0_pay40 v9 v10 v13 q 1#32 t S.1 S.2.1 kb),
      k0_pay117 (k0_pay34 v14 vb) (k0_pay38 v9 v10 v13 q 1#32 t S.1 kb) (k0_pay39 v9 v10 v13 q 1#32 t S.1 kb) S.2.2)
      = stepM v9 v13 v14 q (Scf.iv v10 1#32 t) kb vb S := rfl

set_option maxHeartbeats 4000000 in
/-- A trip for the first head, a full block. -/
theorem trip5 (hpt : ∀ x, (pt x).toNat < 2048) (v : BitVec 32) (hv : v.toNat ≤ 8192) (hw : k0_chk19 i v) (arg0 v0 v10 v12 : BitVec 32) (v13 v14 : Elt F .f32) (q : FVec F S1024x128 .bf16) (v84 v95 v99 : FVec F S1x1024 .f32) (v101 : FVec F S128x1024 .f32)
    (t : Fin (k0_t5_loop v).trips) (S : St F) :
    iprop(CellPend c pk pv (rowOf pt ⟨(i 0).val, iLt i⟩) ⟨(i 0).val % 2, mod2 _⟩ ⟨t.val, t5_lt hv t⟩ ∗ TabP (F := F) c pt ∗ AccAt c S.2.2 ∗ Owe (F := F) c)
      ⊢ wp (M := 𝕄) frame (wpE (defs₀ (F := F)) Variants.none (Dev.tc c : Thread nD τ) none) Set.univ (k0_t5_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 arg0 v0 v hw v10 v12 v13 v14 q v84 v95 v99 v101 t (S.1, S.2.1))
        (fun r => iprop(CellGot c pk pv (rowOf pt ⟨(i 0).val, iLt i⟩) ⟨(i 0).val % 2, mod2 _⟩ ⟨t.val, t5_lt hv t⟩ ∗ TabP (F := F) c pt ∗ AccAt c (stepU v13 v14 q (blkOf pk (rowOf pt ⟨(i 0).val, iLt i⟩) ⟨t.val, t5_lt hv t⟩ 0) (blkOf pv (rowOf pt ⟨(i 0).val, iLt i⟩) ⟨t.val, t5_lt hv t⟩ 0) S).2.2 ∗ Owe (F := F) c
          ∗ ⌜r = ((stepU v13 v14 q (blkOf pk (rowOf pt ⟨(i 0).val, iLt i⟩) ⟨t.val, t5_lt hv t⟩ 0) (blkOf pv (rowOf pt ⟨(i 0).val, iLt i⟩) ⟨t.val, t5_lt hv t⟩ 0) S).1, (stepU v13 v14 q (blkOf pk (rowOf pt ⟨(i 0).val, iLt i⟩) ⟨t.val, t5_lt hv t⟩ 0) (blkOf pv (rowOf pt ⟨(i 0).val, iLt i⟩) ⟨t.val, t5_lt hv t⟩ 0) S).2.1)⌝)) := by
  iintro ⟨HC, HT, HA, ⟨%W, HW⟩⟩
  unfold k0_t5_body CellPend
  icases HC with ⟨HB, R0, R1, R2, R3⟩
  rw [wp_bind, k0_part9_eq_skeleton]
  unfold k0_part9_skel
  rw [wp_bind]
  iapply (wp_page c pt ⟨(i 0).val, iLt i⟩ (pgIx ⟨t.val, t5_lt hv t⟩ 0) (off63_eq i hv t (r := 0#32) (by decide))) $$ HT
  iintro HT
  rw [wp_bind]
  iapply (wp_asm c (P := k0_chk20 _) ⟨(pageW rfl (hpt _)).1, (pageW rfl (hpt _)).2⟩)
  rw [wp_bind]
  iapply (wp_page c pt ⟨(i 0).val, iLt i⟩ (pgIx ⟨t.val, t5_lt hv t⟩ 1) (off63_eq i hv t (r := 1#32) (by decide))) $$ HT
  iintro HT
  rw [wp_bind]
  iapply (wp_asm c (P := k0_chk21 _) ⟨(pageW rfl (hpt _)).1, (pageW rfl (hpt _)).2⟩)
  rw [wp_bind]
  iapply (wp_page c pt ⟨(i 0).val, iLt i⟩ (pgIx ⟨t.val, t5_lt hv t⟩ 2) (off63_eq i hv t (r := 2#32) (by decide))) $$ HT
  iintro HT
  rw [wp_bind]
  iapply (wp_asm c (P := k0_chk22 _) ⟨(pageW rfl (hpt _)).1, (pageW rfl (hpt _)).2⟩)
  rw [wp_bind]
  iapply (wp_page c pt ⟨(i 0).val, iLt i⟩ (pgIx ⟨t.val, t5_lt hv t⟩ 3) (off63_eq i hv t (r := 3#32) (by decide))) $$ HT
  iintro HT
  rw [wp_bind]
  iapply (wp_asm c (P := k0_chk23 _) ⟨(pageW rfl (hpt _)).1, (pageW rfl (hpt _)).2⟩)
  rw [wp_bind]
  iapply (wp_waitPg c ⟨(i 0).val % 2, mod2 _⟩ ⟨t.val, t5_lt hv t⟩ 0 (n := 8) (by decide) (off64_eq i hv t)) $$ [HB HW]
  · isplitl [HB]; · rw [Nat.zero_mul]; iexact HB
    iexact HW
  iintro ⟨HB, HW⟩
  rw [wp_bind]
  iapply (wp_waitPg c ⟨(i 0).val % 2, mod2 _⟩ ⟨t.val, t5_lt hv t⟩ 1 (n := 8) (by decide) (off67_eq i hv t)) $$ [HB HW]
  · isplitl [HB]; · iexact HB
    iexact HW
  iintro ⟨HB, HW⟩
  rw [wp_pureK]
  imodintro
  rw [wp_bind, k0_part10_eq_skeleton]
  unfold k0_part10_skel
  rw [wp_bind]
  iapply (wp_waitPg c ⟨(i 0).val % 2, mod2 _⟩ ⟨t.val, t5_lt hv t⟩ 2 (n := 8) (by decide) (off67_eq i hv t)) $$ [HB HW]
  · isplitl [HB]; · iexact HB
    iexact HW
  iintro ⟨HB, HW⟩
  rw [wp_bind]
  iapply (wp_waitPg c ⟨(i 0).val % 2, mod2 _⟩ ⟨t.val, t5_lt hv t⟩ 3 (n := 8) (by decide) (off70_eq i hv t)) $$ [HB HW]
  · isplitl [HB]; · iexact HB
    iexact HW
  iintro ⟨HB, HW⟩
  rw [wp_bind]
  iapply (wp_waitPg c ⟨(i 0).val % 2, mod2 _⟩ ⟨t.val, t5_lt hv t⟩ 4 (n := 8) (by decide) (off70_eq i hv t)) $$ [HB HW]
  · isplitl [HB]; · iexact HB
    iexact HW
  iintro ⟨HB, HW⟩
  rw [wp_bind]
  iapply (wp_waitPg c ⟨(i 0).val % 2, mod2 _⟩ ⟨t.val, t5_lt hv t⟩ 5 (n := 8) (by decide) (off73_eq i hv t)) $$ [HB HW]
  · isplitl [HB]; · iexact HB
    iexact HW
  iintro ⟨HB, HW⟩
  rw [wp_pureK]
  imodintro
  rw [wp_bind, k0_part11_eq_skeleton]
  unfold k0_part11_skel
  rw [wp_bind]
  iapply (wp_waitPg c ⟨(i 0).val % 2, mod2 _⟩ ⟨t.val, t5_lt hv t⟩ 6 (n := 8) (by decide) (off73_eq i hv t)) $$ [HB HW]
  · isplitl [HB]; · iexact HB
    iexact HW
  iintro ⟨HB, HW⟩
  rw [wp_bind]
  iapply (wp_waitLast c ⟨(i 0).val % 2, mod2 _⟩ ⟨t.val, t5_lt hv t⟩ 7 (n := 8) (by decide) (off76_eq i hv t)) $$ [HB HW]
  · isplitl [HB]; · iexact HB
    iexact HW
  iintro ⟨HD, Hs, HW⟩
  ihave HC := (cellLand c pk pv (rowOf pt ⟨(i 0).val, iLt i⟩) ⟨(i 0).val % 2, mod2 _⟩ ⟨t.val, t5_lt hv t⟩) $$ [HD Hs R0 R1 R2 R3]
  · isplitl [HD]; · iexact HD
    isplitl [Hs]; · iexact Hs
    isplitl [R0]; · iexact R0
    isplitl [R1]; · iexact R1
    isplitl [R2]; · iexact R2
    iexact R3
  unfold CellGot
  icases HC with ⟨Hs, ⟨K0, T0, V0, U0⟩, ⟨K1, T1, V1, U1⟩, ⟨K2, T2, V2, U2⟩, ⟨K3, T3, V3, U3⟩⟩
  rw [wp_bind]
  iapply (wp_kload c pk (rowOf pt ⟨(i 0).val, iLt i⟩) ⟨(i 0).val % 2, mod2 _⟩ ⟨t.val, t5_lt hv t⟩ 0 (off78_eq i hv t)) $$ [K0 K1 K2 K3]
  · isplitl [K0]; · iexact K0
    isplitl [K1]; · iexact K1
    isplitl [K2]; · iexact K2
    iexact K3
  iintro ⟨K0, K1, K2, K3⟩
  rw [wp_bind]
  iapply (wp_vload c pv (rowOf pt ⟨(i 0).val, iLt i⟩) ⟨(i 0).val % 2, mod2 _⟩ ⟨t.val, t5_lt hv t⟩ 0 (off78_eq i hv t)) $$ [V0 V1 V2 V3]
  · isplitl [V0]; · iexact V0
    isplitl [V1]; · iexact V1
    isplitl [V2]; · iexact V2
    iexact V3
  iintro ⟨V0, V1, V2, V3⟩
  rw [wp_pureK]
  imodintro
  rw [wp_bind]
  iapply (wp_accLoad c _) $$ HA
  iintro HA
  rw [wp_bind]
  iapply (wp_accLoad c _) $$ HA
  iintro HA
  rw [wp_bind]
  iapply (wp_accStore c _ _) $$ HA
  iintro HA
  rw [wp_pureK]
  imodintro
  isplitr [HT HA HW]
  · isplitl [Hs]; · iexact Hs
    isplitl [K0 T0 V0 U0]
    · isplitl [K0]; · iexact K0
      isplitl [T0]; · iexact T0
      isplitl [V0]; · iexact V0
      iexact U0
    isplitl [K1 T1 V1 U1]
    · isplitl [K1]; · iexact K1
      isplitl [T1]; · iexact T1
      isplitl [V1]; · iexact V1
      iexact U1
    isplitl [K2 T2 V2 U2]
    · isplitl [K2]; · iexact K2
      isplitl [T2]; · iexact T2
      isplitl [V2]; · iexact V2
      iexact U2
    isplitl [K3]; · iexact K3
    isplitl [T3]; · iexact T3
    isplitl [V3]; · iexact V3
    iexact U3
  isplitl [HT]; · iexact HT
  isplitl [HA]; · iexact HA
  isplitl [HW]; · iexists _; iexact HW
  ipureintro; rfl

set_option maxHeartbeats 4000000 in
/-- A trip for the first head, the last block. -/
theorem trip7 (hpt : ∀ x, (pt x).toNat < 2048) (v : BitVec 32) (hv : v.toNat ≤ 8192) (hw : k0_chk19 i v) (arg0 v0 v10 v12 : BitVec 32) (v13 v14 : Elt F .f32) (q : FVec F S1024x128 .bf16) (v84 v95 v99 : FVec F S1x1024 .f32) (v101 : FVec F S128x1024 .f32)
    (t : Fin (k0_t7_loop v).trips) (S : St F) :
    iprop(CellPend c pk pv (rowOf pt ⟨(i 0).val, iLt i⟩) ⟨(i 0).val % 2, mod2 _⟩ ⟨v.toNat / 512 + t.val, t7_lt hv t⟩ ∗ TabP (F := F) c pt ∗ AccAt c S.2.2 ∗ Owe (F := F) c)
      ⊢ wp (M := 𝕄) frame (wpE (defs₀ (F := F)) Variants.none (Dev.tc c : Thread nD τ) none) Set.univ (k0_t7_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 arg0 v0 v hw v10 v12 v13 v14 q v84 v95 v99 v101 t (S.1, S.2.1))
        (fun r => iprop(CellGot c pk pv (rowOf pt ⟨(i 0).val, iLt i⟩) ⟨(i 0).val % 2, mod2 _⟩ ⟨v.toNat / 512 + t.val, t7_lt hv t⟩ ∗ TabP (F := F) c pt ∗ AccAt c (stepM v v13 v14 q (Scf.iv v10 1#32 t) (blkOf pk (rowOf pt ⟨(i 0).val, iLt i⟩) ⟨v.toNat / 512 + t.val, t7_lt hv t⟩ 0) (blkOf pv (rowOf pt ⟨(i 0).val, iLt i⟩) ⟨v.toNat / 512 + t.val, t7_lt hv t⟩ 0) S).2.2 ∗ Owe (F := F) c
          ∗ ⌜r = ((stepM v v13 v14 q (Scf.iv v10 1#32 t) (blkOf pk (rowOf pt ⟨(i 0).val, iLt i⟩) ⟨v.toNat / 512 + t.val, t7_lt hv t⟩ 0) (blkOf pv (rowOf pt ⟨(i 0).val, iLt i⟩) ⟨v.toNat / 512 + t.val, t7_lt hv t⟩ 0) S).1, (stepM v v13 v14 q (Scf.iv v10 1#32 t) (blkOf pk (rowOf pt ⟨(i 0).val, iLt i⟩) ⟨v.toNat / 512 + t.val, t7_lt hv t⟩ 0) (blkOf pv (rowOf pt ⟨(i 0).val, iLt i⟩) ⟨v.toNat / 512 + t.val, t7_lt hv t⟩ 0) S).2.1)⌝)) := by
  iintro ⟨HC, HT, HA, ⟨%W, HW⟩⟩
  unfold k0_t7_body CellPend
  icases HC with ⟨HB, R0, R1, R2, R3⟩
  rw [wp_bind, k0_part15_eq_skeleton]
  unfold k0_part15_skel
  rw [wp_bind]
  iapply (wp_page c pt ⟨(i 0).val, iLt i⟩ (pgIx ⟨v.toNat / 512 + t.val, t7_lt hv t⟩ 0) (off95_eq i hv t (r := 0#32) (by decide))) $$ HT
  iintro HT
  rw [wp_bind]
  iapply (wp_asm c (P := k0_chk28 _) ⟨(pageW rfl (hpt _)).1, (pageW rfl (hpt _)).2⟩)
  rw [wp_bind]
  iapply (wp_page c pt ⟨(i 0).val, iLt i⟩ (pgIx ⟨v.toNat / 512 + t.val, t7_lt hv t⟩ 1) (off95_eq i hv t (r := 1#32) (by decide))) $$ HT
  iintro HT
  rw [wp_bind]
  iapply (wp_asm c (P := k0_chk29 _) ⟨(pageW rfl (hpt _)).1, (pageW rfl (hpt _)).2⟩)
  rw [wp_bind]
  iapply (wp_page c pt ⟨(i 0).val, iLt i⟩ (pgIx ⟨v.toNat / 512 + t.val, t7_lt hv t⟩ 2) (off95_eq i hv t (r := 2#32) (by decide))) $$ HT
  iintro HT
  rw [wp_bind]
  iapply (wp_asm c (P := k0_chk30 _) ⟨(pageW rfl (hpt _)).1, (pageW rfl (hpt _)).2⟩)
  rw [wp_bind]
  iapply (wp_page c pt ⟨(i 0).val, iLt i⟩ (pgIx ⟨v.toNat / 512 + t.val, t7_lt hv t⟩ 3) (off95_eq i hv t (r := 3#32) (by decide))) $$ HT
  iintro HT
  rw [wp_bind]
  iapply (wp_asm c (P := k0_chk31 _) ⟨(pageW rfl (hpt _)).1, (pageW rfl (hpt _)).2⟩)
  rw [wp_bind]
  iapply (wp_waitPg c ⟨(i 0).val % 2, mod2 _⟩ ⟨v.toNat / 512 + t.val, t7_lt hv t⟩ 0 (n := 8) (by decide) (off96_eq i hv t)) $$ [HB HW]
  · isplitl [HB]; · rw [Nat.zero_mul]; iexact HB
    iexact HW
  iintro ⟨HB, HW⟩
  rw [wp_bind]
  iapply (wp_waitPg c ⟨(i 0).val % 2, mod2 _⟩ ⟨v.toNat / 512 + t.val, t7_lt hv t⟩ 1 (n := 8) (by decide) (off99_eq i hv t)) $$ [HB HW]
  · isplitl [HB]; · iexact HB
    iexact HW
  iintro ⟨HB, HW⟩
  rw [wp_pureK]
  imodintro
  rw [wp_bind, k0_part16_eq_skeleton]
  unfold k0_part16_skel
  rw [wp_bind]
  iapply (wp_waitPg c ⟨(i 0).val % 2, mod2 _⟩ ⟨v.toNat / 512 + t.val, t7_lt hv t⟩ 2 (n := 8) (by decide) (off99_eq i hv t)) $$ [HB HW]
  · isplitl [HB]; · iexact HB
    iexact HW
  iintro ⟨HB, HW⟩
  rw [wp_bind]
  iapply (wp_waitPg c ⟨(i 0).val % 2, mod2 _⟩ ⟨v.toNat / 512 + t.val, t7_lt hv t⟩ 3 (n := 8) (by decide) (off102_eq i hv t)) $$ [HB HW]
  · isplitl [HB]; · iexact HB
    iexact HW
  iintro ⟨HB, HW⟩
  rw [wp_bind]
  iapply (wp_waitPg c ⟨(i 0).val % 2, mod2 _⟩ ⟨v.toNat / 512 + t.val, t7_lt hv t⟩ 4 (n := 8) (by decide) (off102_eq i hv t)) $$ [HB HW]
  · isplitl [HB]; · iexact HB
    iexact HW
  iintro ⟨HB, HW⟩
  rw [wp_bind]
  iapply (wp_waitPg c ⟨(i 0).val % 2, mod2 _⟩ ⟨v.toNat / 512 + t.val, t7_lt hv t⟩ 5 (n := 8) (by decide) (off105_eq i hv t)) $$ [HB HW]
  · isplitl [HB]; · iexact HB
    iexact HW
  iintro ⟨HB, HW⟩
  rw [wp_pureK]
  imodintro
  rw [wp_bind, k0_part17_eq_skeleton]
  unfold k0_part17_skel
  rw [wp_bind]
  iapply (wp_waitPg c ⟨(i 0).val % 2, mod2 _⟩ ⟨v.toNat / 512 + t.val, t7_lt hv t⟩ 6 (n := 8) (by decide) (off105_eq i hv t)) $$ [HB HW]
  · isplitl [HB]; · iexact HB
    iexact HW
  iintro ⟨HB, HW⟩
  rw [wp_bind]
  iapply (wp_waitLast c ⟨(i 0).val % 2, mod2 _⟩ ⟨v.toNat / 512 + t.val, t7_lt hv t⟩ 7 (n := 8) (by decide) (off108_eq i hv t)) $$ [HB HW]
  · isplitl [HB]; · iexact HB
    iexact HW
  iintro ⟨HD, Hs, HW⟩
  ihave HC := (cellLand c pk pv (rowOf pt ⟨(i 0).val, iLt i⟩) ⟨(i 0).val % 2, mod2 _⟩ ⟨v.toNat / 512 + t.val, t7_lt hv t⟩) $$ [HD Hs R0 R1 R2 R3]
  · isplitl [HD]; · iexact HD
    isplitl [Hs]; · iexact Hs
    isplitl [R0]; · iexact R0
    isplitl [R1]; · iexact R1
    isplitl [R2]; · iexact R2
    iexact R3
  unfold CellGot
  icases HC with ⟨Hs, ⟨K0, T0, V0, U0⟩, ⟨K1, T1, V1, U1⟩, ⟨K2, T2, V2, U2⟩, ⟨K3, T3, V3, U3⟩⟩
  rw [wp_bind]
  iapply (wp_kload c pk (rowOf pt ⟨(i 0).val, iLt i⟩) ⟨(i 0).val % 2, mod2 _⟩ ⟨v.toNat / 512 + t.val, t7_lt hv t⟩ 0 (off110_eq i hv t)) $$ [K0 K1 K2 K3]
  · isplitl [K0]; · iexact K0
    isplitl [K1]; · iexact K1
    isplitl [K2]; · iexact K2
    iexact K3
  iintro ⟨K0, K1, K2, K3⟩
  rw [wp_bind]
  iapply (wp_vload c pv (rowOf pt ⟨(i 0).val, iLt i⟩) ⟨(i 0).val % 2, mod2 _⟩ ⟨v.toNat / 512 + t.val, t7_lt hv t⟩ 0 (off110_eq i hv t)) $$ [V0 V1 V2 V3]
  · isplitl [V0]; · iexact V0
    isplitl [V1]; · iexact V1
    isplitl [V2]; · iexact V2
    iexact V3
  iintro ⟨V0, V1, V2, V3⟩
  rw [wp_pureK]
  imodintro
  rw [wp_bind]
  iapply (wp_accLoad c _) $$ HA
  iintro HA
  rw [wp_bind]
  iapply (wp_accLoad c _) $$ HA
  iintro HA
  rw [wp_bind]
  iapply (wp_accStore c _ _) $$ HA
  iintro HA
  rw [wp_pureK]
  imodintro
  isplitr [HT HA HW]
  · isplitl [Hs]; · iexact Hs
    isplitl [K0 T0 V0 U0]
    · isplitl [K0]; · iexact K0
      isplitl [T0]; · iexact T0
      isplitl [V0]; · iexact V0
      iexact U0
    isplitl [K1 T1 V1 U1]
    · isplitl [K1]; · iexact K1
      isplitl [T1]; · iexact T1
      isplitl [V1]; · iexact V1
      iexact U1
    isplitl [K2 T2 V2 U2]
    · isplitl [K2]; · iexact K2
      isplitl [T2]; · iexact T2
      isplitl [V2]; · iexact V2
      iexact U2
    isplitl [K3]; · iexact K3
    isplitl [T3]; · iexact T3
    isplitl [V3]; · iexact V3
    iexact U3
  isplitl [HT]; · iexact HT
  isplitl [HA]; · iexact HA
  isplitl [HW]; · iexists _; iexact HW
  ipureintro; rfl

set_option maxHeartbeats 4000000 in
/-- A trip for the second head, a full block. -/
theorem trip9 (v : BitVec 32) (hv : v.toNat ≤ 8192) (hw : k0_chk19 i v) (v0 v10 v12 : BitVec 32) (v13 v14 : Elt F .f32) (q : FVec F S1024x128 .bf16) (v223 v224 : FVec F S1x1024 .f32) (v237 : FVec F S128x1024 .f32) (v239 : FVec F S1x128 .bf16) (v240 : FVec F S128x128 .bf16)
    (t : Fin (k0_t9_loop v).trips) (S : St F) :
    iprop(CellGot c pk pv (rowOf pt ⟨(i 0).val, iLt i⟩) ⟨(i 0).val % 2, mod2 _⟩ ⟨t.val, t9_lt hv t⟩ ∗ TabP (F := F) c pt ∗ AccAt c S.2.2 ∗ Owe (F := F) c)
      ⊢ wp (M := 𝕄) frame (wpE (defs₀ (F := F)) Variants.none (Dev.tc c : Thread nD τ) none) Set.univ (k0_t9_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 v0 v hw v10 v12 v13 v14 q v223 v224 v237 v239 v240 t (S.1, S.2.1))
        (fun r => iprop(CellGot c pk pv (rowOf pt ⟨(i 0).val, iLt i⟩) ⟨(i 0).val % 2, mod2 _⟩ ⟨t.val, t9_lt hv t⟩ ∗ TabP (F := F) c pt ∗ AccAt c (stepU v13 v14 q (blkOf pk (rowOf pt ⟨(i 0).val, iLt i⟩) ⟨t.val, t9_lt hv t⟩ 1) (blkOf pv (rowOf pt ⟨(i 0).val, iLt i⟩) ⟨t.val, t9_lt hv t⟩ 1) S).2.2 ∗ Owe (F := F) c
          ∗ ⌜r = ((stepU v13 v14 q (blkOf pk (rowOf pt ⟨(i 0).val, iLt i⟩) ⟨t.val, t9_lt hv t⟩ 1) (blkOf pv (rowOf pt ⟨(i 0).val, iLt i⟩) ⟨t.val, t9_lt hv t⟩ 1) S).1, (stepU v13 v14 q (blkOf pk (rowOf pt ⟨(i 0).val, iLt i⟩) ⟨t.val, t9_lt hv t⟩ 1) (blkOf pv (rowOf pt ⟨(i 0).val, iLt i⟩) ⟨t.val, t9_lt hv t⟩ 1) S).2.1)⌝)) := by
  iintro ⟨HC, HT, HA, ⟨%W, HW⟩⟩
  unfold k0_t9_body
  rw [wp_bind, k0_part21_eq_skeleton]
  unfold k0_part21_skel
  unfold CellGot
  icases HC with ⟨Hs, ⟨K0, T0, V0, U0⟩, ⟨K1, T1, V1, U1⟩, ⟨K2, T2, V2, U2⟩, ⟨K3, T3, V3, U3⟩⟩
  rw [wp_bind]
  iapply (wp_kload c pk (rowOf pt ⟨(i 0).val, iLt i⟩) ⟨(i 0).val % 2, mod2 _⟩ ⟨t.val, t9_lt hv t⟩ 1 (off127_eq i hv t)) $$ [K0 K1 K2 K3]
  · isplitl [K0]; · iexact K0
    isplitl [K1]; · iexact K1
    isplitl [K2]; · iexact K2
    iexact K3
  iintro ⟨K0, K1, K2, K3⟩
  rw [wp_bind]
  iapply (wp_vload c pv (rowOf pt ⟨(i 0).val, iLt i⟩) ⟨(i 0).val % 2, mod2 _⟩ ⟨t.val, t9_lt hv t⟩ 1 (off127_eq i hv t)) $$ [V0 V1 V2 V3]
  · isplitl [V0]; · iexact V0
    isplitl [V1]; · iexact V1
    isplitl [V2]; · iexact V2
    iexact V3
  iintro ⟨V0, V1, V2, V3⟩
  rw [wp_bind]
  iapply (wp_accLoad c _) $$ HA
  iintro HA
  rw [wp_pureK]
  imodintro
  rw [wp_bind]
  iapply (wp_accLoad c _) $$ HA
  iintro HA
  rw [wp_bind]
  iapply (wp_accStore c _ _) $$ HA
  iintro HA
  rw [wp_pureK]
  imodintro
  isplitr [HT HA HW]
  · isplitl [Hs]; · iexact Hs
    isplitl [K0 T0 V0 U0]
    · isplitl [K0]; · iexact K0
      isplitl [T0]; · iexact T0
      isplitl [V0]; · iexact V0
      iexact U0
    isplitl [K1 T1 V1 U1]
    · isplitl [K1]; · iexact K1
      isplitl [T1]; · iexact T1
      isplitl [V1]; · iexact V1
      iexact U1
    isplitl [K2 T2 V2 U2]
    · isplitl [K2]; · iexact K2
      isplitl [T2]; · iexact T2
      isplitl [V2]; · iexact V2
      iexact U2
    isplitl [K3]; · iexact K3
    isplitl [T3]; · iexact T3
    isplitl [V3]; · iexact V3
    iexact U3
  isplitl [HT]; · iexact HT
  isplitl [HA]; · iexact HA
  isplitl [HW]; · iexists _; iexact HW
  ipureintro; rfl

set_option maxHeartbeats 4000000 in
/-- A trip for the second head, the last block. -/
theorem trip11 (v : BitVec 32) (hv : v.toNat ≤ 8192) (hw : k0_chk19 i v) (v0 v10 v12 : BitVec 32) (v13 v14 : Elt F .f32) (q : FVec F S1024x128 .bf16) (v223 v224 : FVec F S1x1024 .f32) (v237 : FVec F S128x1024 .f32) (v239 : FVec F S1x128 .bf16) (v240 : FVec F S128x128 .bf16)
    (t : Fin (k0_t11_loop v).trips) (S : St F) :
    iprop(CellGot c pk pv (rowOf pt ⟨(i 0).val, iLt i⟩) ⟨(i 0).val % 2, mod2 _⟩ ⟨v.toNat / 512 + t.val, t11_lt hv t⟩ ∗ TabP (F := F) c pt ∗ AccAt c S.2.2 ∗ Owe (F := F) c)
      ⊢ wp (M := 𝕄) frame (wpE (defs₀ (F := F)) Variants.none (Dev.tc c : Thread nD τ) none) Set.univ (k0_t11_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 v0 v hw v10 v12 v13 v14 q v223 v224 v237 v239 v240 t (S.1, S.2.1))
        (fun r => iprop(CellGot c pk pv (rowOf pt ⟨(i 0).val, iLt i⟩) ⟨(i 0).val % 2, mod2 _⟩ ⟨v.toNat / 512 + t.val, t11_lt hv t⟩ ∗ TabP (F := F) c pt ∗ AccAt c (stepM v v13 v14 q (Scf.iv v10 1#32 t) (blkOf pk (rowOf pt ⟨(i 0).val, iLt i⟩) ⟨v.toNat / 512 + t.val, t11_lt hv t⟩ 1) (blkOf pv (rowOf pt ⟨(i 0).val, iLt i⟩) ⟨v.toNat / 512 + t.val, t11_lt hv t⟩ 1) S).2.2 ∗ Owe (F := F) c
          ∗ ⌜r = ((stepM v v13 v14 q (Scf.iv v10 1#32 t) (blkOf pk (rowOf pt ⟨(i 0).val, iLt i⟩) ⟨v.toNat / 512 + t.val, t11_lt hv t⟩ 1) (blkOf pv (rowOf pt ⟨(i 0).val, iLt i⟩) ⟨v.toNat / 512 + t.val, t11_lt hv t⟩ 1) S).1, (stepM v v13 v14 q (Scf.iv v10 1#32 t) (blkOf pk (rowOf pt ⟨(i 0).val, iLt i⟩) ⟨v.toNat / 512 + t.val, t11_lt hv t⟩ 1) (blkOf pv (rowOf pt ⟨(i 0).val, iLt i⟩) ⟨v.toNat / 512 + t.val, t11_lt hv t⟩ 1) S).2.1)⌝)) := by
  iintro ⟨HC, HT, HA, ⟨%W, HW⟩⟩
  unfold k0_t11_body
  rw [wp_bind, k0_part23_eq_skeleton]
  unfold k0_part23_skel
  unfold CellGot
  icases HC with ⟨Hs, ⟨K0, T0, V0, U0⟩, ⟨K1, T1, V1, U1⟩, ⟨K2, T2, V2, U2⟩, ⟨K3, T3, V3, U3⟩⟩
  rw [wp_bind]
  iapply (wp_kload c pk (rowOf pt ⟨(i 0).val, iLt i⟩) ⟨(i 0).val % 2, mod2 _⟩ ⟨v.toNat / 512 + t.val, t11_lt hv t⟩ 1 (off129_eq i hv t)) $$ [K0 K1 K2 K3]
  · isplitl [K0]; · iexact K0
    isplitl [K1]; · iexact K1
    isplitl [K2]; · iexact K2
    iexact K3
  iintro ⟨K0, K1, K2, K3⟩
  rw [wp_bind]
  iapply (wp_vload c pv (rowOf pt ⟨(i 0).val, iLt i⟩) ⟨(i 0).val % 2, mod2 _⟩ ⟨v.toNat / 512 + t.val, t11_lt hv t⟩ 1 (off129_eq i hv t)) $$ [V0 V1 V2 V3]
  · isplitl [V0]; · iexact V0
    isplitl [V1]; · iexact V1
    isplitl [V2]; · iexact V2
    iexact V3
  iintro ⟨V0, V1, V2, V3⟩
  rw [wp_pureK]
  imodintro
  rw [wp_bind]
  iapply (wp_accLoad c _) $$ HA
  iintro HA
  rw [wp_bind]
  iapply (wp_accLoad c _) $$ HA
  iintro HA
  rw [wp_bind]
  iapply (wp_accStore c _ _) $$ HA
  iintro HA
  rw [wp_pureK]
  imodintro
  isplitr [HT HA HW]
  · isplitl [Hs]; · iexact Hs
    isplitl [K0 T0 V0 U0]
    · isplitl [K0]; · iexact K0
      isplitl [T0]; · iexact T0
      isplitl [V0]; · iexact V0
      iexact U0
    isplitl [K1 T1 V1 U1]
    · isplitl [K1]; · iexact K1
      isplitl [T1]; · iexact T1
      isplitl [V1]; · iexact V1
      iexact U1
    isplitl [K2 T2 V2 U2]
    · isplitl [K2]; · iexact K2
      isplitl [T2]; · iexact T2
      isplitl [V2]; · iexact V2
      iexact U2
    isplitl [K3]; · iexact K3
    isplitl [T3]; · iexact T3
    isplitl [V3]; · iexact V3
    iexact U3
  isplitl [HT]; · iexact HT
  isplitl [HA]; · iexact HA
  isplitl [HW]; · iexists _; iexact HW
  ipureintro; rfl

end Cert.KernelIdeal.Hand
-- ==== Proof.Ki.Loop.lean ====
module

public import proofs.«01_k».proof.Proof.Ki.Trip

/-!
# The loops over blocks

The sixteen blocks of a slot: a fetch loop takes the first blocks from idle to pending, the attention loops of the first
head take them from pending to landed while folding them in, the loops of the second head fold them in once more.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Memref (whole isWhole_whole)
open Idealize.ShloMosaic.ValueIdx
open Idealize.ShloMosaic.RefSig (tileCredit)
open Idealize.ShloMosaic.Pipeline (Dat Cfg Window BodyObligation cellOf)

variable {F : FTy → Type} [FloatOps F] [Named F]

local notation "𝕄" => MT nD τ sig Unit (Elt F) ℕ (Pipeline.UD sig nD τ) ℕ

variable (c : Dev nD) (pk pv : S2048x2x128x128.Idx → Elt F .fp8e4m3) (pt : S32x64.Idx → BitVec 32)
  (sl : S32.Idx → BitVec 32)

/-- Block `k`. -/
def jj (k : ℕ) : Fin 16 := ⟨k % 16, Nat.mod_lt _ (by decide)⟩
theorem jj_of {k : ℕ} (h : k < 16) : (⟨k, h⟩ : Fin 16) = jj k := Fin.ext (Nat.mod_eq_of_lt h).symm
theorem jj_val {k : ℕ} (h : k < 16) : (jj k).val = k := Nat.mod_eq_of_lt h

/-- Block `j` of a slot when the first `k` blocks have landed and those up to `n` are pending. -/
def cellSt (row : Fin 64 → Fin 2048) (s : Fin 2) (k n : ℕ) (j : Fin 16) : sProp 𝕄 :=
  if j.val < k then CellGot c pk pv row s j else if j.val < n then CellPend c pk pv row s j else CellIdle c pk pv s j
/-- The blocks of a slot. -/
def Cells (row : Fin 64 → Fin 2048) (s : Fin 2) (k n : ℕ) : sProp 𝕄 := bigSep Finset.univ (cellSt c pk pv row s k n)

theorem cells_take (P P' : Fin 16 → sProp 𝕄) (j : Fin 16) (h : ∀ i, i ≠ j → P' i = P i) :
    bigSep Finset.univ P ⊢ iprop(P j ∗ (P' j -∗ bigSep Finset.univ P')) := by
  have e : bigSep (Finset.univ.erase j) P' = bigSep (Finset.univ.erase j) P :=
    BI.bigSep_congr fun x hx => h x (Finset.ne_of_mem_erase hx)
  rw [show bigSep Finset.univ P = iprop(P j ∗ bigSep (Finset.univ.erase j) P) from BI.bigSep_univ_split j,
    show bigSep Finset.univ P' = iprop(P' j ∗ bigSep (Finset.univ.erase j) P') from BI.bigSep_univ_split j, e]
  iintro ⟨H1, H2⟩
  isplitl [H1]; · iexact H1
  iintro H
  isplitl [H]; · iexact H
  iexact H2

/-- Block `k` starts to be fetched. -/
theorem cells_fetch (row : Fin 64 → Fin 2048) (s : Fin 2) (k : ℕ) (hk : k < 16) :
    Cells c pk pv row s 0 k ⊢ iprop(CellIdle c pk pv s ⟨k, hk⟩ ∗ (CellPend c pk pv row s ⟨k, hk⟩ -∗ Cells c pk pv row s 0 (k + 1))) := by
  refine .trans (cells_take _ (cellSt c pk pv row s 0 (k + 1)) ⟨k, hk⟩ fun i hi => ?_) (Entails.of_eq ?_)
  · have : i.val ≠ k := fun e => hi (Fin.ext e)
    unfold cellSt
    by_cases h : i.val < k
    · rw [if_neg (Nat.not_lt_zero _), if_neg (Nat.not_lt_zero _), if_pos h, if_pos (by omega)]
    · rw [if_neg (Nat.not_lt_zero _), if_neg (Nat.not_lt_zero _), if_neg h, if_neg (by omega)]
  · unfold cellSt
    rw [if_neg (Nat.not_lt_zero _), if_neg (Nat.not_lt_zero _), if_neg (Nat.lt_irrefl k), if_pos (Nat.lt_succ_self k)]
    rfl

/-- Block `k` lands. -/
theorem cells_land (row : Fin 64 → Fin 2048) (s : Fin 2) (k n : ℕ) (hk : k < 16) (hn : k < n) :
    Cells c pk pv row s k n ⊢ iprop(CellPend c pk pv row s ⟨k, hk⟩ ∗ (CellGot c pk pv row s ⟨k, hk⟩ -∗ Cells c pk pv row s (k + 1) n)) := by
  refine .trans (cells_take _ (cellSt c pk pv row s (k + 1) n) ⟨k, hk⟩ fun i hi => ?_) (Entails.of_eq ?_)
  · have : i.val ≠ k := fun e => hi (Fin.ext e)
    unfold cellSt
    by_cases h : i.val < k
    · rw [if_pos h, if_pos (by omega)]
    · rw [if_neg h, if_neg (by omega)]
  · unfold cellSt
    rw [if_neg (Nat.lt_irrefl k), if_pos (show (⟨k, hk⟩ : Fin 16).val < n from hn), if_pos (Nat.lt_succ_self k)]
    rfl

/-- A landed block is read. -/
theorem cells_read (row : Fin 64 → Fin 2048) (s : Fin 2) (k n : ℕ) (j : Fin 16) (hj : j.val < k) :
    Cells c pk pv row s k n ⊢ iprop(CellGot c pk pv row s j ∗ (CellGot c pk pv row s j -∗ Cells c pk pv row s k n)) := by
  refine .trans (cells_take _ (cellSt c pk pv row s k n) j fun i hi => rfl) (Entails.of_eq ?_)
  unfold cellSt
  rw [if_pos hj]
  rfl

/-- Landed blocks are blocks to fetch into again. -/
theorem cells_done (row row' : Fin 64 → Fin 2048) (s : Fin 2) (n : ℕ) : Cells c pk pv row s n n ⊢ Cells c pk pv row' s 0 0 := by
  refine BI.bigSep_mono fun j _ => ?_
  unfold cellSt
  rw [if_neg (Nat.not_lt_zero _), if_neg (Nat.not_lt_zero _)]
  by_cases h : j.val < n
  · rw [if_pos h]; exact CellGot_idle c pk pv row s j
  · rw [if_neg h, if_neg h]; exact BI.Entails.refl _

/-- With no block in flight the pages do not matter. -/
theorem cells_row (row row' : Fin 64 → Fin 2048) (s : Fin 2) : Cells c pk pv row s 0 0 ⊢ Cells c pk pv row' s 0 0 := cells_done c pk pv row row' s 0

/-- A counted loop by an invariant. -/
theorem wp_loop {σ : Type} (l : Scf.Loop 32) (ok : l.OK) (init : σ) (body : Fin l.trips → σ → Prog (TpuEff nD τ sig (Elt F) Λ₀ .tc) σ)
    (I : ℕ → σ → sProp 𝕄) (n : ℕ) (hn : l.trips = n) (hbody : ∀ (k : Fin l.trips) (x : σ), I k.val x ⊢ wp (M := 𝕄) frame (wpE (defs₀ (F := F)) Variants.none (Dev.tc c : Thread nD τ) none) Set.univ (body k x) (I (k.val + 1))) :
    I 0 init ⊢ wp (M := 𝕄) frame (wpE (defs₀ (F := F)) Variants.none (Dev.tc c : Thread nD τ) none) Set.univ (Scf.Loop.for l ok init body) (I n) := by
  subst hn
  iintro H
  iapply (Scf.wp_for (M := 𝕄) frame (wpE (defs₀ (F := F)) Variants.none (Dev.tc c : Thread nD τ) none) Set.univ l.lb l.ub l.st ok init body I hbody)
  isplitl [H]; · iexact H
  iintro %x H
  iexact H

/-- A loop without trips. -/
theorem wp_noLoop {σ : Type} (l : Scf.Loop 32) (ok : l.OK) (init : σ) (body : Fin l.trips → σ → Prog (TpuEff nD τ sig (Elt F) Λ₀ .tc) σ)
    (h : Fin l.trips → False) {Q : σ → sProp 𝕄} : Q init ⊢ wp (M := 𝕄) frame (wpE (defs₀ (F := F)) Variants.none (Dev.tc c : Thread nD τ) none) Set.univ (Scf.Loop.for l ok init body) Q := by
  have hn : l.trips = 0 := by
    rcases Nat.eq_zero_or_pos l.trips with e | e
    · exact e
    · exact (h ⟨0, e⟩).elim
  have hw := wp_loop c l ok init body (fun _ x => iprop(⌜x = init⌝ ∗ Q init)) 0 hn fun k => (h k).elim
  refine .trans ?_ (hw.trans (wp_mono _ _ _ fun x => ?_))
  · iintro H
    isplitr; · ipureintro; rfl
    iexact H
  · iintro ⟨%e, H⟩
    subst e
    iexact H

/-- A recurrence run for `k` rounds. -/
def runSt {α : Type} (f : ℕ → α → α) : ℕ → α → α
  | 0, S => S
  | k + 1, S => f k (runSt f k S)

/-- Folding in full block `k` of head `g`. -/
def foldU (g : Fin 2) (v13 v14 : Elt F .f32) (q : FVec F S1024x128 .bf16) (row : Fin 64 → Fin 2048) (k : ℕ) : St F → St F :=
  stepU v13 v14 q (blkOf pk row (jj k) g) (blkOf pv row (jj k) g)
/-- Folding in block `k` of head `g`, up to the length `v`. -/
def foldM (g : Fin 2) (v : BitVec 32) (v13 v14 : Elt F .f32) (q : FVec F S1024x128 .bf16) (row : Fin 64 → Fin 2048) (k : ℕ) : St F → St F :=
  stepM v v13 v14 q (BitVec.ofNat 32 k) (blkOf pk row (jj k) g) (blkOf pv row (jj k) g)
/-- Folding in all blocks of a sequence of length `v`. -/
def foldAll (g : Fin 2) (v : BitVec 32) (v13 v14 : Elt F .f32) (q : FVec F S1024x128 .bf16) (row : Fin 64 → Fin 2048) (S : St F) : St F :=
  runSt (fun k => foldM pk pv g v v13 v14 q row (v.toNat / 512 + k)) ((v.toNat + 511) / 512 - v.toNat / 512)
    (runSt (foldU pk pv g v13 v14 q row) (v.toNat / 512 - 0) S)

variable (i : grid0.Coords)
  (a3 : Memref sig .tc .smem S2 .f32) (h3 : a3.IsWhole) (a4 : Memref sig .tc .smem S2 .f32) (h4 : a4.IsWhole)
  (a5 : Memref sig .tc .vmem S1x128x2048 .bf16) (h5 : a5.IsWhole) (a6 a7 : Memref sig .tc .vmem S1x2x128x128 .bf16)
  (h6 : a6.IsWhole) (h7 : a7.IsWhole) (a10 : Memref sig .tc .vmem S1x128x2048 .bf16) (h10 : a10.IsWhole)
  (a11 a12 : Memref sig .tc .vmem S1x2x128x128 .fp8e4m3) (h11 : a11.IsWhole) (h12 : a12.IsWhole)

/-- The fetch of the first sequence. -/
theorem fetchLoop1 (hpt : ∀ x, (pt x).toNat < 2048) (v : BitVec 32) (hv : v.toNat ≤ 8192) (hc : k0_cond1 i = 1#1)
    (hw : k0_chk1 i v) (ok : (k0_t1_loop v).OK) :
    iprop(Cells c pk pv (rowOf pt 0) 0 0 0 ∗ TabP (F := F) c pt)
      ⊢ wp (M := 𝕄) frame (wpE (defs₀ (F := F)) Variants.none (Dev.tc c : Thread nD τ) none) Set.univ (Scf.Loop.for (k0_t1_loop v) ok ⟨⟩ (k0_t1_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 hc v hw))
        (fun _ => iprop(Cells c pk pv (rowOf pt 0) 0 0 ((v.toNat + 511) / 512) ∗ TabP (F := F) c pt)) :=
  wp_loop c _ ok (⟨⟩ : PUnit.{1}) _ (fun k _ => iprop(Cells c pk pv (rowOf pt 0) 0 0 k ∗ TabP (F := F) c pt)) _ (t1_trips hv) fun t x => by
    iintro ⟨HC, HT⟩
    ihave ⟨HC, HK⟩ := (cells_fetch c pk pv (rowOf pt 0) 0 t.val (t1_lt hv t)) $$ HC
    iapply (wp_wand frame (wpE (defs₀ (F := F)) Variants.none (Dev.tc c : Thread nD τ) none) Set.univ) $$ [HC HT]
    · iapply (fetch1 c pk pv pt i a3 h3 a4 h4 a5 h5 a6 a7 h6 h7 a10 h10 a11 a12 h11 h12 hpt v hv hc hw t)
      isplitl [HC] <;> iassumption
    iintro %_ ⟨HC, HT⟩
    isplitr [HT]
    · iapply HK; iexact HC
    iexact HT

/-- The fetch of the next sequence. -/
theorem fetchLoop3 (hpt : ∀ x, (pt x).toNat < 2048) (v : BitVec 32) (hv : v.toNat ≤ 8192) (hc : k0_cond2 i = 1#1)
    (hw : k0_chk10 i v) (w335 : BitVec 32) (ok : (k0_t3_loop v).OK) :
    iprop(Cells c pk pv (rowOf pt ⟨(i 0).val + 1, (cond2_iff i).1 hc⟩) ⟨1 - (i 0).val % 2, omod2 _⟩ 0 0 ∗ TabP (F := F) c pt)
      ⊢ wp (M := 𝕄) frame (wpE (defs₀ (F := F)) Variants.none (Dev.tc c : Thread nD τ) none) Set.univ (Scf.Loop.for (k0_t3_loop v) ok ⟨⟩ (k0_t3_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 hc w335 v hw))
        (fun _ => iprop(Cells c pk pv (rowOf pt ⟨(i 0).val + 1, (cond2_iff i).1 hc⟩) ⟨1 - (i 0).val % 2, omod2 _⟩ 0 ((v.toNat + 511) / 512) ∗ TabP (F := F) c pt)) :=
  wp_loop c _ ok (⟨⟩ : PUnit.{1}) _ (fun k _ => iprop(Cells c pk pv (rowOf pt ⟨(i 0).val + 1, (cond2_iff i).1 hc⟩) ⟨1 - (i 0).val % 2, omod2 _⟩ 0 k ∗ TabP (F := F) c pt)) _ (t3_trips hv) fun t x => by
    iintro ⟨HC, HT⟩
    ihave ⟨HC, HK⟩ := (cells_fetch c pk pv (rowOf pt ⟨(i 0).val + 1, (cond2_iff i).1 hc⟩) ⟨1 - (i 0).val % 2, omod2 _⟩ t.val (t3_lt hv t)) $$ HC
    iapply (wp_wand frame (wpE (defs₀ (F := F)) Variants.none (Dev.tc c : Thread nD τ) none) Set.univ) $$ [HC HT]
    · iapply (fetch3 c pk pv pt i a3 h3 a4 h4 a5 h5 a6 a7 h6 h7 a10 h10 a11 a12 h11 h12 hpt v hv hc (w335 := w335) hw t)
      isplitl [HC] <;> iassumption
    iintro %_ ⟨HC, HT⟩
    isplitr [HT]
    · iapply HK; iexact HC
    iexact HT

/-- The attention loop of head 0 over the full blocks. -/
theorem attLoop5 (hpt : ∀ x, (pt x).toNat < 2048) (v : BitVec 32) (hv : v.toNat ≤ 8192) (hw : k0_chk19 i v) (arg0 v0 v10 v12 : BitVec 32) (v13 v14 : Elt F .f32) (q : FVec F S1024x128 .bf16) (v84 v95 v99 : FVec F S1x1024 .f32) (v101 : FVec F S128x1024 .f32)
    (ok : (k0_t5_loop v).OK) (S : St F) :
    iprop(Cells c pk pv (rowOf pt ⟨(i 0).val, iLt i⟩) ⟨(i 0).val % 2, mod2 _⟩ (0) ((v.toNat + 511) / 512) ∗ TabP (F := F) c pt ∗ AccAt c S.2.2 ∗ Owe (F := F) c)
      ⊢ wp (M := 𝕄) frame (wpE (defs₀ (F := F)) Variants.none (Dev.tc c : Thread nD τ) none) Set.univ (Scf.Loop.for (k0_t5_loop v) ok (S.1, S.2.1) (k0_t5_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 arg0 v0 v hw v10 v12 v13 v14 q v84 v95 v99 v101))
        (fun x => iprop(⌜x = ((runSt (foldU pk pv 0 v13 v14 q (rowOf pt ⟨(i 0).val, iLt i⟩)) (v.toNat / 512 - 0) S).1, (runSt (foldU pk pv 0 v13 v14 q (rowOf pt ⟨(i 0).val, iLt i⟩)) (v.toNat / 512 - 0) S).2.1)⌝ ∗ Cells c pk pv (rowOf pt ⟨(i 0).val, iLt i⟩) ⟨(i 0).val % 2, mod2 _⟩ ((v.toNat / 512 - 0)) ((v.toNat + 511) / 512) ∗ TabP (F := F) c pt ∗ AccAt c (runSt (foldU pk pv 0 v13 v14 q (rowOf pt ⟨(i 0).val, iLt i⟩)) (v.toNat / 512 - 0) S).2.2 ∗ Owe (F := F) c)) := by
  refine .trans ?_ (wp_loop c _ ok (S.1, S.2.1) _ (fun k x => iprop(⌜x = ((runSt (foldU pk pv 0 v13 v14 q (rowOf pt ⟨(i 0).val, iLt i⟩)) k S).1, (runSt (foldU pk pv 0 v13 v14 q (rowOf pt ⟨(i 0).val, iLt i⟩)) k S).2.1)⌝ ∗ Cells c pk pv (rowOf pt ⟨(i 0).val, iLt i⟩) ⟨(i 0).val % 2, mod2 _⟩ (k) ((v.toNat + 511) / 512) ∗ TabP (F := F) c pt ∗ AccAt c (runSt (foldU pk pv 0 v13 v14 q (rowOf pt ⟨(i 0).val, iLt i⟩)) k S).2.2 ∗ Owe (F := F) c)) _ (t5_trips hv) fun t x => ?_)
  · iintro H
    isplitr; · ipureintro; rfl
    iexact H
  · have hb : t.val < ((v.toNat + 511) / 512) := by have := lt_of_lt_of_eq t.isLt (t5_trips hv); omega
    iintro ⟨%e, HC, HT, HA, HW⟩
    subst e
    ihave ⟨HC, HK⟩ := (cells_land c pk pv (rowOf pt ⟨(i 0).val, iLt i⟩) ⟨(i 0).val % 2, mod2 _⟩ (t.val) ((v.toNat + 511) / 512) (t5_lt hv t) hb) $$ HC
    iapply (wp_wand frame (wpE (defs₀ (F := F)) Variants.none (Dev.tc c : Thread nD τ) none) Set.univ) $$ [HC HT HA HW]
    · iapply (trip5 c pk pv pt i a3 h3 a4 h4 a5 h5 a6 a7 h6 h7 a10 h10 a11 a12 h11 h12 hpt v hv hw arg0 v0 v10 v12 v13 v14 q v84 v95 v99 v101 t (runSt (foldU pk pv 0 v13 v14 q (rowOf pt ⟨(i 0).val, iLt i⟩)) t.val S))
      isplitl [HC]; · iexact HC
      isplitl [HT]; · iexact HT
      isplitl [HA]; · iexact HA
      iexact HW
    iintro %r ⟨HC, HT, HA, HW, %e⟩
    rw [jj_of (t5_lt hv t)] at e
    rw [jj_of (t5_lt hv t)]
    isplitr; · ipureintro; exact e
    isplitl [HC HK]; · iapply HK; iexact HC
    isplitl [HT]; · iexact HT
    isplitl [HA]; · iexact HA
    iexact HW

/-- The attention loop of head 0 over the last block. -/
theorem attLoop7 (hpt : ∀ x, (pt x).toNat < 2048) (v : BitVec 32) (hv : v.toNat ≤ 8192) (hw : k0_chk19 i v) (arg0 v0 v12 : BitVec 32) (v13 v14 : Elt F .f32) (q : FVec F S1024x128 .bf16) (v84 v95 v99 : FVec F S1x1024 .f32) (v101 : FVec F S128x1024 .f32)
    (ok : (k0_t7_loop v).OK) (S : St F) :
    iprop(Cells c pk pv (rowOf pt ⟨(i 0).val, iLt i⟩) ⟨(i 0).val % 2, mod2 _⟩ (v.toNat / 512 + 0) ((v.toNat + 511) / 512) ∗ TabP (F := F) c pt ∗ AccAt c S.2.2 ∗ Owe (F := F) c)
      ⊢ wp (M := 𝕄) frame (wpE (defs₀ (F := F)) Variants.none (Dev.tc c : Thread nD τ) none) Set.univ (Scf.Loop.for (k0_t7_loop v) ok (S.1, S.2.1) (k0_t7_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 arg0 v0 v hw (Scalar.shrui v 9#32) v12 v13 v14 q v84 v95 v99 v101))
        (fun x => iprop(⌜x = ((runSt (fun k => foldM pk pv 0 v v13 v14 q (rowOf pt ⟨(i 0).val, iLt i⟩) (v.toNat / 512 + k)) (((v.toNat + 511) / 512) - v.toNat / 512) S).1, (runSt (fun k => foldM pk pv 0 v v13 v14 q (rowOf pt ⟨(i 0).val, iLt i⟩) (v.toNat / 512 + k)) (((v.toNat + 511) / 512) - v.toNat / 512) S).2.1)⌝ ∗ Cells c pk pv (rowOf pt ⟨(i 0).val, iLt i⟩) ⟨(i 0).val % 2, mod2 _⟩ (v.toNat / 512 + (((v.toNat + 511) / 512) - v.toNat / 512)) ((v.toNat + 511) / 512) ∗ TabP (F := F) c pt ∗ AccAt c (runSt (fun k => foldM pk pv 0 v v13 v14 q (rowOf pt ⟨(i 0).val, iLt i⟩) (v.toNat / 512 + k)) (((v.toNat + 511) / 512) - v.toNat / 512) S).2.2 ∗ Owe (F := F) c)) := by
  refine .trans ?_ (wp_loop c _ ok (S.1, S.2.1) _ (fun k x => iprop(⌜x = ((runSt (fun k => foldM pk pv 0 v v13 v14 q (rowOf pt ⟨(i 0).val, iLt i⟩) (v.toNat / 512 + k)) k S).1, (runSt (fun k => foldM pk pv 0 v v13 v14 q (rowOf pt ⟨(i 0).val, iLt i⟩) (v.toNat / 512 + k)) k S).2.1)⌝ ∗ Cells c pk pv (rowOf pt ⟨(i 0).val, iLt i⟩) ⟨(i 0).val % 2, mod2 _⟩ (v.toNat / 512 + k) ((v.toNat + 511) / 512) ∗ TabP (F := F) c pt ∗ AccAt c (runSt (fun k => foldM pk pv 0 v v13 v14 q (rowOf pt ⟨(i 0).val, iLt i⟩) (v.toNat / 512 + k)) k S).2.2 ∗ Owe (F := F) c)) _ (t7_trips hv) fun t x => ?_)
  · iintro H
    isplitr; · ipureintro; rfl
    iexact H
  · have hb : v.toNat / 512 + t.val < ((v.toNat + 511) / 512) := by have := lt_of_lt_of_eq t.isLt (t7_trips hv); omega
    have ev : Scf.iv (Scalar.shrui v 9#32) 1#32 t.val = BitVec.ofNat 32 (v.toNat / 512 + t.val) := by
      rw [← t7_iv hv t]; exact BitVec.eq_of_toNat_eq (by rw [BitVec.toNat_ofNat]; exact (Nat.mod_eq_of_lt (BitVec.isLt _)).symm)
    iintro ⟨%e, HC, HT, HA, HW⟩
    subst e
    ihave ⟨HC, HK⟩ := (cells_land c pk pv (rowOf pt ⟨(i 0).val, iLt i⟩) ⟨(i 0).val % 2, mod2 _⟩ (v.toNat / 512 + t.val) ((v.toNat + 511) / 512) (t7_lt hv t) hb) $$ HC
    iapply (wp_wand frame (wpE (defs₀ (F := F)) Variants.none (Dev.tc c : Thread nD τ) none) Set.univ) $$ [HC HT HA HW]
    · iapply (trip7 c pk pv pt i a3 h3 a4 h4 a5 h5 a6 a7 h6 h7 a10 h10 a11 a12 h11 h12 hpt v hv hw arg0 v0 (Scalar.shrui v 9#32) v12 v13 v14 q v84 v95 v99 v101 t (runSt (fun k => foldM pk pv 0 v v13 v14 q (rowOf pt ⟨(i 0).val, iLt i⟩) (v.toNat / 512 + k)) t.val S))
      isplitl [HC]; · iexact HC
      isplitl [HT]; · iexact HT
      isplitl [HA]; · iexact HA
      iexact HW
    iintro %r ⟨HC, HT, HA, HW, %e⟩
    rw [jj_of (t7_lt hv t), ev] at e
    rw [jj_of (t7_lt hv t), ev]
    isplitr; · ipureintro; exact e
    isplitl [HC HK]; · iapply HK; iexact HC
    isplitl [HT]; · iexact HT
    isplitl [HA]; · iexact HA
    iexact HW

/-- The attention loop of head 1 over the full blocks. -/
theorem attLoop9 (hpt : ∀ x, (pt x).toNat < 2048) (v : BitVec 32) (hv : v.toNat ≤ 8192) (hw : k0_chk19 i v) (v0 v10 v12 : BitVec 32) (v13 v14 : Elt F .f32) (q : FVec F S1024x128 .bf16) (v223 v224 : FVec F S1x1024 .f32) (v237 : FVec F S128x1024 .f32) (v239 : FVec F S1x128 .bf16) (v240 : FVec F S128x128 .bf16)
    (ok : (k0_t9_loop v).OK) (S : St F) :
    iprop(Cells c pk pv (rowOf pt ⟨(i 0).val, iLt i⟩) ⟨(i 0).val % 2, mod2 _⟩ ((v.toNat + 511) / 512) ((v.toNat + 511) / 512) ∗ TabP (F := F) c pt ∗ AccAt c S.2.2 ∗ Owe (F := F) c)
      ⊢ wp (M := 𝕄) frame (wpE (defs₀ (F := F)) Variants.none (Dev.tc c : Thread nD τ) none) Set.univ (Scf.Loop.for (k0_t9_loop v) ok (S.1, S.2.1) (k0_t9_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 v0 v hw v10 v12 v13 v14 q v223 v224 v237 v239 v240))
        (fun x => iprop(⌜x = ((runSt (foldU pk pv 1 v13 v14 q (rowOf pt ⟨(i 0).val, iLt i⟩)) (v.toNat / 512 - 0) S).1, (runSt (foldU pk pv 1 v13 v14 q (rowOf pt ⟨(i 0).val, iLt i⟩)) (v.toNat / 512 - 0) S).2.1)⌝ ∗ Cells c pk pv (rowOf pt ⟨(i 0).val, iLt i⟩) ⟨(i 0).val % 2, mod2 _⟩ ((v.toNat + 511) / 512) ((v.toNat + 511) / 512) ∗ TabP (F := F) c pt ∗ AccAt c (runSt (foldU pk pv 1 v13 v14 q (rowOf pt ⟨(i 0).val, iLt i⟩)) (v.toNat / 512 - 0) S).2.2 ∗ Owe (F := F) c)) := by
  refine .trans ?_ (wp_loop c _ ok (S.1, S.2.1) _ (fun k x => iprop(⌜x = ((runSt (foldU pk pv 1 v13 v14 q (rowOf pt ⟨(i 0).val, iLt i⟩)) k S).1, (runSt (foldU pk pv 1 v13 v14 q (rowOf pt ⟨(i 0).val, iLt i⟩)) k S).2.1)⌝ ∗ Cells c pk pv (rowOf pt ⟨(i 0).val, iLt i⟩) ⟨(i 0).val % 2, mod2 _⟩ ((v.toNat + 511) / 512) ((v.toNat + 511) / 512) ∗ TabP (F := F) c pt ∗ AccAt c (runSt (foldU pk pv 1 v13 v14 q (rowOf pt ⟨(i 0).val, iLt i⟩)) k S).2.2 ∗ Owe (F := F) c)) _ (t9_trips hv) fun t x => ?_)
  · iintro H
    isplitr; · ipureintro; rfl
    iexact H
  · have hb : t.val < ((v.toNat + 511) / 512) := by have := lt_of_lt_of_eq t.isLt (t9_trips hv); omega
    iintro ⟨%e, HC, HT, HA, HW⟩
    subst e
    ihave ⟨HC, HK⟩ := (cells_read c pk pv (rowOf pt ⟨(i 0).val, iLt i⟩) ⟨(i 0).val % 2, mod2 _⟩ ((v.toNat + 511) / 512) ((v.toNat + 511) / 512) ⟨t.val, t9_lt hv t⟩ hb) $$ HC
    iapply (wp_wand frame (wpE (defs₀ (F := F)) Variants.none (Dev.tc c : Thread nD τ) none) Set.univ) $$ [HC HT HA HW]
    · iapply (trip9 c pk pv pt i a3 h3 a4 h4 a5 h5 a6 a7 h6 h7 a10 h10 a11 a12 h11 h12 v hv hw v0 v10 v12 v13 v14 q v223 v224 v237 v239 v240 t (runSt (foldU pk pv 1 v13 v14 q (rowOf pt ⟨(i 0).val, iLt i⟩)) t.val S))
      isplitl [HC]; · iexact HC
      isplitl [HT]; · iexact HT
      isplitl [HA]; · iexact HA
      iexact HW
    iintro %r ⟨HC, HT, HA, HW, %e⟩
    rw [jj_of (t9_lt hv t)] at e
    rw [jj_of (t9_lt hv t)]
    isplitr; · ipureintro; exact e
    isplitl [HC HK]; · iapply HK; iexact HC
    isplitl [HT]; · iexact HT
    isplitl [HA]; · iexact HA
    iexact HW

/-- The attention loop of head 1 over the last block. -/
theorem attLoop11 (hpt : ∀ x, (pt x).toNat < 2048) (v : BitVec 32) (hv : v.toNat ≤ 8192) (hw : k0_chk19 i v) (v0 v12 : BitVec 32) (v13 v14 : Elt F .f32) (q : FVec F S1024x128 .bf16) (v223 v224 : FVec F S1x1024 .f32) (v237 : FVec F S128x1024 .f32) (v239 : FVec F S1x128 .bf16) (v240 : FVec F S128x128 .bf16)
    (ok : (k0_t11_loop v).OK) (S : St F) :
    iprop(Cells c pk pv (rowOf pt ⟨(i 0).val, iLt i⟩) ⟨(i 0).val % 2, mod2 _⟩ ((v.toNat + 511) / 512) ((v.toNat + 511) / 512) ∗ TabP (F := F) c pt ∗ AccAt c S.2.2 ∗ Owe (F := F) c)
      ⊢ wp (M := 𝕄) frame (wpE (defs₀ (F := F)) Variants.none (Dev.tc c : Thread nD τ) none) Set.univ (Scf.Loop.for (k0_t11_loop v) ok (S.1, S.2.1) (k0_t11_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 v0 v hw (Scalar.shrui v 9#32) v12 v13 v14 q v223 v224 v237 v239 v240))
        (fun x => iprop(⌜x = ((runSt (fun k => foldM pk pv 1 v v13 v14 q (rowOf pt ⟨(i 0).val, iLt i⟩) (v.toNat / 512 + k)) (((v.toNat + 511) / 512) - v.toNat / 512) S).1, (runSt (fun k => foldM pk pv 1 v v13 v14 q (rowOf pt ⟨(i 0).val, iLt i⟩) (v.toNat / 512 + k)) (((v.toNat + 511) / 512) - v.toNat / 512) S).2.1)⌝ ∗ Cells c pk pv (rowOf pt ⟨(i 0).val, iLt i⟩) ⟨(i 0).val % 2, mod2 _⟩ ((v.toNat + 511) / 512) ((v.toNat + 511) / 512) ∗ TabP (F := F) c pt ∗ AccAt c (runSt (fun k => foldM pk pv 1 v v13 v14 q (rowOf pt ⟨(i 0).val, iLt i⟩) (v.toNat / 512 + k)) (((v.toNat + 511) / 512) - v.toNat / 512) S).2.2 ∗ Owe (F := F) c)) := by
  refine .trans ?_ (wp_loop c _ ok (S.1, S.2.1) _ (fun k x => iprop(⌜x = ((runSt (fun k => foldM pk pv 1 v v13 v14 q (rowOf pt ⟨(i 0).val, iLt i⟩) (v.toNat / 512 + k)) k S).1, (runSt (fun k => foldM pk pv 1 v v13 v14 q (rowOf pt ⟨(i 0).val, iLt i⟩) (v.toNat / 512 + k)) k S).2.1)⌝ ∗ Cells c pk pv (rowOf pt ⟨(i 0).val, iLt i⟩) ⟨(i 0).val % 2, mod2 _⟩ ((v.toNat + 511) / 512) ((v.toNat + 511) / 512) ∗ TabP (F := F) c pt ∗ AccAt c (runSt (fun k => foldM pk pv 1 v v13 v14 q (rowOf pt ⟨(i 0).val, iLt i⟩) (v.toNat / 512 + k)) k S).2.2 ∗ Owe (F := F) c)) _ (t11_trips hv) fun t x => ?_)
  · iintro H
    isplitr; · ipureintro; rfl
    iexact H
  · have hb : v.toNat / 512 + t.val < ((v.toNat + 511) / 512) := by have := lt_of_lt_of_eq t.isLt (t11_trips hv); omega
    have ev : Scf.iv (Scalar.shrui v 9#32) 1#32 t.val = BitVec.ofNat 32 (v.toNat / 512 + t.val) := by
      rw [← t11_iv hv t]; exact BitVec.eq_of_toNat_eq (by rw [BitVec.toNat_ofNat]; exact (Nat.mod_eq_of_lt (BitVec.isLt _)).symm)
    iintro ⟨%e, HC, HT, HA, HW⟩
    subst e
    ihave ⟨HC, HK⟩ := (cells_read c pk pv (rowOf pt ⟨(i 0).val, iLt i⟩) ⟨(i 0).val % 2, mod2 _⟩ ((v.toNat + 511) / 512) ((v.toNat + 511) / 512) ⟨v.toNat / 512 + t.val, t11_lt hv t⟩ hb) $$ HC
    iapply (wp_wand frame (wpE (defs₀ (F := F)) Variants.none (Dev.tc c : Thread nD τ) none) Set.univ) $$ [HC HT HA HW]
    · iapply (trip11 c pk pv pt i a3 h3 a4 h4 a5 h5 a6 a7 h6 h7 a10 h10 a11 a12 h11 h12 v hv hw v0 (Scalar.shrui v 9#32) v12 v13 v14 q v223 v224 v237 v239 v240 t (runSt (fun k => foldM pk pv 1 v v13 v14 q (rowOf pt ⟨(i 0).val, iLt i⟩) (v.toNat / 512 + k)) t.val S))
      isplitl [HC]; · iexact HC
      isplitl [HT]; · iexact HT
      isplitl [HA]; · iexact HA
      iexact HW
    iintro %r ⟨HC, HT, HA, HW, %e⟩
    rw [jj_of (t11_lt hv t), ev] at e
    rw [jj_of (t11_lt hv t), ev]
    isplitr; · ipureintro; exact e
    isplitl [HC HK]; · iapply HK; iexact HC
    isplitl [HT]; · iexact HT
    isplitl [HA]; · iexact HA
    iexact HW

end Cert.KernelIdeal.Hand
-- ==== Proof.Ki.Win.lean ====
module

public import proofs.«01_k».proof.Proof.Ki.Loop
public import Idealize.ShloMosaic.Lib.VecWindow

/-!
# Loads and stores of the staged blocks

The staged blocks are held by the values they read; the query block is read by columns of 128, the new keys and values by
head, and the results are written by columns of 128 and by head.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.RefSig (tileCredit)
open Idealize.ShloMosaic.Pipeline (Dat Cfg Window BodyObligation cellOf)

variable {F : FTy → Type} [FloatOps F] [Named F]

local notation "𝕄" => MT nD τ sig Unit (Elt F) ℕ (Pipeline.UD sig nD τ) ℕ

variable (c : Dev nD)

theorem setOn_sub {sp : Space} {s : Shape} {e : EltTy} (m : Memref sig .tc sp s e) (r : Rect s) (M : Finset r.shape.Idx) : (m.access r).setOn M ⊆ m.view.set := by
  intro y hy
  obtain ⟨x, -, rfl⟩ := Finset.mem_map.mp hy
  exact m.view.emb_mem_set (r.emb x)

theorem setOn_sub' {sp : Space} {s : Shape} {e : EltTy} (m : Memref sig .tc sp s e) (r : LoadRect s) : m.view.setOn r.set ⊆ m.view.set := by
  intro y hy
  obtain ⟨x, -, rfl⟩ := Finset.mem_map.mp hy
  exact m.view.emb_mem_set x

/-- Reading a window of a staged block. -/
theorem wp_wload {s : Shape} {e : EltTy} (m : Memref sig .tc .vmem s e) {q : PosShare TreeShare} (d : s.Idx → Elt F e)
    {off off' size : Fin s.rank → ℕ} {inb : ∀ a, off a + size a ≤ s.size a} (ho : off = off') (inb' : ∀ a, off' a + size a ≤ s.size a) {hl}
    {Q : (((a : Fin s.rank) → Fin (size a)) → Elt F e) → sProp 𝕄} :
    (owns (c : Thread nD τ) m q d : sProp 𝕄) ⊢ iprop((owns (c : Thread nD τ) m q d -∗ Q (VecWindow.window d off' size inb')) -∗
      wp (M := 𝕄) frame (wpE (defs₀ (F := F)) Variants.none (Dev.tc c : Thread nD τ) none) Set.univ (Prog.lift (.load m (Rect.unit off size inb).toLoadRect hl)) Q) := by
  unfold owns
  iintro ⟨%f, %hf, H⟩ HQ
  iapply (wp_load (defs := defs₀ (F := F)) Variants.none (c : Thread nD τ) none Set.univ (m := m) (r := (Rect.unit off size inb).toLoadRect) (q := q) (f := f) (setOn_sub' m _)) $$ H
  iintro H
  rw [wp_ret, View.readAt_unit m.view f inb ho inb', hf]
  imodintro
  iapply HQ
  iexists f
  isplitr; · ipureintro; exact hf
  iexact H

/-- Writing a window of a staged block. -/
theorem wp_wstore {s : Shape} {e : EltTy} (m : Memref sig .tc .vmem s e) (d : s.Idx → Elt F e)
    {off off' size : Fin s.rank → ℕ} {inb : ∀ a, off a + size a ≤ s.size a} (ho : off = off') (w : (Rect.unit off size inb).shape.Idx → Elt F e) {hx hm}
    {Q : PUnit → sProp 𝕄} :
    (owns (c : Thread nD τ) m fullShare d : sProp 𝕄) ⊢ iprop((owns (c : Thread nD τ) m fullShare (VecWindow.put d off' size w) -∗ Q ⟨⟩) -∗
      wp (M := 𝕄) frame (wpE (defs₀ (F := F)) Variants.none (Dev.tc c : Thread nD τ) none) Set.univ (Prog.lift (.store m (Rect.unit off size inb) w Finset.univ hx hm)) Q) := by
  unfold owns
  iintro ⟨%f, %hf, H⟩ HQ
  iapply (wp_store (defs := defs₀ (F := F)) Variants.none (c : Thread nD τ) none Set.univ (m := m) (r := (Rect.unit off size inb)) (f := f) (setOn_sub m _ _)) $$ H
  iintro H
  rw [wp_ret]
  imodintro
  iapply HQ
  iexists _
  isplitr
  swap; · iexact H
  ipureintro
  have := View.read_writes_cons_put m.view f inb w [] ho
  rw [View.writes_nil, hf] at this
  exact this

/-- Reading a word of a staged pair. -/
theorem wp_wsmem (m : Memref sig .tc .smem S2 .f32) {q : PosShare TreeShare} (d : S2.Idx → Elt F .f32) (k : Fin 2)
    {o : Fin 1 → ℕ} (ho : o = ![k.val]) {inb : ∀ a, o a + S1.size a ≤ S2.size a} {hn h1} {Q : Elt F .f32 → sProp 𝕄} :
    (owns (c : Thread nD τ) m q d : sProp 𝕄) ⊢ iprop((owns (c : Thread nD τ) m q d -∗ Q (d (ix1 k))) -∗
      wp (M := 𝕄) frame (wpE (defs₀ (F := F)) Variants.none (Dev.tc c : Thread nD τ) none) Set.univ (smemLoad m (Rect.unit (s := S2) o S1.size inb) hn h1) Q) := by
  subst ho
  unfold owns smemLoad
  iintro ⟨%f, %hf, H⟩ HQ
  iapply (wp_smemLoadElt (defs := defs₀ (F := F)) Variants.none (c : Thread nD τ) none Set.univ (m := m)
    (r := Rect.unit (s := S2) ![k.val] S1.size inb) (q := q) (f := f) (S := m.view.set) (by intro y hy; obtain ⟨x, -, rfl⟩ := Finset.mem_map.mp hy; exact m.view.emb_mem_set _)) $$ H
  iintro H
  rw [wp_ret]
  imodintro
  have e : ∀ hx, View.read (Elt F) (m.access (Rect.unit (s := S2) ![k.val] S1.size inb)) f (Shape.Idx.first hx) = d (ix1 k) := by
    intro hx
    rw [← hf]
    refine congrArg (m.view.read (Elt F) f) (funext fun a => Fin.ext ?_)
    fin_cases a
    · show k.val + 1 * 0 = k.val; omega
  rw [e]
  iapply HQ
  iexists f
  isplitr; · ipureintro; exact hf
  iexact H

/-- Columns `128 n …` of the query block. -/
def xs (x : S1x128x2048.Idx → Elt F .bf16) (n : Fin 16) : Vec F S1x128x128 .bf16 :=
  fun y => x (ix3 0 (y 1) ⟨128 * n.val + (y 2).val, by have := (y 2).isLt; change _ < 128 at this; omega⟩)
/-- Head `g` of the new keys or values. -/
def kn4 (x : S1x2x128x128.Idx → Elt F .bf16) (g : Fin 2) : Vec F S1x1x128x128 .bf16 := fun y => x (ix4 0 g (y 2) (y 3))

/-- Reading columns of the query block. -/
theorem wp_xload (m : Memref sig .tc .vmem S1x128x2048 .bf16) {q : PosShare TreeShare} (d : S1x128x2048.Idx → Elt F .bf16) (n : Fin 16)
    {o : Fin 3 → ℕ} (ho : o = ![0, 0, 128 * n.val]) {inb : ∀ a, o a + S1x128x128.size a ≤ S1x128x2048.size a} {hl} {Q : Vec F S1x128x128 .bf16 → sProp 𝕄} :
    (owns (c : Thread nD τ) m q d : sProp 𝕄) ⊢ iprop((owns (c : Thread nD τ) m q d -∗ Q (xs d n)) -∗
      wp (M := 𝕄) frame (wpE (defs₀ (F := F)) Variants.none (Dev.tc c : Thread nD τ) none) Set.univ (Prog.lift (.load m (Rect.unit (s := S1x128x2048) o S1x128x128.size inb).toLoadRect hl)) Q) := by
  subst ho
  have e : xs d n = VecWindow.window d ![0, 0, 128 * n.val] S1x128x128.size inb := by
    funext y
    refine congrArg d (funext fun a => Fin.ext ?_)
    have h0 := (y 0).isLt
    change _ < 1 at h0
    fin_cases a
    · show 0 = 0 + 1 * (y 0).val; omega
    · show (y 1).val = 0 + 1 * (y 1).val; omega
    · show 128 * n.val + (y 2).val = 128 * n.val + 1 * (y 2).val; omega
  rw [e]
  exact wp_wload c m d rfl inb

/-- Reading a head of the new keys or values. -/
theorem wp_nload (m : Memref sig .tc .vmem S1x2x128x128 .bf16) {q : PosShare TreeShare} (d : S1x2x128x128.Idx → Elt F .bf16) (g : Fin 2)
    {o : Fin 4 → ℕ} (ho : o = ![0, g.val, 0, 0]) {inb : ∀ a, o a + S1x1x128x128.size a ≤ S1x2x128x128.size a} {hl} {Q : Vec F S1x1x128x128 .bf16 → sProp 𝕄} :
    (owns (c : Thread nD τ) m q d : sProp 𝕄) ⊢ iprop((owns (c : Thread nD τ) m q d -∗ Q (kn4 d g)) -∗
      wp (M := 𝕄) frame (wpE (defs₀ (F := F)) Variants.none (Dev.tc c : Thread nD τ) none) Set.univ (Prog.lift (.load m (Rect.unit (s := S1x2x128x128) o S1x1x128x128.size inb).toLoadRect hl)) Q) := by
  subst ho
  have e : kn4 d g = VecWindow.window d ![0, g.val, 0, 0] S1x1x128x128.size inb := by
    funext y
    refine congrArg d (funext fun a => Fin.ext ?_)
    have h0 := (y 0).isLt
    change _ < 1 at h0
    have h1 := (y 1).isLt
    change _ < 1 at h1
    fin_cases a
    · show 0 = 0 + 1 * (y 0).val; omega
    · show g.val = g.val + 1 * (y 1).val; omega
    · show (y 2).val = 0 + 1 * (y 2).val; omega
    · show (y 3).val = 0 + 1 * (y 3).val; omega
  rw [e]
  exact wp_wload c m d rfl inb

/-- The result block with columns `128 n …` replaced. -/
def yput (d : S1x128x2048.Idx → Elt F .bf16) (n : Fin 16) (w : Vec F S1x128x128 .bf16) : S1x128x2048.Idx → Elt F .bf16 :=
  VecWindow.put d ![0, 0, 128 * n.val] S1x128x128.size w
/-- The code block with a head replaced. -/
def cput (d : S1x2x128x128.Idx → Elt F .fp8e4m3) (g : Fin 2) (w : Vec F S1x1x128x128 .fp8e4m3) : S1x2x128x128.Idx → Elt F .fp8e4m3 :=
  VecWindow.put d ![0, g.val, 0, 0] S1x1x128x128.size w

/-- A dead load of a staged block and the store over it. -/
theorem wp_yput (m : Memref sig .tc .vmem S1x128x2048 .bf16) (d : S1x128x2048.Idx → Elt F .bf16) (n : Fin 16) (w : Vec F S1x128x128 .bf16)
    {o : Fin 3 → ℕ} (ho : o = ![0, 0, 128 * n.val]) {inb : ∀ a, o a + S1x128x128.size a ≤ S1x128x2048.size a} {hx hm} {Q : PUnit → sProp 𝕄} :
    (owns (c : Thread nD τ) m fullShare d : sProp 𝕄) ⊢ iprop((owns (c : Thread nD τ) m fullShare (yput d n w) -∗ Q ⟨⟩) -∗
      wp (M := 𝕄) frame (wpE (defs₀ (F := F)) Variants.none (Dev.tc c : Thread nD τ) none) Set.univ (Prog.lift (.store m (Rect.unit (s := S1x128x2048) o S1x128x128.size inb) w Finset.univ hx hm)) Q) := wp_wstore c m d ho w
theorem wp_cput (m : Memref sig .tc .vmem S1x2x128x128 .fp8e4m3) (d : S1x2x128x128.Idx → Elt F .fp8e4m3) (g : Fin 2) (w : Vec F S1x1x128x128 .fp8e4m3)
    {o : Fin 4 → ℕ} (ho : o = ![0, g.val, 0, 0]) {inb : ∀ a, o a + S1x1x128x128.size a ≤ S1x2x128x128.size a} {hx hm} {Q : PUnit → sProp 𝕄} :
    (owns (c : Thread nD τ) m fullShare d : sProp 𝕄) ⊢ iprop((owns (c : Thread nD τ) m fullShare (cput d g w) -∗ Q ⟨⟩) -∗
      wp (M := 𝕄) frame (wpE (defs₀ (F := F)) Variants.none (Dev.tc c : Thread nD τ) none) Set.univ (Prog.lift (.store m (Rect.unit (s := S1x2x128x128) o S1x1x128x128.size inb) w Finset.univ hx hm)) Q) := wp_wstore c m d ho w

/-- All columns. -/
def yAll (w : Fin 16 → Vec F S1x128x128 .bf16) : S1x128x2048.Idx → Elt F .bf16 := fun x =>
  w ⟨(x 2).val / 128, by have := (x 2).isLt; change _ < 2048 at this; omega⟩ (ix3 0 (x 1) ⟨(x 2).val % 128, Nat.mod_lt _ (by decide)⟩)
/-- Both heads. -/
def cAll (w : Fin 2 → Vec F S1x1x128x128 .fp8e4m3) : S1x2x128x128.Idx → Elt F .fp8e4m3 := fun x => w (x 1) (ix4 0 0 (x 2) (x 3))

theorem yput_apply (d : S1x128x2048.Idx → Elt F .bf16) (n : Fin 16) (w : Vec F S1x128x128 .bf16) (x : S1x128x2048.Idx) :
    yput d n w x = if (x 2).val / 128 = n.val then w (ix3 0 (x 1) ⟨(x 2).val % 128, Nat.mod_lt _ (by decide)⟩) else d x := by
  have h0 := (x 0).isLt
  change _ < 1 at h0
  have h1 := (x 1).isLt
  change _ < 128 at h1
  unfold yput VecWindow.put
  by_cases h : (x 2).val / 128 = n.val
  · rw [if_pos h, dif_pos (show ∀ a, _ from fun a => by
      fin_cases a
      · exact ⟨Nat.zero_le _, by show (x 0).val < 0 + 1; omega⟩
      · exact ⟨Nat.zero_le _, by show (x 1).val < 0 + 128; omega⟩
      · exact ⟨by show 128 * n.val ≤ (x 2).val; omega, by show (x 2).val < 128 * n.val + 128; omega⟩)]
    refine congrArg w (funext fun a => Fin.ext ?_)
    fin_cases a
    · show (x 0).val - 0 = 0; omega
    · show (x 1).val - 0 = (x 1).val; omega
    · show (x 2).val - 128 * n.val = (x 2).val % 128; omega
  · rw [if_neg h, dif_neg (fun hh => h (by
      have h2 := hh (2 : Fin 3)
      change 128 * n.val ≤ (x 2).val ∧ (x 2).val < 128 * n.val + 128 at h2
      omega))]

theorem cput_apply (d : S1x2x128x128.Idx → Elt F .fp8e4m3) (g : Fin 2) (w : Vec F S1x1x128x128 .fp8e4m3) (x : S1x2x128x128.Idx) :
    cput d g w x = if (x 1).val = g.val then w (ix4 0 0 (x 2) (x 3)) else d x := by
  have h0 := (x 0).isLt
  change _ < 1 at h0
  have h2 := (x 2).isLt
  change _ < 128 at h2
  have h3 := (x 3).isLt
  change _ < 128 at h3
  unfold cput VecWindow.put
  by_cases h : (x 1).val = g.val
  · rw [if_pos h, dif_pos (show ∀ a, _ from fun a => by
      fin_cases a
      · exact ⟨Nat.zero_le _, by show (x 0).val < 0 + 1; omega⟩
      · exact ⟨by show g.val ≤ (x 1).val; omega, by show (x 1).val < g.val + 1; omega⟩
      · exact ⟨Nat.zero_le _, by show (x 2).val < 0 + 128; omega⟩
      · exact ⟨Nat.zero_le _, by show (x 3).val < 0 + 128; omega⟩)]
    refine congrArg w (funext fun a => Fin.ext ?_)
    fin_cases a
    · show (x 0).val - 0 = 0; omega
    · show (x 1).val - g.val = 0; omega
    · show (x 2).val - 0 = (x 2).val; omega
    · show (x 3).val - 0 = (x 3).val; omega
  · rw [if_neg h, dif_neg (fun hh => h (by
      have h2 := hh (1 : Fin 4)
      change g.val ≤ (x 1).val ∧ (x 1).val < g.val + 1 at h2
      omega))]

/-- The first `n` columns of 128 replaced, in order. -/
def yputs (d : S1x128x2048.Idx → Elt F .bf16) (w : Fin 16 → Vec F S1x128x128 .bf16) : (n : ℕ) → n ≤ 16 → S1x128x2048.Idx → Elt F .bf16
  | 0, _ => d
  | n + 1, h => yput (yputs d w n (Nat.le_of_succ_le h)) ⟨n, h⟩ (w ⟨n, h⟩)

theorem yputs_apply (d : S1x128x2048.Idx → Elt F .bf16) (w : Fin 16 → Vec F S1x128x128 .bf16) (n : ℕ) (hn : n ≤ 16) (x : S1x128x2048.Idx)
    (hx : (x 2).val / 128 < n) : yputs d w n hn x = yAll w x := by
  induction n with
  | zero => omega
  | succ n ih =>
    rw [yputs, yput_apply]
    by_cases h : (x 2).val / 128 = n
    · rw [if_pos h]
      subst h
      rfl
    · rw [if_neg h]
      exact ih _ (by omega)

theorem yputs_all (d : S1x128x2048.Idx → Elt F .bf16) (w : Fin 16 → Vec F S1x128x128 .bf16) : yputs d w 16 le_rfl = yAll w := by
  funext x
  have := (x 2).isLt
  change _ < 2048 at this
  exact yputs_apply d w 16 le_rfl x (by omega)

theorem cputs_all (d : S1x2x128x128.Idx → Elt F .fp8e4m3) (w : Fin 2 → Vec F S1x1x128x128 .fp8e4m3) : cput (cput d 0 (w 0)) 1 (w 1) = cAll w := by
  funext x
  rw [cput_apply, cput_apply]
  unfold cAll
  obtain ⟨q, hq⟩ : ∃ q : Fin 2, x 1 = q := ⟨_, rfl⟩
  rw [hq]
  fin_cases q
  · rfl
  · rfl

end Cert.KernelIdeal.Hand
-- ==== Proof.Ki.Parts.lean ====
module

public import proofs.«01_k».proof.Proof.Ki.Win

/-!
# One step of the grid

The parts of a step in turn: the fetches, the query block and the new keys and values of a head, their codes, the attention
over the new tokens, the attention over the fetched blocks, and the columns of the result.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Memref (whole isWhole_whole)
open Idealize.ShloMosaic.ValueIdx
open Idealize.ShloMosaic.RefSig (tileCredit)
open Idealize.ShloMosaic.Pipeline (Dat Cfg Window BodyObligation cellOf)

variable {F : FTy → Type} [FloatOps F] [Named F]

local notation "𝕄" => MT nD τ sig Unit (Elt F) ℕ (Pipeline.UD sig nD τ) ℕ

variable (c : Dev nD) (pk pv : S2048x2x128x128.Idx → Elt F .fp8e4m3) (pt : S32x64.Idx → BitVec 32)
  (sl : S32.Idx → BitVec 32)

/-- Reading a window of a staged block. -/
theorem wp_dead {s : Shape} {e : EltTy} (m : Memref sig .tc .vmem s e) {q : PosShare TreeShare} (d : s.Idx → Elt F e)
    {off size : Fin s.rank → ℕ} {inb : ∀ a, off a + size a ≤ s.size a} {hl} {Q : (((a : Fin s.rank) → Fin (size a)) → Elt F e) → sProp 𝕄} :
    (owns (c : Thread nD τ) m q d : sProp 𝕄) ⊢ iprop((owns (c : Thread nD τ) m q d -∗ Q (VecWindow.window d off size inb)) -∗
      wp (M := 𝕄) frame (wpE (defs₀ (F := F)) Variants.none (Dev.tc c : Thread nD τ) none) Set.univ (Prog.lift (.load m (Rect.unit off size inb).toLoadRect hl)) Q) := wp_wload c m d rfl inb

/-- The queries of the first head: eight column blocks stacked. -/
def qry0 (x : S1x128x2048.Idx → Elt F .bf16) : FVec F S1024x128 .bf16 :=
  k0_pay54 (k0_pay48 (xs x 0)) (k0_pay49 (xs x 1)) (k0_pay50 (xs x 2)) (k0_pay51 (xs x 3)) (k0_pay52 (xs x 4)) (k0_pay53 (xs x 5)) (xs x 6) (xs x 7)
/-- The queries of the second head. -/
def qry1 (x : S1x128x2048.Idx → Elt F .bf16) : FVec F S1024x128 .bf16 :=
  k0_pay97 (xs x 8) (xs x 9) (xs x 10) (xs x 11) (xs x 12) (xs x 13) (xs x 14) (xs x 15)
/-- The state after the new tokens, first head. -/
def start0 (v13 v14 : Elt F .f32) (q : FVec F S1024x128 .bf16) (k v : Vec F S1x1x128x128 .bf16) : St F :=
  (k0_pay62 v13 q (k0_pay55 v13 k), k0_pay66 v13 q (k0_pay55 v13 k),
    k0_pay68 (k0_pay65 v13 q (k0_pay55 v13 k)) (k0_pay67 v13 v14 q (k0_pay55 v13 k) (k0_pay56 v14 v)) (k0_pay59 (Scalar.ofBits .f32 0#32)))
/-- The state after the new tokens, second head. -/
def start1 (v13 v14 : Elt F .f32) (q : FVec F S1024x128 .bf16) (k v : Vec F S1x1x128x128 .bf16) : St F :=
  (k0_pay108 k0_pay103 (k0_pay105 v13 q (k0_pay98 v13 k)), k0_pay112 k0_pay103 k0_pay104 (k0_pay105 v13 q (k0_pay98 v13 k)),
    k0_pay113 k0_pay103 (k0_pay105 v13 q (k0_pay98 v13 k)) (k0_pay106 v14) (k0_pay107 v14 v) k0_pay102)
theorem start1_eq (v13 v14 : Elt F .f32) (q : FVec F S1024x128 .bf16) (k v : Vec F S1x1x128x128 .bf16) :
    start1 v13 v14 q k v = start0 v13 v14 q k v := rfl
/-- The columns of the result of the first head. -/
def cols0 (l : FVec F S1x1024 .f32) (a : FVec F S128x1024 .f32) : Fin 8 → Vec F S1x128x128 .bf16 :=
  ![k0_pay88 l a, k0_pay89 l a, k0_pay91 (k0_pay90 l a), k0_pay92 (k0_pay87 l a), k0_pay93 (k0_pay87 l a), k0_pay94 (k0_pay87 l a),
    k0_pay95 (k0_pay87 l a), k0_pay96 (k0_pay87 l a)]
/-- The columns of the result of the second head. -/
def cols1 (l : FVec F S1x1024 .f32) (a : FVec F S128x1024 .f32) : Fin 8 → Vec F S1x128x128 .bf16 :=
  ![k0_pay121 l a, k0_pay122 l a, k0_pay123 l a, k0_pay124 l a, k0_pay125 l a, k0_pay1 (k0_pay126 l a), k0_pay2 (k0_pay120 l a), k0_pay3 (k0_pay120 l a)]
theorem cols1_eq (l : FVec F S1x1024 .f32) (a : FVec F S128x1024 .f32) : cols1 l a = cols0 l a := rfl
/-- All columns of the result from the end states of the two heads. -/
def colsW (A B : St F) (n : Fin 16) : Vec F S1x128x128 .bf16 :=
  if n.val < 8 then cols0 A.2.1 A.2.2 ⟨n.val % 8, Nat.mod_lt _ (by decide)⟩ else cols0 B.2.1 B.2.2 ⟨n.val % 8, Nat.mod_lt _ (by decide)⟩
/-- The codes of the new keys. -/
def kcode (s : S2.Idx → Elt F .f32) (kn : S1x2x128x128.Idx → Elt F .bf16) (g : Fin 2) : Vec F S1x1x128x128 .fp8e4m3 := k0_pay57 (s (ix1 g)) (kn4 kn g)
/-- The codes of the new values. -/
def vcode (s : S2.Idx → Elt F .f32) (vn : S1x2x128x128.Idx → Elt F .bf16) (g : Fin 2) : Vec F S1x1x128x128 .fp8e4m3 := k0_pay58 (s (ix1 g)) (kn4 vn g)

/-- The pages of sequence `b`, for any number. -/
def rowN (b : ℕ) : Fin 64 → Fin 2048 := rowOf pt ⟨b % 32, Nat.mod_lt _ (by decide)⟩
theorem rowN_of {b : ℕ} (h : b < 32) : rowN pt b = rowOf pt ⟨b, h⟩ := congrArg (rowOf pt) (Fin.ext (Nat.mod_eq_of_lt h))
/-- The blocks of sequence `b` fetched before its step. -/
def cntN (b : ℕ) : ℕ := if 0 < b ∧ b < 32 then ((sl (ix1 ⟨b % 32, Nat.mod_lt _ (by decide)⟩)).toNat + 511) / 512 else 0
theorem cntN_of {b : ℕ} (h0 : 0 < b) (h : b < 32) : cntN sl b = ((sl (ix1 ⟨b, h⟩)).toNat + 511) / 512 := by
  unfold cntN
  rw [if_pos ⟨h0, h⟩]
  exact congrArg (fun z : Fin 32 => ((sl (ix1 z)).toNat + 511) / 512) (Fin.ext (Nat.mod_eq_of_lt h))
theorem cntN_no {b : ℕ} (h : ¬ (0 < b ∧ b < 32)) : cntN sl b = 0 := if_neg h

/-- The blocks of the two slots before step `b`. -/
def Slots (b : ℕ) : sProp 𝕄 := iprop(Cells c pk pv (rowN pt b) ⟨b % 2, mod2 _⟩ 0 (cntN sl b) ∗ Cells c pk pv (rowN pt b) ⟨1 - b % 2, omod2 _⟩ 0 0)

/-- After a step: its slot idle, the other slot holding the next sequence. -/
theorem slots_next (b : ℕ) (row : Fin 64 → Fin 2048) (n : ℕ) :
    iprop(Cells c pk pv row ⟨b % 2, mod2 _⟩ n n ∗ Cells c pk pv (rowN pt (b + 1)) ⟨1 - b % 2, omod2 _⟩ 0 (cntN sl (b + 1))) ⊢ Slots c pk pv pt sl (b + 1) := by
  unfold Slots
  have e1 : (⟨(b + 1) % 2, mod2 _⟩ : Fin 2) = ⟨1 - b % 2, omod2 _⟩ := Fin.ext (by show (b + 1) % 2 = 1 - b % 2; omega)
  have e2 : (⟨1 - (b + 1) % 2, omod2 _⟩ : Fin 2) = ⟨b % 2, mod2 _⟩ := Fin.ext (by show 1 - (b + 1) % 2 = b % 2; omega)
  rw [e1, e2]
  iintro ⟨H1, H2⟩
  isplitl [H2]; · iexact H2
  iapply (cells_done c pk pv row (rowN pt (b + 1)) _ n) $$ H1

variable (i : grid0.Coords)
  (a3 : Memref sig .tc .smem S2 .f32) (h3 : a3.IsWhole) (a4 : Memref sig .tc .smem S2 .f32) (h4 : a4.IsWhole)
  (a5 : Memref sig .tc .vmem S1x128x2048 .bf16) (h5 : a5.IsWhole) (a6 a7 : Memref sig .tc .vmem S1x2x128x128 .bf16)
  (h6 : a6.IsWhole) (h7 : a7.IsWhole) (a10 : Memref sig .tc .vmem S1x128x2048 .bf16) (h10 : a10.IsWhole)
  (a11 a12 : Memref sig .tc .vmem S1x2x128x128 .fp8e4m3) (h11 : a11.IsWhole) (h12 : a12.IsWhole)
  (s3 s4 : S2.Idx → Elt F .f32) (x : S1x128x2048.Idx → Elt F .bf16) (kn vn : S1x2x128x128.Idx → Elt F .bf16)

/-- What a step holds, the other slot aside: the blocks of its sequence (the first `k` landed, up to `n` pending), the tables,
the staged blocks and the accumulator. -/
def Res (k n : ℕ) (d10 : S1x128x2048.Idx → Elt F .bf16) (d11 d12 : S1x2x128x128.Idx → Elt F .fp8e4m3) (a : S128x1024.Idx → Elt F .f32) : sProp 𝕄 :=
  iprop(Cells c pk pv (rowOf pt ⟨(i 0).val, iLt i⟩) ⟨(i 0).val % 2, mod2 _⟩ k n ∗ TabP (F := F) c pt ∗ TabL (F := F) c sl ∗
    owns (c : Thread nD τ) a3 fullShare s3 ∗ owns (c : Thread nD τ) a4 fullShare s4 ∗ owns (c : Thread nD τ) a5 fullShare x ∗
    owns (c : Thread nD τ) a6 fullShare kn ∗ owns (c : Thread nD τ) a7 fullShare vn ∗ owns (c : Thread nD τ) a10 fullShare d10 ∗
    owns (c : Thread nD τ) a11 fullShare d11 ∗ owns (c : Thread nD τ) a12 fullShare d12 ∗ AccAt c a ∗ Owe (F := F) c)

set_option maxHeartbeats 400000 in
/-- The queries and the codes of the first head. -/
theorem part26_run (k n : ℕ) (d10 : S1x128x2048.Idx → Elt F .bf16) (d11 d12 : S1x2x128x128.Idx → Elt F .fp8e4m3) (a : S128x1024.Idx → Elt F .f32) (v13 v14 : Elt F .f32) (w0 : FVec F S128x128 .bf16) (w1 : FVec F S128x128 .bf16) (w2 : FVec F S128x128 .bf16) (w3 : FVec F S128x128 .bf16) (w4 : FVec F S128x128 .bf16) (w5 : FVec F S128x128 .bf16) {Q : _ → sProp 𝕄} :
    Res c pk pv pt sl i a3 a4 a5 a6 a7 a10 a11 a12 s3 s4 x kn vn k n d10 d11 d12 a ⊢ iprop((Res c pk pv pt sl i a3 a4 a5 a6 a7 a10 a11 a12 s3 s4 x kn vn k n d10 (cput d11 0 (k0_pay57 v13 (kn4 kn 0))) (cput d12 0 (k0_pay58 v14 (kn4 vn 0))) a -∗ Q ⟨k0_pay54 w0 w1 w2 w3 w4 w5 (xs x 6) (xs x 7), k0_pay55 v13 (kn4 kn 0), k0_pay56 v14 (kn4 vn 0), Scalar.ofBits .f32 0#32⟩) -∗ wp (M := 𝕄) frame (wpE (defs₀ (F := F)) Variants.none (Dev.tc c : Thread nD τ) none) Set.univ (k0_part26 i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 v13 v14 w0 w1 w2 w3 w4 w5) Q) := by
  rw [k0_part26_eq_skeleton]
  unfold k0_part26_skel
  unfold Res
  iintro ⟨HC, HT, HL, H3, H4, H5, H6, H7, H10, H11, H12, HA, HW⟩ HQ
  rw [wp_bind]
  iapply (wp_xload c a5 x 6 rfl) $$ H5
  iintro H5
  rw [wp_bind]
  iapply (wp_xload c a5 x 7 rfl) $$ H5
  iintro H5
  rw [wp_bind]
  iapply (wp_nload c a6 kn 0 rfl) $$ H6
  iintro H6
  rw [wp_bind]
  iapply (wp_nload c a7 vn 0 rfl) $$ H7
  iintro H7
  rw [wp_bind]
  iapply (wp_dead c a11 _) $$ H11
  iintro H11
  rw [wp_bind]
  iapply (wp_cput c a11 _ 0 _ rfl) $$ H11
  iintro H11
  rw [wp_bind]
  iapply (wp_dead c a12 _) $$ H12
  iintro H12
  rw [wp_bind]
  iapply (wp_cput c a12 _ 0 _ rfl) $$ H12
  iintro H12
  rw [wp_pureK]
  imodintro
  iapply HQ
  isplitl [HC]; · iexact HC
  isplitl [HT]; · iexact HT
  isplitl [HL]; · iexact HL
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  isplitl [HA]; · iexact HA
  iexact HW

set_option maxHeartbeats 400000 in
/-- The scores of the new tokens of the first head. -/
theorem part27_run (k n : ℕ) (d10 : S1x128x2048.Idx → Elt F .bf16) (d11 d12 : S1x2x128x128.Idx → Elt F .fp8e4m3) (a : S128x1024.Idx → Elt F .f32) (v13 v14 : Elt F .f32) (q : FVec F S1024x128 .bf16) (v41 v51 : FVec F S128x128 .fp8e4m3) (z : F .f32) {Q : _ → sProp 𝕄} :
    Res c pk pv pt sl i a3 a4 a5 a6 a7 a10 a11 a12 s3 s4 x kn vn k n d10 d11 d12 a ⊢ iprop((Res c pk pv pt sl i a3 a4 a5 a6 a7 a10 a11 a12 s3 s4 x kn vn k n d10 d11 d12 (k0_pay59 z) -∗ Q ⟨k0_pay62 v13 q v41, k0_pay65 v13 q v41, k0_pay66 v13 q v41, k0_pay67 v13 v14 q v41 v51⟩) -∗ wp (M := 𝕄) frame (wpE (defs₀ (F := F)) Variants.none (Dev.tc c : Thread nD τ) none) Set.univ (k0_part27 i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 v13 v14 q v41 v51 z) Q) := by
  rw [k0_part27_eq_skeleton]
  unfold k0_part27_skel
  unfold Res
  iintro ⟨HC, HT, HL, H3, H4, H5, H6, H7, H10, H11, H12, HA, HW⟩ HQ
  rw [wp_bind]
  iapply (wp_accLoad c _) $$ HA
  iintro HA
  rw [wp_bind]
  iapply (wp_accStore c _ _) $$ HA
  iintro HA
  rw [wp_pureK]
  imodintro
  iapply HQ
  isplitl [HC]; · iexact HC
  isplitl [HT]; · iexact HT
  isplitl [HL]; · iexact HL
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  isplitl [HA]; · iexact HA
  iexact HW

set_option maxHeartbeats 400000 in
/-- The attention over the blocks of the first head. -/
theorem part28_run (hpt : ∀ x, (pt x).toNat < 2048) (hsl : ∀ x, (sl x).toNat ≤ 8192) (d10 : S1x128x2048.Idx → Elt F .bf16) (d11 d12 : S1x2x128x128.Idx → Elt F .fp8e4m3) (a : S128x1024.Idx → Elt F .f32) (arg0 v0 v12 : BitVec 32) (v13 v14 : Elt F .f32) (q : FVec F S1024x128 .bf16) (v84 v95 v99 : FVec F S1x1024 .f32) (v101 : FVec F S128x1024 .f32) (hw : k0_chk19 i (sl (ix1 ⟨(i 0).val, iLt i⟩))) {Q : _ → sProp 𝕄} :
    Res c pk pv pt sl i a3 a4 a5 a6 a7 a10 a11 a12 s3 s4 x kn vn 0 (((sl (ix1 ⟨(i 0).val, iLt i⟩)).toNat + 511) / 512) d10 d11 d12 a ⊢ iprop((Res c pk pv pt sl i a3 a4 a5 a6 a7 a10 a11 a12 s3 s4 x kn vn (((sl (ix1 ⟨(i 0).val, iLt i⟩)).toNat + 511) / 512) (((sl (ix1 ⟨(i 0).val, iLt i⟩)).toNat + 511) / 512) (yput (yput d10 0 (k0_pay88 (foldAll pk pv 0 (sl (ix1 ⟨(i 0).val, iLt i⟩)) v13 v14 q (rowOf pt ⟨(i 0).val, iLt i⟩) (v84, v99, k0_pay68 v95 v101 a)).2.1 (foldAll pk pv 0 (sl (ix1 ⟨(i 0).val, iLt i⟩)) v13 v14 q (rowOf pt ⟨(i 0).val, iLt i⟩) (v84, v99, k0_pay68 v95 v101 a)).2.2)) 1 (k0_pay89 (foldAll pk pv 0 (sl (ix1 ⟨(i 0).val, iLt i⟩)) v13 v14 q (rowOf pt ⟨(i 0).val, iLt i⟩) (v84, v99, k0_pay68 v95 v101 a)).2.1 (foldAll pk pv 0 (sl (ix1 ⟨(i 0).val, iLt i⟩)) v13 v14 q (rowOf pt ⟨(i 0).val, iLt i⟩) (v84, v99, k0_pay68 v95 v101 a)).2.2)) d11 d12 (foldAll pk pv 0 (sl (ix1 ⟨(i 0).val, iLt i⟩)) v13 v14 q (rowOf pt ⟨(i 0).val, iLt i⟩) (v84, v99, k0_pay68 v95 v101 a)).2.2 -∗ Q ⟨k0_pay87 (foldAll pk pv 0 (sl (ix1 ⟨(i 0).val, iLt i⟩)) v13 v14 q (rowOf pt ⟨(i 0).val, iLt i⟩) (v84, v99, k0_pay68 v95 v101 a)).2.1 (foldAll pk pv 0 (sl (ix1 ⟨(i 0).val, iLt i⟩)) v13 v14 q (rowOf pt ⟨(i 0).val, iLt i⟩) (v84, v99, k0_pay68 v95 v101 a)).2.2, k0_pay90 (foldAll pk pv 0 (sl (ix1 ⟨(i 0).val, iLt i⟩)) v13 v14 q (rowOf pt ⟨(i 0).val, iLt i⟩) (v84, v99, k0_pay68 v95 v101 a)).2.1 (foldAll pk pv 0 (sl (ix1 ⟨(i 0).val, iLt i⟩)) v13 v14 q (rowOf pt ⟨(i 0).val, iLt i⟩) (v84, v99, k0_pay68 v95 v101 a)).2.2⟩) -∗ wp (M := 𝕄) frame (wpE (defs₀ (F := F)) Variants.none (Dev.tc c : Thread nD τ) none) Set.univ (k0_part28 i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 arg0 v0 (sl (ix1 ⟨(i 0).val, iLt i⟩)) hw (Scalar.shrui (sl (ix1 ⟨(i 0).val, iLt i⟩)) 9#32) v12 v13 v14 q v84 v95 v99 v101) Q) := by
  rw [k0_part28_eq_skeleton]
  unfold k0_part28_skel
  unfold Res foldAll
  iintro ⟨HC, HT, HL, H3, H4, H5, H6, H7, H10, H11, H12, HA, HW⟩ HQ
  rw [wp_bind]
  iapply (wp_accLoad c _) $$ HA
  iintro HA
  rw [wp_bind]
  iapply (wp_accLoad c _) $$ HA
  iintro HA
  rw [wp_bind]
  iapply (wp_accStore c _ _) $$ HA
  iintro HA
  rw [wp_bind]
  iapply (wp_wand frame (wpE (defs₀ (F := F)) Variants.none (Dev.tc c : Thread nD τ) none) Set.univ) $$ [HC HT HA HW]
  · iapply (attLoop5 c pk pv pt i a3 h3 a4 h4 a5 h5 a6 a7 h6 h7 a10 h10 a11 a12 h11 h12 hpt (sl (ix1 ⟨(i 0).val, iLt i⟩)) (hsl _) hw arg0 v0 (Scalar.shrui (sl (ix1 ⟨(i 0).val, iLt i⟩)) 9#32) v12 v13 v14 q v84 v95 v99 v101 _ (v84, v99, k0_pay68 v95 v101 a))
    isplitl [HC]; · iexact HC
    isplitl [HT]; · iexact HT
    isplitl [HA]; · iexact HA
    iexact HW
  iintro %r ⟨%e, HC, HT, HA, HW⟩
  subst e
  dsimp only
  rw [wp_bind]
  iapply (wp_noLoop c _ _ _ _ (t6_no (hsl _)))
  dsimp only
  rw [wp_bind]
  iapply (wp_wand frame (wpE (defs₀ (F := F)) Variants.none (Dev.tc c : Thread nD τ) none) Set.univ) $$ [HC HT HA HW]
  · iapply (attLoop7 c pk pv pt i a3 h3 a4 h4 a5 h5 a6 a7 h6 h7 a10 h10 a11 a12 h11 h12 hpt (sl (ix1 ⟨(i 0).val, iLt i⟩)) (hsl _) hw arg0 v0 v12 v13 v14 q v84 v95 v99 v101 _ (runSt (foldU pk pv 0 v13 v14 q (rowOf pt ⟨(i 0).val, iLt i⟩)) ((sl (ix1 ⟨(i 0).val, iLt i⟩)).toNat / 512 - 0) (v84, v99, k0_pay68 v95 v101 a)))
    isplitl [HC]; · iexact HC
    isplitl [HT]; · iexact HT
    isplitl [HA]; · iexact HA
    iexact HW
  iintro %r ⟨%e, HC, HT, HA, HW⟩
  subst e
  dsimp only
  rw [show (sl (ix1 ⟨(i 0).val, iLt i⟩)).toNat / 512 + ((((sl (ix1 ⟨(i 0).val, iLt i⟩)).toNat + 511) / 512) - (sl (ix1 ⟨(i 0).val, iLt i⟩)).toNat / 512) = (((sl (ix1 ⟨(i 0).val, iLt i⟩)).toNat + 511) / 512) from by omega]
  rw [wp_bind]
  iapply (wp_noLoop c _ _ _ _ (t8_no (hsl _)))
  dsimp only
  rw [wp_bind]
  iapply (wp_accLoad c _) $$ HA
  iintro HA
  rw [wp_bind]
  iapply (wp_dead c a10 _) $$ H10
  iintro H10
  rw [wp_bind]
  iapply (wp_yput c a10 _ 0 _ rfl) $$ H10
  iintro H10
  rw [wp_bind]
  iapply (wp_dead c a10 _) $$ H10
  iintro H10
  rw [wp_bind]
  iapply (wp_yput c a10 _ 1 _ rfl) $$ H10
  iintro H10
  rw [wp_pureK]
  imodintro
  iapply HQ
  isplitl [HC]; · iexact HC
  isplitl [HT]; · iexact HT
  isplitl [HL]; · iexact HL
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  isplitl [HA]; · iexact HA
  iexact HW

set_option maxHeartbeats 400000 in
/-- The remaining columns of the first head, and the scales of the second. -/
theorem part29_run (k n : ℕ) (d10 : S1x128x2048.Idx → Elt F .bf16) (d11 d12 : S1x2x128x128.Idx → Elt F .fp8e4m3) (a : S128x1024.Idx → Elt F .f32) (o : FVec F S128x1024 .f32) (o2 : FVec F S128x128 .bf16) {Q : _ → sProp 𝕄} :
    Res c pk pv pt sl i a3 a4 a5 a6 a7 a10 a11 a12 s3 s4 x kn vn k n d10 d11 d12 a ⊢ iprop((Res c pk pv pt sl i a3 a4 a5 a6 a7 a10 a11 a12 s3 s4 x kn vn k n (yput (yput (yput (yput (yput (yput d10 2 (k0_pay91 o2)) 3 (k0_pay92 o)) 4 (k0_pay93 o)) 5 (k0_pay94 o)) 6 (k0_pay95 o)) 7 (k0_pay96 o)) d11 d12 a -∗ Q ⟨s3 (ix1 1), s4 (ix1 1)⟩) -∗ wp (M := 𝕄) frame (wpE (defs₀ (F := F)) Variants.none (Dev.tc c : Thread nD τ) none) Set.univ (k0_part29 i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 o o2) Q) := by
  rw [k0_part29_eq_skeleton]
  unfold k0_part29_skel
  unfold Res
  iintro ⟨HC, HT, HL, H3, H4, H5, H6, H7, H10, H11, H12, HA, HW⟩ HQ
  rw [wp_bind]
  iapply (wp_dead c a10 _) $$ H10
  iintro H10
  rw [wp_bind]
  iapply (wp_yput c a10 _ 2 _ rfl) $$ H10
  iintro H10
  rw [wp_bind]
  iapply (wp_dead c a10 _) $$ H10
  iintro H10
  rw [wp_bind]
  iapply (wp_yput c a10 _ 3 _ rfl) $$ H10
  iintro H10
  rw [wp_bind]
  iapply (wp_dead c a10 _) $$ H10
  iintro H10
  rw [wp_bind]
  iapply (wp_yput c a10 _ 4 _ rfl) $$ H10
  iintro H10
  rw [wp_bind]
  iapply (wp_dead c a10 _) $$ H10
  iintro H10
  rw [wp_bind]
  iapply (wp_yput c a10 _ 5 _ rfl) $$ H10
  iintro H10
  rw [wp_bind]
  iapply (wp_dead c a10 _) $$ H10
  iintro H10
  rw [wp_bind]
  iapply (wp_yput c a10 _ 6 _ rfl) $$ H10
  iintro H10
  rw [wp_bind]
  iapply (wp_dead c a10 _) $$ H10
  iintro H10
  rw [wp_bind]
  iapply (wp_yput c a10 _ 7 _ rfl) $$ H10
  iintro H10
  rw [wp_bind]
  iapply (wp_wsmem c a3 s3 1 rfl) $$ H3
  iintro H3
  rw [wp_bind]
  iapply (wp_wsmem c a4 s4 1 rfl) $$ H4
  iintro H4
  rw [wp_pureK]
  imodintro
  iapply HQ
  isplitl [HC]; · iexact HC
  isplitl [HT]; · iexact HT
  isplitl [HL]; · iexact HL
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  isplitl [HA]; · iexact HA
  iexact HW

set_option maxHeartbeats 400000 in
/-- The queries and the keys of the second head. -/
theorem part30_run (k n : ℕ) (d10 : S1x128x2048.Idx → Elt F .bf16) (d11 d12 : S1x2x128x128.Idx → Elt F .fp8e4m3) (a : S128x1024.Idx → Elt F .f32) (v174 : Elt F .f32) {Q : _ → sProp 𝕄} :
    Res c pk pv pt sl i a3 a4 a5 a6 a7 a10 a11 a12 s3 s4 x kn vn k n d10 d11 d12 a ⊢ iprop((Res c pk pv pt sl i a3 a4 a5 a6 a7 a10 a11 a12 s3 s4 x kn vn k n d10 d11 d12 a -∗ Q ⟨k0_pay97 (xs x 8) (xs x 9) (xs x 10) (xs x 11) (xs x 12) (xs x 13) (xs x 14) (xs x 15), k0_pay98 v174 (kn4 kn 1)⟩) -∗ wp (M := 𝕄) frame (wpE (defs₀ (F := F)) Variants.none (Dev.tc c : Thread nD τ) none) Set.univ (k0_part30 i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 v174) Q) := by
  rw [k0_part30_eq_skeleton]
  unfold k0_part30_skel
  unfold Res
  iintro ⟨HC, HT, HL, H3, H4, H5, H6, H7, H10, H11, H12, HA, HW⟩ HQ
  rw [wp_bind]
  iapply (wp_xload c a5 x 8 rfl) $$ H5
  iintro H5
  rw [wp_bind]
  iapply (wp_xload c a5 x 9 rfl) $$ H5
  iintro H5
  rw [wp_bind]
  iapply (wp_xload c a5 x 10 rfl) $$ H5
  iintro H5
  rw [wp_bind]
  iapply (wp_xload c a5 x 11 rfl) $$ H5
  iintro H5
  rw [wp_bind]
  iapply (wp_xload c a5 x 12 rfl) $$ H5
  iintro H5
  rw [wp_bind]
  iapply (wp_xload c a5 x 13 rfl) $$ H5
  iintro H5
  rw [wp_bind]
  iapply (wp_xload c a5 x 14 rfl) $$ H5
  iintro H5
  rw [wp_bind]
  iapply (wp_xload c a5 x 15 rfl) $$ H5
  iintro H5
  rw [wp_bind]
  iapply (wp_nload c a6 kn 1 rfl) $$ H6
  iintro H6
  rw [wp_pureK]
  imodintro
  iapply HQ
  isplitl [HC]; · iexact HC
  isplitl [HT]; · iexact HT
  isplitl [HL]; · iexact HL
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  isplitl [HA]; · iexact HA
  iexact HW

set_option maxHeartbeats 400000 in
/-- The codes of the second head and the scores of its new tokens. -/
theorem part31_run (k n : ℕ) (d10 : S1x128x2048.Idx → Elt F .bf16) (d11 d12 : S1x2x128x128.Idx → Elt F .fp8e4m3) (a : S128x1024.Idx → Elt F .f32) (v13 v14 : Elt F .f32) (q : FVec F S1024x128 .bf16) (v202 : FVec F S128x128 .fp8e4m3) {Q : _ → sProp 𝕄} :
    Res c pk pv pt sl i a3 a4 a5 a6 a7 a10 a11 a12 s3 s4 x kn vn k n d10 d11 d12 a ⊢ iprop((Res c pk pv pt sl i a3 a4 a5 a6 a7 a10 a11 a12 s3 s4 x kn vn k n d10 (cput d11 1 (k0_pay100 v202)) (cput d12 1 (k0_pay101 v14 (kn4 vn 1))) k0_pay102 -∗ Q ⟨k0_pay103, k0_pay104, k0_pay105 v13 q v202, k0_pay106 v14, k0_pay107 v14 (kn4 vn 1)⟩) -∗ wp (M := 𝕄) frame (wpE (defs₀ (F := F)) Variants.none (Dev.tc c : Thread nD τ) none) Set.univ (k0_part31 i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 v13 v14 q v202) Q) := by
  rw [k0_part31_eq_skeleton]
  unfold k0_part31_skel
  unfold Res
  iintro ⟨HC, HT, HL, H3, H4, H5, H6, H7, H10, H11, H12, HA, HW⟩ HQ
  rw [wp_bind]
  iapply (wp_nload c a7 vn 1 rfl) $$ H7
  iintro H7
  rw [wp_bind]
  iapply (wp_dead c a11 _) $$ H11
  iintro H11
  rw [wp_bind]
  iapply (wp_cput c a11 _ 1 _ rfl) $$ H11
  iintro H11
  rw [wp_bind]
  iapply (wp_dead c a12 _) $$ H12
  iintro H12
  rw [wp_bind]
  iapply (wp_cput c a12 _ 1 _ rfl) $$ H12
  iintro H12
  rw [wp_bind]
  iapply (wp_accLoad c _) $$ HA
  iintro HA
  rw [wp_bind]
  iapply (wp_accStore c _ _) $$ HA
  iintro HA
  rw [wp_pureK]
  imodintro
  iapply HQ
  isplitl [HC]; · iexact HC
  isplitl [HT]; · iexact HT
  isplitl [HL]; · iexact HL
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  isplitl [HA]; · iexact HA
  iexact HW

set_option maxHeartbeats 400000 in
/-- The attention over the blocks of the second head. -/
theorem part32_run (hpt : ∀ x, (pt x).toNat < 2048) (hsl : ∀ x, (sl x).toNat ≤ 8192) (d10 : S1x128x2048.Idx → Elt F .bf16) (d11 d12 : S1x2x128x128.Idx → Elt F .fp8e4m3) (a : S128x1024.Idx → Elt F .f32) (v0 v12 : BitVec 32) (v13 v14 : Elt F .f32) (q : FVec F S1024x128 .bf16) (v223 v224 : FVec F S1x1024 .f32) (v237 : FVec F S128x1024 .f32) (v239 : FVec F S1x128 .bf16) (v240 : FVec F S128x128 .bf16) (hw : k0_chk19 i (sl (ix1 ⟨(i 0).val, iLt i⟩))) {Q : _ → sProp 𝕄} :
    Res c pk pv pt sl i a3 a4 a5 a6 a7 a10 a11 a12 s3 s4 x kn vn (((sl (ix1 ⟨(i 0).val, iLt i⟩)).toNat + 511) / 512) (((sl (ix1 ⟨(i 0).val, iLt i⟩)).toNat + 511) / 512) d10 d11 d12 a ⊢ iprop((Res c pk pv pt sl i a3 a4 a5 a6 a7 a10 a11 a12 s3 s4 x kn vn (((sl (ix1 ⟨(i 0).val, iLt i⟩)).toNat + 511) / 512) (((sl (ix1 ⟨(i 0).val, iLt i⟩)).toNat + 511) / 512) d10 d11 d12 (foldAll pk pv 1 (sl (ix1 ⟨(i 0).val, iLt i⟩)) v13 v14 q (rowOf pt ⟨(i 0).val, iLt i⟩) (k0_pay108 v223 v237, k0_pay112 v223 v224 v237, k0_pay113 v223 v237 v239 v240 a)).2.2 -∗ Q ⟨(Scalar.addi (Scalar.shrui (sl (ix1 ⟨(i 0).val, iLt i⟩)) 9#32) (Scalar.muli (Scalar.divsi (Scalar.subi v12 (Scalar.shrui (sl (ix1 ⟨(i 0).val, iLt i⟩)) 9#32)) 1#32) 1#32)), (foldAll pk pv 1 (sl (ix1 ⟨(i 0).val, iLt i⟩)) v13 v14 q (rowOf pt ⟨(i 0).val, iLt i⟩) (k0_pay108 v223 v237, k0_pay112 v223 v224 v237, k0_pay113 v223 v237 v239 v240 a)).1, (foldAll pk pv 1 (sl (ix1 ⟨(i 0).val, iLt i⟩)) v13 v14 q (rowOf pt ⟨(i 0).val, iLt i⟩) (k0_pay108 v223 v237, k0_pay112 v223 v224 v237, k0_pay113 v223 v237 v239 v240 a)).2.1, 1#32⟩) -∗ wp (M := 𝕄) frame (wpE (defs₀ (F := F)) Variants.none (Dev.tc c : Thread nD τ) none) Set.univ (k0_part32 i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 v0 (sl (ix1 ⟨(i 0).val, iLt i⟩)) hw (Scalar.shrui (sl (ix1 ⟨(i 0).val, iLt i⟩)) 9#32) v12 v13 v14 q v223 v224 v237 v239 v240) Q) := by
  rw [k0_part32_eq_skeleton]
  unfold k0_part32_skel
  unfold Res foldAll
  iintro ⟨HC, HT, HL, H3, H4, H5, H6, H7, H10, H11, H12, HA, HW⟩ HQ
  rw [wp_bind]
  iapply (wp_accLoad c _) $$ HA
  iintro HA
  rw [wp_bind]
  iapply (wp_accLoad c _) $$ HA
  iintro HA
  rw [wp_bind]
  iapply (wp_accStore c _ _) $$ HA
  iintro HA
  rw [wp_bind]
  iapply (wp_wand frame (wpE (defs₀ (F := F)) Variants.none (Dev.tc c : Thread nD τ) none) Set.univ) $$ [HC HT HA HW]
  · iapply (attLoop9 c pk pv pt i a3 h3 a4 h4 a5 h5 a6 a7 h6 h7 a10 h10 a11 a12 h11 h12 hpt (sl (ix1 ⟨(i 0).val, iLt i⟩)) (hsl _) hw v0 (Scalar.shrui (sl (ix1 ⟨(i 0).val, iLt i⟩)) 9#32) v12 v13 v14 q v223 v224 v237 v239 v240 _ (k0_pay108 v223 v237, k0_pay112 v223 v224 v237, k0_pay113 v223 v237 v239 v240 a))
    isplitl [HC]; · iexact HC
    isplitl [HT]; · iexact HT
    isplitl [HA]; · iexact HA
    iexact HW
  iintro %r ⟨%e, HC, HT, HA, HW⟩
  subst e
  dsimp only
  rw [wp_bind]
  iapply (wp_noLoop c _ _ _ _ (t10_no (hsl _)))
  dsimp only
  rw [wp_bind]
  iapply (wp_wand frame (wpE (defs₀ (F := F)) Variants.none (Dev.tc c : Thread nD τ) none) Set.univ) $$ [HC HT HA HW]
  · iapply (attLoop11 c pk pv pt i a3 h3 a4 h4 a5 h5 a6 a7 h6 h7 a10 h10 a11 a12 h11 h12 hpt (sl (ix1 ⟨(i 0).val, iLt i⟩)) (hsl _) hw v0 v12 v13 v14 q v223 v224 v237 v239 v240 _ (runSt (foldU pk pv 1 v13 v14 q (rowOf pt ⟨(i 0).val, iLt i⟩)) ((sl (ix1 ⟨(i 0).val, iLt i⟩)).toNat / 512 - 0) (k0_pay108 v223 v237, k0_pay112 v223 v224 v237, k0_pay113 v223 v237 v239 v240 a)))
    isplitl [HC]; · iexact HC
    isplitl [HT]; · iexact HT
    isplitl [HA]; · iexact HA
    iexact HW
  iintro %r ⟨%e, HC, HT, HA, HW⟩
  subst e
  dsimp only
  rw [wp_pureK]
  imodintro
  iapply HQ
  isplitl [HC]; · iexact HC
  isplitl [HT]; · iexact HT
  isplitl [HL]; · iexact HL
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  isplitl [HA]; · iexact HA
  iexact HW

set_option maxHeartbeats 400000 in
/-- Columns of the second head. -/
theorem part33_run (k n : ℕ) (hsl : ∀ x, (sl x).toNat ≤ 8192) (d10 : S1x128x2048.Idx → Elt F .bf16) (d11 d12 : S1x2x128x128.Idx → Elt F .fp8e4m3) (a : S128x1024.Idx → Elt F .f32) (v0 : BitVec 32) (v13 v14 : Elt F .f32) (q : FVec F S1024x128 .bf16) (v281 : BitVec 32) (m l : FVec F S1x1024 .f32) (w : BitVec 32) (hw : k0_chk19 i (sl (ix1 ⟨(i 0).val, iLt i⟩))) {Q : _ → sProp 𝕄} :
    Res c pk pv pt sl i a3 a4 a5 a6 a7 a10 a11 a12 s3 s4 x kn vn k n d10 d11 d12 a ⊢ iprop((Res c pk pv pt sl i a3 a4 a5 a6 a7 a10 a11 a12 s3 s4 x kn vn k n (yput (yput (yput (yput (yput d10 8 (k0_pay121 l a)) 9 (k0_pay122 l a)) 10 (k0_pay123 l a)) 11 (k0_pay124 l a)) 12 (k0_pay125 l a)) d11 d12 a -∗ Q ⟨k0_pay120 l a, k0_pay126 l a⟩) -∗ wp (M := 𝕄) frame (wpE (defs₀ (F := F)) Variants.none (Dev.tc c : Thread nD τ) none) Set.univ (k0_part33 i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 v0 (sl (ix1 ⟨(i 0).val, iLt i⟩)) hw v13 v14 q v281 m l w) Q) := by
  rw [k0_part33_eq_skeleton]
  unfold k0_part33_skel
  unfold Res
  iintro ⟨HC, HT, HL, H3, H4, H5, H6, H7, H10, H11, H12, HA, HW⟩ HQ
  rw [wp_bind]
  iapply (wp_noLoop c _ _ _ _ (t12_no (hsl _)))
  dsimp only
  rw [wp_bind]
  iapply (wp_accLoad c _) $$ HA
  iintro HA
  rw [wp_bind]
  iapply (wp_dead c a10 _) $$ H10
  iintro H10
  rw [wp_bind]
  iapply (wp_yput c a10 _ 8 _ rfl) $$ H10
  iintro H10
  rw [wp_bind]
  iapply (wp_dead c a10 _) $$ H10
  iintro H10
  rw [wp_bind]
  iapply (wp_yput c a10 _ 9 _ rfl) $$ H10
  iintro H10
  rw [wp_bind]
  iapply (wp_dead c a10 _) $$ H10
  iintro H10
  rw [wp_bind]
  iapply (wp_yput c a10 _ 10 _ rfl) $$ H10
  iintro H10
  rw [wp_bind]
  iapply (wp_dead c a10 _) $$ H10
  iintro H10
  rw [wp_bind]
  iapply (wp_yput c a10 _ 11 _ rfl) $$ H10
  iintro H10
  rw [wp_bind]
  iapply (wp_dead c a10 _) $$ H10
  iintro H10
  rw [wp_bind]
  iapply (wp_yput c a10 _ 12 _ rfl) $$ H10
  iintro H10
  rw [wp_pureK]
  imodintro
  iapply HQ
  isplitl [HC]; · iexact HC
  isplitl [HT]; · iexact HT
  isplitl [HL]; · iexact HL
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  isplitl [HA]; · iexact HA
  iexact HW

end Cert.KernelIdeal.Hand
-- ==== Proof.Ki.Step.lean ====
module

public import proofs.«01_k».proof.Proof.Ki.Parts

/-!
# The fetches of a step, and the step as a whole

The first step fetches its own sequence; every step but the last fetches the next sequence into the other slot.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Memref (whole isWhole_whole)
open Idealize.ShloMosaic.ValueIdx
open Idealize.ShloMosaic.RefSig (tileCredit)
open Idealize.ShloMosaic.Pipeline (Dat Cfg Window BodyObligation cellOf)

variable {F : FTy → Type} [FloatOps F] [Named F]

local notation "𝕄" => MT nD τ sig Unit (Elt F) ℕ (Pipeline.UD sig nD τ) ℕ

variable (c : Dev nD) (pk pv : S2048x2x128x128.Idx → Elt F .fp8e4m3) (pt : S32x64.Idx → BitVec 32)
  (sl : S32.Idx → BitVec 32)
variable (i : grid0.Coords)
  (a3 : Memref sig .tc .smem S2 .f32) (h3 : a3.IsWhole) (a4 : Memref sig .tc .smem S2 .f32) (h4 : a4.IsWhole)
  (a5 : Memref sig .tc .vmem S1x128x2048 .bf16) (h5 : a5.IsWhole) (a6 a7 : Memref sig .tc .vmem S1x2x128x128 .bf16)
  (h6 : a6.IsWhole) (h7 : a7.IsWhole) (a10 : Memref sig .tc .vmem S1x128x2048 .bf16) (h10 : a10.IsWhole)
  (a11 a12 : Memref sig .tc .vmem S1x2x128x128 .fp8e4m3) (h11 : a11.IsWhole) (h12 : a12.IsWhole)

/-- The reads that follow the fetches. -/
abbrev readQ : Prog (TpuEff nD τ sig (Elt F) Λ₀ .tc) (Σ' (arg0 : BitVec 32) (v0 : BitVec 32) (v9 : Elt F .i32) (k0_hw19 : k0_chk19 i v9) (v10 : BitVec 32) (v12 : BitVec 32) (v13 : Elt F .f32) (v14 : Elt F .f32) (v16 : FVec F S128x128 .bf16) (v18 : FVec F S128x128 .bf16) (v20 : FVec F S128x128 .bf16) (v22 : FVec F S128x128 .bf16) (v24 : FVec F S128x128 .bf16), FVec F S128x128 .bf16) := do
  let v9 : Elt F .i32 ← smemLoad (whole main_arg8) (Rect.unit (s := S32) (k0_off62 i) S1.size (k0_off62_inb i)) numel1_S1 rfl
  have k0_hw19 : k0_chk19 i v9 := (← Prog.lift (TpuEff.assume (k0_chk19 i v9) (k0_chk19.dec i v9))).down
  let v13 : Elt F .f32 ← smemLoad a3 (Rect.unit (s := S2) ![0] S1.size inb_S2_S1_0) numel1_S1 rfl
  let v14 : Elt F .f32 ← smemLoad a4 (Rect.unit (s := S2) ![0] S1.size inb_S2_S1_0) numel1_S1 rfl
  let v15 : Vec F S1x128x128 .bf16 ← Prog.lift (.load a5 (Rect.unit (s := S1x128x2048) ![0, 0, 0] S1x128x128.size inb_S1x128x2048_S1x128x128_0_0_0).toLoadRect (View.loadsAt_vmem h_S1x128x128))
  let v17 : Vec F S1x128x128 .bf16 ← Prog.lift (.load a5 (Rect.unit (s := S1x128x2048) ![0, 0, 128] S1x128x128.size inb_S1x128x2048_S1x128x128_0_0_128).toLoadRect (View.loadsAt_vmem h_S1x128x128))
  let v19 : Vec F S1x128x128 .bf16 ← Prog.lift (.load a5 (Rect.unit (s := S1x128x2048) ![0, 0, 256] S1x128x128.size inb_S1x128x2048_S1x128x128_0_0_256).toLoadRect (View.loadsAt_vmem h_S1x128x128))
  let v21 : Vec F S1x128x128 .bf16 ← Prog.lift (.load a5 (Rect.unit (s := S1x128x2048) ![0, 0, 384] S1x128x128.size inb_S1x128x2048_S1x128x128_0_0_384).toLoadRect (View.loadsAt_vmem h_S1x128x128))
  let v23 : Vec F S1x128x128 .bf16 ← Prog.lift (.load a5 (Rect.unit (s := S1x128x2048) ![0, 0, 512] S1x128x128.size inb_S1x128x2048_S1x128x128_0_0_512).toLoadRect (View.loadsAt_vmem h_S1x128x128))
  let v25 : Vec F S1x128x128 .bf16 ← Prog.lift (.load a5 (Rect.unit (s := S1x128x2048) ![0, 0, 640] S1x128x128.size inb_S1x128x2048_S1x128x128_0_0_640).toLoadRect (View.loadsAt_vmem h_S1x128x128))
  pure ⟨BitVec.ofNat 32 (i 0).val, Scalar.remsi (BitVec.ofNat 32 (i 0).val) 2#32, v9, k0_hw19, Scalar.shrui v9 9#32, Scalar.shrui (Scalar.addi v9 511#32) 9#32, v13, v14, k0_pay48 v15, k0_pay49 v17, k0_pay50 v19, k0_pay51 v21, k0_pay52 v23, k0_pay53 v25⟩

/-- The fetch of the next sequence and the reads after it. -/
abbrev fetchQ : Prog (TpuEff nD τ sig (Elt F) Λ₀ .tc) (Σ' (arg0 : BitVec 32) (v0 : BitVec 32) (v9 : Elt F .i32) (k0_hw19 : k0_chk19 i v9) (v10 : BitVec 32) (v12 : BitVec 32) (v13 : Elt F .f32) (v14 : Elt F .f32) (v16 : FVec F S128x128 .bf16) (v18 : FVec F S128x128 .bf16) (v20 : FVec F S128x128 .bf16) (v22 : FVec F S128x128 .bf16) (v24 : FVec F S128x128 .bf16), FVec F S128x128 .bf16) := do
  if k0_h2 : k0_cond2 i = 1#1 then do
    let v338 : Elt F .i32 ← smemLoad (whole main_arg8) (Rect.unit (s := S32) (k0_off31 i) S1.size (k0_off31_inb i k0_h2)) numel1_S1 rfl
    have k0_hw10 : k0_chk10 i v338 := (← Prog.lift (TpuEff.assume (k0_chk10 i v338) (k0_chk10.dec i v338))).down
    Scf.Loop.for (k0_t3_loop v338) (k0_t3_ok i v338 k0_hw10 k0_h2) ⟨⟩ (k0_t3_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 k0_h2 (Scalar.addi (BitVec.ofNat 32 (i 0).val) 1#32) v338 k0_hw10)
    Scf.Loop.for (k0_t4_loop v338) (k0_t4_ok i v338 k0_hw10 k0_h2) ⟨⟩ (k0_t4_body i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3 k0_h2 (Scalar.addi (BitVec.ofNat 32 (i 0).val) 1#32) v338 k0_hw10 (Scalar.addi 0#32 (Scalar.muli (Scalar.divsi (Scalar.subi (Scalar.shrui (Scalar.addi v338 511#32) 9#32) 0#32) 1#32) 1#32)))
    readQ i a3 a4 a5
  else readQ i a3 a4 a5

theorem readQ_run (hsl : ∀ x, (sl x).toNat ≤ 8192) (s3 s4 : S2.Idx → Elt F .f32) (x : S1x128x2048.Idx → Elt F .bf16) {Q : _ → sProp 𝕄} :
    iprop(TabL (F := F) c sl ∗ owns (c : Thread nD τ) a3 fullShare s3 ∗ owns (c : Thread nD τ) a4 fullShare s4 ∗ owns (c : Thread nD τ) a5 fullShare x) ⊢ iprop(((TabL (F := F) c sl ∗ owns (c : Thread nD τ) a3 fullShare s3 ∗ owns (c : Thread nD τ) a4 fullShare s4 ∗ owns (c : Thread nD τ) a5 fullShare x) -∗ Q ⟨BitVec.ofNat 32 (i 0).val, Scalar.remsi (BitVec.ofNat 32 (i 0).val) 2#32, (sl (ix1 ⟨(i 0).val, iLt i⟩)), chk19 i (hsl _), Scalar.shrui (sl (ix1 ⟨(i 0).val, iLt i⟩)) 9#32,
        Scalar.shrui (Scalar.addi (sl (ix1 ⟨(i 0).val, iLt i⟩)) 511#32) 9#32, s3 (ix1 0), s4 (ix1 0), k0_pay48 (xs x 0), k0_pay49 (xs x 1), k0_pay50 (xs x 2), k0_pay51 (xs x 3), k0_pay52 (xs x 4), k0_pay53 (xs x 5)⟩) -∗ wp (M := 𝕄) frame (wpE (defs₀ (F := F)) Variants.none (Dev.tc c : Thread nD τ) none) Set.univ (readQ i a3 a4 a5) Q) := by
  iintro ⟨HL, H3, H4, H5⟩ HQ
  unfold readQ
  rw [wp_bind]
  iapply (wp_len c sl ⟨(i 0).val, iLt i⟩ (off62_eq i)) $$ HL
  iintro HL
  rw [wp_bind]
  iapply (wp_asm c (chk19 i (hsl _)))
  rw [wp_bind]
  iapply (wp_wsmem c a3 s3 0 rfl) $$ H3
  iintro H3
  rw [wp_bind]
  iapply (wp_wsmem c a4 s4 0 rfl) $$ H4
  iintro H4
  rw [wp_bind]
  iapply (wp_xload c a5 x 0 rfl) $$ H5
  iintro H5
  rw [wp_bind]
  iapply (wp_xload c a5 x 1 rfl) $$ H5
  iintro H5
  rw [wp_bind]
  iapply (wp_xload c a5 x 2 rfl) $$ H5
  iintro H5
  rw [wp_bind]
  iapply (wp_xload c a5 x 3 rfl) $$ H5
  iintro H5
  rw [wp_bind]
  iapply (wp_xload c a5 x 4 rfl) $$ H5
  iintro H5
  rw [wp_bind]
  iapply (wp_xload c a5 x 5 rfl) $$ H5
  iintro H5
  rw [wp_pureK]
  imodintro
  iapply HQ
  isplitl [HL]; · iexact HL
  isplitl [H3]; · iexact H3
  isplitl [H4]; · iexact H4
  iexact H5

set_option maxHeartbeats 1000000 in
theorem fetchQ_run (hpt : ∀ x, (pt x).toNat < 2048) (hsl : ∀ x, (sl x).toNat ≤ 8192) (s3 s4 : S2.Idx → Elt F .f32) (x : S1x128x2048.Idx → Elt F .bf16) {Q : _ → sProp 𝕄} :
    iprop(Cells c pk pv (rowN pt (i 0).val) ⟨1 - (i 0).val % 2, omod2 _⟩ 0 0 ∗ TabP (F := F) c pt ∗ TabL (F := F) c sl ∗ owns (c : Thread nD τ) a3 fullShare s3 ∗ owns (c : Thread nD τ) a4 fullShare s4 ∗ owns (c : Thread nD τ) a5 fullShare x) ⊢ iprop(((Cells c pk pv (rowN pt ((i 0).val + 1)) ⟨1 - (i 0).val % 2, omod2 _⟩ 0 (cntN sl ((i 0).val + 1)) ∗ TabP (F := F) c pt ∗ TabL (F := F) c sl ∗ owns (c : Thread nD τ) a3 fullShare s3 ∗ owns (c : Thread nD τ) a4 fullShare s4 ∗ owns (c : Thread nD τ) a5 fullShare x) -∗ Q ⟨BitVec.ofNat 32 (i 0).val, Scalar.remsi (BitVec.ofNat 32 (i 0).val) 2#32, (sl (ix1 ⟨(i 0).val, iLt i⟩)), chk19 i (hsl _), Scalar.shrui (sl (ix1 ⟨(i 0).val, iLt i⟩)) 9#32,
        Scalar.shrui (Scalar.addi (sl (ix1 ⟨(i 0).val, iLt i⟩)) 511#32) 9#32, s3 (ix1 0), s4 (ix1 0), k0_pay48 (xs x 0), k0_pay49 (xs x 1), k0_pay50 (xs x 2), k0_pay51 (xs x 3), k0_pay52 (xs x 4), k0_pay53 (xs x 5)⟩) -∗
      wp (M := 𝕄) frame (wpE (defs₀ (F := F)) Variants.none (Dev.tc c : Thread nD τ) none) Set.univ (fetchQ i a3 h3 a4 h4 a5 h5 a6 a7 h6 h7 a10 h10 a11 a12 h11 h12) Q) := by
  iintro ⟨HC, HT, HL, H⟩ HQ
  unfold fetchQ
  by_cases h2 : k0_cond2 i = 1#1
  · have hb := (cond2_iff i).1 h2
    rw [dif_pos h2]
    rw [wp_bind]
    iapply (wp_len c sl ⟨(i 0).val + 1, hb⟩ (off31_eq i)) $$ HL
    iintro HL
    rw [wp_bind]
    iapply (wp_asm c (chk10 i (hsl _)))
    rw [wp_bind]
    ihave HC := (cells_row c pk pv (rowN pt (i 0).val) (rowOf pt ⟨(i 0).val + 1, hb⟩) ⟨1 - (i 0).val % 2, omod2 _⟩) $$ HC
    iapply (wp_wand frame (wpE (defs₀ (F := F)) Variants.none (Dev.tc c : Thread nD τ) none) Set.univ) $$ [HC HT]
    · iapply (fetchLoop3 c pk pv pt i a3 h3 a4 h4 a5 h5 a6 a7 h6 h7 a10 h10 a11 a12 h11 h12 hpt (sl (ix1 ⟨(i 0).val + 1, hb⟩)) (hsl _) h2)
      isplitl [HC] <;> iassumption
    iintro %_ ⟨HC, HT⟩
    rw [wp_bind]
    iapply (wp_noLoop c _ _ _ _ (t4_no (hsl _)))
    iapply (readQ_run c sl i a3 a4 a5 hsl s3 s4 x) $$ [HL H]
    · isplitl [HL]; · iexact HL
      iexact H
    iintro ⟨HL, H⟩
    iapply HQ
    rw [rowN_of pt hb, cntN_of sl (Nat.succ_pos _) hb]
    isplitl [HC]; · iexact HC
    isplitl [HT]; · iexact HT
    isplitl [HL]; · iexact HL
    iexact H
  · rw [dif_neg h2]
    iapply (readQ_run c sl i a3 a4 a5 hsl s3 s4 x) $$ [HL H]
    · isplitl [HL]; · iexact HL
      iexact H
    iintro ⟨HL, H⟩
    iapply HQ
    rw [cntN_no sl (b := (i 0).val + 1) (fun h => h2 ((cond2_iff i).2 h.2))]
    isplitl [HC]
    · iapply (cells_row c pk pv (rowN pt (i 0).val) (rowN pt ((i 0).val + 1)) ⟨1 - (i 0).val % 2, omod2 _⟩) $$ HC
    isplitl [HT]; · iexact HT
    isplitl [HL]; · iexact HL
    iexact H

set_option maxHeartbeats 1000000 in
/-- The fetches of a step. -/
theorem part25_run (hpt : ∀ x, (pt x).toNat < 2048) (hsl : ∀ x, (sl x).toNat ≤ 8192) (s3 s4 : S2.Idx → Elt F .f32) (x : S1x128x2048.Idx → Elt F .bf16) {Q : _ → sProp 𝕄} :
    iprop(Slots c pk pv pt sl (i 0).val ∗ TabP (F := F) c pt ∗ TabL (F := F) c sl ∗ owns (c : Thread nD τ) a3 fullShare s3 ∗ owns (c : Thread nD τ) a4 fullShare s4 ∗ owns (c : Thread nD τ) a5 fullShare x) ⊢ iprop(((Cells c pk pv (rowOf pt ⟨(i 0).val, iLt i⟩) ⟨(i 0).val % 2, mod2 _⟩ 0 (((sl (ix1 ⟨(i 0).val, iLt i⟩)).toNat + 511) / 512) ∗ Cells c pk pv (rowN pt ((i 0).val + 1)) ⟨1 - (i 0).val % 2, omod2 _⟩ 0 (cntN sl ((i 0).val + 1)) ∗ TabP (F := F) c pt ∗ TabL (F := F) c sl ∗ owns (c : Thread nD τ) a3 fullShare s3 ∗ owns (c : Thread nD τ) a4 fullShare s4 ∗ owns (c : Thread nD τ) a5 fullShare x) -∗ Q ⟨BitVec.ofNat 32 (i 0).val, Scalar.remsi (BitVec.ofNat 32 (i 0).val) 2#32, (sl (ix1 ⟨(i 0).val, iLt i⟩)), chk19 i (hsl _), Scalar.shrui (sl (ix1 ⟨(i 0).val, iLt i⟩)) 9#32,
        Scalar.shrui (Scalar.addi (sl (ix1 ⟨(i 0).val, iLt i⟩)) 511#32) 9#32, s3 (ix1 0), s4 (ix1 0), k0_pay48 (xs x 0), k0_pay49 (xs x 1), k0_pay50 (xs x 2), k0_pay51 (xs x 3), k0_pay52 (xs x 4), k0_pay53 (xs x 5)⟩) -∗
      wp (M := 𝕄) frame (wpE (defs₀ (F := F)) Variants.none (Dev.tc c : Thread nD τ) none) Set.univ (k0_part25 i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3) Q) := by
  rw [k0_part25_eq_skeleton]
  unfold k0_part25_skel Slots
  iintro ⟨⟨HO, HC⟩, HT, HL, H⟩ HQ
  by_cases h1 : k0_cond1 i = 1#1
  · have hb := (cond1_iff i).1 h1
    dsimp only
    rw [dif_pos h1]
    rw [wp_bind]
    iapply (wp_len c sl 0 rfl) $$ HL
    iintro HL
    rw [wp_bind]
    iapply (wp_asm c (chk1 i (hsl _)))
    rw [wp_bind]
    have er : (⟨(i 0).val, iLt i⟩ : Fin 32) = 0 := Fin.ext hb
    have es : (⟨(i 0).val % 2, mod2 _⟩ : Fin 2) = 0 := Fin.ext (by show (i 0).val % 2 = 0; omega)
    rw [cntN_no sl (b := (i 0).val) (fun h => by omega), es, er]
    ihave HO := (cells_row c pk pv (rowN pt (i 0).val) (rowOf pt 0) 0) $$ HO
    iapply (wp_wand frame (wpE (defs₀ (F := F)) Variants.none (Dev.tc c : Thread nD τ) none) Set.univ) $$ [HO HT]
    · iapply (fetchLoop1 c pk pv pt i a3 h3 a4 h4 a5 h5 a6 a7 h6 h7 a10 h10 a11 a12 h11 h12 hpt (sl (ix1 0)) (hsl _) h1)
      isplitl [HO] <;> iassumption
    iintro %_ ⟨HO, HT⟩
    rw [wp_bind]
    iapply (wp_noLoop c _ _ _ _ (t2_no (hsl _)))
    iapply (fetchQ_run c pk pv pt sl i a3 h3 a4 h4 a5 h5 a6 a7 h6 h7 a10 h10 a11 a12 h11 h12 hpt hsl s3 s4 x) $$ [HC HT HL H]
    · isplitl [HC]; · iexact HC
      isplitl [HT]; · iexact HT
      isplitl [HL]; · iexact HL
      iexact H
    iintro H
    rw [er]
    iapply HQ
    isplitl [HO]; · iexact HO
    iexact H
  · have hb : 0 < (i 0).val := Nat.pos_of_ne_zero fun h => h1 ((cond1_iff i).2 h)
    dsimp only
    rw [dif_neg h1, rowN_of pt (iLt i), cntN_of sl hb (iLt i), ← rowN_of pt (iLt i)]
    iapply (fetchQ_run c pk pv pt sl i a3 h3 a4 h4 a5 h5 a6 a7 h6 h7 a10 h10 a11 a12 h11 h12 hpt hsl s3 s4 x) $$ [HC HT HL H]
    · isplitl [HC]; · iexact HC
      isplitl [HT]; · iexact HT
      isplitl [HL]; · iexact HL
      iexact H
    iintro H
    iapply HQ
    rw [rowN_of pt (iLt i)]
    isplitl [HO]; · iexact HO
    iexact H

end Cert.KernelIdeal.Hand
-- ==== Proof.Ki.Whole.lean ====
module

public import proofs.«01_k».proof.Proof.Ki.Step

/-!
# The step as a whole

From any contents of the output blocks, a step leaves in them the attention columns and the codes.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Memref (whole isWhole_whole)
open Idealize.ShloMosaic.ValueIdx
open Idealize.ShloMosaic.RefSig (tileCredit)
open Idealize.ShloMosaic.Pipeline (Dat Cfg Window BodyObligation cellOf)

variable {F : FTy → Type} [FloatOps F] [Named F]

local notation "𝕄" => MT nD τ sig Unit (Elt F) ℕ (Pipeline.UD sig nD τ) ℕ

variable (c : Dev nD) (pk pv : S2048x2x128x128.Idx → Elt F .fp8e4m3) (pt : S32x64.Idx → BitVec 32)
  (sl : S32.Idx → BitVec 32)

/-- The end state of head `g` of sequence `b`. -/
def endSt (b : Fin 32) (g : Fin 2) (s3 s4 : S2.Idx → Elt F .f32) (q : FVec F S1024x128 .bf16) (kn vn : S1x2x128x128.Idx → Elt F .bf16) : St F :=
  foldAll pk pv g (sl (ix1 b)) (s3 (ix1 g)) (s4 (ix1 g)) q (rowOf pt b) (start0 (s3 (ix1 g)) (s4 (ix1 g)) q (kn4 kn g) (kn4 vn g))
/-- The attention block of sequence `b`. -/
def outY (b : Fin 32) (s3 s4 : S2.Idx → Elt F .f32) (x : S1x128x2048.Idx → Elt F .bf16) (kn vn : S1x2x128x128.Idx → Elt F .bf16) : S1x128x2048.Idx → Elt F .bf16 :=
  yAll (colsW (endSt pk pv pt sl b 0 s3 s4 (qry0 x) kn vn) (endSt pk pv pt sl b 1 s3 s4 (qry1 x) kn vn))

variable (i : grid0.Coords)
  (a3 : Memref sig .tc .smem S2 .f32) (h3 : a3.IsWhole) (a4 : Memref sig .tc .smem S2 .f32) (h4 : a4.IsWhole)
  (a5 : Memref sig .tc .vmem S1x128x2048 .bf16) (h5 : a5.IsWhole) (a6 a7 : Memref sig .tc .vmem S1x2x128x128 .bf16)
  (h6 : a6.IsWhole) (h7 : a7.IsWhole) (a10 : Memref sig .tc .vmem S1x128x2048 .bf16) (h10 : a10.IsWhole)
  (a11 a12 : Memref sig .tc .vmem S1x2x128x128 .fp8e4m3) (h11 : a11.IsWhole) (h12 : a12.IsWhole)
  (s3 s4 : S2.Idx → Elt F .f32) (x : S1x128x2048.Idx → Elt F .bf16) (kn vn : S1x2x128x128.Idx → Elt F .bf16)

set_option maxHeartbeats 4000000 in
/-- A step. -/
theorem body_run (hpt : ∀ x, (pt x).toNat < 2048) (hsl : ∀ x, (sl x).toNat ≤ 8192) (d10 : S1x128x2048.Idx → Elt F .bf16) (d11 d12 : S1x2x128x128.Idx → Elt F .fp8e4m3) (a : S128x1024.Idx → Elt F .f32) :
    iprop(Slots c pk pv pt sl (i 0).val ∗ TabP (F := F) c pt ∗ TabL (F := F) c sl ∗
      owns (c : Thread nD τ) a3 fullShare s3 ∗ owns (c : Thread nD τ) a4 fullShare s4 ∗ owns (c : Thread nD τ) a5 fullShare x ∗
      owns (c : Thread nD τ) a6 fullShare kn ∗ owns (c : Thread nD τ) a7 fullShare vn ∗ owns (c : Thread nD τ) a10 fullShare d10 ∗
      owns (c : Thread nD τ) a11 fullShare d11 ∗ owns (c : Thread nD τ) a12 fullShare d12 ∗ AccAt c a ∗ Owe (F := F) c)
    ⊢ wp (M := 𝕄) frame (wpE (defs₀ (F := F)) Variants.none (Dev.tc c : Thread nD τ) none) Set.univ (cc0_paged_gqa i (whole main_arg7) (isWhole_whole _) (whole main_arg8) (isWhole_whole _) a3 h3 a4 h4 a5 h5 a6 h6 a7 h7 (whole main_v2) (isWhole_whole _) (whole main_v3) (isWhole_whole _) a10 h10 a11 h11 a12 h12 (whole cc0_scratch0) (isWhole_whole _) (whole cc0_scratch1) (isWhole_whole _) (whole cc0_scratch2) (isWhole_whole _) cc0_scratch3) (fun _ =>
      iprop(Slots c pk pv pt sl ((i 0).val + 1) ∗ TabP (F := F) c pt ∗ TabL (F := F) c sl ∗
      owns (c : Thread nD τ) a3 fullShare s3 ∗ owns (c : Thread nD τ) a4 fullShare s4 ∗ owns (c : Thread nD τ) a5 fullShare x ∗
      owns (c : Thread nD τ) a6 fullShare kn ∗ owns (c : Thread nD τ) a7 fullShare vn ∗
      owns (c : Thread nD τ) a10 fullShare (outY pk pv pt sl ⟨(i 0).val, iLt i⟩ s3 s4 x kn vn) ∗
      owns (c : Thread nD τ) a11 fullShare (cAll (kcode s3 kn)) ∗ owns (c : Thread nD τ) a12 fullShare (cAll (vcode s4 vn)) ∗
      (∃ a', AccAt c a') ∗ Owe (F := F) c)) := by
  rw [cc0_paged_gqa_eq_skeleton]
  unfold cc0_paged_gqa_skel
  iintro ⟨HS, HT, HL, H3, H4, H5, H6, H7, H10, H11, H12, HA, HW⟩
  rw [wp_bind]
  iapply (part25_run c pk pv pt sl i a3 h3 a4 h4 a5 h5 a6 a7 h6 h7 a10 h10 a11 a12 h11 h12 hpt hsl s3 s4 x) $$ [HS HT HL H3 H4 H5]
  · isplitl [HS]; · iexact HS
    isplitl [HT]; · iexact HT
    isplitl [HL]; · iexact HL
    isplitl [H3]; · iexact H3
    isplitl [H4]; · iexact H4
    iexact H5
  iintro ⟨HC, HN, HT, HL, H3, H4, H5⟩
  dsimp only
  ihave HR : (Res c pk pv pt sl i a3 a4 a5 a6 a7 a10 a11 a12 s3 s4 x kn vn 0 (((sl (ix1 ⟨(i 0).val, iLt i⟩)).toNat + 511) / 512) d10 d11 d12 a) $$ [HC HT HL H3 H4 H5 H6 H7 H10 H11 H12 HA HW]
  · unfold Res
    isplitl [HC]; · iexact HC
    isplitl [HT]; · iexact HT
    isplitl [HL]; · iexact HL
    isplitl [H3]; · iexact H3
    isplitl [H4]; · iexact H4
    isplitl [H5]; · iexact H5
    isplitl [H6]; · iexact H6
    isplitl [H7]; · iexact H7
    isplitl [H10]; · iexact H10
    isplitl [H11]; · iexact H11
    isplitl [H12]; · iexact H12
    isplitl [HA]; · iexact HA
    iexact HW
  rw [wp_bind]
  iapply (part26_run c pk pv pt sl i a3 h3 a4 h4 a5 h5 a6 a7 h6 h7 a10 h10 a11 a12 h11 h12 s3 s4 x kn vn 0 (((sl (ix1 ⟨(i 0).val, iLt i⟩)).toNat + 511) / 512) _ _ _ _ _ _ _ _ _ _ _ _) $$ HR
  iintro HR
  dsimp only
  rw [wp_bind]
  iapply (part27_run c pk pv pt sl i a3 h3 a4 h4 a5 h5 a6 a7 h6 h7 a10 h10 a11 a12 h11 h12 s3 s4 x kn vn 0 (((sl (ix1 ⟨(i 0).val, iLt i⟩)).toNat + 511) / 512) _ _ _ _ _ _ _ _ _ _) $$ HR
  iintro HR
  dsimp only
  rw [wp_bind]
  iapply (part28_run c pk pv pt sl i a3 h3 a4 h4 a5 h5 a6 a7 h6 h7 a10 h10 a11 a12 h11 h12 s3 s4 x kn vn hpt hsl _ _ _ _ _ _ _ _ _ _ _ _ _ _ _) $$ HR
  iintro HR
  dsimp only
  rw [wp_bind]
  iapply (part29_run c pk pv pt sl i a3 h3 a4 h4 a5 h5 a6 a7 h6 h7 a10 h10 a11 a12 h11 h12 s3 s4 x kn vn (((sl (ix1 ⟨(i 0).val, iLt i⟩)).toNat + 511) / 512) (((sl (ix1 ⟨(i 0).val, iLt i⟩)).toNat + 511) / 512) _ _ _ _ _ _) $$ HR
  iintro HR
  dsimp only
  rw [wp_bind]
  iapply (part30_run c pk pv pt sl i a3 h3 a4 h4 a5 h5 a6 a7 h6 h7 a10 h10 a11 a12 h11 h12 s3 s4 x kn vn (((sl (ix1 ⟨(i 0).val, iLt i⟩)).toNat + 511) / 512) (((sl (ix1 ⟨(i 0).val, iLt i⟩)).toNat + 511) / 512) _ _ _ _ _) $$ HR
  iintro HR
  dsimp only
  rw [wp_bind]
  iapply (part31_run c pk pv pt sl i a3 h3 a4 h4 a5 h5 a6 a7 h6 h7 a10 h10 a11 a12 h11 h12 s3 s4 x kn vn (((sl (ix1 ⟨(i 0).val, iLt i⟩)).toNat + 511) / 512) (((sl (ix1 ⟨(i 0).val, iLt i⟩)).toNat + 511) / 512) _ _ _ _ _ _ _ _) $$ HR
  iintro HR
  dsimp only
  rw [wp_bind]
  iapply (part32_run c pk pv pt sl i a3 h3 a4 h4 a5 h5 a6 a7 h6 h7 a10 h10 a11 a12 h11 h12 s3 s4 x kn vn hpt hsl _ _ _ _ _ _ _ _ _ _ _ _ _ _ _) $$ HR
  iintro HR
  dsimp only
  rw [wp_bind]
  iapply (part33_run c pk pv pt sl i a3 h3 a4 h4 a5 h5 a6 a7 h6 h7 a10 h10 a11 a12 h11 h12 s3 s4 x kn vn (((sl (ix1 ⟨(i 0).val, iLt i⟩)).toNat + 511) / 512) (((sl (ix1 ⟨(i 0).val, iLt i⟩)).toNat + 511) / 512) hsl _ _ _ _ _ _ _ _ _ _ _ _ _) $$ HR
  iintro HR
  dsimp only
  unfold Res
  icases HR with ⟨HC, HT, HL, H3, H4, H5, H6, H7, H10, H11, H12, HA, HW⟩
  rw [wp_bind]
  iapply (wp_dead c a10 _) $$ H10
  iintro H10
  rw [wp_bind]
  iapply (wp_yput c a10 _ 13 _ rfl) $$ H10
  iintro H10
  rw [wp_bind]
  iapply (wp_dead c a10 _) $$ H10
  iintro H10
  rw [wp_bind]
  iapply (wp_yput c a10 _ 14 _ rfl) $$ H10
  iintro H10
  rw [wp_bind]
  iapply (wp_dead c a10 _) $$ H10
  iintro H10
  rw [wp_bind]
  iapply (wp_yput c a10 _ 15 _ rfl) $$ H10
  iintro H10
  rw [wp_pureK]
  imodintro
  isplitl [HC HN]
  · iapply (slots_next c pk pv pt sl (i 0).val (rowOf pt ⟨(i 0).val, iLt i⟩) (((sl (ix1 ⟨(i 0).val, iLt i⟩)).toNat + 511) / 512))
    isplitl [HC]; · iexact HC
    iexact HN
  isplitl [HT]; · iexact HT
  isplitl [HL]; · iexact HL
  isplitl [H3]; · iexact H3
  isplitl [H4]; · iexact H4
  isplitl [H5]; · iexact H5
  isplitl [H6]; · iexact H6
  isplitl [H7]; · iexact H7
  isplitl [H10]
  · unfold outY
    rw [← yputs_all d10]
    iexact H10
  isplitl [H11]
  · rw [← cputs_all d11]
    iexact H11
  isplitl [H12]
  · rw [← cputs_all d12]
    iexact H12
  isplitl [HA]
  · iexists _
    iexact HA
  iexact HW

end Cert.KernelIdeal.Hand
-- ==== Proof.Ki.Pool.lean ====
module

public import proofs.«01_k».proof.Proof.Ki.Whole

/-!
# The kernel's own buffers and counters, whole and apart

The two cache buffers are their 128 page slots. Each pool is dealt into 128 read shares and a remainder.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.RefSig (tileCredit)
open Idealize.ShloMosaic.Pipeline (Dat Cfg Window BodyObligation cellOf)

variable {F : FTy → Type} [FloatOps F] [Named F]

local notation "𝕄" => MT nD τ sig Unit (Elt F) ℕ (Pipeline.UD sig nD τ) ℕ

variable (c : Dev nD) (pk pv : S2048x2x128x128.Idx → Elt F .fp8e4m3) (pt : S32x64.Idx → BitVec 32)
  (sl : S32.Idx → BitVec 32)

/-- Every block of both slots idle. -/
def AllIdle : sProp 𝕄 := bigSep Finset.univ fun s : Fin 2 => bigSep Finset.univ fun j : Fin 16 => CellIdle c pk pv s j

theorem cells_idle (row : Fin 64 → Fin 2048) (s : Fin 2) :
    (Cells c pk pv row s 0 0 : sProp 𝕄) = bigSep Finset.univ fun j : Fin 16 => CellIdle c pk pv s j := by
  unfold Cells
  exact BI.bigSep_congr fun j _ => by unfold cellSt; rw [if_neg (by omega), if_neg (by omega)]

theorem slots_idle (b : ℕ) (hb : cntN sl b = 0) (h2 : b % 2 = 0) : (Slots c pk pv pt sl b : sProp 𝕄) = AllIdle c pk pv := by
  unfold Slots AllIdle
  rw [hb, cells_idle, cells_idle, BI.bigSep_fin_two]
  rw [show (⟨b % 2, mod2 b⟩ : Fin 2) = 0 from Fin.ext h2, show (⟨1 - b % 2, omod2 b⟩ : Fin 2) = 1 from Fin.ext (by show 1 - b % 2 = 1; omega)]
  rfl

theorem fin4 (Φ : Fin 4 → sProp 𝕄) : bigSep Finset.univ Φ = iprop(Φ 0 ∗ Φ 1 ∗ Φ 2 ∗ Φ 3) := by
  rw [show (Finset.univ : Finset (Fin 4)) = {0, 1, 2, 3} by decide, BI.bigSep_insert (by decide), BI.bigSep_insert (by decide), BI.bigSep_insert (by decide), BI.bigSep_singleton]
  rfl

/-- A page slot of each buffer, named by its pair. -/
abbrev kFr (x : Fin 2 × Fin 64) : sProp 𝕄 := kFree (F := F) c x.1 x.2
abbrev vFr (x : Fin 2 × Fin 64) : sProp 𝕄 := vFree (F := F) c x.1 x.2
abbrev kTk (x : Fin 2 × Fin 64) : sProp 𝕄 := kTok c pk x.1 x.2
abbrev vTk (x : Fin 2 × Fin 64) : sProp 𝕄 := vTok c pv x.1 x.2

theorem pages16 (Φ : Fin 64 → sProp 𝕄) :
    bigSep Finset.univ Φ = bigSep Finset.univ fun j : Fin 16 => iprop(Φ (pgIx j 0) ∗ Φ (pgIx j 1) ∗ Φ (pgIx j 2) ∗ Φ (pgIx j 3)) := by
  rw [BI.bigSep_univ_equiv (finProdFinEquiv (m := 16) (n := 4)) Φ, BI.bigSep_univ_prod]
  refine BI.bigSep_congr fun j _ => ?_
  rw [fin4]
  have e : ∀ r : Fin 4, (finProdFinEquiv (j, r) : Fin (16 * 4)) = pgIx j r := fun r => Fin.ext (by
    show r.val + 4 * j.val = 4 * j.val + r.val; omega)
  rw [e, e, e, e]

/-- The counters at zero, the page slots and the read shares, by buffer. -/
theorem allIdle_eq : (AllIdle c pk pv : sProp 𝕄)
    = iprop((bigSep Finset.univ fun k : Fin 2 × Fin 16 => semVal ((c : Thread nD τ), SemLoc.dma (semAt k.1 k.2)) 0)
      ∗ bigSep Finset.univ (kFr (F := F) c) ∗ bigSep Finset.univ (kTk c pk) ∗ bigSep Finset.univ (vFr (F := F) c) ∗ bigSep Finset.univ (vTk c pv)) := by
  have e : (AllIdle c pk pv : sProp 𝕄) = bigSep Finset.univ fun s : Fin 2 => iprop((bigSep Finset.univ fun j : Fin 16 => semVal ((c : Thread nD τ), SemLoc.dma (semAt s j)) 0)
      ∗ bigSep Finset.univ fun p : Fin 64 => pgIdle c pk pv s p) := by
    unfold AllIdle
    refine BI.bigSep_congr fun s _ => ?_
    rw [pages16]
    refine Eq.trans ?_ (BI.bigSep_sep _ _ _)
    exact BI.bigSep_congr fun j _ => rfl
  rw [e]
  refine (BI.bigSep_sep _ _ _).trans ?_
  rw [BI.bigSep_univ_prod, BI.bigSep_univ_prod (kFr (F := F) c), BI.bigSep_univ_prod (kTk c pk), BI.bigSep_univ_prod (vFr (F := F) c), BI.bigSep_univ_prod (vTk c pv)]
  refine congrArg₂ _ rfl ?_
  refine Eq.trans (b := bigSep Finset.univ fun s : Fin 2 => iprop((bigSep Finset.univ fun p : Fin 64 => kFr (F := F) c (s, p)) ∗ (bigSep Finset.univ fun p : Fin 64 => kTk c pk (s, p)) ∗ (bigSep Finset.univ fun p : Fin 64 => vFr (F := F) c (s, p)) ∗ (bigSep Finset.univ fun p : Fin 64 => vTk c pv (s, p)))) ?_ ?_
  · refine BI.bigSep_congr fun s _ => ?_
    refine (BI.bigSep_sep _ _ _).trans (congrArg₂ _ rfl ?_)
    refine (BI.bigSep_sep _ _ _).trans (congrArg₂ _ rfl ?_)
    exact (BI.bigSep_sep _ _ _)
  · refine (BI.bigSep_sep _ _ _).trans (congrArg₂ _ rfl ?_)
    refine (BI.bigSep_sep _ _ _).trans (congrArg₂ _ rfl ?_)
    exact (BI.bigSep_sep _ _ _)

/-! ## The cache buffers -/

theorem kSl_union : Finset.biUnion (β := S2x64x2x128x128.Idx) (Finset.univ : Finset (Fin 2 × Fin 64)) (fun x => (kSl x.1 x.2).view.set) = Finset.univ := by
  refine Finset.eq_univ_iff_forall.mpr fun i => Finset.mem_biUnion.mpr ⟨(i 0, i 1), Finset.mem_univ _, (mem_kSl _ _ i).mpr ⟨rfl, rfl⟩⟩
theorem kSl_disj2 (x : Fin 2 × Fin 64) (_ : x ∈ Finset.univ) (y : Fin 2 × Fin 64) (_ : y ∈ Finset.univ) (h : x ≠ y) :
    Disjoint (α := Finset S2x64x2x128x128.Idx) (kSl x.1 x.2).view.set (kSl y.1 y.2).view.set :=
  Finset.disjoint_left.mpr fun i h1 h2 => h (Prod.ext (((mem_kSl _ _ i).1 h1).1.symm.trans ((mem_kSl _ _ i).1 h2).1) (((mem_kSl _ _ i).1 h1).2.symm.trans ((mem_kSl _ _ i).1 h2).2))
theorem vSl_union : Finset.biUnion (β := S2x64x2x128x128.Idx) (Finset.univ : Finset (Fin 2 × Fin 64)) (fun x => (vSl x.1 x.2).view.set) = Finset.univ := by
  refine Finset.eq_univ_iff_forall.mpr fun i => Finset.mem_biUnion.mpr ⟨(i 0, i 1), Finset.mem_univ _, (mem_vSl _ _ i).mpr ⟨rfl, rfl⟩⟩
theorem vSl_disj2 (x : Fin 2 × Fin 64) (_ : x ∈ Finset.univ) (y : Fin 2 × Fin 64) (_ : y ∈ Finset.univ) (h : x ≠ y) :
    Disjoint (α := Finset S2x64x2x128x128.Idx) (vSl x.1 x.2).view.set (vSl y.1 y.2).view.set :=
  Finset.disjoint_left.mpr fun i h1 h2 => h (Prod.ext (((mem_vSl _ _ i).1 h1).1.symm.trans ((mem_vSl _ _ i).1 h2).1) (((mem_vSl _ _ i).1 h1).2.symm.trans ((mem_vSl _ _ i).1 h2).2))

/-- A buffer whole at some contents is the pieces of a partition, each at some contents. -/
theorem pieces {T : Type} [Fintype T] [DecidableEq T] {ℓ : Loc nD τ sig} (K : T → Finset (Idx ℓ)) (f₀ : Buf (Elt F) ℓ)
    (hu : Finset.univ.biUnion K = Finset.univ) (hd : ∀ t ∈ Finset.univ, ∀ t' ∈ Finset.univ, t ≠ t' → Disjoint (K t) (K t')) :
    (iprop(∃ f : Buf (Elt F) ℓ, ℓ ↦{fullShare} f) : sProp 𝕄) ⊣⊢ bigSep Finset.univ fun t => iprop(∃ f : Buf (Elt F) ℓ, ℓ ↦[K t]{fullShare} f) := by
  constructor
  · iintro ⟨%f, H⟩
    have e : (ℓ ↦{fullShare} f : sProp 𝕄) ⊢ bigSep Finset.univ fun t => iprop(∃ f : Buf (Elt F) ℓ, ℓ ↦[K t]{fullShare} f) := by
      rw [show (ℓ ↦{fullShare} f : sProp 𝕄) = bigSep Finset.univ fun t => ℓ ↦[K t]{fullShare} f from by
        rw [← pointsTo_biUnion _ K hd, hu]]
      exact BI.bigSep_mono fun t _ => (show (ℓ ↦[K t]{fullShare} f : sProp 𝕄) ⊢ iprop(∃ f : Buf (Elt F) ℓ, ℓ ↦[K t]{fullShare} f) by iintro H; iexists f; iexact H)
    iapply e $$ H
  · refine (BI.bigSep_exists_pi (Y := fun _ => Buf (Elt F) ℓ) Finset.univ _).trans (exists_elim fun fs => ?_)
    refine (pointsTo_biUnion_join Finset.univ K fs f₀ hd).trans ?_
    rw [hu]
    iintro ⟨%g, -, H⟩
    iexists g; iexact H

theorem kBuf : (iprop(∃ f, (c.tc : Thread nD τ).loc cc0_scratch0 ↦{fullShare} f) : sProp 𝕄) ⊣⊢ bigSep Finset.univ (kFr (F := F) c) :=
  pieces (F := F) (ℓ := (c.tc : Thread nD τ).loc cc0_scratch0) (fun x : Fin 2 × Fin 64 => (kSl x.1 x.2).view.set) (fun _ => Classical.arbitrary _) kSl_union kSl_disj2
theorem vBuf : (iprop(∃ f, (c.tc : Thread nD τ).loc cc0_scratch1 ↦{fullShare} f) : sProp 𝕄) ⊣⊢ bigSep Finset.univ (vFr (F := F) c) :=
  pieces (F := F) (ℓ := (c.tc : Thread nD τ).loc cc0_scratch1) (fun x : Fin 2 × Fin 64 => (vSl x.1 x.2).view.set) (fun _ => Classical.arbitrary _) vSl_union vSl_disj2

/-! ## The pools' read shares -/

theorem toks (Φ : ℕ → sProp 𝕄) : (bigSep Finset.univ fun i : Fin 128 => Φ i.val) = bigSep Finset.univ fun x : Fin 2 × Fin 64 => Φ (x.1.val * 64 + x.2.val) := by
  rw [BI.bigSep_univ_equiv (finProdFinEquiv (m := 2) (n := 64)) (fun i : Fin (2 * 64) => Φ i.val)]
  refine BI.bigSep_congr fun x _ => congrArg Φ ?_
  show x.2.val + 64 * x.1.val = x.1.val * 64 + x.2.val
  omega

/-- What is left of a pool after its 128 read shares. -/
abbrev kDrop : sProp 𝕄 := (c.tc : Thread nD τ).loc main_v2 ↦[Finset.univ]{Transfers.shareDrop fullShare 128} (pk : Buf (Elt F) ((c : Thread nD τ).loc main_v2))
abbrev vDrop : sProp 𝕄 := (c.tc : Thread nD τ).loc main_v3 ↦[Finset.univ]{Transfers.shareDrop fullShare 128} (pv : Buf (Elt F) ((c : Thread nD τ).loc main_v3))

theorem kPool : ((c.tc : Thread nD τ).loc main_v2 ↦{fullShare} (pk : Buf (Elt F) ((c : Thread nD τ).loc main_v2)) : sProp 𝕄)
    ⊣⊢ iprop(kDrop c pk ∗ bigSep Finset.univ (kTk c pk)) := by
  have h := Transfers.pointsTo_toks (Ix := Unit) (Name := ℕ) (U := Pipeline.UD sig nD τ) (Lvl := ℕ) (ℓ := (c.tc : Thread nD τ).loc main_v2) (S := Finset.univ) (f := (pk : Buf (Elt F) ((c : Thread nD τ).loc main_v2))) fullShare 128
  rw [show (bigSep Finset.univ fun i : Fin 128 => ((c.tc : Thread nD τ).loc main_v2 ↦[Finset.univ]{Transfers.shareTok fullShare 128 i} (pk : Buf (Elt F) ((c : Thread nD τ).loc main_v2)) : sProp 𝕄)) = bigSep Finset.univ (kTk c pk) from
    toks (fun i => ((c.tc : Thread nD τ).loc main_v2 ↦[Finset.univ]{Transfers.shareTokN fullShare i} (pk : Buf (Elt F) ((c : Thread nD τ).loc main_v2)) : sProp 𝕄))] at h
  exact h
theorem vPool : ((c.tc : Thread nD τ).loc main_v3 ↦{fullShare} (pv : Buf (Elt F) ((c : Thread nD τ).loc main_v3)) : sProp 𝕄)
    ⊣⊢ iprop(vDrop c pv ∗ bigSep Finset.univ (vTk c pv)) := by
  have h := Transfers.pointsTo_toks (Ix := Unit) (Name := ℕ) (U := Pipeline.UD sig nD τ) (Lvl := ℕ) (ℓ := (c.tc : Thread nD τ).loc main_v3) (S := Finset.univ) (f := (pv : Buf (Elt F) ((c : Thread nD τ).loc main_v3))) fullShare 128
  rw [show (bigSep Finset.univ fun i : Fin 128 => ((c.tc : Thread nD τ).loc main_v3 ↦[Finset.univ]{Transfers.shareTok fullShare 128 i} (pv : Buf (Elt F) ((c : Thread nD τ).loc main_v3)) : sProp 𝕄)) = bigSep Finset.univ (vTk c pv) from
    toks (fun i => ((c.tc : Thread nD τ).loc main_v3 ↦[Finset.univ]{Transfers.shareTokN fullShare i} (pv : Buf (Elt F) ((c : Thread nD τ).loc main_v3)) : sProp 𝕄))] at h
  exact h

end Cert.KernelIdeal.Hand

end
-- ==== Proof.Ki.Run.lean ====
module

public import proofs.«01_k».proof.Proof.Ki.Pool
public import Idealize.ShloMosaic.Lib.Pipeline.FrameSuffix0
public import Idealize.ShloMosaic.Lib.Pipeline.FrameSuffixV
public import Idealize.ShloMosaic.Lib.Claim

/-!
# The run

The 32 steps in a row: what the invariant is, what each step leaves in the output blocks, and the program's run.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.RefSig (tileCredit)
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What the region finds -/

/-- The buffers after the four transposes. -/
abbrev V₀ (c : Dev nD) : Valuation τ sig (Elt F) := StableHlo.after [hostOps0].flatten (fun b => m (c, b))
/-- The same, by reference. -/
abbrev V (c : Dev nD) (b : Ref sig .tc) : Buf (Elt F) ((c.tc : Thread nD τ).loc b) := V₀ m c (Proc.devRef .tc b)

/-- The tables the pipeline prefetches. -/
def tabs (_ : Fin 1) : (pcfg0 (F := F)).Adm := ⟨fun k => V m 0 (pre0.ref k), trivial⟩
/-- The pipeline at these tables. -/
abbrev cf : Cfg sig Λ₀ := cfg0 (tabs m 0)

theorem hpf (c : Dev nD) (k : Fin pre0.K) : V₀ m c (Proc.devRef .tc (pre0.ref k)) = (tabs m 0).1 k := by
  obtain rfl : c = 0 := Subsingleton.elim _ _; rfl

abbrev Wpre : List (Ref sig .tc) := [main_v0, main_v1, main_v2, main_v3]

theorem pre_writes (b : Ref sig .tc) (h : b ∉ Wpre) : ∀ op ∈ ([hostOps0].flatten : List (HloOp τ sig (Elt F))), Proc.devRef .tc b ∉ op.writes := by
  intro op hop
  simp only [List.flatten_cons, List.flatten_nil, List.append_nil, hostOps0, List.mem_cons, List.mem_nil_iff, or_false] at hop
  have h := h
  simp only [Wpre, List.mem_cons, List.mem_nil_iff, or_false, not_or] at h
  rcases hop with rfl | rfl | rfl | rfl <;> simp only [StableHlo.unary_writes, Finset.mem_singleton]
  · exact StableHlo.devRef_ne_of_ne h.1
  · exact StableHlo.devRef_ne_of_ne h.2.1
  · exact StableHlo.devRef_ne_of_ne h.2.2.1
  · exact StableHlo.devRef_ne_of_ne h.2.2.2

theorem V_keep (c : Dev nD) (b : Ref sig .tc) (h : b ∉ Wpre) : V m c b = m ((c.tc : Thread nD τ).loc b) :=
  StableHlo.after_of_forall_not_mem (b := Proc.devRef .tc b) _ _ (pre_writes b h)

/-! ## The lines after the region -/

theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl
  all_goals intro j; fin_cases j <;> simp only [StableHlo.unary_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  simp only [hostOps1, List.mem_cons, List.mem_nil_iff, or_false] at hop
  rcases hop with rfl | rfl <;> rfl
theorem sfx_keeps : ∀ ops ∈ ([hostOps1] : List (List (HloOp τ sig (Elt F)))), ∀ op ∈ ops, ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, Finset.mem_singleton] <;> exact StableHlo.devRef_ne_of_ne (by decide)
/-- What those lines write. -/
def T0 : Finset (Ref sig .tc) := {main_v5, main_v6}
theorem sfx_writes : ∀ ops ∈ ([hostOps1] : List (List (HloOp τ sig (Elt F)))), ∀ op ∈ ops, ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl | rfl
  all_goals intro b hb; simp only [StableHlo.unary_writes, Finset.mem_singleton] at hb; rw [Proc.devRef_injective _ hb]; decide

theorem pre_fresh : ([hostOps0] : List (List (HloOp τ sig (Elt F)))).Forall fun ops => ops.Forall fun op => op.fresh = ∅ :=
  ⟨rfl, rfl, rfl, rfl⟩

theorem hmain : Pipeline.HMainPK (Ix := Unit) (Name := ℕ) (U := Pipeline.UD sig nD τ) (Lvl := ℕ) (pcfgs (F := F)) 0 defs₀ Variants.none m main
    (fun c b => V₀ m c (Proc.devRef .tc b)) (fun _ => Pipeline.chain ([hostOps1].map StableHlo.seq)) :=
  Pipeline.hmainP_around pcfgs 0 defs₀ Variants.none m main [hostOps0] [hostOps1] hostOps0_sub pre_fresh main_chain

/-! ## The kernel's own counters and pools -/

/-- The 32 counters. -/
def osem (k : Fin 2 × Fin 16) : SemLoc sig := .dma (semAt k.1 k.2)
theorem ownSemFacts : Pipeline.OwnSemFacts spec0 osem := by decide
/-- The pools the transfers read. -/
def H0 : Finset (Ref sig .tc) := {main_v2, main_v3}
theorem H0_sub : H0 ⊆ Pipeline.restRefsP sig pre0 spec0 := by decide

/-! ## The proof data -/

/-- Input window `w`'s block at step `t`. -/
def iblk (c : Dev nD) (w : Fin (cf m).W) (t : Fin (cf m).N) : (((cf m).win w).xblock ((cf m).grid.coords t)).Idx → Elt F ((cf m).win w).elt :=
  (((cf m).win w).blk t).view.read (Elt F) (V m c (Pipeline.arrRef spec0 w))

theorem coords0 : ∀ t : Fin grid0.N, ((grid0.coords t) 0).val = t.val := by decide

/-- The sequence a step serves. -/
abbrev seqOf (t : Fin (cf m).N) : Fin 32 := ⟨((grid0.coords t) 0).val, iLt (grid0.coords t)⟩

def yAt (c : Dev nD) (t : Fin (cf m).N) : Vec F S1x128x2048 .bf16 :=
  outY (V m c main_v2) (V m c main_v3) (V m c main_arg7) (V m c main_arg8) (seqOf m t)
    (iblk m c 0 t) (iblk m c 1 t) (iblk m c 2 t) (iblk m c 3 t) (iblk m c 4 t)
def kAt (c : Dev nD) (t : Fin (cf m).N) := cAll (kcode (F := F) (iblk m c 0 t) (iblk m c 3 t))
def vAt (c : Dev nD) (t : Fin (cf m).N) := cAll (vcode (F := F) (iblk m c 1 t) (iblk m c 4 t))

/-- The invariant before step `n`. -/
def PhiN (c : Dev nD) (n : ℕ) : sProp 𝕄 :=
  iprop(Slots c (V m c main_v2) (V m c main_v3) (V m c main_arg7) (V m c main_arg8) n
    ∗ TabP c (V m c main_arg7) ∗ TabL c (V m c main_arg8) ∗ (∃ a, AccAt c a)
    ∗ kDrop c (V m c main_v2) ∗ vDrop c (V m c main_v3))

def dats (p : Fin 1) (c : Dev nD) : Dat τ (Elt F) Unit ℕ (Pipeline.UD sig nD τ) ℕ (cf m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yAt m c t
    | ⟨6, _⟩ => kAt m c t
    | ⟨7, _⟩ => vAt m c t
  Φ n := PhiN m c n.val
  q _ := fullShare
  owed _ := 0

theorem A_eq (c : Dev nD) (w : Fin (cf m).W) : (dats m 0 c).A w = V m c (Pipeline.arrRef spec0 w) := rfl
theorem after_0 (c : Dev nD) (t : Fin (cf m).N) : (dats m 0 c).after 0 t = iblk m c 0 t := rfl
theorem after_1 (c : Dev nD) (t : Fin (cf m).N) : (dats m 0 c).after 1 t = iblk m c 1 t := rfl
theorem after_2 (c : Dev nD) (t : Fin (cf m).N) : (dats m 0 c).after 2 t = iblk m c 2 t := rfl
theorem after_3 (c : Dev nD) (t : Fin (cf m).N) : (dats m 0 c).after 3 t = iblk m c 3 t := rfl
theorem after_4 (c : Dev nD) (t : Fin (cf m).N) : (dats m 0 c).after 4 t = iblk m c 4 t := rfl
theorem after_5 (c : Dev nD) (t : Fin (cf m).N) : (dats m 0 c).after 5 t = yAt m c t := rfl
theorem after_6 (c : Dev nD) (t : Fin (cf m).N) : (dats m 0 c).after 6 t = kAt m c t := rfl
theorem after_7 (c : Dev nD) (t : Fin (cf m).N) : (dats m 0 c).after 7 t = vAt m c t := rfl
theorem before_0 (c : Dev nD) (t : Fin (cf m).N) (d) : (dats m 0 c).before 0 t d = iblk m c 0 t :=
  ((dats m 0 c).before_in_eq_fetched 0 rfl (fun _ => rfl) (fun _ _ _ => rfl) (fun t => by rw [after_0]; rfl) t d).trans rfl
theorem before_1 (c : Dev nD) (t : Fin (cf m).N) (d) : (dats m 0 c).before 1 t d = iblk m c 1 t :=
  ((dats m 0 c).before_in_eq_fetched 1 rfl (fun _ => rfl) (fun _ _ _ => rfl) (fun t => by rw [after_1]; rfl) t d).trans rfl
theorem before_2 (c : Dev nD) (t : Fin (cf m).N) (d) : (dats m 0 c).before 2 t d = iblk m c 2 t :=
  ((dats m 0 c).before_in_eq_fetched 2 rfl (fun _ => rfl) (fun _ _ _ => rfl) (fun t => by rw [after_2]; rfl) t d).trans rfl
theorem before_3 (c : Dev nD) (t : Fin (cf m).N) (d) : (dats m 0 c).before 3 t d = iblk m c 3 t :=
  ((dats m 0 c).before_in_eq_fetched 3 rfl (fun _ => rfl) (fun _ _ _ => rfl) (fun t => by rw [after_3]; rfl) t d).trans rfl
theorem before_4 (c : Dev nD) (t : Fin (cf m).N) (d) : (dats m 0 c).before 4 t d = iblk m c 4 t :=
  ((dats m 0 c).before_in_eq_fetched 4 rfl (fun _ => rfl) (fun _ _ _ => rfl) (fun t => by rw [after_4]; rfl) t d).trans rfl

/-! ## The two ends of the invariant -/

theorem slots_first (c : Dev nD) : (Slots c (V m c main_v2) (V m c main_v3) (V m c main_arg7) (V m c main_arg8) 0 : sProp 𝕄) = AllIdle c (V m c main_v2) (V m c main_v3) :=
  slots_idle c _ _ _ _ 0 (cntN_no _ (by decide)) (by decide)
theorem slots_last (c : Dev nD) : (Slots c (V m c main_v2) (V m c main_v3) (V m c main_arg7) (V m c main_arg8) 32 : sProp 𝕄) = AllIdle c (V m c main_v2) (V m c main_v3) :=
  slots_idle c _ _ _ _ 32 (cntN_no _ (by decide)) (by decide)

theorem tabs_eq (c : Dev nD) : (Pipeline.ΦT (U := Pipeline.UD sig nD τ) pre0 (tabs m 0).1 c : sProp 𝕄)
    = iprop(TabP c (V m c main_arg7) ∗ TabL c (V m c main_arg8)) := by
  obtain rfl : c = 0 := Subsingleton.elim _ _
  unfold Pipeline.ΦT Pipeline.prefHeld
  exact BI.bigSep_fin_two _

theorem pools_eq (c : Dev nD) : (bigSep H0 (fun b => ((c.tc : Thread nD τ).loc b) ↦{fullShare} V m c b) : sProp 𝕄)
    = iprop(((c.tc : Thread nD τ).loc main_v2 ↦{fullShare} V m c main_v2) ∗ ((c.tc : Thread nD τ).loc main_v3 ↦{fullShare} V m c main_v3)) := by
  rw [BI.bigSep_eq_bigSepL_of_eq [main_v2, main_v3] (by decide) (by decide)]; rfl

theorem sems_eq (c : Dev nD) : (Pipeline.ownSems0 (Ix := Unit) (Name := ℕ) (U := Pipeline.UD sig nD τ) (Lvl := ℕ) (Val := Elt F) (τ := τ) osem c : sProp 𝕄)
    = bigSep Finset.univ fun k : Fin 2 × Fin 16 => semVal ((c : Thread nD τ), SemLoc.dma (semAt k.1 k.2)) 0 := rfl

/-- What the region hands the kernel, beside the tables. -/
def Own (c : Dev nD) : sProp 𝕄 :=
  iprop(Pipeline.scopedRest (Ix := Unit) (Name := ℕ) (U := Pipeline.UD sig nD τ) (Lvl := ℕ) (Val := Elt F) spec0 c
    ∗ Pipeline.ownSems0 (Ix := Unit) (Name := ℕ) (U := Pipeline.UD sig nD τ) (Lvl := ℕ) (Val := Elt F) (τ := τ) osem c
    ∗ bigSep H0 (fun b => ((c.tc : Thread nD τ).loc b) ↦{fullShare} V m c b))

theorem own_in (c : Dev nD) : iprop(Own m c ∗ TabP c (V m c main_arg7) ∗ TabL c (V m c main_arg8)) ⊢ PhiN m c 0 := by
  unfold Own PhiN
  rw [pools_eq, sems_eq, scopedRest0_eq, slots_first, allIdle_eq]
  iintro ⟨⟨⟨Hk, Hv, Ha⟩, Hs, Hpk, Hpv⟩, Ht, Hl⟩
  ihave Hk := (kBuf (F := F) c).1 $$ Hk
  ihave Hv := (vBuf (F := F) c).1 $$ Hv
  ihave Hpk := (kPool c (V m c main_v2)).1 $$ Hpk
  ihave Hpv := (vPool c (V m c main_v3)).1 $$ Hpv
  icases Hpk with ⟨Hdk, Hpk⟩
  icases Hpv with ⟨Hdv, Hpv⟩
  isplitl [Hs Hk Hpk Hv Hpv]
  · isplitl [Hs]; · iexact Hs
    isplitl [Hk]; · iexact Hk
    isplitl [Hpk]; · iexact Hpk
    isplitl [Hv]; · iexact Hv
    iexact Hpv
  isplitl [Ht]; · iexact Ht
  isplitl [Hl]; · iexact Hl
  isplitl [Ha]; · iexact Ha
  isplitl [Hdk]; · iexact Hdk
  iexact Hdv

theorem own_out (c : Dev nD) : PhiN m c 32 ⊢ Own m c := by
  unfold Own PhiN
  rw [pools_eq, sems_eq, scopedRest0_eq, slots_last, allIdle_eq]
  iintro ⟨⟨Hs, Hk, Hpk, Hv, Hpv⟩, -, -, Ha, Hdk, Hdv⟩
  isplitl [Hk Hv Ha]
  · isplitl [Hk]; · iapply (kBuf (F := F) c).2 $$ Hk
    isplitl [Hv]; · iapply (vBuf (F := F) c).2 $$ Hv
    iexact Ha
  isplitl [Hs]; · iexact Hs
  isplitl [Hdk Hpk]
  · iapply (kPool c (V m c main_v2)).2
    isplitl [Hdk]; · iexact Hdk
    iexact Hpk
  · iapply (vPool c (V m c main_v3)).2
    isplitl [Hdv]; · iexact Hdv
    iexact Hpv

/-! ## A step -/

/-- The body as the pipeline calls it at step `t`. -/
def bodyAt (t : Fin (cf m).N) : Prog (TpuEff nD τ sig (Elt F) Λ₀ .tc) PUnit :=
  cc0_paged_gqa (grid0.coords t) (Memref.whole main_arg7) (Memref.isWhole_whole _) (Memref.whole main_arg8) (Memref.isWhole_whole _) ((spec0_0).stage ((cf m).slots t 0)) (hstage0_0 (((cf m).slots t 0).cast nbuf0_0)) ((spec0_1).stage ((cf m).slots t 1)) (hstage0_1 (((cf m).slots t 1).cast nbuf0_1)) ((spec0_2).stage ((cf m).slots t 2)) (hstage0_2 (((cf m).slots t 2).cast nbuf0_2)) ((spec0_3).stage ((cf m).slots t 3)) (hstage0_3 (((cf m).slots t 3).cast nbuf0_3)) ((spec0_4).stage ((cf m).slots t 4)) (hstage0_4 (((cf m).slots t 4).cast nbuf0_4))
    (Memref.whole main_v2) (Memref.isWhole_whole _) (Memref.whole main_v3) (Memref.isWhole_whole _) ((spec0_5).stage ((cf m).slots t 5)) (hstage0_5 (((cf m).slots t 5).cast nbuf0_5)) ((spec0_6).stage ((cf m).slots t 6)) (hstage0_6 (((cf m).slots t 6).cast nbuf0_6)) ((spec0_7).stage ((cf m).slots t 7)) (hstage0_7 (((cf m).slots t 7).cast nbuf0_7))
    (Memref.whole cc0_scratch0) (Memref.isWhole_whole _) (Memref.whole cc0_scratch1) (Memref.isWhole_whole _) (Memref.whole cc0_scratch2) (Memref.isWhole_whole _) cc0_scratch3

theorem defs₀_row (t : Fin (cf m).N) : defs₀ (F := F) .tc (cf m).body ((cf m).bodyArgs t ((cf m).slots t)) = bodyAt m t := by
  unfold defs₀; rw [Defs.onTc_tc]; rfl

def bodyPre (c : Dev nD) (t : Fin (cf m).N) : sProp 𝕄 :=
  iprop((dats m 0 c).Φ t.castSucc ∗ (dats m 0 c).owesAt () t.castSucc
    ∗ (∃ d, owns (c : Thread nD τ) ((spec0_0).stage ((cf m).slots t 0)) fullShare ((dats m 0 c).before 0 t d))
    ∗ (∃ d, owns (c : Thread nD τ) ((spec0_1).stage ((cf m).slots t 1)) fullShare ((dats m 0 c).before 1 t d))
    ∗ (∃ d, owns (c : Thread nD τ) ((spec0_2).stage ((cf m).slots t 2)) fullShare ((dats m 0 c).before 2 t d))
    ∗ (∃ d, owns (c : Thread nD τ) ((spec0_3).stage ((cf m).slots t 3)) fullShare ((dats m 0 c).before 3 t d))
    ∗ (∃ d, owns (c : Thread nD τ) ((spec0_4).stage ((cf m).slots t 4)) fullShare ((dats m 0 c).before 4 t d))
    ∗ (∃ d, owns (c : Thread nD τ) ((spec0_5).stage ((cf m).slots t 5)) fullShare ((dats m 0 c).before 5 t d))
    ∗ (∃ d, owns (c : Thread nD τ) ((spec0_6).stage ((cf m).slots t 6)) fullShare ((dats m 0 c).before 6 t d))
    ∗ (∃ d, owns (c : Thread nD τ) ((spec0_7).stage ((cf m).slots t 7)) fullShare ((dats m 0 c).before 7 t d)))
def bodyPost (c : Dev nD) (t : Fin (cf m).N) : sProp 𝕄 :=
  iprop((dats m 0 c).Φ t.succ ∗ (dats m 0 c).owesAt () t.succ
    ∗ owns (c : Thread nD τ) ((spec0_0).stage ((cf m).slots t 0)) fullShare ((dats m 0 c).after 0 t)
    ∗ owns (c : Thread nD τ) ((spec0_1).stage ((cf m).slots t 1)) fullShare ((dats m 0 c).after 1 t)
    ∗ owns (c : Thread nD τ) ((spec0_2).stage ((cf m).slots t 2)) fullShare ((dats m 0 c).after 2 t)
    ∗ owns (c : Thread nD τ) ((spec0_3).stage ((cf m).slots t 3)) fullShare ((dats m 0 c).after 3 t)
    ∗ owns (c : Thread nD τ) ((spec0_4).stage ((cf m).slots t 4)) fullShare ((dats m 0 c).after 4 t)
    ∗ owns (c : Thread nD τ) ((spec0_5).stage ((cf m).slots t 5)) fullShare ((dats m 0 c).after 5 t)
    ∗ owns (c : Thread nD τ) ((spec0_6).stage ((cf m).slots t 6)) fullShare ((dats m 0 c).after 6 t)
    ∗ owns (c : Thread nD τ) ((spec0_7).stage ((cf m).slots t 7)) fullShare ((dats m 0 c).after 7 t))

variable (hpt : ∀ c x, (V m c main_arg7 x).toNat < 2048) (hsl : ∀ c x, (V m c main_arg8 x).toNat ≤ 8192)

include hpt hsl in
theorem sound_body (c : Dev nD) (t : Fin (cf m).N) :
    bodyPre m c t ⊢ wp frame (wpE (defs₀ (F := F)) Variants.none c none) Set.univ (bodyAt m t) (fun _ => bodyPost m c t) := by
  unfold bodyPre bodyPost bodyAt
  rw [show (dats m 0 c).Φ t.castSucc = PhiN m c t.val from rfl, show (dats m 0 c).Φ t.succ = PhiN m c (t.val + 1) from rfl]
  unfold Dat.owesAt Pipeline.owesWithin PhiN
  rw [show (dats m 0 c).owed t.castSucc = 0 from rfl, show (dats m 0 c).owed t.succ = 0 from rfl]
  simp only [before_0, before_1, before_2, before_3, before_4, after_0, after_1, after_2, after_3, after_4, after_5, after_6, after_7]
  rw [← coords0 t]
  iintro ⟨⟨HS, HP, HL, ⟨%a, HA⟩, Hdk, Hdv⟩, ⟨%W, -, HW⟩, ⟨%e0, H0⟩, ⟨%e1, H1⟩, ⟨%e2, H2⟩, ⟨%e3, H3⟩, ⟨%e4, H4⟩, ⟨%e5, H5⟩, ⟨%e6, H6⟩, ⟨%e7, H7⟩⟩
  iapply (wp_wand frame (wpE (defs₀ (F := F)) Variants.none (Dev.tc c : Thread nD τ) none) Set.univ) $$ [HS HP HL HA HW H0 H1 H2 H3 H4 H5 H6 H7]
  · iapply (body_run c (V m c main_v2) (V m c main_v3) (V m c main_arg7) (V m c main_arg8) (grid0.coords t) _ _ _ _ _ _ _ _ _ _ _ _ _ _ _ _
      (iblk m c 0 t) (iblk m c 1 t) (iblk m c 2 t) (iblk m c 3 t) (iblk m c 4 t) (hpt c) (hsl c) _ _ _ a)
    isplitl [HS]; · iexact HS
    isplitl [HP]; · iexact HP
    isplitl [HL]; · iexact HL
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]; · iexact HA
    iexists W; iexact HW
  iintro %r ⟨HS, HP, HL, H0, H1, H2, H3, H4, H5, H6, H7, ⟨%a', HA⟩, ⟨%W', HW⟩⟩
  isplitl [HS HP HL HA Hdk Hdv]
  · isplitl [HS]; · iexact HS
    isplitl [HP]; · iexact HP
    isplitl [HL]; · iexact HL
    isplitl [HA]; · iexists a'; iexact HA
    isplitl [Hdk]; · iexact Hdk
    iexact Hdv
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

include hpt hsl in
theorem body_obligation (c : Dev nD) : BodyObligation (dats (F := F) m 0 c) (defs₀ (F := F)) Variants.none () Set.univ := fun t => by
  rw [bigSep_W0, bigSep_W0, defs₀_row]
  exact triple_restated (sound_body m hpt hsl c t) rfl .rfl fun _ => .rfl

/-! ## The run -/

set_option backward.isDefEq.respectTransparency.types false in
include hpt hsl in
theorem run_frame : θ_run defs (onTc (τ := τ) (main (F := F))) (s₀ m ρ)
    (Pipeline.FramePostR (Pipeline.pin pcfgs (tabs m)) (dats m) 0 (∅ ∪ T0) (fun c b => V m c b)) :=
  Pipeline.θ_run_frameP_dmaR_around₀ pcfgs (tabs m) (dats m) (0 : Fin 1) launch0 osem defs₀ Variants.none ownSemFacts H0 ∅ T0 H0_sub (Finset.empty_subset _) m ρ main
    (hbody := fun c => (body_obligation m hpt hsl c).loose) (hshare := fun c => (dats m 0 c).share_full fun _ => rfl)
    (howed := fun _ _ => rfl) (V₀ := V₀ m) (opss := [hostOps1]) (hsub := sfx_sub) (hfresh := sfx_fresh) (hkeep := sfx_keeps) (hT := sfx_writes)
    (hmain := hmain m) (hA := A_eq m) (hpf := hpf m)
    (hin := fun c => by
      rw [tabs_eq]
      refine BIBase.Entails.trans ?_ (own_in m c)
      unfold Own Pipeline.ΦDR₀ Pipeline.owned
      iintro ⟨⟨Hr, Hs, Hh, -⟩, HT⟩
      isplitl [Hr Hs Hh]
      · isplitl [Hr]; · iexact Hr
        isplitl [Hs]; · iexact Hs
        iexact Hh
      iexact HT)
    (hout := fun c => by
      refine (own_out m c).trans ?_
      unfold Own Pipeline.ΦDR₀ Pipeline.owned
      iintro ⟨Hr, Hs, Hh⟩
      isplitl [Hr]; · iexact Hr
      isplitl [Hs]; · iexact Hs
      isplitl [Hh]; · iexact Hh
      rw [BI.bigSep_empty]; iempintro)

set_option backward.isDefEq.respectTransparency.types false in
include hpt hsl in
theorem run_vals : θ_run defs (onTc (τ := τ) (main (F := F))) (s₀ m ρ)
    (fun r => (∀ c : Dev nD, (∀ w, r.2.mem (((cf m).spec w).arr.view.loc (c.tc : Thread nD τ)) = (dats m 0 c).arrAt w (cf m).N)
      ∧ ∀ b ∈ Pipeline.restRefsP sig pre0 spec0, r.2.mem ((c.tc : Thread nD τ).loc b) = StableHlo.after [hostOps1].flatten (Pipeline.withArrays spec0 c (Pipeline.withR (V₀ m c) ∅ c (V m c)) fun w => (dats m 0 c).arrAt w (cf m).N) (Proc.devRef .tc b))
      ∧ r.2.sem = fun _ => 0) :=
  Pipeline.θ_run_frameP_dmaR_aroundV (Q' := _) pcfgs (tabs m) (dats m) (0 : Fin 1) launch0 osem defs₀ Variants.none ownSemFacts H0 ∅ H0_sub (Finset.empty_subset _) m ρ main
    (hbody := fun c => (body_obligation m hpt hsl c).loose) (hshare := fun c => (dats m 0 c).share_full fun _ => rfl)
    (howed := fun _ _ => rfl) (V₀ := V₀ m) (opss := [hostOps1]) (hsub := sfx_sub) (hfresh := sfx_fresh) (hkeep := sfx_keeps) (G := V m)
    (hmain := hmain m) (hA := A_eq m) (hpf := hpf m)
    (hin := fun c => by
      rw [tabs_eq]
      refine BIBase.Entails.trans ?_ (own_in m c)
      unfold Own Pipeline.ΦDRV
      iintro ⟨⟨Hr, Hs, Hh, -⟩, HT⟩
      isplitl [Hr Hs Hh]
      · isplitl [Hr]; · iexact Hr
        isplitl [Hs]; · iexact Hs
        iexact Hh
      iexact HT)
    (hout := fun c => by
      refine (own_out m c).trans ?_
      unfold Own Pipeline.ΦDRV
      iintro ⟨Hr, Hs, Hh⟩
      isplitl [Hr]; · iexact Hr
      isplitl [Hs]; · iexact Hs
      isplitl [Hh]; · iexact Hh
      rw [BI.bigSep_empty]; iempintro)

/-- The argument arrays at the end of a run. -/
def Kept (r : PUnit × MemSt nD τ sig (Elt F)) : Prop := ∀ c : Dev nD,
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)

theorem kept_of (r : PUnit × MemSt nD τ sig (Elt F)) (h : Pipeline.FramePostR (Pipeline.pin pcfgs (tabs m)) (dats m) 0 (∅ ∪ T0) (fun c b => V m c b) r) : Kept m r :=
  fun c => ⟨((h c).1 2).trans (((dats m 0 c).arrAt_in 2 rfl _).trans ((A_eq m c 2).trans (V_keep m c main_arg0 (by decide)))),
    ((h c).2 main_arg1 (show main_arg1 ∈ Pipeline.restRefs sig spec0 \ (∅ ∪ T0) by decide)).trans (V_keep m c main_arg1 (by decide)),
    ((h c).2 main_arg2 (show main_arg2 ∈ Pipeline.restRefs sig spec0 \ (∅ ∪ T0) by decide)).trans (V_keep m c main_arg2 (by decide)),
    ((h c).2 main_arg3 (show main_arg3 ∈ Pipeline.restRefs sig spec0 \ (∅ ∪ T0) by decide)).trans (V_keep m c main_arg3 (by decide)),
    ((h c).2 main_arg4 (show main_arg4 ∈ Pipeline.restRefs sig spec0 \ (∅ ∪ T0) by decide)).trans (V_keep m c main_arg4 (by decide)),
    ((h c).1 0).trans (((dats m 0 c).arrAt_in 0 rfl _).trans ((A_eq m c 0).trans (V_keep m c main_arg5 (by decide)))),
    ((h c).1 1).trans (((dats m 0 c).arrAt_in 1 rfl _).trans ((A_eq m c 1).trans (V_keep m c main_arg6 (by decide)))),
    ((h c).2 main_arg7 (show main_arg7 ∈ Pipeline.restRefs sig spec0 \ (∅ ∪ T0) by decide)).trans (V_keep m c main_arg7 (by decide)),
    ((h c).2 main_arg8 (show main_arg8 ∈ Pipeline.restRefs sig spec0 \ (∅ ∪ T0) by decide)).trans (V_keep m c main_arg8 (by decide))⟩

/-- What the result buffers hold at the end of a run. -/
def Vals (r : PUnit × MemSt nD τ sig (Elt F)) : Prop := ∀ c : Dev nD,
  (∀ w, r.2.mem (((cf m).spec w).arr.view.loc (c.tc : Thread nD τ)) = (dats m 0 c).arrAt w (cf m).N)
    ∧ ∀ b ∈ Pipeline.restRefsP sig pre0 spec0, r.2.mem ((c.tc : Thread nD τ).loc b) = StableHlo.after [hostOps1].flatten (Pipeline.withArrays spec0 c (Pipeline.withR (V₀ m c) ∅ c (V m c)) fun w => (dats m 0 c).arrAt w (cf m).N) (Proc.devRef .tc b)

include hpt hsl in
/-- Every run ends, the arguments unchanged, the results at the values named, every counter at zero. -/
theorem run_all : θ_run defs (onTc (τ := τ) (main (F := F))) ⟨m, fun _ => 0, ρ⟩ (fun r => Kept m r ∧ Vals m r ∧ r.2.sem = fun _ => 0) :=
  θ_run_mono (θ_run_and (run_frame m ρ hpt hsl) (run_vals m ρ hpt hsl)) (fun r h => ⟨kept_of m r h.1, h.2.1, h.2.2⟩)

end Cert.KernelIdeal.Hand

end
-- ==== Proof.Val.Att.lean ====
module

public import Idealize.ShloMosaic.PureOps.Ideal

@[expose] public section

/-!
# The running softmax over the extended reals

Attention over a set of positions is a maximum `m`, a sum of weights `l` and a weighted sum of values `a`. Here is that
folding in one more block of positions, by rescaling `l` and `a` to the new maximum, gives the attention over the union,
and that positions with score minus infinity change nothing. No score or value is assumed finite.
-/

namespace Cert.Att

open Idealize.ShloMosaic

/-- The weight of score `a` against the maximum `m`, to base two, with scale `c`. -/
noncomputable def wt (c : ℝ) (a m : EReal) : EReal := Ideal.exp2 (a * (c : EReal) - m * (c : EReal))

theorem exp2_nonneg (x : EReal) : 0 ≤ Ideal.exp2 x := by
  induction x using EReal.rec with
  | bot => simp
  | top => simp
  | coe r => rw [Ideal.exp2_coe]; exact EReal.coe_nonneg.mpr (Real.rpow_nonneg (by norm_num) r)

variable {c : ℝ} (hc : 0 < c)
include hc

theorem wt_bot (m : EReal) : wt c ⊥ m = 0 := by
  rw [wt, EReal.bot_mul_coe_of_pos hc, EReal.bot_sub, Ideal.exp2_bot]

theorem wt_top (a : EReal) : wt c a ⊤ = 0 := by
  rw [wt, EReal.top_mul_coe_of_pos hc, sub_eq_add_neg, EReal.neg_top, EReal.add_bot, Ideal.exp2_bot]

omit hc in
theorem wt_coe (a m : ℝ) : wt c (a : EReal) (m : EReal) = (((2 : ℝ) ^ ((a - m) * c) : ℝ) : EReal) := by
  rw [wt, ← EReal.coe_mul, ← EReal.coe_mul, ← EReal.coe_sub, Ideal.exp2_coe, sub_mul]
  rfl

omit hc in
theorem wt_nonneg (a m : EReal) : 0 ≤ wt c a m := exp2_nonneg _

theorem wt_ne_top {a m : EReal} (h : a ≤ m) : wt c a m ≠ ⊤ := by
  induction m using EReal.rec with
  | top => rw [wt_top hc]; exact EReal.zero_ne_top
  | bot => rw [le_bot_iff.mp h, wt_bot hc]; exact EReal.zero_ne_top
  | coe m =>
    induction a using EReal.rec with
    | bot => rw [wt_bot hc]; exact EReal.zero_ne_top
    | top => exact absurd h (not_le.mpr (EReal.coe_lt_top m))
    | coe a => rw [wt_coe]; exact EReal.coe_ne_top _

/-- Rescaling a weight to a larger maximum. -/
theorem wt_mul {a m m' : EReal} (h : a ≤ m) (h' : m ≤ m') : wt c a m * wt c m m' = wt c a m' := by
  induction m' using EReal.rec with
  | top => rw [wt_top hc, wt_top hc, mul_zero]
  | bot => rw [le_bot_iff.mp h', wt_bot hc, mul_zero, le_bot_iff.mp (h.trans h'), wt_bot hc]
  | coe m' =>
    induction m using EReal.rec with
    | top => exact absurd h' (not_le.mpr (EReal.coe_lt_top m'))
    | bot => rw [le_bot_iff.mp h, wt_bot hc, wt_bot hc, zero_mul]
    | coe m =>
      induction a using EReal.rec with
      | bot => rw [wt_bot hc, wt_bot hc, zero_mul]
      | top => exact absurd h (not_le.mpr (EReal.coe_lt_top m))
      | coe a =>
        rw [wt_coe, wt_coe, wt_coe, ← EReal.coe_mul, ← Real.rpow_add (by norm_num)]
        congr 2; ring

omit hc in
/-- A finite nonnegative factor goes into a sum. -/
theorem sum_mul {ι : Type} (S : Finset ι) (f : ι → EReal) {w : EReal} (h0 : 0 ≤ w) (ht : w ≠ ⊤) :
    (∑ i ∈ S, f i) * w = ∑ i ∈ S, f i * w := by
  classical
  induction S using Finset.induction_on with
  | empty => simp
  | insert i S hi ih =>
    rw [Finset.sum_insert hi, Finset.sum_insert hi, EReal.right_distrib_of_nonneg_of_ne_top h0 ht, ih]

omit hc in
/-- `m`, `l`, `a` are the maximum, the sum of weights and the weighted sum of the values of the positions in `S`. -/
structure Att {ι : Type} (c : ℝ) (S : Finset ι) (s v : ι → EReal) (m l a : EReal) : Prop where
  max : m = S.sup s
  sum : l = ∑ i ∈ S, wt c (s i) m
  acc : a = ∑ i ∈ S, wt c (s i) m * v i

/-- Folding in the positions of `T`. -/
theorem Att.union {ι : Type} [DecidableEq ι] {S T : Finset ι} {s v : ι → EReal} {m l a m' l' a' : EReal} (h : Att c S s v m l a)
    (hd : Disjoint S T) (hm : m' = Max.max m (T.sup s)) (hl : l' = l * wt c m m' + ∑ i ∈ T, wt c (s i) m')
    (ha : a' = a * wt c m m' + ∑ i ∈ T, wt c (s i) m' * v i) : Att c (S ∪ T) s v m' l' a' := by
  have hmm : m ≤ m' := hm ▸ le_max_left _ _
  have hs : ∀ i ∈ S, s i ≤ m := fun i hi => h.max ▸ Finset.le_sup hi
  refine ⟨?_, ?_, ?_⟩
  · rw [hm, Finset.sup_union, h.max]
  · rw [hl, Finset.sum_union hd, h.sum, sum_mul S _ (wt_nonneg _ _) (wt_ne_top hc hmm)]
    congr 1
    exact Finset.sum_congr rfl fun i hi => wt_mul hc (hs i hi) hmm
  · rw [ha, Finset.sum_union hd, h.acc, sum_mul S _ (wt_nonneg _ _) (wt_ne_top hc hmm)]
    congr 1
    refine Finset.sum_congr rfl fun i hi => ?_
    rw [mul_right_comm, wt_mul hc (hs i hi) hmm]

/-- Positions of score minus infinity change nothing. -/
theorem Att.grow {ι : Type} {S T : Finset ι} {s v : ι → EReal} {m l a : EReal} (h : Att c S s v m l a) (hST : S ⊆ T)
    (hb : ∀ i ∈ T, i ∉ S → s i = ⊥) : Att c T s v m l a := by
  refine ⟨?_, ?_, ?_⟩
  · rw [h.max]
    refine le_antisymm (Finset.sup_mono hST) (Finset.sup_le fun i hi => ?_)
    by_cases hiS : i ∈ S
    · exact Finset.le_sup hiS
    · rw [hb i hi hiS]; exact bot_le
  · rw [h.sum]
    exact Finset.sum_subset hST fun i hi hn => by rw [hb i hi hn, wt_bot hc]
  · rw [h.acc]
    exact Finset.sum_subset hST fun i hi hn => by rw [hb i hi hn, wt_bot hc, zero_mul]

/-! ## The same weights to base `e` -/

/-- The base-two weight with scale `c` is the base-`e` weight with scale `c * log 2`. -/
theorem wt_exp {d : ℝ} (hd : c * Real.log 2 = d) (a m : EReal) :
    wt c a m = Ideal.exp (a * (d : EReal) - m * (d : EReal)) := by
  have hd0 : 0 < d := hd ▸ mul_pos hc (Real.log_pos (by norm_num))
  induction m using EReal.rec with
  | top => rw [wt_top hc, EReal.top_mul_coe_of_pos hd0, sub_eq_add_neg, EReal.neg_top, EReal.add_bot, Ideal.exp_bot]
  | bot =>
    induction a using EReal.rec with
    | bot => rw [wt_bot hc, EReal.bot_mul_coe_of_pos hd0, EReal.bot_sub, Ideal.exp_bot]
    | top => rw [wt, EReal.top_mul_coe_of_pos hc, EReal.bot_mul_coe_of_pos hc, EReal.top_mul_coe_of_pos hd0, EReal.bot_mul_coe_of_pos hd0]; rfl
    | coe a =>
      rw [wt, EReal.bot_mul_coe_of_pos hc, EReal.bot_mul_coe_of_pos hd0, ← EReal.coe_mul, ← EReal.coe_mul]; rfl
  | coe m =>
    induction a using EReal.rec with
    | bot => rw [wt_bot hc, EReal.bot_mul_coe_of_pos hd0, EReal.bot_sub, Ideal.exp_bot]
    | top =>
      rw [wt, EReal.top_mul_coe_of_pos hc, EReal.top_mul_coe_of_pos hd0, ← EReal.coe_mul, ← EReal.coe_mul]; rfl
    | coe a =>
      rw [wt_coe, ← EReal.coe_mul, ← EReal.coe_mul, ← EReal.coe_sub, Ideal.exp_coe, Real.rpow_def_of_pos (by norm_num), ← hd]
      congr 2; ring

omit hc in
/-- A positive finite factor goes into a maximum. -/
theorem sup_mul {ι : Type} (S : Finset ι) (f : ι → EReal) {d : ℝ} (hd : 0 < d) :
    S.sup (fun i => f i * (d : EReal)) = S.sup f * (d : EReal) := by
  symm
  have mono : Monotone fun x : EReal => x * (d : EReal) := fun x y h => mul_le_mul_of_nonneg_right h (EReal.coe_nonneg.mpr hd.le)
  exact Finset.comp_sup_eq_sup_comp_of_is_total _ mono (EReal.bot_mul_coe_of_pos hd)

/-! ## New tokens and cached positions -/

omit hc in
/-- The positions: 128 new tokens and 8192 cached. -/
abbrev Pos := Fin 128 ⊕ Fin 8192

omit hc in
/-- The new tokens and the first `k` blocks. -/
def upto (k : ℕ) : Finset Pos := Finset.univ.filter fun i => ∀ p, i = .inr p → p.val < 512 * k
omit hc in
/-- Position `r` of block `k`. -/
def inBlk (k : ℕ) (hk : k < 16) : Fin 512 ↪ Pos :=
  ⟨fun r => .inr ⟨512 * k + r.val, by omega⟩, fun a b h => Fin.ext (by
    have := congrArg Fin.val (Sum.inr.inj h); change 512 * k + a.val = 512 * k + b.val at this; omega)⟩
omit hc in
/-- Block `k`. -/
def blk (k : ℕ) (hk : k < 16) : Finset Pos := Finset.univ.map (inBlk k hk)

omit hc in
theorem mem_blk {k : ℕ} {hk : k < 16} {i : Pos} : i ∈ blk k hk ↔ ∃ p : Fin 8192, i = .inr p ∧ 512 * k ≤ p.val ∧ p.val < 512 * (k + 1) := by
  unfold blk
  rw [Finset.mem_map]
  constructor
  · rintro ⟨r, -, rfl⟩
    exact ⟨_, rfl, by show 512 * k ≤ 512 * k + r.val; omega, by show 512 * k + r.val < _; omega⟩
  · rintro ⟨p, rfl, h1, h2⟩
    exact ⟨⟨p.val - 512 * k, by omega⟩, Finset.mem_univ _, congrArg Sum.inr (Fin.ext (by show 512 * k + (p.val - 512 * k) = p.val; omega))⟩

omit hc in
theorem upto_succ (k : ℕ) (hk : k < 16) : upto k ∪ blk k hk = upto (k + 1) := by
  ext i
  rw [Finset.mem_union, mem_blk]
  unfold upto
  simp only [Finset.mem_filter, Finset.mem_univ, true_and]
  constructor
  · rintro (h | ⟨p, rfl, -, h⟩) q hq
    · have := h q hq; omega
    · cases hq; exact h
  · intro h
    rcases i with j | p
    · exact .inl fun q hq => by cases hq
    · by_cases hp : p.val < 512 * k
      · exact .inl fun q hq => by cases hq; exact hp
      · exact .inr ⟨p, rfl, by omega, h p rfl⟩

omit hc in
theorem upto_disj (k : ℕ) (hk : k < 16) : Disjoint (upto k) (blk k hk) := by
  rw [Finset.disjoint_left]
  intro i hi hb
  obtain ⟨p, rfl, h1, -⟩ := mem_blk.mp hb
  unfold upto at hi
  have := (Finset.mem_filter.mp hi).2 p rfl
  omega

/-- Folding in block `k`. -/
theorem Att.block {s v : Pos → EReal} {m l a m' l' a' : EReal} {k : ℕ} (hk : k < 16) (h : Att c (upto k) s v m l a)
    (hm : m' = Max.max m (Finset.univ.sup fun r => s (inBlk k hk r)))
    (hl : l' = l * wt c m m' + ∑ r, wt c (s (inBlk k hk r)) m')
    (ha : a' = a * wt c m m' + ∑ r, wt c (s (inBlk k hk r)) m' * v (inBlk k hk r)) :
    Att c (upto (k + 1)) s v m' l' a' := by
  rw [← upto_succ k hk]
  refine h.union hc (upto_disj k hk) ?_ ?_ ?_
  · rw [hm, blk, Finset.sup_map]; rfl
  · rw [hl, blk, Finset.sum_map]
  · rw [ha, blk, Finset.sum_map]

omit hc in
theorem upto_zero : upto 0 = Finset.univ.map (Function.Embedding.inl : Fin 128 ↪ Pos) := by
  ext i
  unfold upto
  rw [Finset.mem_filter, Finset.mem_map]
  constructor
  · rintro ⟨-, h⟩
    rcases i with j | p
    · exact ⟨j, Finset.mem_univ _, rfl⟩
    · have := h p rfl; omega
  · rintro ⟨j, -, rfl⟩
    exact ⟨Finset.mem_univ _, fun q hq => by cases hq⟩

omit hc in
/-- The new tokens alone. -/
theorem Att.start {s v : Pos → EReal} {m l a : EReal} (hm : m = Finset.univ.sup fun j => s (.inl j))
    (hl : l = ∑ j, wt c (s (.inl j)) m) (ha : a = ∑ j, wt c (s (.inl j)) m * v (.inl j)) : Att c (upto 0) s v m l a := by
  rw [upto_zero]
  refine ⟨?_, ?_, ?_⟩
  · rw [hm, Finset.sup_map]; rfl
  · rw [hl, Finset.sum_map]; rfl
  · rw [ha, Finset.sum_map]; rfl

/-- The blocks not folded in are beyond the length: the attention is over all positions. -/
theorem Att.all {s v : Pos → EReal} {m l a : EReal} {k : ℕ} (h : Att c (upto k) s v m l a)
    (hb : ∀ p : Fin 8192, 512 * k ≤ p.val → s (.inr p) = ⊥) : Att c Finset.univ s v m l a := by
  refine h.grow hc (Finset.subset_univ _) fun i _ hi => ?_
  rcases i with j | p
  · exact absurd (Finset.mem_filter.mpr ⟨Finset.mem_univ _, fun q hq => by cases hq⟩) hi
  · by_contra hne
    exact hi (Finset.mem_filter.mpr ⟨Finset.mem_univ _, fun q hq => by
      cases hq; by_contra hlt; exact hne (hb p (by omega))⟩)

omit hc in
theorem sup_pos (s : Pos → EReal) : Finset.univ.sup s = Max.max (Finset.univ.sup fun j => s (.inl j)) (Finset.univ.sup fun p => s (.inr p)) := by
  apply le_antisymm
  · refine Finset.sup_le fun i _ => ?_
    rcases i with j | p
    · exact le_max_of_le_left (Finset.le_sup (f := fun j => s (.inl j)) (Finset.mem_univ j))
    · exact le_max_of_le_right (Finset.le_sup (f := fun p => s (.inr p)) (Finset.mem_univ p))
  · exact max_le (Finset.sup_le fun j _ => Finset.le_sup (Finset.mem_univ _)) (Finset.sup_le fun j _ => Finset.le_sup (Finset.mem_univ _))

/-- Attention over all positions as a quotient, the scores scaled first and the weights to base `e`. -/
theorem Att.quot {d : ℝ} (hd : c * Real.log 2 = d) {s v : Pos → EReal} {m l a M : EReal} (h : Att c Finset.univ s v m l a)
    (hM : M = Max.max (Finset.univ.sup fun p => s (.inr p) * (d : EReal)) (Finset.univ.sup fun j => s (.inl j) * (d : EReal))) :
    l = (∑ p, Ideal.exp (s (.inr p) * (d : EReal) - M)) + ∑ j, Ideal.exp (s (.inl j) * (d : EReal) - M) ∧
      a = (∑ p, Ideal.exp (s (.inr p) * (d : EReal) - M) * v (.inr p)) + ∑ j, Ideal.exp (s (.inl j) * (d : EReal) - M) * v (.inl j) := by
  have hd0 : 0 < d := hd ▸ mul_pos hc (Real.log_pos (by norm_num))
  have e : M = m * (d : EReal) := by
    rw [hM, h.max, ← sup_mul _ _ hd0, sup_pos, max_comm]
  subst e
  refine ⟨?_, ?_⟩
  · rw [h.sum, Fintype.sum_sum_type, add_comm]
    simp only [wt_exp hc hd]
  · rw [h.acc, Fintype.sum_sum_type, add_comm]
    simp only [wt_exp hc hd]

end Cert.Att

end
-- ==== Proof.Val.Consts.lean ====
module

public import proofs.«01_k».proof.KernelIdeal
public import Idealize.ShloMosaic.PureOps.Ideal
public import Idealize.ShloMosaic.PureOps.IdealRules

@[expose] public section

/-! # The constants of the two programs as extended reals -/

noncomputable section

namespace Cert.Consts

open Idealize.ShloMosaic

theorem ofBits_128 : Ideal.ofBits .f32 0x43000000#32 = ((128 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

/-- The scale of the scores, to base two. -/
def cS : ℝ := (Real.log 2)⁻¹ * (Real.sqrt 128)⁻¹

theorem cS_pos : 0 < cS :=
  mul_pos (inv_pos.mpr (Real.log_pos (by norm_num))) (inv_pos.mpr (Real.sqrt_pos.mpr (by norm_num)))

theorem cS_log : cS * Real.log 2 = (Real.sqrt 128)⁻¹ := by
  have : Real.log 2 ≠ 0 := (Real.log_pos (by norm_num)).ne'
  unfold cS; field_simp

theorem named_c : Named.named (F := Ideal) Cert.KernelIdeal.κ "scale_log2e" (φ := .f32) 0x3E0293EE#32 = (cS : EReal) :=
  IdealRules.named_const.ideal_named_scalar _ _ _ _ rfl
theorem named_m : Named.named (F := Ideal) Cert.KernelIdeal.κ "masked" (φ := .f32) 0xF149F2CA#32 = (⊥ : EReal) :=
  IdealRules.named_const.ideal_named_scalar _ _ _ _ rfl

end Cert.Consts

end
-- ==== Proof.Val.Step.lean ====
module

public import Idealize.ShloMosaic.Lib.Pointwise
public import Idealize.ShloMosaic.Lib.WordCmp
public import proofs.«01_k».proof.Proof.Ki.Trip
public import proofs.«01_k».proof.Proof.Ki.Parts
public import proofs.«01_k».proof.Proof.Val.Att
public import proofs.«01_k».proof.Proof.Val.Consts

/-!
# The steps of the kernel as steps of the running softmax

At one query row `n` and one value column `d`, the state is a maximum, a sum of weights and a weighted sum.
-/

@[expose] public section

noncomputable section

namespace Cert.Step

open Cert.KernelIdeal Cert.KernelIdeal.Gen Cert.Att Cert.Consts
open Idealize.ShloMosaic
open Cert.KernelIdeal.Hand (St stepU stepM start0)

/-- The mask of the cached positions. -/
theorem sel_lt {k : ℕ} (hk : k < 16) (r : Fin 512) {v : BitVec 32} (h : v.toNat ≤ 8192) (a b : EReal) :
    Scalar.select (IntOp.cmpi .slt (IntOp.addi (Scalar.muli (BitVec.ofNat 32 k) 512#32) (BitVec.ofNat 32 r.val)) v) a b
      = if 512 * k + r.val < v.toNat then a else b := by
  have hr := r.isLt
  have e : (IntOp.addi (Scalar.muli (BitVec.ofNat 32 k) 512#32) (BitVec.ofNat 32 r.val)).toNat = 512 * k + r.val := by
    show ((BitVec.ofNat 32 k * 512#32) + BitVec.ofNat 32 r.val).toNat = _
    rw [BitVec.toNat_add, BitVec.toNat_mul, BitVec.toNat_ofNat, BitVec.toNat_ofNat, BitVec.toNat_ofNat]
    omega
  rw [WordCmp.cmpi_slt_of_lt (by rw [e]; norm_num; omega) (by norm_num; omega), e, WordCmp.select_ofBool]
  simp only [decide_eq_true_eq]

/-- The mask of the new tokens. -/
theorem sel_le (r : Fin 128) (n : Fin 1024) (a b : EReal) :
    Scalar.select (IntOp.cmpi .sle (BitVec.ofNat 32 r.val) (IntOp.andi (BitVec.ofNat 32 n.val) 127#32)) a b
      = if r.val ≤ n.val % 128 then a else b := by
  have hr := r.isLt
  have hn := n.isLt
  have e : (IntOp.andi (BitVec.ofNat 32 n.val) 127#32) = BitVec.ofNat 32 (n.val % 128) := by
    apply BitVec.eq_of_toNat_eq
    show (BitVec.ofNat 32 n.val &&& 127#32).toNat = _
    rw [BitVec.toNat_and, BitVec.toNat_ofNat, BitVec.toNat_ofNat, BitVec.toNat_ofNat]
    have := Nat.and_two_pow_sub_one_eq_mod n.val 7
    norm_num at this ⊢
    rw [Nat.mod_eq_of_lt (by omega), this]; omega
  have key : IntOp.cmpi .sle (BitVec.ofNat 32 r.val) (BitVec.ofNat 32 (n.val % 128)) = BitVec.ofBool (decide (r.val ≤ n.val % 128)) := by
    show BitVec.ofBool (BitVec.sle _ _) = _
    congr 1
    rw [BitVec.sle_eq_decide, BitVec.toInt_eq_toNat_of_lt (by rw [BitVec.toNat_ofNat]; omega),
      BitVec.toInt_eq_toNat_of_lt (by rw [BitVec.toNat_ofNat]; omega), BitVec.toNat_ofNat, BitVec.toNat_ofNat]
    congr 1
    apply propext
    omega
  rw [e, key, WordCmp.select_ofBool]
  simp only [decide_eq_true_eq]

theorem fold_max {ι : Type} [Fintype ι] (f : ι → EReal) : Finset.fold max ⊥ f Finset.univ = Finset.univ.sup f := rfl

variable {ks vs : EReal} {q : FVec Ideal S1024x128 .bf16} {kb vb : Vec Ideal S1x4x1x128x128 .fp8e4m3}

/-- The score of row `r` of a block. -/
def raw (ks : EReal) (q : FVec Ideal S1024x128 .bf16) (kb : Vec Ideal S1x4x1x128x128 .fp8e4m3) (n : Fin 1024) (r : Fin 512) : EReal :=
  ∑ x : Fin 128, kb (ix5 0 ⟨r.val / 128, by omega⟩ 0 ⟨r.val % 128, Nat.mod_lt _ (by decide)⟩ x) * ks * q (ix2 n x)
/-- The value of row `r` of a block. -/
def val (vs : EReal) (vb : Vec Ideal S1x4x1x128x128 .fp8e4m3) (d : Fin 128) (r : Fin 512) : EReal :=
  vb (ix5 0 ⟨r.val / 128, by omega⟩ 0 ⟨r.val % 128, Nat.mod_lt _ (by decide)⟩ d) * vs
/-- The score of new token `j`, before the mask. -/
def rawN (ks : EReal) (q : FVec Ideal S1024x128 .bf16) (k : FVec Ideal S128x128 .fp8e4m3) (n : Fin 1024) (j : Fin 128) : EReal :=
  ∑ x : Fin 128, k (ix2 j x) * ks * q (ix2 n x)

/-! ## A full block -/

theorem p6 (M : FVec Ideal S1x1024 .f32) (n : Fin 1024) :
    k0_pay6 (F := Ideal) ks q M kb (ix2 0 n) = max (M (ix2 0 n)) (Finset.univ.sup (raw ks q kb n)) := by
  pointwise [k0_pay6, k0_pay5]
  rw [ofBits_neg_inf]; rfl
theorem p8 (M : FVec Ideal S1x1024 .f32) (r : Fin 512) (n : Fin 1024) :
    k0_pay8 (F := Ideal) ks q M kb (ix2 r n) = wt cS (raw ks q kb n r) (k0_pay6 (F := Ideal) ks q M kb (ix2 0 n)) := by
  pointwise [k0_pay8, k0_pay7, k0_pay5]
  rw [named_c]; rfl
theorem p69 (M m' : FVec Ideal S1x1024 .f32) (kb : Vec Ideal S1x4x1x128x128 .fp8e4m3) (n : Fin 1024) :
    k0_pay69 (F := Ideal) M (k0_pay7 (F := Ideal) ks q M kb) (ix2 0 n) = wt cS (M (ix2 0 n)) (k0_pay6 (F := Ideal) ks q M kb (ix2 0 n)) := by
  pointwise [k0_pay69, k0_pay7]
  rw [named_c]; rfl

theorem stepU_att {s v : Pos → EReal} {k : ℕ} (hk : k < 16) (n : Fin 1024) (d : Fin 128) {S : St Ideal}
    (hs : ∀ r, s (inBlk k hk r) = raw ks q kb n r) (hv : ∀ r, v (inBlk k hk r) = val vs vb d r)
    (h : Att cS (upto k) s v (S.1 (ix2 0 n)) (S.2.1 (ix2 0 n)) (S.2.2 (ix2 d n))) :
    Att cS (upto (k + 1)) s v ((stepU (F := Ideal) ks vs q kb vb S).1 (ix2 0 n)) ((stepU (F := Ideal) ks vs q kb vb S).2.1 (ix2 0 n))
      ((stepU (F := Ideal) ks vs q kb vb S).2.2 (ix2 d n)) := by
  refine h.block cS_pos hk ?_ ?_ ?_
  · show k0_pay6 (F := Ideal) ks q S.1 kb (ix2 0 n) = _
    rw [p6]; simp only [hs]
  · show k0_pay70 (F := Ideal) S.1 S.2.1 (k0_pay7 ks q S.1 kb) (k0_pay8 ks q S.1 kb) (ix2 0 n) = _ * wt cS _ (k0_pay6 (F := Ideal) ks q S.1 kb (ix2 0 n)) +
      ∑ r, wt cS _ (k0_pay6 (F := Ideal) ks q S.1 kb (ix2 0 n))
    pointwise [k0_pay70]
    rw [p69 S.1 S.1]
    simp only [p8, hs]
  · show k0_pay71 (F := Ideal) S.1 (k0_pay4 vs vb) (k0_pay7 ks q S.1 kb) (k0_pay8 ks q S.1 kb) S.2.2 (ix2 d n) = _ * wt cS _ (k0_pay6 (F := Ideal) ks q S.1 kb (ix2 0 n)) +
      ∑ r, wt cS _ (k0_pay6 (F := Ideal) ks q S.1 kb (ix2 0 n)) * _
    pointwise [k0_pay71, k0_pay4]
    rw [p69 S.1 S.1]
    simp only [p8, hs, hv]
    exact congrArg _ (Finset.sum_congr rfl fun r _ => mul_comm _ _)

/-! ## A block up to the length -/

theorem p15 {k : ℕ} (hk : k < 16) {len : BitVec 32} (hl : len.toNat ≤ 8192) (r : Fin 512) (n : Fin 1024) :
    k0_pay15 (F := Ideal) len ks q (BitVec.ofNat 32 k) kb (ix2 r n) = if 512 * k + r.val < len.toNat then raw ks q kb n r else ⊥ := by
  pointwise [k0_pay15]
  rw [named_m, sel_lt hk r hl]; rfl
theorem p16 (len b : BitVec 32) (n : Fin 1024) :
    k0_pay16 (F := Ideal) len ks q b kb (ix2 0 n) = Finset.univ.sup fun r => k0_pay15 (F := Ideal) len ks q b kb (ix2 r n) := by
  pointwise [k0_pay16]
  rw [ofBits_neg_inf]; rfl
theorem p77 (M : FVec Ideal S1x1024 .f32) (w : FVec Ideal S512x1024 .f32) (B : FVec Ideal S1x1024 .f32) (r : Fin 512) (n : Fin 1024) :
    k0_pay77 (F := Ideal) M w B (ix2 r n) = wt cS (w (ix2 r n)) (k0_pay75 (F := Ideal) M B (ix2 0 n)) := by
  pointwise [k0_pay77, k0_pay76]
  rw [named_c]; rfl
theorem p78 (M B : FVec Ideal S1x1024 .f32) (n : Fin 1024) :
    k0_pay78 (F := Ideal) M B (ix2 0 n) = wt cS (M (ix2 0 n)) (k0_pay75 (F := Ideal) M B (ix2 0 n)) := by
  pointwise [k0_pay78, k0_pay76]
  rw [named_c]; rfl

theorem stepM_att {s v : Pos → EReal} {k : ℕ} (hk : k < 16) (n : Fin 1024) (d : Fin 128) {len : BitVec 32} {S : St Ideal}
    (hs : ∀ r, s (inBlk k hk r) = k0_pay15 (F := Ideal) len ks q (BitVec.ofNat 32 k) kb (ix2 r n)) (hv : ∀ r, v (inBlk k hk r) = val vs vb d r)
    (h : Att cS (upto k) s v (S.1 (ix2 0 n)) (S.2.1 (ix2 0 n)) (S.2.2 (ix2 d n))) :
    Att cS (upto (k + 1)) s v ((stepM (F := Ideal) len ks vs q (BitVec.ofNat 32 k) kb vb S).1 (ix2 0 n))
      ((stepM (F := Ideal) len ks vs q (BitVec.ofNat 32 k) kb vb S).2.1 (ix2 0 n))
      ((stepM (F := Ideal) len ks vs q (BitVec.ofNat 32 k) kb vb S).2.2 (ix2 d n)) := by
  refine h.block cS_pos hk ?_ ?_ ?_
  · show k0_pay75 (F := Ideal) S.1 (k0_pay16 len ks q (BitVec.ofNat 32 k) kb) (ix2 0 n) = _
    pointwise [k0_pay75]
    rw [p16]; simp only [hs]
  · show k0_pay79 (F := Ideal) S.1 S.2.1 (k0_pay15 len ks q (BitVec.ofNat 32 k) kb) (k0_pay16 len ks q (BitVec.ofNat 32 k) kb) (ix2 0 n)
      = _ * wt cS _ (k0_pay75 (F := Ideal) S.1 (k0_pay16 len ks q (BitVec.ofNat 32 k) kb) (ix2 0 n)) +
        ∑ r, wt cS _ (k0_pay75 (F := Ideal) S.1 (k0_pay16 len ks q (BitVec.ofNat 32 k) kb) (ix2 0 n))
    pointwise [k0_pay79]
    simp only [p77, p78, hs]
  · show k0_pay80 (F := Ideal) S.1 (k0_pay14 vs vb) (k0_pay15 len ks q (BitVec.ofNat 32 k) kb) (k0_pay16 len ks q (BitVec.ofNat 32 k) kb) S.2.2 (ix2 d n)
      = _ * wt cS _ (k0_pay75 (F := Ideal) S.1 (k0_pay16 len ks q (BitVec.ofNat 32 k) kb) (ix2 0 n)) +
        ∑ r, wt cS _ (k0_pay75 (F := Ideal) S.1 (k0_pay16 len ks q (BitVec.ofNat 32 k) kb) (ix2 0 n)) * _
    pointwise [k0_pay80, k0_pay14]
    simp only [p77, p78, hs, hv]
    exact congrArg _ (Finset.sum_congr rfl fun r _ => mul_comm _ _)

/-! ## The new tokens -/

variable {kn vn : Vec Ideal S1x1x128x128 .bf16}

theorem p61 (k : FVec Ideal S128x128 .fp8e4m3) (j : Fin 128) (n : Fin 1024) :
    k0_pay61 (F := Ideal) ks q k (ix2 j n) = if j.val ≤ n.val % 128 then rawN ks q k n j else ⊥ := by
  pointwise [k0_pay61]
  rw [named_m, sel_le]; rfl
theorem p62 (k : FVec Ideal S128x128 .fp8e4m3) (n : Fin 1024) :
    k0_pay62 (F := Ideal) ks q k (ix2 0 n) = Finset.univ.sup fun j => k0_pay61 (F := Ideal) ks q k (ix2 j n) := by
  pointwise [k0_pay62, k0_pay60]
  rw [ofBits_neg_inf, named_m, fold_max]
  exact max_eq_right bot_le
theorem p64 (k : FVec Ideal S128x128 .fp8e4m3) (j : Fin 128) (n : Fin 1024) :
    k0_pay64 (F := Ideal) ks q k (ix2 j n) = wt cS (k0_pay61 (F := Ideal) ks q k (ix2 j n)) (k0_pay62 (F := Ideal) ks q k (ix2 0 n)) := by
  pointwise [k0_pay64, k0_pay63]
  rw [named_c]; rfl

theorem start_att {s v : Pos → EReal} (n : Fin 1024) (d : Fin 128)
    (hs : ∀ j, s (.inl j) = if j.val ≤ n.val % 128 then rawN ks q (k0_pay55 (F := Ideal) ks kn) n j else ⊥)
    (hv : ∀ j, v (.inl j) = k0_pay56 (F := Ideal) vs vn (ix2 j d) * vs) :
    Att cS (upto 0) s v ((start0 (F := Ideal) ks vs q kn vn).1 (ix2 0 n)) ((start0 (F := Ideal) ks vs q kn vn).2.1 (ix2 0 n))
      ((start0 (F := Ideal) ks vs q kn vn).2.2 (ix2 d n)) := by
  refine Att.start ?_ ?_ ?_
  · show k0_pay62 (F := Ideal) ks q (k0_pay55 ks kn) (ix2 0 n) = _
    rw [p62]; simp only [p61, hs]
  · show k0_pay66 (F := Ideal) ks q (k0_pay55 ks kn) (ix2 0 n) = ∑ j, wt cS _ (k0_pay62 (F := Ideal) ks q (k0_pay55 ks kn) (ix2 0 n))
    pointwise [k0_pay66]
    rw [zero_mul, zero_add]
    simp only [p64, p61, hs]
  · show k0_pay68 (F := Ideal) (k0_pay65 ks q (k0_pay55 ks kn)) (k0_pay67 ks vs q (k0_pay55 ks kn) (k0_pay56 vs vn)) (k0_pay59 (F := Ideal) (Scalar.ofBits .f32 0#32)) (ix2 d n)
      = ∑ j, wt cS _ (k0_pay62 (F := Ideal) ks q (k0_pay55 ks kn) (ix2 0 n)) * _
    pointwise [k0_pay68, k0_pay67, k0_pay59]
    rw [zero_mul, zero_add]
    simp only [p64, p61, hs, hv]
    exact Finset.sum_congr rfl fun r _ => mul_comm _ _

end Cert.Step

end
-- ==== Proof.Val.Fold.lean ====
module

public import Idealize.ShloMosaic.Lib.Pointwise.IndexBridge
public import proofs.«01_k».proof.Proof.Ki.Whole
public import proofs.«01_k».proof.Proof.Val.Step

/-!
# The end state of a sequence

The running state after the new tokens and all blocks of a sequence is the attention over all positions: the new tokens up to
the query's own, and the cached positions below the length.
-/

@[expose] public section

noncomputable section

namespace Cert.Step

open Cert.KernelIdeal Cert.KernelIdeal.Gen Cert.Att Cert.Consts
open Idealize.ShloMosaic
open Cert.KernelIdeal.Hand

/-- Element `x` of position `p` of head `g`: its page is looked up. -/
def at4 (pool : S2048x2x128x128.Idx → EReal) (row : Fin 64 → Fin 2048) (g : Fin 2) (p : Fin 8192) (x : Fin 128) : EReal :=
  pool (ix4 (row ⟨p.val / 128, by omega⟩) g ⟨p.val % 128, Nat.mod_lt _ (by decide)⟩ x)

theorem blkOf_at (pool : S2048x2x128x128.Idx → EReal) (row : Fin 64 → Fin 2048) (g : Fin 2) {k : ℕ} (hk : k < 16) (r : Fin 512) (x : Fin 128) :
    blkOf (F := Ideal) pool row (jj k) g (ix5 0 ⟨r.val / 128, by omega⟩ 0 ⟨r.val % 128, Nat.mod_lt _ (by decide)⟩ x)
      = at4 pool row g ⟨512 * k + r.val, by omega⟩ x := by
  unfold at4
  rw [ix4_eq_valueIdx]
  have e1 : pgIx (jj k) (⟨r.val / 128, by omega⟩ : Fin 4) = ⟨(512 * k + r.val) / 128, by omega⟩ :=
    Fin.ext (by show 4 * (k % 16) + r.val / 128 = (512 * k + r.val) / 128; omega)
  have e2 : (⟨r.val % 128, Nat.mod_lt _ (by decide)⟩ : Fin 128) = ⟨(512 * k + r.val) % 128, Nat.mod_lt _ (by decide)⟩ :=
    Fin.ext (by show r.val % 128 = (512 * k + r.val) % 128; omega)
  show pool (ValueIdx.ix4 (row (pgIx (jj k) (⟨r.val / 128, by omega⟩ : Fin 4))) g (⟨r.val % 128, Nat.mod_lt _ (by decide)⟩ : Fin 128) x) = _
  rw [e1, e2]

variable (pk pv : S2048x2x128x128.Idx → EReal) (row : Fin 64 → Fin 2048) (g : Fin 2) (len : BitVec 32) (ks vs : EReal)
  (q : FVec Ideal S1024x128 .bf16) (kn vn : Vec Ideal S1x1x128x128 .bf16) (n : Fin 1024) (d : Fin 128)

/-- The scores of query row `n`, minus infinity where masked. -/
def scr : Pos → EReal
  | .inl j => if j.val ≤ n.val % 128 then rawN ks q (k0_pay55 (F := Ideal) ks kn) n j else ⊥
  | .inr p => if p.val < len.toNat then ∑ x : Fin 128, at4 pk row g p x * ks * q (ix2 n x) else ⊥
/-- Column `d` of the values. -/
def vlr : Pos → EReal
  | .inl j => k0_pay56 (F := Ideal) vs vn (ix2 j d) * vs
  | .inr p => at4 pv row g p d * vs

/-- The attention state of a triple of the kernel. -/
abbrev AttS (S' : Finset Pos) (S : St Ideal) : Prop :=
  Att cS S' (scr pk row g len ks q kn n) (vlr pv row g vs vn d) (S.1 (ix2 0 n)) (S.2.1 (ix2 0 n)) (S.2.2 (ix2 d n))

theorem raw_blk {k : ℕ} (hk : k < 16) (r : Fin 512) :
    raw ks q (blkOf (F := Ideal) pk row (jj k) g) n r = ∑ x : Fin 128, at4 pk row g ⟨512 * k + r.val, by omega⟩ x * ks * q (ix2 n x) := by
  unfold raw
  simp only [blkOf_at pk row g hk]

theorem vlr_blk {k : ℕ} (hk : k < 16) (r : Fin 512) :
    vlr pv row g vs vn d (inBlk k hk r) = val vs (blkOf (F := Ideal) pv row (jj k) g) d r := by
  unfold val
  rw [blkOf_at pv row g hk]; rfl

theorem foldU_att {k : ℕ} (hk : k < 16) (hl : 512 * (k + 1) ≤ len.toNat) {S : St Ideal}
    (h : AttS pk pv row g len ks vs q kn vn n d (upto k) S) :
    AttS pk pv row g len ks vs q kn vn n d (upto (k + 1)) (foldU (F := Ideal) pk pv g ks vs q row k S) := by
  refine stepU_att hk n d (fun r => ?_) (vlr_blk pv row g vs vn d hk) h
  rw [raw_blk pk row g ks q n hk]
  exact if_pos (by show 512 * k + r.val < len.toNat; omega)

theorem foldM_att {k : ℕ} (hk : k < 16) (hl : len.toNat ≤ 8192) {S : St Ideal}
    (h : AttS pk pv row g len ks vs q kn vn n d (upto k) S) :
    AttS pk pv row g len ks vs q kn vn n d (upto (k + 1)) (foldM (F := Ideal) pk pv g len ks vs q row k S) := by
  refine stepM_att hk n d (fun r => ?_) (vlr_blk pv row g vs vn d hk) h
  rw [p15 hk hl, raw_blk pk row g ks q n hk]; rfl

theorem foldAll_att (hl : len.toNat ≤ 8192) {S : St Ideal} (h : AttS pk pv row g len ks vs q kn vn n d (upto 0) S) :
    AttS pk pv row g len ks vs q kn vn n d Finset.univ (foldAll (F := Ideal) pk pv g len ks vs q row S) := by
  have hU : ∀ m, m ≤ len.toNat / 512 → AttS pk pv row g len ks vs q kn vn n d (upto m) (runSt (foldU (F := Ideal) pk pv g ks vs q row) m S) := by
    intro m
    induction m with
    | zero => exact fun _ => h
    | succ m ih =>
      intro hm
      have := len.isLt
      exact foldU_att pk pv row g len ks vs q kn vn n d (by omega) (by omega) (ih (by omega))
  have hM : ∀ m, len.toNat / 512 + m ≤ (len.toNat + 511) / 512 → AttS pk pv row g len ks vs q kn vn n d (upto (len.toNat / 512 + m))
      (runSt (fun k => foldM (F := Ideal) pk pv g len ks vs q row (len.toNat / 512 + k)) m (runSt (foldU (F := Ideal) pk pv g ks vs q row) (len.toNat / 512 - 0) S)) := by
    intro m
    induction m with
    | zero =>
      intro _
      simp only [Nat.add_zero, Nat.sub_zero, runSt]
      exact hU _ (Nat.le_refl _)
    | succ m ih =>
      intro hm
      have h1 : len.toNat / 512 + m < 16 := by omega
      exact foldM_att pk pv row g len ks vs q kn vn n d h1 hl (ih (by omega))
  have hE := hM ((len.toNat + 511) / 512 - len.toNat / 512) (by omega)
  exact hE.all cS_pos fun p hp => if_neg (by omega)

theorem start0_att : AttS pk pv row g len ks vs q kn vn n d (upto 0) (start0 (F := Ideal) ks vs q kn vn) :=
  start_att n d (fun j => rfl) (fun j => rfl)

/-- The end state of head `g` of sequence `b`. -/
theorem endSt_att (pt : S32x64.Idx → BitVec 32) (sl : S32.Idx → BitVec 32) (b : Fin 32) (s3 s4 : S2.Idx → EReal) (q : FVec Ideal S1024x128 .bf16)
    (kn vn : S1x2x128x128.Idx → EReal) (hl : (sl (ValueIdx.ix1 b)).toNat ≤ 8192) :
    AttS pk pv (rowOf pt b) g (sl (ValueIdx.ix1 b)) (s3 (ValueIdx.ix1 g)) (s4 (ValueIdx.ix1 g)) q (kn4 (F := Ideal) kn g) (kn4 (F := Ideal) vn g) n d
      Finset.univ (endSt (F := Ideal) pk pv pt sl b g s3 s4 q kn vn) :=
  foldAll_att pk pv _ g _ _ _ q _ _ n d hl (start0_att pk pv _ g _ _ _ q _ _ n d)

end Cert.Step

end
-- ==== Proof.Val.Cols.lean ====
module

public import proofs.«01_k».proof.Proof.Val.Fold

/-!
# The attention block of a sequence, element by element
-/

@[expose] public section

noncomputable section

namespace Cert.Step

open Cert.KernelIdeal Cert.KernelIdeal.Gen Cert.Att Cert.Consts
open Idealize.ShloMosaic
open Cert.KernelIdeal.Hand

variable (l : FVec Ideal S1x1024 .f32) (a : FVec Ideal S128x1024 .f32)

theorem cols0_at (n : Fin 8) (t d : Fin 128) :
    cols0 (F := Ideal) l a n (ix3 0 t d) = Ideal.div (a (ix2 d ⟨128 * n.val + t.val, by omega⟩)) (l (ix2 0 ⟨128 * n.val + t.val, by omega⟩)) := by
  fin_cases n <;> simp only [cols0, Matrix.cons_val, Fin.reduceFinMk] <;>
    pointwise [k0_pay88, k0_pay89, k0_pay91, k0_pay90, k0_pay92, k0_pay93, k0_pay94, k0_pay95, k0_pay96, k0_pay87] <;> simp

variable (x : S1x128x2048.Idx → EReal)

/-- The queries of head `g`: row `128 h + t` is token `t` of query head `h`. -/
def qq (g : Fin 2) : FVec Ideal S1024x128 .bf16 := fun i =>
  x (ix3 0 ⟨(i 0).val % 128, Nat.mod_lt _ (by decide)⟩ ⟨1024 * g.val + 128 * ((i 0).val / 128) + (i 1).val, by
    have h0 := (i 0).isLt; have h1 := (i 1).isLt; change _ < 1024 at h0; change _ < 128 at h1; omega⟩)

theorem xs_at (g : Fin 2) (i : Fin 16) (n : Fin 1024) (m d : Fin 128) (h : 1024 * g.val + n.val = 128 * i.val + m.val) :
    xs (F := Ideal) x i (ix3 0 m d) = qq x g (ix2 n d) := by
  have e1 : m = ⟨n.val % 128, Nat.mod_lt _ (by decide)⟩ := Fin.ext (by show m.val = n.val % 128; omega)
  have e2 : (⟨128 * i.val + d.val, by omega⟩ : Fin 2048) = ⟨1024 * g.val + 128 * (n.val / 128) + d.val, by omega⟩ :=
    Fin.ext (by show 128 * i.val + d.val = 1024 * g.val + 128 * (n.val / 128) + d.val; omega)
  show x (ValueIdx.ix3 0 m ⟨128 * i.val + d.val, by omega⟩) = x (ix3 0 ⟨n.val % 128, Nat.mod_lt _ (by decide)⟩ ⟨1024 * g.val + 128 * (n.val / 128) + d.val, by omega⟩)
  rw [ix3_eq_valueIdx]
  exact congrArg₂ (fun p r => x (ValueIdx.ix3 0 p r)) e1 e2

theorem qry0_eq : qry0 (F := Ideal) x = qq x 0 := by
  funext i
  rw [eq_ix2 i]
  generalize (i 0) = n
  generalize (i 1) = d
  change Fin 1024 at n
  change Fin 128 at d
  pointwise [qry0, k0_pay54, k0_pay48, k0_pay49, k0_pay50, k0_pay51, k0_pay52, k0_pay53]
  have hn := n.isLt
  repeat' split
  all_goals exact xs_at x 0 _ n _ d (by simp only [Fin.val_zero, Fin.reduceFinMk, Fin.isValue] <;> norm_num <;> omega)
theorem qry1_eq : qry1 (F := Ideal) x = qq x 1 := by
  funext i
  rw [eq_ix2 i]
  generalize (i 0) = n
  generalize (i 1) = d
  change Fin 1024 at n
  change Fin 128 at d
  pointwise [qry1, k0_pay97]
  have hn := n.isLt
  repeat' split
  all_goals exact xs_at x 1 _ n _ d (by simp only [Fin.val_zero, Fin.reduceFinMk, Fin.isValue]; norm_num <;> omega)

/-- Attention: the weighted mean of the values `v` under the scores `s`, divided by the root of 128. -/
def attn (s v : Pos → EReal) : EReal :=
  let D : EReal := ((Real.sqrt 128)⁻¹ : ℝ)
  let M : EReal := max (Finset.univ.sup fun p => s (.inr p) * D) (Finset.univ.sup fun j => s (.inl j) * D)
  Ideal.div ((∑ p, Ideal.exp (s (.inr p) * D - M) * v (.inr p)) + ∑ j, Ideal.exp (s (.inl j) * D - M) * v (.inl j))
    ((∑ p, Ideal.exp (s (.inr p) * D - M)) + ∑ j, Ideal.exp (s (.inl j) * D - M))

theorem attn_of {s v : Pos → EReal} {m l a : EReal} (h : Att cS Finset.univ s v m l a) : Ideal.div a l = attn s v := by
  obtain ⟨hl, ha⟩ := h.quot cS_pos cS_log rfl
  rw [hl, ha]; rfl

variable (pk pv : S2048x2x128x128.Idx → EReal) (pt : S32x64.Idx → BitVec 32) (sl : S32.Idx → BitVec 32) (b : Fin 32) (s3 s4 : S2.Idx → EReal)
  (kn vn : S1x2x128x128.Idx → EReal) (hl : (sl (ValueIdx.ix1 b)).toNat ≤ 8192) (t : Fin 128) (g : Fin 2) (h : Fin 8) (d : Fin 128)

include hl in
/-- Head `g`, query head `h`, token `t`, component `d` of the attention block of sequence `b`. -/
theorem outY_at : outY (F := Ideal) pk pv pt sl b s3 s4 x kn vn (ix3 0 t ⟨1024 * g.val + 128 * h.val + d.val, by omega⟩)
    = attn (scr pk (rowOf pt b) g (sl (ValueIdx.ix1 b)) (s3 (ValueIdx.ix1 g)) (qq x g) (kn4 (F := Ideal) kn g) ⟨128 * h.val + t.val, by omega⟩)
        (vlr pv (rowOf pt b) g (s4 (ValueIdx.ix1 g)) (kn4 (F := Ideal) vn g) d) := by
  have e := endSt_att pk pv g ⟨128 * h.val + t.val, by omega⟩ d pt sl b s3 s4 (qq x g) kn vn hl
  rw [← attn_of e]
  have e1 : (⟨(1024 * g.val + 128 * h.val + d.val) / 128, by omega⟩ : Fin 16) = ⟨8 * g.val + h.val, by omega⟩ :=
    Fin.ext (by show (1024 * g.val + 128 * h.val + d.val) / 128 = 8 * g.val + h.val; omega)
  have e2 : (⟨(1024 * g.val + 128 * h.val + d.val) % 128, Nat.mod_lt _ (by decide)⟩ : Fin 128) = d :=
    Fin.ext (by show (1024 * g.val + 128 * h.val + d.val) % 128 = d.val; omega)
  have e3 : (⟨(8 * g.val + h.val) % 8, Nat.mod_lt _ (by decide)⟩ : Fin 8) = h :=
    Fin.ext (by show (8 * g.val + h.val) % 8 = h.val; omega)
  show colsW (F := Ideal) _ _ ⟨(1024 * g.val + 128 * h.val + d.val) / 128, by omega⟩ (ValueIdx.ix3 0 t ⟨(1024 * g.val + 128 * h.val + d.val) % 128, Nat.mod_lt _ (by decide)⟩) = _
  rw [e1, e2, ← ix3_eq_valueIdx]
  unfold colsW
  dsimp only
  rw [e3, qry0_eq, qry1_eq]
  have hg : g = 0 ∨ g = 1 := by fin_cases g; exacts [.inl rfl, .inr rfl]
  rcases hg with rfl | rfl
  · rw [if_pos (by show 8 * 0 + h.val < 8; omega), cols0_at]
  · rw [if_neg (by show ¬ 8 * 1 + h.val < 8; omega), cols0_at]

end Cert.Step

end
-- ==== Proof.Val.Out.lean ====
module

public import Idealize.ShloMosaic.Lib.Pipeline.ValueKit
public import proofs.«01_k».proof.Proof.Ki.Run
public import proofs.«01_k».proof.Proof.Val.Cols

/-!
# What the kernel leaves in its results
-/

@[expose] public section

noncomputable section

namespace Cert.KVal

open Cert.KernelIdeal Cert.KernelIdeal.Gen Cert.KernelIdeal.Hand
open Idealize.ShloMosaic Idealize.ShloMosaic.TcCoe Idealize.SL.Sem Idealize.ShloMosaic.Pipeline

/-- The output blocks tile their arrays, whatever the tables. -/
theorem cov (T : (pcfg0 (F := Ideal)).Adm) : ((cfg0 T).win 5).Covers ∧ ((cfg0 T).win 6).Covers ∧ ((cfg0 T).win 7).Covers :=
  (by decide +kernel : ((cfg0 (F := Ideal) ⟨fun | 0 => fun _ => 0#32 | 1 => fun _ => 0#32, trivial⟩).win 5).Covers ∧ ((cfg0 (F := Ideal) ⟨fun | 0 => fun _ => 0#32 | 1 => fun _ => 0#32, trivial⟩).win 6).Covers ∧ ((cfg0 (F := Ideal) ⟨fun | 0 => fun _ => 0#32 | 1 => fun _ => 0#32, trivial⟩).win 7).Covers)

variable (m : (ℓ : Loc nD τ sig) → Buf (Elt Ideal) ℓ) (c : Dev nD)

/-! The head-major copies of the new and cached keys and values. -/
theorem V0_at (b : Fin 32) (g : Fin 2) (s x : Fin 128) :
    V (F := Ideal) m c main_v0 (ix4 b g s x) = m ((c.tc : Thread nD τ).loc main_arg1) (ix4 b s g x) := by
  have e : V (F := Ideal) m c main_v0 = transpose S32x2x128x128 [0, 2, 1, 3] (m ((c.tc : Thread nD τ).loc main_arg1)) transposes_S32x128x2x128_S32x2x128x128_0_2_1_3 := rfl
  rw [e]
  pointwise []
theorem V1_at (b : Fin 32) (g : Fin 2) (s x : Fin 128) :
    V (F := Ideal) m c main_v1 (ix4 b g s x) = m ((c.tc : Thread nD τ).loc main_arg2) (ix4 b s g x) := by
  have e : V (F := Ideal) m c main_v1 = transpose S32x2x128x128 [0, 2, 1, 3] (m ((c.tc : Thread nD τ).loc main_arg2)) transposes_S32x128x2x128_S32x2x128x128_0_2_1_3 := rfl
  rw [e]
  pointwise []
theorem V2_at (b : Fin 2048) (g : Fin 2) (s x : Fin 128) :
    V (F := Ideal) m c main_v2 (ix4 b g s x) = m ((c.tc : Thread nD τ).loc main_arg3) (ix4 b s g x) := by
  have e : V (F := Ideal) m c main_v2 = transpose S2048x2x128x128 [0, 2, 1, 3] (m ((c.tc : Thread nD τ).loc main_arg3)) transposes_S2048x128x2x128_S2048x2x128x128_0_2_1_3 := rfl
  rw [e]
  pointwise []
theorem V3_at (b : Fin 2048) (g : Fin 2) (s x : Fin 128) :
    V (F := Ideal) m c main_v3 (ix4 b g s x) = m ((c.tc : Thread nD τ).loc main_arg4) (ix4 b s g x) := by
  have e : V (F := Ideal) m c main_v3 = transpose S2048x2x128x128 [0, 2, 1, 3] (m ((c.tc : Thread nD τ).loc main_arg4)) transposes_S2048x128x2x128_S2048x2x128x128_0_2_1_3 := rfl
  rw [e]
  pointwise []

/-! The block a step reads or writes of each array. -/
theorem ix3d : ∀ t : Fin grid0.N, cc0_transform_2 (grid0.coords t) = ![t.val, 0, 0] ∧ cc0_transform_7 (grid0.coords t) = ![t.val, 0, 0] := by decide +kernel
theorem ix4d : ∀ t : Fin grid0.N, cc0_transform_3 (grid0.coords t) = ![t.val, 0, 0, 0] ∧ cc0_transform_4 (grid0.coords t) = ![t.val, 0, 0, 0]
    ∧ cc0_transform_8 (grid0.coords t) = ![t.val, 0, 0, 0] ∧ cc0_transform_9 (grid0.coords t) = ![t.val, 0, 0, 0] := by decide +kernel
/-- Step `t`'s sequence. -/
abbrev sq (t : Fin grid0.N) : Fin 32 := ⟨t.val, t.isLt⟩
theorem emb2 (t : Fin grid0.N) (y : S1x128x2048.Idx) : (((cf (F := Ideal) m).win 2).blk t).view.emb y = ix3 (sq t) (y 1) (y 2) := by
  funext a
  refine Fin.ext ?_
  have h0 : (y 0).val = 0 := by have := (y 0).isLt; change _ < 1 at this; omega
  have e := (ix3d t).1
  match a with
  | ⟨0, _⟩ => show cc0_transform_2 (grid0.coords t) 0 * 1 + 1 * (y 0).val = t.val; rw [e]; show t.val * 1 + 1 * (y 0).val = t.val; omega
  | ⟨1, _⟩ => show cc0_transform_2 (grid0.coords t) 1 * 128 + 1 * (y 1).val = (y 1).val; rw [e]; show 0 * 128 + 1 * (y 1).val = (y 1).val; omega
  | ⟨2, _⟩ => show cc0_transform_2 (grid0.coords t) 2 * 2048 + 1 * (y 2).val = (y 2).val; rw [e]; show 0 * 2048 + 1 * (y 2).val = (y 2).val; omega
theorem emb5 (t : Fin grid0.N) (y : S1x128x2048.Idx) : (((cf (F := Ideal) m).win 5).blk t).view.emb y = ix3 (sq t) (y 1) (y 2) := by
  funext a
  refine Fin.ext ?_
  have h0 : (y 0).val = 0 := by have := (y 0).isLt; change _ < 1 at this; omega
  have e := (ix3d t).2
  match a with
  | ⟨0, _⟩ => show cc0_transform_7 (grid0.coords t) 0 * 1 + 1 * (y 0).val = t.val; rw [e]; show t.val * 1 + 1 * (y 0).val = t.val; omega
  | ⟨1, _⟩ => show cc0_transform_7 (grid0.coords t) 1 * 128 + 1 * (y 1).val = (y 1).val; rw [e]; show 0 * 128 + 1 * (y 1).val = (y 1).val; omega
  | ⟨2, _⟩ => show cc0_transform_7 (grid0.coords t) 2 * 2048 + 1 * (y 2).val = (y 2).val; rw [e]; show 0 * 2048 + 1 * (y 2).val = (y 2).val; omega
theorem emb3 (t : Fin grid0.N) (y : S1x2x128x128.Idx) : (((cf (F := Ideal) m).win 3).blk t).view.emb y = ix4 (sq t) (y 1) (y 2) (y 3) := by
  funext a
  refine Fin.ext ?_
  have h0 : (y 0).val = 0 := by have := (y 0).isLt; change _ < 1 at this; omega
  have e := (ix4d t).1
  match a with
  | ⟨0, _⟩ => show cc0_transform_3 (grid0.coords t) 0 * 1 + 1 * (y 0).val = t.val; rw [e]; show t.val * 1 + 1 * (y 0).val = t.val; omega
  | ⟨1, _⟩ => show cc0_transform_3 (grid0.coords t) 1 * 2 + 1 * (y 1).val = (y 1).val; rw [e]; show 0 * 2 + 1 * (y 1).val = (y 1).val; omega
  | ⟨2, _⟩ => show cc0_transform_3 (grid0.coords t) 2 * 128 + 1 * (y 2).val = (y 2).val; rw [e]; show 0 * 128 + 1 * (y 2).val = (y 2).val; omega
  | ⟨3, _⟩ => show cc0_transform_3 (grid0.coords t) 3 * 128 + 1 * (y 3).val = (y 3).val; rw [e]; show 0 * 128 + 1 * (y 3).val = (y 3).val; omega
theorem emb4 (t : Fin grid0.N) (y : S1x2x128x128.Idx) : (((cf (F := Ideal) m).win 4).blk t).view.emb y = ix4 (sq t) (y 1) (y 2) (y 3) := by
  funext a
  refine Fin.ext ?_
  have h0 : (y 0).val = 0 := by have := (y 0).isLt; change _ < 1 at this; omega
  have e := (ix4d t).2.1
  match a with
  | ⟨0, _⟩ => show cc0_transform_4 (grid0.coords t) 0 * 1 + 1 * (y 0).val = t.val; rw [e]; show t.val * 1 + 1 * (y 0).val = t.val; omega
  | ⟨1, _⟩ => show cc0_transform_4 (grid0.coords t) 1 * 2 + 1 * (y 1).val = (y 1).val; rw [e]; show 0 * 2 + 1 * (y 1).val = (y 1).val; omega
  | ⟨2, _⟩ => show cc0_transform_4 (grid0.coords t) 2 * 128 + 1 * (y 2).val = (y 2).val; rw [e]; show 0 * 128 + 1 * (y 2).val = (y 2).val; omega
  | ⟨3, _⟩ => show cc0_transform_4 (grid0.coords t) 3 * 128 + 1 * (y 3).val = (y 3).val; rw [e]; show 0 * 128 + 1 * (y 3).val = (y 3).val; omega
theorem emb6 (t : Fin grid0.N) (y : S1x2x128x128.Idx) : (((cf (F := Ideal) m).win 6).blk t).view.emb y = ix4 (sq t) (y 1) (y 2) (y 3) := by
  funext a
  refine Fin.ext ?_
  have h0 : (y 0).val = 0 := by have := (y 0).isLt; change _ < 1 at this; omega
  have e := (ix4d t).2.2.1
  match a with
  | ⟨0, _⟩ => show cc0_transform_8 (grid0.coords t) 0 * 1 + 1 * (y 0).val = t.val; rw [e]; show t.val * 1 + 1 * (y 0).val = t.val; omega
  | ⟨1, _⟩ => show cc0_transform_8 (grid0.coords t) 1 * 2 + 1 * (y 1).val = (y 1).val; rw [e]; show 0 * 2 + 1 * (y 1).val = (y 1).val; omega
  | ⟨2, _⟩ => show cc0_transform_8 (grid0.coords t) 2 * 128 + 1 * (y 2).val = (y 2).val; rw [e]; show 0 * 128 + 1 * (y 2).val = (y 2).val; omega
  | ⟨3, _⟩ => show cc0_transform_8 (grid0.coords t) 3 * 128 + 1 * (y 3).val = (y 3).val; rw [e]; show 0 * 128 + 1 * (y 3).val = (y 3).val; omega
theorem emb7 (t : Fin grid0.N) (y : S1x2x128x128.Idx) : (((cf (F := Ideal) m).win 7).blk t).view.emb y = ix4 (sq t) (y 1) (y 2) (y 3) := by
  funext a
  refine Fin.ext ?_
  have h0 : (y 0).val = 0 := by have := (y 0).isLt; change _ < 1 at this; omega
  have e := (ix4d t).2.2.2
  match a with
  | ⟨0, _⟩ => show cc0_transform_9 (grid0.coords t) 0 * 1 + 1 * (y 0).val = t.val; rw [e]; show t.val * 1 + 1 * (y 0).val = t.val; omega
  | ⟨1, _⟩ => show cc0_transform_9 (grid0.coords t) 1 * 2 + 1 * (y 1).val = (y 1).val; rw [e]; show 0 * 2 + 1 * (y 1).val = (y 1).val; omega
  | ⟨2, _⟩ => show cc0_transform_9 (grid0.coords t) 2 * 128 + 1 * (y 2).val = (y 2).val; rw [e]; show 0 * 128 + 1 * (y 2).val = (y 2).val; omega
  | ⟨3, _⟩ => show cc0_transform_9 (grid0.coords t) 3 * 128 + 1 * (y 3).val = (y 3).val; rw [e]; show 0 * 128 + 1 * (y 3).val = (y 3).val; omega
theorem emb0 (t : Fin grid0.N) (y : S2.Idx) : (((cf (F := Ideal) m).win 0).blk t).view.emb y = y := by
  funext a
  refine Fin.ext ?_
  match a with
  | ⟨0, _⟩ => show 0 * 2 + 1 * (y 0).val = (y 0).val; omega
theorem emb1 (t : Fin grid0.N) (y : S2.Idx) : (((cf (F := Ideal) m).win 1).blk t).view.emb y = y := by
  funext a
  refine Fin.ext ?_
  match a with
  | ⟨0, _⟩ => show 0 * 2 + 1 * (y 0).val = (y 0).val; omega

/-- The scales of a step are the scales. -/
theorem blk0 (t : Fin grid0.N) : iblk (F := Ideal) m c 0 t = m ((c.tc : Thread nD τ).loc main_arg5) := by
  refine Eq.trans ?_ (V_keep (F := Ideal) m c main_arg5 (by decide))
  exact funext fun y => congrArg (V (F := Ideal) m c main_arg5) (emb0 m t y)
theorem blk1 (t : Fin grid0.N) : iblk (F := Ideal) m c 1 t = m ((c.tc : Thread nD τ).loc main_arg6) := by
  refine Eq.trans ?_ (V_keep (F := Ideal) m c main_arg6 (by decide))
  exact funext fun y => congrArg (V (F := Ideal) m c main_arg6) (emb1 m t y)
/-- The queries of a step. -/
theorem blk2 (t : Fin grid0.N) (s : Fin 128) (x : Fin 2048) :
    iblk (F := Ideal) m c 2 t (ix3 0 s x) = m ((c.tc : Thread nD τ).loc main_arg0) (ix3 (sq t) s x) :=
  (congrArg (V (F := Ideal) m c main_arg0) (emb2 m t (ix3 0 s x))).trans (congrFun (V_keep (F := Ideal) m c main_arg0 (by decide)) _)
/-- The new keys of a step. -/
theorem blk3 (t : Fin grid0.N) (g : Fin 2) (s x : Fin 128) :
    iblk (F := Ideal) m c 3 t (ix4 0 g s x) = m ((c.tc : Thread nD τ).loc main_arg1) (ix4 (sq t) s g x) :=
  (congrArg (V (F := Ideal) m c main_v0) (emb3 m t (ix4 0 g s x))).trans (V0_at m c (sq t) g s x)
/-- The new values of a step. -/
theorem blk4 (t : Fin grid0.N) (g : Fin 2) (s x : Fin 128) :
    iblk (F := Ideal) m c 4 t (ix4 0 g s x) = m ((c.tc : Thread nD τ).loc main_arg2) (ix4 (sq t) s g x) :=
  (congrArg (V (F := Ideal) m c main_v1) (emb4 m t (ix4 0 g s x))).trans (V1_at m c (sq t) g s x)

/-! An array whose every block is known. -/
theorem fin5 (G : S32x128x2048.Idx → EReal) (h : ∀ (t : Fin grid0.N) (y : S1x128x2048.Idx), yAt (F := Ideal) m c t y = G (ix3 (sq t) (y 1) (y 2))) :
    (dats (F := Ideal) m 0 c).arrAt 5 (cf m).N = G := by
  refine (dats (F := Ideal) m 0 c).arrAt_eq_of_covers 5 _ (cov _).1 fun t hf y => ?_
  blk_simp
  rw [after_5]
  exact (h t y).trans (congrArg G (emb5 m t y).symm)
theorem fin6 (G : S32x2x128x128.Idx → EReal) (h : ∀ (t : Fin grid0.N) (y : S1x2x128x128.Idx), kAt (F := Ideal) m c t y = G (ix4 (sq t) (y 1) (y 2) (y 3))) :
    (dats (F := Ideal) m 0 c).arrAt 6 (cf m).N = G := by
  refine (dats (F := Ideal) m 0 c).arrAt_eq_of_covers 6 _ (cov _).2.1 fun t hf y => ?_
  blk_simp
  rw [after_6]
  exact (h t y).trans (congrArg G (emb6 m t y).symm)
theorem fin7 (G : S32x2x128x128.Idx → EReal) (h : ∀ (t : Fin grid0.N) (y : S1x2x128x128.Idx), vAt (F := Ideal) m c t y = G (ix4 (sq t) (y 1) (y 2) (y 3))) :
    (dats (F := Ideal) m 0 c).arrAt 7 (cf m).N = G := by
  refine (dats (F := Ideal) m 0 c).arrAt_eq_of_covers 7 _ (cov _).2.2 fun t hf y => ?_
  blk_simp
  rw [after_7]
  exact (h t y).trans (congrArg G (emb7 m t y).symm)

end Cert.KVal

end
-- ==== Proof.Val.Gather.lean ====
module

public import Idealize.ShloMosaic.Lib.Pointwise
public import proofs.«01_k».proof.Proof.Gen.ReferenceIdeal

/-!
# Looking up pages

The reference's gather of whole pages, read at an index: the page is the one the table names.
-/

@[expose] public section

noncomputable section

namespace Cert.RefVal

open Cert.ReferenceIdeal Cert.ReferenceIdeal.Gen
open Idealize.ShloMosaic

local notation "dG" => gather_S2048x128x2x128_S32x64x1_S32x64x128x2x128_234_0_n_n_0_2_11282128

/-- Entry `(b, p, s, g, x)` of the gathered pages is entry `(s, g, x)` of the page that the table names at `(b, p)`. -/
theorem gather_pages {α : Type} (pool : S2048x128x2x128.Idx → α) (idx : IVec S32x64x1 32) (b : Fin 32) (p : Fin 64) (s : Fin 128) (g : Fin 2) (x : Fin 128)
    (h : (idx (ix3 b p 0)).toNat < 2048) :
    Host.gather dG pool idx (ix5 b p s g x) = pool (ix4 ⟨(idx (ix3 b p 0)).toNat, h⟩ s g x) := by
  unfold Host.gather
  refine congrArg pool (funext fun a => Fin.ext ?_)
  have hb : ∀ a', a' ∉ (dG).operandBatchingDims := fun a' => List.not_mem_nil
  show (dG).start (ix5 b p s g x) idx a + (dG).batchCoord (ix5 b p s g x) a + (dG).offCoord (ix5 b p s g x) a = _
  rw [(dG).batchCoord_eq_zero _ _ (hb a)]
  match a with
  | ⟨0, _⟩ =>
    have hk : (0 : Fin 4) ∉ (dG).sKept := fun h => (((dG).mem_sKept 0).1 h).1 (List.mem_singleton.2 rfl)
    have hm : (0 : Fin 4) ∈ (dG).startIndexMap := List.mem_singleton.2 rfl
    show (dG).start (ix5 b p s g x) idx 0 + 0 + (dG).offCoord (ix5 b p s g x) 0 = (idx (ix3 b p 0)).toNat
    rw [(dG).offCoord_eq_zero _ _ hk]
    simp only [Nat.add_zero]
    unfold GatherDims.start
    rw [dif_pos hm]
    have hsi : (dG).siIdx (ix5 b p s g x) ⟨(dG).startIndexMap.idxOf 0, List.idxOf_lt_length_iff.2 hm⟩ = ix3 b p 0 := by
      funext b'; refine Fin.ext ?_
      match b' with
      | ⟨0, _⟩ => rfl
      | ⟨1, _⟩ => rfl
      | ⟨2, _⟩ => rfl
    rw [hsi, BitVec.toInt_eq_toNat_of_lt (by omega)]
    show min ((idx (ix3 b p 0)).toNat : Int).toNat (2048 - 1) = _
    rw [Int.toNat_natCast]; omega
  | ⟨1, _⟩ =>
    have hm : (1 : Fin 4) ∉ (dG).startIndexMap := by decide
    have hs : (dG).start (ix5 b p s g x) idx (1 : Fin 4) = 0 := by unfold GatherDims.start; exact dif_neg hm
    show (dG).start (ix5 b p s g x) idx (1 : Fin 4) + 0 + (dG).offCoord (ix5 b p s g x) (1 : Fin 4) = s.val
    rw [hs]
    simp only [Nat.zero_add]
    rfl
  | ⟨2, _⟩ =>
    have hm : (2 : Fin 4) ∉ (dG).startIndexMap := by decide
    have hs : (dG).start (ix5 b p s g x) idx (2 : Fin 4) = 0 := by unfold GatherDims.start; exact dif_neg hm
    show (dG).start (ix5 b p s g x) idx (2 : Fin 4) + 0 + (dG).offCoord (ix5 b p s g x) (2 : Fin 4) = g.val
    rw [hs]
    simp only [Nat.zero_add]
    rfl
  | ⟨3, _⟩ =>
    have hm : (3 : Fin 4) ∉ (dG).startIndexMap := by decide
    have hs : (dG).start (ix5 b p s g x) idx (3 : Fin 4) = 0 := by unfold GatherDims.start; exact dif_neg hm
    show (dG).start (ix5 b p s g x) idx (3 : Fin 4) + 0 + (dG).offCoord (ix5 b p s g x) (3 : Fin 4) = x.val
    rw [hs]
    simp only [Nat.zero_add]
    rfl

end Cert.RefVal

end
-- ==== Proof.Val.Ref.lean ====
module

public import Idealize.ShloMosaic.Lib.Pointwise
public import proofs.«01_k».proof.Proof.Gen.ReferenceIdeal.Read
public import proofs.«01_k».proof.Proof.Val.Cols
public import proofs.«01_k».proof.Proof.Val.Gather

/-!
# The reference's attention, entry by entry
-/

@[expose] public section

noncomputable section

namespace Cert.RefVal

open Cert.ReferenceIdeal Cert.ReferenceIdeal.Read
open Idealize.ShloMosaic Cert.Consts Cert.Step Cert.Att

variable (x0 : S32x128x2048.Idx → EReal) (x7 : S32x64.Idx → BitVec 32) (x8 : S32.Idx → BitVec 32) (r2 r3 : S32x128x2x128.Idx → EReal)
  (r4 r5 : S2048x128x2x128.Idx → EReal) (b : Fin 32) (g : Fin 2) (h : Fin 8) (t : Fin 128) (p : Fin 8192) (j d : Fin 128)

/-- Dividing by the root of 128 is multiplying by its inverse. -/
theorem div_root (a : EReal) : Ideal.div a (Ideal.sqrt (Ideal.ofBits .f32 0x43000000#32)) = a * ((Real.sqrt 128)⁻¹ : ℝ) := by
  rw [ofBits_128]
  have h : Real.sqrt 128 ≠ 0 := (Real.sqrt_pos.mpr (by norm_num)).ne'
  have e : Ideal.sqrt ((128 : ℝ) : EReal) = ((Real.sqrt 128 : ℝ) : EReal) := by
    rw [Ideal.sqrt_coe, if_neg (by norm_num)]
  rw [e, Ideal.div_coe h, one_div]

theorem bot_scale : (⊥ : EReal) * (((Real.sqrt 128)⁻¹ : ℝ) : EReal) = ⊥ :=
  EReal.bot_mul_coe_of_pos (inv_pos.mpr (Real.sqrt_pos.mpr (by norm_num)))

/-- The mask of the cached positions. -/
theorem sel_len (v : BitVec 32) (hv : v.toNat ≤ 8192) (a b : EReal) :
    Scalar.select (IntOp.cmpi .slt (BitVec.ofNat 32 p.val) v) a b = if p.val < v.toNat then a else b := by
  have := sel_lt (k := p.val / 512) (by omega) ⟨p.val % 512, Nat.mod_lt _ (by decide)⟩ hv a b
  have e : IntOp.addi (Scalar.muli (BitVec.ofNat 32 (p.val / 512)) 512#32) (BitVec.ofNat 32 (p.val % 512)) = BitVec.ofNat 32 p.val := by
    show BitVec.ofNat 32 (p.val / 512) * 512#32 + BitVec.ofNat 32 (p.val % 512) = _
    apply BitVec.eq_of_toNat_eq
    simp only [BitVec.toNat_add, BitVec.toNat_mul, BitVec.toNat_ofNat]
    omega
  dsimp only at this
  rw [e, show 512 * (p.val / 512) + p.val % 512 = p.val by omega] at this
  exact this
/-- The causal mask of the new tokens. -/
theorem sel_new (a b : EReal) :
    Scalar.select (IntOp.cmpi .sle (BitVec.ofNat 32 j.val) (BitVec.ofNat 32 t.val)) a b = if j.val ≤ t.val then a else b := by
  have := sel_le j ⟨t.val, by omega⟩ a b
  have e : IntOp.andi (BitVec.ofNat 32 t.val) 127#32 = BitVec.ofNat 32 t.val := by
    show BitVec.ofNat 32 t.val &&& 127#32 = _
    apply BitVec.eq_of_toNat_eq
    simp only [BitVec.toNat_and, BitVec.toNat_ofNat]
    rw [show 127 % 2 ^ 32 = 2 ^ 7 - 1 by norm_num, Nat.and_two_pow_sub_one_eq_mod]
    omega
  dsimp only at this
  rw [e, Nat.mod_eq_of_lt t.isLt] at this
  exact this

/-- The reference's scores: the dot product of a query with a key, masked. -/
def sRef : Pos → EReal
  | .inl j => if j.val ≤ t.val then ∑ x : Fin 128, r2 (ix4 b j g x) * x0 (ix3 b t ⟨g.val * 1024 + h.val * 128 + x.val, by omega⟩) else ⊥
  | .inr p => if p.val < (x8 (ix1 b)).toNat then
      ∑ x : Fin 128, r4 (ix4 ⟨(x7 (ix2 b ⟨p.val / 128, by omega⟩)).toNat % 2048, Nat.mod_lt _ (by decide)⟩ ⟨p.val % 128, Nat.mod_lt _ (by decide)⟩ g x)
        * x0 (ix3 b t ⟨g.val * 1024 + h.val * 128 + x.val, by omega⟩) else ⊥
/-- The reference's values. -/
def vRef : Pos → EReal
  | .inl j => r3 (ix4 b j g d)
  | .inr p => r5 (ix4 ⟨(x7 (ix2 b ⟨p.val / 128, by omega⟩)).toNat % 2048, Nat.mod_lt _ (by decide)⟩ ⟨p.val % 128, Nat.mod_lt _ (by decide)⟩ g d)

theorem page2 (hp : ∀ i, (x7 i).toNat < 2048) (P : Fin 64) (s x : Fin 128) :
    val_main_v2 (F := Ideal) x7 r4 (ix5 b P s g x) = r4 (ix4 ⟨(x7 (ix2 b P)).toNat % 2048, Nat.mod_lt _ (by decide)⟩ s g x) := by
  have e : val_main_v1 (F := Ideal) x7 (ix3 b P 0) = x7 (ix2 b P) := by pointwise [val_main_v1]
  have h := hp (ix2 b P)
  unfold val_main_v2
  refine (gather_pages r4 _ b P s g x (by rw [e]; exact h)).trans ?_
  refine congrArg (fun q => r4 (ix4 q s g x)) (Fin.ext ?_)
  show (val_main_v1 (F := Ideal) x7 (ix3 b P 0)).toNat = _
  rw [e]; exact (Nat.mod_eq_of_lt h).symm
theorem page5 (hp : ∀ i, (x7 i).toNat < 2048) (P : Fin 64) (s x : Fin 128) :
    val_main_v5 (F := Ideal) x7 r5 (ix5 b P s g x) = r5 (ix4 ⟨(x7 (ix2 b P)).toNat % 2048, Nat.mod_lt _ (by decide)⟩ s g x) :=
  page2 x7 r5 b g hp P s x

theorem t27 (hp : ∀ i, (x7 i).toNat < 2048) (hl : ∀ i, (x8 i).toNat ≤ 8192) :
    val_main_v27 (F := Ideal) x0 x7 x8 r4 (ix5 b g h t p) = sRef x0 x7 x8 r2 r4 b g h t (.inr p) * (((Real.sqrt 128)⁻¹ : ℝ) : EReal) := by
  pointwise [val_main_v27, val_main_v26, val_main_v25, val_main_v24, val_main_cst, val_main_v23, val_main_v22, val_main_v7, val_main_call0_v2, val_main_call0_v1, val_main_call0_v0, val_main_cst_0, val_main_v15, val_main_v14, val_main_v13, val_main_v12, val_main_v11, val_main_v10, val_main_v9, val_main_v3]
  rw [sel_len p _ (hl _), div_root]
  simp only [page2 x7 r4 b g hp]
  unfold sRef
  dsimp only
  split
  · rfl
  · rw [bot_scale]; exact ofBits_neg_inf
theorem t33 : val_main_v33 (F := Ideal) x0 r2 (ix5 b g h t j) = sRef x0 x7 x8 r2 r4 b g h t (.inl j) * (((Real.sqrt 128)⁻¹ : ℝ) : EReal) := by
  pointwise [val_main_v33, val_main_v32, val_main_v31, val_main_v30, val_main_cst_1, val_main_v29, val_main_v28, val_main_v7, val_main_call1_v2, val_main_call1_v1, val_main_call1_v0, val_main_cst_2, val_main_v21, val_main_v20, val_main_v19, val_main_v18, val_main_v17, val_main_v16, val_main_v8]
  rw [sel_new t j, div_root]
  unfold sRef
  dsimp only
  split
  · rfl
  · rw [bot_scale]; exact ofBits_neg_inf

/-- The larger of the two largest scores. -/
def top (s : Pos → EReal) : EReal :=
  max (Finset.univ.sup fun p => s (.inr p) * (((Real.sqrt 128)⁻¹ : ℝ) : EReal))
    (Finset.univ.sup fun j => s (.inl j) * (((Real.sqrt 128)⁻¹ : ℝ) : EReal))
theorem attn_eq (s v : Pos → EReal) : attn s v
    = Ideal.div ((∑ p, Ideal.exp (s (.inr p) * (((Real.sqrt 128)⁻¹ : ℝ) : EReal) - top s) * v (.inr p))
        + ∑ j, Ideal.exp (s (.inl j) * (((Real.sqrt 128)⁻¹ : ℝ) : EReal) - top s) * v (.inl j))
      ((∑ p, Ideal.exp (s (.inr p) * (((Real.sqrt 128)⁻¹ : ℝ) : EReal) - top s))
        + ∑ j, Ideal.exp (s (.inl j) * (((Real.sqrt 128)⁻¹ : ℝ) : EReal) - top s)) := rfl
theorem mx (a b : EReal) : FloatOps.maximumf (F := Ideal) (φ := .f32) a b = max a b := rfl

theorem t34 (hp : ∀ i, (x7 i).toNat < 2048) (hl : ∀ i, (x8 i).toNat ≤ 8192) :
    val_main_v34 (F := Ideal) x0 x7 x8 r4 (ix4 b g h t)
      = Finset.univ.sup fun p => sRef x0 x7 x8 r2 r4 b g h t (.inr p) * (((Real.sqrt 128)⁻¹ : ℝ) : EReal) := by
  pointwise [val_main_v34, val_main_cst_3]
  rw [ofBits_neg_inf, fold_max]
  exact congrArg (Finset.univ.sup) (funext fun p => t27 x0 x7 x8 r2 r4 b g h t p hp hl)
theorem t35 : val_main_v35 (F := Ideal) x0 r2 (ix4 b g h t)
      = Finset.univ.sup fun j => sRef x0 x7 x8 r2 r4 b g h t (.inl j) * (((Real.sqrt 128)⁻¹ : ℝ) : EReal) := by
  pointwise [val_main_v35, val_main_cst_4]
  rw [ofBits_neg_inf, fold_max]
  exact congrArg (Finset.univ.sup) (funext fun j => t33 x0 x7 x8 r2 r4 b g h t j)
theorem t36 (hp : ∀ i, (x7 i).toNat < 2048) (hl : ∀ i, (x8 i).toNat ≤ 8192) :
    val_main_v36 (F := Ideal) x0 x7 x8 r2 r4 (ix4 b g h t) = top (sRef x0 x7 x8 r2 r4 b g h t) := by
  unfold top
  rw [val_main_v36_apply, t34 x0 x7 x8 r2 r4 b g h t hp hl, t35 x0 x7 x8 r2 r4 b g h t, mx]
theorem t40 (hp : ∀ i, (x7 i).toNat < 2048) (hl : ∀ i, (x8 i).toNat ≤ 8192) :
    val_main_v40 (F := Ideal) x0 x7 x8 r2 r4 (ix5 b g h t p)
      = Ideal.exp (sRef x0 x7 x8 r2 r4 b g h t (.inr p) * (((Real.sqrt 128)⁻¹ : ℝ) : EReal) - top (sRef x0 x7 x8 r2 r4 b g h t)) := by
  pointwise [val_main_v40, val_main_v39, val_main_v38, val_main_v37]
  rw [t27 x0 x7 x8 r2 r4 b g h t p hp hl, t36 x0 x7 x8 r2 r4 b g h t hp hl]
theorem t43 (hp : ∀ i, (x7 i).toNat < 2048) (hl : ∀ i, (x8 i).toNat ≤ 8192) :
    val_main_v43 (F := Ideal) x0 x7 x8 r2 r4 (ix5 b g h t j)
      = Ideal.exp (sRef x0 x7 x8 r2 r4 b g h t (.inl j) * (((Real.sqrt 128)⁻¹ : ℝ) : EReal) - top (sRef x0 x7 x8 r2 r4 b g h t)) := by
  pointwise [val_main_v43, val_main_v42, val_main_v41, val_main_v37]
  rw [t33 x0 x7 x8 r2 r4 b g h t j, t36 x0 x7 x8 r2 r4 b g h t hp hl]
theorem t6 (hp : ∀ i, (x7 i).toNat < 2048) :
    val_main_v6 (F := Ideal) x7 r5 (ix4 b p g d) = vRef x7 r3 r5 b g d (.inr p) := by
  pointwise [val_main_v6]
  exact page5 x7 r5 b g hp _ _ _

theorem t44 (hp : ∀ i, (x7 i).toNat < 2048) (hl : ∀ i, (x8 i).toNat ≤ 8192) :
    val_main_v44 (F := Ideal) x0 x7 x8 r2 r4 (ix4 b g h t)
      = ∑ p, Ideal.exp (sRef x0 x7 x8 r2 r4 b g h t (.inr p) * (((Real.sqrt 128)⁻¹ : ℝ) : EReal) - top (sRef x0 x7 x8 r2 r4 b g h t)) := by
  pointwise [val_main_v44, val_main_cst_5]
  exact Finset.sum_congr rfl fun p _ => t40 x0 x7 x8 r2 r4 b g h t p hp hl
theorem t45 (hp : ∀ i, (x7 i).toNat < 2048) (hl : ∀ i, (x8 i).toNat ≤ 8192) :
    val_main_v45 (F := Ideal) x0 x7 x8 r2 r4 (ix4 b g h t)
      = ∑ j, Ideal.exp (sRef x0 x7 x8 r2 r4 b g h t (.inl j) * (((Real.sqrt 128)⁻¹ : ℝ) : EReal) - top (sRef x0 x7 x8 r2 r4 b g h t)) := by
  pointwise [val_main_v45, val_main_cst_6]
  exact Finset.sum_congr rfl fun j _ => t43 x0 x7 x8 r2 r4 b g h t j hp hl
theorem t48 (hp : ∀ i, (x7 i).toNat < 2048) (hl : ∀ i, (x8 i).toNat ≤ 8192) :
    val_main_v48 (F := Ideal) x0 x7 x8 r2 r4 r5 (ix5 b g h t d)
      = ∑ p, Ideal.exp (sRef x0 x7 x8 r2 r4 b g h t (.inr p) * (((Real.sqrt 128)⁻¹ : ℝ) : EReal) - top (sRef x0 x7 x8 r2 r4 b g h t))
          * vRef x7 r3 r5 b g d (.inr p) := by
  pointwise [val_main_v48, val_main_v47]
  exact Finset.sum_congr rfl fun p _ => congrArg₂ (· * ·) (t40 x0 x7 x8 r2 r4 b g h t p hp hl) (t6 x7 r3 r5 b g p d hp)
theorem t50 (hp : ∀ i, (x7 i).toNat < 2048) (hl : ∀ i, (x8 i).toNat ≤ 8192) :
    val_main_v50 (F := Ideal) x0 x7 x8 r2 r3 r4 (ix5 b g h t d)
      = ∑ j, Ideal.exp (sRef x0 x7 x8 r2 r4 b g h t (.inl j) * (((Real.sqrt 128)⁻¹ : ℝ) : EReal) - top (sRef x0 x7 x8 r2 r4 b g h t))
          * vRef x7 r3 r5 b g d (.inl j) := by
  pointwise [val_main_v50, val_main_v49]
  exact Finset.sum_congr rfl fun j _ => congrArg (· * r3 (ix4 b j g d)) (t43 x0 x7 x8 r2 r4 b g h t j hp hl)
theorem ad (a b : EReal) : FloatOps.addf (F := Ideal) (φ := .f32) a b = a + b := rfl

/-- Token `t` of sequence `b`, query head `h` of head `g`, component `d`: attention. -/
theorem out_at (hp : ∀ i, (x7 i).toNat < 2048) (hl : ∀ i, (x8 i).toNat ≤ 8192) :
    val_main_v57 (F := Ideal) x0 x7 x8 r2 r3 r4 r5 (ix3 b t ⟨1024 * g.val + 128 * h.val + d.val, by omega⟩)
      = attn (sRef x0 x7 x8 r2 r4 b g h t) (vRef x7 r3 r5 b g d) := by
  pointwise [val_main_v57, val_main_v56, val_main_v55, val_main_v54, val_main_v53, val_main_v52]
  rw [attn_eq, val_main_v46_apply, val_main_v51_apply, t44 x0 x7 x8 r2 r4 b g h t hp hl, t45 x0 x7 x8 r2 r4 b g h t hp hl,
    t48 x0 x7 x8 r2 r3 r4 r5 b g h t d hp hl, t50 x0 x7 x8 r2 r3 r4 r5 b g h t d hp hl, ad, ad]

end Cert.RefVal

end
-- ==== Proof.Val.RefReg.lean ====
module

public import Idealize.ShloMosaic.Lib.Pointwise
public import Idealize.ShloMosaic.Lib.Pipeline.ValueKit
public import proofs.«01_k».proof.Proof.Gen.ReferenceIdeal.Read

/-!
# What the reference's first stage leaves

The codes of the new keys and values, and the widened codes, new and cached, entry by entry.
-/

@[expose] public section

noncomputable section

namespace Cert.RefVal

open Cert.ReferenceIdeal Cert.ReferenceIdeal.Gen Cert.ReferenceIdeal.Value
open Idealize.ShloMosaic Idealize.ShloMosaic.TcCoe Idealize.SL.Sem Idealize.ShloMosaic.Pipeline

/-- The quantiser: the quotient by the scale, clipped. -/
def code (k ks : EReal) : EReal := min (Ideal.ofBits .f32 0x43E00000#32) (max (Ideal.ofBits .f32 0xC3E00000#32) (Ideal.div k ks))

variable (m : (ℓ : Loc nD τ sig) → Buf (Elt Ideal) ℓ) (c : Dev nD)

/-- The codes of `k`. -/
def codes (k : S32x128x2x128.Idx → EReal) (s : S2.Idx → EReal) : S32x128x2x128.Idx → EReal := fun i => code (k i) (s (ix1 (i 2)))
/-- The widened codes of `k`. -/
def wideN (k : S32x128x2x128.Idx → EReal) (s : S2.Idx → EReal) : S32x128x2x128.Idx → EReal := fun i => code (k i) (s (ix1 (i 2))) * s (ix1 (i 2))
/-- The widened cached codes. -/
def wideP (k : S2048x128x2x128.Idx → EReal) (s : S2.Idx → EReal) : S2048x128x2x128.Idx → EReal := fun i => k i * s (ix1 (i 2))

theorem p5 (k : S32x128x2x128.Idx → EReal) (s : S2.Idx → EReal) : k0_pay5 (F := Ideal) k s = codes k s := by
  funext i
  unfold codes
  rw [eq_ix4 i]
  pointwise [k0_pay5]
  first | done | rfl
theorem p1 (k : S32x128x2x128.Idx → EReal) (s : S2.Idx → EReal) : k0_pay1 (F := Ideal) (k0_pay9 k) s = codes k s := p5 k s
theorem p7 (k : S32x128x2x128.Idx → EReal) (s : S2.Idx → EReal) : k0_pay7 (F := Ideal) k s s = wideN k s := by
  funext i
  unfold wideN
  rw [eq_ix4 i]
  pointwise [k0_pay7, k0_pay6, k0_pay5]
  first | done | rfl
theorem p3 (k : S32x128x2x128.Idx → EReal) (s : S2.Idx → EReal) : k0_pay3 (F := Ideal) (k0_pay9 k) s s = wideN k s := p7 k s
theorem p8 (k : S2048x128x2x128.Idx → EReal) (s : S2.Idx → EReal) : k0_pay8 (F := Ideal) s k = wideP k s := by
  funext i
  unfold wideP
  rw [eq_ix4 i]
  pointwise [k0_pay8, k0_pay6]
  first | done | rfl
theorem p4 (k : S2048x128x2x128.Idx → EReal) (s : S2.Idx → EReal) : k0_pay4 (F := Ideal) s k = wideP k s := p8 k s

/-! Each array is one block: a block's entry is the array's entry. -/
theorem out0 (t : Fin cfg0.grid.N) (y : S32x128x2x128.Idx) : ((View.whole main_v0_0).slice (win0_6.rect t)).emb y = y := by
  blk_ext <;> (show 0 * _ + _ = _; omega)
theorem out1 (t : Fin cfg0.grid.N) (y : S32x128x2x128.Idx) : ((View.whole main_v0_1).slice (win0_7.rect t)).emb y = y := by
  blk_ext <;> (show 0 * _ + _ = _; omega)
theorem out2 (t : Fin cfg0.grid.N) (y : S32x128x2x128.Idx) : ((View.whole main_v0_2).slice (win0_8.rect t)).emb y = y := by
  blk_ext <;> (show 0 * _ + _ = _; omega)
theorem out3 (t : Fin cfg0.grid.N) (y : S32x128x2x128.Idx) : ((View.whole main_v0_3).slice (win0_9.rect t)).emb y = y := by
  blk_ext <;> (show 0 * _ + _ = _; omega)
theorem out4 (t : Fin cfg0.grid.N) (y : S2048x128x2x128.Idx) : ((View.whole main_v0_4).slice (win0_10.rect t)).emb y = y := by
  blk_ext <;> (show 0 * _ + _ = _; omega)
theorem out5 (t : Fin cfg0.grid.N) (y : S2048x128x2x128.Idx) : ((View.whole main_v0_5).slice (win0_11.rect t)).emb y = y := by
  blk_ext <;> (show 0 * _ + _ = _; omega)
theorem inn0 (t : Fin cfg0.grid.N) (y : S32x128x2x128.Idx) : ((View.whole main_arg1).slice (win0_0.rect t)).emb y = y := by
  blk_ext <;> (show 0 * _ + _ = _; omega)
theorem blk0 (t : Fin cfg0.grid.N) : iblk (F := Ideal) m c 0 t = m ((c.tc : Thread nD τ).loc main_arg1) :=
  funext fun y => congrArg (m ((c.tc : Thread nD τ).loc main_arg1)) (inn0 t y)
theorem inn1 (t : Fin cfg0.grid.N) (y : S32x128x2x128.Idx) : ((View.whole main_arg2).slice (win0_1.rect t)).emb y = y := by
  blk_ext <;> (show 0 * _ + _ = _; omega)
theorem blk1 (t : Fin cfg0.grid.N) : iblk (F := Ideal) m c 1 t = m ((c.tc : Thread nD τ).loc main_arg2) :=
  funext fun y => congrArg (m ((c.tc : Thread nD τ).loc main_arg2)) (inn1 t y)
theorem inn2 (t : Fin cfg0.grid.N) (y : S2048x128x2x128.Idx) : ((View.whole main_arg3).slice (win0_2.rect t)).emb y = y := by
  blk_ext <;> (show 0 * _ + _ = _; omega)
theorem blk2 (t : Fin cfg0.grid.N) : iblk (F := Ideal) m c 2 t = m ((c.tc : Thread nD τ).loc main_arg3) :=
  funext fun y => congrArg (m ((c.tc : Thread nD τ).loc main_arg3)) (inn2 t y)
theorem inn3 (t : Fin cfg0.grid.N) (y : S2048x128x2x128.Idx) : ((View.whole main_arg4).slice (win0_3.rect t)).emb y = y := by
  blk_ext <;> (show 0 * _ + _ = _; omega)
theorem blk3 (t : Fin cfg0.grid.N) : iblk (F := Ideal) m c 3 t = m ((c.tc : Thread nD τ).loc main_arg4) :=
  funext fun y => congrArg (m ((c.tc : Thread nD τ).loc main_arg4)) (inn3 t y)
theorem inn4 (t : Fin cfg0.grid.N) (y : S2.Idx) : ((View.whole main_arg5).slice (win0_4.rect t)).emb y = y := by
  blk_ext <;> (show 0 * _ + _ = _; omega)
theorem blk4 (t : Fin cfg0.grid.N) : iblk (F := Ideal) m c 4 t = m ((c.tc : Thread nD τ).loc main_arg5) :=
  funext fun y => congrArg (m ((c.tc : Thread nD τ).loc main_arg5)) (inn4 t y)
theorem inn5 (t : Fin cfg0.grid.N) (y : S2.Idx) : ((View.whole main_arg6).slice (win0_5.rect t)).emb y = y := by
  blk_ext <;> (show 0 * _ + _ = _; omega)
theorem blk5 (t : Fin cfg0.grid.N) : iblk (F := Ideal) m c 5 t = m ((c.tc : Thread nD τ).loc main_arg6) :=
  funext fun y => congrArg (m ((c.tc : Thread nD τ).loc main_arg6)) (inn5 t y)
/-- What the first stage leaves as the codes of the new keys. -/
theorem reg0 : reg_main_v0_0 (F := Ideal) m c = codes (m ((c.tc : Thread nD τ).loc main_arg1)) (m ((c.tc : Thread nD τ).loc main_arg5)) := by
  unfold reg_main_v0_0
  refine (dats m 0 c).arrAt_eq_of_covers 6 _ (by decide +kernel) fun t hf y => ?_
  blk_simp
  rw [after0_6]
  frame_out
  rw [p5, blk0, blk4]
  exact congrArg (codes (m ((c.tc : Thread nD τ).loc main_arg1)) (m ((c.tc : Thread nD τ).loc main_arg5))) (out0 t y).symm
/-- What the first stage leaves as the codes of the new values. -/
theorem reg1 : reg_main_v0_1 (F := Ideal) m c = codes (m ((c.tc : Thread nD τ).loc main_arg2)) (m ((c.tc : Thread nD τ).loc main_arg6)) := by
  unfold reg_main_v0_1
  refine (dats m 0 c).arrAt_eq_of_covers 7 _ (by decide +kernel) fun t hf y => ?_
  blk_simp
  rw [after0_7]
  frame_out
  rw [show k0_pay10 (iblk m c 0 t) (iblk m c 1 t) (iblk m c 2 t) (iblk m c 3 t) (iblk m c 4 t) (iblk m c 5 t) = k0_pay9 (iblk m c 1 t) from
      congrArg (k0_pay9 (F := Ideal)) (View.ld_unit_zero (by decide) _ _), p1, blk1, blk5]
  exact congrArg (codes (m ((c.tc : Thread nD τ).loc main_arg2)) (m ((c.tc : Thread nD τ).loc main_arg6))) (out1 t y).symm
/-- What the first stage leaves as the widened new keys. -/
theorem reg2 : reg_main_v0_2 (F := Ideal) m c = wideN (m ((c.tc : Thread nD τ).loc main_arg1)) (m ((c.tc : Thread nD τ).loc main_arg5)) := by
  unfold reg_main_v0_2
  refine (dats m 0 c).arrAt_eq_of_covers 8 _ (by decide +kernel) fun t hf y => ?_
  blk_simp
  rw [after0_8]
  frame_out
  rw [p7, blk0, blk4]
  exact congrArg (wideN (m ((c.tc : Thread nD τ).loc main_arg1)) (m ((c.tc : Thread nD τ).loc main_arg5))) (out2 t y).symm
/-- What the first stage leaves as the widened new values. -/
theorem reg3 : reg_main_v0_3 (F := Ideal) m c = wideN (m ((c.tc : Thread nD τ).loc main_arg2)) (m ((c.tc : Thread nD τ).loc main_arg6)) := by
  unfold reg_main_v0_3
  refine (dats m 0 c).arrAt_eq_of_covers 9 _ (by decide +kernel) fun t hf y => ?_
  blk_simp
  rw [after0_9]
  frame_out
  rw [show k0_pay10 (iblk m c 0 t) (iblk m c 1 t) (iblk m c 2 t) (iblk m c 3 t) (iblk m c 4 t) (iblk m c 5 t) = k0_pay9 (iblk m c 1 t) from
      congrArg (k0_pay9 (F := Ideal)) (View.ld_unit_zero (by decide) _ _), p3, blk1, blk5]
  exact congrArg (wideN (m ((c.tc : Thread nD τ).loc main_arg2)) (m ((c.tc : Thread nD τ).loc main_arg6))) (out3 t y).symm
/-- What the first stage leaves as the widened cached keys. -/
theorem reg4 : reg_main_v0_4 (F := Ideal) m c = wideP (m ((c.tc : Thread nD τ).loc main_arg3)) (m ((c.tc : Thread nD τ).loc main_arg5)) := by
  unfold reg_main_v0_4
  refine (dats m 0 c).arrAt_eq_of_covers 10 _ (by decide +kernel) fun t hf y => ?_
  blk_simp
  rw [after0_10]
  frame_out
  rw [p8, blk2, blk4]
  exact congrArg (wideP (m ((c.tc : Thread nD τ).loc main_arg3)) (m ((c.tc : Thread nD τ).loc main_arg5))) (out4 t y).symm
/-- What the first stage leaves as the widened cached values. -/
theorem reg5 : reg_main_v0_5 (F := Ideal) m c = wideP (m ((c.tc : Thread nD τ).loc main_arg4)) (m ((c.tc : Thread nD τ).loc main_arg6)) := by
  unfold reg_main_v0_5
  refine (dats m 0 c).arrAt_eq_of_covers 11 _ (by decide +kernel) fun t hf y => ?_
  blk_simp
  rw [after0_11]
  frame_out
  rw [p4, blk3, blk5]
  exact congrArg (wideP (m ((c.tc : Thread nD τ).loc main_arg4)) (m ((c.tc : Thread nD τ).loc main_arg6))) (out5 t y).symm

end Cert.RefVal

end
-- ==== Proof.Val.Same.lean ====
module

public import proofs.«01_k».proof.Proof.Val.Out
public import proofs.«01_k».proof.Proof.Val.Ref
public import proofs.«01_k».proof.Proof.Val.RefReg

/-!
# The kernel's arrays are the reference's values
-/

@[expose] public section

noncomputable section

namespace Cert.KVal

open Cert.KernelIdeal Cert.KernelIdeal.Gen Cert.KernelIdeal.Hand Cert.Step Cert.Att
open Idealize.ShloMosaic Idealize.ShloMosaic.TcCoe Idealize.SL.Sem
open Cert.RefVal (code codes wideN wideP sRef vRef)

/-- The kernel's quantiser is the reference's. -/
theorem pay55_at (ks : EReal) (kn : S1x1x128x128.Idx → EReal) (j x : Fin 128) :
    k0_pay55 (F := Ideal) ks kn (ix2 j x) = code (kn (ix4 0 0 j x)) ks := by
  pointwise [k0_pay55]
  first | done | rfl
theorem pay56_at (ks : EReal) (kn : S1x1x128x128.Idx → EReal) (j x : Fin 128) :
    k0_pay56 (F := Ideal) ks kn (ix2 j x) = code (kn (ix4 0 0 j x)) ks := by
  pointwise [k0_pay56]
  first | done | rfl
theorem pay57_at (ks : EReal) (kn : S1x1x128x128.Idx → EReal) (j x : Fin 128) :
    k0_pay57 (F := Ideal) ks kn (ix4 0 0 j x) = code (kn (ix4 0 0 j x)) ks := by
  pointwise [k0_pay57, k0_pay55]
  first | done | rfl
theorem pay58_at (ks : EReal) (kn : S1x1x128x128.Idx → EReal) (j x : Fin 128) :
    k0_pay58 (F := Ideal) ks kn (ix4 0 0 j x) = code (kn (ix4 0 0 j x)) ks := by
  pointwise [k0_pay58, k0_pay56]
  first | done | rfl
theorem kn4_at (kn : S1x2x128x128.Idx → EReal) (g : Fin 2) (j x : Fin 128) : kn4 (F := Ideal) kn g (ix4 0 0 j x) = kn (ix4 0 g j x) := by
  rw [ix4_eq_valueIdx (0 : Fin 1) g j x]
  rfl

variable (m : (ℓ : Loc nD τ sig) → Buf (Elt Ideal) ℓ) (c : Dev nD)

/-! The arguments, at their shapes. -/
abbrev A0 : S32x128x2048.Idx → EReal := m ((c.tc : Thread nD τ).loc main_arg0)
abbrev A1 : S32x128x2x128.Idx → EReal := m ((c.tc : Thread nD τ).loc main_arg1)
abbrev A2 : S32x128x2x128.Idx → EReal := m ((c.tc : Thread nD τ).loc main_arg2)
abbrev A3 : S2048x128x2x128.Idx → EReal := m ((c.tc : Thread nD τ).loc main_arg3)
abbrev A4 : S2048x128x2x128.Idx → EReal := m ((c.tc : Thread nD τ).loc main_arg4)
abbrev A5 : S2.Idx → EReal := m ((c.tc : Thread nD τ).loc main_arg5)
abbrev A6 : S2.Idx → EReal := m ((c.tc : Thread nD τ).loc main_arg6)
abbrev A7 : S32x64.Idx → BitVec 32 := m ((c.tc : Thread nD τ).loc main_arg7)
abbrev A8 : S32.Idx → BitVec 32 := m ((c.tc : Thread nD τ).loc main_arg8)

theorem s0 (T : Fin grid0.N) (g : Fin 2) : iblk (F := Ideal) m c 0 T (ValueIdx.ix1 g) = A5 m c (ix1 g) := by
  rw [ix1_eq_valueIdx]; exact congrFun (blk0 m c T) _
theorem s1 (T : Fin grid0.N) (g : Fin 2) : iblk (F := Ideal) m c 1 T (ValueIdx.ix1 g) = A6 m c (ix1 g) := by
  rw [ix1_eq_valueIdx]; exact congrFun (blk1 m c T) _
theorem kN (T : Fin grid0.N) (g : Fin 2) (j x : Fin 128) : kn4 (F := Ideal) (iblk (F := Ideal) m c 3 T) g (ix4 0 0 j x) = A1 m c (ix4 (sq T) j g x) :=
  (kn4_at _ g j x).trans (blk3 m c T g j x)
theorem vN (T : Fin grid0.N) (g : Fin 2) (j x : Fin 128) : kn4 (F := Ideal) (iblk (F := Ideal) m c 4 T) g (ix4 0 0 j x) = A2 m c (ix4 (sq T) j g x) :=
  (kn4_at _ g j x).trans (blk4 m c T g j x)

theorem qRow (T : Fin grid0.N) (g : Fin 2) (h : Fin 8) (t x : Fin 128) :
    qq (iblk (F := Ideal) m c 2 T) g (ix2 ⟨128 * h.val + t.val, by omega⟩ x) = A0 m c (ix3 (sq T) t ⟨g.val * 1024 + h.val * 128 + x.val, by omega⟩) := by
  refine (blk2 m c T ⟨(128 * h.val + t.val) % 128, _⟩ ⟨1024 * g.val + 128 * ((128 * h.val + t.val) / 128) + x.val, by omega⟩).trans ?_
  exact congrArg₂ (fun p r => A0 m c (ix3 (sq T) p r)) (Fin.ext (by show (128 * h.val + t.val) % 128 = t.val; omega))
    (Fin.ext (by show 1024 * g.val + 128 * ((128 * h.val + t.val) / 128) + x.val = g.val * 1024 + h.val * 128 + x.val; omega))

theorem row_eq (T : Fin grid0.N) (i : Fin 64) :
    rowOf (V (F := Ideal) m c main_arg7) (sq T) i = ⟨(A7 m c (ix2 (sq T) i)).toNat % 2048, Nat.mod_lt _ (by decide)⟩ := by
  rw [V_keep (F := Ideal) m c main_arg7 (by decide), ix2_eq_valueIdx]
  rfl

/-- The scores of the kernel are the reference's. -/
theorem scr_eq (T : Fin grid0.N) (g : Fin 2) (h : Fin 8) (t : Fin 128) :
    scr (V (F := Ideal) m c main_v2) (rowOf (V (F := Ideal) m c main_arg7) (sq T)) g (V (F := Ideal) m c main_arg8 (ValueIdx.ix1 (sq T)))
        (iblk (F := Ideal) m c 0 T (ValueIdx.ix1 g)) (qq (iblk (F := Ideal) m c 2 T) g) (kn4 (F := Ideal) (iblk (F := Ideal) m c 3 T) g)
        ⟨128 * h.val + t.val, by omega⟩
      = sRef (A0 m c) (A7 m c) (A8 m c) (wideN (A1 m c) (A5 m c)) (wideP (A3 m c) (A5 m c)) (sq T) g h t := by
  funext p
  rcases p with j | p
  · refine if_congr ?_ (Finset.sum_congr rfl fun x _ => ?_) rfl
    · show j.val ≤ (128 * h.val + t.val) % 128 ↔ j.val ≤ t.val
      rw [show (128 * h.val + t.val) % 128 = t.val by omega]
    · exact congrArg₂ (· * ·) (congrArg₂ (· * ·) ((pay55_at _ _ j x).trans (congrArg₂ code (kN m c T g j x) (s0 m c T g))) (s0 m c T g)) (qRow m c T g h t x)
  · refine if_congr ?_ (Finset.sum_congr rfl fun x _ => ?_) rfl
    · rw [V_keep (F := Ideal) m c main_arg8 (by decide), ix1_eq_valueIdx]
    · rw [s0, qRow]
      unfold at4
      rw [row_eq, V2_at]
      rfl

/-- The values of the kernel are the reference's. -/
theorem vlr_eq (T : Fin grid0.N) (g : Fin 2) (d : Fin 128) :
    vlr (V (F := Ideal) m c main_v3) (rowOf (V (F := Ideal) m c main_arg7) (sq T)) g (iblk (F := Ideal) m c 1 T (ValueIdx.ix1 g))
        (kn4 (F := Ideal) (iblk (F := Ideal) m c 4 T) g) d
      = vRef (A7 m c) (wideN (A2 m c) (A6 m c)) (wideP (A4 m c) (A6 m c)) (sq T) g d := by
  funext p
  rcases p with j | p
  · exact congrArg₂ (· * ·) ((pay56_at _ _ j d).trans (congrArg₂ code (vN m c T g j d) (s1 m c T g))) (s1 m c T g)
  · show at4 _ _ g p d * _ = _
    rw [s1]
    unfold at4
    rw [row_eq, V3_at]
    rfl

theorem seq_eq (T : Fin grid0.N) : seqOf (F := Ideal) m T = sq T := Fin.ext (coords0 T)

/-- The reference's attention of the kernel's arguments. -/
def refOut : S32x128x2048.Idx → EReal :=
  Cert.ReferenceIdeal.Read.val_main_v57 (F := Ideal) (A0 m c) (A7 m c) (A8 m c) (wideN (A1 m c) (A5 m c)) (wideN (A2 m c) (A6 m c))
    (wideP (A3 m c) (A5 m c)) (wideP (A4 m c) (A6 m c))

variable (hp : ∀ i, (A7 m c i).toNat < 2048) (hl : ∀ i, (A8 m c i).toNat ≤ 8192)

include hp hl in
theorem y_at (T : Fin grid0.N) (g : Fin 2) (h : Fin 8) (t d : Fin 128) :
    yAt (F := Ideal) m c T (ix3 0 t ⟨1024 * g.val + 128 * h.val + d.val, by omega⟩)
      = refOut m c (ix3 (sq T) t ⟨1024 * g.val + 128 * h.val + d.val, by omega⟩) := by
  have hl' : (V (F := Ideal) m c main_arg8 (ValueIdx.ix1 (sq T))).toNat ≤ 8192 := by
    rw [V_keep (F := Ideal) m c main_arg8 (by decide)]; exact hl _
  unfold yAt refOut
  rw [seq_eq, Cert.RefVal.out_at _ _ _ _ _ _ _ (sq T) g h t d hp hl, ← scr_eq, ← vlr_eq]
  exact outY_at _ _ _ _ _ _ _ _ _ _ hl' t g h d

include hp hl in
/-- The attention result. -/
theorem out5 : (dats (F := Ideal) m 0 c).arrAt 5 (cf m).N = refOut m c := by
  refine fin5 m c _ fun T y => ?_
  obtain ⟨g, h, d, e⟩ : ∃ (g : Fin 2) (h : Fin 8) (d : Fin 128), (⟨1024 * g.val + 128 * h.val + d.val, by omega⟩ : Fin 2048) = y 2 := by
    have hy := (y 2).isLt
    change _ < 2048 at hy
    exact ⟨⟨(y 2).val / 1024, by omega⟩, ⟨(y 2).val % 1024 / 128, by omega⟩, ⟨(y 2).val % 128, by omega⟩, Fin.ext (by
      show 1024 * ((y 2).val / 1024) + 128 * ((y 2).val % 1024 / 128) + (y 2).val % 128 = (y 2).val; omega)⟩
  have e0 : y 0 = (0 : Fin 1) := Subsingleton.elim (α := Fin 1) _ _
  have ey : y = ix3 (0 : Fin 1) (y 1) (y 2) := (eq_ix3 y).trans (congrArg (fun z => ix3 z (y 1) (y 2)) e0)
  rw [ey, ← e]
  exact y_at m c hp hl T g h (y 1) d

theorem out6 : (dats (F := Ideal) m 0 c).arrAt 6 (cf m).N = fun i : S32x2x128x128.Idx => codes (A1 m c) (A5 m c) (ix4 (i 0) (i 2) (i 1) (i 3)) := by
  refine fin6 m c _ fun T y => ?_
  have e : ∀ (g : Fin 2) (j x : Fin 128), k0_pay57 (F := Ideal) (iblk (F := Ideal) m c 0 T (ValueIdx.ix1 g)) (kn4 (F := Ideal) (iblk (F := Ideal) m c 3 T) g) (ValueIdx.ix4 0 0 j x)
      = code (A1 m c (ix4 (sq T) j g x)) (A5 m c (ix1 g)) := fun g j x => by
    rw [← ix4_eq_valueIdx (0 : Fin 1) (0 : Fin 1) j x]
    exact (pay57_at _ _ j x).trans (congrArg₂ code (kN m c T g j x) (s0 m c T g))
  exact e (y 1) (y 2) (y 3)
theorem out7 : (dats (F := Ideal) m 0 c).arrAt 7 (cf m).N = fun i : S32x2x128x128.Idx => codes (A2 m c) (A6 m c) (ix4 (i 0) (i 2) (i 1) (i 3)) := by
  refine fin7 m c _ fun T y => ?_
  have e : ∀ (g : Fin 2) (j x : Fin 128), k0_pay58 (F := Ideal) (iblk (F := Ideal) m c 1 T (ValueIdx.ix1 g)) (kn4 (F := Ideal) (iblk (F := Ideal) m c 4 T) g) (ValueIdx.ix4 0 0 j x)
      = code (A2 m c (ix4 (sq T) j g x)) (A6 m c (ix1 g)) := fun g j x => by
    rw [← ix4_eq_valueIdx (0 : Fin 1) (0 : Fin 1) j x]
    exact (pay58_at _ _ j x).trans (congrArg₂ code (vN m c T g j x) (s1 m c T g))
  exact e (y 1) (y 2) (y 3)

variable (r : PUnit × MemSt nD τ sig (Elt Ideal)) (hv : Vals m r)

theorem arr_inj : Function.Injective (Pipeline.arrRef spec0) := by decide

include hv hp hl in
/-- What a run leaves in the attention result. -/
theorem end_v4 : r.2.mem ((c.tc : Thread nD τ).loc main_v4_0) = refOut m c := ((hv c).1 5).trans (out5 m c hp hl)

include hv in
/-- What a run leaves in the codes of the keys. -/
theorem end_v5 : r.2.mem ((c.tc : Thread nD τ).loc main_v5) = codes (A1 m c) (A5 m c) := by
  refine ((hv c).2 main_v5 (by decide)).trans ?_
  have e : ∀ W : Valuation τ sig (Elt Ideal), StableHlo.after [hostOps1 (F := Ideal)].flatten W (Proc.devRef .tc main_v5)
      = transpose S32x128x2x128 [0, 2, 1, 3] (W (Proc.devRef .tc main_v4_1)) transposes_S32x2x128x128_S32x128x2x128_0_2_1_3 := fun _ => rfl
  rw [e]
  have e2 := (Pipeline.withArrays_arr spec0 arr_inj c (Pipeline.withR (V₀ (F := Ideal) m c) ∅ c (V (F := Ideal) m c)) (fun w => (dats (F := Ideal) m 0 c).arrAt w (cf m).N) 6).trans (out6 m c)
  refine (congrArg (fun z => transpose S32x128x2x128 [0, 2, 1, 3] z transposes_S32x2x128x128_S32x128x2x128_0_2_1_3) e2).trans ?_
  funext i
  rw [eq_ix4 i]
  pointwise []
include hv in
/-- What a run leaves in the codes of the values. -/
theorem end_v6 : r.2.mem ((c.tc : Thread nD τ).loc main_v6) = codes (A2 m c) (A6 m c) := by
  refine ((hv c).2 main_v6 (by decide)).trans ?_
  have e : ∀ W : Valuation τ sig (Elt Ideal), StableHlo.after [hostOps1 (F := Ideal)].flatten W (Proc.devRef .tc main_v6)
      = transpose S32x128x2x128 [0, 2, 1, 3] (W (Proc.devRef .tc main_v4_2)) transposes_S32x2x128x128_S32x128x2x128_0_2_1_3 := fun _ => rfl
  rw [e]
  have e2 := (Pipeline.withArrays_arr spec0 arr_inj c (Pipeline.withR (V₀ (F := Ideal) m c) ∅ c (V (F := Ideal) m c)) (fun w => (dats (F := Ideal) m 0 c).arrAt w (cf m).N) 7).trans (out7 m c)
  refine (congrArg (fun z => transpose S32x128x2x128 [0, 2, 1, 3] z transposes_S32x2x128x128_S32x128x2x128_0_2_1_3) e2).trans ?_
  funext i
  rw [eq_ix4 i]
  pointwise []

end Cert.KVal

end
-- ==== Proof.Claims.lean ====
module

public import proofs.«01_k».proof.Defs
public import proofs.«01_k».proof.Proof.Pages
public import proofs.«01_k».proof.Proof.Kn.Run
public import proofs.«01_k».proof.Proof.Ki.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Read
public import proofs.«01_k».proof.Proof.Val.Same

/-!
# The claims

Each claim from the runs: the two programs' (`Kn.Run`, `Ki.Run`), and the reference's.
-/

@[expose] public section

noncomputable section

namespace Cert.Proof.Claims

open Idealize.ShloMosaic Idealize.ShloMosaic.TcCoe Idealize.SL.Sem

attribute [local instance] Cert.Pages.facts

theorem frame_p : Cert.quiescent_Kernel (hKernel := Cert.Kernel.Gen.facts) (hPre_well_formed := Cert.Pages.facts) := by
  intro m g hpre
  have hg := fun c => Cert.Pages.decode (F := Bits) _ _ _ _ _ _ _ _ _ (hpre c)
  refine θ_run_mono (Cert.Kernel.Hand.run_all m g (fun c x => ?_) (fun c x => ?_)) (fun r h => ⟨h.1, h.2.2⟩)
  · rw [Cert.Kernel.Hand.V_keep m c _ (by decide)]; exact (hg c).page x
  · rw [Cert.Kernel.Hand.V_keep m c _ (by decide)]; exact (hg c).len x

/-- The run at the ideal instance under the condition: arguments kept, results named, no counter left. -/
theorem run_ideal [Cert.Pre_well_formed.Facts] (m : (ℓ : Loc Cert.KernelIdeal.nD Cert.KernelIdeal.τ Cert.KernelIdeal.sig) → Buf (Elt Ideal) ℓ)
    (g : Dev Cert.KernelIdeal.nD → PrngReg) (hpre : Cert.Pre_KernelIdeal m) :
    θ_run (Cert.KernelIdeal.defs (F := Ideal)) (onTc Cert.KernelIdeal.main) ⟨m, fun _ => 0, g⟩
      (fun r => Cert.KernelIdeal.Hand.Kept m r ∧ Cert.KernelIdeal.Hand.Vals m r ∧ r.2.sem = fun _ => 0) := by
  have hg := fun c => Cert.Pages.decode (F := Ideal) _ _ _ _ _ _ _ _ _ (hpre c)
  refine Cert.KernelIdeal.Hand.run_all m g (fun c x => ?_) (fun c x => ?_)
  · rw [Cert.KernelIdeal.Hand.V_keep m c _ (by decide)]; exact (hg c).page x
  · rw [Cert.KernelIdeal.Hand.V_keep m c _ (by decide)]; exact (hg c).len x

theorem frame_pi : Cert.quiescent_KernelIdeal (hKernelIdeal := Cert.KernelIdeal.Gen.facts) (hPre_well_formed := Cert.Pages.facts) :=
  fun m g hpre => θ_run_mono (run_ideal m g hpre) (fun r h => ⟨h.1, h.2.2⟩)

theorem frame_ri : Cert.quiescent_ReferenceIdeal (hReferenceIdeal := Cert.ReferenceIdeal.Gen.facts) (hPre_well_formed := Cert.Pages.facts) :=
  fun m g _ => Cert.ReferenceIdeal.Gen.frame m g

theorem preserves : Cert.preserves_Kernel_KernelIdeal :=
  ⟨IdealRules.named_const.statement Cert.KernelIdeal.κ "masked" .f32 0xF149F2CA#32 ⊥ rfl,
    IdealRules.named_const.statement Cert.KernelIdeal.κ "scale_log2e" .f32 0x3E0293EE#32 (((Real.log 2)⁻¹ * (Real.sqrt 128)⁻¹ : ℝ) : EReal) rfl⟩

section Reference

open Cert.ReferenceIdeal Cert.ReferenceIdeal.Value Cert.ReferenceIdeal.Read Cert.RefVal

variable (m : (ℓ : Loc nD τ sig) → Buf (Elt Ideal) ℓ) (c : Dev nD)
  (x0 : S32x128x2048.Idx → EReal) (x1 x2 : S32x128x2x128.Idx → EReal) (x3 x4 : S2048x128x2x128.Idx → EReal) (x5 x6 : S2.Idx → EReal)
  (x7 : S32x64.Idx → BitVec 32) (x8 : S32.Idx → BitVec 32)
  (h0 : m ((c.tc : Thread nD τ).loc main_arg0) = x0) (h1 : m ((c.tc : Thread nD τ).loc main_arg1) = x1) (h2 : m ((c.tc : Thread nD τ).loc main_arg2) = x2)
  (h3 : m ((c.tc : Thread nD τ).loc main_arg3) = x3) (h4 : m ((c.tc : Thread nD τ).loc main_arg4) = x4) (h5 : m ((c.tc : Thread nD τ).loc main_arg5) = x5)
  (h6 : m ((c.tc : Thread nD τ).loc main_arg6) = x6) (h7 : m ((c.tc : Thread nD τ).loc main_arg7) = x7) (h8 : m ((c.tc : Thread nD τ).loc main_arg8) = x8)

include h0 h1 h2 h3 h4 h5 h6 h7 h8 in
/-- The reference's attention, from the arguments' contents. -/
theorem ref_out :
    val_main_v57 (F := Ideal) (exitV m c (Proc.devRef .tc main_arg0)) (exitV m c (Proc.devRef .tc main_arg7)) (exitV m c (Proc.devRef .tc main_arg8))
        (exitV m c (Proc.devRef .tc main_v0_2)) (exitV m c (Proc.devRef .tc main_v0_3)) (exitV m c (Proc.devRef .tc main_v0_4)) (exitV m c (Proc.devRef .tc main_v0_5))
      = val_main_v57 (F := Ideal) x0 x7 x8 (wideN x1 x5) (wideN x2 x6) (wideP x3 x5) (wideP x4 x6) := by
  subst h0 h1 h2 h3 h4 h5 h6 h7 h8
  rw [exit_main_arg0, exit_main_arg7, exit_main_arg8, exit_main_v0_2, exit_main_v0_3, exit_main_v0_4, exit_main_v0_5, reg2, reg3, reg4, reg5]
include h1 h5 in
/-- The reference's codes of the keys, from the arguments' contents. -/
theorem ref_k : reg_main_v0_0 m c = codes x1 x5 := by subst h1 h5; exact reg0 m c
include h2 h6 in
/-- The reference's codes of the values, from the arguments' contents. -/
theorem ref_v : reg_main_v0_1 m c = codes x2 x6 := by subst h2 h6; exact reg1 m c

end Reference

/-- From arguments the condition holds of, the kernel and the reference end with the same five results: the attention of the new tokens over their
    cached pages and themselves, the new keys' codes and scales, the new values' codes and scales. -/
theorem algebraic : Cert.algebraic_KernelIdeal_ReferenceIdeal (hKernelIdeal := Cert.KernelIdeal.Gen.facts) (hReferenceIdeal := Cert.ReferenceIdeal.Gen.facts)
    (hPre_well_formed := Cert.Pages.facts) := by
  intro m g m' g' hpre hm
  have hg := fun c => Cert.Pages.decode (F := Ideal) _ _ _ _ _ _ _ _ _ (hpre c)
  refine ⟨fun c => Cert.KVal.refOut m c, fun c => Cert.RefVal.codes (Cert.KVal.A1 m c) (Cert.KVal.A5 m c), fun c => Cert.KVal.A5 m c,
    fun c => Cert.RefVal.codes (Cert.KVal.A2 m c) (Cert.KVal.A6 m c), fun c => Cert.KVal.A6 m c, ?_, ?_⟩
  · refine θ_run_mono (run_ideal m g hpre) fun r h c => ?_
    obtain ⟨k0, k1, k2, k3, k4, k5, k6, k7, k8⟩ := h.1 c
    exact ⟨Cert.KVal.end_v4 m c (hg c).page (hg c).len r h.2.1, Cert.KVal.end_v5 m c r h.2.1, k5, Cert.KVal.end_v6 m c r h.2.1, k6,
      k0, k1, k2, k3, k4, k5, k6, k7, k8⟩
  · refine θ_run_mono (Cert.ReferenceIdeal.Value.run (F := Ideal) m' g') fun r h c => ?_
    obtain ⟨e0, e1, e2, e3, e4, e5, e6, e7, e8⟩ := hm c
    obtain ⟨o0, o1, o2, o3, o4, o⟩ := h c
    exact ⟨o0.trans ((Cert.ReferenceIdeal.Read.val_main_v57_eq (F := Ideal) (Cert.ReferenceIdeal.Value.exitV m' c)).trans
        (ref_out m' c _ _ _ _ _ _ _ _ _ e0 e1 e2 e3 e4 e5 e6 e7 e8)),
      o1.trans (ref_k m' c _ _ e1 e5), o2.trans e5, o3.trans (ref_v m' c _ _ e2 e6), o4.trans e6, o⟩

end Cert.Proof.Claims

end
-- ==== Proof.lean ====
module

public import proofs.«01_k».proof.Defs
public import proofs.«01_k».proof.Proof.Claims

@[expose] public section

namespace Cert.Proof

theorem claim : Cert.Claim :=
  ⟨Cert.Kernel.Gen.facts, Cert.KernelIdeal.Gen.facts, Cert.ReferenceIdeal.Gen.facts, Cert.Pages.facts,
    Claims.frame_p, Claims.frame_pi, Claims.frame_ri, Claims.preserves, Claims.algebraic⟩

end Cert.Proof

end
